-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnDa (m : (ℓ : Loc Cert.FfnDa.nD Cert.FfnDa.τ Cert.FfnDa.sig) → Buf (Elt Bits) ℓ) : Prop :=
  True

def Pre_FfnDaIdeal (m : (ℓ : Loc Cert.FfnDaIdeal.nD Cert.FfnDaIdeal.τ Cert.FfnDaIdeal.sig) → Buf (Elt Ideal) ℓ) : Prop :=
  True

def Pre_FfnDaRefIdeal (m : (ℓ : Loc Cert.FfnDaRefIdeal.nD Cert.FfnDaRefIdeal.τ Cert.FfnDaRefIdeal.sig) → Buf (Elt Ideal) ℓ) : Prop :=
  True

def Pre_FfnDn (m : (ℓ : Loc Cert.FfnDn.nD Cert.FfnDn.τ Cert.FfnDn.sig) → Buf (Elt Bits) ℓ) : Prop :=
  True

def Pre_FfnDnIdeal (m : (ℓ : Loc Cert.FfnDnIdeal.nD Cert.FfnDnIdeal.τ Cert.FfnDnIdeal.sig) → Buf (Elt Ideal) ℓ) : Prop :=
  True

def Pre_FfnDnRefIdeal (m : (ℓ : Loc Cert.FfnDnRefIdeal.nD Cert.FfnDnRefIdeal.τ Cert.FfnDnRefIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownRefIdeal (m : (ℓ : Loc Cert.FfnDwDownRefIdeal.nD Cert.FfnDwDownRefIdeal.τ Cert.FfnDwDownRefIdeal.sig) → Buf (Elt Ideal) ℓ) : Prop :=
  True

def Pre_FfnDwGu (m : (ℓ : Loc Cert.FfnDwGu.nD Cert.FfnDwGu.τ Cert.FfnDwGu.sig) → Buf (Elt Bits) ℓ) : Prop :=
  True

def Pre_FfnDwGuIdeal (m : (ℓ : Loc Cert.FfnDwGuIdeal.nD Cert.FfnDwGuIdeal.τ Cert.FfnDwGuIdeal.sig) → Buf (Elt Ideal) ℓ) : Prop :=
  True

def Pre_FfnDwGuRefIdeal (m : (ℓ : Loc Cert.FfnDwGuRefIdeal.nD Cert.FfnDwGuRefIdeal.τ Cert.FfnDwGuRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dmo (m : (ℓ : Loc Cert.Dmo.nD Cert.Dmo.τ Cert.Dmo.sig) → Buf (Elt Bits) ℓ) : Prop :=
  True

def Pre_DmoIdeal (m : (ℓ : Loc Cert.DmoIdeal.nD Cert.DmoIdeal.τ Cert.DmoIdeal.sig) → Buf (Elt Ideal) ℓ) : Prop :=
  True

def Pre_DmoRefIdeal (m : (ℓ : Loc Cert.DmoRefIdeal.nD Cert.DmoRefIdeal.τ Cert.DmoRefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_DyA (m : (ℓ : Loc Cert.DyA.nD Cert.DyA.τ Cert.DyA.sig) → Buf (Elt Bits) ℓ) : Prop :=
  True

def Pre_DyAIdeal (m : (ℓ : Loc Cert.DyAIdeal.nD Cert.DyAIdeal.τ Cert.DyAIdeal.sig) → Buf (Elt Ideal) ℓ) : Prop :=
  True

def Pre_DyARefIdeal (m : (ℓ : Loc Cert.DyARefIdeal.nD Cert.DyARefIdeal.τ Cert.DyARefIdeal.sig) → Buf (Elt Ideal) ℓ) : Prop :=
  True

def Pre_DwBrA (m : (ℓ : Loc Cert.DwBrA.nD Cert.DwBrA.τ Cert.DwBrA.sig) → Buf (Elt Bits) ℓ) : Prop :=
  True

def Pre_DwBrAIdeal (m : (ℓ : Loc Cert.DwBrAIdeal.nD Cert.DwBrAIdeal.τ Cert.DwBrAIdeal.sig) → Buf (Elt Ideal) ℓ) : Prop :=
  True

def Pre_DwBrARefIdeal (m : (ℓ : Loc Cert.DwBrARefIdeal.nD Cert.DwBrARefIdeal.τ Cert.DwBrARefIdeal.sig) → Buf (Elt Ideal) ℓ) : Prop :=
  True

def Pre_DyD (m : (ℓ : Loc Cert.DyD.nD Cert.DyD.τ Cert.DyD.sig) → Buf (Elt Bits) ℓ) : Prop :=
  True

def Pre_DyDIdeal (m : (ℓ : Loc Cert.DyDIdeal.nD Cert.DyDIdeal.τ Cert.DyDIdeal.sig) → Buf (Elt Ideal) ℓ) : Prop :=
  True

def Pre_DyDRefIdeal (m : (ℓ : Loc Cert.DyDRefIdeal.nD Cert.DyDRefIdeal.τ Cert.DyDRefIdeal.sig) → Buf (Elt Ideal) ℓ) : Prop :=
  True

def Pre_DwBrD (m : (ℓ : Loc Cert.DwBrD.nD Cert.DwBrD.τ Cert.DwBrD.sig) → Buf (Elt Bits) ℓ) : Prop :=
  True

def Pre_DwBrDIdeal (m : (ℓ : Loc Cert.DwBrDIdeal.nD Cert.DwBrDIdeal.τ Cert.DwBrDIdeal.sig) → Buf (Elt Ideal) ℓ) : Prop :=
  True

def Pre_DwBrDRefIdeal (m : (ℓ : Loc Cert.DwBrDRefIdeal.nD Cert.DwBrDRefIdeal.τ Cert.DwBrDRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_BrA (m : (ℓ : Loc Cert.BrA.nD Cert.BrA.τ Cert.BrA.sig) → Buf (Elt Bits) ℓ) : Prop :=
  True

def Pre_BrAIdeal (m : (ℓ : Loc Cert.BrAIdeal.nD Cert.BrAIdeal.τ Cert.BrAIdeal.sig) → Buf (Elt Ideal) ℓ) : Prop :=
  True

def Pre_BrARefIdeal (m : (ℓ : Loc Cert.BrARefIdeal.nD Cert.BrARefIdeal.τ Cert.BrARefIdeal.sig) → Buf (Elt Ideal) ℓ) : Prop :=
  True

def Pre_BrD (m : (ℓ : Loc Cert.BrD.nD Cert.BrD.τ Cert.BrD.sig) → Buf (Elt Bits) ℓ) : Prop :=
  True

def Pre_BrDIdeal (m : (ℓ : Loc Cert.BrDIdeal.nD Cert.BrDIdeal.τ Cert.BrDIdeal.sig) → Buf (Elt Ideal) ℓ) : Prop :=
  True

def Pre_BrDRefIdeal (m : (ℓ : Loc Cert.BrDRefIdeal.nD Cert.BrDRefIdeal.τ Cert.BrDRefIdeal.sig) → Buf (Elt Ideal) ℓ) : Prop :=
  True

def Pre_Mo (m : (ℓ : Loc Cert.Mo.nD Cert.Mo.τ Cert.Mo.sig) → Buf (Elt Bits) ℓ) : Prop :=
  True

def Pre_MoIdeal (m : (ℓ : Loc Cert.MoIdeal.nD Cert.MoIdeal.τ Cert.MoIdeal.sig) → Buf (Elt Ideal) ℓ) : Prop :=
  True

def Pre_MoRefIdeal (m : (ℓ : Loc Cert.MoRefIdeal.nD Cert.MoRefIdeal.τ Cert.MoRefIdeal.sig) → Buf (Elt Ideal) ℓ) : Prop :=
  True

def Pre_Pgl (m : (ℓ : Loc Cert.Pgl.nD Cert.Pgl.τ Cert.Pgl.sig) → Buf (Elt Bits) ℓ) : Prop :=
  True

def Pre_PglIdeal (m : (ℓ : Loc Cert.PglIdeal.nD Cert.PglIdeal.τ Cert.PglIdeal.sig) → Buf (Elt Ideal) ℓ) : Prop :=
  True

def Pre_PglRefIdeal (m : (ℓ : Loc Cert.PglRefIdeal.nD Cert.PglRefIdeal.τ Cert.PglRefIdeal.sig) → Buf (Elt Ideal) ℓ) : Prop :=
  True

def Pre_Pr (m : (ℓ : Loc Cert.Pr.nD Cert.Pr.τ Cert.Pr.sig) → Buf (Elt Bits) ℓ) : Prop :=
  True

def Pre_PrIdeal (m : (ℓ : Loc Cert.PrIdeal.nD Cert.PrIdeal.τ Cert.PrIdeal.sig) → Buf (Elt Ideal) ℓ) : Prop :=
  True

def Pre_PrRefIdeal (m : (ℓ : Loc Cert.PrRefIdeal.nD Cert.PrRefIdeal.τ Cert.PrRefIdeal.sig) → Buf (Elt Ideal) ℓ) : Prop :=
  True

def Pre_Dwple (m : (ℓ : Loc Cert.Dwple.nD Cert.Dwple.τ Cert.Dwple.sig) → Buf (Elt Bits) ℓ) : Prop :=
  True

def Pre_DwpleIdeal (m : (ℓ : Loc Cert.DwpleIdeal.nD Cert.DwpleIdeal.τ Cert.DwpleIdeal.sig) → Buf (Elt Ideal) ℓ) : Prop :=
  True

def Pre_DwpleRefIdeal (m : (ℓ : Loc Cert.DwpleRefIdeal.nD Cert.DwpleRefIdeal.τ Cert.DwpleRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBr (m : (ℓ : Loc Cert.AdamBr.nD Cert.AdamBr.τ Cert.AdamBr.sig) → Buf (Elt Bits) ℓ) : Prop :=
  True

def Pre_AdamBrIdeal (m : (ℓ : Loc Cert.AdamBrIdeal.nD Cert.AdamBrIdeal.τ Cert.AdamBrIdeal.sig) → Buf (Elt Ideal) ℓ) : Prop :=
  True

def Pre_AdamBrRefIdeal (m : (ℓ : Loc Cert.AdamBrRefIdeal.nD Cert.AdamBrRefIdeal.τ Cert.AdamBrRefIdeal.sig) → Buf (Elt Ideal) ℓ) : Prop :=
  True

def Pre_AdamBrD (m : (ℓ : Loc Cert.AdamBrD.nD Cert.AdamBrD.τ Cert.AdamBrD.sig) → Buf (Elt Bits) ℓ) : Prop :=
  True

def Pre_AdamBrDIdeal (m : (ℓ : Loc Cert.AdamBrDIdeal.nD Cert.AdamBrDIdeal.τ Cert.AdamBrDIdeal.sig) → Buf (Elt Ideal) ℓ) : Prop :=
  True

def Pre_AdamBrDRefIdeal (m : (ℓ : Loc Cert.AdamBrDRefIdeal.nD Cert.AdamBrDRefIdeal.τ Cert.AdamBrDRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))).1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))).2.1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))).2.2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_FfnDa [hFfnDa : Cert.FfnDa.Facts] : Prop :=
  ∀ (m : (ℓ : Loc Cert.FfnDa.nD Cert.FfnDa.τ Cert.FfnDa.sig) → Buf (Elt Bits) ℓ) (g : Dev Cert.FfnDa.nD → PrngReg), Pre_FfnDa m →
    θ_run (Cert.FfnDa.defs (F := Bits)) (onTc (τ := Cert.FfnDa.τ) (Cert.FfnDa.main (F := Bits))) ⟨m, fun _ => 0, g⟩ (fun r => (∀ c : Dev Cert.FfnDa.nD,
      r.2.mem ((c.tc : Thread Cert.FfnDa.nD Cert.FfnDa.τ).loc Cert.FfnDa.main_arg0) = m ((c.tc : Thread Cert.FfnDa.nD Cert.FfnDa.τ).loc Cert.FfnDa.main_arg0)
      ∧ r.2.mem ((c.tc : Thread Cert.FfnDa.nD Cert.FfnDa.τ).loc Cert.FfnDa.main_arg1) = m ((c.tc : Thread Cert.FfnDa.nD Cert.FfnDa.τ).loc Cert.FfnDa.main_arg1))
      ∧ r.2.sem = fun _ => 0)

def quiescent_FfnDaIdeal [hFfnDaIdeal : Cert.FfnDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1))
      ∧ r.2.sem = fun _ => 0)

def quiescent_FfnDaRefIdeal [hFfnDaRefIdeal : Cert.FfnDaRefIdeal.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1))
      ∧ r.2.sem = fun _ => 0)

def quiescent_FfnDn [hFfnDn : Cert.FfnDn.Facts] : Prop :=
  ∀ (m : (ℓ : Loc Cert.FfnDn.nD Cert.FfnDn.τ Cert.FfnDn.sig) → Buf (Elt Bits) ℓ) (g : Dev Cert.FfnDn.nD → PrngReg), Pre_FfnDn m →
    θ_run (Cert.FfnDn.defs (F := Bits)) (onTc (τ := Cert.FfnDn.τ) (Cert.FfnDn.main (F := Bits))) ⟨m, fun _ => 0, g⟩ (fun r => (∀ c : Dev Cert.FfnDn.nD,
      r.2.mem ((c.tc : Thread Cert.FfnDn.nD Cert.FfnDn.τ).loc Cert.FfnDn.main_arg0) = m ((c.tc : Thread Cert.FfnDn.nD Cert.FfnDn.τ).loc Cert.FfnDn.main_arg0)
      ∧ r.2.mem ((c.tc : Thread Cert.FfnDn.nD Cert.FfnDn.τ).loc Cert.FfnDn.main_arg1) = m ((c.tc : Thread Cert.FfnDn.nD Cert.FfnDn.τ).loc Cert.FfnDn.main_arg1))
      ∧ r.2.sem = fun _ => 0)

def quiescent_FfnDnIdeal [hFfnDnIdeal : Cert.FfnDnIdeal.Facts] : Prop :=
  ∀ (m : (ℓ : Loc Cert.FfnDnIdeal.nD Cert.FfnDnIdeal.τ Cert.FfnDnIdeal.sig) → Buf (Elt Ideal) ℓ) (g : Dev Cert.FfnDnIdeal.nD → PrngReg), Pre_FfnDnIdeal m →
    θ_run (Cert.FfnDnIdeal.defs (F := Ideal)) (onTc (τ := Cert.FfnDnIdeal.τ) (Cert.FfnDnIdeal.main (F := Ideal))) ⟨m, fun _ => 0, g⟩ (fun r => (∀ c : Dev Cert.FfnDnIdeal.nD,
      r.2.mem ((c.tc : Thread Cert.FfnDnIdeal.nD Cert.FfnDnIdeal.τ).loc Cert.FfnDnIdeal.main_arg0) = m ((c.tc : Thread Cert.FfnDnIdeal.nD Cert.FfnDnIdeal.τ).loc Cert.FfnDnIdeal.main_arg0)
      ∧ r.2.mem ((c.tc : Thread Cert.FfnDnIdeal.nD Cert.FfnDnIdeal.τ).loc Cert.FfnDnIdeal.main_arg1) = m ((c.tc : Thread Cert.FfnDnIdeal.nD Cert.FfnDnIdeal.τ).loc Cert.FfnDnIdeal.main_arg1))
      ∧ r.2.sem = fun _ => 0)

def quiescent_FfnDnRefIdeal [hFfnDnRefIdeal : Cert.FfnDnRefIdeal.Facts] : Prop :=
  ∀ (m : (ℓ : Loc Cert.FfnDnRefIdeal.nD Cert.FfnDnRefIdeal.τ Cert.FfnDnRefIdeal.sig) → Buf (Elt Ideal) ℓ) (g : Dev Cert.FfnDnRefIdeal.nD → PrngReg), Pre_FfnDnRefIdeal m →
    θ_run (Cert.FfnDnRefIdeal.defs (F := Ideal)) (onTc (τ := Cert.FfnDnRefIdeal.τ) (Cert.FfnDnRefIdeal.main (F := Ideal))) ⟨m, fun _ => 0, g⟩ (fun r => (∀ c : Dev Cert.FfnDnRefIdeal.nD,
      r.2.mem ((c.tc : Thread Cert.FfnDnRefIdeal.nD Cert.FfnDnRefIdeal.τ).loc Cert.FfnDnRefIdeal.main_arg0) = m ((c.tc : Thread Cert.FfnDnRefIdeal.nD Cert.FfnDnRefIdeal.τ).loc Cert.FfnDnRefIdeal.main_arg0)
      ∧ r.2.mem ((c.tc : Thread Cert.FfnDnRefIdeal.nD Cert.FfnDnRefIdeal.τ).loc Cert.FfnDnRefIdeal.main_arg1) = m ((c.tc : Thread Cert.FfnDnRefIdeal.nD Cert.FfnDnRefIdeal.τ).loc Cert.FfnDnRefIdeal.main_arg1))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1)
      ∧ r.2.mem ((c.tc : Thread Cert.FfnDwDown.nD Cert.FfnDwDown.τ).loc Cert.FfnDwDown.main_arg2) = m ((c.tc : Thread Cert.FfnDwDown.nD Cert.FfnDwDown.τ).loc Cert.FfnDwDown.main_arg2))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1)
      ∧ r.2.mem ((c.tc : Thread Cert.FfnDwDownIdeal.nD Cert.FfnDwDownIdeal.τ).loc Cert.FfnDwDownIdeal.main_arg2) = m ((c.tc : Thread Cert.FfnDwDownIdeal.nD Cert.FfnDwDownIdeal.τ).loc Cert.FfnDwDownIdeal.main_arg2))
      ∧ r.2.sem = fun _ => 0)

def quiescent_FfnDwDownRefIdeal [hFfnDwDownRefIdeal : Cert.FfnDwDownRefIdeal.Facts] : Prop :=
  ∀ (m : (ℓ : Loc Cert.FfnDwDownRefIdeal.nD Cert.FfnDwDownRefIdeal.τ Cert.FfnDwDownRefIdeal.sig) → Buf (Elt Ideal) ℓ) (g : Dev Cert.FfnDwDownRefIdeal.nD → PrngReg), Pre_FfnDwDownRefIdeal m →
    θ_run (Cert.FfnDwDownRefIdeal.defs (F := Ideal)) (onTc (τ := Cert.FfnDwDownRefIdeal.τ) (Cert.FfnDwDownRefIdeal.main (F := Ideal))) ⟨m, fun _ => 0, g⟩ (fun r => (∀ c : Dev Cert.FfnDwDownRefIdeal.nD,
      r.2.mem ((c.tc : Thread Cert.FfnDwDownRefIdeal.nD Cert.FfnDwDownRefIdeal.τ).loc Cert.FfnDwDownRefIdeal.main_arg0) = m ((c.tc : Thread Cert.FfnDwDownRefIdeal.nD Cert.FfnDwDownRefIdeal.τ).loc Cert.FfnDwDownRefIdeal.main_arg0)
      ∧ r.2.mem ((c.tc : Thread Cert.FfnDwDownRefIdeal.nD Cert.FfnDwDownRefIdeal.τ).loc Cert.FfnDwDownRefIdeal.main_arg1) = m ((c.tc : Thread Cert.FfnDwDownRefIdeal.nD Cert.FfnDwDownRefIdeal.τ).loc Cert.FfnDwDownRefIdeal.main_arg1)
      ∧ r.2.mem ((c.tc : Thread Cert.FfnDwDownRefIdeal.nD Cert.FfnDwDownRefIdeal.τ).loc Cert.FfnDwDownRefIdeal.main_arg2) = m ((c.tc : Thread Cert.FfnDwDownRefIdeal.nD Cert.FfnDwDownRefIdeal.τ).loc Cert.FfnDwDownRefIdeal.main_arg2))
      ∧ r.2.sem = fun _ => 0)

def quiescent_FfnDwGu [hFfnDwGu : Cert.FfnDwGu.Facts] : Prop :=
  ∀ (m : (ℓ : Loc Cert.FfnDwGu.nD Cert.FfnDwGu.τ Cert.FfnDwGu.sig) → Buf (Elt Bits) ℓ) (g : Dev Cert.FfnDwGu.nD → PrngReg), Pre_FfnDwGu m →
    θ_run (Cert.FfnDwGu.defs (F := Bits)) (onTc (τ := Cert.FfnDwGu.τ) (Cert.FfnDwGu.main (F := Bits))) ⟨m, fun _ => 0, g⟩ (fun r => (∀ c : Dev Cert.FfnDwGu.nD,
      r.2.mem ((c.tc : Thread Cert.FfnDwGu.nD Cert.FfnDwGu.τ).loc Cert.FfnDwGu.main_arg0) = m ((c.tc : Thread Cert.FfnDwGu.nD Cert.FfnDwGu.τ).loc Cert.FfnDwGu.main_arg0)
      ∧ r.2.mem ((c.tc : Thread Cert.FfnDwGu.nD Cert.FfnDwGu.τ).loc Cert.FfnDwGu.main_arg1) = m ((c.tc : Thread Cert.FfnDwGu.nD Cert.FfnDwGu.τ).loc Cert.FfnDwGu.main_arg1)
      ∧ r.2.mem ((c.tc : Thread Cert.FfnDwGu.nD Cert.FfnDwGu.τ).loc Cert.FfnDwGu.main_arg2) = m ((c.tc : Thread Cert.FfnDwGu.nD Cert.FfnDwGu.τ).loc Cert.FfnDwGu.main_arg2))
      ∧ r.2.sem = fun _ => 0)

def quiescent_FfnDwGuIdeal [hFfnDwGuIdeal : Cert.FfnDwGuIdeal.Facts] : Prop :=
  ∀ (m : (ℓ : Loc Cert.FfnDwGuIdeal.nD Cert.FfnDwGuIdeal.τ Cert.FfnDwGuIdeal.sig) → Buf (Elt Ideal) ℓ) (g : Dev Cert.FfnDwGuIdeal.nD → PrngReg), Pre_FfnDwGuIdeal m →
    θ_run (Cert.FfnDwGuIdeal.defs (F := Ideal)) (onTc (τ := Cert.FfnDwGuIdeal.τ) (Cert.FfnDwGuIdeal.main (F := Ideal))) ⟨m, fun _ => 0, g⟩ (fun r => (∀ c : Dev Cert.FfnDwGuIdeal.nD,
      r.2.mem ((c.tc : Thread Cert.FfnDwGuIdeal.nD Cert.FfnDwGuIdeal.τ).loc Cert.FfnDwGuIdeal.main_arg0) = m ((c.tc : Thread Cert.FfnDwGuIdeal.nD Cert.FfnDwGuIdeal.τ).loc Cert.FfnDwGuIdeal.main_arg0)
      ∧ r.2.mem ((c.tc : Thread Cert.FfnDwGuIdeal.nD Cert.FfnDwGuIdeal.τ).loc Cert.FfnDwGuIdeal.main_arg1) = m ((c.tc : Thread Cert.FfnDwGuIdeal.nD Cert.FfnDwGuIdeal.τ).loc Cert.FfnDwGuIdeal.main_arg1)
      ∧ r.2.mem ((c.tc : Thread Cert.FfnDwGuIdeal.nD Cert.FfnDwGuIdeal.τ).loc Cert.FfnDwGuIdeal.main_arg2) = m ((c.tc : Thread Cert.FfnDwGuIdeal.nD Cert.FfnDwGuIdeal.τ).loc Cert.FfnDwGuIdeal.main_arg2))
      ∧ r.2.sem = fun _ => 0)

def quiescent_FfnDwGuRefIdeal [hFfnDwGuRefIdeal : Cert.FfnDwGuRefIdeal.Facts] : Prop :=
  ∀ (m : (ℓ : Loc Cert.FfnDwGuRefIdeal.nD Cert.FfnDwGuRefIdeal.τ Cert.FfnDwGuRefIdeal.sig) → Buf (Elt Ideal) ℓ) (g : Dev Cert.FfnDwGuRefIdeal.nD → PrngReg), Pre_FfnDwGuRefIdeal m →
    θ_run (Cert.FfnDwGuRefIdeal.defs (F := Ideal)) (onTc (τ := Cert.FfnDwGuRefIdeal.τ) (Cert.FfnDwGuRefIdeal.main (F := Ideal))) ⟨m, fun _ => 0, g⟩ (fun r => (∀ c : Dev Cert.FfnDwGuRefIdeal.nD,
      r.2.mem ((c.tc : Thread Cert.FfnDwGuRefIdeal.nD Cert.FfnDwGuRefIdeal.τ).loc Cert.FfnDwGuRefIdeal.main_arg0) = m ((c.tc : Thread Cert.FfnDwGuRefIdeal.nD Cert.FfnDwGuRefIdeal.τ).loc Cert.FfnDwGuRefIdeal.main_arg0)
      ∧ r.2.mem ((c.tc : Thread Cert.FfnDwGuRefIdeal.nD Cert.FfnDwGuRefIdeal.τ).loc Cert.FfnDwGuRefIdeal.main_arg1) = m ((c.tc : Thread Cert.FfnDwGuRefIdeal.nD Cert.FfnDwGuRefIdeal.τ).loc Cert.FfnDwGuRefIdeal.main_arg1)
      ∧ r.2.mem ((c.tc : Thread Cert.FfnDwGuRefIdeal.nD Cert.FfnDwGuRefIdeal.τ).loc Cert.FfnDwGuRefIdeal.main_arg2) = m ((c.tc : Thread Cert.FfnDwGuRefIdeal.nD Cert.FfnDwGuRefIdeal.τ).loc Cert.FfnDwGuRefIdeal.main_arg2))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dmo [hDmo : Cert.Dmo.Facts] : Prop :=
  ∀ (m : (ℓ : Loc Cert.Dmo.nD Cert.Dmo.τ Cert.Dmo.sig) → Buf (Elt Bits) ℓ) (g : Dev Cert.Dmo.nD → PrngReg), Pre_Dmo m →
    θ_run (Cert.Dmo.defs (F := Bits)) (onTc (τ := Cert.Dmo.τ) (Cert.Dmo.main (F := Bits))) ⟨m, fun _ => 0, g⟩ (fun r => (∀ c : Dev Cert.Dmo.nD,
      r.2.mem ((c.tc : Thread Cert.Dmo.nD Cert.Dmo.τ).loc Cert.Dmo.main_arg0) = m ((c.tc : Thread Cert.Dmo.nD Cert.Dmo.τ).loc Cert.Dmo.main_arg0)
      ∧ r.2.mem ((c.tc : Thread Cert.Dmo.nD Cert.Dmo.τ).loc Cert.Dmo.main_arg1) = m ((c.tc : Thread Cert.Dmo.nD Cert.Dmo.τ).loc Cert.Dmo.main_arg1))
      ∧ r.2.sem = fun _ => 0)

def quiescent_DmoIdeal [hDmoIdeal : Cert.DmoIdeal.Facts] : Prop :=
  ∀ (m : (ℓ : Loc Cert.DmoIdeal.nD Cert.DmoIdeal.τ Cert.DmoIdeal.sig) → Buf (Elt Ideal) ℓ) (g : Dev Cert.DmoIdeal.nD → PrngReg), Pre_DmoIdeal m →
    θ_run (Cert.DmoIdeal.defs (F := Ideal)) (onTc (τ := Cert.DmoIdeal.τ) (Cert.DmoIdeal.main (F := Ideal))) ⟨m, fun _ => 0, g⟩ (fun r => (∀ c : Dev Cert.DmoIdeal.nD,
      r.2.mem ((c.tc : Thread Cert.DmoIdeal.nD Cert.DmoIdeal.τ).loc Cert.DmoIdeal.main_arg0) = m ((c.tc : Thread Cert.DmoIdeal.nD Cert.DmoIdeal.τ).loc Cert.DmoIdeal.main_arg0)
      ∧ r.2.mem ((c.tc : Thread Cert.DmoIdeal.nD Cert.DmoIdeal.τ).loc Cert.DmoIdeal.main_arg1) = m ((c.tc : Thread Cert.DmoIdeal.nD Cert.DmoIdeal.τ).loc Cert.DmoIdeal.main_arg1))
      ∧ r.2.sem = fun _ => 0)

def quiescent_DmoRefIdeal [hDmoRefIdeal : Cert.DmoRefIdeal.Facts] : Prop :=
  ∀ (m : (ℓ : Loc Cert.DmoRefIdeal.nD Cert.DmoRefIdeal.τ Cert.DmoRefIdeal.sig) → Buf (Elt Ideal) ℓ) (g : Dev Cert.DmoRefIdeal.nD → PrngReg), Pre_DmoRefIdeal m →
    θ_run (Cert.DmoRefIdeal.defs (F := Ideal)) (onTc (τ := Cert.DmoRefIdeal.τ) (Cert.DmoRefIdeal.main (F := Ideal))) ⟨m, fun _ => 0, g⟩ (fun r => (∀ c : Dev Cert.DmoRefIdeal.nD,
      r.2.mem ((c.tc : Thread Cert.DmoRefIdeal.nD Cert.DmoRefIdeal.τ).loc Cert.DmoRefIdeal.main_arg0) = m ((c.tc : Thread Cert.DmoRefIdeal.nD Cert.DmoRefIdeal.τ).loc Cert.DmoRefIdeal.main_arg0)
      ∧ r.2.mem ((c.tc : Thread Cert.DmoRefIdeal.nD Cert.DmoRefIdeal.τ).loc Cert.DmoRefIdeal.main_arg1) = m ((c.tc : Thread Cert.DmoRefIdeal.nD Cert.DmoRefIdeal.τ).loc Cert.DmoRefIdeal.main_arg1))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1)
      ∧ r.2.mem ((c.tc : Thread Cert.Dwo.nD Cert.Dwo.τ).loc Cert.Dwo.main_arg2) = m ((c.tc : Thread Cert.Dwo.nD Cert.Dwo.τ).loc Cert.Dwo.main_arg2))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
      ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1)
      ∧ r.2.mem ((c.tc : Thread Cert.DwoRefIdeal.nD Cert.DwoRefIdeal.τ).loc Cert.DwoRefIdeal.main_arg2) = m ((c.tc : Thread Cert.DwoRefIdeal.nD Cert.DwoRefIdeal.τ).loc Cert.DwoRefIdeal.main_arg2))
      ∧ r.2.sem = fun _ => 0)

def quiescent_DyA [hDyA : Cert.DyA.Facts] : Prop :=
  ∀ (m : (ℓ : Loc Cert.DyA.nD Cert.DyA.τ Cert.DyA.sig) → Buf (Elt Bits) ℓ) (g : Dev Cert.DyA.nD → PrngReg), Pre_DyA m →
    θ_run (Cert.DyA.defs (F := Bits)) (onTc (τ := Cert.DyA.τ) (Cert.DyA.main (F := Bits))) ⟨m, fun _ => 0, g⟩ (fun r => (∀ c : Dev Cert.DyA.nD,
      r.2.mem ((c.tc : Thread Cert.DyA.nD Cert.DyA.τ).loc Cert.DyA.main_arg0) = m ((c.tc : Thread Cert.DyA.nD Cert.DyA.τ).loc Cert.DyA.main_arg0)
      ∧ r.2.mem ((c.tc : Thread Cert.DyA.nD Cert.DyA.τ).loc Cert.DyA.main_arg1) = m ((c.tc : Thread Cert.DyA.nD Cert.DyA.τ).loc Cert.DyA.main_arg1))
      ∧ r.2.sem = fun _ => 0)

def quiescent_DyAIdeal [hDyAIdeal : Cert.DyAIdeal.Facts] : Prop :=
  ∀ (m : (ℓ : Loc Cert.DyAIdeal.nD Cert.DyAIdeal.τ Cert.DyAIdeal.sig) → Buf (Elt Ideal) ℓ) (g : Dev Cert.DyAIdeal.nD → PrngReg), Pre_DyAIdeal m →
    θ_run (Cert.DyAIdeal.defs (F := Ideal)) (onTc (τ := Cert.DyAIdeal.τ) (Cert.DyAIdeal.main (F := Ideal))) ⟨m, fun _ => 0, g⟩ (fun r => (∀ c : Dev Cert.DyAIdeal.nD,
      r.2.mem ((c.tc : Thread Cert.DyAIdeal.nD Cert.DyAIdeal.τ).loc Cert.DyAIdeal.main_arg0) = m ((c.tc : Thread Cert.DyAIdeal.nD Cert.DyAIdeal.τ).loc Cert.DyAIdeal.main_arg0)
      ∧ r.2.mem ((c.tc : Thread Cert.DyAIdeal.nD Cert.DyAIdeal.τ).loc Cert.DyAIdeal.main_arg1) = m ((c.tc : Thread Cert.DyAIdeal.nD Cert.DyAIdeal.τ).loc Cert.DyAIdeal.main_arg1))
      ∧ r.2.sem = fun _ => 0)

def quiescent_DyARefIdeal [hDyARefIdeal : Cert.DyARefIdeal.Facts] : Prop :=
  ∀ (m : (ℓ : Loc Cert.DyARefIdeal.nD Cert.DyARefIdeal.τ Cert.DyARefIdeal.sig) → Buf (Elt Ideal) ℓ) (g : Dev Cert.DyARefIdeal.nD → PrngReg), Pre_DyARefIdeal m →
    θ_run (Cert.DyARefIdeal.defs (F := Ideal)) (onTc (τ := Cert.DyARefIdeal.τ) (Cert.DyARefIdeal.main (F := Ideal))) ⟨m, fun _ => 0, g⟩ (fun r => (∀ c : Dev Cert.DyARefIdeal.nD,
      r.2.mem ((c.tc : Thread Cert.DyARefIdeal.nD Cert.DyARefIdeal.τ).loc Cert.DyARefIdeal.main_arg0) = m ((c.tc : Thread Cert.DyARefIdeal.nD Cert.DyARefIdeal.τ).loc Cert.DyARefIdeal.main_arg0)
      ∧ r.2.mem ((c.tc : Thread Cert.DyARefIdeal.nD Cert.DyARefIdeal.τ).loc Cert.DyARefIdeal.main_arg1) = m ((c.tc : Thread Cert.DyARefIdeal.nD Cert.DyARefIdeal.τ).loc Cert.DyARefIdeal.main_arg1))
      ∧ r.2.sem = fun _ => 0)

def quiescent_DwBrA [hDwBrA : Cert.DwBrA.Facts] : Prop :=
  ∀ (m : (ℓ : Loc Cert.DwBrA.nD Cert.DwBrA.τ Cert.DwBrA.sig) → Buf (Elt Bits) ℓ) (g : Dev Cert.DwBrA.nD → PrngReg), Pre_DwBrA m →
    θ_run (Cert.DwBrA.defs (F := Bits)) (onTc (τ := Cert.DwBrA.τ) (Cert.DwBrA.main (F := Bits))) ⟨m, fun _ => 0, g⟩ (fun r => (∀ c : Dev Cert.DwBrA.nD,
      r.2.mem ((c.tc : Thread Cert.DwBrA.nD Cert.DwBrA.τ).loc Cert.DwBrA.main_arg0) = m ((c.tc : Thread Cert.DwBrA.nD Cert.DwBrA.τ).loc Cert.DwBrA.main_arg0)
      ∧ r.2.mem ((c.tc : Thread Cert.DwBrA.nD Cert.DwBrA.τ).loc Cert.DwBrA.main_arg1) = m ((c.tc : Thread Cert.DwBrA.nD Cert.DwBrA.τ).loc Cert.DwBrA.main_arg1)
      ∧ r.2.mem ((c.tc : Thread Cert.DwBrA.nD Cert.DwBrA.τ).loc Cert.DwBrA.main_arg2) = m ((c.tc : Thread Cert.DwBrA.nD Cert.DwBrA.τ).loc Cert.DwBrA.main_arg2))
      ∧ r.2.sem = fun _ => 0)

def quiescent_DwBrAIdeal [hDwBrAIdeal : Cert.DwBrAIdeal.Facts] : Prop :=
  ∀ (m : (ℓ : Loc Cert.DwBrAIdeal.nD Cert.DwBrAIdeal.τ Cert.DwBrAIdeal.sig) → Buf (Elt Ideal) ℓ) (g : Dev Cert.DwBrAIdeal.nD → PrngReg), Pre_DwBrAIdeal m →
    θ_run (Cert.DwBrAIdeal.defs (F := Ideal)) (onTc (τ := Cert.DwBrAIdeal.τ) (Cert.DwBrAIdeal.main (F := Ideal))) ⟨m, fun _ => 0, g⟩ (fun r => (∀ c : Dev Cert.DwBrAIdeal.nD,
      r.2.mem ((c.tc : Thread Cert.DwBrAIdeal.nD Cert.DwBrAIdeal.τ).loc Cert.DwBrAIdeal.main_arg0) = m ((c.tc : Thread Cert.DwBrAIdeal.nD Cert.DwBrAIdeal.τ).loc Cert.DwBrAIdeal.main_arg0)
      ∧ r.2.mem ((c.tc : Thread Cert.DwBrAIdeal.nD Cert.DwBrAIdeal.τ).loc Cert.DwBrAIdeal.main_arg1) = m ((c.tc : Thread Cert.DwBrAIdeal.nD Cert.DwBrAIdeal.τ).loc Cert.DwBrAIdeal.main_arg1)
      ∧ r.2.mem ((c.tc : Thread Cert.DwBrAIdeal.nD Cert.DwBrAIdeal.τ).loc Cert.DwBrAIdeal.main_arg2) = m ((c.tc : Thread Cert.DwBrAIdeal.nD Cert.DwBrAIdeal.τ).loc Cert.DwBrAIdeal.main_arg2))
      ∧ r.2.sem = fun _ => 0)

def quiescent_DwBrARefIdeal [hDwBrARefIdeal : Cert.DwBrARefIdeal.Facts] : Prop :=
  ∀ (m : (ℓ : Loc Cert.DwBrARefIdeal.nD Cert.DwBrARefIdeal.τ Cert.DwBrARefIdeal.sig) → Buf (Elt Ideal) ℓ) (g : Dev Cert.DwBrARefIdeal.nD → PrngReg), Pre_DwBrARefIdeal m →
    θ_run (Cert.DwBrARefIdeal.defs (F := Ideal)) (onTc (τ := Cert.DwBrARefIdeal.τ) (Cert.DwBrARefIdeal.main (F := Ideal))) ⟨m, fun _ => 0, g⟩ (fun r => (∀ c : Dev Cert.DwBrARefIdeal.nD,
      r.2.mem ((c.tc : Thread Cert.DwBrARefIdeal.nD Cert.DwBrARefIdeal.τ).loc Cert.DwBrARefIdeal.main_arg0) = m ((c.tc : Thread Cert.DwBrARefIdeal.nD Cert.DwBrARefIdeal.τ).loc Cert.DwBrARefIdeal.main_arg0)
      ∧ r.2.mem ((c.tc : Thread Cert.DwBrARefIdeal.nD Cert.DwBrARefIdeal.τ).loc Cert.DwBrARefIdeal.main_arg1) = m ((c.tc : Thread Cert.DwBrARefIdeal.nD Cert.DwBrARefIdeal.τ).loc Cert.DwBrARefIdeal.main_arg1)
      ∧ r.2.mem ((c.tc : Thread Cert.DwBrARefIdeal.nD Cert.DwBrARefIdeal.τ).loc Cert.DwBrARefIdeal.main_arg2) = m ((c.tc : Thread Cert.DwBrARefIdeal.nD Cert.DwBrARefIdeal.τ).loc Cert.DwBrARefIdeal.main_arg2))
      ∧ r.2.sem = fun _ => 0)

def quiescent_DyD [hDyD : Cert.DyD.Facts] : Prop :=
  ∀ (m : (ℓ : Loc Cert.DyD.nD Cert.DyD.τ Cert.DyD.sig) → Buf (Elt Bits) ℓ) (g : Dev Cert.DyD.nD → PrngReg), Pre_DyD m →
    θ_run (Cert.DyD.defs (F := Bits)) (onTc (τ := Cert.DyD.τ) (Cert.DyD.main (F := Bits))) ⟨m, fun _ => 0, g⟩ (fun r => (∀ c : Dev Cert.DyD.nD,
      r.2.mem ((c.tc : Thread Cert.DyD.nD Cert.DyD.τ).loc Cert.DyD.main_arg0) = m ((c.tc : Thread Cert.DyD.nD Cert.DyD.τ).loc Cert.DyD.main_arg0)
      ∧ r.2.mem ((c.tc : Thread Cert.DyD.nD Cert.DyD.τ).loc Cert.DyD.main_arg1) = m ((c.tc : Thread Cert.DyD.nD Cert.DyD.τ).loc Cert.DyD.main_arg1))
      ∧ r.2.sem = fun _ => 0)

def quiescent_DyDIdeal [hDyDIdeal : Cert.DyDIdeal.Facts] : Prop :=
  ∀ (m : (ℓ : Loc Cert.DyDIdeal.nD Cert.DyDIdeal.τ Cert.DyDIdeal.sig) → Buf (Elt Ideal) ℓ) (g : Dev Cert.DyDIdeal.nD → PrngReg), Pre_DyDIdeal m →
    θ_run (Cert.DyDIdeal.defs (F := Ideal)) (onTc (τ := Cert.DyDIdeal.τ) (Cert.DyDIdeal.main (F := Ideal))) ⟨m, fun _ => 0, g⟩ (fun r => (∀ c : Dev Cert.DyDIdeal.nD,
      r.2.mem ((c.tc : Thread Cert.DyDIdeal.nD Cert.DyDIdeal.τ).loc Cert.DyDIdeal.main_arg0) = m ((c.tc : Thread Cert.DyDIdeal.nD Cert.DyDIdeal.τ).loc Cert.DyDIdeal.main_arg0)
      ∧ r.2.mem ((c.tc : Thread Cert.DyDIdeal.nD Cert.DyDIdeal.τ).loc Cert.DyDIdeal.main_arg1) = m ((c.tc : Thread Cert.DyDIdeal.nD Cert.DyDIdeal.τ).loc Cert.DyDIdeal.main_arg1))
      ∧ r.2.sem = fun _ => 0)

def quiescent_DyDRefIdeal [hDyDRefIdeal : Cert.DyDRefIdeal.Facts] : Prop :=
  ∀ (m : (ℓ : Loc Cert.DyDRefIdeal.nD Cert.DyDRefIdeal.τ Cert.DyDRefIdeal.sig) → Buf (Elt Ideal) ℓ) (g : Dev Cert.DyDRefIdeal.nD → PrngReg), Pre_DyDRefIdeal m →
    θ_run (Cert.DyDRefIdeal.defs (F := Ideal)) (onTc (τ := Cert.DyDRefIdeal.τ) (Cert.DyDRefIdeal.main (F := Ideal))) ⟨m, fun _ => 0, g⟩ (fun r => (∀ c : Dev Cert.DyDRefIdeal.nD,
      r.2.mem ((c.tc : Thread Cert.DyDRefIdeal.nD Cert.DyDRefIdeal.τ).loc Cert.DyDRefIdeal.main_arg0) = m ((c.tc : Thread Cert.DyDRefIdeal.nD Cert.DyDRefIdeal.τ).loc Cert.DyDRefIdeal.main_arg0)
      ∧ r.2.mem ((c.tc : Thread Cert.DyDRefIdeal.nD Cert.DyDRefIdeal.τ).loc Cert.DyDRefIdeal.main_arg1) = m ((c.tc : Thread Cert.DyDRefIdeal.nD Cert.DyDRefIdeal.τ).loc Cert.DyDRefIdeal.main_arg1))
      ∧ r.2.sem = fun _ => 0)

def quiescent_DwBrD [hDwBrD : Cert.DwBrD.Facts] : Prop :=
  ∀ (m : (ℓ : Loc Cert.DwBrD.nD Cert.DwBrD.τ Cert.DwBrD.sig) → Buf (Elt Bits) ℓ) (g : Dev Cert.DwBrD.nD → PrngReg), Pre_DwBrD m →
    θ_run (Cert.DwBrD.defs (F := Bits)) (onTc (τ := Cert.DwBrD.τ) (Cert.DwBrD.main (F := Bits))) ⟨m, fun _ => 0, g⟩ (fun r => (∀ c : Dev Cert.DwBrD.nD,
      r.2.mem ((c.tc : Thread Cert.DwBrD.nD Cert.DwBrD.τ).loc Cert.DwBrD.main_arg0) = m ((c.tc : Thread Cert.DwBrD.nD Cert.DwBrD.τ).loc Cert.DwBrD.main_arg0)
      ∧ r.2.mem ((c.tc : Thread Cert.DwBrD.nD Cert.DwBrD.τ).loc Cert.DwBrD.main_arg1) = m ((c.tc : Thread Cert.DwBrD.nD Cert.DwBrD.τ).loc Cert.DwBrD.main_arg1)
      ∧ r.2.mem ((c.tc : Thread Cert.DwBrD.nD Cert.DwBrD.τ).loc Cert.DwBrD.main_arg2) = m ((c.tc : Thread Cert.DwBrD.nD Cert.DwBrD.τ).loc Cert.DwBrD.main_arg2))
      ∧ r.2.sem = fun _ => 0)

def quiescent_DwBrDIdeal [hDwBrDIdeal : Cert.DwBrDIdeal.Facts] : Prop :=
  ∀ (m : (ℓ : Loc Cert.DwBrDIdeal.nD Cert.DwBrDIdeal.τ Cert.DwBrDIdeal.sig) → Buf (Elt Ideal) ℓ) (g : Dev Cert.DwBrDIdeal.nD → PrngReg), Pre_DwBrDIdeal m →
    θ_run (Cert.DwBrDIdeal.defs (F := Ideal)) (onTc (τ := Cert.DwBrDIdeal.τ) (Cert.DwBrDIdeal.main (F := Ideal))) ⟨m, fun _ => 0, g⟩ (fun r => (∀ c : Dev Cert.DwBrDIdeal.nD,
      r.2.mem ((c.tc : Thread Cert.DwBrDIdeal.nD Cert.DwBrDIdeal.τ).loc Cert.DwBrDIdeal.main_arg0) = m ((c.tc : Thread Cert.DwBrDIdeal.nD Cert.DwBrDIdeal.τ).loc Cert.DwBrDIdeal.main_arg0)
      ∧ r.2.mem ((c.tc : Thread Cert.DwBrDIdeal.nD Cert.DwBrDIdeal.τ).loc Cert.DwBrDIdeal.main_arg1) = m ((c.tc : Thread Cert.DwBrDIdeal.nD Cert.DwBrDIdeal.τ).loc Cert.DwBrDIdeal.main_arg1)
      ∧ r.2.mem ((c.tc : Thread Cert.DwBrDIdeal.nD Cert.DwBrDIdeal.τ).loc Cert.DwBrDIdeal.main_arg2) = m ((c.tc : Thread Cert.DwBrDIdeal.nD Cert.DwBrDIdeal.τ).loc Cert.DwBrDIdeal.main_arg2))
      ∧ r.2.sem = fun _ => 0)

def quiescent_DwBrDRefIdeal [hDwBrDRefIdeal : Cert.DwBrDRefIdeal.Facts] : Prop :=
  ∀ (m : (ℓ : Loc Cert.DwBrDRefIdeal.nD Cert.DwBrDRefIdeal.τ Cert.DwBrDRefIdeal.sig) → Buf (Elt Ideal) ℓ) (g : Dev Cert.DwBrDRefIdeal.nD → PrngReg), Pre_DwBrDRefIdeal m →
    θ_run (Cert.DwBrDRefIdeal.defs (F := Ideal)) (onTc (τ := Cert.DwBrDRefIdeal.τ) (Cert.DwBrDRefIdeal.main (F := Ideal))) ⟨m, fun _ => 0, g⟩ (fun r => (∀ c : Dev Cert.DwBrDRefIdeal.nD,
      r.2.mem ((c.tc : Thread Cert.DwBrDRefIdeal.nD Cert.DwBrDRefIdeal.τ).loc Cert.DwBrDRefIdeal.main_arg0) = m ((c.tc : Thread Cert.DwBrDRefIdeal.nD Cert.DwBrDRefIdeal.τ).loc Cert.DwBrDRefIdeal.main_arg0)
      ∧ r.2.mem ((c.tc : Thread Cert.DwBrDRefIdeal.nD Cert.DwBrDRefIdeal.τ).loc Cert.DwBrDRefIdeal.main_arg1) = m ((c.tc : Thread Cert.DwBrDRefIdeal.nD Cert.DwBrDRefIdeal.τ).loc Cert.DwBrDRefIdeal.main_arg1)
      ∧ r.2.mem ((c.tc : Thread Cert.DwBrDRefIdeal.nD Cert.DwBrDRefIdeal.τ).loc Cert.DwBrDRefIdeal.main_arg2) = m ((c.tc : Thread Cert.DwBrDRefIdeal.nD Cert.DwBrDRefIdeal.τ).loc Cert.DwBrDRefIdeal.main_arg2))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_BrA [hBrA : Cert.BrA.Facts] : Prop :=
  ∀ (m : (ℓ : Loc Cert.BrA.nD Cert.BrA.τ Cert.BrA.sig) → Buf (Elt Bits) ℓ) (g : Dev Cert.BrA.nD → PrngReg), Pre_BrA m →
    θ_run (Cert.BrA.defs (F := Bits)) (onTc (τ := Cert.BrA.τ) (Cert.BrA.main (F := Bits))) ⟨m, fun _ => 0, g⟩ (fun r => (∀ c : Dev Cert.BrA.nD,
      r.2.mem ((c.tc : Thread Cert.BrA.nD Cert.BrA.τ).loc Cert.BrA.main_arg0) = m ((c.tc : Thread Cert.BrA.nD Cert.BrA.τ).loc Cert.BrA.main_arg0)
      ∧ r.2.mem ((c.tc : Thread Cert.BrA.nD Cert.BrA.τ).loc Cert.BrA.main_arg1) = m ((c.tc : Thread Cert.BrA.nD Cert.BrA.τ).loc Cert.BrA.main_arg1))
      ∧ r.2.sem = fun _ => 0)

def quiescent_BrAIdeal [hBrAIdeal : Cert.BrAIdeal.Facts] : Prop :=
  ∀ (m : (ℓ : Loc Cert.BrAIdeal.nD Cert.BrAIdeal.τ Cert.BrAIdeal.sig) → Buf (Elt Ideal) ℓ) (g : Dev Cert.BrAIdeal.nD → PrngReg), Pre_BrAIdeal m →
    θ_run (Cert.BrAIdeal.defs (F := Ideal)) (onTc (τ := Cert.BrAIdeal.τ) (Cert.BrAIdeal.main (F := Ideal))) ⟨m, fun _ => 0, g⟩ (fun r => (∀ c : Dev Cert.BrAIdeal.nD,
      r.2.mem ((c.tc : Thread Cert.BrAIdeal.nD Cert.BrAIdeal.τ).loc Cert.BrAIdeal.main_arg0) = m ((c.tc : Thread Cert.BrAIdeal.nD Cert.BrAIdeal.τ).loc Cert.BrAIdeal.main_arg0)
      ∧ r.2.mem ((c.tc : Thread Cert.BrAIdeal.nD Cert.BrAIdeal.τ).loc Cert.BrAIdeal.main_arg1) = m ((c.tc : Thread Cert.BrAIdeal.nD Cert.BrAIdeal.τ).loc Cert.BrAIdeal.main_arg1))
      ∧ r.2.sem = fun _ => 0)

def quiescent_BrARefIdeal [hBrARefIdeal : Cert.BrARefIdeal.Facts] : Prop :=
  ∀ (m : (ℓ : Loc Cert.BrARefIdeal.nD Cert.BrARefIdeal.τ Cert.BrARefIdeal.sig) → Buf (Elt Ideal) ℓ) (g : Dev Cert.BrARefIdeal.nD → PrngReg), Pre_BrARefIdeal m →
    θ_run (Cert.BrARefIdeal.defs (F := Ideal)) (onTc (τ := Cert.BrARefIdeal.τ) (Cert.BrARefIdeal.main (F := Ideal))) ⟨m, fun _ => 0, g⟩ (fun r => (∀ c : Dev Cert.BrARefIdeal.nD,
      r.2.mem ((c.tc : Thread Cert.BrARefIdeal.nD Cert.BrARefIdeal.τ).loc Cert.BrARefIdeal.main_arg0) = m ((c.tc : Thread Cert.BrARefIdeal.nD Cert.BrARefIdeal.τ).loc Cert.BrARefIdeal.main_arg0)
      ∧ r.2.mem ((c.tc : Thread Cert.BrARefIdeal.nD Cert.BrARefIdeal.τ).loc Cert.BrARefIdeal.main_arg1) = m ((c.tc : Thread Cert.BrARefIdeal.nD Cert.BrARefIdeal.τ).loc Cert.BrARefIdeal.main_arg1))
      ∧ r.2.sem = fun _ => 0)

def quiescent_BrD [hBrD : Cert.BrD.Facts] : Prop :=
  ∀ (m : (ℓ : Loc Cert.BrD.nD Cert.BrD.τ Cert.BrD.sig) → Buf (Elt Bits) ℓ) (g : Dev Cert.BrD.nD → PrngReg), Pre_BrD m →
    θ_run (Cert.BrD.defs (F := Bits)) (onTc (τ := Cert.BrD.τ) (Cert.BrD.main (F := Bits))) ⟨m, fun _ => 0, g⟩ (fun r => (∀ c : Dev Cert.BrD.nD,
      r.2.mem ((c.tc : Thread Cert.BrD.nD Cert.BrD.τ).loc Cert.BrD.main_arg0) = m ((c.tc : Thread Cert.BrD.nD Cert.BrD.τ).loc Cert.BrD.main_arg0)
      ∧ r.2.mem ((c.tc : Thread Cert.BrD.nD Cert.BrD.τ).loc Cert.BrD.main_arg1) = m ((c.tc : Thread Cert.BrD.nD Cert.BrD.τ).loc Cert.BrD.main_arg1))
      ∧ r.2.sem = fun _ => 0)

def quiescent_BrDIdeal [hBrDIdeal : Cert.BrDIdeal.Facts] : Prop :=
  ∀ (m : (ℓ : Loc Cert.BrDIdeal.nD Cert.BrDIdeal.τ Cert.BrDIdeal.sig) → Buf (Elt Ideal) ℓ) (g : Dev Cert.BrDIdeal.nD → PrngReg), Pre_BrDIdeal m →
    θ_run (Cert.BrDIdeal.defs (F := Ideal)) (onTc (τ := Cert.BrDIdeal.τ) (Cert.BrDIdeal.main (F := Ideal))) ⟨m, fun _ => 0, g⟩ (fun r => (∀ c : Dev Cert.BrDIdeal.nD,
      r.2.mem ((c.tc : Thread Cert.BrDIdeal.nD Cert.BrDIdeal.τ).loc Cert.BrDIdeal.main_arg0) = m ((c.tc : Thread Cert.BrDIdeal.nD Cert.BrDIdeal.τ).loc Cert.BrDIdeal.main_arg0)
      ∧ r.2.mem ((c.tc : Thread Cert.BrDIdeal.nD Cert.BrDIdeal.τ).loc Cert.BrDIdeal.main_arg1) = m ((c.tc : Thread Cert.BrDIdeal.nD Cert.BrDIdeal.τ).loc Cert.BrDIdeal.main_arg1))
      ∧ r.2.sem = fun _ => 0)

def quiescent_BrDRefIdeal [hBrDRefIdeal : Cert.BrDRefIdeal.Facts] : Prop :=
  ∀ (m : (ℓ : Loc Cert.BrDRefIdeal.nD Cert.BrDRefIdeal.τ Cert.BrDRefIdeal.sig) → Buf (Elt Ideal) ℓ) (g : Dev Cert.BrDRefIdeal.nD → PrngReg), Pre_BrDRefIdeal m →
    θ_run (Cert.BrDRefIdeal.defs (F := Ideal)) (onTc (τ := Cert.BrDRefIdeal.τ) (Cert.BrDRefIdeal.main (F := Ideal))) ⟨m, fun _ => 0, g⟩ (fun r => (∀ c : Dev Cert.BrDRefIdeal.nD,
      r.2.mem ((c.tc : Thread Cert.BrDRefIdeal.nD Cert.BrDRefIdeal.τ).loc Cert.BrDRefIdeal.main_arg0) = m ((c.tc : Thread Cert.BrDRefIdeal.nD Cert.BrDRefIdeal.τ).loc Cert.BrDRefIdeal.main_arg0)
      ∧ r.2.mem ((c.tc : Thread Cert.BrDRefIdeal.nD Cert.BrDRefIdeal.τ).loc Cert.BrDRefIdeal.main_arg1) = m ((c.tc : Thread Cert.BrDRefIdeal.nD Cert.BrDRefIdeal.τ).loc Cert.BrDRefIdeal.main_arg1))
      ∧ r.2.sem = fun _ => 0)

def quiescent_Mo [hMo : Cert.Mo.Facts] : Prop :=
  ∀ (m : (ℓ : Loc Cert.Mo.nD Cert.Mo.τ Cert.Mo.sig) → Buf (Elt Bits) ℓ) (g : Dev Cert.Mo.nD → PrngReg), Pre_Mo m →
    θ_run (Cert.Mo.defs (F := Bits)) (onTc (τ := Cert.Mo.τ) (Cert.Mo.main (F := Bits))) ⟨m, fun _ => 0, g⟩ (fun r => (∀ c : Dev Cert.Mo.nD,
      r.2.mem ((c.tc : Thread Cert.Mo.nD Cert.Mo.τ).loc Cert.Mo.main_arg0) = m ((c.tc : Thread Cert.Mo.nD Cert.Mo.τ).loc Cert.Mo.main_arg0)
      ∧ r.2.mem ((c.tc : Thread Cert.Mo.nD Cert.Mo.τ).loc Cert.Mo.main_arg1) = m ((c.tc : Thread Cert.Mo.nD Cert.Mo.τ).loc Cert.Mo.main_arg1))
      ∧ r.2.sem = fun _ => 0)

def quiescent_MoIdeal [hMoIdeal : Cert.MoIdeal.Facts] : Prop :=
  ∀ (m : (ℓ : Loc Cert.MoIdeal.nD Cert.MoIdeal.τ Cert.MoIdeal.sig) → Buf (Elt Ideal) ℓ) (g : Dev Cert.MoIdeal.nD → PrngReg), Pre_MoIdeal m →
    θ_run (Cert.MoIdeal.defs (F := Ideal)) (onTc (τ := Cert.MoIdeal.τ) (Cert.MoIdeal.main (F := Ideal))) ⟨m, fun _ => 0, g⟩ (fun r => (∀ c : Dev Cert.MoIdeal.nD,
      r.2.mem ((c.tc : Thread Cert.MoIdeal.nD Cert.MoIdeal.τ).loc Cert.MoIdeal.main_arg0) = m ((c.tc : Thread Cert.MoIdeal.nD Cert.MoIdeal.τ).loc Cert.MoIdeal.main_arg0)
      ∧ r.2.mem ((c.tc : Thread Cert.MoIdeal.nD Cert.MoIdeal.τ).loc Cert.MoIdeal.main_arg1) = m ((c.tc : Thread Cert.MoIdeal.nD Cert.MoIdeal.τ).loc Cert.MoIdeal.main_arg1))
      ∧ r.2.sem = fun _ => 0)

def quiescent_MoRefIdeal [hMoRefIdeal : Cert.MoRefIdeal.Facts] : Prop :=
  ∀ (m : (ℓ : Loc Cert.MoRefIdeal.nD Cert.MoRefIdeal.τ Cert.MoRefIdeal.sig) → Buf (Elt Ideal) ℓ) (g : Dev Cert.MoRefIdeal.nD → PrngReg), Pre_MoRefIdeal m →
    θ_run (Cert.MoRefIdeal.defs (F := Ideal)) (onTc (τ := Cert.MoRefIdeal.τ) (Cert.MoRefIdeal.main (F := Ideal))) ⟨m, fun _ => 0, g⟩ (fun r => (∀ c : Dev Cert.MoRefIdeal.nD,
      r.2.mem ((c.tc : Thread Cert.MoRefIdeal.nD Cert.MoRefIdeal.τ).loc Cert.MoRefIdeal.main_arg0) = m ((c.tc : Thread Cert.MoRefIdeal.nD Cert.MoRefIdeal.τ).loc Cert.MoRefIdeal.main_arg0)
      ∧ r.2.mem ((c.tc : Thread Cert.MoRefIdeal.nD Cert.MoRefIdeal.τ).loc Cert.MoRefIdeal.main_arg1) = m ((c.tc : Thread Cert.MoRefIdeal.nD Cert.MoRefIdeal.τ).loc Cert.MoRefIdeal.main_arg1))
      ∧ r.2.sem = fun _ => 0)

def quiescent_Pgl [hPgl : Cert.Pgl.Facts] : Prop :=
  ∀ (m : (ℓ : Loc Cert.Pgl.nD Cert.Pgl.τ Cert.Pgl.sig) → Buf (Elt Bits) ℓ) (g : Dev Cert.Pgl.nD → PrngReg), Pre_Pgl m →
    θ_run (Cert.Pgl.defs (F := Bits)) (onTc (τ := Cert.Pgl.τ) (Cert.Pgl.main (F := Bits))) ⟨m, fun _ => 0, g⟩ (fun r => (∀ c : Dev Cert.Pgl.nD,
      r.2.mem ((c.tc : Thread Cert.Pgl.nD Cert.Pgl.τ).loc Cert.Pgl.main_arg0) = m ((c.tc : Thread Cert.Pgl.nD Cert.Pgl.τ).loc Cert.Pgl.main_arg0)
      ∧ r.2.mem ((c.tc : Thread Cert.Pgl.nD Cert.Pgl.τ).loc Cert.Pgl.main_arg1) = m ((c.tc : Thread Cert.Pgl.nD Cert.Pgl.τ).loc Cert.Pgl.main_arg1))
      ∧ r.2.sem = fun _ => 0)

def quiescent_PglIdeal [hPglIdeal : Cert.PglIdeal.Facts] : Prop :=
  ∀ (m : (ℓ : Loc Cert.PglIdeal.nD Cert.PglIdeal.τ Cert.PglIdeal.sig) → Buf (Elt Ideal) ℓ) (g : Dev Cert.PglIdeal.nD → PrngReg), Pre_PglIdeal m →
    θ_run (Cert.PglIdeal.defs (F := Ideal)) (onTc (τ := Cert.PglIdeal.τ) (Cert.PglIdeal.main (F := Ideal))) ⟨m, fun _ => 0, g⟩ (fun r => (∀ c : Dev Cert.PglIdeal.nD,
      r.2.mem ((c.tc : Thread Cert.PglIdeal.nD Cert.PglIdeal.τ).loc Cert.PglIdeal.main_arg0) = m ((c.tc : Thread Cert.PglIdeal.nD Cert.PglIdeal.τ).loc Cert.PglIdeal.main_arg0)
      ∧ r.2.mem ((c.tc : Thread Cert.PglIdeal.nD Cert.PglIdeal.τ).loc Cert.PglIdeal.main_arg1) = m ((c.tc : Thread Cert.PglIdeal.nD Cert.PglIdeal.τ).loc Cert.PglIdeal.main_arg1))
      ∧ r.2.sem = fun _ => 0)

def quiescent_PglRefIdeal [hPglRefIdeal : Cert.PglRefIdeal.Facts] : Prop :=
  ∀ (m : (ℓ : Loc Cert.PglRefIdeal.nD Cert.PglRefIdeal.τ Cert.PglRefIdeal.sig) → Buf (Elt Ideal) ℓ) (g : Dev Cert.PglRefIdeal.nD → PrngReg), Pre_PglRefIdeal m →
    θ_run (Cert.PglRefIdeal.defs (F := Ideal)) (onTc (τ := Cert.PglRefIdeal.τ) (Cert.PglRefIdeal.main (F := Ideal))) ⟨m, fun _ => 0, g⟩ (fun r => (∀ c : Dev Cert.PglRefIdeal.nD,
      r.2.mem ((c.tc : Thread Cert.PglRefIdeal.nD Cert.PglRefIdeal.τ).loc Cert.PglRefIdeal.main_arg0) = m ((c.tc : Thread Cert.PglRefIdeal.nD Cert.PglRefIdeal.τ).loc Cert.PglRefIdeal.main_arg0)
      ∧ r.2.mem ((c.tc : Thread Cert.PglRefIdeal.nD Cert.PglRefIdeal.τ).loc Cert.PglRefIdeal.main_arg1) = m ((c.tc : Thread Cert.PglRefIdeal.nD Cert.PglRefIdeal.τ).loc Cert.PglRefIdeal.main_arg1))
      ∧ r.2.sem = fun _ => 0)

def quiescent_Pr [hPr : Cert.Pr.Facts] : Prop :=
  ∀ (m : (ℓ : Loc Cert.Pr.nD Cert.Pr.τ Cert.Pr.sig) → Buf (Elt Bits) ℓ) (g : Dev Cert.Pr.nD → PrngReg), Pre_Pr m →
    θ_run (Cert.Pr.defs (F := Bits)) (onTc (τ := Cert.Pr.τ) (Cert.Pr.main (F := Bits))) ⟨m, fun _ => 0, g⟩ (fun r => (∀ c : Dev Cert.Pr.nD,
      r.2.mem ((c.tc : Thread Cert.Pr.nD Cert.Pr.τ).loc Cert.Pr.main_arg0) = m ((c.tc : Thread Cert.Pr.nD Cert.Pr.τ).loc Cert.Pr.main_arg0)
      ∧ r.2.mem ((c.tc : Thread Cert.Pr.nD Cert.Pr.τ).loc Cert.Pr.main_arg1) = m ((c.tc : Thread Cert.Pr.nD Cert.Pr.τ).loc Cert.Pr.main_arg1))
      ∧ r.2.sem = fun _ => 0)

def quiescent_PrIdeal [hPrIdeal : Cert.PrIdeal.Facts] : Prop :=
  ∀ (m : (ℓ : Loc Cert.PrIdeal.nD Cert.PrIdeal.τ Cert.PrIdeal.sig) → Buf (Elt Ideal) ℓ) (g : Dev Cert.PrIdeal.nD → PrngReg), Pre_PrIdeal m →
    θ_run (Cert.PrIdeal.defs (F := Ideal)) (onTc (τ := Cert.PrIdeal.τ) (Cert.PrIdeal.main (F := Ideal))) ⟨m, fun _ => 0, g⟩ (fun r => (∀ c : Dev Cert.PrIdeal.nD,
      r.2.mem ((c.tc : Thread Cert.PrIdeal.nD Cert.PrIdeal.τ).loc Cert.PrIdeal.main_arg0) = m ((c.tc : Thread Cert.PrIdeal.nD Cert.PrIdeal.τ).loc Cert.PrIdeal.main_arg0)
      ∧ r.2.mem ((c.tc : Thread Cert.PrIdeal.nD Cert.PrIdeal.τ).loc Cert.PrIdeal.main_arg1) = m ((c.tc : Thread Cert.PrIdeal.nD Cert.PrIdeal.τ).loc Cert.PrIdeal.main_arg1))
      ∧ r.2.sem = fun _ => 0)

def quiescent_PrRefIdeal [hPrRefIdeal : Cert.PrRefIdeal.Facts] : Prop :=
  ∀ (m : (ℓ : Loc Cert.PrRefIdeal.nD Cert.PrRefIdeal.τ Cert.PrRefIdeal.sig) → Buf (Elt Ideal) ℓ) (g : Dev Cert.PrRefIdeal.nD → PrngReg), Pre_PrRefIdeal m →
    θ_run (Cert.PrRefIdeal.defs (F := Ideal)) (onTc (τ := Cert.PrRefIdeal.τ) (Cert.PrRefIdeal.main (F := Ideal))) ⟨m, fun _ => 0, g⟩ (fun r => (∀ c : Dev Cert.PrRefIdeal.nD,
      r.2.mem ((c.tc : Thread Cert.PrRefIdeal.nD Cert.PrRefIdeal.τ).loc Cert.PrRefIdeal.main_arg0) = m ((c.tc : Thread Cert.PrRefIdeal.nD Cert.PrRefIdeal.τ).loc Cert.PrRefIdeal.main_arg0)
      ∧ r.2.mem ((c.tc : Thread Cert.PrRefIdeal.nD Cert.PrRefIdeal.τ).loc Cert.PrRefIdeal.main_arg1) = m ((c.tc : Thread Cert.PrRefIdeal.nD Cert.PrRefIdeal.τ).loc Cert.PrRefIdeal.main_arg1))
      ∧ r.2.sem = fun _ => 0)

def quiescent_Dwple [hDwple : Cert.Dwple.Facts] : Prop :=
  ∀ (m : (ℓ : Loc Cert.Dwple.nD Cert.Dwple.τ Cert.Dwple.sig) → Buf (Elt Bits) ℓ) (g : Dev Cert.Dwple.nD → PrngReg), Pre_Dwple m →
    θ_run (Cert.Dwple.defs (F := Bits)) (onTc (τ := Cert.Dwple.τ) (Cert.Dwple.main (F := Bits))) ⟨m, fun _ => 0, g⟩ (fun r => (∀ c : Dev Cert.Dwple.nD,
      r.2.mem ((c.tc : Thread Cert.Dwple.nD Cert.Dwple.τ).loc Cert.Dwple.main_arg0) = m ((c.tc : Thread Cert.Dwple.nD Cert.Dwple.τ).loc Cert.Dwple.main_arg0)
      ∧ r.2.mem ((c.tc : Thread Cert.Dwple.nD Cert.Dwple.τ).loc Cert.Dwple.main_arg1) = m ((c.tc : Thread Cert.Dwple.nD Cert.Dwple.τ).loc Cert.Dwple.main_arg1)
      ∧ r.2.mem ((c.tc : Thread Cert.Dwple.nD Cert.Dwple.τ).loc Cert.Dwple.main_arg2) = m ((c.tc : Thread Cert.Dwple.nD Cert.Dwple.τ).loc Cert.Dwple.main_arg2))
      ∧ r.2.sem = fun _ => 0)

def quiescent_DwpleIdeal [hDwpleIdeal : Cert.DwpleIdeal.Facts] : Prop :=
  ∀ (m : (ℓ : Loc Cert.DwpleIdeal.nD Cert.DwpleIdeal.τ Cert.DwpleIdeal.sig) → Buf (Elt Ideal) ℓ) (g : Dev Cert.DwpleIdeal.nD → PrngReg), Pre_DwpleIdeal m →
    θ_run (Cert.DwpleIdeal.defs (F := Ideal)) (onTc (τ := Cert.DwpleIdeal.τ) (Cert.DwpleIdeal.main (F := Ideal))) ⟨m, fun _ => 0, g⟩ (fun r => (∀ c : Dev Cert.DwpleIdeal.nD,
      r.2.mem ((c.tc : Thread Cert.DwpleIdeal.nD Cert.DwpleIdeal.τ).loc Cert.DwpleIdeal.main_arg0) = m ((c.tc : Thread Cert.DwpleIdeal.nD Cert.DwpleIdeal.τ).loc Cert.DwpleIdeal.main_arg0)
      ∧ r.2.mem ((c.tc : Thread Cert.DwpleIdeal.nD Cert.DwpleIdeal.τ).loc Cert.DwpleIdeal.main_arg1) = m ((c.tc : Thread Cert.DwpleIdeal.nD Cert.DwpleIdeal.τ).loc Cert.DwpleIdeal.main_arg1)
      ∧ r.2.mem ((c.tc : Thread Cert.DwpleIdeal.nD Cert.DwpleIdeal.τ).loc Cert.DwpleIdeal.main_arg2) = m ((c.tc : Thread Cert.DwpleIdeal.nD Cert.DwpleIdeal.τ).loc Cert.DwpleIdeal.main_arg2))
      ∧ r.2.sem = fun _ => 0)

def quiescent_DwpleRefIdeal [hDwpleRefIdeal : Cert.DwpleRefIdeal.Facts] : Prop :=
  ∀ (m : (ℓ : Loc Cert.DwpleRefIdeal.nD Cert.DwpleRefIdeal.τ Cert.DwpleRefIdeal.sig) → Buf (Elt Ideal) ℓ) (g : Dev Cert.DwpleRefIdeal.nD → PrngReg), Pre_DwpleRefIdeal m →
    θ_run (Cert.DwpleRefIdeal.defs (F := Ideal)) (onTc (τ := Cert.DwpleRefIdeal.τ) (Cert.DwpleRefIdeal.main (F := Ideal))) ⟨m, fun _ => 0, g⟩ (fun r => (∀ c : Dev Cert.DwpleRefIdeal.nD,
      r.2.mem ((c.tc : Thread Cert.DwpleRefIdeal.nD Cert.DwpleRefIdeal.τ).loc Cert.DwpleRefIdeal.main_arg0) = m ((c.tc : Thread Cert.DwpleRefIdeal.nD Cert.DwpleRefIdeal.τ).loc Cert.DwpleRefIdeal.main_arg0)
      ∧ r.2.mem ((c.tc : Thread Cert.DwpleRefIdeal.nD Cert.DwpleRefIdeal.τ).loc Cert.DwpleRefIdeal.main_arg1) = m ((c.tc : Thread Cert.DwpleRefIdeal.nD Cert.DwpleRefIdeal.τ).loc Cert.DwpleRefIdeal.main_arg1)
      ∧ r.2.mem ((c.tc : Thread Cert.DwpleRefIdeal.nD Cert.DwpleRefIdeal.τ).loc Cert.DwpleRefIdeal.main_arg2) = m ((c.tc : Thread Cert.DwpleRefIdeal.nD Cert.DwpleRefIdeal.τ).loc Cert.DwpleRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamBr [hAdamBr : Cert.AdamBr.Facts] : Prop :=
  ∀ (m : (ℓ : Loc Cert.AdamBr.nD Cert.AdamBr.τ Cert.AdamBr.sig) → Buf (Elt Bits) ℓ) (g : Dev Cert.AdamBr.nD → PrngReg), Pre_AdamBr m →
    θ_run (Cert.AdamBr.defs (F := Bits)) (onTc (τ := Cert.AdamBr.τ) (Cert.AdamBr.main (F := Bits))) ⟨m, fun _ => 0, g⟩ (fun r => (∀ c : Dev Cert.AdamBr.nD,
      r.2.mem ((c.tc : Thread Cert.AdamBr.nD Cert.AdamBr.τ).loc Cert.AdamBr.main_arg0) = m ((c.tc : Thread Cert.AdamBr.nD Cert.AdamBr.τ).loc Cert.AdamBr.main_arg0)
      ∧ r.2.mem ((c.tc : Thread Cert.AdamBr.nD Cert.AdamBr.τ).loc Cert.AdamBr.main_arg1) = m ((c.tc : Thread Cert.AdamBr.nD Cert.AdamBr.τ).loc Cert.AdamBr.main_arg1)
      ∧ r.2.mem ((c.tc : Thread Cert.AdamBr.nD Cert.AdamBr.τ).loc Cert.AdamBr.main_arg2) = m ((c.tc : Thread Cert.AdamBr.nD Cert.AdamBr.τ).loc Cert.AdamBr.main_arg2)
      ∧ r.2.mem ((c.tc : Thread Cert.AdamBr.nD Cert.AdamBr.τ).loc Cert.AdamBr.main_arg3) = m ((c.tc : Thread Cert.AdamBr.nD Cert.AdamBr.τ).loc Cert.AdamBr.main_arg3))
      ∧ r.2.sem = fun _ => 0)

def quiescent_AdamBrIdeal [hAdamBrIdeal : Cert.AdamBrIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg), Pre_AdamBrIdeal m →
    θ_run (Cert.AdamBrIdeal.defs (F := Ideal)) (onTc (τ := Cert.AdamBrIdeal.τ) (Cert.AdamBrIdeal.main (F := Ideal))) ⟨m, fun _ => 0, g⟩ (fun r => (∀ c : Dev Cert.AdamBrIdeal.nD,
      r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
      ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
      ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
      ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3))
      ∧ r.2.sem = fun _ => 0)

def quiescent_AdamBrRefIdeal [hAdamBrRefIdeal : Cert.AdamBrRefIdeal.Facts] : Prop :=
  ∀ (m : (ℓ : Loc Cert.AdamBrRefIdeal.nD Cert.AdamBrRefIdeal.τ Cert.AdamBrRefIdeal.sig) → Buf (Elt Ideal) ℓ) (g : Dev Cert.AdamBrRefIdeal.nD → PrngReg), Pre_AdamBrRefIdeal m →
    θ_run (Cert.AdamBrRefIdeal.defs (F := Ideal)) (onTc (τ := Cert.AdamBrRefIdeal.τ) (Cert.AdamBrRefIdeal.main (F := Ideal))) ⟨m, fun _ => 0, g⟩ (fun r => (∀ c : Dev Cert.AdamBrRefIdeal.nD,
      r.2.mem ((c.tc : Thread Cert.AdamBrRefIdeal.nD Cert.AdamBrRefIdeal.τ).loc Cert.AdamBrRefIdeal.main_arg0) = m ((c.tc : Thread Cert.AdamBrRefIdeal.nD Cert.AdamBrRefIdeal.τ).loc Cert.AdamBrRefIdeal.main_arg0)
      ∧ r.2.mem ((c.tc : Thread Cert.AdamBrRefIdeal.nD Cert.AdamBrRefIdeal.τ).loc Cert.AdamBrRefIdeal.main_arg1) = m ((c.tc : Thread Cert.AdamBrRefIdeal.nD Cert.AdamBrRefIdeal.τ).loc Cert.AdamBrRefIdeal.main_arg1)
      ∧ r.2.mem ((c.tc : Thread Cert.AdamBrRefIdeal.nD Cert.AdamBrRefIdeal.τ).loc Cert.AdamBrRefIdeal.main_arg2) = m ((c.tc : Thread Cert.AdamBrRefIdeal.nD Cert.AdamBrRefIdeal.τ).loc Cert.AdamBrRefIdeal.main_arg2)
      ∧ r.2.mem ((c.tc : Thread Cert.AdamBrRefIdeal.nD Cert.AdamBrRefIdeal.τ).loc Cert.AdamBrRefIdeal.main_arg3) = m ((c.tc : Thread Cert.AdamBrRefIdeal.nD Cert.AdamBrRefIdeal.τ).loc Cert.AdamBrRefIdeal.main_arg3))
      ∧ r.2.sem = fun _ => 0)

def quiescent_AdamBrD [hAdamBrD : Cert.AdamBrD.Facts] : Prop :=
  ∀ (m : (ℓ : Loc Cert.AdamBrD.nD Cert.AdamBrD.τ Cert.AdamBrD.sig) → Buf (Elt Bits) ℓ) (g : Dev Cert.AdamBrD.nD → PrngReg), Pre_AdamBrD m →
    θ_run (Cert.AdamBrD.defs (F := Bits)) (onTc (τ := Cert.AdamBrD.τ) (Cert.AdamBrD.main (F := Bits))) ⟨m, fun _ => 0, g⟩ (fun r => (∀ c : Dev Cert.AdamBrD.nD,
      r.2.mem ((c.tc : Thread Cert.AdamBrD.nD Cert.AdamBrD.τ).loc Cert.AdamBrD.main_arg0) = m ((c.tc : Thread Cert.AdamBrD.nD Cert.AdamBrD.τ).loc Cert.AdamBrD.main_arg0)
      ∧ r.2.mem ((c.tc : Thread Cert.AdamBrD.nD Cert.AdamBrD.τ).loc Cert.AdamBrD.main_arg1) = m ((c.tc : Thread Cert.AdamBrD.nD Cert.AdamBrD.τ).loc Cert.AdamBrD.main_arg1)
      ∧ r.2.mem ((c.tc : Thread Cert.AdamBrD.nD Cert.AdamBrD.τ).loc Cert.AdamBrD.main_arg2) = m ((c.tc : Thread Cert.AdamBrD.nD Cert.AdamBrD.τ).loc Cert.AdamBrD.main_arg2)
      ∧ r.2.mem ((c.tc : Thread Cert.AdamBrD.nD Cert.AdamBrD.τ).loc Cert.AdamBrD.main_arg3) = m ((c.tc : Thread Cert.AdamBrD.nD Cert.AdamBrD.τ).loc Cert.AdamBrD.main_arg3))
      ∧ r.2.sem = fun _ => 0)

def quiescent_AdamBrDIdeal [hAdamBrDIdeal : Cert.AdamBrDIdeal.Facts] : Prop :=
  ∀ (m : (ℓ : Loc Cert.AdamBrDIdeal.nD Cert.AdamBrDIdeal.τ Cert.AdamBrDIdeal.sig) → Buf (Elt Ideal) ℓ) (g : Dev Cert.AdamBrDIdeal.nD → PrngReg), Pre_AdamBrDIdeal m →
    θ_run (Cert.AdamBrDIdeal.defs (F := Ideal)) (onTc (τ := Cert.AdamBrDIdeal.τ) (Cert.AdamBrDIdeal.main (F := Ideal))) ⟨m, fun _ => 0, g⟩ (fun r => (∀ c : Dev Cert.AdamBrDIdeal.nD,
      r.2.mem ((c.tc : Thread Cert.AdamBrDIdeal.nD Cert.AdamBrDIdeal.τ).loc Cert.AdamBrDIdeal.main_arg0) = m ((c.tc : Thread Cert.AdamBrDIdeal.nD Cert.AdamBrDIdeal.τ).loc Cert.AdamBrDIdeal.main_arg0)
      ∧ r.2.mem ((c.tc : Thread Cert.AdamBrDIdeal.nD Cert.AdamBrDIdeal.τ).loc Cert.AdamBrDIdeal.main_arg1) = m ((c.tc : Thread Cert.AdamBrDIdeal.nD Cert.AdamBrDIdeal.τ).loc Cert.AdamBrDIdeal.main_arg1)
      ∧ r.2.mem ((c.tc : Thread Cert.AdamBrDIdeal.nD Cert.AdamBrDIdeal.τ).loc Cert.AdamBrDIdeal.main_arg2) = m ((c.tc : Thread Cert.AdamBrDIdeal.nD Cert.AdamBrDIdeal.τ).loc Cert.AdamBrDIdeal.main_arg2)
      ∧ r.2.mem ((c.tc : Thread Cert.AdamBrDIdeal.nD Cert.AdamBrDIdeal.τ).loc Cert.AdamBrDIdeal.main_arg3) = m ((c.tc : Thread Cert.AdamBrDIdeal.nD Cert.AdamBrDIdeal.τ).loc Cert.AdamBrDIdeal.main_arg3))
      ∧ r.2.sem = fun _ => 0)

def quiescent_AdamBrDRefIdeal [hAdamBrDRefIdeal : Cert.AdamBrDRefIdeal.Facts] : Prop :=
  ∀ (m : (ℓ : Loc Cert.AdamBrDRefIdeal.nD Cert.AdamBrDRefIdeal.τ Cert.AdamBrDRefIdeal.sig) → Buf (Elt Ideal) ℓ) (g : Dev Cert.AdamBrDRefIdeal.nD → PrngReg), Pre_AdamBrDRefIdeal m →
    θ_run (Cert.AdamBrDRefIdeal.defs (F := Ideal)) (onTc (τ := Cert.AdamBrDRefIdeal.τ) (Cert.AdamBrDRefIdeal.main (F := Ideal))) ⟨m, fun _ => 0, g⟩ (fun r => (∀ c : Dev Cert.AdamBrDRefIdeal.nD,
      r.2.mem ((c.tc : Thread Cert.AdamBrDRefIdeal.nD Cert.AdamBrDRefIdeal.τ).loc Cert.AdamBrDRefIdeal.main_arg0) = m ((c.tc : Thread Cert.AdamBrDRefIdeal.nD Cert.AdamBrDRefIdeal.τ).loc Cert.AdamBrDRefIdeal.main_arg0)
      ∧ r.2.mem ((c.tc : Thread Cert.AdamBrDRefIdeal.nD Cert.AdamBrDRefIdeal.τ).loc Cert.AdamBrDRefIdeal.main_arg1) = m ((c.tc : Thread Cert.AdamBrDRefIdeal.nD Cert.AdamBrDRefIdeal.τ).loc Cert.AdamBrDRefIdeal.main_arg1)
      ∧ r.2.mem ((c.tc : Thread Cert.AdamBrDRefIdeal.nD Cert.AdamBrDRefIdeal.τ).loc Cert.AdamBrDRefIdeal.main_arg2) = m ((c.tc : Thread Cert.AdamBrDRefIdeal.nD Cert.AdamBrDRefIdeal.τ).loc Cert.AdamBrDRefIdeal.main_arg2)
      ∧ r.2.mem ((c.tc : Thread Cert.AdamBrDRefIdeal.nD Cert.AdamBrDRefIdeal.τ).loc Cert.AdamBrDRefIdeal.main_arg3) = m ((c.tc : Thread Cert.AdamBrDRefIdeal.nD Cert.AdamBrDRefIdeal.τ).loc Cert.AdamBrDRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_2)) (v3 : (c : Dev Cert.MergeIdeal.nD) → Buf (Elt Ideal) ((c.tc : Thread Cert.MergeIdeal.nD Cert.MergeIdeal.τ).loc Cert.MergeIdeal.main_v8_3)) (v4 : (c : Dev Cert.MergeIdeal.nD) → Buf (Elt Ideal) ((c.tc : Thread Cert.MergeIdeal.nD Cert.MergeIdeal.τ).loc Cert.MergeIdeal.main_v8_4)) (v5 : (c : Dev Cert.MergeIdeal.nD) → Buf (Elt Ideal) ((c.tc : Thread Cert.MergeIdeal.nD Cert.MergeIdeal.τ).loc Cert.MergeIdeal.main_v8_5)) (v6 : (c : Dev Cert.MergeIdeal.nD) → Buf (Elt Ideal) ((c.tc : Thread Cert.MergeIdeal.nD Cert.MergeIdeal.τ).loc Cert.MergeIdeal.main_v8_6)) (v7 : (c : Dev Cert.MergeIdeal.nD) → Buf (Elt Ideal) ((c.tc : Thread Cert.MergeIdeal.nD Cert.MergeIdeal.τ).loc Cert.MergeIdeal.main_v8_7)) (v8 : (c : Dev Cert.MergeIdeal.nD) → Buf (Elt Ideal) ((c.tc : Thread Cert.MergeIdeal.nD Cert.MergeIdeal.τ).loc Cert.MergeIdeal.main_v8_8)) (v9 : (c : Dev Cert.MergeIdeal.nD) → Buf (Elt Ideal) ((c.tc : Thread Cert.MergeIdeal.nD Cert.MergeIdeal.τ).loc Cert.MergeIdeal.main_v8_9)) (v10 : (c : Dev Cert.MergeIdeal.nD) → Buf (Elt Ideal) ((c.tc : Thread Cert.MergeIdeal.nD Cert.MergeIdeal.τ).loc Cert.MergeIdeal.main_v8_10)) (v11 : (c : Dev Cert.MergeIdeal.nD) → Buf (Elt Ideal) ((c.tc : Thread Cert.MergeIdeal.nD Cert.MergeIdeal.τ).loc Cert.MergeIdeal.main_v8_11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_2) = v2 c
          ∧ r.2.mem ((c.tc : Thread Cert.MergeIdeal.nD Cert.MergeIdeal.τ).loc Cert.MergeIdeal.main_v8_3) = v3 c
          ∧ r.2.mem ((c.tc : Thread Cert.MergeIdeal.nD Cert.MergeIdeal.τ).loc Cert.MergeIdeal.main_v8_4) = v4 c
          ∧ r.2.mem ((c.tc : Thread Cert.MergeIdeal.nD Cert.MergeIdeal.τ).loc Cert.MergeIdeal.main_v8_5) = v5 c
          ∧ r.2.mem ((c.tc : Thread Cert.MergeIdeal.nD Cert.MergeIdeal.τ).loc Cert.MergeIdeal.main_v8_6) = v6 c
          ∧ r.2.mem ((c.tc : Thread Cert.MergeIdeal.nD Cert.MergeIdeal.τ).loc Cert.MergeIdeal.main_v8_7) = v7 c
          ∧ r.2.mem ((c.tc : Thread Cert.MergeIdeal.nD Cert.MergeIdeal.τ).loc Cert.MergeIdeal.main_v8_8) = v8 c
          ∧ r.2.mem ((c.tc : Thread Cert.MergeIdeal.nD Cert.MergeIdeal.τ).loc Cert.MergeIdeal.main_v8_9) = v9 c
          ∧ r.2.mem ((c.tc : Thread Cert.MergeIdeal.nD Cert.MergeIdeal.τ).loc Cert.MergeIdeal.main_v8_10) = v10 c
          ∧ r.2.mem ((c.tc : Thread Cert.MergeIdeal.nD Cert.MergeIdeal.τ).loc Cert.MergeIdeal.main_v8_11) = v11 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v71) = v0 c
          ∧ r.2.mem ((c.tc : Thread Cert.MergeRefIdeal.nD Cert.MergeRefIdeal.τ).loc Cert.MergeRefIdeal.main_v72) = v1 c
          ∧ r.2.mem ((c.tc : Thread Cert.MergeRefIdeal.nD Cert.MergeRefIdeal.τ).loc Cert.MergeRefIdeal.main_v73) = v2 c
          ∧ r.2.mem ((c.tc : Thread Cert.MergeRefIdeal.nD Cert.MergeRefIdeal.τ).loc Cert.MergeRefIdeal.main_v74) = v3 c
          ∧ r.2.mem ((c.tc : Thread Cert.MergeRefIdeal.nD Cert.MergeRefIdeal.τ).loc Cert.MergeRefIdeal.main_v75) = v4 c
          ∧ r.2.mem ((c.tc : Thread Cert.MergeRefIdeal.nD Cert.MergeRefIdeal.τ).loc Cert.MergeRefIdeal.main_v76) = v5 c
          ∧ r.2.mem ((c.tc : Thread Cert.MergeRefIdeal.nD Cert.MergeRefIdeal.τ).loc Cert.MergeRefIdeal.main_v77) = v6 c
          ∧ r.2.mem ((c.tc : Thread Cert.MergeRefIdeal.nD Cert.MergeRefIdeal.τ).loc Cert.MergeRefIdeal.main_v78) = v7 c
          ∧ r.2.mem ((c.tc : Thread Cert.MergeRefIdeal.nD Cert.MergeRefIdeal.τ).loc Cert.MergeRefIdeal.main_v64) = v8 c
          ∧ r.2.mem ((c.tc : Thread Cert.MergeRefIdeal.nD Cert.MergeRefIdeal.τ).loc Cert.MergeRefIdeal.main_v66) = v9 c
          ∧ r.2.mem ((c.tc : Thread Cert.MergeRefIdeal.nD Cert.MergeRefIdeal.τ).loc Cert.MergeRefIdeal.main_v68) = v10 c
          ∧ r.2.mem ((c.tc : Thread Cert.MergeRefIdeal.nD Cert.MergeRefIdeal.τ).loc Cert.MergeRefIdeal.main_v70) = v11 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_FfnDa_FfnDaIdeal : Prop :=
  True

def algebraic_FfnDaIdeal_FfnDaRefIdeal [hFfnDaIdeal : Cert.FfnDaIdeal.Facts] [hFfnDaRefIdeal : Cert.FfnDaRefIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg)
    (m' : (ℓ : Loc Cert.FfnDaRefIdeal.nD Cert.FfnDaRefIdeal.τ Cert.FfnDaRefIdeal.sig) → Buf (Elt Ideal) ℓ) (g' : Dev Cert.FfnDaRefIdeal.nD → PrngReg), Pre_FfnDaIdeal m →
    (∀ c : Dev Cert.FfnDaIdeal.nD,
      m' ((c.tc : Thread Cert.FfnDaRefIdeal.nD Cert.FfnDaRefIdeal.τ).loc Cert.FfnDaRefIdeal.main_arg0) = m ((c.tc : Thread Cert.FfnDaIdeal.nD Cert.FfnDaIdeal.τ).loc Cert.FfnDaIdeal.main_arg0)
      ∧ m' ((c.tc : Thread Cert.FfnDaRefIdeal.nD Cert.FfnDaRefIdeal.τ).loc Cert.FfnDaRefIdeal.main_arg1) = m ((c.tc : Thread Cert.FfnDaIdeal.nD Cert.FfnDaIdeal.τ).loc Cert.FfnDaIdeal.main_arg1)) →
    ∃ (v0 : (c : Dev Cert.FfnDaIdeal.nD) → Buf (Elt Ideal) ((c.tc : Thread Cert.FfnDaIdeal.nD Cert.FfnDaIdeal.τ).loc Cert.FfnDaIdeal.main_v0)),
      θ_run (Cert.FfnDaIdeal.defs (F := Ideal)) (onTc (τ := Cert.FfnDaIdeal.τ) (Cert.FfnDaIdeal.main (F := Ideal))) ⟨m, fun _ => 0, g⟩ (fun r => ∀ c : Dev Cert.FfnDaIdeal.nD,
          r.2.mem ((c.tc : Thread Cert.FfnDaIdeal.nD Cert.FfnDaIdeal.τ).loc Cert.FfnDaIdeal.main_v0) = v0 c
          ∧ r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
          ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1))
      ∧ θ_run (Cert.FfnDaRefIdeal.defs (F := Ideal)) (onTc (τ := Cert.FfnDaRefIdeal.τ) (Cert.FfnDaRefIdeal.main (F := Ideal))) ⟨m', fun _ => 0, g'⟩ (fun r => ∀ c : Dev Cert.FfnDaRefIdeal.nD,
          r.2.mem ((c.tc : Thread Cert.FfnDaRefIdeal.nD Cert.FfnDaRefIdeal.τ).loc Cert.FfnDaRefIdeal.main_v7) = v0 c
          ∧ r.2.mem ((c.tc : Thread Cert.FfnDaRefIdeal.nD Cert.FfnDaRefIdeal.τ).loc Cert.FfnDaRefIdeal.main_arg0) = m' ((c.tc : Thread Cert.FfnDaRefIdeal.nD Cert.FfnDaRefIdeal.τ).loc Cert.FfnDaRefIdeal.main_arg0)
          ∧ r.2.mem ((c.tc : Thread Cert.FfnDaRefIdeal.nD Cert.FfnDaRefIdeal.τ).loc Cert.FfnDaRefIdeal.main_arg1) = m' ((c.tc : Thread Cert.FfnDaRefIdeal.nD Cert.FfnDaRefIdeal.τ).loc Cert.FfnDaRefIdeal.main_arg1))

def preserves_FfnDn_FfnDnIdeal : Prop :=
  True

def algebraic_FfnDnIdeal_FfnDnRefIdeal [hFfnDnIdeal : Cert.FfnDnIdeal.Facts] [hFfnDnRefIdeal : Cert.FfnDnRefIdeal.Facts] : Prop :=
  ∀ (m : (ℓ : Loc Cert.FfnDnIdeal.nD Cert.FfnDnIdeal.τ Cert.FfnDnIdeal.sig) → Buf (Elt Ideal) ℓ) (g : Dev Cert.FfnDnIdeal.nD → PrngReg)
    (m' : (ℓ : Loc Cert.FfnDnRefIdeal.nD Cert.FfnDnRefIdeal.τ Cert.FfnDnRefIdeal.sig) → Buf (Elt Ideal) ℓ) (g' : Dev Cert.FfnDnRefIdeal.nD → PrngReg), Pre_FfnDnIdeal m →
    (∀ c : Dev Cert.FfnDnIdeal.nD,
      m' ((c.tc : Thread Cert.FfnDnRefIdeal.nD Cert.FfnDnRefIdeal.τ).loc Cert.FfnDnRefIdeal.main_arg0) = m ((c.tc : Thread Cert.FfnDnIdeal.nD Cert.FfnDnIdeal.τ).loc Cert.FfnDnIdeal.main_arg0)
      ∧ m' ((c.tc : Thread Cert.FfnDnRefIdeal.nD Cert.FfnDnRefIdeal.τ).loc Cert.FfnDnRefIdeal.main_arg1) = m ((c.tc : Thread Cert.FfnDnIdeal.nD Cert.FfnDnIdeal.τ).loc Cert.FfnDnIdeal.main_arg1)) →
    ∃ (v0 : (c : Dev Cert.FfnDnIdeal.nD) → Buf (Elt Ideal) ((c.tc : Thread Cert.FfnDnIdeal.nD Cert.FfnDnIdeal.τ).loc Cert.FfnDnIdeal.main_v0)),
      θ_run (Cert.FfnDnIdeal.defs (F := Ideal)) (onTc (τ := Cert.FfnDnIdeal.τ) (Cert.FfnDnIdeal.main (F := Ideal))) ⟨m, fun _ => 0, g⟩ (fun r => ∀ c : Dev Cert.FfnDnIdeal.nD,
          r.2.mem ((c.tc : Thread Cert.FfnDnIdeal.nD Cert.FfnDnIdeal.τ).loc Cert.FfnDnIdeal.main_v0) = v0 c
          ∧ r.2.mem ((c.tc : Thread Cert.FfnDnIdeal.nD Cert.FfnDnIdeal.τ).loc Cert.FfnDnIdeal.main_arg0) = m ((c.tc : Thread Cert.FfnDnIdeal.nD Cert.FfnDnIdeal.τ).loc Cert.FfnDnIdeal.main_arg0)
          ∧ r.2.mem ((c.tc : Thread Cert.FfnDnIdeal.nD Cert.FfnDnIdeal.τ).loc Cert.FfnDnIdeal.main_arg1) = m ((c.tc : Thread Cert.FfnDnIdeal.nD Cert.FfnDnIdeal.τ).loc Cert.FfnDnIdeal.main_arg1))
      ∧ θ_run (Cert.FfnDnRefIdeal.defs (F := Ideal)) (onTc (τ := Cert.FfnDnRefIdeal.τ) (Cert.FfnDnRefIdeal.main (F := Ideal))) ⟨m', fun _ => 0, g'⟩ (fun r => ∀ c : Dev Cert.FfnDnRefIdeal.nD,
          r.2.mem ((c.tc : Thread Cert.FfnDnRefIdeal.nD Cert.FfnDnRefIdeal.τ).loc Cert.FfnDnRefIdeal.main_v7) = v0 c
          ∧ r.2.mem ((c.tc : Thread Cert.FfnDnRefIdeal.nD Cert.FfnDnRefIdeal.τ).loc Cert.FfnDnRefIdeal.main_arg0) = m' ((c.tc : Thread Cert.FfnDnRefIdeal.nD Cert.FfnDnRefIdeal.τ).loc Cert.FfnDnRefIdeal.main_arg0)
          ∧ r.2.mem ((c.tc : Thread Cert.FfnDnRefIdeal.nD Cert.FfnDnRefIdeal.τ).loc Cert.FfnDnRefIdeal.main_arg1) = m' ((c.tc : Thread Cert.FfnDnRefIdeal.nD Cert.FfnDnRefIdeal.τ).loc Cert.FfnDnRefIdeal.main_arg1))

def preserves_FfnDwDown_FfnDwDownIdeal : Prop :=
  True

def algebraic_FfnDwDownIdeal_FfnDwDownRefIdeal [hFfnDwDownIdeal : Cert.FfnDwDownIdeal.Facts] [hFfnDwDownRefIdeal : Cert.FfnDwDownRefIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownRefIdeal.nD Cert.FfnDwDownRefIdeal.τ Cert.FfnDwDownRefIdeal.sig) → Buf (Elt Ideal) ℓ) (g' : Dev Cert.FfnDwDownRefIdeal.nD → PrngReg), Pre_FfnDwDownIdeal m →
    (∀ c : Dev Cert.FfnDwDownIdeal.nD,
      m' ((c.tc : Thread Cert.FfnDwDownRefIdeal.nD Cert.FfnDwDownRefIdeal.τ).loc Cert.FfnDwDownRefIdeal.main_arg0) = m ((c.tc : Thread Cert.FfnDwDownIdeal.nD Cert.FfnDwDownIdeal.τ).loc Cert.FfnDwDownIdeal.main_arg0)
      ∧ m' ((c.tc : Thread Cert.FfnDwDownRefIdeal.nD Cert.FfnDwDownRefIdeal.τ).loc Cert.FfnDwDownRefIdeal.main_arg1) = m ((c.tc : Thread Cert.FfnDwDownIdeal.nD Cert.FfnDwDownIdeal.τ).loc Cert.FfnDwDownIdeal.main_arg1)
      ∧ m' ((c.tc : Thread Cert.FfnDwDownRefIdeal.nD Cert.FfnDwDownRefIdeal.τ).loc Cert.FfnDwDownRefIdeal.main_arg2) = m ((c.tc : Thread Cert.FfnDwDownIdeal.nD Cert.FfnDwDownIdeal.τ).loc Cert.FfnDwDownIdeal.main_arg2)) →
    ∃ (v0 : (c : Dev Cert.FfnDwDownIdeal.nD) → Buf (Elt Ideal) ((c.tc : Thread Cert.FfnDwDownIdeal.nD Cert.FfnDwDownIdeal.τ).loc Cert.FfnDwDownIdeal.main_v0)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v0) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1)
          ∧ r.2.mem ((c.tc : Thread Cert.FfnDwDownIdeal.nD Cert.FfnDwDownIdeal.τ).loc Cert.FfnDwDownIdeal.main_arg2) = m ((c.tc : Thread Cert.FfnDwDownIdeal.nD Cert.FfnDwDownIdeal.τ).loc Cert.FfnDwDownIdeal.main_arg2))
      ∧ θ_run (Cert.FfnDwDownRefIdeal.defs (F := Ideal)) (onTc (τ := Cert.FfnDwDownRefIdeal.τ) (Cert.FfnDwDownRefIdeal.main (F := Ideal))) ⟨m', fun _ => 0, g'⟩ (fun r => ∀ c : Dev Cert.FfnDwDownRefIdeal.nD,
          r.2.mem ((c.tc : Thread Cert.FfnDwDownRefIdeal.nD Cert.FfnDwDownRefIdeal.τ).loc Cert.FfnDwDownRefIdeal.main_v7) = v0 c
          ∧ r.2.mem ((c.tc : Thread Cert.FfnDwDownRefIdeal.nD Cert.FfnDwDownRefIdeal.τ).loc Cert.FfnDwDownRefIdeal.main_arg0) = m' ((c.tc : Thread Cert.FfnDwDownRefIdeal.nD Cert.FfnDwDownRefIdeal.τ).loc Cert.FfnDwDownRefIdeal.main_arg0)
          ∧ r.2.mem ((c.tc : Thread Cert.FfnDwDownRefIdeal.nD Cert.FfnDwDownRefIdeal.τ).loc Cert.FfnDwDownRefIdeal.main_arg1) = m' ((c.tc : Thread Cert.FfnDwDownRefIdeal.nD Cert.FfnDwDownRefIdeal.τ).loc Cert.FfnDwDownRefIdeal.main_arg1)
          ∧ r.2.mem ((c.tc : Thread Cert.FfnDwDownRefIdeal.nD Cert.FfnDwDownRefIdeal.τ).loc Cert.FfnDwDownRefIdeal.main_arg2) = m' ((c.tc : Thread Cert.FfnDwDownRefIdeal.nD Cert.FfnDwDownRefIdeal.τ).loc Cert.FfnDwDownRefIdeal.main_arg2))

def preserves_FfnDwGu_FfnDwGuIdeal : Prop :=
  True

def algebraic_FfnDwGuIdeal_FfnDwGuRefIdeal [hFfnDwGuIdeal : Cert.FfnDwGuIdeal.Facts] [hFfnDwGuRefIdeal : Cert.FfnDwGuRefIdeal.Facts] : Prop :=
  ∀ (m : (ℓ : Loc Cert.FfnDwGuIdeal.nD Cert.FfnDwGuIdeal.τ Cert.FfnDwGuIdeal.sig) → Buf (Elt Ideal) ℓ) (g : Dev Cert.FfnDwGuIdeal.nD → PrngReg)
    (m' : (ℓ : Loc Cert.FfnDwGuRefIdeal.nD Cert.FfnDwGuRefIdeal.τ Cert.FfnDwGuRefIdeal.sig) → Buf (Elt Ideal) ℓ) (g' : Dev Cert.FfnDwGuRefIdeal.nD → PrngReg), Pre_FfnDwGuIdeal m →
    (∀ c : Dev Cert.FfnDwGuIdeal.nD,
      m' ((c.tc : Thread Cert.FfnDwGuRefIdeal.nD Cert.FfnDwGuRefIdeal.τ).loc Cert.FfnDwGuRefIdeal.main_arg0) = m ((c.tc : Thread Cert.FfnDwGuIdeal.nD Cert.FfnDwGuIdeal.τ).loc Cert.FfnDwGuIdeal.main_arg0)
      ∧ m' ((c.tc : Thread Cert.FfnDwGuRefIdeal.nD Cert.FfnDwGuRefIdeal.τ).loc Cert.FfnDwGuRefIdeal.main_arg1) = m ((c.tc : Thread Cert.FfnDwGuIdeal.nD Cert.FfnDwGuIdeal.τ).loc Cert.FfnDwGuIdeal.main_arg1)
      ∧ m' ((c.tc : Thread Cert.FfnDwGuRefIdeal.nD Cert.FfnDwGuRefIdeal.τ).loc Cert.FfnDwGuRefIdeal.main_arg2) = m ((c.tc : Thread Cert.FfnDwGuIdeal.nD Cert.FfnDwGuIdeal.τ).loc Cert.FfnDwGuIdeal.main_arg2)) →
    ∃ (v0 : (c : Dev Cert.FfnDwGuIdeal.nD) → Buf (Elt Ideal) ((c.tc : Thread Cert.FfnDwGuIdeal.nD Cert.FfnDwGuIdeal.τ).loc Cert.FfnDwGuIdeal.main_v0)),
      θ_run (Cert.FfnDwGuIdeal.defs (F := Ideal)) (onTc (τ := Cert.FfnDwGuIdeal.τ) (Cert.FfnDwGuIdeal.main (F := Ideal))) ⟨m, fun _ => 0, g⟩ (fun r => ∀ c : Dev Cert.FfnDwGuIdeal.nD,
          r.2.mem ((c.tc : Thread Cert.FfnDwGuIdeal.nD Cert.FfnDwGuIdeal.τ).loc Cert.FfnDwGuIdeal.main_v0) = v0 c
          ∧ r.2.mem ((c.tc : Thread Cert.FfnDwGuIdeal.nD Cert.FfnDwGuIdeal.τ).loc Cert.FfnDwGuIdeal.main_arg0) = m ((c.tc : Thread Cert.FfnDwGuIdeal.nD Cert.FfnDwGuIdeal.τ).loc Cert.FfnDwGuIdeal.main_arg0)
          ∧ r.2.mem ((c.tc : Thread Cert.FfnDwGuIdeal.nD Cert.FfnDwGuIdeal.τ).loc Cert.FfnDwGuIdeal.main_arg1) = m ((c.tc : Thread Cert.FfnDwGuIdeal.nD Cert.FfnDwGuIdeal.τ).loc Cert.FfnDwGuIdeal.main_arg1)
          ∧ r.2.mem ((c.tc : Thread Cert.FfnDwGuIdeal.nD Cert.FfnDwGuIdeal.τ).loc Cert.FfnDwGuIdeal.main_arg2) = m ((c.tc : Thread Cert.FfnDwGuIdeal.nD Cert.FfnDwGuIdeal.τ).loc Cert.FfnDwGuIdeal.main_arg2))
      ∧ θ_run (Cert.FfnDwGuRefIdeal.defs (F := Ideal)) (onTc (τ := Cert.FfnDwGuRefIdeal.τ) (Cert.FfnDwGuRefIdeal.main (F := Ideal))) ⟨m', fun _ => 0, g'⟩ (fun r => ∀ c : Dev Cert.FfnDwGuRefIdeal.nD,
          r.2.mem ((c.tc : Thread Cert.FfnDwGuRefIdeal.nD Cert.FfnDwGuRefIdeal.τ).loc Cert.FfnDwGuRefIdeal.main_v7) = v0 c
          ∧ r.2.mem ((c.tc : Thread Cert.FfnDwGuRefIdeal.nD Cert.FfnDwGuRefIdeal.τ).loc Cert.FfnDwGuRefIdeal.main_arg0) = m' ((c.tc : Thread Cert.FfnDwGuRefIdeal.nD Cert.FfnDwGuRefIdeal.τ).loc Cert.FfnDwGuRefIdeal.main_arg0)
          ∧ r.2.mem ((c.tc : Thread Cert.FfnDwGuRefIdeal.nD Cert.FfnDwGuRefIdeal.τ).loc Cert.FfnDwGuRefIdeal.main_arg1) = m' ((c.tc : Thread Cert.FfnDwGuRefIdeal.nD Cert.FfnDwGuRefIdeal.τ).loc Cert.FfnDwGuRefIdeal.main_arg1)
          ∧ r.2.mem ((c.tc : Thread Cert.FfnDwGuRefIdeal.nD Cert.FfnDwGuRefIdeal.τ).loc Cert.FfnDwGuRefIdeal.main_arg2) = m' ((c.tc : Thread Cert.FfnDwGuRefIdeal.nD Cert.FfnDwGuRefIdeal.τ).loc Cert.FfnDwGuRefIdeal.main_arg2))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)) →
    ∃ (v0 : (c : Dev Cert.DuIdeal.nD) → Buf (Elt Ideal) ((c.tc : Thread Cert.DuIdeal.nD Cert.DuIdeal.τ).loc Cert.DuIdeal.main_v0)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v0) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v5) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v5) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dmo_DmoIdeal : Prop :=
  True

def algebraic_DmoIdeal_DmoRefIdeal [hDmoIdeal : Cert.DmoIdeal.Facts] [hDmoRefIdeal : Cert.DmoRefIdeal.Facts] : Prop :=
  ∀ (m : (ℓ : Loc Cert.DmoIdeal.nD Cert.DmoIdeal.τ Cert.DmoIdeal.sig) → Buf (Elt Ideal) ℓ) (g : Dev Cert.DmoIdeal.nD → PrngReg)
    (m' : (ℓ : Loc Cert.DmoRefIdeal.nD Cert.DmoRefIdeal.τ Cert.DmoRefIdeal.sig) → Buf (Elt Ideal) ℓ) (g' : Dev Cert.DmoRefIdeal.nD → PrngReg), Pre_DmoIdeal m →
    (∀ c : Dev Cert.DmoIdeal.nD,
      m' ((c.tc : Thread Cert.DmoRefIdeal.nD Cert.DmoRefIdeal.τ).loc Cert.DmoRefIdeal.main_arg0) = m ((c.tc : Thread Cert.DmoIdeal.nD Cert.DmoIdeal.τ).loc Cert.DmoIdeal.main_arg0)
      ∧ m' ((c.tc : Thread Cert.DmoRefIdeal.nD Cert.DmoRefIdeal.τ).loc Cert.DmoRefIdeal.main_arg1) = m ((c.tc : Thread Cert.DmoIdeal.nD Cert.DmoIdeal.τ).loc Cert.DmoIdeal.main_arg1)) →
    ∃ (v0 : (c : Dev Cert.DmoIdeal.nD) → Buf (Elt Ideal) ((c.tc : Thread Cert.DmoIdeal.nD Cert.DmoIdeal.τ).loc Cert.DmoIdeal.main_v0)),
      θ_run (Cert.DmoIdeal.defs (F := Ideal)) (onTc (τ := Cert.DmoIdeal.τ) (Cert.DmoIdeal.main (F := Ideal))) ⟨m, fun _ => 0, g⟩ (fun r => ∀ c : Dev Cert.DmoIdeal.nD,
          r.2.mem ((c.tc : Thread Cert.DmoIdeal.nD Cert.DmoIdeal.τ).loc Cert.DmoIdeal.main_v0) = v0 c
          ∧ r.2.mem ((c.tc : Thread Cert.DmoIdeal.nD Cert.DmoIdeal.τ).loc Cert.DmoIdeal.main_arg0) = m ((c.tc : Thread Cert.DmoIdeal.nD Cert.DmoIdeal.τ).loc Cert.DmoIdeal.main_arg0)
          ∧ r.2.mem ((c.tc : Thread Cert.DmoIdeal.nD Cert.DmoIdeal.τ).loc Cert.DmoIdeal.main_arg1) = m ((c.tc : Thread Cert.DmoIdeal.nD Cert.DmoIdeal.τ).loc Cert.DmoIdeal.main_arg1))
      ∧ θ_run (Cert.DmoRefIdeal.defs (F := Ideal)) (onTc (τ := Cert.DmoRefIdeal.τ) (Cert.DmoRefIdeal.main (F := Ideal))) ⟨m', fun _ => 0, g'⟩ (fun r => ∀ c : Dev Cert.DmoRefIdeal.nD,
          r.2.mem ((c.tc : Thread Cert.DmoRefIdeal.nD Cert.DmoRefIdeal.τ).loc Cert.DmoRefIdeal.main_v7) = v0 c
          ∧ r.2.mem ((c.tc : Thread Cert.DmoRefIdeal.nD Cert.DmoRefIdeal.τ).loc Cert.DmoRefIdeal.main_arg0) = m' ((c.tc : Thread Cert.DmoRefIdeal.nD Cert.DmoRefIdeal.τ).loc Cert.DmoRefIdeal.main_arg0)
          ∧ r.2.mem ((c.tc : Thread Cert.DmoRefIdeal.nD Cert.DmoRefIdeal.τ).loc Cert.DmoRefIdeal.main_arg1) = m' ((c.tc : Thread Cert.DmoRefIdeal.nD Cert.DmoRefIdeal.τ).loc Cert.DmoRefIdeal.main_arg1))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)
      ∧ m' ((c.tc : Thread Cert.DwoRefIdeal.nD Cert.DwoRefIdeal.τ).loc Cert.DwoRefIdeal.main_arg2) = m ((c.tc : Thread Cert.DwoIdeal.nD Cert.DwoIdeal.τ).loc Cert.DwoIdeal.main_arg2)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
          ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v7) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1)
          ∧ r.2.mem ((c.tc : Thread Cert.DwoRefIdeal.nD Cert.DwoRefIdeal.τ).loc Cert.DwoRefIdeal.main_arg2) = m' ((c.tc : Thread Cert.DwoRefIdeal.nD Cert.DwoRefIdeal.τ).loc Cert.DwoRefIdeal.main_arg2))

def preserves_DyA_DyAIdeal : Prop :=
  True

def algebraic_DyAIdeal_DyARefIdeal [hDyAIdeal : Cert.DyAIdeal.Facts] [hDyARefIdeal : Cert.DyARefIdeal.Facts] : Prop :=
  ∀ (m : (ℓ : Loc Cert.DyAIdeal.nD Cert.DyAIdeal.τ Cert.DyAIdeal.sig) → Buf (Elt Ideal) ℓ) (g : Dev Cert.DyAIdeal.nD → PrngReg)
    (m' : (ℓ : Loc Cert.DyARefIdeal.nD Cert.DyARefIdeal.τ Cert.DyARefIdeal.sig) → Buf (Elt Ideal) ℓ) (g' : Dev Cert.DyARefIdeal.nD → PrngReg), Pre_DyAIdeal m →
    (∀ c : Dev Cert.DyAIdeal.nD,
      m' ((c.tc : Thread Cert.DyARefIdeal.nD Cert.DyARefIdeal.τ).loc Cert.DyARefIdeal.main_arg0) = m ((c.tc : Thread Cert.DyAIdeal.nD Cert.DyAIdeal.τ).loc Cert.DyAIdeal.main_arg0)
      ∧ m' ((c.tc : Thread Cert.DyARefIdeal.nD Cert.DyARefIdeal.τ).loc Cert.DyARefIdeal.main_arg1) = m ((c.tc : Thread Cert.DyAIdeal.nD Cert.DyAIdeal.τ).loc Cert.DyAIdeal.main_arg1)) →
    ∃ (v0 : (c : Dev Cert.DyAIdeal.nD) → Buf (Elt Ideal) ((c.tc : Thread Cert.DyAIdeal.nD Cert.DyAIdeal.τ).loc Cert.DyAIdeal.main_v0)),
      θ_run (Cert.DyAIdeal.defs (F := Ideal)) (onTc (τ := Cert.DyAIdeal.τ) (Cert.DyAIdeal.main (F := Ideal))) ⟨m, fun _ => 0, g⟩ (fun r => ∀ c : Dev Cert.DyAIdeal.nD,
          r.2.mem ((c.tc : Thread Cert.DyAIdeal.nD Cert.DyAIdeal.τ).loc Cert.DyAIdeal.main_v0) = v0 c
          ∧ r.2.mem ((c.tc : Thread Cert.DyAIdeal.nD Cert.DyAIdeal.τ).loc Cert.DyAIdeal.main_arg0) = m ((c.tc : Thread Cert.DyAIdeal.nD Cert.DyAIdeal.τ).loc Cert.DyAIdeal.main_arg0)
          ∧ r.2.mem ((c.tc : Thread Cert.DyAIdeal.nD Cert.DyAIdeal.τ).loc Cert.DyAIdeal.main_arg1) = m ((c.tc : Thread Cert.DyAIdeal.nD Cert.DyAIdeal.τ).loc Cert.DyAIdeal.main_arg1))
      ∧ θ_run (Cert.DyARefIdeal.defs (F := Ideal)) (onTc (τ := Cert.DyARefIdeal.τ) (Cert.DyARefIdeal.main (F := Ideal))) ⟨m', fun _ => 0, g'⟩ (fun r => ∀ c : Dev Cert.DyARefIdeal.nD,
          r.2.mem ((c.tc : Thread Cert.DyARefIdeal.nD Cert.DyARefIdeal.τ).loc Cert.DyARefIdeal.main_v7) = v0 c
          ∧ r.2.mem ((c.tc : Thread Cert.DyARefIdeal.nD Cert.DyARefIdeal.τ).loc Cert.DyARefIdeal.main_arg0) = m' ((c.tc : Thread Cert.DyARefIdeal.nD Cert.DyARefIdeal.τ).loc Cert.DyARefIdeal.main_arg0)
          ∧ r.2.mem ((c.tc : Thread Cert.DyARefIdeal.nD Cert.DyARefIdeal.τ).loc Cert.DyARefIdeal.main_arg1) = m' ((c.tc : Thread Cert.DyARefIdeal.nD Cert.DyARefIdeal.τ).loc Cert.DyARefIdeal.main_arg1))

def preserves_DwBrA_DwBrAIdeal : Prop :=
  True

def algebraic_DwBrAIdeal_DwBrARefIdeal [hDwBrAIdeal : Cert.DwBrAIdeal.Facts] [hDwBrARefIdeal : Cert.DwBrARefIdeal.Facts] : Prop :=
  ∀ (m : (ℓ : Loc Cert.DwBrAIdeal.nD Cert.DwBrAIdeal.τ Cert.DwBrAIdeal.sig) → Buf (Elt Ideal) ℓ) (g : Dev Cert.DwBrAIdeal.nD → PrngReg)
    (m' : (ℓ : Loc Cert.DwBrARefIdeal.nD Cert.DwBrARefIdeal.τ Cert.DwBrARefIdeal.sig) → Buf (Elt Ideal) ℓ) (g' : Dev Cert.DwBrARefIdeal.nD → PrngReg), Pre_DwBrAIdeal m →
    (∀ c : Dev Cert.DwBrAIdeal.nD,
      m' ((c.tc : Thread Cert.DwBrARefIdeal.nD Cert.DwBrARefIdeal.τ).loc Cert.DwBrARefIdeal.main_arg0) = m ((c.tc : Thread Cert.DwBrAIdeal.nD Cert.DwBrAIdeal.τ).loc Cert.DwBrAIdeal.main_arg0)
      ∧ m' ((c.tc : Thread Cert.DwBrARefIdeal.nD Cert.DwBrARefIdeal.τ).loc Cert.DwBrARefIdeal.main_arg1) = m ((c.tc : Thread Cert.DwBrAIdeal.nD Cert.DwBrAIdeal.τ).loc Cert.DwBrAIdeal.main_arg1)
      ∧ m' ((c.tc : Thread Cert.DwBrARefIdeal.nD Cert.DwBrARefIdeal.τ).loc Cert.DwBrARefIdeal.main_arg2) = m ((c.tc : Thread Cert.DwBrAIdeal.nD Cert.DwBrAIdeal.τ).loc Cert.DwBrAIdeal.main_arg2)) →
    ∃ (v0 : (c : Dev Cert.DwBrAIdeal.nD) → Buf (Elt Ideal) ((c.tc : Thread Cert.DwBrAIdeal.nD Cert.DwBrAIdeal.τ).loc Cert.DwBrAIdeal.main_v0)),
      θ_run (Cert.DwBrAIdeal.defs (F := Ideal)) (onTc (τ := Cert.DwBrAIdeal.τ) (Cert.DwBrAIdeal.main (F := Ideal))) ⟨m, fun _ => 0, g⟩ (fun r => ∀ c : Dev Cert.DwBrAIdeal.nD,
          r.2.mem ((c.tc : Thread Cert.DwBrAIdeal.nD Cert.DwBrAIdeal.τ).loc Cert.DwBrAIdeal.main_v0) = v0 c
          ∧ r.2.mem ((c.tc : Thread Cert.DwBrAIdeal.nD Cert.DwBrAIdeal.τ).loc Cert.DwBrAIdeal.main_arg0) = m ((c.tc : Thread Cert.DwBrAIdeal.nD Cert.DwBrAIdeal.τ).loc Cert.DwBrAIdeal.main_arg0)
          ∧ r.2.mem ((c.tc : Thread Cert.DwBrAIdeal.nD Cert.DwBrAIdeal.τ).loc Cert.DwBrAIdeal.main_arg1) = m ((c.tc : Thread Cert.DwBrAIdeal.nD Cert.DwBrAIdeal.τ).loc Cert.DwBrAIdeal.main_arg1)
          ∧ r.2.mem ((c.tc : Thread Cert.DwBrAIdeal.nD Cert.DwBrAIdeal.τ).loc Cert.DwBrAIdeal.main_arg2) = m ((c.tc : Thread Cert.DwBrAIdeal.nD Cert.DwBrAIdeal.τ).loc Cert.DwBrAIdeal.main_arg2))
      ∧ θ_run (Cert.DwBrARefIdeal.defs (F := Ideal)) (onTc (τ := Cert.DwBrARefIdeal.τ) (Cert.DwBrARefIdeal.main (F := Ideal))) ⟨m', fun _ => 0, g'⟩ (fun r => ∀ c : Dev Cert.DwBrARefIdeal.nD,
          r.2.mem ((c.tc : Thread Cert.DwBrARefIdeal.nD Cert.DwBrARefIdeal.τ).loc Cert.DwBrARefIdeal.main_v7) = v0 c
          ∧ r.2.mem ((c.tc : Thread Cert.DwBrARefIdeal.nD Cert.DwBrARefIdeal.τ).loc Cert.DwBrARefIdeal.main_arg0) = m' ((c.tc : Thread Cert.DwBrARefIdeal.nD Cert.DwBrARefIdeal.τ).loc Cert.DwBrARefIdeal.main_arg0)
          ∧ r.2.mem ((c.tc : Thread Cert.DwBrARefIdeal.nD Cert.DwBrARefIdeal.τ).loc Cert.DwBrARefIdeal.main_arg1) = m' ((c.tc : Thread Cert.DwBrARefIdeal.nD Cert.DwBrARefIdeal.τ).loc Cert.DwBrARefIdeal.main_arg1)
          ∧ r.2.mem ((c.tc : Thread Cert.DwBrARefIdeal.nD Cert.DwBrARefIdeal.τ).loc Cert.DwBrARefIdeal.main_arg2) = m' ((c.tc : Thread Cert.DwBrARefIdeal.nD Cert.DwBrARefIdeal.τ).loc Cert.DwBrARefIdeal.main_arg2))

def preserves_DyD_DyDIdeal : Prop :=
  True

def algebraic_DyDIdeal_DyDRefIdeal [hDyDIdeal : Cert.DyDIdeal.Facts] [hDyDRefIdeal : Cert.DyDRefIdeal.Facts] : Prop :=
  ∀ (m : (ℓ : Loc Cert.DyDIdeal.nD Cert.DyDIdeal.τ Cert.DyDIdeal.sig) → Buf (Elt Ideal) ℓ) (g : Dev Cert.DyDIdeal.nD → PrngReg)
    (m' : (ℓ : Loc Cert.DyDRefIdeal.nD Cert.DyDRefIdeal.τ Cert.DyDRefIdeal.sig) → Buf (Elt Ideal) ℓ) (g' : Dev Cert.DyDRefIdeal.nD → PrngReg), Pre_DyDIdeal m →
    (∀ c : Dev Cert.DyDIdeal.nD,
      m' ((c.tc : Thread Cert.DyDRefIdeal.nD Cert.DyDRefIdeal.τ).loc Cert.DyDRefIdeal.main_arg0) = m ((c.tc : Thread Cert.DyDIdeal.nD Cert.DyDIdeal.τ).loc Cert.DyDIdeal.main_arg0)
      ∧ m' ((c.tc : Thread Cert.DyDRefIdeal.nD Cert.DyDRefIdeal.τ).loc Cert.DyDRefIdeal.main_arg1) = m ((c.tc : Thread Cert.DyDIdeal.nD Cert.DyDIdeal.τ).loc Cert.DyDIdeal.main_arg1)) →
    ∃ (v0 : (c : Dev Cert.DyDIdeal.nD) → Buf (Elt Ideal) ((c.tc : Thread Cert.DyDIdeal.nD Cert.DyDIdeal.τ).loc Cert.DyDIdeal.main_v0)),
      θ_run (Cert.DyDIdeal.defs (F := Ideal)) (onTc (τ := Cert.DyDIdeal.τ) (Cert.DyDIdeal.main (F := Ideal))) ⟨m, fun _ => 0, g⟩ (fun r => ∀ c : Dev Cert.DyDIdeal.nD,
          r.2.mem ((c.tc : Thread Cert.DyDIdeal.nD Cert.DyDIdeal.τ).loc Cert.DyDIdeal.main_v0) = v0 c
          ∧ r.2.mem ((c.tc : Thread Cert.DyDIdeal.nD Cert.DyDIdeal.τ).loc Cert.DyDIdeal.main_arg0) = m ((c.tc : Thread Cert.DyDIdeal.nD Cert.DyDIdeal.τ).loc Cert.DyDIdeal.main_arg0)
          ∧ r.2.mem ((c.tc : Thread Cert.DyDIdeal.nD Cert.DyDIdeal.τ).loc Cert.DyDIdeal.main_arg1) = m ((c.tc : Thread Cert.DyDIdeal.nD Cert.DyDIdeal.τ).loc Cert.DyDIdeal.main_arg1))
      ∧ θ_run (Cert.DyDRefIdeal.defs (F := Ideal)) (onTc (τ := Cert.DyDRefIdeal.τ) (Cert.DyDRefIdeal.main (F := Ideal))) ⟨m', fun _ => 0, g'⟩ (fun r => ∀ c : Dev Cert.DyDRefIdeal.nD,
          r.2.mem ((c.tc : Thread Cert.DyDRefIdeal.nD Cert.DyDRefIdeal.τ).loc Cert.DyDRefIdeal.main_v7) = v0 c
          ∧ r.2.mem ((c.tc : Thread Cert.DyDRefIdeal.nD Cert.DyDRefIdeal.τ).loc Cert.DyDRefIdeal.main_arg0) = m' ((c.tc : Thread Cert.DyDRefIdeal.nD Cert.DyDRefIdeal.τ).loc Cert.DyDRefIdeal.main_arg0)
          ∧ r.2.mem ((c.tc : Thread Cert.DyDRefIdeal.nD Cert.DyDRefIdeal.τ).loc Cert.DyDRefIdeal.main_arg1) = m' ((c.tc : Thread Cert.DyDRefIdeal.nD Cert.DyDRefIdeal.τ).loc Cert.DyDRefIdeal.main_arg1))

def preserves_DwBrD_DwBrDIdeal : Prop :=
  True

def algebraic_DwBrDIdeal_DwBrDRefIdeal [hDwBrDIdeal : Cert.DwBrDIdeal.Facts] [hDwBrDRefIdeal : Cert.DwBrDRefIdeal.Facts] : Prop :=
  ∀ (m : (ℓ : Loc Cert.DwBrDIdeal.nD Cert.DwBrDIdeal.τ Cert.DwBrDIdeal.sig) → Buf (Elt Ideal) ℓ) (g : Dev Cert.DwBrDIdeal.nD → PrngReg)
    (m' : (ℓ : Loc Cert.DwBrDRefIdeal.nD Cert.DwBrDRefIdeal.τ Cert.DwBrDRefIdeal.sig) → Buf (Elt Ideal) ℓ) (g' : Dev Cert.DwBrDRefIdeal.nD → PrngReg), Pre_DwBrDIdeal m →
    (∀ c : Dev Cert.DwBrDIdeal.nD,
      m' ((c.tc : Thread Cert.DwBrDRefIdeal.nD Cert.DwBrDRefIdeal.τ).loc Cert.DwBrDRefIdeal.main_arg0) = m ((c.tc : Thread Cert.DwBrDIdeal.nD Cert.DwBrDIdeal.τ).loc Cert.DwBrDIdeal.main_arg0)
      ∧ m' ((c.tc : Thread Cert.DwBrDRefIdeal.nD Cert.DwBrDRefIdeal.τ).loc Cert.DwBrDRefIdeal.main_arg1) = m ((c.tc : Thread Cert.DwBrDIdeal.nD Cert.DwBrDIdeal.τ).loc Cert.DwBrDIdeal.main_arg1)
      ∧ m' ((c.tc : Thread Cert.DwBrDRefIdeal.nD Cert.DwBrDRefIdeal.τ).loc Cert.DwBrDRefIdeal.main_arg2) = m ((c.tc : Thread Cert.DwBrDIdeal.nD Cert.DwBrDIdeal.τ).loc Cert.DwBrDIdeal.main_arg2)) →
    ∃ (v0 : (c : Dev Cert.DwBrDIdeal.nD) → Buf (Elt Ideal) ((c.tc : Thread Cert.DwBrDIdeal.nD Cert.DwBrDIdeal.τ).loc Cert.DwBrDIdeal.main_v0)),
      θ_run (Cert.DwBrDIdeal.defs (F := Ideal)) (onTc (τ := Cert.DwBrDIdeal.τ) (Cert.DwBrDIdeal.main (F := Ideal))) ⟨m, fun _ => 0, g⟩ (fun r => ∀ c : Dev Cert.DwBrDIdeal.nD,
          r.2.mem ((c.tc : Thread Cert.DwBrDIdeal.nD Cert.DwBrDIdeal.τ).loc Cert.DwBrDIdeal.main_v0) = v0 c
          ∧ r.2.mem ((c.tc : Thread Cert.DwBrDIdeal.nD Cert.DwBrDIdeal.τ).loc Cert.DwBrDIdeal.main_arg0) = m ((c.tc : Thread Cert.DwBrDIdeal.nD Cert.DwBrDIdeal.τ).loc Cert.DwBrDIdeal.main_arg0)
          ∧ r.2.mem ((c.tc : Thread Cert.DwBrDIdeal.nD Cert.DwBrDIdeal.τ).loc Cert.DwBrDIdeal.main_arg1) = m ((c.tc : Thread Cert.DwBrDIdeal.nD Cert.DwBrDIdeal.τ).loc Cert.DwBrDIdeal.main_arg1)
          ∧ r.2.mem ((c.tc : Thread Cert.DwBrDIdeal.nD Cert.DwBrDIdeal.τ).loc Cert.DwBrDIdeal.main_arg2) = m ((c.tc : Thread Cert.DwBrDIdeal.nD Cert.DwBrDIdeal.τ).loc Cert.DwBrDIdeal.main_arg2))
      ∧ θ_run (Cert.DwBrDRefIdeal.defs (F := Ideal)) (onTc (τ := Cert.DwBrDRefIdeal.τ) (Cert.DwBrDRefIdeal.main (F := Ideal))) ⟨m', fun _ => 0, g'⟩ (fun r => ∀ c : Dev Cert.DwBrDRefIdeal.nD,
          r.2.mem ((c.tc : Thread Cert.DwBrDRefIdeal.nD Cert.DwBrDRefIdeal.τ).loc Cert.DwBrDRefIdeal.main_v7) = v0 c
          ∧ r.2.mem ((c.tc : Thread Cert.DwBrDRefIdeal.nD Cert.DwBrDRefIdeal.τ).loc Cert.DwBrDRefIdeal.main_arg0) = m' ((c.tc : Thread Cert.DwBrDRefIdeal.nD Cert.DwBrDRefIdeal.τ).loc Cert.DwBrDRefIdeal.main_arg0)
          ∧ r.2.mem ((c.tc : Thread Cert.DwBrDRefIdeal.nD Cert.DwBrDRefIdeal.τ).loc Cert.DwBrDRefIdeal.main_arg1) = m' ((c.tc : Thread Cert.DwBrDRefIdeal.nD Cert.DwBrDRefIdeal.τ).loc Cert.DwBrDRefIdeal.main_arg1)
          ∧ r.2.mem ((c.tc : Thread Cert.DwBrDRefIdeal.nD Cert.DwBrDRefIdeal.τ).loc Cert.DwBrDRefIdeal.main_arg2) = m' ((c.tc : Thread Cert.DwBrDRefIdeal.nD Cert.DwBrDRefIdeal.τ).loc Cert.DwBrDRefIdeal.main_arg2))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v0)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v5) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_BrA_BrAIdeal : Prop :=
  True

def algebraic_BrAIdeal_BrARefIdeal [hBrAIdeal : Cert.BrAIdeal.Facts] [hBrARefIdeal : Cert.BrARefIdeal.Facts] : Prop :=
  ∀ (m : (ℓ : Loc Cert.BrAIdeal.nD Cert.BrAIdeal.τ Cert.BrAIdeal.sig) → Buf (Elt Ideal) ℓ) (g : Dev Cert.BrAIdeal.nD → PrngReg)
    (m' : (ℓ : Loc Cert.BrARefIdeal.nD Cert.BrARefIdeal.τ Cert.BrARefIdeal.sig) → Buf (Elt Ideal) ℓ) (g' : Dev Cert.BrARefIdeal.nD → PrngReg), Pre_BrAIdeal m →
    (∀ c : Dev Cert.BrAIdeal.nD,
      m' ((c.tc : Thread Cert.BrARefIdeal.nD Cert.BrARefIdeal.τ).loc Cert.BrARefIdeal.main_arg0) = m ((c.tc : Thread Cert.BrAIdeal.nD Cert.BrAIdeal.τ).loc Cert.BrAIdeal.main_arg0)
      ∧ m' ((c.tc : Thread Cert.BrARefIdeal.nD Cert.BrARefIdeal.τ).loc Cert.BrARefIdeal.main_arg1) = m ((c.tc : Thread Cert.BrAIdeal.nD Cert.BrAIdeal.τ).loc Cert.BrAIdeal.main_arg1)) →
    ∃ (v0 : (c : Dev Cert.BrAIdeal.nD) → Buf (Elt Ideal) ((c.tc : Thread Cert.BrAIdeal.nD Cert.BrAIdeal.τ).loc Cert.BrAIdeal.main_v0)),
      θ_run (Cert.BrAIdeal.defs (F := Ideal)) (onTc (τ := Cert.BrAIdeal.τ) (Cert.BrAIdeal.main (F := Ideal))) ⟨m, fun _ => 0, g⟩ (fun r => ∀ c : Dev Cert.BrAIdeal.nD,
          r.2.mem ((c.tc : Thread Cert.BrAIdeal.nD Cert.BrAIdeal.τ).loc Cert.BrAIdeal.main_v0) = v0 c
          ∧ r.2.mem ((c.tc : Thread Cert.BrAIdeal.nD Cert.BrAIdeal.τ).loc Cert.BrAIdeal.main_arg0) = m ((c.tc : Thread Cert.BrAIdeal.nD Cert.BrAIdeal.τ).loc Cert.BrAIdeal.main_arg0)
          ∧ r.2.mem ((c.tc : Thread Cert.BrAIdeal.nD Cert.BrAIdeal.τ).loc Cert.BrAIdeal.main_arg1) = m ((c.tc : Thread Cert.BrAIdeal.nD Cert.BrAIdeal.τ).loc Cert.BrAIdeal.main_arg1))
      ∧ θ_run (Cert.BrARefIdeal.defs (F := Ideal)) (onTc (τ := Cert.BrARefIdeal.τ) (Cert.BrARefIdeal.main (F := Ideal))) ⟨m', fun _ => 0, g'⟩ (fun r => ∀ c : Dev Cert.BrARefIdeal.nD,
          r.2.mem ((c.tc : Thread Cert.BrARefIdeal.nD Cert.BrARefIdeal.τ).loc Cert.BrARefIdeal.main_v5) = v0 c
          ∧ r.2.mem ((c.tc : Thread Cert.BrARefIdeal.nD Cert.BrARefIdeal.τ).loc Cert.BrARefIdeal.main_arg0) = m' ((c.tc : Thread Cert.BrARefIdeal.nD Cert.BrARefIdeal.τ).loc Cert.BrARefIdeal.main_arg0)
          ∧ r.2.mem ((c.tc : Thread Cert.BrARefIdeal.nD Cert.BrARefIdeal.τ).loc Cert.BrARefIdeal.main_arg1) = m' ((c.tc : Thread Cert.BrARefIdeal.nD Cert.BrARefIdeal.τ).loc Cert.BrARefIdeal.main_arg1))

def preserves_BrD_BrDIdeal : Prop :=
  True

def algebraic_BrDIdeal_BrDRefIdeal [hBrDIdeal : Cert.BrDIdeal.Facts] [hBrDRefIdeal : Cert.BrDRefIdeal.Facts] : Prop :=
  ∀ (m : (ℓ : Loc Cert.BrDIdeal.nD Cert.BrDIdeal.τ Cert.BrDIdeal.sig) → Buf (Elt Ideal) ℓ) (g : Dev Cert.BrDIdeal.nD → PrngReg)
    (m' : (ℓ : Loc Cert.BrDRefIdeal.nD Cert.BrDRefIdeal.τ Cert.BrDRefIdeal.sig) → Buf (Elt Ideal) ℓ) (g' : Dev Cert.BrDRefIdeal.nD → PrngReg), Pre_BrDIdeal m →
    (∀ c : Dev Cert.BrDIdeal.nD,
      m' ((c.tc : Thread Cert.BrDRefIdeal.nD Cert.BrDRefIdeal.τ).loc Cert.BrDRefIdeal.main_arg0) = m ((c.tc : Thread Cert.BrDIdeal.nD Cert.BrDIdeal.τ).loc Cert.BrDIdeal.main_arg0)
      ∧ m' ((c.tc : Thread Cert.BrDRefIdeal.nD Cert.BrDRefIdeal.τ).loc Cert.BrDRefIdeal.main_arg1) = m ((c.tc : Thread Cert.BrDIdeal.nD Cert.BrDIdeal.τ).loc Cert.BrDIdeal.main_arg1)) →
    ∃ (v0 : (c : Dev Cert.BrDIdeal.nD) → Buf (Elt Ideal) ((c.tc : Thread Cert.BrDIdeal.nD Cert.BrDIdeal.τ).loc Cert.BrDIdeal.main_v0)),
      θ_run (Cert.BrDIdeal.defs (F := Ideal)) (onTc (τ := Cert.BrDIdeal.τ) (Cert.BrDIdeal.main (F := Ideal))) ⟨m, fun _ => 0, g⟩ (fun r => ∀ c : Dev Cert.BrDIdeal.nD,
          r.2.mem ((c.tc : Thread Cert.BrDIdeal.nD Cert.BrDIdeal.τ).loc Cert.BrDIdeal.main_v0) = v0 c
          ∧ r.2.mem ((c.tc : Thread Cert.BrDIdeal.nD Cert.BrDIdeal.τ).loc Cert.BrDIdeal.main_arg0) = m ((c.tc : Thread Cert.BrDIdeal.nD Cert.BrDIdeal.τ).loc Cert.BrDIdeal.main_arg0)
          ∧ r.2.mem ((c.tc : Thread Cert.BrDIdeal.nD Cert.BrDIdeal.τ).loc Cert.BrDIdeal.main_arg1) = m ((c.tc : Thread Cert.BrDIdeal.nD Cert.BrDIdeal.τ).loc Cert.BrDIdeal.main_arg1))
      ∧ θ_run (Cert.BrDRefIdeal.defs (F := Ideal)) (onTc (τ := Cert.BrDRefIdeal.τ) (Cert.BrDRefIdeal.main (F := Ideal))) ⟨m', fun _ => 0, g'⟩ (fun r => ∀ c : Dev Cert.BrDRefIdeal.nD,
          r.2.mem ((c.tc : Thread Cert.BrDRefIdeal.nD Cert.BrDRefIdeal.τ).loc Cert.BrDRefIdeal.main_v5) = v0 c
          ∧ r.2.mem ((c.tc : Thread Cert.BrDRefIdeal.nD Cert.BrDRefIdeal.τ).loc Cert.BrDRefIdeal.main_arg0) = m' ((c.tc : Thread Cert.BrDRefIdeal.nD Cert.BrDRefIdeal.τ).loc Cert.BrDRefIdeal.main_arg0)
          ∧ r.2.mem ((c.tc : Thread Cert.BrDRefIdeal.nD Cert.BrDRefIdeal.τ).loc Cert.BrDRefIdeal.main_arg1) = m' ((c.tc : Thread Cert.BrDRefIdeal.nD Cert.BrDRefIdeal.τ).loc Cert.BrDRefIdeal.main_arg1))

def preserves_Mo_MoIdeal : Prop :=
  True

def algebraic_MoIdeal_MoRefIdeal [hMoIdeal : Cert.MoIdeal.Facts] [hMoRefIdeal : Cert.MoRefIdeal.Facts] : Prop :=
  ∀ (m : (ℓ : Loc Cert.MoIdeal.nD Cert.MoIdeal.τ Cert.MoIdeal.sig) → Buf (Elt Ideal) ℓ) (g : Dev Cert.MoIdeal.nD → PrngReg)
    (m' : (ℓ : Loc Cert.MoRefIdeal.nD Cert.MoRefIdeal.τ Cert.MoRefIdeal.sig) → Buf (Elt Ideal) ℓ) (g' : Dev Cert.MoRefIdeal.nD → PrngReg), Pre_MoIdeal m →
    (∀ c : Dev Cert.MoIdeal.nD,
      m' ((c.tc : Thread Cert.MoRefIdeal.nD Cert.MoRefIdeal.τ).loc Cert.MoRefIdeal.main_arg0) = m ((c.tc : Thread Cert.MoIdeal.nD Cert.MoIdeal.τ).loc Cert.MoIdeal.main_arg0)
      ∧ m' ((c.tc : Thread Cert.MoRefIdeal.nD Cert.MoRefIdeal.τ).loc Cert.MoRefIdeal.main_arg1) = m ((c.tc : Thread Cert.MoIdeal.nD Cert.MoIdeal.τ).loc Cert.MoIdeal.main_arg1)) →
    ∃ (v0 : (c : Dev Cert.MoIdeal.nD) → Buf (Elt Ideal) ((c.tc : Thread Cert.MoIdeal.nD Cert.MoIdeal.τ).loc Cert.MoIdeal.main_v0)),
      θ_run (Cert.MoIdeal.defs (F := Ideal)) (onTc (τ := Cert.MoIdeal.τ) (Cert.MoIdeal.main (F := Ideal))) ⟨m, fun _ => 0, g⟩ (fun r => ∀ c : Dev Cert.MoIdeal.nD,
          r.2.mem ((c.tc : Thread Cert.MoIdeal.nD Cert.MoIdeal.τ).loc Cert.MoIdeal.main_v0) = v0 c
          ∧ r.2.mem ((c.tc : Thread Cert.MoIdeal.nD Cert.MoIdeal.τ).loc Cert.MoIdeal.main_arg0) = m ((c.tc : Thread Cert.MoIdeal.nD Cert.MoIdeal.τ).loc Cert.MoIdeal.main_arg0)
          ∧ r.2.mem ((c.tc : Thread Cert.MoIdeal.nD Cert.MoIdeal.τ).loc Cert.MoIdeal.main_arg1) = m ((c.tc : Thread Cert.MoIdeal.nD Cert.MoIdeal.τ).loc Cert.MoIdeal.main_arg1))
      ∧ θ_run (Cert.MoRefIdeal.defs (F := Ideal)) (onTc (τ := Cert.MoRefIdeal.τ) (Cert.MoRefIdeal.main (F := Ideal))) ⟨m', fun _ => 0, g'⟩ (fun r => ∀ c : Dev Cert.MoRefIdeal.nD,
          r.2.mem ((c.tc : Thread Cert.MoRefIdeal.nD Cert.MoRefIdeal.τ).loc Cert.MoRefIdeal.main_v4) = v0 c
          ∧ r.2.mem ((c.tc : Thread Cert.MoRefIdeal.nD Cert.MoRefIdeal.τ).loc Cert.MoRefIdeal.main_arg0) = m' ((c.tc : Thread Cert.MoRefIdeal.nD Cert.MoRefIdeal.τ).loc Cert.MoRefIdeal.main_arg0)
          ∧ r.2.mem ((c.tc : Thread Cert.MoRefIdeal.nD Cert.MoRefIdeal.τ).loc Cert.MoRefIdeal.main_arg1) = m' ((c.tc : Thread Cert.MoRefIdeal.nD Cert.MoRefIdeal.τ).loc Cert.MoRefIdeal.main_arg1))

def preserves_Pgl_PglIdeal : Prop :=
  True

def algebraic_PglIdeal_PglRefIdeal [hPglIdeal : Cert.PglIdeal.Facts] [hPglRefIdeal : Cert.PglRefIdeal.Facts] : Prop :=
  ∀ (m : (ℓ : Loc Cert.PglIdeal.nD Cert.PglIdeal.τ Cert.PglIdeal.sig) → Buf (Elt Ideal) ℓ) (g : Dev Cert.PglIdeal.nD → PrngReg)
    (m' : (ℓ : Loc Cert.PglRefIdeal.nD Cert.PglRefIdeal.τ Cert.PglRefIdeal.sig) → Buf (Elt Ideal) ℓ) (g' : Dev Cert.PglRefIdeal.nD → PrngReg), Pre_PglIdeal m →
    (∀ c : Dev Cert.PglIdeal.nD,
      m' ((c.tc : Thread Cert.PglRefIdeal.nD Cert.PglRefIdeal.τ).loc Cert.PglRefIdeal.main_arg0) = m ((c.tc : Thread Cert.PglIdeal.nD Cert.PglIdeal.τ).loc Cert.PglIdeal.main_arg0)
      ∧ m' ((c.tc : Thread Cert.PglRefIdeal.nD Cert.PglRefIdeal.τ).loc Cert.PglRefIdeal.main_arg1) = m ((c.tc : Thread Cert.PglIdeal.nD Cert.PglIdeal.τ).loc Cert.PglIdeal.main_arg1)) →
    ∃ (v0 : (c : Dev Cert.PglIdeal.nD) → Buf (Elt Ideal) ((c.tc : Thread Cert.PglIdeal.nD Cert.PglIdeal.τ).loc Cert.PglIdeal.main_v0)),
      θ_run (Cert.PglIdeal.defs (F := Ideal)) (onTc (τ := Cert.PglIdeal.τ) (Cert.PglIdeal.main (F := Ideal))) ⟨m, fun _ => 0, g⟩ (fun r => ∀ c : Dev Cert.PglIdeal.nD,
          r.2.mem ((c.tc : Thread Cert.PglIdeal.nD Cert.PglIdeal.τ).loc Cert.PglIdeal.main_v0) = v0 c
          ∧ r.2.mem ((c.tc : Thread Cert.PglIdeal.nD Cert.PglIdeal.τ).loc Cert.PglIdeal.main_arg0) = m ((c.tc : Thread Cert.PglIdeal.nD Cert.PglIdeal.τ).loc Cert.PglIdeal.main_arg0)
          ∧ r.2.mem ((c.tc : Thread Cert.PglIdeal.nD Cert.PglIdeal.τ).loc Cert.PglIdeal.main_arg1) = m ((c.tc : Thread Cert.PglIdeal.nD Cert.PglIdeal.τ).loc Cert.PglIdeal.main_arg1))
      ∧ θ_run (Cert.PglRefIdeal.defs (F := Ideal)) (onTc (τ := Cert.PglRefIdeal.τ) (Cert.PglRefIdeal.main (F := Ideal))) ⟨m', fun _ => 0, g'⟩ (fun r => ∀ c : Dev Cert.PglRefIdeal.nD,
          r.2.mem ((c.tc : Thread Cert.PglRefIdeal.nD Cert.PglRefIdeal.τ).loc Cert.PglRefIdeal.main_v5) = v0 c
          ∧ r.2.mem ((c.tc : Thread Cert.PglRefIdeal.nD Cert.PglRefIdeal.τ).loc Cert.PglRefIdeal.main_arg0) = m' ((c.tc : Thread Cert.PglRefIdeal.nD Cert.PglRefIdeal.τ).loc Cert.PglRefIdeal.main_arg0)
          ∧ r.2.mem ((c.tc : Thread Cert.PglRefIdeal.nD Cert.PglRefIdeal.τ).loc Cert.PglRefIdeal.main_arg1) = m' ((c.tc : Thread Cert.PglRefIdeal.nD Cert.PglRefIdeal.τ).loc Cert.PglRefIdeal.main_arg1))

def preserves_Pr_PrIdeal : Prop :=
  True

def algebraic_PrIdeal_PrRefIdeal [hPrIdeal : Cert.PrIdeal.Facts] [hPrRefIdeal : Cert.PrRefIdeal.Facts] : Prop :=
  ∀ (m : (ℓ : Loc Cert.PrIdeal.nD Cert.PrIdeal.τ Cert.PrIdeal.sig) → Buf (Elt Ideal) ℓ) (g : Dev Cert.PrIdeal.nD → PrngReg)
    (m' : (ℓ : Loc Cert.PrRefIdeal.nD Cert.PrRefIdeal.τ Cert.PrRefIdeal.sig) → Buf (Elt Ideal) ℓ) (g' : Dev Cert.PrRefIdeal.nD → PrngReg), Pre_PrIdeal m →
    (∀ c : Dev Cert.PrIdeal.nD,
      m' ((c.tc : Thread Cert.PrRefIdeal.nD Cert.PrRefIdeal.τ).loc Cert.PrRefIdeal.main_arg0) = m ((c.tc : Thread Cert.PrIdeal.nD Cert.PrIdeal.τ).loc Cert.PrIdeal.main_arg0)
      ∧ m' ((c.tc : Thread Cert.PrRefIdeal.nD Cert.PrRefIdeal.τ).loc Cert.PrRefIdeal.main_arg1) = m ((c.tc : Thread Cert.PrIdeal.nD Cert.PrIdeal.τ).loc Cert.PrIdeal.main_arg1)) →
    ∃ (v0 : (c : Dev Cert.PrIdeal.nD) → Buf (Elt Ideal) ((c.tc : Thread Cert.PrIdeal.nD Cert.PrIdeal.τ).loc Cert.PrIdeal.main_v0)),
      θ_run (Cert.PrIdeal.defs (F := Ideal)) (onTc (τ := Cert.PrIdeal.τ) (Cert.PrIdeal.main (F := Ideal))) ⟨m, fun _ => 0, g⟩ (fun r => ∀ c : Dev Cert.PrIdeal.nD,
          r.2.mem ((c.tc : Thread Cert.PrIdeal.nD Cert.PrIdeal.τ).loc Cert.PrIdeal.main_v0) = v0 c
          ∧ r.2.mem ((c.tc : Thread Cert.PrIdeal.nD Cert.PrIdeal.τ).loc Cert.PrIdeal.main_arg0) = m ((c.tc : Thread Cert.PrIdeal.nD Cert.PrIdeal.τ).loc Cert.PrIdeal.main_arg0)
          ∧ r.2.mem ((c.tc : Thread Cert.PrIdeal.nD Cert.PrIdeal.τ).loc Cert.PrIdeal.main_arg1) = m ((c.tc : Thread Cert.PrIdeal.nD Cert.PrIdeal.τ).loc Cert.PrIdeal.main_arg1))
      ∧ θ_run (Cert.PrRefIdeal.defs (F := Ideal)) (onTc (τ := Cert.PrRefIdeal.τ) (Cert.PrRefIdeal.main (F := Ideal))) ⟨m', fun _ => 0, g'⟩ (fun r => ∀ c : Dev Cert.PrRefIdeal.nD,
          r.2.mem ((c.tc : Thread Cert.PrRefIdeal.nD Cert.PrRefIdeal.τ).loc Cert.PrRefIdeal.main_v3) = v0 c
          ∧ r.2.mem ((c.tc : Thread Cert.PrRefIdeal.nD Cert.PrRefIdeal.τ).loc Cert.PrRefIdeal.main_arg0) = m' ((c.tc : Thread Cert.PrRefIdeal.nD Cert.PrRefIdeal.τ).loc Cert.PrRefIdeal.main_arg0)
          ∧ r.2.mem ((c.tc : Thread Cert.PrRefIdeal.nD Cert.PrRefIdeal.τ).loc Cert.PrRefIdeal.main_arg1) = m' ((c.tc : Thread Cert.PrRefIdeal.nD Cert.PrRefIdeal.τ).loc Cert.PrRefIdeal.main_arg1))

def preserves_Dwple_DwpleIdeal : Prop :=
  True

def algebraic_DwpleIdeal_DwpleRefIdeal [hDwpleIdeal : Cert.DwpleIdeal.Facts] [hDwpleRefIdeal : Cert.DwpleRefIdeal.Facts] : Prop :=
  ∀ (m : (ℓ : Loc Cert.DwpleIdeal.nD Cert.DwpleIdeal.τ Cert.DwpleIdeal.sig) → Buf (Elt Ideal) ℓ) (g : Dev Cert.DwpleIdeal.nD → PrngReg)
    (m' : (ℓ : Loc Cert.DwpleRefIdeal.nD Cert.DwpleRefIdeal.τ Cert.DwpleRefIdeal.sig) → Buf (Elt Ideal) ℓ) (g' : Dev Cert.DwpleRefIdeal.nD → PrngReg), Pre_DwpleIdeal m →
    (∀ c : Dev Cert.DwpleIdeal.nD,
      m' ((c.tc : Thread Cert.DwpleRefIdeal.nD Cert.DwpleRefIdeal.τ).loc Cert.DwpleRefIdeal.main_arg0) = m ((c.tc : Thread Cert.DwpleIdeal.nD Cert.DwpleIdeal.τ).loc Cert.DwpleIdeal.main_arg0)
      ∧ m' ((c.tc : Thread Cert.DwpleRefIdeal.nD Cert.DwpleRefIdeal.τ).loc Cert.DwpleRefIdeal.main_arg1) = m ((c.tc : Thread Cert.DwpleIdeal.nD Cert.DwpleIdeal.τ).loc Cert.DwpleIdeal.main_arg1)
      ∧ m' ((c.tc : Thread Cert.DwpleRefIdeal.nD Cert.DwpleRefIdeal.τ).loc Cert.DwpleRefIdeal.main_arg2) = m ((c.tc : Thread Cert.DwpleIdeal.nD Cert.DwpleIdeal.τ).loc Cert.DwpleIdeal.main_arg2)) →
    ∃ (v0 : (c : Dev Cert.DwpleIdeal.nD) → Buf (Elt Ideal) ((c.tc : Thread Cert.DwpleIdeal.nD Cert.DwpleIdeal.τ).loc Cert.DwpleIdeal.main_v0)),
      θ_run (Cert.DwpleIdeal.defs (F := Ideal)) (onTc (τ := Cert.DwpleIdeal.τ) (Cert.DwpleIdeal.main (F := Ideal))) ⟨m, fun _ => 0, g⟩ (fun r => ∀ c : Dev Cert.DwpleIdeal.nD,
          r.2.mem ((c.tc : Thread Cert.DwpleIdeal.nD Cert.DwpleIdeal.τ).loc Cert.DwpleIdeal.main_v0) = v0 c
          ∧ r.2.mem ((c.tc : Thread Cert.DwpleIdeal.nD Cert.DwpleIdeal.τ).loc Cert.DwpleIdeal.main_arg0) = m ((c.tc : Thread Cert.DwpleIdeal.nD Cert.DwpleIdeal.τ).loc Cert.DwpleIdeal.main_arg0)
          ∧ r.2.mem ((c.tc : Thread Cert.DwpleIdeal.nD Cert.DwpleIdeal.τ).loc Cert.DwpleIdeal.main_arg1) = m ((c.tc : Thread Cert.DwpleIdeal.nD Cert.DwpleIdeal.τ).loc Cert.DwpleIdeal.main_arg1)
          ∧ r.2.mem ((c.tc : Thread Cert.DwpleIdeal.nD Cert.DwpleIdeal.τ).loc Cert.DwpleIdeal.main_arg2) = m ((c.tc : Thread Cert.DwpleIdeal.nD Cert.DwpleIdeal.τ).loc Cert.DwpleIdeal.main_arg2))
      ∧ θ_run (Cert.DwpleRefIdeal.defs (F := Ideal)) (onTc (τ := Cert.DwpleRefIdeal.τ) (Cert.DwpleRefIdeal.main (F := Ideal))) ⟨m', fun _ => 0, g'⟩ (fun r => ∀ c : Dev Cert.DwpleRefIdeal.nD,
          r.2.mem ((c.tc : Thread Cert.DwpleRefIdeal.nD Cert.DwpleRefIdeal.τ).loc Cert.DwpleRefIdeal.main_v6) = v0 c
          ∧ r.2.mem ((c.tc : Thread Cert.DwpleRefIdeal.nD Cert.DwpleRefIdeal.τ).loc Cert.DwpleRefIdeal.main_arg0) = m' ((c.tc : Thread Cert.DwpleRefIdeal.nD Cert.DwpleRefIdeal.τ).loc Cert.DwpleRefIdeal.main_arg0)
          ∧ r.2.mem ((c.tc : Thread Cert.DwpleRefIdeal.nD Cert.DwpleRefIdeal.τ).loc Cert.DwpleRefIdeal.main_arg1) = m' ((c.tc : Thread Cert.DwpleRefIdeal.nD Cert.DwpleRefIdeal.τ).loc Cert.DwpleRefIdeal.main_arg1)
          ∧ r.2.mem ((c.tc : Thread Cert.DwpleRefIdeal.nD Cert.DwpleRefIdeal.τ).loc Cert.DwpleRefIdeal.main_arg2) = m' ((c.tc : Thread Cert.DwpleRefIdeal.nD Cert.DwpleRefIdeal.τ).loc Cert.DwpleRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v3_0)) (v1 : (c : Dev Cert.RmsIdeal.nD) → Buf (Elt Ideal) ((c.tc : Thread Cert.RmsIdeal.nD Cert.RmsIdeal.τ).loc Cert.RmsIdeal.main_v3_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v3_0) = v0 c
          ∧ r.2.mem ((c.tc : Thread Cert.RmsIdeal.nD Cert.RmsIdeal.τ).loc Cert.RmsIdeal.main_v3_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v39) = v0 c
          ∧ r.2.mem ((c.tc : Thread Cert.RmsRefIdeal.nD Cert.RmsRefIdeal.τ).loc Cert.RmsRefIdeal.main_v40) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)) →
    ∃ (v0 : (c : Dev Cert.AdamGuIdeal.nD) → Buf (Elt Ideal) ((c.tc : Thread Cert.AdamGuIdeal.nD Cert.AdamGuIdeal.τ).loc Cert.AdamGuIdeal.main_v4_0)) (v1 : (c : Dev Cert.AdamGuIdeal.nD) → Buf (Elt Ideal) ((c.tc : Thread Cert.AdamGuIdeal.nD Cert.AdamGuIdeal.τ).loc Cert.AdamGuIdeal.main_v4_1)) (v2 : (c : Dev Cert.AdamGuIdeal.nD) → Buf (Elt Ideal) ((c.tc : Thread Cert.AdamGuIdeal.nD Cert.AdamGuIdeal.τ).loc Cert.AdamGuIdeal.main_v4_2)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v4_0) = v0 c
          ∧ r.2.mem ((c.tc : Thread Cert.AdamGuIdeal.nD Cert.AdamGuIdeal.τ).loc Cert.AdamGuIdeal.main_v4_1) = v1 c
          ∧ r.2.mem ((c.tc : Thread Cert.AdamGuIdeal.nD Cert.AdamGuIdeal.τ).loc Cert.AdamGuIdeal.main_v4_2) = v2 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v24) = v0 c
          ∧ r.2.mem ((c.tc : Thread Cert.AdamGuRefIdeal.nD Cert.AdamGuRefIdeal.τ).loc Cert.AdamGuRefIdeal.main_v25) = v1 c
          ∧ r.2.mem ((c.tc : Thread Cert.AdamGuRefIdeal.nD Cert.AdamGuRefIdeal.τ).loc Cert.AdamGuRefIdeal.main_v26) = v2 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamBr_AdamBrIdeal : Prop :=
  True

def algebraic_AdamBrIdeal_AdamBrRefIdeal [hAdamBrIdeal : Cert.AdamBrIdeal.Facts] [hAdamBrRefIdeal : Cert.AdamBrRefIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg)
    (m' : (ℓ : Loc Cert.AdamBrRefIdeal.nD Cert.AdamBrRefIdeal.τ Cert.AdamBrRefIdeal.sig) → Buf (Elt Ideal) ℓ) (g' : Dev Cert.AdamBrRefIdeal.nD → PrngReg), Pre_AdamBrIdeal m →
    (∀ c : Dev Cert.AdamBrIdeal.nD,
      m' ((c.tc : Thread Cert.AdamBrRefIdeal.nD Cert.AdamBrRefIdeal.τ).loc Cert.AdamBrRefIdeal.main_arg0) = m ((c.tc : Thread Cert.AdamBrIdeal.nD Cert.AdamBrIdeal.τ).loc Cert.AdamBrIdeal.main_arg0)
      ∧ m' ((c.tc : Thread Cert.AdamBrRefIdeal.nD Cert.AdamBrRefIdeal.τ).loc Cert.AdamBrRefIdeal.main_arg1) = m ((c.tc : Thread Cert.AdamBrIdeal.nD Cert.AdamBrIdeal.τ).loc Cert.AdamBrIdeal.main_arg1)
      ∧ m' ((c.tc : Thread Cert.AdamBrRefIdeal.nD Cert.AdamBrRefIdeal.τ).loc Cert.AdamBrRefIdeal.main_arg2) = m ((c.tc : Thread Cert.AdamBrIdeal.nD Cert.AdamBrIdeal.τ).loc Cert.AdamBrIdeal.main_arg2)
      ∧ m' ((c.tc : Thread Cert.AdamBrRefIdeal.nD Cert.AdamBrRefIdeal.τ).loc Cert.AdamBrRefIdeal.main_arg3) = m ((c.tc : Thread Cert.AdamBrIdeal.nD Cert.AdamBrIdeal.τ).loc Cert.AdamBrIdeal.main_arg3)) →
    ∃ (v0 : (c : Dev Cert.AdamBrIdeal.nD) → Buf (Elt Ideal) ((c.tc : Thread Cert.AdamBrIdeal.nD Cert.AdamBrIdeal.τ).loc Cert.AdamBrIdeal.main_v4_0)) (v1 : (c : Dev Cert.AdamBrIdeal.nD) → Buf (Elt Ideal) ((c.tc : Thread Cert.AdamBrIdeal.nD Cert.AdamBrIdeal.τ).loc Cert.AdamBrIdeal.main_v4_1)) (v2 : (c : Dev Cert.AdamBrIdeal.nD) → Buf (Elt Ideal) ((c.tc : Thread Cert.AdamBrIdeal.nD Cert.AdamBrIdeal.τ).loc Cert.AdamBrIdeal.main_v4_2)),
      θ_run (Cert.AdamBrIdeal.defs (F := Ideal)) (onTc (τ := Cert.AdamBrIdeal.τ) (Cert.AdamBrIdeal.main (F := Ideal))) ⟨m, fun _ => 0, g⟩ (fun r => ∀ c : Dev Cert.AdamBrIdeal.nD,
          r.2.mem ((c.tc : Thread Cert.AdamBrIdeal.nD Cert.AdamBrIdeal.τ).loc Cert.AdamBrIdeal.main_v4_0) = v0 c
          ∧ r.2.mem ((c.tc : Thread Cert.AdamBrIdeal.nD Cert.AdamBrIdeal.τ).loc Cert.AdamBrIdeal.main_v4_1) = v1 c
          ∧ r.2.mem ((c.tc : Thread Cert.AdamBrIdeal.nD Cert.AdamBrIdeal.τ).loc Cert.AdamBrIdeal.main_v4_2) = v2 c
          ∧ r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
          ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
          ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
          ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3))
      ∧ θ_run (Cert.AdamBrRefIdeal.defs (F := Ideal)) (onTc (τ := Cert.AdamBrRefIdeal.τ) (Cert.AdamBrRefIdeal.main (F := Ideal))) ⟨m', fun _ => 0, g'⟩ (fun r => ∀ c : Dev Cert.AdamBrRefIdeal.nD,
          r.2.mem ((c.tc : Thread Cert.AdamBrRefIdeal.nD Cert.AdamBrRefIdeal.τ).loc Cert.AdamBrRefIdeal.main_v24) = v0 c
          ∧ r.2.mem ((c.tc : Thread Cert.AdamBrRefIdeal.nD Cert.AdamBrRefIdeal.τ).loc Cert.AdamBrRefIdeal.main_v25) = v1 c
          ∧ r.2.mem ((c.tc : Thread Cert.AdamBrRefIdeal.nD Cert.AdamBrRefIdeal.τ).loc Cert.AdamBrRefIdeal.main_v26) = v2 c
          ∧ r.2.mem ((c.tc : Thread Cert.AdamBrRefIdeal.nD Cert.AdamBrRefIdeal.τ).loc Cert.AdamBrRefIdeal.main_arg0) = m' ((c.tc : Thread Cert.AdamBrRefIdeal.nD Cert.AdamBrRefIdeal.τ).loc Cert.AdamBrRefIdeal.main_arg0)
          ∧ r.2.mem ((c.tc : Thread Cert.AdamBrRefIdeal.nD Cert.AdamBrRefIdeal.τ).loc Cert.AdamBrRefIdeal.main_arg1) = m' ((c.tc : Thread Cert.AdamBrRefIdeal.nD Cert.AdamBrRefIdeal.τ).loc Cert.AdamBrRefIdeal.main_arg1)
          ∧ r.2.mem ((c.tc : Thread Cert.AdamBrRefIdeal.nD Cert.AdamBrRefIdeal.τ).loc Cert.AdamBrRefIdeal.main_arg2) = m' ((c.tc : Thread Cert.AdamBrRefIdeal.nD Cert.AdamBrRefIdeal.τ).loc Cert.AdamBrRefIdeal.main_arg2)
          ∧ r.2.mem ((c.tc : Thread Cert.AdamBrRefIdeal.nD Cert.AdamBrRefIdeal.τ).loc Cert.AdamBrRefIdeal.main_arg3) = m' ((c.tc : Thread Cert.AdamBrRefIdeal.nD Cert.AdamBrRefIdeal.τ).loc Cert.AdamBrRefIdeal.main_arg3))

def preserves_AdamBrD_AdamBrDIdeal : Prop :=
  True

def algebraic_AdamBrDIdeal_AdamBrDRefIdeal [hAdamBrDIdeal : Cert.AdamBrDIdeal.Facts] [hAdamBrDRefIdeal : Cert.AdamBrDRefIdeal.Facts] : Prop :=
  ∀ (m : (ℓ : Loc Cert.AdamBrDIdeal.nD Cert.AdamBrDIdeal.τ Cert.AdamBrDIdeal.sig) → Buf (Elt Ideal) ℓ) (g : Dev Cert.AdamBrDIdeal.nD → PrngReg)
    (m' : (ℓ : Loc Cert.AdamBrDRefIdeal.nD Cert.AdamBrDRefIdeal.τ Cert.AdamBrDRefIdeal.sig) → Buf (Elt Ideal) ℓ) (g' : Dev Cert.AdamBrDRefIdeal.nD → PrngReg), Pre_AdamBrDIdeal m →
    (∀ c : Dev Cert.AdamBrDIdeal.nD,
      m' ((c.tc : Thread Cert.AdamBrDRefIdeal.nD Cert.AdamBrDRefIdeal.τ).loc Cert.AdamBrDRefIdeal.main_arg0) = m ((c.tc : Thread Cert.AdamBrDIdeal.nD Cert.AdamBrDIdeal.τ).loc Cert.AdamBrDIdeal.main_arg0)
      ∧ m' ((c.tc : Thread Cert.AdamBrDRefIdeal.nD Cert.AdamBrDRefIdeal.τ).loc Cert.AdamBrDRefIdeal.main_arg1) = m ((c.tc : Thread Cert.AdamBrDIdeal.nD Cert.AdamBrDIdeal.τ).loc Cert.AdamBrDIdeal.main_arg1)
      ∧ m' ((c.tc : Thread Cert.AdamBrDRefIdeal.nD Cert.AdamBrDRefIdeal.τ).loc Cert.AdamBrDRefIdeal.main_arg2) = m ((c.tc : Thread Cert.AdamBrDIdeal.nD Cert.AdamBrDIdeal.τ).loc Cert.AdamBrDIdeal.main_arg2)
      ∧ m' ((c.tc : Thread Cert.AdamBrDRefIdeal.nD Cert.AdamBrDRefIdeal.τ).loc Cert.AdamBrDRefIdeal.main_arg3) = m ((c.tc : Thread Cert.AdamBrDIdeal.nD Cert.AdamBrDIdeal.τ).loc Cert.AdamBrDIdeal.main_arg3)) →
    ∃ (v0 : (c : Dev Cert.AdamBrDIdeal.nD) → Buf (Elt Ideal) ((c.tc : Thread Cert.AdamBrDIdeal.nD Cert.AdamBrDIdeal.τ).loc Cert.AdamBrDIdeal.main_v4_0)) (v1 : (c : Dev Cert.AdamBrDIdeal.nD) → Buf (Elt Ideal) ((c.tc : Thread Cert.AdamBrDIdeal.nD Cert.AdamBrDIdeal.τ).loc Cert.AdamBrDIdeal.main_v4_1)) (v2 : (c : Dev Cert.AdamBrDIdeal.nD) → Buf (Elt Ideal) ((c.tc : Thread Cert.AdamBrDIdeal.nD Cert.AdamBrDIdeal.τ).loc Cert.AdamBrDIdeal.main_v4_2)),
      θ_run (Cert.AdamBrDIdeal.defs (F := Ideal)) (onTc (τ := Cert.AdamBrDIdeal.τ) (Cert.AdamBrDIdeal.main (F := Ideal))) ⟨m, fun _ => 0, g⟩ (fun r => ∀ c : Dev Cert.AdamBrDIdeal.nD,
          r.2.mem ((c.tc : Thread Cert.AdamBrDIdeal.nD Cert.AdamBrDIdeal.τ).loc Cert.AdamBrDIdeal.main_v4_0) = v0 c
          ∧ r.2.mem ((c.tc : Thread Cert.AdamBrDIdeal.nD Cert.AdamBrDIdeal.τ).loc Cert.AdamBrDIdeal.main_v4_1) = v1 c
          ∧ r.2.mem ((c.tc : Thread Cert.AdamBrDIdeal.nD Cert.AdamBrDIdeal.τ).loc Cert.AdamBrDIdeal.main_v4_2) = v2 c
          ∧ r.2.mem ((c.tc : Thread Cert.AdamBrDIdeal.nD Cert.AdamBrDIdeal.τ).loc Cert.AdamBrDIdeal.main_arg0) = m ((c.tc : Thread Cert.AdamBrDIdeal.nD Cert.AdamBrDIdeal.τ).loc Cert.AdamBrDIdeal.main_arg0)
          ∧ r.2.mem ((c.tc : Thread Cert.AdamBrDIdeal.nD Cert.AdamBrDIdeal.τ).loc Cert.AdamBrDIdeal.main_arg1) = m ((c.tc : Thread Cert.AdamBrDIdeal.nD Cert.AdamBrDIdeal.τ).loc Cert.AdamBrDIdeal.main_arg1)
          ∧ r.2.mem ((c.tc : Thread Cert.AdamBrDIdeal.nD Cert.AdamBrDIdeal.τ).loc Cert.AdamBrDIdeal.main_arg2) = m ((c.tc : Thread Cert.AdamBrDIdeal.nD Cert.AdamBrDIdeal.τ).loc Cert.AdamBrDIdeal.main_arg2)
          ∧ r.2.mem ((c.tc : Thread Cert.AdamBrDIdeal.nD Cert.AdamBrDIdeal.τ).loc Cert.AdamBrDIdeal.main_arg3) = m ((c.tc : Thread Cert.AdamBrDIdeal.nD Cert.AdamBrDIdeal.τ).loc Cert.AdamBrDIdeal.main_arg3))
      ∧ θ_run (Cert.AdamBrDRefIdeal.defs (F := Ideal)) (onTc (τ := Cert.AdamBrDRefIdeal.τ) (Cert.AdamBrDRefIdeal.main (F := Ideal))) ⟨m', fun _ => 0, g'⟩ (fun r => ∀ c : Dev Cert.AdamBrDRefIdeal.nD,
          r.2.mem ((c.tc : Thread Cert.AdamBrDRefIdeal.nD Cert.AdamBrDRefIdeal.τ).loc Cert.AdamBrDRefIdeal.main_v24) = v0 c
          ∧ r.2.mem ((c.tc : Thread Cert.AdamBrDRefIdeal.nD Cert.AdamBrDRefIdeal.τ).loc Cert.AdamBrDRefIdeal.main_v25) = v1 c
          ∧ r.2.mem ((c.tc : Thread Cert.AdamBrDRefIdeal.nD Cert.AdamBrDRefIdeal.τ).loc Cert.AdamBrDRefIdeal.main_v26) = v2 c
          ∧ r.2.mem ((c.tc : Thread Cert.AdamBrDRefIdeal.nD Cert.AdamBrDRefIdeal.τ).loc Cert.AdamBrDRefIdeal.main_arg0) = m' ((c.tc : Thread Cert.AdamBrDRefIdeal.nD Cert.AdamBrDRefIdeal.τ).loc Cert.AdamBrDRefIdeal.main_arg0)
          ∧ r.2.mem ((c.tc : Thread Cert.AdamBrDRefIdeal.nD Cert.AdamBrDRefIdeal.τ).loc Cert.AdamBrDRefIdeal.main_arg1) = m' ((c.tc : Thread Cert.AdamBrDRefIdeal.nD Cert.AdamBrDRefIdeal.τ).loc Cert.AdamBrDRefIdeal.main_arg1)
          ∧ r.2.mem ((c.tc : Thread Cert.AdamBrDRefIdeal.nD Cert.AdamBrDRefIdeal.τ).loc Cert.AdamBrDRefIdeal.main_arg2) = m' ((c.tc : Thread Cert.AdamBrDRefIdeal.nD Cert.AdamBrDRefIdeal.τ).loc Cert.AdamBrDRefIdeal.main_arg2)
          ∧ r.2.mem ((c.tc : Thread Cert.AdamBrDRefIdeal.nD Cert.AdamBrDRefIdeal.τ).loc Cert.AdamBrDRefIdeal.main_arg3) = m' ((c.tc : Thread Cert.AdamBrDRefIdeal.nD Cert.AdamBrDRefIdeal.τ).loc Cert.AdamBrDRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v4_0)) (v1 : (c : Dev Cert.AdamOIdeal.nD) → Buf (Elt Ideal) ((c.tc : Thread Cert.AdamOIdeal.nD Cert.AdamOIdeal.τ).loc Cert.AdamOIdeal.main_v4_1)) (v2 : (c : Dev Cert.AdamOIdeal.nD) → Buf (Elt Ideal) ((c.tc : Thread Cert.AdamOIdeal.nD Cert.AdamOIdeal.τ).loc Cert.AdamOIdeal.main_v4_2)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v4_0) = v0 c
          ∧ r.2.mem ((c.tc : Thread Cert.AdamOIdeal.nD Cert.AdamOIdeal.τ).loc Cert.AdamOIdeal.main_v4_1) = v1 c
          ∧ r.2.mem ((c.tc : Thread Cert.AdamOIdeal.nD Cert.AdamOIdeal.τ).loc Cert.AdamOIdeal.main_v4_2) = v2 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v24) = v0 c
          ∧ r.2.mem ((c.tc : Thread Cert.AdamORefIdeal.nD Cert.AdamORefIdeal.τ).loc Cert.AdamORefIdeal.main_v25) = v1 c
          ∧ r.2.mem ((c.tc : Thread Cert.AdamORefIdeal.nD Cert.AdamORefIdeal.τ).loc Cert.AdamORefIdeal.main_v26) = v2 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v68_0)) (v1 : (c : Dev Cert.FoxIdeal.nD) → Buf (Elt Ideal) ((c.tc : Thread Cert.FoxIdeal.nD Cert.FoxIdeal.τ).loc Cert.FoxIdeal.main_v68_1)) (v2 : (c : Dev Cert.FoxIdeal.nD) → Buf (Elt Ideal) ((c.tc : Thread Cert.FoxIdeal.nD Cert.FoxIdeal.τ).loc Cert.FoxIdeal.main_v68_2)) (v3 : (c : Dev Cert.FoxIdeal.nD) → Buf (Elt Ideal) ((c.tc : Thread Cert.FoxIdeal.nD Cert.FoxIdeal.τ).loc Cert.FoxIdeal.main_v68_3)) (v4 : (c : Dev Cert.FoxIdeal.nD) → Buf (Elt Ideal) ((c.tc : Thread Cert.FoxIdeal.nD Cert.FoxIdeal.τ).loc Cert.FoxIdeal.main_v68_4)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v68_0) = v0 c
          ∧ r.2.mem ((c.tc : Thread Cert.FoxIdeal.nD Cert.FoxIdeal.τ).loc Cert.FoxIdeal.main_v68_1) = v1 c
          ∧ r.2.mem ((c.tc : Thread Cert.FoxIdeal.nD Cert.FoxIdeal.τ).loc Cert.FoxIdeal.main_v68_2) = v2 c
          ∧ r.2.mem ((c.tc : Thread Cert.FoxIdeal.nD Cert.FoxIdeal.τ).loc Cert.FoxIdeal.main_v68_3) = v3 c
          ∧ r.2.mem ((c.tc : Thread Cert.FoxIdeal.nD Cert.FoxIdeal.τ).loc Cert.FoxIdeal.main_v68_4) = v4 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v89) = v0 c
          ∧ r.2.mem ((c.tc : Thread Cert.FoxRefIdeal.nD Cert.FoxRefIdeal.τ).loc Cert.FoxRefIdeal.main_v91) = v1 c
          ∧ r.2.mem ((c.tc : Thread Cert.FoxRefIdeal.nD Cert.FoxRefIdeal.τ).loc Cert.FoxRefIdeal.main_v93) = v2 c
          ∧ r.2.mem ((c.tc : Thread Cert.FoxRefIdeal.nD Cert.FoxRefIdeal.τ).loc Cert.FoxRefIdeal.main_v94) = v3 c
          ∧ r.2.mem ((c.tc : Thread Cert.FoxRefIdeal.nD Cert.FoxRefIdeal.τ).loc Cert.FoxRefIdeal.main_v95) = v4 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def Claim : Prop :=
  ∃ (hMerge : Cert.Merge.Facts) (hMergeIdeal : Cert.MergeIdeal.Facts) (hMergeRefIdeal : Cert.MergeRefIdeal.Facts) (hFfnDa : Cert.FfnDa.Facts) (hFfnDaIdeal : Cert.FfnDaIdeal.Facts) (hFfnDaRefIdeal : Cert.FfnDaRefIdeal.Facts) (hFfnDn : Cert.FfnDn.Facts) (hFfnDnIdeal : Cert.FfnDnIdeal.Facts) (hFfnDnRefIdeal : Cert.FfnDnRefIdeal.Facts) (hFfnDwDown : Cert.FfnDwDown.Facts) (hFfnDwDownIdeal : Cert.FfnDwDownIdeal.Facts) (hFfnDwDownRefIdeal : Cert.FfnDwDownRefIdeal.Facts) (hFfnDwGu : Cert.FfnDwGu.Facts) (hFfnDwGuIdeal : Cert.FfnDwGuIdeal.Facts) (hFfnDwGuRefIdeal : Cert.FfnDwGuRefIdeal.Facts) (hDu : Cert.Du.Facts) (hDuIdeal : Cert.DuIdeal.Facts) (hDuRefIdeal : Cert.DuRefIdeal.Facts) (hDwin : Cert.Dwin.Facts) (hDwinIdeal : Cert.DwinIdeal.Facts) (hDwinRefIdeal : Cert.DwinRefIdeal.Facts) (hDmo : Cert.Dmo.Facts) (hDmoIdeal : Cert.DmoIdeal.Facts) (hDmoRefIdeal : Cert.DmoRefIdeal.Facts) (hDwo : Cert.Dwo.Facts) (hDwoIdeal : Cert.DwoIdeal.Facts) (hDwoRefIdeal : Cert.DwoRefIdeal.Facts) (hDyA : Cert.DyA.Facts) (hDyAIdeal : Cert.DyAIdeal.Facts) (hDyARefIdeal : Cert.DyARefIdeal.Facts) (hDwBrA : Cert.DwBrA.Facts) (hDwBrAIdeal : Cert.DwBrAIdeal.Facts) (hDwBrARefIdeal : Cert.DwBrARefIdeal.Facts) (hDyD : Cert.DyD.Facts) (hDyDIdeal : Cert.DyDIdeal.Facts) (hDyDRefIdeal : Cert.DyDRefIdeal.Facts) (hDwBrD : Cert.DwBrD.Facts) (hDwBrDIdeal : Cert.DwBrDIdeal.Facts) (hDwBrDRefIdeal : Cert.DwBrDRefIdeal.Facts) (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hBrA : Cert.BrA.Facts) (hBrAIdeal : Cert.BrAIdeal.Facts) (hBrARefIdeal : Cert.BrARefIdeal.Facts) (hBrD : Cert.BrD.Facts) (hBrDIdeal : Cert.BrDIdeal.Facts) (hBrDRefIdeal : Cert.BrDRefIdeal.Facts) (hMo : Cert.Mo.Facts) (hMoIdeal : Cert.MoIdeal.Facts) (hMoRefIdeal : Cert.MoRefIdeal.Facts) (hPgl : Cert.Pgl.Facts) (hPglIdeal : Cert.PglIdeal.Facts) (hPglRefIdeal : Cert.PglRefIdeal.Facts) (hPr : Cert.Pr.Facts) (hPrIdeal : Cert.PrIdeal.Facts) (hPrRefIdeal : Cert.PrRefIdeal.Facts) (hDwple : Cert.Dwple.Facts) (hDwpleIdeal : Cert.DwpleIdeal.Facts) (hDwpleRefIdeal : Cert.DwpleRefIdeal.Facts) (hRms : Cert.Rms.Facts) (hRmsIdeal : Cert.RmsIdeal.Facts) (hRmsRefIdeal : Cert.RmsRefIdeal.Facts) (hAdamGu : Cert.AdamGu.Facts) (hAdamGuIdeal : Cert.AdamGuIdeal.Facts) (hAdamGuRefIdeal : Cert.AdamGuRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamBr : Cert.AdamBr.Facts) (hAdamBrIdeal : Cert.AdamBrIdeal.Facts) (hAdamBrRefIdeal : Cert.AdamBrRefIdeal.Facts) (hAdamBrD : Cert.AdamBrD.Facts) (hAdamBrDIdeal : Cert.AdamBrDIdeal.Facts) (hAdamBrDRefIdeal : Cert.AdamBrDRefIdeal.Facts) (hAdamO : Cert.AdamO.Facts) (hAdamOIdeal : Cert.AdamOIdeal.Facts) (hAdamORefIdeal : Cert.AdamORefIdeal.Facts) (hAdamSmall : Cert.AdamSmall.Facts) (hAdamSmallIdeal : Cert.AdamSmallIdeal.Facts) (hAdamSmallRefIdeal : Cert.AdamSmallRefIdeal.Facts) (hFox : Cert.Fox.Facts) (hFoxIdeal : Cert.FoxIdeal.Facts) (hFoxRefIdeal : Cert.FoxRefIdeal.Facts) (hPre_finite : Cert.Pre_finite.Facts),
    quiescent_Merge (hMerge := hMerge)
    ∧ quiescent_MergeIdeal (hMergeIdeal := hMergeIdeal)
    ∧ quiescent_MergeRefIdeal (hMergeRefIdeal := hMergeRefIdeal)
    ∧ quiescent_FfnDa (hFfnDa := hFfnDa)
    ∧ quiescent_FfnDaIdeal (hFfnDaIdeal := hFfnDaIdeal)
    ∧ quiescent_FfnDaRefIdeal (hFfnDaRefIdeal := hFfnDaRefIdeal)
    ∧ quiescent_FfnDn (hFfnDn := hFfnDn)
    ∧ quiescent_FfnDnIdeal (hFfnDnIdeal := hFfnDnIdeal)
    ∧ quiescent_FfnDnRefIdeal (hFfnDnRefIdeal := hFfnDnRefIdeal)
    ∧ quiescent_FfnDwDown (hFfnDwDown := hFfnDwDown)
    ∧ quiescent_FfnDwDownIdeal (hFfnDwDownIdeal := hFfnDwDownIdeal)
    ∧ quiescent_FfnDwDownRefIdeal (hFfnDwDownRefIdeal := hFfnDwDownRefIdeal)
    ∧ quiescent_FfnDwGu (hFfnDwGu := hFfnDwGu)
    ∧ quiescent_FfnDwGuIdeal (hFfnDwGuIdeal := hFfnDwGuIdeal)
    ∧ quiescent_FfnDwGuRefIdeal (hFfnDwGuRefIdeal := hFfnDwGuRefIdeal)
    ∧ quiescent_Du (hDu := hDu)
    ∧ quiescent_DuIdeal (hDuIdeal := hDuIdeal)
    ∧ quiescent_DuRefIdeal (hDuRefIdeal := hDuRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dmo (hDmo := hDmo)
    ∧ quiescent_DmoIdeal (hDmoIdeal := hDmoIdeal)
    ∧ quiescent_DmoRefIdeal (hDmoRefIdeal := hDmoRefIdeal)
    ∧ quiescent_Dwo (hDwo := hDwo)
    ∧ quiescent_DwoIdeal (hDwoIdeal := hDwoIdeal)
    ∧ quiescent_DwoRefIdeal (hDwoRefIdeal := hDwoRefIdeal)
    ∧ quiescent_DyA (hDyA := hDyA)
    ∧ quiescent_DyAIdeal (hDyAIdeal := hDyAIdeal)
    ∧ quiescent_DyARefIdeal (hDyARefIdeal := hDyARefIdeal)
    ∧ quiescent_DwBrA (hDwBrA := hDwBrA)
    ∧ quiescent_DwBrAIdeal (hDwBrAIdeal := hDwBrAIdeal)
    ∧ quiescent_DwBrARefIdeal (hDwBrARefIdeal := hDwBrARefIdeal)
    ∧ quiescent_DyD (hDyD := hDyD)
    ∧ quiescent_DyDIdeal (hDyDIdeal := hDyDIdeal)
    ∧ quiescent_DyDRefIdeal (hDyDRefIdeal := hDyDRefIdeal)
    ∧ quiescent_DwBrD (hDwBrD := hDwBrD)
    ∧ quiescent_DwBrDIdeal (hDwBrDIdeal := hDwBrDIdeal)
    ∧ quiescent_DwBrDRefIdeal (hDwBrDRefIdeal := hDwBrDRefIdeal)
    ∧ quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_BrA (hBrA := hBrA)
    ∧ quiescent_BrAIdeal (hBrAIdeal := hBrAIdeal)
    ∧ quiescent_BrARefIdeal (hBrARefIdeal := hBrARefIdeal)
    ∧ quiescent_BrD (hBrD := hBrD)
    ∧ quiescent_BrDIdeal (hBrDIdeal := hBrDIdeal)
    ∧ quiescent_BrDRefIdeal (hBrDRefIdeal := hBrDRefIdeal)
    ∧ quiescent_Mo (hMo := hMo)
    ∧ quiescent_MoIdeal (hMoIdeal := hMoIdeal)
    ∧ quiescent_MoRefIdeal (hMoRefIdeal := hMoRefIdeal)
    ∧ quiescent_Pgl (hPgl := hPgl)
    ∧ quiescent_PglIdeal (hPglIdeal := hPglIdeal)
    ∧ quiescent_PglRefIdeal (hPglRefIdeal := hPglRefIdeal)
    ∧ quiescent_Pr (hPr := hPr)
    ∧ quiescent_PrIdeal (hPrIdeal := hPrIdeal)
    ∧ quiescent_PrRefIdeal (hPrRefIdeal := hPrRefIdeal)
    ∧ quiescent_Dwple (hDwple := hDwple)
    ∧ quiescent_DwpleIdeal (hDwpleIdeal := hDwpleIdeal)
    ∧ quiescent_DwpleRefIdeal (hDwpleRefIdeal := hDwpleRefIdeal)
    ∧ quiescent_Rms (hRms := hRms)
    ∧ quiescent_RmsIdeal (hRmsIdeal := hRmsIdeal)
    ∧ quiescent_RmsRefIdeal (hRmsRefIdeal := hRmsRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBr (hAdamBr := hAdamBr)
    ∧ quiescent_AdamBrIdeal (hAdamBrIdeal := hAdamBrIdeal)
    ∧ quiescent_AdamBrRefIdeal (hAdamBrRefIdeal := hAdamBrRefIdeal)
    ∧ quiescent_AdamBrD (hAdamBrD := hAdamBrD)
    ∧ quiescent_AdamBrDIdeal (hAdamBrDIdeal := hAdamBrDIdeal)
    ∧ quiescent_AdamBrDRefIdeal (hAdamBrDRefIdeal := hAdamBrDRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ preserves_Merge_MergeIdeal
    ∧ algebraic_MergeIdeal_MergeRefIdeal (hMergeIdeal := hMergeIdeal) (hMergeRefIdeal := hMergeRefIdeal)
    ∧ preserves_FfnDa_FfnDaIdeal
    ∧ algebraic_FfnDaIdeal_FfnDaRefIdeal (hFfnDaIdeal := hFfnDaIdeal) (hFfnDaRefIdeal := hFfnDaRefIdeal)
    ∧ preserves_FfnDn_FfnDnIdeal
    ∧ algebraic_FfnDnIdeal_FfnDnRefIdeal (hFfnDnIdeal := hFfnDnIdeal) (hFfnDnRefIdeal := hFfnDnRefIdeal)
    ∧ preserves_FfnDwDown_FfnDwDownIdeal
    ∧ algebraic_FfnDwDownIdeal_FfnDwDownRefIdeal (hFfnDwDownIdeal := hFfnDwDownIdeal) (hFfnDwDownRefIdeal := hFfnDwDownRefIdeal)
    ∧ preserves_FfnDwGu_FfnDwGuIdeal
    ∧ algebraic_FfnDwGuIdeal_FfnDwGuRefIdeal (hFfnDwGuIdeal := hFfnDwGuIdeal) (hFfnDwGuRefIdeal := hFfnDwGuRefIdeal)
    ∧ preserves_Du_DuIdeal
    ∧ algebraic_DuIdeal_DuRefIdeal (hDuIdeal := hDuIdeal) (hDuRefIdeal := hDuRefIdeal)
    ∧ preserves_Dwin_DwinIdeal
    ∧ algebraic_DwinIdeal_DwinRefIdeal (hDwinIdeal := hDwinIdeal) (hDwinRefIdeal := hDwinRefIdeal)
    ∧ preserves_Dmo_DmoIdeal
    ∧ algebraic_DmoIdeal_DmoRefIdeal (hDmoIdeal := hDmoIdeal) (hDmoRefIdeal := hDmoRefIdeal)
    ∧ preserves_Dwo_DwoIdeal
    ∧ algebraic_DwoIdeal_DwoRefIdeal (hDwoIdeal := hDwoIdeal) (hDwoRefIdeal := hDwoRefIdeal)
    ∧ preserves_DyA_DyAIdeal
    ∧ algebraic_DyAIdeal_DyARefIdeal (hDyAIdeal := hDyAIdeal) (hDyARefIdeal := hDyARefIdeal)
    ∧ preserves_DwBrA_DwBrAIdeal
    ∧ algebraic_DwBrAIdeal_DwBrARefIdeal (hDwBrAIdeal := hDwBrAIdeal) (hDwBrARefIdeal := hDwBrARefIdeal)
    ∧ preserves_DyD_DyDIdeal
    ∧ algebraic_DyDIdeal_DyDRefIdeal (hDyDIdeal := hDyDIdeal) (hDyDRefIdeal := hDyDRefIdeal)
    ∧ preserves_DwBrD_DwBrDIdeal
    ∧ algebraic_DwBrDIdeal_DwBrDRefIdeal (hDwBrDIdeal := hDwBrDIdeal) (hDwBrDRefIdeal := hDwBrDRefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_BrA_BrAIdeal
    ∧ algebraic_BrAIdeal_BrARefIdeal (hBrAIdeal := hBrAIdeal) (hBrARefIdeal := hBrARefIdeal)
    ∧ preserves_BrD_BrDIdeal
    ∧ algebraic_BrDIdeal_BrDRefIdeal (hBrDIdeal := hBrDIdeal) (hBrDRefIdeal := hBrDRefIdeal)
    ∧ preserves_Mo_MoIdeal
    ∧ algebraic_MoIdeal_MoRefIdeal (hMoIdeal := hMoIdeal) (hMoRefIdeal := hMoRefIdeal)
    ∧ preserves_Pgl_PglIdeal
    ∧ algebraic_PglIdeal_PglRefIdeal (hPglIdeal := hPglIdeal) (hPglRefIdeal := hPglRefIdeal)
    ∧ preserves_Pr_PrIdeal
    ∧ algebraic_PrIdeal_PrRefIdeal (hPrIdeal := hPrIdeal) (hPrRefIdeal := hPrRefIdeal)
    ∧ preserves_Dwple_DwpleIdeal
    ∧ algebraic_DwpleIdeal_DwpleRefIdeal (hDwpleIdeal := hDwpleIdeal) (hDwpleRefIdeal := hDwpleRefIdeal)
    ∧ preserves_Rms_RmsIdeal
    ∧ algebraic_RmsIdeal_RmsRefIdeal (hRmsIdeal := hRmsIdeal) (hRmsRefIdeal := hRmsRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamBr_AdamBrIdeal
    ∧ algebraic_AdamBrIdeal_AdamBrRefIdeal (hAdamBrIdeal := hAdamBrIdeal) (hAdamBrRefIdeal := hAdamBrRefIdeal)
    ∧ preserves_AdamBrD_AdamBrDIdeal
    ∧ algebraic_AdamBrDIdeal_AdamBrDRefIdeal (hAdamBrDIdeal := hAdamBrDIdeal) (hAdamBrDRefIdeal := hAdamBrDRefIdeal)
    ∧ preserves_AdamO_AdamOIdeal
    ∧ algebraic_AdamOIdeal_AdamORefIdeal (hAdamOIdeal := hAdamOIdeal) (hAdamORefIdeal := hAdamORefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Fox_FoxIdeal
    ∧ algebraic_FoxIdeal_FoxRefIdeal_pre_finite (hFoxIdeal := hFoxIdeal) (hFoxRefIdeal := hFoxRefIdeal) (hPre_finite := hPre_finite)
-- ==== Pre_finite.lean ====
abbrev S8192x7168 : Shape := ⟨2, ![8192, 7168]⟩
abbrev S4x4x2048 : Shape := ⟨3, ![4, 4, 2048]⟩
abbrev S8192x256 : Shape := ⟨2, ![8192, 256]⟩
abbrev S8192x768 : Shape := ⟨2, ![8192, 768]⟩
abbrev S_ : Shape := ⟨0, ![]⟩

class Facts : Prop where
  slices_S8192x7168_S8192x768_0_4096 : S8192x7168.Slices ![0, 4096] S8192x768
  bitsLt_bf16_f32 : FTy.bits .bf16 < FTy.bits .f32
  bcast_S_S8192x768 : S_.BroadcastsInDim S8192x768 (![] : Fin 0 → Fin S8192x768.rank)
  bcast_S_S4x4x2048 : S_.BroadcastsInDim S4x4x2048 (![] : Fin 0 → Fin S4x4x2048.rank)
  bcast_S_S8192x256 : S_.BroadcastsInDim S8192x256 (![] : Fin 0 → Fin S8192x256.rank)

variable [Facts]

def fn {F : FTy → Type} [FloatOps F] (main_arg0 : FVec F S8192x7168 .bf16) (main_arg1 : FVec F S4x4x2048 .f32) (main_arg2 : FVec F S8192x256 .bf16) : IVec S8192x768 1 × IVec S4x4x2048 1 × IVec S8192x256 1 :=
  let main_v0 : FVec F S8192x768 .bf16 := (extractStridedSlice S8192x768 ![0, 4096] · slices_S8192x7168_S8192x768_0_4096) main_arg0
  let main_v1 : FVec F S8192x768 .f32 := (extf .f32 · bitsLt_bf16_f32) main_v0
  let main_v2 : FVec F S8192x256 .f32 := (extf .f32 · bitsLt_bf16_f32) main_arg2
  let main_cst : FVec F S_ .f32 := constant S_ .f32 0xFF800000#32
  let main_v3 : FVec F S8192x768 .f32 := broadcastInDim S8192x768 ![] bcast_S_S8192x768 main_cst
  let main_v4 : IVec S8192x768 1 := cmpf .ogt main_v1 main_v3
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v1 main_v5
  let main_v7 : IVec S8192x768 1 := andi main_v4 main_v6
  let main_cst_1 : FVec F S_ .f32 := constant S_ .f32 0xFF800000#32
  let main_v8 : FVec F S4x4x2048 .f32 := broadcastInDim S4x4x2048 ![] bcast_S_S4x4x2048 main_cst_1
  let main_v9 : IVec S4x4x2048 1 := cmpf .ogt main_arg1 main_v8
  let main_cst_2 : FVec F S_ .f32 := constant S_ .f32 0x7F800000#32
  let main_v10 : FVec F S4x4x2048 .f32 := broadcastInDim S4x4x2048 ![] bcast_S_S4x4x2048 main_cst_2
  let main_v11 : IVec S4x4x2048 1 := cmpf .olt main_arg1 main_v10
  let main_v12 : IVec S4x4x2048 1 := andi main_v9 main_v11
  let main_cst_3 : FVec F S_ .f32 := constant S_ .f32 0xFF800000#32
  let main_v13 : FVec F S8192x256 .f32 := broadcastInDim S8192x256 ![] bcast_S_S8192x256 main_cst_3
  let main_v14 : IVec S8192x256 1 := cmpf .ogt main_v2 main_v13
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v2 main_v15
  let main_v17 : IVec S8192x256 1 := andi main_v14 main_v16
  (main_v7, main_v12, main_v17)
-- ==== Merge.lean ====
abbrev S8192x7168 : Shape := ⟨2, ![8192, 7168]⟩
abbrev S8192x1024 : Shape := ⟨2, ![8192, 1024]⟩
abbrev S4096 : Shape := ⟨1, ![4096]⟩
abbrev S1024 : Shape := ⟨1, ![1024]⟩
abbrev S1x1024 : Shape := ⟨2, ![1, 1024]⟩
abbrev S256x1024 : Shape := ⟨2, ![256, 1024]⟩

abbrev nBuf : Space → Nat
  | .hbm => 27
  | .vmem => 42
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S4096, .f32⟩
  | .hbm, ⟨6, _⟩ => ⟨S8192x1024, .bf16⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev main_v8_7 : Ref sig .tc := ⟨.hbm, 22, rfl⟩
abbrev main_v8_8 : Ref sig .tc := ⟨.hbm, 23, rfl⟩
abbrev main_v8_9 : Ref sig .tc := ⟨.hbm, 24, rfl⟩
abbrev main_v8_10 : Ref sig .tc := ⟨.hbm, 25, rfl⟩
abbrev main_v8_11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem22_0 : DmaSem sig := 39
abbrev cc0_sem23_0 : DmaSem sig := 40
abbrev cc0_sem24_0 : DmaSem sig := 41

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v86 : BitVec 1 := Scalar.cmpi .eq arg0 c0_i32
  let v87 : BitVec 32 := Scalar.extui v86
  let c0_i32_48 : BitVec 32 := 0#32
  let v88 : BitVec 1 := Scalar.cmpi .ne v87 c0_i32_48
  v88

def k0_cond2 (i : grid0.Coords) : BitVec 1 :=
  let arg0 : BitVec 32 := BitVec.ofNat 32 (i 0).val
  let c0_i32 : BitVec 32 := 0#32
  let v86 : BitVec 1 := Scalar.cmpi .eq arg0 c0_i32
  let v_true : BitVec 1 := 1#1
  let v89 : BitVec 1 := Scalar.xori v86 v_true
  let v90 : BitVec 32 := Scalar.extui v89
  let c0_i32_49 : BitVec 32 := 0#32
  let v91 : BitVec 1 := Scalar.cmpi .ne v90 c0_i32_49
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MergeRefIdeal.lean ====
abbrev S8192x7168 : Shape := ⟨2, ![8192, 7168]⟩
abbrev S8192x1024 : Shape := ⟨2, ![8192, 1024]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S8192x4x1024 : Shape := ⟨3, ![8192, 4, 1024]⟩
abbrev S8192x1x1024 : Shape := ⟨3, ![8192, 1, 1024]⟩
abbrev S1024 : Shape := ⟨1, ![1024]⟩
abbrev S1x1024 : Shape := ⟨2, ![1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S4096, .f32⟩
  | .hbm, ⟨6, _⟩ => ⟨S8192x1024, .bf16⟩
  | .hbm, ⟨7, _⟩ => ⟨S8192x4096, .bf16⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1x1024, .f32⟩
  | .hbm, ⟨48, _⟩ => ⟨S_, .f32⟩
  | .hbm, ⟨49, _⟩ => ⟨S8192x4x1024, .f32⟩
  | .hbm, ⟨50, _⟩ => ⟨S8192x1024, .f32⟩
  | .hbm, ⟨51, _⟩ => ⟨S8192x1024, .f32⟩
  | .hbm, ⟨52, _⟩ => ⟨S8192x1x1024, .f32⟩
  | .hbm, ⟨53, _⟩ => ⟨S_, .f32⟩
  | .hbm, ⟨54, _⟩ => ⟨S8192x4x1024, .f32⟩
  | .hbm, ⟨55, _⟩ => ⟨S8192x4x1024, .f32⟩
  | .hbm, ⟨56, _⟩ => ⟨S8192x1024, .f32⟩
  | .hbm, ⟨57, _⟩ => ⟨S8192x1024, .f32⟩
  | .hbm, ⟨58, _⟩ => ⟨S8192x1x1024, .f32⟩
  | .hbm, ⟨59, _⟩ => ⟨S_, .f32⟩
  | .hbm, ⟨60, _⟩ => ⟨S8192x4x1024, .f32⟩
  | .hbm, ⟨61, _⟩ => ⟨S8192x4x1024, .f32⟩
  | .hbm, ⟨62, _⟩ => ⟨S8192x1024, .f32⟩
  | .hbm, ⟨63, _⟩ => ⟨S8192x1024, .f32⟩
  | .hbm, ⟨64, _⟩ => ⟨S8192x1x1024, .f32⟩
  | .hbm, ⟨65, _⟩ => ⟨S_, .f32⟩
  | .hbm, ⟨66, _⟩ => ⟨S8192x4x1024, .f32⟩
  | .hbm, ⟨67, _⟩ => ⟨S8192x4x1024, .f32⟩
  | .hbm, ⟨68, _⟩ => ⟨S8192x4096, .f32⟩
  | .hbm, ⟨69, _⟩ => ⟨S8192x4096, .f32⟩
  | .hbm, ⟨70, _⟩ => ⟨S_, .f32⟩
  | .hbm, ⟨71, _⟩ => ⟨S4096, .f32⟩
  | .hbm, ⟨72, _⟩ => ⟨S1x4096, .f32⟩
  | .hbm, ⟨73, _⟩ => ⟨S_, .f32⟩
  | .hbm, ⟨74, _⟩ => ⟨S4096, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1024, .f32⟩
  | .hbm, ⟨80, _⟩ => ⟨S1x1024, .f32⟩
  | .hbm, ⟨81, _⟩ => ⟨S1024, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S1024, .f32⟩
  | .hbm, ⟨86, _⟩ => ⟨S1x1024, .f32⟩
  | .hbm, ⟨87, _⟩ => ⟨S8192x1024, .bf16⟩
  | .hbm, ⟨88, _⟩ => ⟨S8192x1024, .bf16⟩
  | .hbm, ⟨89, _⟩ => ⟨S8192x1024, .bf16⟩
  | .hbm, ⟨90, _⟩ => ⟨S8192x1024, .bf16⟩
  | .hbm, ⟨91, _⟩ => ⟨S8192x1024, .bf16⟩
  | .hbm, ⟨92, _⟩ => ⟨S8192x1024, .bf16⟩
  | .hbm, ⟨93, _⟩ => ⟨S8192x1024, .bf16⟩
  | .hbm, ⟨94, _⟩ => ⟨S8192x1024, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== FfnDa.lean ====
abbrev S8192x1024 : Shape := ⟨2, ![8192, 1024]⟩
abbrev S4x2816x1024 : Shape := ⟨3, ![4, 2816, 1024]⟩
abbrev S8192x2816 : Shape := ⟨2, ![8192, 2816]⟩
abbrev S2048x1024 : Shape := ⟨2, ![2048, 1024]⟩
abbrev S1x1408x1024 : Shape := ⟨3, ![1, 1408, 1024]⟩
abbrev S2048x1408 : Shape := ⟨2, ![2048, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x2816x1024, .bf16⟩
  | .hbm, ⟨2, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDaRefIdeal.lean ====
abbrev S8192x1024 : Shape := ⟨2, ![8192, 1024]⟩
abbrev S4x2816x1024 : Shape := ⟨3, ![4, 2816, 1024]⟩
abbrev S1x2816x1024 : Shape := ⟨3, ![1, 2816, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2816x1024, .bf16⟩
  | .hbm, ⟨2, _⟩ => ⟨S1x2816x1024, .bf16⟩
  | .hbm, ⟨3, _⟩ => ⟨S2816x1024, .bf16⟩
  | .hbm, ⟨4, _⟩ => ⟨S2816x1024, .f32⟩
  | .hbm, ⟨5, _⟩ => ⟨S_, .f32⟩
  | .hbm, ⟨6, _⟩ => ⟨S8192x2816, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnDn.lean ====
abbrev S8192x5632 : Shape := ⟨2, ![8192, 5632]⟩
abbrev S4x1024x5632 : Shape := ⟨3, ![4, 1024, 5632]⟩
abbrev S8192x1024 : Shape := ⟨2, ![8192, 1024]⟩
abbrev S2048x2816 : Shape := ⟨2, ![2048, 2816]⟩
abbrev S1x512x2816 : Shape := ⟨3, ![1, 512, 2816]⟩
abbrev S2048x512 : Shape := ⟨2, ![2048, 512]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x1024x5632, .bf16⟩
  | .hbm, ⟨2, _⟩ => ⟨S8192x1024, .bf16⟩
  | .local _ .vmem, ⟨0, _⟩ => ⟨S2048x2816, .bf16⟩
  | .local _ .vmem, ⟨1, _⟩ => ⟨S2048x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDnRefIdeal.lean ====
abbrev S8192x5632 : Shape := ⟨2, ![8192, 5632]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x5632, .bf16⟩
  | .hbm, ⟨2, _⟩ => ⟨S1x1024x5632, .bf16⟩
  | .hbm, ⟨3, _⟩ => ⟨S1024x5632, .bf16⟩
  | .hbm, ⟨4, _⟩ => ⟨S1024x5632, .f32⟩
  | .hbm, ⟨5, _⟩ => ⟨S_, .f32⟩
  | .hbm, ⟨6, _⟩ => ⟨S8192x1024, .f32⟩
  | .hbm, ⟨7, _⟩ => ⟨S8192x5632, .f32⟩
  | .hbm, ⟨8, _⟩ => ⟨S8192x5632, .f32⟩
  | .hbm, ⟨9, _⟩ => ⟨S8192x1024, .f32⟩
  | .hbm, ⟨10, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnDwDown.lean ====
abbrev S8192x2816 : Shape := ⟨2, ![8192, 2816]⟩
abbrev S8192x1024 : Shape := ⟨2, ![8192, 1024]⟩
abbrev S4x2816x1024 : Shape := ⟨3, ![4, 2816, 1024]⟩
abbrev S2048x1408 : Shape := ⟨2, ![2048, 1408]⟩
abbrev S2048x512 : Shape := ⟨2, ![2048, 512]⟩
abbrev S1x1408x512 : Shape := ⟨3, ![1, 1408, 512]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2816x1024, .f32⟩
  | .hbm, ⟨3, _⟩ => ⟨S4x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x1408x512, .f32⟩
  | .local _ .vmem, ⟨5, _⟩ => ⟨S1x1408x512, .f32⟩
  | .local _ .vmem, ⟨6, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwDownRefIdeal.lean ====
abbrev S8192x2816 : Shape := ⟨2, ![8192, 2816]⟩
abbrev S8192x1024 : Shape := ⟨2, ![8192, 1024]⟩
abbrev S4x2816x1024 : Shape := ⟨3, ![4, 2816, 1024]⟩
abbrev S_ : Shape := ⟨0, ![]⟩
abbrev S2816x1024 : Shape := ⟨2, ![2816, 1024]⟩
abbrev S1024x2816 : Shape := ⟨2, ![1024, 2816]⟩
abbrev S1 : Shape := ⟨1, ![1]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2816x1024, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S_, .i32⟩
  | .hbm, ⟨11, _⟩ => ⟨S1, .i32⟩
  | .hbm, ⟨12, _⟩ => ⟨S4x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== FfnDwGu.lean ====
abbrev S8192x1024 : Shape := ⟨2, ![8192, 1024]⟩
abbrev S8192x5632 : Shape := ⟨2, ![8192, 5632]⟩
abbrev S4x1024x5632 : Shape := ⟨3, ![4, 1024, 5632]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x5632, .f32⟩
  | .hbm, ⟨3, _⟩ => ⟨S4x1024x5632, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .f32⟩
  | .local _ .vmem, ⟨5, _⟩ => ⟨S1x512x1408, .f32⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwGuRefIdeal.lean ====
abbrev S8192x1024 : Shape := ⟨2, ![8192, 1024]⟩
abbrev S8192x5632 : Shape := ⟨2, ![8192, 5632]⟩
abbrev S4x1024x5632 : Shape := ⟨3, ![4, 1024, 5632]⟩
abbrev S_ : Shape := ⟨0, ![]⟩
abbrev S1024x5632 : Shape := ⟨2, ![1024, 5632]⟩
abbrev S5632x1024 : Shape := ⟨2, ![5632, 1024]⟩
abbrev S1 : Shape := ⟨1, ![1]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x5632, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S_, .i32⟩
  | .hbm, ⟨11, _⟩ => ⟨S1, .i32⟩
  | .hbm, ⟨12, _⟩ => ⟨S4x1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Du.lean ====
abbrev S8192x7168 : Shape := ⟨2, ![8192, 7168]⟩
abbrev S1024x7168 : Shape := ⟨2, ![1024, 7168]⟩
abbrev S8192x1024 : Shape := ⟨2, ![8192, 1024]⟩
abbrev S2048x1792 : Shape := ⟨2, ![2048, 1792]⟩
abbrev S512x1792 : Shape := ⟨2, ![512, 1792]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .bf16⟩
  | .local _ .vmem, ⟨0, _⟩ => ⟨S2048x1792, .bf16⟩
  | .local _ .vmem, ⟨1, _⟩ => ⟨S2048x1792, .bf16⟩
  | .local _ .vmem, ⟨2, _⟩ => ⟨S512x1792, .bf16⟩
  | .local _ .vmem, ⟨3, _⟩ => ⟨S512x1792, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuRefIdeal.lean ====
abbrev S8192x7168 : Shape := ⟨2, ![8192, 7168]⟩
abbrev S1024x7168 : Shape := ⟨2, ![1024, 7168]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S1024x7168, .f32⟩
  | .hbm, ⟨3, _⟩ => ⟨S_, .f32⟩
  | .hbm, ⟨4, _⟩ => ⟨S8192x1024, .f32⟩
  | .hbm, ⟨5, _⟩ => ⟨S8192x7168, .f32⟩
  | .hbm, ⟨6, _⟩ => ⟨S8192x7168, .f32⟩
  | .hbm, ⟨7, _⟩ => ⟨S8192x1024, .f32⟩
  | .hbm, ⟨8, _⟩ => ⟨S8192x1024, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwin.lean ====
abbrev S8192x1024 : Shape := ⟨2, ![8192, 1024]⟩
abbrev S8192x7168 : Shape := ⟨2, ![8192, 7168]⟩
abbrev S1024x7168 : Shape := ⟨2, ![1024, 7168]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S1024x7168, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S_, .f32⟩
  | .hbm, ⟨3, _⟩ => ⟨S1024x7168, .f32⟩
  | .hbm, ⟨4, _⟩ => ⟨S8192x1024, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dmo.lean ====
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmoIdeal.lean ====
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmoRefIdeal.lean ====
abbrev S8192x1024 : Shape := ⟨2, ![8192, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S1x1024x1024, .bf16⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwo.lean ====
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1024x1024, .f32⟩
  | .hbm, ⟨3, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoIdeal.lean ====
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1024x1024, .f32⟩
  | .hbm, ⟨3, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoRefIdeal.lean ====
abbrev S8192x1024 : Shape := ⟨2, ![8192, 1024]⟩
abbrev S4x1024x1024 : Shape := ⟨3, ![4, 1024, 1024]⟩
abbrev S_ : Shape := ⟨0, ![]⟩
abbrev S1024x1024 : Shape := ⟨2, ![1024, 1024]⟩
abbrev S1 : Shape := ⟨1, ![1]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1024x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S_, .i32⟩
  | .hbm, ⟨11, _⟩ => ⟨S1, .i32⟩
  | .hbm, ⟨12, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DyA.lean ====
abbrev S8192x1024 : Shape := ⟨2, ![8192, 1024]⟩
abbrev S4x256x1024 : Shape := ⟨3, ![4, 256, 1024]⟩
abbrev S8192x256 : Shape := ⟨2, ![8192, 256]⟩
abbrev S2048x1024 : Shape := ⟨2, ![2048, 1024]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x256x1024, .bf16⟩
  | .hbm, ⟨2, _⟩ => ⟨S8192x256, .bf16⟩
  | .local _ .vmem, ⟨0, _⟩ => ⟨S2048x1024, .bf16⟩
  | .local _ .vmem, ⟨1, _⟩ => ⟨S2048x1024, .bf16⟩
  | .local _ .vmem, ⟨2, _⟩ => ⟨S1x256x1024, .bf16⟩
  | .local _ .vmem, ⟨3, _⟩ => ⟨S2048x256, .bf16⟩
  | .local _ .vmem, ⟨4, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyAIdeal.lean ====
abbrev S8192x1024 : Shape := ⟨2, ![8192, 1024]⟩
abbrev S4x256x1024 : Shape := ⟨3, ![4, 256, 1024]⟩
abbrev S8192x256 : Shape := ⟨2, ![8192, 256]⟩
abbrev S2048x1024 : Shape := ⟨2, ![2048, 1024]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x256x1024, .bf16⟩
  | .hbm, ⟨2, _⟩ => ⟨S8192x256, .bf16⟩
  | .local _ .vmem, ⟨0, _⟩ => ⟨S2048x1024, .bf16⟩
  | .local _ .vmem, ⟨1, _⟩ => ⟨S2048x1024, .bf16⟩
  | .local _ .vmem, ⟨2, _⟩ => ⟨S1x256x1024, .bf16⟩
  | .local _ .vmem, ⟨3, _⟩ => ⟨S2048x256, .bf16⟩
  | .local _ .vmem, ⟨4, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyARefIdeal.lean ====
abbrev S8192x1024 : Shape := ⟨2, ![8192, 1024]⟩
abbrev S4x256x1024 : Shape := ⟨3, ![4, 256, 1024]⟩
abbrev S1x256x1024 : Shape := ⟨3, ![1, 256, 1024]⟩
abbrev S256x1024 : Shape := ⟨2, ![256, 1024]⟩
abbrev S_ : Shape := ⟨0, ![]⟩
abbrev S8192x256 : Shape := ⟨2, ![8192, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x256x1024, .bf16⟩
  | .hbm, ⟨2, _⟩ => ⟨S1x256x1024, .bf16⟩
  | .hbm, ⟨3, _⟩ => ⟨S256x1024, .bf16⟩
  | .hbm, ⟨4, _⟩ => ⟨S256x1024, .f32⟩
  | .hbm, ⟨5, _⟩ => ⟨S_, .f32⟩
  | .hbm, ⟨6, _⟩ => ⟨S8192x256, .f32⟩
  | .hbm, ⟨7, _⟩ => ⟨S8192x1024, .f32⟩
  | .hbm, ⟨8, _⟩ => ⟨S8192x1024, .f32⟩
  | .hbm, ⟨9, _⟩ => ⟨S8192x256, .f32⟩
  | .hbm, ⟨10, _⟩ => ⟨S8192x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwBrA.lean ====
abbrev S8192x256 : Shape := ⟨2, ![8192, 256]⟩
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S4x256x1024, .f32⟩
  | .hbm, ⟨3, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBrAIdeal.lean ====
abbrev S8192x256 : Shape := ⟨2, ![8192, 256]⟩
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S4x256x1024, .f32⟩
  | .hbm, ⟨3, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBrARefIdeal.lean ====
abbrev S8192x256 : Shape := ⟨2, ![8192, 256]⟩
abbrev S8192x1024 : Shape := ⟨2, ![8192, 1024]⟩
abbrev S4x256x1024 : Shape := ⟨3, ![4, 256, 1024]⟩
abbrev S_ : Shape := ⟨0, ![]⟩
abbrev S256x1024 : Shape := ⟨2, ![256, 1024]⟩
abbrev S1024x256 : Shape := ⟨2, ![1024, 256]⟩
abbrev S1 : Shape := ⟨1, ![1]⟩

abbrev nBuf : Space → Nat
  | .hbm => 13
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S4x256x1024, .f32⟩
  | .hbm, ⟨3, _⟩ => ⟨S_, .f32⟩
  | .hbm, ⟨4, _⟩ => ⟨S256x1024, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | .hbm, ⟨10, _⟩ => ⟨S_, .i32⟩
  | .hbm, ⟨11, _⟩ => ⟨S1, .i32⟩
  | .hbm, ⟨12, _⟩ => ⟨S4x256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DyD.lean ====
abbrev S8192x1024 : Shape := ⟨2, ![8192, 1024]⟩
abbrev S4x512x1024 : Shape := ⟨3, ![4, 512, 1024]⟩
abbrev S8192x512 : Shape := ⟨2, ![8192, 512]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x512x1024, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyDRefIdeal.lean ====
abbrev S8192x1024 : Shape := ⟨2, ![8192, 1024]⟩
abbrev S4x512x1024 : Shape := ⟨3, ![4, 512, 1024]⟩
abbrev S1x512x1024 : Shape := ⟨3, ![1, 512, 1024]⟩
abbrev S512x1024 : Shape := ⟨2, ![512, 1024]⟩
abbrev S_ : Shape := ⟨0, ![]⟩
abbrev S8192x512 : Shape := ⟨2, ![8192, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x512x1024, .bf16⟩
  | .hbm, ⟨2, _⟩ => ⟨S1x512x1024, .bf16⟩
  | .hbm, ⟨3, _⟩ => ⟨S512x1024, .bf16⟩
  | .hbm, ⟨4, _⟩ => ⟨S512x1024, .f32⟩
  | .hbm, ⟨5, _⟩ => ⟨S_, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwBrD.lean ====
abbrev S8192x512 : Shape := ⟨2, ![8192, 512]⟩
abbrev S8192x1024 : Shape := ⟨2, ![8192, 1024]⟩
abbrev S4x512x1024 : Shape := ⟨3, ![4, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S4x512x1024, .f32⟩
  | .hbm, ⟨3, _⟩ => ⟨S4x512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBrDIdeal.lean ====
abbrev S8192x512 : Shape := ⟨2, ![8192, 512]⟩
abbrev S8192x1024 : Shape := ⟨2, ![8192, 1024]⟩
abbrev S4x512x1024 : Shape := ⟨3, ![4, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S4x512x1024, .f32⟩
  | .hbm, ⟨3, _⟩ => ⟨S4x512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBrDRefIdeal.lean ====
abbrev S8192x512 : Shape := ⟨2, ![8192, 512]⟩
abbrev S8192x1024 : Shape := ⟨2, ![8192, 1024]⟩
abbrev S4x512x1024 : Shape := ⟨3, ![4, 512, 1024]⟩
abbrev S_ : Shape := ⟨0, ![]⟩
abbrev S512x1024 : Shape := ⟨2, ![512, 1024]⟩
abbrev S1024x512 : Shape := ⟨2, ![1024, 512]⟩
abbrev S1 : Shape := ⟨1, ![1]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S4x512x1024, .f32⟩
  | .hbm, ⟨3, _⟩ => ⟨S_, .f32⟩
  | .hbm, ⟨4, _⟩ => ⟨S512x1024, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S_, .i32⟩
  | .hbm, ⟨11, _⟩ => ⟨S1, .i32⟩
  | .hbm, ⟨12, _⟩ => ⟨S4x512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Gu.lean ====
abbrev S8192x1024 : Shape := ⟨2, ![8192, 1024]⟩
abbrev S4x1024x5632 : Shape := ⟨3, ![4, 1024, 5632]⟩
abbrev S8192x5632 : Shape := ⟨2, ![8192, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x5632, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuIdeal.lean ====
abbrev S8192x1024 : Shape := ⟨2, ![8192, 1024]⟩
abbrev S4x1024x5632 : Shape := ⟨3, ![4, 1024, 5632]⟩
abbrev S8192x5632 : Shape := ⟨2, ![8192, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x5632, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuRefIdeal.lean ====
abbrev S8192x1024 : Shape := ⟨2, ![8192, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x5632, .bf16⟩
  | .hbm, ⟨2, _⟩ => ⟨S8192x1024, .f32⟩
  | .hbm, ⟨3, _⟩ => ⟨S1x1024x5632, .bf16⟩
  | .hbm, ⟨4, _⟩ => ⟨S1024x5632, .bf16⟩
  | .hbm, ⟨5, _⟩ => ⟨S1024x5632, .f32⟩
  | .hbm, ⟨6, _⟩ => ⟨S8192x5632, .f32⟩
  | .hbm, ⟨7, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S8192x2816 : Shape := ⟨2, ![8192, 2816]⟩
abbrev S4x2816x1024 : Shape := ⟨3, ![4, 2816, 1024]⟩
abbrev S8192x1024 : Shape := ⟨2, ![8192, 1024]⟩
abbrev S2048x2816 : Shape := ⟨2, ![2048, 2816]⟩
abbrev S1x2816x512 : Shape := ⟨3, ![1, 2816, 512]⟩
abbrev S2048x512 : Shape := ⟨2, ![2048, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S4x2816x1024, .bf16⟩
  | .hbm, ⟨2, _⟩ => ⟨S8192x1024, .f32⟩
  | .local _ .vmem, ⟨0, _⟩ => ⟨S2048x2816, .bf16⟩
  | .local _ .vmem, ⟨1, _⟩ => ⟨S2048x2816, .bf16⟩
  | .local _ .vmem, ⟨2, _⟩ => ⟨S1x2816x512, .bf16⟩
  | .local _ .vmem, ⟨3, _⟩ => ⟨S1x2816x512, .bf16⟩
  | .local _ .vmem, ⟨4, _⟩ => ⟨S2048x512, .f32⟩
  | .local _ .vmem, ⟨5, _⟩ => ⟨S2048x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S8192x2816 : Shape := ⟨2, ![8192, 2816]⟩
abbrev S4x2816x1024 : Shape := ⟨3, ![4, 2816, 1024]⟩
abbrev S8192x1024 : Shape := ⟨2, ![8192, 1024]⟩
abbrev S2048x2816 : Shape := ⟨2, ![2048, 2816]⟩
abbrev S1x2816x512 : Shape := ⟨3, ![1, 2816, 512]⟩
abbrev S2048x512 : Shape := ⟨2, ![2048, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S4x2816x1024, .bf16⟩
  | .hbm, ⟨2, _⟩ => ⟨S8192x1024, .f32⟩
  | .local _ .vmem, ⟨0, _⟩ => ⟨S2048x2816, .bf16⟩
  | .local _ .vmem, ⟨1, _⟩ => ⟨S2048x2816, .bf16⟩
  | .local _ .vmem, ⟨2, _⟩ => ⟨S1x2816x512, .bf16⟩
  | .local _ .vmem, ⟨3, _⟩ => ⟨S1x2816x512, .bf16⟩
  | .local _ .vmem, ⟨4, _⟩ => ⟨S2048x512, .f32⟩
  | .local _ .vmem, ⟨5, _⟩ => ⟨S2048x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S4x2816x1024 : Shape := ⟨3, ![4, 2816, 1024]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S4x2816x1024, .bf16⟩
  | .hbm, ⟨2, _⟩ => ⟨S8192x2816, .f32⟩
  | .hbm, ⟨3, _⟩ => ⟨S1x2816x1024, .bf16⟩
  | .hbm, ⟨4, _⟩ => ⟨S2816x1024, .bf16⟩
  | .hbm, ⟨5, _⟩ => ⟨S2816x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proj.lean ====
abbrev S8192x1024 : Shape := ⟨2, ![8192, 1024]⟩
abbrev S1024x7168 : Shape := ⟨2, ![1024, 7168]⟩
abbrev S8192x7168 : Shape := ⟨2, ![8192, 7168]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | .hbm, ⟨5, _⟩ => ⟨S8192x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BrA.lean ====
abbrev S8192x256 : Shape := ⟨2, ![8192, 256]⟩
abbrev S4x256x1024 : Shape := ⟨3, ![4, 256, 1024]⟩
abbrev S8192x1024 : Shape := ⟨2, ![8192, 1024]⟩
abbrev S2048x256 : Shape := ⟨2, ![2048, 256]⟩
abbrev S1x256x1024 : Shape := ⟨3, ![1, 256, 1024]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S4x256x1024, .bf16⟩
  | .hbm, ⟨2, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S1x256x1024, .bf16⟩
  | .local _ .vmem, ⟨3, _⟩ => ⟨S2048x1024, .bf16⟩
  | .local _ .vmem, ⟨4, _⟩ => ⟨S2048x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrAIdeal.lean ====
abbrev S8192x256 : Shape := ⟨2, ![8192, 256]⟩
abbrev S4x256x1024 : Shape := ⟨3, ![4, 256, 1024]⟩
abbrev S8192x1024 : Shape := ⟨2, ![8192, 1024]⟩
abbrev S2048x256 : Shape := ⟨2, ![2048, 256]⟩
abbrev S1x256x1024 : Shape := ⟨3, ![1, 256, 1024]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S4x256x1024, .bf16⟩
  | .hbm, ⟨2, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S1x256x1024, .bf16⟩
  | .local _ .vmem, ⟨3, _⟩ => ⟨S2048x1024, .bf16⟩
  | .local _ .vmem, ⟨4, _⟩ => ⟨S2048x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrARefIdeal.lean ====
abbrev S8192x256 : Shape := ⟨2, ![8192, 256]⟩
abbrev S4x256x1024 : Shape := ⟨3, ![4, 256, 1024]⟩
abbrev S1x256x1024 : Shape := ⟨3, ![1, 256, 1024]⟩
abbrev S256x1024 : Shape := ⟨2, ![256, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S4x256x1024, .bf16⟩
  | .hbm, ⟨2, _⟩ => ⟨S8192x256, .f32⟩
  | .hbm, ⟨3, _⟩ => ⟨S1x256x1024, .bf16⟩
  | .hbm, ⟨4, _⟩ => ⟨S256x1024, .bf16⟩
  | .hbm, ⟨5, _⟩ => ⟨S256x1024, .f32⟩
  | .hbm, ⟨6, _⟩ => ⟨S8192x1024, .f32⟩
  | .hbm, ⟨7, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== BrD.lean ====
abbrev S8192x512 : Shape := ⟨2, ![8192, 512]⟩
abbrev S4x512x1024 : Shape := ⟨3, ![4, 512, 1024]⟩
abbrev S8192x1024 : Shape := ⟨2, ![8192, 1024]⟩
abbrev S2048x512 : Shape := ⟨2, ![2048, 512]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S4x512x1024, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S1x512x1024, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDIdeal.lean ====
abbrev S8192x512 : Shape := ⟨2, ![8192, 512]⟩
abbrev S4x512x1024 : Shape := ⟨3, ![4, 512, 1024]⟩
abbrev S8192x1024 : Shape := ⟨2, ![8192, 1024]⟩
abbrev S2048x512 : Shape := ⟨2, ![2048, 512]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S4x512x1024, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S1x512x1024, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDRefIdeal.lean ====
abbrev S8192x512 : Shape := ⟨2, ![8192, 512]⟩
abbrev S4x512x1024 : Shape := ⟨3, ![4, 512, 1024]⟩
abbrev S1x512x1024 : Shape := ⟨3, ![1, 512, 1024]⟩
abbrev S512x1024 : Shape := ⟨2, ![512, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x512x1024, .bf16⟩
  | .hbm, ⟨2, _⟩ => ⟨S8192x512, .f32⟩
  | .hbm, ⟨3, _⟩ => ⟨S1x512x1024, .bf16⟩
  | .hbm, ⟨4, _⟩ => ⟨S512x1024, .bf16⟩
  | .hbm, ⟨5, _⟩ => ⟨S512x1024, .f32⟩
  | .hbm, ⟨6, _⟩ => ⟨S8192x1024, .f32⟩
  | .hbm, ⟨7, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Mo.lean ====
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MoIdeal.lean ====
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MoRefIdeal.lean ====
abbrev S8192x1024 : Shape := ⟨2, ![8192, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Pgl.lean ====
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PglRefIdeal.lean ====
abbrev S8192x1024 : Shape := ⟨2, ![8192, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Pr.lean ====
abbrev S8192x256 : Shape := ⟨2, ![8192, 256]⟩
abbrev S4x256x1024 : Shape := ⟨3, ![4, 256, 1024]⟩
abbrev S8192x1024 : Shape := ⟨2, ![8192, 1024]⟩
abbrev S2048x256 : Shape := ⟨2, ![2048, 256]⟩
abbrev S1x256x1024 : Shape := ⟨3, ![1, 256, 1024]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S4x256x1024, .bf16⟩
  | .hbm, ⟨2, _⟩ => ⟨S8192x1024, .f32⟩
  | .local _ .vmem, ⟨0, _⟩ => ⟨S2048x256, .f32⟩
  | .local _ .vmem, ⟨1, _⟩ => ⟨S2048x256, .f32⟩
  | .local _ .vmem, ⟨2, _⟩ => ⟨S1x256x1024, .bf16⟩
  | .local _ .vmem, ⟨3, _⟩ => ⟨S2048x1024, .f32⟩
  | .local _ .vmem, ⟨4, _⟩ => ⟨S2048x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PrRefIdeal.lean ====
abbrev S8192x256 : Shape := ⟨2, ![8192, 256]⟩
abbrev S4x256x1024 : Shape := ⟨3, ![4, 256, 1024]⟩
abbrev S1x256x1024 : Shape := ⟨3, ![1, 256, 1024]⟩
abbrev S256x1024 : Shape := ⟨2, ![256, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4x256x1024, .bf16⟩
  | .hbm, ⟨2, _⟩ => ⟨S1x256x1024, .bf16⟩
  | .hbm, ⟨3, _⟩ => ⟨S256x1024, .bf16⟩
  | .hbm, ⟨4, _⟩ => ⟨S256x1024, .f32⟩
  | .hbm, ⟨5, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dwple.lean ====
abbrev S8192x256 : Shape := ⟨2, ![8192, 256]⟩
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S4x256x1024, .f32⟩
  | .hbm, ⟨3, _⟩ => ⟨S4x256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwpleRefIdeal.lean ====
abbrev S8192x256 : Shape := ⟨2, ![8192, 256]⟩
abbrev S8192x1024 : Shape := ⟨2, ![8192, 1024]⟩
abbrev S4x256x1024 : Shape := ⟨3, ![4, 256, 1024]⟩
abbrev S_ : Shape := ⟨0, ![]⟩
abbrev S256x1024 : Shape := ⟨2, ![256, 1024]⟩
abbrev S1024x256 : Shape := ⟨2, ![1024, 256]⟩
abbrev S1 : Shape := ⟨1, ![1]⟩

abbrev nBuf : Space → Nat
  | .hbm => 12
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S4x256x1024, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S_, .i32⟩
  | .hbm, ⟨10, _⟩ => ⟨S1, .i32⟩
  | .hbm, ⟨11, _⟩ => ⟨S4x256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Rms.lean ====
abbrev S8192x1024 : Shape := ⟨2, ![8192, 1024]⟩
abbrev S4x1024 : Shape := ⟨2, ![4, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S8192x1024, .bf16⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_16 : BitVec 32 := 0#32
  let v43 : BitVec 1 := Scalar.cmpi .ne v42 c0_i32_16
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_17 : BitVec 32 := 0#32
  let v46 : BitVec 1 := Scalar.cmpi .ne v45 c0_i32_17
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S8192x1024 : Shape := ⟨2, ![8192, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S8192x1024, .bf16⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== AdamGu.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGuIdeal.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGuRefIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamIn.lean ====
abbrev S4x1024x1729 : Shape := ⟨3, ![4, 1024, 1729]⟩
abbrev S4096x1729 : Shape := ⟨2, ![4096, 1729]⟩
abbrev S256x1729 : Shape := ⟨2, ![256, 1729]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1729, .f32⟩
  | .hbm, ⟨1, _⟩ => ⟨S4x1024x1729, .f32⟩
  | .hbm, ⟨2, _⟩ => ⟨S4x1024x1729, .f32⟩
  | .hbm, ⟨3, _⟩ => ⟨S4x1024x1729, .f32⟩
  | .hbm, ⟨4, _⟩ => ⟨S4096x1729, .f32⟩
  | .hbm, ⟨5, _⟩ => ⟨S4096x1729, .f32⟩
  | .hbm, ⟨6, _⟩ => ⟨S4096x1729, .f32⟩
  | .hbm, ⟨7, _⟩ => ⟨S4096x1729, .f32⟩
  | .hbm, ⟨8, _⟩ => ⟨S4096x1729, .f32⟩
  | .hbm, ⟨9, _⟩ => ⟨S4096x1729, .f32⟩
  | .hbm, ⟨10, _⟩ => ⟨S4096x1729, .f32⟩
  | .local _ .vmem, ⟨0, _⟩ => ⟨S256x1729, .f32⟩
  | .local _ .vmem, ⟨1, _⟩ => ⟨S256x1729, .f32⟩
  | .local _ .vmem, ⟨2, _⟩ => ⟨S256x1729, .f32⟩
  | .local _ .vmem, ⟨3, _⟩ => ⟨S256x1729, .f32⟩
  | .local _ .vmem, ⟨4, _⟩ => ⟨S256x1729, .f32⟩
  | .local _ .vmem, ⟨5, _⟩ => ⟨S256x1729, .f32⟩
  | .local _ .vmem, ⟨6, _⟩ => ⟨S256x1729, .f32⟩
  | .local _ .vmem, ⟨7, _⟩ => ⟨S256x1729, .f32⟩
  | .local _ .vmem, ⟨8, _⟩ => ⟨S256x1729, .f32⟩
  | .local _ .vmem, ⟨9, _⟩ => ⟨S256x1729, .f32⟩
  | .local _ .vmem, ⟨10, _⟩ => ⟨S256x1729, .f32⟩
  | .local _ .vmem, ⟨11, _⟩ => ⟨S256x1729, .f32⟩
  | .local _ .vmem, ⟨12, _⟩ => ⟨S256x1729, .f32⟩
  | .local _ .vmem, ⟨13, _⟩ => ⟨S256x1729, .f32⟩
  | _, _ => ⟨S4x1024x1729, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1729 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1729 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1729 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1729 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1729 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1729 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1729 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x1024x1729 : Shape := ⟨3, ![4, 1024, 1729]⟩
abbrev S4096x1729 : Shape := ⟨2, ![4096, 1729]⟩
abbrev S256x1729 : Shape := ⟨2, ![256, 1729]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1729, .f32⟩
  | .hbm, ⟨1, _⟩ => ⟨S4x1024x1729, .f32⟩
  | .hbm, ⟨2, _⟩ => ⟨S4x1024x1729, .f32⟩
  | .hbm, ⟨3, _⟩ => ⟨S4x1024x1729, .f32⟩
  | .hbm, ⟨4, _⟩ => ⟨S4096x1729, .f32⟩
  | .hbm, ⟨5, _⟩ => ⟨S4096x1729, .f32⟩
  | .hbm, ⟨6, _⟩ => ⟨S4096x1729, .f32⟩
  | .hbm, ⟨7, _⟩ => ⟨S4096x1729, .f32⟩
  | .hbm, ⟨8, _⟩ => ⟨S4096x1729, .f32⟩
  | .hbm, ⟨9, _⟩ => ⟨S4096x1729, .f32⟩
  | .hbm, ⟨10, _⟩ => ⟨S4096x1729, .f32⟩
  | .local _ .vmem, ⟨0, _⟩ => ⟨S256x1729, .f32⟩
  | .local _ .vmem, ⟨1, _⟩ => ⟨S256x1729, .f32⟩
  | .local _ .vmem, ⟨2, _⟩ => ⟨S256x1729, .f32⟩
  | .local _ .vmem, ⟨3, _⟩ => ⟨S256x1729, .f32⟩
  | .local _ .vmem, ⟨4, _⟩ => ⟨S256x1729, .f32⟩
  | .local _ .vmem, ⟨5, _⟩ => ⟨S256x1729, .f32⟩
  | .local _ .vmem, ⟨6, _⟩ => ⟨S256x1729, .f32⟩
  | .local _ .vmem, ⟨7, _⟩ => ⟨S256x1729, .f32⟩
  | .local _ .vmem, ⟨8, _⟩ => ⟨S256x1729, .f32⟩
  | .local _ .vmem, ⟨9, _⟩ => ⟨S256x1729, .f32⟩
  | .local _ .vmem, ⟨10, _⟩ => ⟨S256x1729, .f32⟩
  | .local _ .vmem, ⟨11, _⟩ => ⟨S256x1729, .f32⟩
  | .local _ .vmem, ⟨12, _⟩ => ⟨S256x1729, .f32⟩
  | .local _ .vmem, ⟨13, _⟩ => ⟨S256x1729, .f32⟩
  | _, _ => ⟨S4x1024x1729, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1729 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1729 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1729 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1729 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1729 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1729 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1729 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4x1024x1729 : Shape := ⟨3, ![4, 1024, 1729]⟩
abbrev S_ : Shape := ⟨0, ![]⟩
abbrev S4096x1729 : Shape := ⟨2, ![4096, 1729]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1729, .f32⟩
  | .hbm, ⟨1, _⟩ => ⟨S4x1024x1729, .f32⟩
  | .hbm, ⟨2, _⟩ => ⟨S4x1024x1729, .f32⟩
  | .hbm, ⟨3, _⟩ => ⟨S4x1024x1729, .f32⟩
  | .hbm, ⟨4, _⟩ => ⟨S_, .f32⟩
  | .hbm, ⟨5, _⟩ => ⟨S4x1024x1729, .f32⟩
  | .hbm, ⟨6, _⟩ => ⟨S4x1024x1729, .f32⟩
  | .hbm, ⟨7, _⟩ => ⟨S_, .f32⟩
  | .hbm, ⟨8, _⟩ => ⟨S4x1024x1729, .f32⟩
  | .hbm, ⟨9, _⟩ => ⟨S4x1024x1729, .f32⟩
  | .hbm, ⟨10, _⟩ => ⟨S4x1024x1729, .f32⟩
  | .hbm, ⟨11, _⟩ => ⟨S_, .f32⟩
  | .hbm, ⟨12, _⟩ => ⟨S4x1024x1729, .f32⟩
  | .hbm, ⟨13, _⟩ => ⟨S4x1024x1729, .f32⟩
  | .hbm, ⟨14, _⟩ => ⟨S4x1024x1729, .f32⟩
  | .hbm, ⟨15, _⟩ => ⟨S_, .f32⟩
  | .hbm, ⟨16, _⟩ => ⟨S4x1024x1729, .f32⟩
  | .hbm, ⟨17, _⟩ => ⟨S4x1024x1729, .f32⟩
  | .hbm, ⟨18, _⟩ => ⟨S4x1024x1729, .f32⟩
  | .hbm, ⟨19, _⟩ => ⟨S_, .f32⟩
  | .hbm, ⟨20, _⟩ => ⟨S4x1024x1729, .f32⟩
  | .hbm, ⟨21, _⟩ => ⟨S4x1024x1729, .f32⟩
  | .hbm, ⟨22, _⟩ => ⟨S_, .f32⟩
  | .hbm, ⟨23, _⟩ => ⟨S4x1024x1729, .f32⟩
  | .hbm, ⟨24, _⟩ => ⟨S4x1024x1729, .f32⟩
  | .hbm, ⟨25, _⟩ => ⟨S4x1024x1729, .f32⟩
  | .hbm, ⟨26, _⟩ => ⟨S_, .f32⟩
  | .hbm, ⟨27, _⟩ => ⟨S4x1024x1729, .f32⟩
  | .hbm, ⟨28, _⟩ => ⟨S4x1024x1729, .f32⟩
  | .hbm, ⟨29, _⟩ => ⟨S4x1024x1729, .f32⟩
  | .hbm, ⟨30, _⟩ => ⟨S_, .f32⟩
  | .hbm, ⟨31, _⟩ => ⟨S4x1024x1729, .f32⟩
  | .hbm, ⟨32, _⟩ => ⟨S4x1024x1729, .f32⟩
  | .hbm, ⟨33, _⟩ => ⟨S4x1024x1729, .f32⟩
  | .hbm, ⟨34, _⟩ => ⟨S_, .f32⟩
  | .hbm, ⟨35, _⟩ => ⟨S4x1024x1729, .f32⟩
  | .hbm, ⟨36, _⟩ => ⟨S4x1024x1729, .f32⟩
  | .hbm, ⟨37, _⟩ => ⟨S4096x1729, .f32⟩
  | .hbm, ⟨38, _⟩ => ⟨S4096x1729, .f32⟩
  | .hbm, ⟨39, _⟩ => ⟨S4096x1729, .f32⟩
  | _, _ => ⟨S4x1024x1729, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBr.lean ====
abbrev S4x256x256 : Shape := ⟨3, ![4, 256, 256]⟩
abbrev S1024x256 : Shape := ⟨2, ![1024, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBrIdeal.lean ====
abbrev S4x256x256 : Shape := ⟨3, ![4, 256, 256]⟩
abbrev S1024x256 : Shape := ⟨2, ![1024, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBrRefIdeal.lean ====
abbrev S4x256x256 : Shape := ⟨3, ![4, 256, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S_, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | .hbm, ⟨37, _⟩ => ⟨S1024x256, .f32⟩
  | .hbm, ⟨38, _⟩ => ⟨S1024x256, .f32⟩
  | .hbm, ⟨39, _⟩ => ⟨S1024x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBrD.lean ====
abbrev S4x512x256 : Shape := ⟨3, ![4, 512, 256]⟩
abbrev S2048x256 : Shape := ⟨2, ![2048, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBrDIdeal.lean ====
abbrev S4x512x256 : Shape := ⟨3, ![4, 512, 256]⟩
abbrev S2048x256 : Shape := ⟨2, ![2048, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBrDRefIdeal.lean ====
abbrev S4x512x256 : Shape := ⟨3, ![4, 512, 256]⟩
abbrev S_ : Shape := ⟨0, ![]⟩
abbrev S2048x256 : Shape := ⟨2, ![2048, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S2048x256, .f32⟩
  | .hbm, ⟨38, _⟩ => ⟨S2048x256, .f32⟩
  | .hbm, ⟨39, _⟩ => ⟨S2048x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamO.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOIdeal.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamORefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S64x1024 : Shape := ⟨2, ![64, 1024]⟩

abbrev nBuf : Space → Nat
  | .hbm => 7
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S64x1024 : Shape := ⟨2, ![64, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S64x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S64x1024, .f32⟩
  | .hbm, ⟨11, _⟩ => ⟨S_, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S_, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S_, .f32⟩
  | .hbm, ⟨31, _⟩ => ⟨S64x1024, .f32⟩
  | .hbm, ⟨32, _⟩ => ⟨S64x1024, .f32⟩
  | .hbm, ⟨33, _⟩ => ⟨S64x1024, .f32⟩
  | .hbm, ⟨34, _⟩ => ⟨S_, .f32⟩
  | .hbm, ⟨35, _⟩ => ⟨S64x1024, .f32⟩
  | .hbm, ⟨36, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Fox.lean ====
abbrev S8192x7168 : Shape := ⟨2, ![8192, 7168]⟩
abbrev S4x4x2048 : Shape := ⟨3, ![4, 4, 2048]⟩
abbrev S8192x256 : Shape := ⟨2, ![8192, 256]⟩
abbrev S4x2048x4x64 : Shape := ⟨4, ![4, 2048, 4, 64]⟩
abbrev S4x4x2048x2048 : Shape := ⟨4, ![4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x2048x1 : Shape := ⟨4, ![4, 4, 2048, 1]⟩
abbrev S4x4x1x2048 : Shape := ⟨4, ![4, 4, 1, 2048]⟩
abbrev S4x4x64x2048 : Shape := ⟨4, ![4, 4, 64, 2048]⟩
abbrev S4x4x2048x64 : Shape := ⟨4, ![4, 4, 2048, 64]⟩
abbrev S4x4x4x1x512 : Shape := ⟨5, ![4, 4, 4, 1, 512]⟩
abbrev S512x256 : Shape := ⟨2, ![512, 256]⟩
abbrev S2048x256 : Shape := ⟨2, ![2048, 256]⟩
abbrev S1x4x512x1 : Shape := ⟨4, ![1, 4, 512, 1]⟩
abbrev S1x4x4x1x512 : Shape := ⟨5, ![1, 4, 4, 1, 512]⟩
abbrev S1x4x512x64 : Shape := ⟨4, ![1, 4, 512, 64]⟩
abbrev S4x2048x64 : Shape := ⟨3, ![4, 2048, 64]⟩
abbrev S256x64 : Shape := ⟨2, ![256, 64]⟩
abbrev S2048x64 : Shape := ⟨2, ![2048, 64]⟩
abbrev S1x2048x64 : Shape := ⟨3, ![1, 2048, 64]⟩
abbrev S4x4x1x512 : Shape := ⟨4, ![4, 4, 1, 512]⟩
abbrev S512x64 : Shape := ⟨2, ![512, 64]⟩
abbrev S1x1x512x1 : Shape := ⟨4, ![1, 1, 512, 1]⟩
abbrev S512x1 : Shape := ⟨2, ![512, 1]⟩
abbrev S1x1x512x64 : Shape := ⟨4, ![1, 1, 512, 64]⟩
abbrev S512 : Shape := ⟨1, ![512]⟩
abbrev S1x512x64 : Shape := ⟨3, ![1, 512, 64]⟩
abbrev S1x1x1x1x512 : Shape := ⟨5, ![1, 1, 1, 1, 512]⟩
abbrev S1x512 : Shape := ⟨2, ![1, 512]⟩
abbrev S512x512 : Shape := ⟨2, ![512, 512]⟩

abbrev nBuf : Space → Nat
  | .hbm => 91
  | .vmem => 30
  | .smem => 0
  | _ => 0

abbrev bufTy : (tb : Table) → Fin (tcTables nBuf tb) → BufTy
  | .hbm, ⟨0, _⟩ => ⟨S8192x7168, .bf16⟩
  | .hbm, ⟨1, _⟩ => ⟨S4x4x2048, .f32⟩
  | .hbm, ⟨2, _⟩ => ⟨S8192x256, .bf16⟩
  | .hbm, ⟨3, _⟩ => ⟨S8192x256, .bf16⟩
  | .hbm, ⟨4, _⟩ => ⟨S8192x256, .f32⟩
  | .hbm, ⟨5, _⟩ => ⟨S4x2048x4x64, .f32⟩
  | .hbm, ⟨6, _⟩ => ⟨S8192x256, .bf16⟩
  | .hbm, ⟨7, _⟩ => ⟨S8192x256, .f32⟩
  | .hbm, ⟨8, _⟩ => ⟨S4x2048x4x64, .f32⟩
  | .hbm, ⟨9, _⟩ => ⟨S8192x256, .bf16⟩
  | .hbm, ⟨10, _⟩ => ⟨S8192x256, .f32⟩
  | .hbm, ⟨11, _⟩ => ⟨S4x2048x4x64, .f32⟩
  | .hbm, ⟨12, _⟩ => ⟨S4x4x2048x2048, .f32⟩
  | .hbm, ⟨13, _⟩ => ⟨S_, .f32⟩
  | .hbm, ⟨14, _⟩ => ⟨S4x4x2048x2048, .f32⟩
  | .hbm, ⟨15, _⟩ => ⟨S4x4x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S4x4x2048x1, .f32⟩
  | .hbm, ⟨24, _⟩ => ⟨S4x4x1x2048, .f32⟩
  | .hbm, ⟨25, _⟩ => ⟨S4x4x2048x2048, .f32⟩
  | .hbm, ⟨26, _⟩ => ⟨S4x4x2048x2048, .f32⟩
  | .hbm, ⟨27, _⟩ => ⟨S4x4x2048x2048, .f32⟩
  | .hbm, ⟨28, _⟩ => ⟨S4x4x2048x2048, .f32⟩
  | .hbm, ⟨29, _⟩ => ⟨S_, .f32⟩
  | .hbm, ⟨30, _⟩ => ⟨S_, .f32⟩
  | .hbm, ⟨31, _⟩ => ⟨S4x4x2048x2048, .i1⟩
  | .hbm, ⟨32, _⟩ => ⟨S4x4x2048x2048, .f32⟩
  | .hbm, ⟨33, _⟩ => ⟨S4x4x2048x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048x1, .f32⟩
  | .hbm, ⟨40, _⟩ => ⟨S4x4x2048x2048, .f32⟩
  | .hbm, ⟨41, _⟩ => ⟨S4x4x2048x2048, .f32⟩
  | .hbm, ⟨42, _⟩ => ⟨S4x4x2048x2048, .f32⟩
  | .hbm, ⟨43, _⟩ => ⟨S_, .f32⟩
  | .hbm, ⟨44, _⟩ => ⟨S4x4x2048, .f32⟩
  | .hbm, ⟨45, _⟩ => ⟨S4x4x2048x1, .f32⟩
  | .hbm, ⟨46, _⟩ => ⟨S4x4x2048x2048, .f32⟩
  | .hbm, ⟨47, _⟩ => ⟨S4x4x2048x2048, .f32⟩
  | .hbm, ⟨48, _⟩ => ⟨S4x4x64x2048, .f32⟩
  | .hbm, ⟨49, _⟩ => ⟨S4x2048x4x64, .f32⟩
  | .hbm, ⟨50, _⟩ => ⟨S4x4x2048x64, .f32⟩
  | .hbm, ⟨51, _⟩ => ⟨S4x4x2048x2048, .f32⟩
  | .hbm, ⟨52, _⟩ => ⟨S_, .f32⟩
  | .hbm, ⟨53, _⟩ => ⟨S4x4x2048x2048, .f32⟩
  | .hbm, ⟨54, _⟩ => ⟨S4x4x2048x2048, .f32⟩
  | .hbm, ⟨55, _⟩ => ⟨S2048, .i32⟩
  | .hbm, ⟨56, _⟩ => ⟨S2048x1, .i32⟩
  | .hbm, ⟨57, _⟩ => ⟨S2048, .i32⟩
  | .hbm, ⟨58, _⟩ => ⟨S1x2048, .i32⟩
  | .hbm, ⟨59, _⟩ => ⟨S2048x2048, .i32⟩
  | .hbm, ⟨60, _⟩ => ⟨S2048x2048, .i32⟩
  | .hbm, ⟨61, _⟩ => ⟨S2048x2048, .i1⟩
  | .hbm, ⟨62, _⟩ => ⟨S4x4x2048x1, .f32⟩
  | .hbm, ⟨63, _⟩ => ⟨S4x4x1x2048, .f32⟩
  | .hbm, ⟨64, _⟩ => ⟨S4x4x2048x2048, .f32⟩
  | .hbm, ⟨65, _⟩ => ⟨S4x4x2048x2048, .f32⟩
  | .hbm, ⟨66, _⟩ => ⟨S4x4x2048x2048, .f32⟩
  | .hbm, ⟨67, _⟩ => ⟨S4x4x2048x2048, .f32⟩
  | .hbm, ⟨68, _⟩ => ⟨S_, .f32⟩
  | .hbm, ⟨69, _⟩ => ⟨S_, .f32⟩
  | .hbm, ⟨70, _⟩ => ⟨S4x4x2048x2048, .i1⟩
  | .hbm, ⟨71, _⟩ => ⟨S4x4x2048x2048, .f32⟩
  | .hbm, ⟨72, _⟩ => ⟨S4x4x2048x2048, .f32⟩
  | .hbm, ⟨73, _⟩ => ⟨S_, .f32⟩
  | .hbm, ⟨74, _⟩ => ⟨S4x4x2048, .f32⟩
  | .hbm, ⟨75, _⟩ => ⟨S4x4x2048x1, .f32⟩
  | .hbm, ⟨76, _⟩ => ⟨S4x4x2048x2048, .f32⟩
  | .hbm, ⟨77, _⟩ => ⟨S4x4x2048x2048, .f32⟩
  | .hbm, ⟨78, _⟩ => ⟨S4x4x2048x2048, .f32⟩
  | .hbm, ⟨79, _⟩ => ⟨S_, .f32⟩
  | .hbm, ⟨80, _⟩ => ⟨S4x4x2048, .f32⟩
  | .hbm, ⟨81, _⟩ => ⟨S4x4x2048x1, .f32⟩
  | .hbm, ⟨82, _⟩ => ⟨S4x4x2048x1, .f32⟩
  | .hbm, ⟨83, _⟩ => ⟨S4x4x2048x1, .f32⟩
  | .hbm, ⟨84, _⟩ => ⟨S4x4x2048x1, .f32⟩
  | .hbm, ⟨85, _⟩ => ⟨S4x4x4x1x512, .f32⟩
  | .hbm, ⟨86, _⟩ => ⟨S8192x256, .bf16⟩
  | .hbm, ⟨87, _⟩ => ⟨S8192x256, .bf16⟩
  | .hbm, ⟨88, _⟩ => ⟨S8192x256, .bf16⟩
  | .hbm, ⟨89, _⟩ => ⟨S4x4x4x1x512, .f32⟩
  | .hbm, ⟨90, _⟩ => ⟨S4x4x2048x1, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x4x512x1, .f32⟩
  | .local _ .vmem, ⟨7, _⟩ => ⟨S1x4x512x1, .f32⟩
  | .local _ .vmem, ⟨8, _⟩ => ⟨S1x4x4x1x512, .f32⟩
  | .local _ .vmem, ⟨9, _⟩ => ⟨S1x4x4x1x512, .f32⟩
  | .local _ .vmem, ⟨10, _⟩ => ⟨S1x4x512x64, .f32⟩
  | .local _ .vmem, ⟨11, _⟩ => ⟨S1x4x512x64, .f32⟩
  | .local _ .vmem, ⟨12, _⟩ => ⟨S1x4x512x1, .f32⟩
  | .local _ .vmem, ⟨13, _⟩ => ⟨S1x4x512x1, .f32⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S1x4x4x1x512, .f32⟩
  | .local _ .vmem, ⟨23, _⟩ => ⟨S1x4x4x1x512, .f32⟩
  | .local _ .vmem, ⟨24, _⟩ => ⟨S1x4x512x1, .f32⟩
  | .local _ .vmem, ⟨25, _⟩ => ⟨S1x4x512x1, .f32⟩
  | .local _ .vmem, ⟨26, _⟩ => ⟨S4x2048x64, .bf16⟩
  | .local _ .vmem, ⟨27, _⟩ => ⟨S4x2048x64, .bf16⟩
  | .local _ .vmem, ⟨28, _⟩ => ⟨S4x2048x64, .f32⟩
  | .local _ .vmem, ⟨29, _⟩ => ⟨S4x2048x64, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_5 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68_0 : Ref sig .tc := ⟨.hbm, 86, rfl⟩
abbrev main_v68_1 : Ref sig .tc := ⟨.hbm, 87, rfl⟩
abbrev main_v68_2 : Ref sig .tc := ⟨.hbm, 88, rfl⟩
abbrev main_v68_3 : Ref sig .tc := ⟨.hbm, 89, rfl⟩
abbrev main_v68_4 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_74 : BitVec 32 := 1#32
  ⟨c0_i32_73, v107, c1_i32_74⟩
def k0_mult1 (i : grid0.Coords) (k0_t1 : Fin (k0_t1_loop i).trips) : BitVec 32 :=
  let c0_i32_73 : BitVec 32 := 0#32
  let c1_i32_74 : BitVec 32 := 1#32
  let arg19 : BitVec 32 := Scf.iv c0_i32_73 c1_i32_74 k0_t1
  let c512_i32_236 : BitVec 32 := 512#32
  let v402 : BitVec 32 := Scalar.muli arg19 c512_i32_236
  v402
def k0_off1 (i : grid0.Coords) (k0_t1 : Fin (k0_t1_loop i).trips) : Fin 3 → Nat :=
  let c0_237 : Index := 0#32
  let c0_i32_73 : BitVec 32 := 0#32
  let c1_i32_74 : BitVec 32 := 1#32
  let arg19 : BitVec 32 := Scf.iv c0_i32_73 c1_i32_74 k0_t1
  let c512_i32_236 : BitVec 32 := 512#32
  let v402 : BitVec 32 := Scalar.muli arg19 c512_i32_236
  let v403 : BitVec 32 := v402
  let v404 : Index := Scalar.indexCast v403
  let c0_238 : Index := 0#32
  ![0, v404.toNat, 0]
def k0_off2 (i : grid0.Coords) (k0_t1 : Fin (k0_t1_loop i).trips) : Fin 5 → Nat :=
  let c0_239 : Index := 0#32
  let c0_240 : Index := 0#32
  let c0_i32_73 : BitVec 32 := 0#32
  let c1_i32_74 : BitVec 32 := 1#32
  let arg19 : BitVec 32 := Scf.iv c0_i32_73 c1_i32_74 k0_t1
  let v407 : Index := Scalar.indexCast arg19
  let c0_241 : Index := 0#32
  let c0_242 : Index := 0#32
  ![0, 0, v407.toNat, 0, 0]
def k0_off3 (i : grid0.Coords) (k0_t1 : Fin (k0_t1_loop i).trips) : Fin 3 → Nat :=
  let c1_269 : Index := 1#32
  let c0_i32_73 : BitVec 32 := 0#32
  let c1_i32_74 : BitVec 32 := 1#32
  let arg19 : BitVec 32 := Scf.iv c0_i32_73 c1_i32_74 k0_t1
  let c512_i32_236 : BitVec 32 := 512#32
  let v402 : BitVec 32 := Scalar.muli arg19 c512_i32_236
  let v403 : BitVec 32 := v402
  let v462 : Index := Scalar.indexCast v403
  let c0_270 : Index := 0#32
  ![1, v462.toNat, 0]
def k0_off4 (i : grid0.Coords) (k0_t1 : Fin (k0_t1_loop i).trips) : Fin 5 → Nat :=
  let c0_271 : Index := 0#32
  let c1_272 : Index := 1#32
  let c0_i32_73 : BitVec 32 := 0#32
  let c1_i32_74 : BitVec 32 := 1#32
  let arg19 : BitVec 32 := Scf.iv c0_i32_73 c1_i32_74 k0_t1
  let v465 : Index := Scalar.indexCast arg19
  let c0_273 : Index := 0#32
  let c0_274 : Index := 0#32
  ![0, 1, v465.toNat, 0, 0]
def k0_off5 (i : grid0.Coords) (k0_t1 : Fin (k0_t1_loop i).trips) : Fin 3 → Nat :=
  let c2_301 : Index := 2#32
  let c0_i32_73 : BitVec 32 := 0#32
  let c1_i32_74 : BitVec 32 := 1#32
  let arg19 : BitVec 32 := Scf.iv c0_i32_73 c1_i32_74 k0_t1
  let c512_i32_236 : BitVec 32 := 512#32
  let v402 : BitVec 32 := Scalar.muli arg19 c512_i32_236
  let v403 : BitVec 32 := v402
  let v520 : Index := Scalar.indexCast v403
  let c0_302 : Index := 0#32
  ![2, v520.toNat, 0]
def k0_off6 (i : grid0.Coords) (k0_t1 : Fin (k0_t1_loop i).trips) : Fin 5 → Nat :=
  let c0_303 : Index := 0#32
  let c2_304 : Index := 2#32
  let c0_i32_73 : BitVec 32 := 0#32
  let c1_i32_74 : BitVec 32 := 1#32
  let arg19 : BitVec 32 := Scf.iv c0_i32_73 c1_i32_74 k0_t1
  let v523 : Index := Scalar.indexCast arg19
  let c0_305 : Index := 0#32
  let c0_306 : Index := 0#32
  ![0, 2, v523.toNat, 0, 0]
def k0_off7 (i : grid0.Coords) (k0_t1 : Fin (k0_t1_loop i).trips) : Fin 3 → Nat :=
  let c3_333 : Index := 3#32
  let c0_i32_73 : BitVec 32 := 0#32
  let c1_i32_74 : BitVec 32 := 1#32
  let arg19 : BitVec 32 := Scf.iv c0_i32_73 c1_i32_74 k0_t1
  let c512_i32_236 : BitVec 32 := 512#32
  let v402 : BitVec 32 := Scalar.muli arg19 c512_i32_236
  let v403 : BitVec 32 := v402
  let v578 : Index := Scalar.indexCast v403
  let c0_334 : Index := 0#32
  ![3, v578.toNat, 0]
def k0_off8 (i : grid0.Coords) (k0_t1 : Fin (k0_t1_loop i).trips) : Fin 5 → Nat :=
  let c0_335 : Index := 0#32
  let c3_336 : Index := 3#32
  let c0_i32_73 : BitVec 32 := 0#32
  let c1_i32_74 : BitVec 32 := 1#32
  let arg19 : BitVec 32 := Scf.iv c0_i32_73 c1_i32_74 k0_t1
  let v581 : Index := Scalar.indexCast arg19
  let c0_337 : Index := 0#32
  let c0_338 : Index := 0#32
  ![0, 3, v581.toNat, 0, 0]
@[reducible] def k0_t2_loop (i : grid0.Coords) : Scf.Loop 32 :=
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let v104 : BitVec 32 := Scalar.addi c0_i32_73 v103
  let c1_i32_75 : BitVec 32 := 1#32
  ⟨v107, v104, c1_i32_75⟩
def k0_mult2 (i : grid0.Coords) (k0_t2 : Fin (k0_t2_loop i).trips) : BitVec 32 :=
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_75 : BitVec 32 := 1#32
  let arg19 : BitVec 32 := Scf.iv v107 c1_i32_75 k0_t2
  let c512_i32_236 : BitVec 32 := 512#32
  let v402 : BitVec 32 := Scalar.muli arg19 c512_i32_236
  v402
def k0_off9 (i : grid0.Coords) (k0_t2 : Fin (k0_t2_loop i).trips) : Fin 3 → Nat :=
  let c0_237 : Index := 0#32
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_75 : BitVec 32 := 1#32
  let arg19 : BitVec 32 := Scf.iv v107 c1_i32_75 k0_t2
  let c512_i32_236 : BitVec 32 := 512#32
  let v402 : BitVec 32 := Scalar.muli arg19 c512_i32_236
  let v403 : BitVec 32 := v402
  let v404 : Index := Scalar.indexCast v403
  let c0_238 : Index := 0#32
  ![0, v404.toNat, 0]
def k0_off10 (i : grid0.Coords) (k0_t2 : Fin (k0_t2_loop i).trips) : Fin 5 → Nat :=
  let c0_239 : Index := 0#32
  let c0_240 : Index := 0#32
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_75 : BitVec 32 := 1#32
  let arg19 : BitVec 32 := Scf.iv v107 c1_i32_75 k0_t2
  let v407 : Index := Scalar.indexCast arg19
  let c0_241 : Index := 0#32
  let c0_242 : Index := 0#32
  ![0, 0, v407.toNat, 0, 0]
def k0_off11 (i : grid0.Coords) (k0_t2 : Fin (k0_t2_loop i).trips) : Fin 3 → Nat :=
  let c1_269 : Index := 1#32
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_75 : BitVec 32 := 1#32
  let arg19 : BitVec 32 := Scf.iv v107 c1_i32_75 k0_t2
  let c512_i32_236 : BitVec 32 := 512#32
  let v402 : BitVec 32 := Scalar.muli arg19 c512_i32_236
  let v403 : BitVec 32 := v402
  let v462 : Index := Scalar.indexCast v403
  let c0_270 : Index := 0#32
  ![1, v462.toNat, 0]
def k0_off12 (i : grid0.Coords) (k0_t2 : Fin (k0_t2_loop i).trips) : Fin 5 → Nat :=
  let c0_271 : Index := 0#32
  let c1_272 : Index := 1#32
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_75 : BitVec 32 := 1#32
  let arg19 : BitVec 32 := Scf.iv v107 c1_i32_75 k0_t2
  let v465 : Index := Scalar.indexCast arg19
  let c0_273 : Index := 0#32
  let c0_274 : Index := 0#32
  ![0, 1, v465.toNat, 0, 0]
def k0_off13 (i : grid0.Coords) (k0_t2 : Fin (k0_t2_loop i).trips) : Fin 3 → Nat :=
  let c2_301 : Index := 2#32
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_75 : BitVec 32 := 1#32
  let arg19 : BitVec 32 := Scf.iv v107 c1_i32_75 k0_t2
  let c512_i32_236 : BitVec 32 := 512#32
  let v402 : BitVec 32 := Scalar.muli arg19 c512_i32_236
  let v403 : BitVec 32 := v402
  let v520 : Index := Scalar.indexCast v403
  let c0_302 : Index := 0#32
  ![2, v520.toNat, 0]
def k0_off14 (i : grid0.Coords) (k0_t2 : Fin (k0_t2_loop i).trips) : Fin 5 → Nat :=
  let c0_303 : Index := 0#32
  let c2_304 : Index := 2#32
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_75 : BitVec 32 := 1#32
  let arg19 : BitVec 32 := Scf.iv v107 c1_i32_75 k0_t2
  let v523 : Index := Scalar.indexCast arg19
  let c0_305 : Index := 0#32
  let c0_306 : Index := 0#32
  ![0, 2, v523.toNat, 0, 0]
def k0_off15 (i : grid0.Coords) (k0_t2 : Fin (k0_t2_loop i).trips) : Fin 3 → Nat :=
  let c3_333 : Index := 3#32
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_75 : BitVec 32 := 1#32
  let arg19 : BitVec 32 := Scf.iv v107 c1_i32_75 k0_t2
  let c512_i32_236 : BitVec 32 := 512#32
  let v402 : BitVec 32 := Scalar.muli arg19 c512_i32_236
  let v403 : BitVec 32 := v402
  let v578 : Index := Scalar.indexCast v403
  let c0_334 : Index := 0#32
  ![3, v578.toNat, 0]
def k0_off16 (i : grid0.Coords) (k0_t2 : Fin (k0_t2_loop i).trips) : Fin 5 → Nat :=
  let c0_335 : Index := 0#32
  let c3_336 : Index := 3#32
  let c0_i32_73 : BitVec 32 := 0#32
  let arg1 : BitVec 32 := BitVec.ofNat 32 (i 1).val
  let v103 : BitVec 32 := Scalar.subi arg1 c0_i32_73
  let c1_i32 : BitVec 32 := 1#32
  let v105 : BitVec 32 := Scalar.divsi v103 c1_i32
  let v106 : BitVec 32 := Scalar.muli v105 c1_i32
  let v107 : BitVec 32 := Scalar.addi c0_i32_73 v106
  let c1_i32_75 : BitVec 32 := 1#32
  let arg19 : BitVec 32 := Scf.iv v107 c1_i32_75 k0_t2
  let v581 : Index := Scalar.indexCast arg19
  let c0_337 : Index := 0#32
  let c0_338 : Index := 0#32
  ![0, 3, v581.toNat, 0, 0]
def k0_mult3 (i : grid0.Coords) : BitVec 32 :=
  let arg1 : BitVec 32 := BitVec.ofNat 32 (i 1).val
  let c512_i32 : BitVec 32 := 512#32
  let v110 : BitVec 32 := Scalar.muli arg1 c512_i32
  v110
def k0_off17 (i : grid0.Coords) : Fin 3 → Nat :=
  let c0_76 : Index := 0#32
  let arg1 : BitVec 32 := BitVec.ofNat 32 (i 1).val
  let c512_i32 : BitVec 32 := 512#32
  let v110 : BitVec 32 := Scalar.muli arg1 c512_i32
  let v111 : BitVec 32 := v110
  let v112 : Index := Scalar.indexCast v111
  let c0_77 : Index := 0#32
  ![0, v112.toNat, 0]
def k0_off18 (i : grid0.Coords) : Fin 5 → Nat :=
  let c0_78 : Index := 0#32
  let c0_79 : Index := 0#32
  let arg1 : BitVec 32 := BitVec.ofNat 32 (i 1).val
  let v115 : Index := Scalar.indexCast arg1
  let c0_80 : Index := 0#32
  let c0_81 : Index := 0#32
  ![0, 0, v115.toNat, 0, 0]
def k0_off19 (i : grid0.Coords) : Fin 3 → Nat :=
  let c1_109 : Index := 1#32
  let arg1 : BitVec 32 := BitVec.ofNat 32 (i 1).val
  let c512_i32 : BitVec 32 := 512#32
  let v110 : BitVec 32 := Scalar.muli arg1 c512_i32
  let v111 : BitVec 32 := v110
  let v175 : Index := Scalar.indexCast v111
  let c0_110 : Index := 0#32
  ![1, v175.toNat, 0]
def k0_off20 (i : grid0.Coords) : Fin 5 → Nat :=
  let c0_111 : Index := 0#32
  let c1_112 : Index := 1#32
  let arg1 : BitVec 32 := BitVec.ofNat 32 (i 1).val
  let v178 : Index := Scalar.indexCast arg1
  let c0_113 : Index := 0#32
  let c0_114 : Index := 0#32
  ![0, 1, v178.toNat, 0, 0]
def k0_off21 (i : grid0.Coords) : Fin 3 → Nat :=
  let c2_142 : Index := 2#32
  let arg1 : BitVec 32 := BitVec.ofNat 32 (i 1).val
  let c512_i32 : BitVec 32 := 512#32
  let v110 : BitVec 32 := Scalar.muli arg1 c512_i32
  let v111 : BitVec 32 := v110
  let v238 : Index := Scalar.indexCast v111
  let c0_143 : Index := 0#32
  ![2, v238.toNat, 0]
def k0_off22 (i : grid0.Coords) : Fin 5 → Nat :=
  let c0_144 : Index := 0#32
  let c2_145 : Index := 2#32
  let arg1 : BitVec 32 := BitVec.ofNat 32 (i 1).val
  let v241 : Index := Scalar.indexCast arg1
  let c0_146 : Index := 0#32
  let c0_147 : Index := 0#32
  ![0, 2, v241.toNat, 0, 0]
def k0_off23 (i : grid0.Coords) : Fin 3 → Nat :=
  let c3_175 : Index := 3#32
  let arg1 : BitVec 32 := BitVec.ofNat 32 (i 1).val
  let c512_i32 : BitVec 32 := 512#32
  let v110 : BitVec 32 := Scalar.muli arg1 c512_i32
  let v111 : BitVec 32 := v110
  let v301 : Index := Scalar.indexCast v111
  let c0_176 : Index := 0#32
  ![3, v301.toNat, 0]
def k0_off24 (i : grid0.Coords) : Fin 5 → Nat :=
  let c0_177 : Index := 0#32
  let c3_178 : Index := 3#32
  let arg1 : BitVec 32 := BitVec.ofNat 32 (i 1).val
  let v304 : Index := Scalar.indexCast arg1
  let c0_179 : Index := 0#32
  let c0_180 : Index := 0#32
  ![0, 3, v304.toNat, 0, 0]
def k0_cond2 (i : grid0.Coords) : BitVec 1 :=
  let arg1 : BitVec 32 := BitVec.ofNat 32 (i 1).val
  let c3_i32 : BitVec 32 := 3#32
  let v399 : BitVec 1 := Scalar.cmpi .eq arg1 c3_i32
  let v400 : BitVec 32 := Scalar.extui v399
  let c0_i32_235 : BitVec 32 := 0#32
  let v401 : BitVec 1 := Scalar.cmpi .ne v400 c0_i32_235
  v401

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let c0_i32 : BitVec 32 := 0#32
  ![v1.toNat, c16_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, c17_i32.toNat]

def cc0_transform_2 (i : grid0.Coords) : Fin 2 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, c18_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x4x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S8192x7168 : Shape := ⟨2, ![8192, 7168]⟩
abbrev S4x4x2048 : Shape := ⟨3, ![4, 4, 2048]⟩
abbrev S8192x256 : Shape := ⟨2, ![8192, 256]⟩
abbrev S4x2048x4x64 : Shape := ⟨4, ![4, 2048, 4, 64]⟩
abbrev S4x4x2048x2048 : Shape := ⟨4, ![4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x2048x1 : Shape := ⟨4, ![4, 4, 2048, 1]⟩
abbrev S4x4x1x2048 : Shape := ⟨4, ![4, 4, 1, 2048]⟩
abbrev S4x4x64x2048 : Shape := ⟨4, ![4, 4, 64, 2048]⟩
abbrev S4x4x2048x64 : Shape := ⟨4, ![4, 4, 2048, 64]⟩
abbrev S4x4x4x1x512 : Shape := ⟨5, ![4, 4, 4, 1, 512]⟩

abbrev nBuf : Space → Nat
  | .hbm => 125
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S4x4x2048, .f32⟩
  | .hbm, ⟨2, _⟩ => ⟨S8192x256, .bf16⟩
  | .hbm, ⟨3, _⟩ => ⟨S8192x256, .bf16⟩
  | .hbm, ⟨4, _⟩ => ⟨S8192x256, .f32⟩
  | .hbm, ⟨5, _⟩ => ⟨S4x2048x4x64, .f32⟩
  | .hbm, ⟨6, _⟩ => ⟨S8192x256, .bf16⟩
  | .hbm, ⟨7, _⟩ => ⟨S8192x256, .f32⟩
  | .hbm, ⟨8, _⟩ => ⟨S4x2048x4x64, .f32⟩
  | .hbm, ⟨9, _⟩ => ⟨S8192x256, .bf16⟩
  | .hbm, ⟨10, _⟩ => ⟨S8192x256, .f32⟩
  | .hbm, ⟨11, _⟩ => ⟨S4x2048x4x64, .f32⟩
  | .hbm, ⟨12, _⟩ => ⟨S8192x256, .f32⟩
  | .hbm, ⟨13, _⟩ => ⟨S4x2048x4x64, .f32⟩
  | .hbm, ⟨14, _⟩ => ⟨S4x4x2048x2048, .f32⟩
  | .hbm, ⟨15, _⟩ => ⟨S_, .f32⟩
  | .hbm, ⟨16, _⟩ => ⟨S4x4x2048x2048, .f32⟩
  | .hbm, ⟨17, _⟩ => ⟨S4x4x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S4x4x2048x1, .f32⟩
  | .hbm, ⟨26, _⟩ => ⟨S4x4x1x2048, .f32⟩
  | .hbm, ⟨27, _⟩ => ⟨S4x4x2048x2048, .f32⟩
  | .hbm, ⟨28, _⟩ => ⟨S4x4x2048x2048, .f32⟩
  | .hbm, ⟨29, _⟩ => ⟨S4x4x2048x2048, .f32⟩
  | .hbm, ⟨30, _⟩ => ⟨S4x4x2048x2048, .f32⟩
  | .hbm, ⟨31, _⟩ => ⟨S_, .f32⟩
  | .hbm, ⟨32, _⟩ => ⟨S_, .f32⟩
  | .hbm, ⟨33, _⟩ => ⟨S4x4x2048x2048, .i1⟩
  | .hbm, ⟨34, _⟩ => ⟨S4x4x2048x2048, .f32⟩
  | .hbm, ⟨35, _⟩ => ⟨S4x4x2048x2048, .f32⟩
  | .hbm, ⟨36, _⟩ => ⟨S_, .f32⟩
  | .hbm, ⟨37, _⟩ => ⟨S4x4x2048x2048, .f32⟩
  | .hbm, ⟨38, _⟩ => ⟨S_, .f32⟩
  | .hbm, ⟨39, _⟩ => ⟨S4x4x2048, .f32⟩
  | .hbm, ⟨40, _⟩ => ⟨S4x4x2048x1, .f32⟩
  | .hbm, ⟨41, _⟩ => ⟨S4x4x2048x2048, .f32⟩
  | .hbm, ⟨42, _⟩ => ⟨S4x4x2048x2048, .i1⟩
  | .hbm, ⟨43, _⟩ => ⟨S4x4x2048x2048, .f32⟩
  | .hbm, ⟨44, _⟩ => ⟨S_, .f32⟩
  | .hbm, ⟨45, _⟩ => ⟨S4x4x2048, .f32⟩
  | .hbm, ⟨46, _⟩ => ⟨S_, .f32⟩
  | .hbm, ⟨47, _⟩ => ⟨S4x4x2048, .f32⟩
  | .hbm, ⟨48, _⟩ => ⟨S4x4x2048, .f32⟩
  | .hbm, ⟨49, _⟩ => ⟨S_, .f32⟩
  | .hbm, ⟨50, _⟩ => ⟨S4x4x2048, .f32⟩
  | .hbm, ⟨51, _⟩ => ⟨S4x4x2048, .i1⟩
  | .hbm, ⟨52, _⟩ => ⟨S_, .f32⟩
  | .hbm, ⟨53, _⟩ => ⟨S4x4x2048, .f32⟩
  | .hbm, ⟨54, _⟩ => ⟨S4x4x2048, .i1⟩
  | .hbm, ⟨55, _⟩ => ⟨S_, .f32⟩
  | .hbm, ⟨56, _⟩ => ⟨S4x4x2048, .f32⟩
  | .hbm, ⟨57, _⟩ => ⟨S_, .f32⟩
  | .hbm, ⟨58, _⟩ => ⟨S4x4x2048, .f32⟩
  | .hbm, ⟨59, _⟩ => ⟨S_, .f32⟩
  | .hbm, ⟨60, _⟩ => ⟨S4x4x2048, .f32⟩
  | .hbm, ⟨61, _⟩ => ⟨S4x4x2048, .f32⟩
  | .hbm, ⟨62, _⟩ => ⟨S4x4x2048, .f32⟩
  | .hbm, ⟨63, _⟩ => ⟨S4x4x2048x1, .f32⟩
  | .hbm, ⟨64, _⟩ => ⟨S4x4x2048x2048, .f32⟩
  | .hbm, ⟨65, _⟩ => ⟨S4x4x2048x2048, .f32⟩
  | .hbm, ⟨66, _⟩ => ⟨S4x4x2048x2048, .f32⟩
  | .hbm, ⟨67, _⟩ => ⟨S_, .f32⟩
  | .hbm, ⟨68, _⟩ => ⟨S4x4x2048, .f32⟩
  | .hbm, ⟨69, _⟩ => ⟨S4x4x2048x1, .f32⟩
  | .hbm, ⟨70, _⟩ => ⟨S4x4x2048x2048, .f32⟩
  | .hbm, ⟨71, _⟩ => ⟨S4x4x2048x2048, .f32⟩
  | .hbm, ⟨72, _⟩ => ⟨S4x4x2048x1, .f32⟩
  | .hbm, ⟨73, _⟩ => ⟨S_, .f32⟩
  | .hbm, ⟨74, _⟩ => ⟨S4x4x2048x1, .f32⟩
  | .hbm, ⟨75, _⟩ => ⟨S4x4x2048x1, .f32⟩
  | .hbm, ⟨76, _⟩ => ⟨S4x4x64x2048, .f32⟩
  | .hbm, ⟨77, _⟩ => ⟨S4x2048x4x64, .f32⟩
  | .hbm, ⟨78, _⟩ => ⟨S4x4x64x2048, .f32⟩
  | .hbm, ⟨79, _⟩ => ⟨S4x4x2048x2048, .f32⟩
  | .hbm, ⟨80, _⟩ => ⟨S4x4x64x2048, .f32⟩
  | .hbm, ⟨81, _⟩ => ⟨S4x2048x4x64, .f32⟩
  | .hbm, ⟨82, _⟩ => ⟨S4x4x2048x2048, .f32⟩
  | .hbm, ⟨83, _⟩ => ⟨S4x4x2048x2048, .f32⟩
  | .hbm, ⟨84, _⟩ => ⟨S4x4x2048x2048, .f32⟩
  | .hbm, ⟨85, _⟩ => ⟨S_, .f32⟩
  | .hbm, ⟨86, _⟩ => ⟨S4x4x2048, .f32⟩
  | .hbm, ⟨87, _⟩ => ⟨S4x4x2048x1, .f32⟩
  | .hbm, ⟨88, _⟩ => ⟨S4x4x2048x1, .f32⟩
  | .hbm, ⟨89, _⟩ => ⟨S4x4x2048x2048, .f32⟩
  | .hbm, ⟨90, _⟩ => ⟨S4x4x2048x2048, .f32⟩
  | .hbm, ⟨91, _⟩ => ⟨S_, .f32⟩
  | .hbm, ⟨92, _⟩ => ⟨S4x4x2048, .f32⟩
  | .hbm, ⟨93, _⟩ => ⟨S4x4x2048x2048, .f32⟩
  | .hbm, ⟨94, _⟩ => ⟨S4x4x2048x2048, .f32⟩
  | .hbm, ⟨95, _⟩ => ⟨S4x4x2048x2048, .f32⟩
  | .hbm, ⟨96, _⟩ => ⟨S_, .f32⟩
  | .hbm, ⟨97, _⟩ => ⟨S4x4x2048x2048, .f32⟩
  | .hbm, ⟨98, _⟩ => ⟨S4x4x2048x2048, .f32⟩
  | .hbm, ⟨99, _⟩ => ⟨S_, .f32⟩
  | .hbm, ⟨100, _⟩ => ⟨S4x4x2048, .f32⟩
  | .hbm, ⟨101, _⟩ => ⟨S4x4x2048x1, .f32⟩
  | .hbm, ⟨102, _⟩ => ⟨S4x4x2048x2048, .f32⟩
  | .hbm, ⟨103, _⟩ => ⟨S_, .f32⟩
  | .hbm, ⟨104, _⟩ => ⟨S4x4x2048, .f32⟩
  | .hbm, ⟨105, _⟩ => ⟨S4x4x1x2048, .f32⟩
  | .hbm, ⟨106, _⟩ => ⟨S_, .f32⟩
  | .hbm, ⟨107, _⟩ => ⟨S4x4x2048, .f32⟩
  | .hbm, ⟨108, _⟩ => ⟨S_, .f32⟩
  | .hbm, ⟨109, _⟩ => ⟨S4x4x2048, .f32⟩
  | .hbm, ⟨110, _⟩ => ⟨S_, .f32⟩
  | .hbm, ⟨111, _⟩ => ⟨S4x4x2048x2048, .f32⟩
  | .hbm, ⟨112, _⟩ => ⟨S4x4x2048x2048, .f32⟩
  | .hbm, ⟨113, _⟩ => ⟨S4x4x2048x64, .f32⟩
  | .hbm, ⟨114, _⟩ => ⟨S4x2048x4x64, .f32⟩
  | .hbm, ⟨115, _⟩ => ⟨S4x4x2048x64, .f32⟩
  | .hbm, ⟨116, _⟩ => ⟨S4x2048x4x64, .f32⟩
  | .hbm, ⟨117, _⟩ => ⟨S8192x256, .f32⟩
  | .hbm, ⟨118, _⟩ => ⟨S8192x256, .bf16⟩
  | .hbm, ⟨119, _⟩ => ⟨S8192x256, .f32⟩
  | .hbm, ⟨120, _⟩ => ⟨S8192x256, .bf16⟩
  | .hbm, ⟨121, _⟩ => ⟨S8192x256, .f32⟩
  | .hbm, ⟨122, _⟩ => ⟨S8192x256, .bf16⟩
  | .hbm, ⟨123, _⟩ => ⟨S4x4x4x1x512, .f32⟩
  | .hbm, ⟨124, _⟩ => ⟨S4x4x2048x1, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== Proof.Merge.Spec.lean ====
module
public import Idealize.ShloMosaic.Lib.Pipeline.ValueKit
@[expose] public section
set_option maxRecDepth 16384
noncomputable section
namespace Cert.MergeV
open Idealize.ShloMosaic Idealize.ShloMosaic.TcCoe Idealize.SL.Sem

/-! The gated merge `Σ_k σ(gates_k + b_k) · z_k` of four branches and its derivative, entry by entry. -/

/-- The gate `σ(proj[r, q] + b[q])` of row `r` and gate column `q` (branch `k` owns columns `1024k … 1024k + 1023`). -/
def gate (p : (⟨2, ![8192, 7168]⟩ : Shape).Idx → EReal) (b : (⟨1, ![4096]⟩ : Shape).Idx → EReal) (r : Fin 8192) (q : Fin 4096) : EReal :=
  Ideal.logistic (p (ix2 r ⟨q.val, by omega⟩) + b (ix1 q))

/-- The gradient of the gate column `q`: `d[r, l] · z[r, l] · σ(1 − σ)` with `l` the column of the branch. -/
def dgate (p : (⟨2, ![8192, 7168]⟩ : Shape).Idx → EReal) (b : (⟨1, ![4096]⟩ : Shape).Idx → EReal)
    (z d : (⟨2, ![8192, 1024]⟩ : Shape).Idx → EReal) (r : Fin 8192) (q : Fin 4096) (l : Fin 1024) : EReal :=
  d (ix2 r l) * z (ix2 r l) * (gate p b r q * (1 - gate p b r q))

/-- The gradient of the branch: `σ · d`. -/
def dz (p : (⟨2, ![8192, 7168]⟩ : Shape).Idx → EReal) (b : (⟨1, ![4096]⟩ : Shape).Idx → EReal)
    (d : (⟨2, ![8192, 1024]⟩ : Shape).Idx → EReal) (r : Fin 8192) (q : Fin 4096) (l : Fin 1024) : EReal :=
  gate p b r q * d (ix2 r l)

/-- The gradient of the bias of column `q`: the gate's gradient summed over the rows. -/
def db (p : (⟨2, ![8192, 7168]⟩ : Shape).Idx → EReal) (b : (⟨1, ![4096]⟩ : Shape).Idx → EReal)
    (z d : (⟨2, ![8192, 1024]⟩ : Shape).Idx → EReal) (q : Fin 4096) (l : Fin 1024) : EReal :=
  ∑ r : Fin 8192, dgate p b z d r q l

/-- Branch `k`'s gate column at the branch's column `l`. -/
def col (k : Fin 4) (l : Fin 1024) : Fin 4096 := ⟨1024 * k.val + l.val, by omega⟩

end Cert.MergeV
-- ==== Proof.Merge.Blocks.lean ====
module
public import proofs.«01_k».proof.Proof.Gen.MergeIdeal.Value
public import proofs.«01_k».proof.Proof.Merge.Spec
public import Idealize.ShloMosaic.Lib.Pipeline.ValueKit
@[expose] public section
set_option maxRecDepth 16384
noncomputable section
namespace Cert.MergeV
open Cert.MergeIdeal Cert.MergeIdeal.Gen Idealize.ShloMosaic Idealize.ShloMosaic.TcCoe Idealize.SL.Sem
variable (m : (ℓ : Loc nD τ sig) → Buf (Elt Ideal) ℓ)

/-! The blocks that a grid point reads, entry by entry. -/

/-- The index maps, decided over the 32 grid points: row blocks move with the point, gate windows stay in their column. -/
theorem idx : ∀ t : Fin cfg0.N, win0_0.index t = ![t.val, 0] ∧ win0_1.index t = ![t.val, 1] ∧ win0_2.index t = ![t.val, 2] ∧ win0_3.index t = ![t.val, 3] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![0, 0] ∧ win0_12.index t = ![0, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

/-- Row `a` of point `t`'s row block. -/
def row (t : Fin cfg0.N) (a : Fin 256) : Fin 8192 := ⟨256 * t.val + a.val, by have := t.isLt; change t.val < 32 at this; omega⟩

theorem blk_gate0 (c : Dev nD) (t : Fin cfg0.N) (a : Fin 256) (l : Fin 1024) :
    iblk m c 0 t (ix2 a l) = m ((c : Thread nD τ).loc main_arg0) (ix2 (row t a) ⟨(col 0 l).val, by omega⟩) := by
  unfold row col
  blk_ext [iblk, idx t]

theorem blk_bias0 (c : Dev nD) (t : Fin cfg0.N) (l : Fin 1024) :
    iblk m c 9 t (ix2 0 l) = m ((c : Thread nD τ).loc main_arg5) (ix1 (col 0 l)) := by
  unfold iblk
  entry_read
  rw [View.read_apply, cast_eq, show ((cfg0.win 9).blk t).view.emb (ix2 0 l) = (ix2 0 l : S1x1024.Idx) from by blk_ext [idx t]]
  change shapeCast S1x1024 _ _ (ix2 0 l : S1x1024.Idx) = _
  pointwise
  unfold col
  blk_ext

theorem blk_z0 (c : Dev nD) (t : Fin cfg0.N) (a : Fin 256) (l : Fin 1024) :
    iblk m c 4 t (ix2 a l) = m ((c : Thread nD τ).loc main_arg1) (ix2 (row t a) l) := by
  unfold row
  blk_ext [iblk, idx t]

theorem blk_gate1 (c : Dev nD) (t : Fin cfg0.N) (a : Fin 256) (l : Fin 1024) :
    iblk m c 1 t (ix2 a l) = m ((c : Thread nD τ).loc main_arg0) (ix2 (row t a) ⟨(col 1 l).val, by omega⟩) := by
  unfold row col
  blk_ext [iblk, idx t]

theorem blk_bias1 (c : Dev nD) (t : Fin cfg0.N) (l : Fin 1024) :
    iblk m c 10 t (ix2 0 l) = m ((c : Thread nD τ).loc main_arg5) (ix1 (col 1 l)) := by
  unfold iblk
  entry_read
  rw [View.read_apply, cast_eq, show ((cfg0.win 10).blk t).view.emb (ix2 0 l) = (ix2 0 l : S1x1024.Idx) from by blk_ext [idx t]]
  change shapeCast S1x1024 _ _ (ix2 0 l : S1x1024.Idx) = _
  pointwise
  unfold col
  blk_ext

theorem blk_z1 (c : Dev nD) (t : Fin cfg0.N) (a : Fin 256) (l : Fin 1024) :
    iblk m c 5 t (ix2 a l) = m ((c : Thread nD τ).loc main_arg2) (ix2 (row t a) l) := by
  unfold row
  blk_ext [iblk, idx t]

theorem blk_gate2 (c : Dev nD) (t : Fin cfg0.N) (a : Fin 256) (l : Fin 1024) :
    iblk m c 2 t (ix2 a l) = m ((c : Thread nD τ).loc main_arg0) (ix2 (row t a) ⟨(col 2 l).val, by omega⟩) := by
  unfold row col
  blk_ext [iblk, idx t]

theorem blk_bias2 (c : Dev nD) (t : Fin cfg0.N) (l : Fin 1024) :
    iblk m c 11 t (ix2 0 l) = m ((c : Thread nD τ).loc main_arg5) (ix1 (col 2 l)) := by
  unfold iblk
  entry_read
  rw [View.read_apply, cast_eq, show ((cfg0.win 11).blk t).view.emb (ix2 0 l) = (ix2 0 l : S1x1024.Idx) from by blk_ext [idx t]]
  change shapeCast S1x1024 _ _ (ix2 0 l : S1x1024.Idx) = _
  pointwise
  unfold col
  blk_ext

theorem blk_z2 (c : Dev nD) (t : Fin cfg0.N) (a : Fin 256) (l : Fin 1024) :
    iblk m c 6 t (ix2 a l) = m ((c : Thread nD τ).loc main_arg3) (ix2 (row t a) l) := by
  unfold row
  blk_ext [iblk, idx t]

theorem blk_gate3 (c : Dev nD) (t : Fin cfg0.N) (a : Fin 256) (l : Fin 1024) :
    iblk m c 3 t (ix2 a l) = m ((c : Thread nD τ).loc main_arg0) (ix2 (row t a) ⟨(col 3 l).val, by omega⟩) := by
  unfold row col
  blk_ext [iblk, idx t]

theorem blk_bias3 (c : Dev nD) (t : Fin cfg0.N) (l : Fin 1024) :
    iblk m c 12 t (ix2 0 l) = m ((c : Thread nD τ).loc main_arg5) (ix1 (col 3 l)) := by
  unfold iblk
  entry_read
  rw [View.read_apply, cast_eq, show ((cfg0.win 12).blk t).view.emb (ix2 0 l) = (ix2 0 l : S1x1024.Idx) from by blk_ext [idx t]]
  change shapeCast S1x1024 _ _ (ix2 0 l : S1x1024.Idx) = _
  pointwise
  unfold col
  blk_ext

theorem blk_z3 (c : Dev nD) (t : Fin cfg0.N) (a : Fin 256) (l : Fin 1024) :
    iblk m c 7 t (ix2 a l) = m ((c : Thread nD τ).loc main_arg4) (ix2 (row t a) l) := by
  unfold row
  blk_ext [iblk, idx t]

theorem blk_d (c : Dev nD) (t : Fin cfg0.N) (a : Fin 256) (l : Fin 1024) :
    iblk m c 8 t (ix2 a l) = m ((c : Thread nD τ).loc main_arg6) (ix2 (row t a) l) := by
  unfold row
  blk_ext [iblk, idx t]

end Cert.MergeV
-- ==== Proof.Merge.Branches.lean ====
module
public import proofs.«01_k».proof.Proof.Merge.Blocks
public import Idealize.ShloMosaic.Lib.Pipeline.ValueKit
@[expose] public section
set_option maxRecDepth 16384
noncomputable section
namespace Cert.MergeV
open Cert.MergeIdeal Cert.MergeIdeal.Gen Idealize.ShloMosaic Idealize.ShloMosaic.TcCoe Idealize.SL.Sem
variable (m : (ℓ : Loc nD τ sig) → Buf (Elt Ideal) ℓ)

/-! The kernel's twelve result arrays as functions of its arguments. -/

/-- The first point is the only one at which the accumulators are reset. -/
theorem reset (t : Fin cfg0.N) (h : t.val % 32 = 0) : ¬ 1 ≤ t.val := by
  have := t.isLt; change t.val < 32 at this; omega

theorem later (t : Fin cfg0.N) (h : ¬ t.val % 32 = 0) : 1 ≤ t.val := by omega

/-- What point `t` leaves in result 0's block. -/
theorem pt_dgate0 (c : Dev nD) (t : Fin cfg0.N) (a : Fin 256) (l : Fin 1024) :
    (outsAt0 m c t.val t.isLt).1 (ix2 a l) = dgate (m ((c : Thread nD τ).loc main_arg0)) (m ((c : Thread nD τ).loc main_arg5)) (m ((c : Thread nD τ).loc main_arg1)) (m ((c : Thread nD τ).loc main_arg6)) (row t a) (col 0 l) l := by
  by_cases h0 : t.val % 32 = 0
  · rw [outsAt0_A m c t h0 (reset t h0)]
    frame_out
    unfold_payloads
    pointwise [blk_gate0, blk_bias0, blk_d, blk_z0]
    rfl
  · rw [outsAt0_B m c t h0 (later t h0)]
    frame_out
    unfold_payloads
    pointwise [blk_gate0, blk_bias0, blk_d, blk_z0]
    rfl

theorem arr_dgate0 (c : Dev nD) :
    (dats m 0 c).arrAt 13 cfg0.N = fun i : S8192x1024.Idx => dgate (m ((c : Thread nD τ).loc main_arg0)) (m ((c : Thread nD τ).loc main_arg5)) (m ((c : Thread nD τ).loc main_arg1)) (m ((c : Thread nD τ).loc main_arg6)) (i 0) (col 0 (i 1)) (i 1) := by
  refine (dats m 0 c).arrAt_eq_of_covers 13 _ (by decide +kernel) fun t hf y => ?_
  idx_vars y
  rw [after0_13, show ((cfg0.win 13).blk t).view.emb (ix2 y0 y1) = (ix2 (row t y0) y1 : S8192x1024.Idx) from by unfold row; blk_ext [idx t]]
  exact pt_dgate0 m c t y0 y1

/-- What point `t` leaves in result 4's block. -/
theorem pt_dz0 (c : Dev nD) (t : Fin cfg0.N) (a : Fin 256) (l : Fin 1024) :
    (outsAt0 m c t.val t.isLt).2.2.2.2.1 (ix2 a l) = dz (m ((c : Thread nD τ).loc main_arg0)) (m ((c : Thread nD τ).loc main_arg5)) (m ((c : Thread nD τ).loc main_arg6)) (row t a) (col 0 l) l := by
  by_cases h0 : t.val % 32 = 0
  · rw [outsAt0_A m c t h0 (reset t h0)]
    frame_out
    unfold_payloads
    pointwise [blk_gate0, blk_bias0, blk_d]
    rfl
  · rw [outsAt0_B m c t h0 (later t h0)]
    frame_out
    unfold_payloads
    pointwise [blk_gate0, blk_bias0, blk_d]
    rfl

theorem arr_dz0 (c : Dev nD) :
    (dats m 0 c).arrAt 17 cfg0.N = fun i : S8192x1024.Idx => dz (m ((c : Thread nD τ).loc main_arg0)) (m ((c : Thread nD τ).loc main_arg5)) (m ((c : Thread nD τ).loc main_arg6)) (i 0) (col 0 (i 1)) (i 1) := by
  refine (dats m 0 c).arrAt_eq_of_covers 17 _ (by decide +kernel) fun t hf y => ?_
  idx_vars y
  rw [after0_17, show ((cfg0.win 17).blk t).view.emb (ix2 y0 y1) = (ix2 (row t y0) y1 : S8192x1024.Idx) from by unfold row; blk_ext [idx t]]
  exact pt_dz0 m c t y0 y1

/-- What point `t` leaves in result 1's block. -/
theorem pt_dgate1 (c : Dev nD) (t : Fin cfg0.N) (a : Fin 256) (l : Fin 1024) :
    (outsAt0 m c t.val t.isLt).2.1 (ix2 a l) = dgate (m ((c : Thread nD τ).loc main_arg0)) (m ((c : Thread nD τ).loc main_arg5)) (m ((c : Thread nD τ).loc main_arg2)) (m ((c : Thread nD τ).loc main_arg6)) (row t a) (col 1 l) l := by
  by_cases h0 : t.val % 32 = 0
  · rw [outsAt0_A m c t h0 (reset t h0)]
    frame_out
    unfold_payloads
    pointwise [blk_gate1, blk_bias1, blk_d, blk_z1]
    rfl
  · rw [outsAt0_B m c t h0 (later t h0)]
    frame_out
    unfold_payloads
    pointwise [blk_gate1, blk_bias1, blk_d, blk_z1]
    rfl

theorem arr_dgate1 (c : Dev nD) :
    (dats m 0 c).arrAt 14 cfg0.N = fun i : S8192x1024.Idx => dgate (m ((c : Thread nD τ).loc main_arg0)) (m ((c : Thread nD τ).loc main_arg5)) (m ((c : Thread nD τ).loc main_arg2)) (m ((c : Thread nD τ).loc main_arg6)) (i 0) (col 1 (i 1)) (i 1) := by
  refine (dats m 0 c).arrAt_eq_of_covers 14 _ (by decide +kernel) fun t hf y => ?_
  idx_vars y
  rw [after0_14, show ((cfg0.win 14).blk t).view.emb (ix2 y0 y1) = (ix2 (row t y0) y1 : S8192x1024.Idx) from by unfold row; blk_ext [idx t]]
  exact pt_dgate1 m c t y0 y1

/-- What point `t` leaves in result 5's block. -/
theorem pt_dz1 (c : Dev nD) (t : Fin cfg0.N) (a : Fin 256) (l : Fin 1024) :
    (outsAt0 m c t.val t.isLt).2.2.2.2.2.1 (ix2 a l) = dz (m ((c : Thread nD τ).loc main_arg0)) (m ((c : Thread nD τ).loc main_arg5)) (m ((c : Thread nD τ).loc main_arg6)) (row t a) (col 1 l) l := by
  by_cases h0 : t.val % 32 = 0
  · rw [outsAt0_A m c t h0 (reset t h0)]
    frame_out
    unfold_payloads
    pointwise [blk_gate1, blk_bias1, blk_d]
    rfl
  · rw [outsAt0_B m c t h0 (later t h0)]
    frame_out
    unfold_payloads
    pointwise [blk_gate1, blk_bias1, blk_d]
    rfl

theorem arr_dz1 (c : Dev nD) :
    (dats m 0 c).arrAt 18 cfg0.N = fun i : S8192x1024.Idx => dz (m ((c : Thread nD τ).loc main_arg0)) (m ((c : Thread nD τ).loc main_arg5)) (m ((c : Thread nD τ).loc main_arg6)) (i 0) (col 1 (i 1)) (i 1) := by
  refine (dats m 0 c).arrAt_eq_of_covers 18 _ (by decide +kernel) fun t hf y => ?_
  idx_vars y
  rw [after0_18, show ((cfg0.win 18).blk t).view.emb (ix2 y0 y1) = (ix2 (row t y0) y1 : S8192x1024.Idx) from by unfold row; blk_ext [idx t]]
  exact pt_dz1 m c t y0 y1

/-- What point `t` leaves in result 2's block. -/
theorem pt_dgate2 (c : Dev nD) (t : Fin cfg0.N) (a : Fin 256) (l : Fin 1024) :
    (outsAt0 m c t.val t.isLt).2.2.1 (ix2 a l) = dgate (m ((c : Thread nD τ).loc main_arg0)) (m ((c : Thread nD τ).loc main_arg5)) (m ((c : Thread nD τ).loc main_arg3)) (m ((c : Thread nD τ).loc main_arg6)) (row t a) (col 2 l) l := by
  by_cases h0 : t.val % 32 = 0
  · rw [outsAt0_A m c t h0 (reset t h0)]
    frame_out
    unfold_payloads
    pointwise [blk_gate2, blk_bias2, blk_d, blk_z2]
    rfl
  · rw [outsAt0_B m c t h0 (later t h0)]
    frame_out
    unfold_payloads
    pointwise [blk_gate2, blk_bias2, blk_d, blk_z2]
    rfl

theorem arr_dgate2 (c : Dev nD) :
    (dats m 0 c).arrAt 15 cfg0.N = fun i : S8192x1024.Idx => dgate (m ((c : Thread nD τ).loc main_arg0)) (m ((c : Thread nD τ).loc main_arg5)) (m ((c : Thread nD τ).loc main_arg3)) (m ((c : Thread nD τ).loc main_arg6)) (i 0) (col 2 (i 1)) (i 1) := by
  refine (dats m 0 c).arrAt_eq_of_covers 15 _ (by decide +kernel) fun t hf y => ?_
  idx_vars y
  rw [after0_15, show ((cfg0.win 15).blk t).view.emb (ix2 y0 y1) = (ix2 (row t y0) y1 : S8192x1024.Idx) from by unfold row; blk_ext [idx t]]
  exact pt_dgate2 m c t y0 y1

/-- What point `t` leaves in result 6's block. -/
theorem pt_dz2 (c : Dev nD) (t : Fin cfg0.N) (a : Fin 256) (l : Fin 1024) :
    (outsAt0 m c t.val t.isLt).2.2.2.2.2.2.1 (ix2 a l) = dz (m ((c : Thread nD τ).loc main_arg0)) (m ((c : Thread nD τ).loc main_arg5)) (m ((c : Thread nD τ).loc main_arg6)) (row t a) (col 2 l) l := by
  by_cases h0 : t.val % 32 = 0
  · rw [outsAt0_A m c t h0 (reset t h0)]
    frame_out
    unfold_payloads
    pointwise [blk_gate2, blk_bias2, blk_d]
    rfl
  · rw [outsAt0_B m c t h0 (later t h0)]
    frame_out
    unfold_payloads
    pointwise [blk_gate2, blk_bias2, blk_d]
    rfl

theorem arr_dz2 (c : Dev nD) :
    (dats m 0 c).arrAt 19 cfg0.N = fun i : S8192x1024.Idx => dz (m ((c : Thread nD τ).loc main_arg0)) (m ((c : Thread nD τ).loc main_arg5)) (m ((c : Thread nD τ).loc main_arg6)) (i 0) (col 2 (i 1)) (i 1) := by
  refine (dats m 0 c).arrAt_eq_of_covers 19 _ (by decide +kernel) fun t hf y => ?_
  idx_vars y
  rw [after0_19, show ((cfg0.win 19).blk t).view.emb (ix2 y0 y1) = (ix2 (row t y0) y1 : S8192x1024.Idx) from by unfold row; blk_ext [idx t]]
  exact pt_dz2 m c t y0 y1

/-- What point `t` leaves in result 3's block. -/
theorem pt_dgate3 (c : Dev nD) (t : Fin cfg0.N) (a : Fin 256) (l : Fin 1024) :
    (outsAt0 m c t.val t.isLt).2.2.2.1 (ix2 a l) = dgate (m ((c : Thread nD τ).loc main_arg0)) (m ((c : Thread nD τ).loc main_arg5)) (m ((c : Thread nD τ).loc main_arg4)) (m ((c : Thread nD τ).loc main_arg6)) (row t a) (col 3 l) l := by
  by_cases h0 : t.val % 32 = 0
  · rw [outsAt0_A m c t h0 (reset t h0)]
    frame_out
    unfold_payloads
    pointwise [blk_gate3, blk_bias3, blk_d, blk_z3]
    rfl
  · rw [outsAt0_B m c t h0 (later t h0)]
    frame_out
    unfold_payloads
    pointwise [blk_gate3, blk_bias3, blk_d, blk_z3]
    rfl

theorem arr_dgate3 (c : Dev nD) :
    (dats m 0 c).arrAt 16 cfg0.N = fun i : S8192x1024.Idx => dgate (m ((c : Thread nD τ).loc main_arg0)) (m ((c : Thread nD τ).loc main_arg5)) (m ((c : Thread nD τ).loc main_arg4)) (m ((c : Thread nD τ).loc main_arg6)) (i 0) (col 3 (i 1)) (i 1) := by
  refine (dats m 0 c).arrAt_eq_of_covers 16 _ (by decide +kernel) fun t hf y => ?_
  idx_vars y
  rw [after0_16, show ((cfg0.win 16).blk t).view.emb (ix2 y0 y1) = (ix2 (row t y0) y1 : S8192x1024.Idx) from by unfold row; blk_ext [idx t]]
  exact pt_dgate3 m c t y0 y1

/-- What point `t` leaves in result 7's block. -/
theorem pt_dz3 (c : Dev nD) (t : Fin cfg0.N) (a : Fin 256) (l : Fin 1024) :
    (outsAt0 m c t.val t.isLt).2.2.2.2.2.2.2.1 (ix2 a l) = dz (m ((c : Thread nD τ).loc main_arg0)) (m ((c : Thread nD τ).loc main_arg5)) (m ((c : Thread nD τ).loc main_arg6)) (row t a) (col 3 l) l := by
  by_cases h0 : t.val % 32 = 0
  · rw [outsAt0_A m c t h0 (reset t h0)]
    frame_out
    unfold_payloads
    pointwise [blk_gate3, blk_bias3, blk_d]
    rfl
  · rw [outsAt0_B m c t h0 (later t h0)]
    frame_out
    unfold_payloads
    pointwise [blk_gate3, blk_bias3, blk_d]
    rfl

theorem arr_dz3 (c : Dev nD) :
    (dats m 0 c).arrAt 20 cfg0.N = fun i : S8192x1024.Idx => dz (m ((c : Thread nD τ).loc main_arg0)) (m ((c : Thread nD τ).loc main_arg5)) (m ((c : Thread nD τ).loc main_arg6)) (i 0) (col 3 (i 1)) (i 1) := by
  refine (dats m 0 c).arrAt_eq_of_covers 20 _ (by decide +kernel) fun t hf y => ?_
  idx_vars y
  rw [after0_20, show ((cfg0.win 20).blk t).view.emb (ix2 y0 y1) = (ix2 (row t y0) y1 : S8192x1024.Idx) from by unfold row; blk_ext [idx t]]
  exact pt_dz3 m c t y0 y1

end Cert.MergeV
-- ==== Proof.Merge.Bias.lean ====
module
public import proofs.«01_k».proof.Proof.Merge.Branches
public import Idealize.ShloMosaic.Lib.Pipeline.ValueKit
@[expose] public section
set_option maxRecDepth 16384
noncomputable section
namespace Cert.MergeV
open Cert.MergeIdeal Cert.MergeIdeal.Gen Idealize.ShloMosaic Idealize.ShloMosaic.TcCoe Idealize.SL.Sem
variable (m : (ℓ : Loc nD τ sig) → Buf (Elt Ideal) ℓ)

/-! The four bias gradients: one row that the first point clears and every point adds its rows' sum to. -/

theorem idx2 : ∀ t : Fin cfg0.N, win0_21.index t = ![0, 0] ∧ win0_22.index t = ![0, 0] ∧ win0_23.index t = ![0, 0] ∧ win0_24.index t = ![0, 0] :=
  (by decide +kernel : ∀ t : Fin grid0.N, _)

/-- The 8192 rows are 32 blocks of 256. -/
theorem sum_rows (f : Fin 8192 → EReal) : ∑ t : Fin cfg0.N, ∑ a : Fin 256, f (row t a) = ∑ r : Fin 8192, f r := by
  refine Fin.sum_mul_add_congr (S := 32) (n := 256) fun s k hl => congrArg f (Fin.ext ?_)
  change 256 * s.val + k.val = s.val * 256 + k.val
  omega

theorem acc_db0_reset (c : Dev nD) (t : Fin cfg0.N) (h0 : t.val % 32 = 0) (u : Fin 1) (l : Fin 1024) :
    (outsAt0 m c t.val t.isLt).2.2.2.2.2.2.2.2.1 (ix2 u l) = 0 + ∑ a : Fin 256, dgate (m ((c : Thread nD τ).loc main_arg0)) (m ((c : Thread nD τ).loc main_arg5)) (m ((c : Thread nD τ).loc main_arg1)) (m ((c : Thread nD τ).loc main_arg6)) (row t a) (col 0 l) l := by
  rw [outsAt0_A m c t h0 (reset t h0)]
  frame_out
  unfold_payloads
  pointwise [blk_gate0, blk_bias0, blk_d, blk_z0]
  rfl

theorem acc_db0_step (c : Dev nD) (t : Fin cfg0.N) (h0 : ¬ t.val % 32 = 0) (u : Fin 1) (l : Fin 1024) :
    (outsAt0 m c t.val t.isLt).2.2.2.2.2.2.2.2.1 (ix2 u l)
      = (outsAt0 m c (t.val - 1) (Nat.lt_of_le_of_lt (Nat.sub_le _ _) t.isLt)).2.2.2.2.2.2.2.2.1 (ix2 u l)
        + ∑ a : Fin 256, dgate (m ((c : Thread nD τ).loc main_arg0)) (m ((c : Thread nD τ).loc main_arg5)) (m ((c : Thread nD τ).loc main_arg1)) (m ((c : Thread nD τ).loc main_arg6)) (row t a) (col 0 l) l := by
  rw [outsAt0_B m c t h0 (later t h0)]
  frame_out
  unfold_payloads
  pointwise [blk_gate0, blk_bias0, blk_d, blk_z0]
  rfl

theorem arr_db0 (c : Dev nD) :
    (dats m 0 c).arrAt 21 cfg0.N = fun i : S1x1024.Idx => db (m ((c : Thread nD τ).loc main_arg0)) (m ((c : Thread nD τ).loc main_arg5)) (m ((c : Thread nD τ).loc main_arg1)) (m ((c : Thread nD τ).loc main_arg6)) (col 0 (i 1)) (i 1) := by
  refine (dats m 0 c).arrAt_eq_of_covers 21 _ (by decide +kernel) fun t hf y => ?_
  have ht : t.val + 1 = cfg0.N := by
    have := (flush0_21 t).mp hf; have h := t.isLt; change t.val < 32 at h; change t.val + 1 = 32; omega
  idx_vars y
  rw [after0_21, show ((cfg0.win 21).blk t).view.emb (ix2 y0 y1) = (ix2 y0 y1 : S1x1024.Idx) from by blk_ext [idx2 t]]
  have key := Pipeline.eq_sum_fin_of_reset_step_apply_last (fun n h (i : Fin 1 × Fin 1024) => ((outsAt0 m c n h).2.2.2.2.2.2.2.2.1 (ix2 i.1 i.2) : EReal)) 32 (fun _ => 0)
    (fun t i => ∑ a : Fin 256, dgate (m ((c : Thread nD τ).loc main_arg0)) (m ((c : Thread nD τ).loc main_arg5)) (m ((c : Thread nD τ).loc main_arg1)) (m ((c : Thread nD τ).loc main_arg6)) (row t a) (col 0 i.2) i.2)
    (fun t h i => acc_db0_reset m c t h i.1 i.2) (fun t h i => acc_db0_step m c t h i.1 i.2) (by decide) t ht (y0, y1)
  refine Eq.trans ?_ (key.trans ?_)
  · rfl
  · rw [zero_add]
    exact sum_rows fun r => dgate (m ((c : Thread nD τ).loc main_arg0)) (m ((c : Thread nD τ).loc main_arg5)) (m ((c : Thread nD τ).loc main_arg1)) (m ((c : Thread nD τ).loc main_arg6)) r (col 0 y1) y1

theorem acc_db1_reset (c : Dev nD) (t : Fin cfg0.N) (h0 : t.val % 32 = 0) (u : Fin 1) (l : Fin 1024) :
    (outsAt0 m c t.val t.isLt).2.2.2.2.2.2.2.2.2.1 (ix2 u l) = 0 + ∑ a : Fin 256, dgate (m ((c : Thread nD τ).loc main_arg0)) (m ((c : Thread nD τ).loc main_arg5)) (m ((c : Thread nD τ).loc main_arg2)) (m ((c : Thread nD τ).loc main_arg6)) (row t a) (col 1 l) l := by
  rw [outsAt0_A m c t h0 (reset t h0)]
  frame_out
  unfold_payloads
  pointwise [blk_gate1, blk_bias1, blk_d, blk_z1]
  rfl

theorem acc_db1_step (c : Dev nD) (t : Fin cfg0.N) (h0 : ¬ t.val % 32 = 0) (u : Fin 1) (l : Fin 1024) :
    (outsAt0 m c t.val t.isLt).2.2.2.2.2.2.2.2.2.1 (ix2 u l)
      = (outsAt0 m c (t.val - 1) (Nat.lt_of_le_of_lt (Nat.sub_le _ _) t.isLt)).2.2.2.2.2.2.2.2.2.1 (ix2 u l)
        + ∑ a : Fin 256, dgate (m ((c : Thread nD τ).loc main_arg0)) (m ((c : Thread nD τ).loc main_arg5)) (m ((c : Thread nD τ).loc main_arg2)) (m ((c : Thread nD τ).loc main_arg6)) (row t a) (col 1 l) l := by
  rw [outsAt0_B m c t h0 (later t h0)]
  frame_out
  unfold_payloads
  pointwise [blk_gate1, blk_bias1, blk_d, blk_z1]
  rfl

theorem arr_db1 (c : Dev nD) :
    (dats m 0 c).arrAt 22 cfg0.N = fun i : S1x1024.Idx => db (m ((c : Thread nD τ).loc main_arg0)) (m ((c : Thread nD τ).loc main_arg5)) (m ((c : Thread nD τ).loc main_arg2)) (m ((c : Thread nD τ).loc main_arg6)) (col 1 (i 1)) (i 1) := by
  refine (dats m 0 c).arrAt_eq_of_covers 22 _ (by decide +kernel) fun t hf y => ?_
  have ht : t.val + 1 = cfg0.N := by
    have := (flush0_22 t).mp hf; have h := t.isLt; change t.val < 32 at h; change t.val + 1 = 32; omega
  idx_vars y
  rw [after0_22, show ((cfg0.win 22).blk t).view.emb (ix2 y0 y1) = (ix2 y0 y1 : S1x1024.Idx) from by blk_ext [idx2 t]]
  have key := Pipeline.eq_sum_fin_of_reset_step_apply_last (fun n h (i : Fin 1 × Fin 1024) => ((outsAt0 m c n h).2.2.2.2.2.2.2.2.2.1 (ix2 i.1 i.2) : EReal)) 32 (fun _ => 0)
    (fun t i => ∑ a : Fin 256, dgate (m ((c : Thread nD τ).loc main_arg0)) (m ((c : Thread nD τ).loc main_arg5)) (m ((c : Thread nD τ).loc main_arg2)) (m ((c : Thread nD τ).loc main_arg6)) (row t a) (col 1 i.2) i.2)
    (fun t h i => acc_db1_reset m c t h i.1 i.2) (fun t h i => acc_db1_step m c t h i.1 i.2) (by decide) t ht (y0, y1)
  refine Eq.trans ?_ (key.trans ?_)
  · rfl
  · rw [zero_add]
    exact sum_rows fun r => dgate (m ((c : Thread nD τ).loc main_arg0)) (m ((c : Thread nD τ).loc main_arg5)) (m ((c : Thread nD τ).loc main_arg2)) (m ((c : Thread nD τ).loc main_arg6)) r (col 1 y1) y1

theorem acc_db2_reset (c : Dev nD) (t : Fin cfg0.N) (h0 : t.val % 32 = 0) (u : Fin 1) (l : Fin 1024) :
    (outsAt0 m c t.val t.isLt).2.2.2.2.2.2.2.2.2.2.1 (ix2 u l) = 0 + ∑ a : Fin 256, dgate (m ((c : Thread nD τ).loc main_arg0)) (m ((c : Thread nD τ).loc main_arg5)) (m ((c : Thread nD τ).loc main_arg3)) (m ((c : Thread nD τ).loc main_arg6)) (row t a) (col 2 l) l := by
  rw [outsAt0_A m c t h0 (reset t h0)]
  frame_out
  unfold_payloads
  pointwise [blk_gate2, blk_bias2, blk_d, blk_z2]
  rfl

theorem acc_db2_step (c : Dev nD) (t : Fin cfg0.N) (h0 : ¬ t.val % 32 = 0) (u : Fin 1) (l : Fin 1024) :
    (outsAt0 m c t.val t.isLt).2.2.2.2.2.2.2.2.2.2.1 (ix2 u l)
      = (outsAt0 m c (t.val - 1) (Nat.lt_of_le_of_lt (Nat.sub_le _ _) t.isLt)).2.2.2.2.2.2.2.2.2.2.1 (ix2 u l)
        + ∑ a : Fin 256, dgate (m ((c : Thread nD τ).loc main_arg0)) (m ((c : Thread nD τ).loc main_arg5)) (m ((c : Thread nD τ).loc main_arg3)) (m ((c : Thread nD τ).loc main_arg6)) (row t a) (col 2 l) l := by
  rw [outsAt0_B m c t h0 (later t h0)]
  frame_out
  unfold_payloads
  pointwise [blk_gate2, blk_bias2, blk_d, blk_z2]
  rfl

theorem arr_db2 (c : Dev nD) :
    (dats m 0 c).arrAt 23 cfg0.N = fun i : S1x1024.Idx => db (m ((c : Thread nD τ).loc main_arg0)) (m ((c : Thread nD τ).loc main_arg5)) (m ((c : Thread nD τ).loc main_arg3)) (m ((c : Thread nD τ).loc main_arg6)) (col 2 (i 1)) (i 1) := by
  refine (dats m 0 c).arrAt_eq_of_covers 23 _ (by decide +kernel) fun t hf y => ?_
  have ht : t.val + 1 = cfg0.N := by
    have := (flush0_23 t).mp hf; have h := t.isLt; change t.val < 32 at h; change t.val + 1 = 32; omega
  idx_vars y
  rw [after0_23, show ((cfg0.win 23).blk t).view.emb (ix2 y0 y1) = (ix2 y0 y1 : S1x1024.Idx) from by blk_ext [idx2 t]]
  have key := Pipeline.eq_sum_fin_of_reset_step_apply_last (fun n h (i : Fin 1 × Fin 1024) => ((outsAt0 m c n h).2.2.2.2.2.2.2.2.2.2.1 (ix2 i.1 i.2) : EReal)) 32 (fun _ => 0)
    (fun t i => ∑ a : Fin 256, dgate (m ((c : Thread nD τ).loc main_arg0)) (m ((c : Thread nD τ).loc main_arg5)) (m ((c : Thread nD τ).loc main_arg3)) (m ((c : Thread nD τ).loc main_arg6)) (row t a) (col 2 i.2) i.2)
    (fun t h i => acc_db2_reset m c t h i.1 i.2) (fun t h i => acc_db2_step m c t h i.1 i.2) (by decide) t ht (y0, y1)
  refine Eq.trans ?_ (key.trans ?_)
  · rfl
  · rw [zero_add]
    exact sum_rows fun r => dgate (m ((c : Thread nD τ).loc main_arg0)) (m ((c : Thread nD τ).loc main_arg5)) (m ((c : Thread nD τ).loc main_arg3)) (m ((c : Thread nD τ).loc main_arg6)) r (col 2 y1) y1

theorem acc_db3_reset (c : Dev nD) (t : Fin cfg0.N) (h0 : t.val % 32 = 0) (u : Fin 1) (l : Fin 1024) :
    (outsAt0 m c t.val t.isLt).2.2.2.2.2.2.2.2.2.2.2 (ix2 u l) = 0 + ∑ a : Fin 256, dgate (m ((c : Thread nD τ).loc main_arg0)) (m ((c : Thread nD τ).loc main_arg5)) (m ((c : Thread nD τ).loc main_arg4)) (m ((c : Thread nD τ).loc main_arg6)) (row t a) (col 3 l) l := by
  rw [outsAt0_A m c t h0 (reset t h0)]
  frame_out
  unfold_payloads
  pointwise [blk_gate3, blk_bias3, blk_d, blk_z3]
  rfl

theorem acc_db3_step (c : Dev nD) (t : Fin cfg0.N) (h0 : ¬ t.val % 32 = 0) (u : Fin 1) (l : Fin 1024) :
    (outsAt0 m c t.val t.isLt).2.2.2.2.2.2.2.2.2.2.2 (ix2 u l)
      = (outsAt0 m c (t.val - 1) (Nat.lt_of_le_of_lt (Nat.sub_le _ _) t.isLt)).2.2.2.2.2.2.2.2.2.2.2 (ix2 u l)
        + ∑ a : Fin 256, dgate (m ((c : Thread nD τ).loc main_arg0)) (m ((c : Thread nD τ).loc main_arg5)) (m ((c : Thread nD τ).loc main_arg4)) (m ((c : Thread nD τ).loc main_arg6)) (row t a) (col 3 l) l := by
  rw [outsAt0_B m c t h0 (later t h0)]
  frame_out
  unfold_payloads
  pointwise [blk_gate3, blk_bias3, blk_d, blk_z3]
  rfl

theorem arr_db3 (c : Dev nD) :
    (dats m 0 c).arrAt 24 cfg0.N = fun i : S1x1024.Idx => db (m ((c : Thread nD τ).loc main_arg0)) (m ((c : Thread nD τ).loc main_arg5)) (m ((c : Thread nD τ).loc main_arg4)) (m ((c : Thread nD τ).loc main_arg6)) (col 3 (i 1)) (i 1) := by
  refine (dats m 0 c).arrAt_eq_of_covers 24 _ (by decide +kernel) fun t hf y => ?_
  have ht : t.val + 1 = cfg0.N := by
    have := (flush0_24 t).mp hf; have h := t.isLt; change t.val < 32 at h; change t.val + 1 = 32; omega
  idx_vars y
  rw [after0_24, show ((cfg0.win 24).blk t).view.emb (ix2 y0 y1) = (ix2 y0 y1 : S1x1024.Idx) from by blk_ext [idx2 t]]
  have key := Pipeline.eq_sum_fin_of_reset_step_apply_last (fun n h (i : Fin 1 × Fin 1024) => ((outsAt0 m c n h).2.2.2.2.2.2.2.2.2.2.2 (ix2 i.1 i.2) : EReal)) 32 (fun _ => 0)
    (fun t i => ∑ a : Fin 256, dgate (m ((c : Thread nD τ).loc main_arg0)) (m ((c : Thread nD τ).loc main_arg5)) (m ((c : Thread nD τ).loc main_arg4)) (m ((c : Thread nD τ).loc main_arg6)) (row t a) (col 3 i.2) i.2)
    (fun t h i => acc_db3_reset m c t h i.1 i.2) (fun t h i => acc_db3_step m c t h i.1 i.2) (by decide) t ht (y0, y1)
  refine Eq.trans ?_ (key.trans ?_)
  · rfl
  · rw [zero_add]
    exact sum_rows fun r => dgate (m ((c : Thread nD τ).loc main_arg0)) (m ((c : Thread nD τ).loc main_arg5)) (m ((c : Thread nD τ).loc main_arg4)) (m ((c : Thread nD τ).loc main_arg6)) r (col 3 y1) y1

end Cert.MergeV
-- ==== Proof.Merge.Reference.lean ====
module
public import proofs.«01_k».proof.Proof.Gen.MergeRefIdeal.Read
public import proofs.«01_k».proof.Proof.Merge.Spec
public import Idealize.ShloMosaic.Lib.Pipeline.ValueKit
@[expose] public section
set_option maxRecDepth 16384
noncomputable section
namespace Cert.MergeV
open Idealize.ShloMosaic Idealize.ShloMosaic.TcCoe Idealize.SL.Sem

open Cert.MergeRefIdeal Cert.MergeRefIdeal.Read

variable (p : (⟨S8192x7168, .bf16⟩ : BufTy).Contents (Elt Ideal)) (z0 z1 z2 z3 : (⟨S8192x1024, .bf16⟩ : BufTy).Contents (Elt Ideal))
  (b : (⟨S4096, .f32⟩ : BufTy).Contents (Elt Ideal)) (d : (⟨S8192x1024, .bf16⟩ : BufTy).Contents (Elt Ideal))

/-- The gate: the reference's logistic at row `r`, gate column `q`. -/
theorem ref_gate (r : Fin 8192) (q : Fin 4096) : val_main_v14 (F := Ideal) p b (ix2 r q) = gate p b r q := by
  unfold val_main_v14 val_main_v13 val_main_v12 val_main_v11 val_main_cst val_main_cst_0 val_main_v10 val_main_v9 val_main_v8 val_main_v1 val_main_v0 val_main_v7 val_main_v6
  pointwise
  rfl

/-- The four padded branch cotangents add up to branch `k`'s own. -/
theorem ref_pads (r : Fin 8192) (k : Fin 4) (l : Fin 1024) : val_main_v53 (F := Ideal) z0 z1 z2 z3 d (ix3 r k l) = d (ix2 r l) * (![z0, z1, z2, z3] k : (⟨S8192x1024, .bf16⟩ : BufTy).Contents (Elt Ideal)) (ix2 r l) := by
  unfold val_main_v53 val_main_v48 val_main_v43 val_main_v38 val_main_v42 val_main_v47 val_main_v52 val_main_v37 val_main_v41 val_main_v46 val_main_v51 val_main_v36 val_main_v40 val_main_v45 val_main_v50 val_main_v34 val_main_v2 val_main_v3 val_main_v4 val_main_v5 val_main_cst_2 val_main_cst_3 val_main_cst_4 val_main_cst_5
  pointwise
  fin_cases k <;> simp <;> try rfl

/-- The gate's gradient at row `r` and branch `k`'s column `l`. -/
theorem ref_dgate (r : Fin 8192) (k : Fin 4) (l : Fin 1024) :
    val_main_v55 (F := Ideal) p z0 z1 z2 z3 b d (ix2 r (col k l)) = dgate p b (![z0, z1, z2, z3] k : (⟨S8192x1024, .bf16⟩ : BufTy).Contents (Elt Ideal)) d r (col k l) l := by
  rw [val_main_v55_apply, val_main_v17_apply, val_main_v16_apply, val_main_v15_apply, val_main_cst_1_apply, val_main_v54_apply,
    show idx_main_v54 (ix2 r (col k l)) = ix3 r k l from ?_, ref_pads, ref_gate]
  · unfold dgate
    pointwise
  · unfold col; blk_ext

theorem ref_dgate0 (r : Fin 8192) (l : Fin 1024) :
    val_main_v71 (F := Ideal) p z0 z1 z2 z3 b d (ix2 r l) = dgate p b z0 d r (col 0 l) l := by
  rw [val_main_v71_apply, val_main_v59_apply, show idx_main_v59 (ix2 r l) = ix2 r (col 0 l) from ?_, ref_dgate]
  · rfl
  · unfold col; blk_ext

theorem ref_dgate1 (r : Fin 8192) (l : Fin 1024) :
    val_main_v72 (F := Ideal) p z0 z1 z2 z3 b d (ix2 r l) = dgate p b z1 d r (col 1 l) l := by
  rw [val_main_v72_apply, val_main_v60_apply, show idx_main_v60 (ix2 r l) = ix2 r (col 1 l) from ?_, ref_dgate]
  · rfl
  · unfold col; blk_ext

theorem ref_dgate2 (r : Fin 8192) (l : Fin 1024) :
    val_main_v73 (F := Ideal) p z0 z1 z2 z3 b d (ix2 r l) = dgate p b z2 d r (col 2 l) l := by
  rw [val_main_v73_apply, val_main_v61_apply, show idx_main_v61 (ix2 r l) = ix2 r (col 2 l) from ?_, ref_dgate]
  · rfl
  · unfold col; blk_ext

theorem ref_dgate3 (r : Fin 8192) (l : Fin 1024) :
    val_main_v74 (F := Ideal) p z0 z1 z2 z3 b d (ix2 r l) = dgate p b z3 d r (col 3 l) l := by
  rw [val_main_v74_apply, val_main_v62_apply, show idx_main_v62 (ix2 r l) = ix2 r (col 3 l) from ?_, ref_dgate]
  · rfl
  · unfold col; blk_ext

theorem ref_dz0 (r : Fin 8192) (l : Fin 1024) :
    val_main_v75 (F := Ideal) p b d (ix2 r l) = dz p b d r (col 0 l) l := by
  rw [val_main_v75_apply, val_main_v49_apply, val_main_v20_apply, val_main_v19_apply, val_main_v18_apply, val_main_v34_apply,
    show idx_main_v18 (idx_main_v19 (idx_main_v20 (ix2 r l))) = ix2 r (col 0 l) from ?_, ref_gate]
  · rfl
  · unfold col; blk_ext

theorem ref_dz1 (r : Fin 8192) (l : Fin 1024) :
    val_main_v76 (F := Ideal) p b d (ix2 r l) = dz p b d r (col 1 l) l := by
  rw [val_main_v76_apply, val_main_v44_apply, val_main_v23_apply, val_main_v22_apply, val_main_v18_apply, val_main_v34_apply,
    show idx_main_v18 (idx_main_v22 (idx_main_v23 (ix2 r l))) = ix2 r (col 1 l) from ?_, ref_gate]
  · rfl
  · unfold col; blk_ext

theorem ref_dz2 (r : Fin 8192) (l : Fin 1024) :
    val_main_v77 (F := Ideal) p b d (ix2 r l) = dz p b d r (col 2 l) l := by
  rw [val_main_v77_apply, val_main_v39_apply, val_main_v27_apply, val_main_v26_apply, val_main_v18_apply, val_main_v34_apply,
    show idx_main_v18 (idx_main_v26 (idx_main_v27 (ix2 r l))) = ix2 r (col 2 l) from ?_, ref_gate]
  · rfl
  · unfold col; blk_ext

theorem ref_dz3 (r : Fin 8192) (l : Fin 1024) :
    val_main_v78 (F := Ideal) p b d (ix2 r l) = dz p b d r (col 3 l) l := by
  rw [val_main_v78_apply, val_main_v35_apply, val_main_v31_apply, val_main_v30_apply, val_main_v18_apply, val_main_v34_apply,
    show idx_main_v18 (idx_main_v30 (idx_main_v31 (ix2 r l))) = ix2 r (col 3 l) from ?_, ref_gate]
  · rfl
  · unfold col; blk_ext

/-- The bias column's gradient: the sum over the rows. -/
theorem ref_db (k : Fin 4) (l : Fin 1024) :
    val_main_v58 (F := Ideal) p z0 z1 z2 z3 b d (ix1 (col k l)) = db p b (![z0, z1, z2, z3] k : (⟨S8192x1024, .bf16⟩ : BufTy).Contents (Elt Ideal)) d (col k l) l := by
  rw [val_main_v58_apply, Fin.sum_univ_one, val_main_v57_apply, show idx_main_v57 (idx_main_v58 (ix1 (col k l)) 0) = ix1 (col k l) from ?_,
    val_main_v56_apply, db, Finset.sum_congr rfl fun r _ => by
      rw [show idx_main_v56 (ix1 (col k l)) r = ix2 r (col k l) by blk_ext, ref_dgate]]
  · unfold val_main_cst_7 val_main_cst_6
    pointwise
  · blk_ext

theorem ref_db0 (u : Fin 1) (l : Fin 1024) :
    val_main_v64 (F := Ideal) p z0 z1 z2 z3 b d (ix2 u l) = db p b z0 d (col 0 l) l := by
  rw [val_main_v64_apply, val_main_v63_apply, show idx_main_v63 (idx_main_v64 (ix2 u l)) = ix1 (col 0 l) from ?_, ref_db]
  · rfl
  · unfold col; blk_ext

theorem ref_db1 (u : Fin 1) (l : Fin 1024) :
    val_main_v66 (F := Ideal) p z0 z1 z2 z3 b d (ix2 u l) = db p b z1 d (col 1 l) l := by
  rw [val_main_v66_apply, val_main_v65_apply, show idx_main_v65 (idx_main_v66 (ix2 u l)) = ix1 (col 1 l) from ?_, ref_db]
  · rfl
  · unfold col; blk_ext

theorem ref_db2 (u : Fin 1) (l : Fin 1024) :
    val_main_v68 (F := Ideal) p z0 z1 z2 z3 b d (ix2 u l) = db p b z2 d (col 2 l) l := by
  rw [val_main_v68_apply, val_main_v67_apply, show idx_main_v67 (idx_main_v68 (ix2 u l)) = ix1 (col 2 l) from ?_, ref_db]
  · rfl
  · unfold col; blk_ext

theorem ref_db3 (u : Fin 1) (l : Fin 1024) :
    val_main_v70 (F := Ideal) p z0 z1 z2 z3 b d (ix2 u l) = db p b z3 d (col 3 l) l := by
  rw [val_main_v70_apply, val_main_v69_apply, show idx_main_v69 (idx_main_v70 (ix2 u l)) = ix1 (col 3 l) from ?_, ref_db]
  · rfl
  · unfold col; blk_ext

end Cert.MergeV
-- ==== Proof.Merge.Algebraic.lean ====
module
public import proofs.«01_k».proof.Defs
public import proofs.«01_k».proof.Proof.Merge.Bias
public import proofs.«01_k».proof.Proof.Merge.Reference
@[expose] public section
set_option maxRecDepth 16384
set_option maxHeartbeats 4000000
noncomputable section
namespace Cert.MergeV
open Cert.MergeIdeal Idealize.ShloMosaic Idealize.ShloMosaic.TcCoe Idealize.SL.Sem

/-! The gated merge's backward call returns the derivative of the merge: both programs end at the same twelve functions. -/

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_MergeIdeal_MergeRefIdeal (hMergeIdeal := Cert.MergeIdeal.Gen.facts) (hMergeRefIdeal := Cert.MergeRefIdeal.Gen.facts) := by
  intro m g m' g' _ hagree
  refine ⟨fun c => fun i : S8192x1024.Idx => dgate (m ((c.tc : Thread nD τ).loc main_arg0)) (m ((c.tc : Thread nD τ).loc main_arg5)) (m ((c.tc : Thread nD τ).loc main_arg1)) (m ((c.tc : Thread nD τ).loc main_arg6)) (i 0) (col 0 (i 1)) (i 1),
    fun c => fun i : S8192x1024.Idx => dgate (m ((c.tc : Thread nD τ).loc main_arg0)) (m ((c.tc : Thread nD τ).loc main_arg5)) (m ((c.tc : Thread nD τ).loc main_arg2)) (m ((c.tc : Thread nD τ).loc main_arg6)) (i 0) (col 1 (i 1)) (i 1),
    fun c => fun i : S8192x1024.Idx => dgate (m ((c.tc : Thread nD τ).loc main_arg0)) (m ((c.tc : Thread nD τ).loc main_arg5)) (m ((c.tc : Thread nD τ).loc main_arg3)) (m ((c.tc : Thread nD τ).loc main_arg6)) (i 0) (col 2 (i 1)) (i 1),
    fun c => fun i : S8192x1024.Idx => dgate (m ((c.tc : Thread nD τ).loc main_arg0)) (m ((c.tc : Thread nD τ).loc main_arg5)) (m ((c.tc : Thread nD τ).loc main_arg4)) (m ((c.tc : Thread nD τ).loc main_arg6)) (i 0) (col 3 (i 1)) (i 1),
    fun c => fun i : S8192x1024.Idx => dz (m ((c.tc : Thread nD τ).loc main_arg0)) (m ((c.tc : Thread nD τ).loc main_arg5)) (m ((c.tc : Thread nD τ).loc main_arg6)) (i 0) (col 0 (i 1)) (i 1),
    fun c => fun i : S8192x1024.Idx => dz (m ((c.tc : Thread nD τ).loc main_arg0)) (m ((c.tc : Thread nD τ).loc main_arg5)) (m ((c.tc : Thread nD τ).loc main_arg6)) (i 0) (col 1 (i 1)) (i 1),
    fun c => fun i : S8192x1024.Idx => dz (m ((c.tc : Thread nD τ).loc main_arg0)) (m ((c.tc : Thread nD τ).loc main_arg5)) (m ((c.tc : Thread nD τ).loc main_arg6)) (i 0) (col 2 (i 1)) (i 1),
    fun c => fun i : S8192x1024.Idx => dz (m ((c.tc : Thread nD τ).loc main_arg0)) (m ((c.tc : Thread nD τ).loc main_arg5)) (m ((c.tc : Thread nD τ).loc main_arg6)) (i 0) (col 3 (i 1)) (i 1),
    fun c => fun i : S1x1024.Idx => db (m ((c.tc : Thread nD τ).loc main_arg0)) (m ((c.tc : Thread nD τ).loc main_arg5)) (m ((c.tc : Thread nD τ).loc main_arg1)) (m ((c.tc : Thread nD τ).loc main_arg6)) (col 0 (i 1)) (i 1),
    fun c => fun i : S1x1024.Idx => db (m ((c.tc : Thread nD τ).loc main_arg0)) (m ((c.tc : Thread nD τ).loc main_arg5)) (m ((c.tc : Thread nD τ).loc main_arg2)) (m ((c.tc : Thread nD τ).loc main_arg6)) (col 1 (i 1)) (i 1),
    fun c => fun i : S1x1024.Idx => db (m ((c.tc : Thread nD τ).loc main_arg0)) (m ((c.tc : Thread nD τ).loc main_arg5)) (m ((c.tc : Thread nD τ).loc main_arg3)) (m ((c.tc : Thread nD τ).loc main_arg6)) (col 2 (i 1)) (i 1),
    fun c => fun i : S1x1024.Idx => db (m ((c.tc : Thread nD τ).loc main_arg0)) (m ((c.tc : Thread nD τ).loc main_arg5)) (m ((c.tc : Thread nD τ).loc main_arg4)) (m ((c.tc : Thread nD τ).loc main_arg6)) (col 3 (i 1)) (i 1), ?_, ?_⟩
  · refine (θ_run _ _ _).mono (fun r h c => ?_) (Value.run_blocks m g)
    obtain ⟨h0, h1, h2, h3, h4, h5, h6, h7, h8, h9, h10, h11, hargs⟩ := h c
    exact ⟨h0.trans (arr_dgate0 m c), h1.trans (arr_dgate1 m c), h2.trans (arr_dgate2 m c), h3.trans (arr_dgate3 m c), h4.trans (arr_dz0 m c), h5.trans (arr_dz1 m c), h6.trans (arr_dz2 m c), h7.trans (arr_dz3 m c), h8.trans (arr_db0 m c), h9.trans (arr_db1 m c), h10.trans (arr_db2 m c), h11.trans (arr_db3 m c), hargs⟩
  · refine (θ_run _ _ _).mono (fun r h c => ?_) (Cert.MergeRefIdeal.Value.run m' g')
    obtain ⟨h0, h1, h2, h3, h4, h5, h6, h7, h8, h9, h10, h11, hargs⟩ := h c
    obtain ⟨e0, e1, e2, e3, e4, e5, e6⟩ := hagree c
    refine ⟨h0.trans ?_, h1.trans ?_, h2.trans ?_, h3.trans ?_, h4.trans ?_, h5.trans ?_, h6.trans ?_, h7.trans ?_, h8.trans ?_, h9.trans ?_, h10.trans ?_, h11.trans ?_, hargs⟩ <;> clear h0 h1 h2 h3 h4 h5 h6 h7 h8 h9 h10 h11 hargs
    · refine (Cert.MergeRefIdeal.Read.val_main_v71_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e1, e2, e3, e4, e5, e6]
      exact ext2 fun r l => ref_dgate0 _ _ _ _ _ _ _ r l
    · refine (Cert.MergeRefIdeal.Read.val_main_v72_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e1, e2, e3, e4, e5, e6]
      exact ext2 fun r l => ref_dgate1 _ _ _ _ _ _ _ r l
    · refine (Cert.MergeRefIdeal.Read.val_main_v73_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e1, e2, e3, e4, e5, e6]
      exact ext2 fun r l => ref_dgate2 _ _ _ _ _ _ _ r l
    · refine (Cert.MergeRefIdeal.Read.val_main_v74_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e1, e2, e3, e4, e5, e6]
      exact ext2 fun r l => ref_dgate3 _ _ _ _ _ _ _ r l
    · refine (Cert.MergeRefIdeal.Read.val_main_v75_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e5, e6]
      exact ext2 fun r l => ref_dz0 _ _ _ r l
    · refine (Cert.MergeRefIdeal.Read.val_main_v76_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e5, e6]
      exact ext2 fun r l => ref_dz1 _ _ _ r l
    · refine (Cert.MergeRefIdeal.Read.val_main_v77_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e5, e6]
      exact ext2 fun r l => ref_dz2 _ _ _ r l
    · refine (Cert.MergeRefIdeal.Read.val_main_v78_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e5, e6]
      exact ext2 fun r l => ref_dz3 _ _ _ r l
    · refine (Cert.MergeRefIdeal.Read.val_main_v64_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e1, e2, e3, e4, e5, e6]
      exact ext2 fun r l => ref_db0 _ _ _ _ _ _ _ r l
    · refine (Cert.MergeRefIdeal.Read.val_main_v66_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e1, e2, e3, e4, e5, e6]
      exact ext2 fun r l => ref_db1 _ _ _ _ _ _ _ r l
    · refine (Cert.MergeRefIdeal.Read.val_main_v68_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e1, e2, e3, e4, e5, e6]
      exact ext2 fun r l => ref_db2 _ _ _ _ _ _ _ r l
    · refine (Cert.MergeRefIdeal.Read.val_main_v70_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
      rw [e0, e1, e2, e3, e4, e5, e6]
      exact ext2 fun r l => ref_db3 _ _ _ _ _ _ _ r l
end Cert.MergeV
-- ==== Proof.Merge.RefFrame.lean ====
/- The reference of the merge's gradients leaves its arguments as they were and no semaphore counter raised. -/
module

public import proofs.«01_k».proof.Defs
public import proofs.«01_k».proof.Proof.Gen.MergeRefIdeal
public import proofs.«01_k».proof.Proof.Gen.MergeRefIdeal.Run
public import Idealize.ShloMosaic.Lib.Quiescent

@[expose] public section

set_option maxHeartbeats 4000000

noncomputable section

namespace Cert.MergeV

open Idealize.ShloMosaic Idealize.SL.Sem

/-- The run of the reference, read at its arguments. The program declares no semaphores, so all counters are zero. -/
theorem frame_ref : Cert.quiescent_MergeRefIdeal (hMergeRefIdeal := Cert.MergeRefIdeal.Gen.facts) := fun m ρ _ =>
  (θ_run Cert.MergeRefIdeal.defs _ _).mono
    (fun r h => ⟨fun c => (h c).2.2.2.2.2.2.2.2.2.2.2.2, sem_eq_zero_of_no_sems (by decide) r.2⟩)
    (Cert.MergeRefIdeal.Value.run (F := Ideal) m ρ)

end Cert.MergeV

end
-- ==== Proof.Ffn.Da.lean ====
module
public import proofs.«01_k».proof.Defs
public import proofs.«01_k».proof.Proof.Gen.FfnDaRefIdeal
public import Idealize.ShloMosaic.Lib.Quiescent
public import proofs.«01_k».proof.Proof.Gen.FfnDaIdeal.Value
public import proofs.«01_k».proof.Proof.Gen.FfnDaRefIdeal.Run
public import proofs.«01_k».proof.Proof.Gen.FfnDaRefIdeal.Read
public import Idealize.ShloMosaic.Lib.Pipeline.ValueKit
@[expose] public section
set_option maxRecDepth 16384
set_option maxHeartbeats 4000000
noncomputable section
namespace Cert.FfnDaV
open Cert.FfnDaIdeal Cert.FfnDaIdeal.Gen Idealize.ShloMosaic Idealize.ShloMosaic.TcCoe Idealize.SL.Sem
variable (m : (ℓ : Loc nD τ sig) → Buf (Elt Ideal) ℓ)

/-! The cotangent through the down product: `da[r, l] = Σ_k df[r, k] * w[0, l, k]`. A point's block is 2048 rows by 1408
columns and the whole contracted axis. -/

/-- The claim's right hand side. -/
def da (df : S8192x1024.Idx → EReal) (w : S4x2816x1024.Idx → EReal) (r : Fin 8192) (l : Fin 2816) : EReal :=
  ∑ k : Fin 1024, df (ix2 r k) * w (ix3 0 l k)

theorem idx : ∀ t : Fin cfg0.N, win0_0.index t = ![t.val / 2, 0] ∧ win0_1.index t = ![0, t.val % 2, 0]
    ∧ win0_2.index t = ![t.val / 2, t.val % 2] :=
  (by decide +kernel : ∀ t : Fin grid0.N, _)

/-- Row `a` of the block that point `t` computes, in the array. -/
def row (t : Fin cfg0.N) (a : Fin 2048) : Fin 8192 :=
  ⟨2048 * (t.val / 2) + a.val, by have := lt_of_lt_of_eq t.isLt (show cfg0.N = 8 from N_0); omega⟩

/-- Column `b` of the block that point `t` computes, in the array. -/
def col (t : Fin cfg0.N) (b : Fin 1408) : Fin 2816 := ⟨1408 * (t.val % 2) + b.val, by omega⟩

theorem blk_df (c : Dev nD) (t : Fin cfg0.N) (a : Fin 2048) (k : Fin 1024) :
    iblk m c 0 t (ix2 a k) = m ((c : Thread nD τ).loc main_arg0) (ix2 (row t a) k) := by
  unfold row
  blk_ext [iblk, idx t]

theorem blk_w (c : Dev nD) (t : Fin cfg0.N) (u : Fin 1) (b : Fin 1408) (k : Fin 1024) :
    iblk m c 1 t (ix3 u b k) = m ((c : Thread nD τ).loc main_arg1) (ix3 0 (col t b) k) := by
  unfold col
  blk_ext [iblk, idx t]

theorem pt (c : Dev nD) (t : Fin cfg0.N) (a : Fin 2048) (b : Fin 1408) :
    out0_2 (iblk m c 0 t) (iblk m c 1 t) (ix2 a b)
      = da (m ((c : Thread nD τ).loc main_arg0)) (m ((c : Thread nD τ).loc main_arg1)) (row t a) (col t b) := by
  frame_out
  unfold_payloads
  pointwise [blk_df, blk_w]
  rfl

/-- The kernel's output array. -/
theorem arr (c : Dev nD) : (dats m 0 c).arrAt 2 cfg0.N = fun i : S8192x2816.Idx =>
    da (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) (col t y1) : S8192x2816.Idx) from by
    unfold row col; blk_ext [idx t]]
  refine Eq.trans ?_ (pt m c t y0 y1)
  generalize out0_2 (iblk m c 0 t) (iblk m c 1 t) = f
  rfl

section
variable (df : (⟨S8192x1024, .bf16⟩ : BufTy).Contents (Elt Ideal)) (w : (⟨S4x2816x1024, .bf16⟩ : BufTy).Contents (Elt Ideal))
open Cert.FfnDaRefIdeal.Read

/-- The reference at one index. -/
theorem ref_da (r : Fin 8192) (l : Fin 2816) : val_main_v7 (F := Ideal) df w (ix2 r l) = da df w r l := by
  unfold val_main_v7 val_main_v6 val_main_v5 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_FfnDaIdeal_FfnDaRefIdeal (hFfnDaIdeal := Cert.FfnDaIdeal.Gen.facts) (hFfnDaRefIdeal := Cert.FfnDaRefIdeal.Gen.facts) := by
  intro m g m' g' _ hagree
  refine ⟨fun c => fun i : S8192x2816.Idx => da (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.FfnDaRefIdeal.Value.run m' g')
    obtain ⟨h0, hargs⟩ := h c
    obtain ⟨e0, e1⟩ := hagree c
    refine ⟨h0.trans ?_, hargs⟩
    clear h0 hargs
    refine (Cert.FfnDaRefIdeal.Read.val_main_v7_eq (F := Ideal) (m' ((c.tc : Thread Cert.FfnDaRefIdeal.nD Cert.FfnDaRefIdeal.τ).loc Cert.FfnDaRefIdeal.main_arg0))
      (m' ((c.tc : Thread Cert.FfnDaRefIdeal.nD Cert.FfnDaRefIdeal.τ).loc Cert.FfnDaRefIdeal.main_arg1))).trans ?_
    rw [e0, e1]
    exact ext2 fun r l => ref_da _ _ r l

/-- The run of the reference, read at its arguments. The program declares no semaphores, so all counters are zero. -/
theorem frame_ref : Cert.quiescent_FfnDaRefIdeal (hFfnDaRefIdeal := Cert.FfnDaRefIdeal.Gen.facts) := fun m ρ _ =>
  (θ_run Cert.FfnDaRefIdeal.defs _ _).mono
    (fun r h => ⟨fun c => (h c).2, sem_eq_zero_of_no_sems (by decide) r.2⟩)
    (Cert.FfnDaRefIdeal.Value.run (F := Ideal) m ρ)

end Cert.FfnDaV

end
-- ==== Proof.Ffn.Dn.lean ====
module
public import proofs.«01_k».proof.Defs
public import proofs.«01_k».proof.Proof.Gen.FfnDnRefIdeal
public import Idealize.ShloMosaic.Lib.Quiescent
public import Idealize.ShloMosaic.Lib.Pipeline.ReadBack
public import proofs.«01_k».proof.Proof.Gen.FfnDnIdeal.Value
public import proofs.«01_k».proof.Proof.Gen.FfnDnRefIdeal.Run
public import proofs.«01_k».proof.Proof.Gen.FfnDnRefIdeal.Read
public import Idealize.ShloMosaic.Lib.Pipeline.ValueKit
@[expose] public section
set_option maxRecDepth 16384
set_option maxHeartbeats 4000000
noncomputable section
namespace Cert.FfnDnV
open Cert.FfnDnIdeal Cert.FfnDnIdeal.Gen Idealize.ShloMosaic Idealize.ShloMosaic.TcCoe Idealize.SL.Sem
variable (m : (ℓ : Loc nD τ sig) → Buf (Elt Ideal) ℓ)

/-! The cotangent through the gate and up product: `dn[r, l] = Σ_k dgu[r, k] * w[0, l, k]`. The contracted axis of 5632 is
walked in two blocks of 2816: the first point of a pair keeps its part in the scratch, the second adds its own and stores. -/

/-- The claim's right hand side. -/
def dn (dgu : S8192x5632.Idx → EReal) (w : S4x1024x5632.Idx → EReal) (r : Fin 8192) (l : Fin 1024) : EReal :=
  ∑ k : Fin 5632, dgu (ix2 r k) * w (ix3 0 l k)

theorem idx : ∀ t : Fin cfg0.N, win0_0.index t = ![t.val / 4, t.val % 2] ∧ win0_1.index t = ![0, t.val / 2 % 2, t.val % 2]
    ∧ win0_2.index t = ![t.val / 4, t.val / 2 % 2] :=
  (by decide +kernel : ∀ t : Fin grid0.N, _)

/-- Row `a` of the block that point `n` computes, in the array. -/
def row (n : ℕ) (h : n < cfg0.N) (a : Fin 2048) : Fin 8192 :=
  ⟨2048 * (n / 4) + a.val, by have := lt_of_lt_of_eq h (show cfg0.N = 16 from N_0); omega⟩

/-- Column `b` of the block that point `n` computes, in the array. -/
def col (n : ℕ) (b : Fin 512) : Fin 1024 := ⟨512 * (n / 2 % 2) + b.val, by omega⟩

/-- Entry `k` of block `s` of the contracted axis. -/
def con (s : ℕ) (k : Fin 2816) : Fin 5632 := ⟨2816 * (s % 2) + k.val, by omega⟩

theorem blk_dgu (c : Dev nD) (t : Fin cfg0.N) (a : Fin 2048) (k : Fin 2816) :
    iblk m c 0 t (ix2 a k) = m ((c : Thread nD τ).loc main_arg0) (ix2 (row t.val t.isLt a) (con t.val k)) := by
  unfold row con
  blk_ext [iblk, idx t]

theorem blk_w (c : Dev nD) (t : Fin cfg0.N) (u : Fin 1) (b : Fin 512) (k : Fin 2816) :
    iblk m c 1 t (ix3 u b k) = m ((c : Thread nD τ).loc main_arg1) (ix3 0 (col t.val b) (con t.val k)) := by
  unfold col con
  blk_ext [iblk, idx t]

/-- Block `s` of the contraction at row `r` and column `l`. -/
def part (dgu : S8192x5632.Idx → EReal) (w : S4x1024x5632.Idx → EReal) (r : Fin 8192) (l : Fin 1024) (s : ℕ) : EReal :=
  ∑ k : Fin 2816, dgu (ix2 r (con s k)) * w (ix3 0 l (con s k))

/-- The scratch after the first point of a pair. -/
theorem scratch (c : Dev nD) (t : Fin cfg0.N) (h0 : t.val % 2 = 0) (a : Fin 2048) (b : Fin 512) :
    ((outsAt0 m c t.val t.isLt).2 (ix2 a b) : EReal)
      = part (m ((c : Thread nD τ).loc main_arg0)) (m ((c : Thread nD τ).loc main_arg1)) (row t.val t.isLt a) (col t.val b) t.val := by
  rw [outsAt0_A m c t h0 (by omega)]
  frame_out
  unfold_payloads
  pointwise [blk_dgu, blk_w]
  rfl

/-- What the second point of a pair stores. -/
theorem pt (c : Dev nD) (t : Fin cfg0.N) (h1 : t.val % 2 = 1) (a : Fin 2048) (b : Fin 512) :
    ((outsAt0 m c t.val t.isLt).1 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_B m c t (by omega) h1]
  frame_out
  unfold_payloads
  simp only [read_unread_whole]
  pointwise [blk_dgu, blk_w]
  rfl

/-- The two blocks make up the contracted axis. -/
theorem parts (dgu : S8192x5632.Idx → EReal) (w : S4x1024x5632.Idx → EReal) (r : Fin 8192) (l : Fin 1024) :
    part dgu w r l 0 + part dgu w r l 1 = dn dgu w r l := by
  refine (Fin.sum_univ_two (fun s : Fin 2 => part dgu w r l s.val)).symm.trans ?_
  exact (Fin.sum_mul_add_congr (S := 2) (n := 2816) fun s k hl => congrArg (fun k => dgu (ix2 r k) * w (ix3 0 l k)) (Fin.ext (by
    show 2816 * (s.val % 2) + k.val = _; simp only; omega)))

/-- The kernel's output array. -/
theorem arr (c : Dev nD) : (dats m 0 c).arrAt 2 cfg0.N = fun i : S8192x1024.Idx =>
    dn (m ((c : Thread nD τ).loc main_arg0)) (m ((c : Thread nD τ).loc main_arg1)) (i 0) (i 1) := by
  refine (dats m 0 c).arrAt_eq_of_covers 2 _ (by decide +kernel) fun t hf y => ?_
  have h1 : t.val % 2 = 1 := (flush0_2 t).mp hf
  idx_vars y
  rw [after0_2, show ((cfg0.win 2).blk t).view.emb (ix2 y0 y1) = (ix2 (row t.val t.isLt y0) (col t.val y1) : S8192x1024.Idx) from by
    unfold row col; blk_ext [idx t]]
  have e := pt m c t h1 y0 y1
  have es := scratch m c ⟨t.val - 1, Nat.lt_of_le_of_lt (Nat.sub_le _ _) t.isLt⟩ (by show (t.val - 1) % 2 = 0; omega) y0 y1
  dsimp only at es
  rw [es] at e
  have er : row (t.val - 1) (Nat.lt_of_le_of_lt (Nat.sub_le _ _) t.isLt) y0 = row t.val t.isLt y0 := Fin.ext (by
    show 2048 * ((t.val - 1) / 4) + y0.val = 2048 * (t.val / 4) + y0.val; omega)
  have ec : col (t.val - 1) y1 = col t.val y1 := Fin.ext (by
    show 512 * ((t.val - 1) / 2 % 2) + y1.val = 512 * (t.val / 2 % 2) + y1.val; omega)
  have ep (r l) (s s' : ℕ) (h : s % 2 = s' % 2) : part (m ((c : Thread nD τ).loc main_arg0)) (m ((c : Thread nD τ).loc main_arg1)) r l s
      = part (m ((c : Thread nD τ).loc main_arg0)) (m ((c : Thread nD τ).loc main_arg1)) r l s' := by
    unfold part con; simp only [h]
  rw [er, ec, ep _ _ (t.val - 1) 0 (by omega), ep _ _ t.val 1 (by omega), parts] at e
  refine Eq.trans ?_ e
  generalize (outsAt0 m c t.val t.isLt).1 = f
  rfl

section
variable (dgu : (⟨S8192x5632, .bf16⟩ : BufTy).Contents (Elt Ideal)) (w : (⟨S4x1024x5632, .bf16⟩ : BufTy).Contents (Elt Ideal))
open Cert.FfnDnRefIdeal.Read

/-- The reference at one index. -/
theorem ref_dn (r : Fin 8192) (l : Fin 1024) : val_main_v7 (F := Ideal) dgu w (ix2 r l) = dn dgu w r l := by
  unfold val_main_v7 val_main_v6 val_main_v5 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_FfnDnIdeal_FfnDnRefIdeal (hFfnDnIdeal := Cert.FfnDnIdeal.Gen.facts) (hFfnDnRefIdeal := Cert.FfnDnRefIdeal.Gen.facts) := by
  intro m g m' g' _ hagree
  refine ⟨fun c => fun i : S8192x1024.Idx => dn (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.FfnDnRefIdeal.Value.run m' g')
    obtain ⟨h0, hargs⟩ := h c
    obtain ⟨e0, e1⟩ := hagree c
    refine ⟨h0.trans ?_, hargs⟩
    clear h0 hargs
    refine (Cert.FfnDnRefIdeal.Read.val_main_v7_eq (F := Ideal) (m' ((c.tc : Thread Cert.FfnDnRefIdeal.nD Cert.FfnDnRefIdeal.τ).loc Cert.FfnDnRefIdeal.main_arg0))
      (m' ((c.tc : Thread Cert.FfnDnRefIdeal.nD Cert.FfnDnRefIdeal.τ).loc Cert.FfnDnRefIdeal.main_arg1))).trans ?_
    rw [e0, e1]
    exact ext2 fun r l => ref_dn _ _ r l

/-- The run of the reference, read at its arguments. The program declares no semaphores, so all counters are zero. -/
theorem frame_ref : Cert.quiescent_FfnDnRefIdeal (hFfnDnRefIdeal := Cert.FfnDnRefIdeal.Gen.facts) := fun m ρ _ =>
  (θ_run Cert.FfnDnRefIdeal.defs _ _).mono
    (fun r h => ⟨fun c => (h c).2, sem_eq_zero_of_no_sems (by decide) r.2⟩)
    (Cert.FfnDnRefIdeal.Value.run (F := Ideal) m ρ)

end Cert.FfnDnV

end
-- ==== Proof.Ffn.DwDown.lean ====
module
public import proofs.«01_k».proof.Defs
public import proofs.«01_k».proof.Proof.Gen.FfnDwDownRefIdeal
public import Idealize.ShloMosaic.Lib.Quiescent
public import Idealize.ShloMosaic.Lib.Pipeline.ReadBack
public import Idealize.ShloMosaic.Lib.Pipeline.ValueKit.Partial
public import Idealize.ShloMosaic.Lib.Routing.OpsSet
public import proofs.«01_k».proof.Proof.Gen.FfnDwDownIdeal.Value
public import proofs.«01_k».proof.Proof.Gen.FfnDwDownRefIdeal.Run
public import proofs.«01_k».proof.Proof.Gen.FfnDwDownRefIdeal.Read
public import Idealize.ShloMosaic.Lib.Pipeline.ValueKit
@[expose] public section
set_option maxRecDepth 16384
set_option maxHeartbeats 4000000
noncomputable section
namespace Cert.FfnDwDownV
open Cert.FfnDwDownIdeal Cert.FfnDwDownIdeal.Gen Idealize.ShloMosaic Idealize.ShloMosaic.TcCoe Idealize.SL.Sem

/-! The gradient of the down product's weight: `dw[r, l] = Σ_k a[k, r] * df[k, l]`. The rows are walked in four blocks of 2048: the first point of a run of four
keeps its part in the scratch, the next two add theirs, the last adds its own and stores the block at layer 0 of the stack.
The other layers are never written. -/

/-- The gradient of the layer's weight. -/
def dw (x : S8192x2816.Idx → EReal) (y : S8192x1024.Idx → EReal) (r : Fin 2816) (l : Fin 1024) : EReal :=
  ∑ k : Fin 8192, x (ix2 k r) * y (ix2 k l)

/-- The claim's right hand side: the stack with layer 0 replaced. -/
def stack (x : S8192x2816.Idx → EReal) (y : S8192x1024.Idx → EReal) (b : S4x2816x1024.Idx → EReal) (s : Fin 4) (r : Fin 2816) (l : Fin 1024) : EReal :=
  if s.val = 0 then dw x y r l else b (ix3 s r l)

theorem idx : ∀ t : Fin cfg0.N, win0_0.index t = ![t.val % 4, t.val / 8] ∧ win0_1.index t = ![t.val % 4, t.val / 4 % 2]
    ∧ win0_2.index t = ![0, t.val / 8, t.val / 4 % 2] :=
  (by decide +kernel : ∀ t : Fin grid0.N, _)

/-- Row `a` of the block that point `n` works on, in the array. -/
def row (n : ℕ) (h : n < cfg0.N) (a : Fin 1408) : Fin 2816 :=
  ⟨1408 * (n / 8) + a.val, by have := lt_of_lt_of_eq h (show cfg0.N = 16 from N_0); omega⟩

/-- Column `b` of the block that point `n` works on, in the array. -/
def col (n : ℕ) (b : Fin 512) : Fin 1024 := ⟨512 * (n / 4 % 2) + b.val, by omega⟩

/-- Entry `k` of block `s` of the contracted axis. -/
def con (s : ℕ) (k : Fin 2048) : Fin 8192 := ⟨2048 * (s % 4) + k.val, by omega⟩

variable (m : (ℓ : Loc nD τ sig) → Buf (Elt Ideal) ℓ)

theorem blk_x (c : Dev nD) (t : Fin cfg0.N) (k : Fin 2048) (a : Fin 1408) :
    iblk m c 0 t (ix2 k a) = m ((c : Thread nD τ).loc main_arg0) (ix2 (con t.val k) (row t.val t.isLt a)) := by
  unfold row con
  blk_ext [iblk, idx t]

theorem blk_y (c : Dev nD) (t : Fin cfg0.N) (k : Fin 2048) (b : Fin 512) :
    iblk m c 1 t (ix2 k b) = m ((c : Thread nD τ).loc main_arg1) (ix2 (con t.val k) (col t.val b)) := by
  unfold col con
  blk_ext [iblk, idx t]

/-- Block `s` of the contraction at row `r` and column `l`. -/
def part (x : S8192x2816.Idx → EReal) (y : S8192x1024.Idx → EReal) (r : Fin 2816) (l : Fin 1024) (s : ℕ) : EReal :=
  ∑ k : Fin 2048, x (ix2 (con s k) r) * y (ix2 (con s k) l)

/-- The scratch after the first point of a run. -/
theorem scratch_first (c : Dev nD) (t : Fin cfg0.N) (h : t.val % 4 = 0) (a : Fin 1408) (b : Fin 512) :
    ((outsAt0 m c t.val t.isLt).2 (ix2 a b) : EReal) = part (m ((c : Thread nD τ).loc main_arg0)) (m ((c : Thread nD τ).loc main_arg1)) (row t.val t.isLt a) (col t.val b) t.val := by
  rw [outsAt0_A m c t h (by omega) (by omega)]
  frame_out
  unfold_payloads
  pointwise [blk_x, blk_y]
  rfl

/-- The scratch after the second and third points. -/
theorem scratch_next (c : Dev nD) (t : Fin cfg0.N) (h : 1 ≤ t.val % 4 ∧ t.val % 4 ≤ 2) (a : Fin 1408) (b : Fin 512) :
    ((outsAt0 m c t.val t.isLt).2 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_B m c t (by omega) h (by omega)]
  frame_out
  unfold_payloads
  simp only [read_unread_whole]
  pointwise [blk_x, blk_y]
  rfl

/-- What the last point of a run stores. -/
theorem pt (c : Dev nD) (t : Fin cfg0.N) (h : t.val % 4 = 3) (u : Fin 1) (a : Fin 1408) (b : Fin 512) :
    ((outsAt0 m c t.val t.isLt).1 (ix3 u a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_C m c t (by omega) (by omega) h]
  frame_out
  unfold_payloads
  simp only [read_unread_whole]
  pointwise [blk_x, blk_y]
  rfl

/-- The four blocks make up the contracted axis. -/
theorem parts (x : S8192x2816.Idx → EReal) (y : S8192x1024.Idx → EReal) (r : Fin 2816) (l : Fin 1024) :
    part x y r l 0 + part x y r l 1 + part x y r l 2 + part x y r l 3 = dw x y r l := by
  refine (Fin.sum_univ_four (fun s : Fin 4 => part x y r l s.val)).symm.trans ?_
  exact (Fin.sum_mul_add_congr (S := 4) (n := 2048) fun s k hl => congrArg (fun k => x (ix2 k r) * y (ix2 k l)) (Fin.ext (by
    show 2048 * (s.val % 4) + k.val = _; simp only; omega)))

/-- The scratch at the point before `t`, `i` points into the run: a point of the same run has the same block. -/
theorem same (c : Dev nD) (n n' : ℕ) (h : n < cfg0.N) (h' : n' < cfg0.N) (e : n / 4 = n' / 4) (s : ℕ) (hs : n % 4 = s % 4) (a : Fin 1408) (b : Fin 512) :
    part (m ((c : Thread nD τ).loc main_arg0)) (m ((c : Thread nD τ).loc main_arg1)) (row n h a) (col n b) n = part (m ((c : Thread nD τ).loc main_arg0)) (m ((c : Thread nD τ).loc main_arg1)) (row n' h' a) (col n' b) s := by
  have er : row n h a = row n' h' a := Fin.ext (by
    show 1408 * (n / 8) + a.val = 1408 * (n' / 8) + a.val; omega)
  have ec : col n b = col n' b := Fin.ext (by
    show 512 * (n / 4 % 2) + b.val = 512 * (n' / 4 % 2) + b.val; omega)
  unfold part con
  simp only [er, ec, hs]

/-- What the last point of a run stores is the gradient's block. -/
theorem pt_dw (c : Dev nD) (t : Fin cfg0.N) (h : t.val % 4 = 3) (u : Fin 1) (a : Fin 1408) (b : Fin 512) :
    ((outsAt0 m c t.val t.isLt).1 (ix3 u a b) : EReal) = dw (m ((c : Thread nD τ).loc main_arg0)) (m ((c : Thread nD τ).loc main_arg1)) (row t.val t.isLt a) (col t.val b) := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e3 := pt m c t h u a b
  have e2 := scratch_next m c ⟨t.val - 1, l1⟩ (by constructor <;> (simp only; omega)) a b
  have e1 := scratch_next m c ⟨t.val - 1 - 1, l2⟩ (by constructor <;> (simp only; omega)) a b
  have e0 := scratch_first m c ⟨t.val - 1 - 1 - 1, l3⟩ (by simp only; omega) a b
  dsimp only at e0 e1 e2
  rw [same m c _ t.val l3 t.isLt (by omega) 0 (by omega)] at e0
  rw [e0, same m c _ t.val l2 t.isLt (by omega) 1 (by omega)] at e1
  rw [e1, same m c _ t.val l1 t.isLt (by omega) 2 (by omega)] at e2
  rw [e2, same m c _ t.val t.isLt t.isLt rfl 3 (by omega), parts] at e3
  exact e3

/-- The kernel's output array. -/
theorem arr (c : Dev nD) : (dats m 0 c).arrAt 2 cfg0.N = fun i : S4x2816x1024.Idx => stack (m ((c : Thread nD τ).loc main_arg0)) (m ((c : Thread nD τ).loc main_arg1)) (m ((c : Thread nD τ).loc main_arg2)) (i 0) (i 1) (i 2) := by
  refine (dats m 0 c).arrAt_eq_of_coversWhere_of_agree 2 _ (fun β => β (0 : Fin 3) = 0) (by decide +kernel) (fun t hf y => ?_) (fun j hj => ?_)
  · have h1 : t.val % 4 = 3 := (flush0_2 t).mp hf
    idx_vars y
    rw [after0_2, show ((cfg0.win 2).blk t).view.emb (ix3 y0 y1 y2) = (ix3 0 (row t.val t.isLt y1) (col t.val y2) : S4x2816x1024.Idx) from by
      unfold row col; blk_ext [idx t]]
    refine Eq.trans ?_ (pt_dw m c t h1 y0 y1 y2)
    generalize (outsAt0 m c t.val t.isLt).1 = f
    rfl
  · have hj' : ¬ (j (0 : Fin 3)).val = 0 := fun e => hj (by
      show (j (0 : Fin 3)).val / 1 = 0
      rw [e])
    show V m c (Pipeline.arrRef spec0 2) _ = if (j (0 : Fin 3)).val = 0 then _ else _
    rw [if_neg hj']
    refine Eq.trans (b := m ((c : Thread nD τ).loc main_arg2) ((cfg0.win 2).arr.view.emb j)) ?_ ?_
    · show V m c main_v0 _ = _
      entry_read
      rfl
    · refine congrArg _ (funext fun a => ?_)
      fin_cases a <;> rfl

section
variable (x : (⟨Cert.FfnDwDownIdeal.S8192x2816, .bf16⟩ : BufTy).Contents (Elt Ideal)) (y : (⟨Cert.FfnDwDownIdeal.S8192x1024, .bf16⟩ : BufTy).Contents (Elt Ideal)) (b : (⟨Cert.FfnDwDownIdeal.S4x2816x1024, .f32⟩ : BufTy).Contents (Elt Ideal))
open Cert.FfnDwDownRefIdeal Cert.FfnDwDownRefIdeal.Read

/-- The reference's update lands at layer 0. -/
theorem lands (k : Cert.FfnDwDownRefIdeal.S2816x1024.Idx) : scatter_S4x2816x1024_S1_S2816x1024_01_0_0_0.resultIdx? k (val_main_v6 (F := Ideal)) = some (ix3 0 (k 0) (k 1)) := by
  have hs (a : Fin 3) : scatter_S4x2816x1024_S1_S2816x1024_01_0_0_0.start k (val_main_v6 (F := Ideal)) a = 0 := by
    unfold ScatterDims.start
    split
    · rw [val_main_v6_apply]; rfl
    · rfl
  have w0 : scatter_S4x2816x1024_S1_S2816x1024_01_0_0_0.window k 0 = 0 := rfl
  have w1 : scatter_S4x2816x1024_S1_S2816x1024_01_0_0_0.window k 1 = (k 0).val := rfl
  have w2 : scatter_S4x2816x1024_S1_S2816x1024_01_0_0_0.window k 2 = (k 1).val := rfl
  have hw (a : Fin 3) : scatter_S4x2816x1024_S1_S2816x1024_01_0_0_0.start k (val_main_v6 (F := Ideal)) a + scatter_S4x2816x1024_S1_S2816x1024_01_0_0_0.window k a = ((ix3 0 (k 0) (k 1) : Cert.FfnDwDownRefIdeal.S4x2816x1024.Idx) a).val := by
    rw [hs, zero_add]
    fin_cases a
    · exact congrArg _ w0
    · exact congrArg _ w1
    · exact congrArg _ w2
  unfold ScatterDims.resultIdx?
  rw [dif_pos fun a => by rw [hw a]; exact ⟨Int.natCast_nonneg _, by exact_mod_cast ((ix3 0 (k 0) (k 1) : Cert.FfnDwDownRefIdeal.S4x2816x1024.Idx) a).isLt⟩]
  refine congrArg some (funext fun a => Fin.ext ?_)
  show (_ : ℤ).toNat = _
  rw [hw a]
  rfl

theorem ref_grad (r : Fin 2816) (l : Fin 1024) : val_main_v5 (F := Ideal) x y (ix2 r l) = dw x y r l := by
  unfold val_main_v5 val_main_v4 val_main_v3 val_main_v1
  pointwise
  exact Finset.sum_congr rfl fun k _ => mul_comm _ _

theorem ref_stack (s : Fin 4) (r : Fin 2816) (l : Fin 1024) : val_main_v7 (F := Ideal) x y b (ix3 s r l) = stack x y b s r l := by
  unfold val_main_v7 stack
  split
  · rename_i h
    obtain rfl : s = 0 := Fin.ext h
    refine Routing.scatter_set_hit _ _ _ _ _ _ (fun k hk => ?_) (ix2 r l) (lands (ix2 r l))
    rw [lands] at hk
    have hk' := Option.some.inj hk
    rw [← ref_grad]
    refine congrArg _ (funext fun a => ?_)
    fin_cases a
    · exact congrFun hk' 1
    · exact congrFun hk' 2
  · rename_i h
    refine Routing.scatter_set_miss _ _ _ _ _ fun k hk => h ?_
    rw [lands] at hk
    exact (congrArg Fin.val (congrFun (Option.some.inj hk) 0)).symm

end

/-- An array agrees with a function of its coordinates when it does so at every one. -/
theorem ext3 {p n k : ℕ} {α : Type} {x : (⟨3, ![p, n, k]⟩ : Shape).Idx → α} {f : Fin p → Fin n → Fin k → α} (h : ∀ s r l, x (ix3 s r l) = f s r l) :
    x = fun i => f (i 0) (i 1) (i 2) := by
  funext i
  have e : i = ix3 (i 0) (i 1) (i 2) := by funext a; fin_cases a <;> rfl
  exact (congrArg x e).trans (h _ _ _)

theorem algebraic : Cert.algebraic_FfnDwDownIdeal_FfnDwDownRefIdeal (hFfnDwDownIdeal := Cert.FfnDwDownIdeal.Gen.facts) (hFfnDwDownRefIdeal := Cert.FfnDwDownRefIdeal.Gen.facts) := by
  intro m g m' g' _ hagree
  refine ⟨fun c => fun i : S4x2816x1024.Idx => stack (m ((c.tc : Thread nD τ).loc main_arg0)) (m ((c.tc : Thread nD τ).loc main_arg1)) (m ((c.tc : Thread nD τ).loc main_arg2)) (i 0) (i 1) (i 2), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.FfnDwDownRefIdeal.Value.run m' g')
    obtain ⟨h0, hargs⟩ := h c
    obtain ⟨e0, e1, e2⟩ := hagree c
    refine ⟨h0.trans ?_, hargs⟩
    clear h0 hargs
    refine (Cert.FfnDwDownRefIdeal.Read.val_main_v7_eq (F := Ideal) (m' ((c.tc : Thread Cert.FfnDwDownRefIdeal.nD Cert.FfnDwDownRefIdeal.τ).loc Cert.FfnDwDownRefIdeal.main_arg0))
      (m' ((c.tc : Thread Cert.FfnDwDownRefIdeal.nD Cert.FfnDwDownRefIdeal.τ).loc Cert.FfnDwDownRefIdeal.main_arg1))
      (m' ((c.tc : Thread Cert.FfnDwDownRefIdeal.nD Cert.FfnDwDownRefIdeal.τ).loc Cert.FfnDwDownRefIdeal.main_arg2))).trans ?_
    rw [e0, e1, e2]
    exact ext3 fun s r l => ref_stack _ _ _ s r l

/-- The run of the reference, read at its arguments. The program declares no semaphores, so all counters are zero. -/
theorem frame_ref : Cert.quiescent_FfnDwDownRefIdeal (hFfnDwDownRefIdeal := Cert.FfnDwDownRefIdeal.Gen.facts) := fun m ρ _ =>
  (θ_run Cert.FfnDwDownRefIdeal.defs _ _).mono
    (fun r h => ⟨fun c => (h c).2, sem_eq_zero_of_no_sems (by decide) r.2⟩)
    (Cert.FfnDwDownRefIdeal.Value.run (F := Ideal) m ρ)

end Cert.FfnDwDownV

end
-- ==== Proof.Ffn.DwGu.lean ====
module
public import proofs.«01_k».proof.Defs
public import proofs.«01_k».proof.Proof.Gen.FfnDwGuRefIdeal
public import Idealize.ShloMosaic.Lib.Quiescent
public import Idealize.ShloMosaic.Lib.Pipeline.ReadBack
public import Idealize.ShloMosaic.Lib.Pipeline.ValueKit.Partial
public import Idealize.ShloMosaic.Lib.Routing.OpsSet
public import proofs.«01_k».proof.Proof.Gen.FfnDwGuIdeal.Value
public import proofs.«01_k».proof.Proof.Gen.FfnDwGuRefIdeal.Run
public import proofs.«01_k».proof.Proof.Gen.FfnDwGuRefIdeal.Read
public import Idealize.ShloMosaic.Lib.Pipeline.ValueKit
@[expose] public section
set_option maxRecDepth 16384
set_option maxHeartbeats 4000000
noncomputable section
namespace Cert.FfnDwGuV
open Cert.FfnDwGuIdeal Cert.FfnDwGuIdeal.Gen Idealize.ShloMosaic Idealize.ShloMosaic.TcCoe Idealize.SL.Sem

/-! The gradient of the gate and up product's weight: `dw[r, l] = Σ_k n[k, r] * dgu[k, l]`. The rows are walked in four blocks of 2048: the first point of a run of four
keeps its part in the scratch, the next two add theirs, the last adds its own and stores the block at layer 0 of the stack.
The other layers are never written. -/

/-- The gradient of the layer's weight. -/
def dw (x : S8192x1024.Idx → EReal) (y : S8192x5632.Idx → EReal) (r : Fin 1024) (l : Fin 5632) : EReal :=
  ∑ k : Fin 8192, x (ix2 k r) * y (ix2 k l)

/-- The claim's right hand side: the stack with layer 0 replaced. -/
def stack (x : S8192x1024.Idx → EReal) (y : S8192x5632.Idx → EReal) (b : S4x1024x5632.Idx → EReal) (s : Fin 4) (r : Fin 1024) (l : Fin 5632) : EReal :=
  if s.val = 0 then dw x y r l else b (ix3 s r l)

theorem idx : ∀ t : Fin cfg0.N, win0_0.index t = ![t.val % 4, t.val / 16] ∧ win0_1.index t = ![t.val % 4, t.val / 4 % 4]
    ∧ win0_2.index t = ![0, t.val / 16, t.val / 4 % 4] :=
  (by decide +kernel : ∀ t : Fin grid0.N, _)

/-- Row `a` of the block that point `n` works on, in the array. -/
def row (n : ℕ) (h : n < cfg0.N) (a : Fin 512) : Fin 1024 :=
  ⟨512 * (n / 16) + a.val, by have := lt_of_lt_of_eq h (show cfg0.N = 32 from N_0); omega⟩

/-- Column `b` of the block that point `n` works on, in the array. -/
def col (n : ℕ) (b : Fin 1408) : Fin 5632 := ⟨1408 * (n / 4 % 4) + b.val, by omega⟩

/-- Entry `k` of block `s` of the contracted axis. -/
def con (s : ℕ) (k : Fin 2048) : Fin 8192 := ⟨2048 * (s % 4) + k.val, by omega⟩

variable (m : (ℓ : Loc nD τ sig) → Buf (Elt Ideal) ℓ)

theorem blk_x (c : Dev nD) (t : Fin cfg0.N) (k : Fin 2048) (a : Fin 512) :
    iblk m c 0 t (ix2 k a) = m ((c : Thread nD τ).loc main_arg0) (ix2 (con t.val k) (row t.val t.isLt a)) := by
  unfold row con
  blk_ext [iblk, idx t]

theorem blk_y (c : Dev nD) (t : Fin cfg0.N) (k : Fin 2048) (b : Fin 1408) :
    iblk m c 1 t (ix2 k b) = m ((c : Thread nD τ).loc main_arg1) (ix2 (con t.val k) (col t.val b)) := by
  unfold col con
  blk_ext [iblk, idx t]

/-- Block `s` of the contraction at row `r` and column `l`. -/
def part (x : S8192x1024.Idx → EReal) (y : S8192x5632.Idx → EReal) (r : Fin 1024) (l : Fin 5632) (s : ℕ) : EReal :=
  ∑ k : Fin 2048, x (ix2 (con s k) r) * y (ix2 (con s k) l)

/-- The scratch after the first point of a run. -/
theorem scratch_first (c : Dev nD) (t : Fin cfg0.N) (h : t.val % 4 = 0) (a : Fin 512) (b : Fin 1408) :
    ((outsAt0 m c t.val t.isLt).2 (ix2 a b) : EReal) = part (m ((c : Thread nD τ).loc main_arg0)) (m ((c : Thread nD τ).loc main_arg1)) (row t.val t.isLt a) (col t.val b) t.val := by
  rw [outsAt0_A m c t h (by omega) (by omega)]
  frame_out
  unfold_payloads
  pointwise [blk_x, blk_y]
  rfl

/-- The scratch after the second and third points. -/
theorem scratch_next (c : Dev nD) (t : Fin cfg0.N) (h : 1 ≤ t.val % 4 ∧ t.val % 4 ≤ 2) (a : Fin 512) (b : Fin 1408) :
    ((outsAt0 m c t.val t.isLt).2 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_B m c t (by omega) h (by omega)]
  frame_out
  unfold_payloads
  simp only [read_unread_whole]
  pointwise [blk_x, blk_y]
  rfl

/-- What the last point of a run stores. -/
theorem pt (c : Dev nD) (t : Fin cfg0.N) (h : t.val % 4 = 3) (u : Fin 1) (a : Fin 512) (b : Fin 1408) :
    ((outsAt0 m c t.val t.isLt).1 (ix3 u a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_C m c t (by omega) (by omega) h]
  frame_out
  unfold_payloads
  simp only [read_unread_whole]
  pointwise [blk_x, blk_y]
  rfl

/-- The four blocks make up the contracted axis. -/
theorem parts (x : S8192x1024.Idx → EReal) (y : S8192x5632.Idx → EReal) (r : Fin 1024) (l : Fin 5632) :
    part x y r l 0 + part x y r l 1 + part x y r l 2 + part x y r l 3 = dw x y r l := by
  refine (Fin.sum_univ_four (fun s : Fin 4 => part x y r l s.val)).symm.trans ?_
  exact (Fin.sum_mul_add_congr (S := 4) (n := 2048) fun s k hl => congrArg (fun k => x (ix2 k r) * y (ix2 k l)) (Fin.ext (by
    show 2048 * (s.val % 4) + k.val = _; simp only; omega)))

/-- The scratch at the point before `t`, `i` points into the run: a point of the same run has the same block. -/
theorem same (c : Dev nD) (n n' : ℕ) (h : n < cfg0.N) (h' : n' < cfg0.N) (e : n / 4 = n' / 4) (s : ℕ) (hs : n % 4 = s % 4) (a : Fin 512) (b : Fin 1408) :
    part (m ((c : Thread nD τ).loc main_arg0)) (m ((c : Thread nD τ).loc main_arg1)) (row n h a) (col n b) n = part (m ((c : Thread nD τ).loc main_arg0)) (m ((c : Thread nD τ).loc main_arg1)) (row n' h' a) (col n' b) s := by
  have er : row n h a = row n' h' a := Fin.ext (by
    show 512 * (n / 16) + a.val = 512 * (n' / 16) + a.val; omega)
  have ec : col n b = col n' b := Fin.ext (by
    show 1408 * (n / 4 % 4) + b.val = 1408 * (n' / 4 % 4) + b.val; omega)
  unfold part con
  simp only [er, ec, hs]

/-- What the last point of a run stores is the gradient's block. -/
theorem pt_dw (c : Dev nD) (t : Fin cfg0.N) (h : t.val % 4 = 3) (u : Fin 1) (a : Fin 512) (b : Fin 1408) :
    ((outsAt0 m c t.val t.isLt).1 (ix3 u a b) : EReal) = dw (m ((c : Thread nD τ).loc main_arg0)) (m ((c : Thread nD τ).loc main_arg1)) (row t.val t.isLt a) (col t.val b) := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e3 := pt m c t h u a b
  have e2 := scratch_next m c ⟨t.val - 1, l1⟩ (by constructor <;> (simp only; omega)) a b
  have e1 := scratch_next m c ⟨t.val - 1 - 1, l2⟩ (by constructor <;> (simp only; omega)) a b
  have e0 := scratch_first m c ⟨t.val - 1 - 1 - 1, l3⟩ (by simp only; omega) a b
  dsimp only at e0 e1 e2
  rw [same m c _ t.val l3 t.isLt (by omega) 0 (by omega)] at e0
  rw [e0, same m c _ t.val l2 t.isLt (by omega) 1 (by omega)] at e1
  rw [e1, same m c _ t.val l1 t.isLt (by omega) 2 (by omega)] at e2
  rw [e2, same m c _ t.val t.isLt t.isLt rfl 3 (by omega), parts] at e3
  exact e3

/-- The kernel's output array. -/
theorem arr (c : Dev nD) : (dats m 0 c).arrAt 2 cfg0.N = fun i : S4x1024x5632.Idx => stack (m ((c : Thread nD τ).loc main_arg0)) (m ((c : Thread nD τ).loc main_arg1)) (m ((c : Thread nD τ).loc main_arg2)) (i 0) (i 1) (i 2) := by
  refine (dats m 0 c).arrAt_eq_of_coversWhere_of_agree 2 _ (fun β => β (0 : Fin 3) = 0) (by decide +kernel) (fun t hf y => ?_) (fun j hj => ?_)
  · have h1 : t.val % 4 = 3 := (flush0_2 t).mp hf
    idx_vars y
    rw [after0_2, show ((cfg0.win 2).blk t).view.emb (ix3 y0 y1 y2) = (ix3 0 (row t.val t.isLt y1) (col t.val y2) : S4x1024x5632.Idx) from by
      unfold row col; blk_ext [idx t]]
    refine Eq.trans ?_ (pt_dw m c t h1 y0 y1 y2)
    generalize (outsAt0 m c t.val t.isLt).1 = f
    rfl
  · have hj' : ¬ (j (0 : Fin 3)).val = 0 := fun e => hj (by
      show (j (0 : Fin 3)).val / 1 = 0
      rw [e])
    show V m c (Pipeline.arrRef spec0 2) _ = if (j (0 : Fin 3)).val = 0 then _ else _
    rw [if_neg hj']
    refine Eq.trans (b := m ((c : Thread nD τ).loc main_arg2) ((cfg0.win 2).arr.view.emb j)) ?_ ?_
    · show V m c main_v0 _ = _
      entry_read
      rfl
    · refine congrArg _ (funext fun a => ?_)
      fin_cases a <;> rfl

section
variable (x : (⟨Cert.FfnDwGuIdeal.S8192x1024, .bf16⟩ : BufTy).Contents (Elt Ideal)) (y : (⟨Cert.FfnDwGuIdeal.S8192x5632, .bf16⟩ : BufTy).Contents (Elt Ideal)) (b : (⟨Cert.FfnDwGuIdeal.S4x1024x5632, .f32⟩ : BufTy).Contents (Elt Ideal))
open Cert.FfnDwGuRefIdeal Cert.FfnDwGuRefIdeal.Read

/-- The reference's update lands at layer 0. -/
theorem lands (k : Cert.FfnDwGuRefIdeal.S1024x5632.Idx) : scatter_S4x1024x5632_S1_S1024x5632_01_0_0_0.resultIdx? k (val_main_v6 (F := Ideal)) = some (ix3 0 (k 0) (k 1)) := by
  have hs (a : Fin 3) : scatter_S4x1024x5632_S1_S1024x5632_01_0_0_0.start k (val_main_v6 (F := Ideal)) a = 0 := by
    unfold ScatterDims.start
    split
    · rw [val_main_v6_apply]; rfl
    · rfl
  have w0 : scatter_S4x1024x5632_S1_S1024x5632_01_0_0_0.window k 0 = 0 := rfl
  have w1 : scatter_S4x1024x5632_S1_S1024x5632_01_0_0_0.window k 1 = (k 0).val := rfl
  have w2 : scatter_S4x1024x5632_S1_S1024x5632_01_0_0_0.window k 2 = (k 1).val := rfl
  have hw (a : Fin 3) : scatter_S4x1024x5632_S1_S1024x5632_01_0_0_0.start k (val_main_v6 (F := Ideal)) a + scatter_S4x1024x5632_S1_S1024x5632_01_0_0_0.window k a = ((ix3 0 (k 0) (k 1) : Cert.FfnDwGuRefIdeal.S4x1024x5632.Idx) a).val := by
    rw [hs, zero_add]
    fin_cases a
    · exact congrArg _ w0
    · exact congrArg _ w1
    · exact congrArg _ w2
  unfold ScatterDims.resultIdx?
  rw [dif_pos fun a => by rw [hw a]; exact ⟨Int.natCast_nonneg _, by exact_mod_cast ((ix3 0 (k 0) (k 1) : Cert.FfnDwGuRefIdeal.S4x1024x5632.Idx) a).isLt⟩]
  refine congrArg some (funext fun a => Fin.ext ?_)
  show (_ : ℤ).toNat = _
  rw [hw a]
  rfl

theorem ref_grad (r : Fin 1024) (l : Fin 5632) : val_main_v5 (F := Ideal) x y (ix2 r l) = dw x y r l := by
  unfold val_main_v5 val_main_v4 val_main_v3 val_main_v1
  pointwise
  exact Finset.sum_congr rfl fun k _ => mul_comm _ _

theorem ref_stack (s : Fin 4) (r : Fin 1024) (l : Fin 5632) : val_main_v7 (F := Ideal) x y b (ix3 s r l) = stack x y b s r l := by
  unfold val_main_v7 stack
  split
  · rename_i h
    obtain rfl : s = 0 := Fin.ext h
    refine Routing.scatter_set_hit _ _ _ _ _ _ (fun k hk => ?_) (ix2 r l) (lands (ix2 r l))
    rw [lands] at hk
    have hk' := Option.some.inj hk
    rw [← ref_grad]
    refine congrArg _ (funext fun a => ?_)
    fin_cases a
    · exact congrFun hk' 1
    · exact congrFun hk' 2
  · rename_i h
    refine Routing.scatter_set_miss _ _ _ _ _ fun k hk => h ?_
    rw [lands] at hk
    exact (congrArg Fin.val (congrFun (Option.some.inj hk) 0)).symm

end

/-- An array agrees with a function of its coordinates when it does so at every one. -/
theorem ext3 {p n k : ℕ} {α : Type} {x : (⟨3, ![p, n, k]⟩ : Shape).Idx → α} {f : Fin p → Fin n → Fin k → α} (h : ∀ s r l, x (ix3 s r l) = f s r l) :
    x = fun i => f (i 0) (i 1) (i 2) := by
  funext i
  have e : i = ix3 (i 0) (i 1) (i 2) := by funext a; fin_cases a <;> rfl
  exact (congrArg x e).trans (h _ _ _)

theorem algebraic : Cert.algebraic_FfnDwGuIdeal_FfnDwGuRefIdeal (hFfnDwGuIdeal := Cert.FfnDwGuIdeal.Gen.facts) (hFfnDwGuRefIdeal := Cert.FfnDwGuRefIdeal.Gen.facts) := by
  intro m g m' g' _ hagree
  refine ⟨fun c => fun i : S4x1024x5632.Idx => stack (m ((c.tc : Thread nD τ).loc main_arg0)) (m ((c.tc : Thread nD τ).loc main_arg1)) (m ((c.tc : Thread nD τ).loc main_arg2)) (i 0) (i 1) (i 2), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.FfnDwGuRefIdeal.Value.run m' g')
    obtain ⟨h0, hargs⟩ := h c
    obtain ⟨e0, e1, e2⟩ := hagree c
    refine ⟨h0.trans ?_, hargs⟩
    clear h0 hargs
    refine (Cert.FfnDwGuRefIdeal.Read.val_main_v7_eq (F := Ideal) (m' ((c.tc : Thread Cert.FfnDwGuRefIdeal.nD Cert.FfnDwGuRefIdeal.τ).loc Cert.FfnDwGuRefIdeal.main_arg0))
      (m' ((c.tc : Thread Cert.FfnDwGuRefIdeal.nD Cert.FfnDwGuRefIdeal.τ).loc Cert.FfnDwGuRefIdeal.main_arg1))
      (m' ((c.tc : Thread Cert.FfnDwGuRefIdeal.nD Cert.FfnDwGuRefIdeal.τ).loc Cert.FfnDwGuRefIdeal.main_arg2))).trans ?_
    rw [e0, e1, e2]
    exact ext3 fun s r l => ref_stack _ _ _ s r l

/-- The run of the reference, read at its arguments. The program declares no semaphores, so all counters are zero. -/
theorem frame_ref : Cert.quiescent_FfnDwGuRefIdeal (hFfnDwGuRefIdeal := Cert.FfnDwGuRefIdeal.Gen.facts) := fun m ρ _ =>
  (θ_run Cert.FfnDwGuRefIdeal.defs _ _).mono
    (fun r h => ⟨fun c => (h c).2, sem_eq_zero_of_no_sems (by decide) r.2⟩)
    (Cert.FfnDwGuRefIdeal.Value.run (F := Ideal) m ρ)

end Cert.FfnDwGuV

end
-- ==== Proof.Mix.Du.lean ====
module
public import proofs.«01_k».proof.Defs
public import proofs.«01_k».proof.Proof.Gen.DuRefIdeal
public import Idealize.ShloMosaic.Lib.Quiescent
public import Idealize.ShloMosaic.Lib.Pipeline.ReadBack
public import Idealize.ShloMosaic.Lib.Pipeline.ValueKit.Partial
public import Idealize.ShloMosaic.Lib.Routing.OpsSet
public import proofs.«01_k».proof.Proof.Gen.DuIdeal.Value
public import proofs.«01_k».proof.Proof.Gen.DuRefIdeal.Run
public import proofs.«01_k».proof.Proof.Gen.DuRefIdeal.Read
public import Idealize.ShloMosaic.Lib.Pipeline.ValueKit
@[expose] public section
set_option maxRecDepth 16384
set_option maxHeartbeats 4000000
noncomputable section
namespace Cert.DuV
open Cert.DuIdeal Cert.DuIdeal.Gen Idealize.ShloMosaic Idealize.ShloMosaic.TcCoe Idealize.SL.Sem

/-! The cotangent through the input product: `du[r, l] = Σ_k dproj[r, k] * w[l, k]`. The contracted axis of 7168 is walked in
four blocks of 1792: the first point of a run of four keeps its part in the scratch, the next two add theirs, the last adds
its own and stores the block. -/

/-- The claim's right hand side. -/
def du (x : S8192x7168.Idx → EReal) (y : S1024x7168.Idx → EReal) (r : Fin 8192) (l : Fin 1024) : EReal :=
  ∑ k : Fin 7168, x (ix2 r k) * y (ix2 l k)

theorem idx : ∀ t : Fin cfg0.N, win0_0.index t = ![t.val / 8, t.val % 4] ∧ win0_1.index t = ![t.val / 4 % 2, t.val % 4]
    ∧ win0_2.index t = ![t.val / 8, t.val / 4 % 2] :=
  (by decide +kernel : ∀ t : Fin grid0.N, _)

/-- Row `a` of the block that point `n` works on, in the array. -/
def row (n : ℕ) (h : n < cfg0.N) (a : Fin 2048) : Fin 8192 :=
  ⟨2048 * (n / 8) + a.val, by have := lt_of_lt_of_eq h (show cfg0.N = 32 from N_0); omega⟩

/-- Column `b` of the block that point `n` works on, in the array. -/
def col (n : ℕ) (b : Fin 512) : Fin 1024 := ⟨512 * (n / 4 % 2) + b.val, by omega⟩

/-- Entry `k` of block `s` of the contracted axis. -/
def con (s : ℕ) (k : Fin 1792) : Fin 7168 := ⟨1792 * (s % 4) + k.val, by omega⟩

variable (m : (ℓ : Loc nD τ sig) → Buf (Elt Ideal) ℓ)

theorem blk_x (c : Dev nD) (t : Fin cfg0.N) (a : Fin 2048) (k : Fin 1792) :
    iblk m c 0 t (ix2 a k) = m ((c : Thread nD τ).loc main_arg0) (ix2 (row t.val t.isLt a) (con t.val k)) := by
  unfold row con
  blk_ext [iblk, idx t]

theorem blk_y (c : Dev nD) (t : Fin cfg0.N) (b : Fin 512) (k : Fin 1792) :
    iblk m c 1 t (ix2 b k) = m ((c : Thread nD τ).loc main_arg1) (ix2 (col t.val b) (con t.val k)) := by
  unfold col con
  blk_ext [iblk, idx t]

/-- Block `s` of the contraction at row `r` and column `l`. -/
def part (x : S8192x7168.Idx → EReal) (y : S1024x7168.Idx → EReal) (r : Fin 8192) (l : Fin 1024) (s : ℕ) : EReal :=
  ∑ k : Fin 1792, x (ix2 r (con s k)) * y (ix2 l (con s k))

/-- The scratch after the first point of a run. -/
theorem scratch_first (c : Dev nD) (t : Fin cfg0.N) (h : t.val % 4 = 0) (a : Fin 2048) (b : Fin 512) :
    ((outsAt0 m c t.val t.isLt).2 (ix2 a b) : EReal) = part (m ((c : Thread nD τ).loc main_arg0)) (m ((c : Thread nD τ).loc main_arg1)) (row t.val t.isLt a) (col t.val b) t.val := by
  rw [outsAt0_A m c t h (by omega) (by omega)]
  frame_out
  unfold_payloads
  pointwise [blk_x, blk_y]
  rfl

/-- The scratch after the second and third points. -/
theorem scratch_next (c : Dev nD) (t : Fin cfg0.N) (h : 1 ≤ t.val % 4 ∧ t.val % 4 ≤ 2) (a : Fin 2048) (b : Fin 512) :
    ((outsAt0 m c t.val t.isLt).2 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_B m c t (by omega) h (by omega)]
  frame_out
  unfold_payloads
  simp only [read_unread_whole]
  pointwise [blk_x, blk_y]
  rfl

/-- What the last point of a run stores. -/
theorem pt (c : Dev nD) (t : Fin cfg0.N) (h : t.val % 4 = 3) (a : Fin 2048) (b : Fin 512) :
    ((outsAt0 m c t.val t.isLt).1 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_C m c t (by omega) (by omega) h]
  frame_out
  unfold_payloads
  simp only [read_unread_whole]
  pointwise [blk_x, blk_y]
  rfl

/-- The four blocks make up the contracted axis. -/
theorem parts (x : S8192x7168.Idx → EReal) (y : S1024x7168.Idx → EReal) (r : Fin 8192) (l : Fin 1024) :
    part x y r l 0 + part x y r l 1 + part x y r l 2 + part x y r l 3 = du x y r l := by
  refine (Fin.sum_univ_four (fun s : Fin 4 => part x y r l s.val)).symm.trans ?_
  exact (Fin.sum_mul_add_congr (S := 4) (n := 1792) fun s k hl => congrArg (fun k => x (ix2 r k) * y (ix2 l k)) (Fin.ext (by
    show 1792 * (s.val % 4) + k.val = _; simp only; omega)))

/-- The scratch at the point before `t`, `i` points into the run: a point of the same run has the same block. -/
theorem same (c : Dev nD) (n n' : ℕ) (h : n < cfg0.N) (h' : n' < cfg0.N) (e : n / 4 = n' / 4) (s : ℕ) (hs : n % 4 = s % 4) (a : Fin 2048) (b : Fin 512) :
    part (m ((c : Thread nD τ).loc main_arg0)) (m ((c : Thread nD τ).loc main_arg1)) (row n h a) (col n b) n = part (m ((c : Thread nD τ).loc main_arg0)) (m ((c : Thread nD τ).loc main_arg1)) (row n' h' a) (col n' b) s := by
  have er : row n h a = row n' h' a := Fin.ext (by
    show 2048 * (n / 8) + a.val = 2048 * (n' / 8) + a.val; omega)
  have ec : col n b = col n' b := Fin.ext (by
    show 512 * (n / 4 % 2) + b.val = 512 * (n' / 4 % 2) + b.val; omega)
  unfold part con
  simp only [er, ec, hs]

/-- What the last point of a run stores is the gradient's block. -/
theorem pt_du (c : Dev nD) (t : Fin cfg0.N) (h : t.val % 4 = 3) (a : Fin 2048) (b : Fin 512) :
    ((outsAt0 m c t.val t.isLt).1 (ix2 a b) : EReal) = du (m ((c : Thread nD τ).loc main_arg0)) (m ((c : Thread nD τ).loc main_arg1)) (row t.val t.isLt a) (col t.val b) := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e3 := pt m c t h a b
  have e2 := scratch_next m c ⟨t.val - 1, l1⟩ (by constructor <;> (simp only; omega)) a b
  have e1 := scratch_next m c ⟨t.val - 1 - 1, l2⟩ (by constructor <;> (simp only; omega)) a b
  have e0 := scratch_first m c ⟨t.val - 1 - 1 - 1, l3⟩ (by simp only; omega) a b
  dsimp only at e0 e1 e2
  rw [same m c _ t.val l3 t.isLt (by omega) 0 (by omega)] at e0
  rw [e0, same m c _ t.val l2 t.isLt (by omega) 1 (by omega)] at e1
  rw [e1, same m c _ t.val l1 t.isLt (by omega) 2 (by omega)] at e2
  rw [e2, same m c _ t.val t.isLt t.isLt rfl 3 (by omega), parts] at e3
  exact e3

/-- The kernel's output array. -/
theorem arr (c : Dev nD) : (dats m 0 c).arrAt 2 cfg0.N = fun i : S8192x1024.Idx =>
    du (m ((c : Thread nD τ).loc main_arg0)) (m ((c : Thread nD τ).loc main_arg1)) (i 0) (i 1) := by
  refine (dats m 0 c).arrAt_eq_of_covers 2 _ (by decide +kernel) fun t hf y => ?_
  have h1 : t.val % 4 = 3 := (flush0_2 t).mp hf
  idx_vars y
  rw [after0_2, show ((cfg0.win 2).blk t).view.emb (ix2 y0 y1) = (ix2 (row t.val t.isLt y0) (col t.val y1) : S8192x1024.Idx) from by
    unfold row col; blk_ext [idx t]]
  refine Eq.trans ?_ (pt_du m c t h1 y0 y1)
  generalize (outsAt0 m c t.val t.isLt).1 = f
  rfl

section
variable (x : (⟨Cert.DuIdeal.S8192x7168, .bf16⟩ : BufTy).Contents (Elt Ideal)) (y : (⟨Cert.DuIdeal.S1024x7168, .bf16⟩ : BufTy).Contents (Elt Ideal))
open Cert.DuRefIdeal.Read

/-- The reference at one index. -/
theorem ref_du (r : Fin 8192) (l : Fin 1024) : val_main_v5 (F := Ideal) x y (ix2 r l) = du x y r l := by
  unfold val_main_v5 val_main_v4 val_main_v3 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_DuIdeal_DuRefIdeal (hDuIdeal := Cert.DuIdeal.Gen.facts) (hDuRefIdeal := Cert.DuRefIdeal.Gen.facts) := by
  intro m g m' g' _ hagree
  refine ⟨fun c => fun i : S8192x1024.Idx => du (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DuRefIdeal.Value.run m' g')
    obtain ⟨h0, hargs⟩ := h c
    obtain ⟨e0, e1⟩ := hagree c
    refine ⟨h0.trans ?_, hargs⟩
    clear h0 hargs
    refine (Cert.DuRefIdeal.Read.val_main_v5_eq (F := Ideal) (m' ((c.tc : Thread Cert.DuRefIdeal.nD Cert.DuRefIdeal.τ).loc Cert.DuRefIdeal.main_arg0))
      (m' ((c.tc : Thread Cert.DuRefIdeal.nD Cert.DuRefIdeal.τ).loc Cert.DuRefIdeal.main_arg1))).trans ?_
    rw [e0, e1]
    exact ext2 fun r l => ref_du _ _ r l

/-- The run of the reference, read at its arguments. The program declares no semaphores, so all counters are zero. -/
theorem frame_ref : Cert.quiescent_DuRefIdeal (hDuRefIdeal := Cert.DuRefIdeal.Gen.facts) := fun m ρ _ =>
  (θ_run Cert.DuRefIdeal.defs _ _).mono
    (fun r h => ⟨fun c => (h c).2, sem_eq_zero_of_no_sems (by decide) r.2⟩)
    (Cert.DuRefIdeal.Value.run (F := Ideal) m ρ)

end Cert.DuV

end
-- ==== Proof.Mix.Dwin.lean ====
module
public import proofs.«01_k».proof.Defs
public import proofs.«01_k».proof.Proof.Gen.DwinRefIdeal
public import Idealize.ShloMosaic.Lib.Quiescent
public import Idealize.ShloMosaic.Lib.Pipeline.ReadBack
public import Idealize.ShloMosaic.Lib.Pipeline.ValueKit.Partial
public import Idealize.ShloMosaic.Lib.Routing.OpsSet
public import proofs.«01_k».proof.Proof.Gen.DwinIdeal.Value
public import proofs.«01_k».proof.Proof.Gen.DwinRefIdeal.Run
public import proofs.«01_k».proof.Proof.Gen.DwinRefIdeal.Read
public import Idealize.ShloMosaic.Lib.Pipeline.ValueKit
@[expose] public section
set_option maxRecDepth 16384
set_option maxHeartbeats 4000000
noncomputable section
namespace Cert.DwinV
open Cert.DwinIdeal Cert.DwinIdeal.Gen Idealize.ShloMosaic Idealize.ShloMosaic.TcCoe Idealize.SL.Sem

/-! The gradient of the input product's weight: `dw[r, l] = Σ_k u[k, r] * dproj[k, l]`. The rows are walked in four blocks of 2048: the first point of a run of four
keeps its part in the scratch, the next two add theirs, the last adds its own and stores the block. -/

/-- The gradient of the layer's weight. -/
def dw (x : S8192x1024.Idx → EReal) (y : S8192x7168.Idx → EReal) (r : Fin 1024) (l : Fin 7168) : EReal :=
  ∑ k : Fin 8192, x (ix2 k r) * y (ix2 k l)

theorem idx : ∀ t : Fin cfg0.N, win0_0.index t = ![t.val % 4, t.val / 28] ∧ win0_1.index t = ![t.val % 4, t.val / 4 % 7]
    ∧ win0_2.index t = ![t.val / 28, t.val / 4 % 7] :=
  (by decide +kernel : ∀ t : Fin grid0.N, _)

/-- Row `a` of the block that point `n` works on, in the array. -/
def row (n : ℕ) (h : n < cfg0.N) (a : Fin 1024) : Fin 1024 :=
  ⟨1024 * (n / 28) + a.val, by have := lt_of_lt_of_eq h (show cfg0.N = 28 from N_0); omega⟩

/-- Column `b` of the block that point `n` works on, in the array. -/
def col (n : ℕ) (b : Fin 1024) : Fin 7168 := ⟨1024 * (n / 4 % 7) + b.val, by omega⟩

/-- Entry `k` of block `s` of the contracted axis. -/
def con (s : ℕ) (k : Fin 2048) : Fin 8192 := ⟨2048 * (s % 4) + k.val, by omega⟩

variable (m : (ℓ : Loc nD τ sig) → Buf (Elt Ideal) ℓ)

theorem blk_x (c : Dev nD) (t : Fin cfg0.N) (k : Fin 2048) (a : Fin 1024) :
    iblk m c 0 t (ix2 k a) = m ((c : Thread nD τ).loc main_arg0) (ix2 (con t.val k) (row t.val t.isLt a)) := by
  unfold row con
  blk_ext [iblk, idx t]

theorem blk_y (c : Dev nD) (t : Fin cfg0.N) (k : Fin 2048) (b : Fin 1024) :
    iblk m c 1 t (ix2 k b) = m ((c : Thread nD τ).loc main_arg1) (ix2 (con t.val k) (col t.val b)) := by
  unfold col con
  blk_ext [iblk, idx t]

/-- Block `s` of the contraction at row `r` and column `l`. -/
def part (x : S8192x1024.Idx → EReal) (y : S8192x7168.Idx → EReal) (r : Fin 1024) (l : Fin 7168) (s : ℕ) : EReal :=
  ∑ k : Fin 2048, x (ix2 (con s k) r) * y (ix2 (con s k) l)

/-- The scratch after the first point of a run. -/
theorem scratch_first (c : Dev nD) (t : Fin cfg0.N) (h : t.val % 4 = 0) (a : Fin 1024) (b : Fin 1024) :
    ((outsAt0 m c t.val t.isLt).2 (ix2 a b) : EReal) = part (m ((c : Thread nD τ).loc main_arg0)) (m ((c : Thread nD τ).loc main_arg1)) (row t.val t.isLt a) (col t.val b) t.val := by
  rw [outsAt0_A m c t h (by omega) (by omega)]
  frame_out
  unfold_payloads
  pointwise [blk_x, blk_y]
  rfl

/-- The scratch after the second and third points. -/
theorem scratch_next (c : Dev nD) (t : Fin cfg0.N) (h : 1 ≤ t.val % 4 ∧ t.val % 4 ≤ 2) (a : Fin 1024) (b : Fin 1024) :
    ((outsAt0 m c t.val t.isLt).2 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_B m c t (by omega) h (by omega)]
  frame_out
  unfold_payloads
  simp only [read_unread_whole]
  pointwise [blk_x, blk_y]
  rfl

/-- What the last point of a run stores. -/
theorem pt (c : Dev nD) (t : Fin cfg0.N) (h : t.val % 4 = 3) (a : Fin 1024) (b : Fin 1024) :
    ((outsAt0 m c t.val t.isLt).1 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_C m c t (by omega) (by omega) h]
  frame_out
  unfold_payloads
  simp only [read_unread_whole]
  pointwise [blk_x, blk_y]
  rfl

/-- The four blocks make up the contracted axis. -/
theorem parts (x : S8192x1024.Idx → EReal) (y : S8192x7168.Idx → EReal) (r : Fin 1024) (l : Fin 7168) :
    part x y r l 0 + part x y r l 1 + part x y r l 2 + part x y r l 3 = dw x y r l := by
  refine (Fin.sum_univ_four (fun s : Fin 4 => part x y r l s.val)).symm.trans ?_
  exact (Fin.sum_mul_add_congr (S := 4) (n := 2048) fun s k hl => congrArg (fun k => x (ix2 k r) * y (ix2 k l)) (Fin.ext (by
    show 2048 * (s.val % 4) + k.val = _; simp only; omega)))

/-- The scratch at the point before `t`, `i` points into the run: a point of the same run has the same block. -/
theorem same (c : Dev nD) (n n' : ℕ) (h : n < cfg0.N) (h' : n' < cfg0.N) (e : n / 4 = n' / 4) (s : ℕ) (hs : n % 4 = s % 4) (a : Fin 1024) (b : Fin 1024) :
    part (m ((c : Thread nD τ).loc main_arg0)) (m ((c : Thread nD τ).loc main_arg1)) (row n h a) (col n b) n = part (m ((c : Thread nD τ).loc main_arg0)) (m ((c : Thread nD τ).loc main_arg1)) (row n' h' a) (col n' b) s := by
  have er : row n h a = row n' h' a := Fin.ext (by
    show 1024 * (n / 28) + a.val = 1024 * (n' / 28) + a.val; omega)
  have ec : col n b = col n' b := Fin.ext (by
    show 1024 * (n / 4 % 7) + b.val = 1024 * (n' / 4 % 7) + b.val; omega)
  unfold part con
  simp only [er, ec, hs]

/-- What the last point of a run stores is the gradient's block. -/
theorem pt_dw (c : Dev nD) (t : Fin cfg0.N) (h : t.val % 4 = 3) (a : Fin 1024) (b : Fin 1024) :
    ((outsAt0 m c t.val t.isLt).1 (ix2 a b) : EReal) = dw (m ((c : Thread nD τ).loc main_arg0)) (m ((c : Thread nD τ).loc main_arg1)) (row t.val t.isLt a) (col t.val b) := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e3 := pt m c t h a b
  have e2 := scratch_next m c ⟨t.val - 1, l1⟩ (by constructor <;> (simp only; omega)) a b
  have e1 := scratch_next m c ⟨t.val - 1 - 1, l2⟩ (by constructor <;> (simp only; omega)) a b
  have e0 := scratch_first m c ⟨t.val - 1 - 1 - 1, l3⟩ (by simp only; omega) a b
  dsimp only at e0 e1 e2
  rw [same m c _ t.val l3 t.isLt (by omega) 0 (by omega)] at e0
  rw [e0, same m c _ t.val l2 t.isLt (by omega) 1 (by omega)] at e1
  rw [e1, same m c _ t.val l1 t.isLt (by omega) 2 (by omega)] at e2
  rw [e2, same m c _ t.val t.isLt t.isLt rfl 3 (by omega), parts] at e3
  exact e3

/-- The kernel's output array. -/
theorem arr (c : Dev nD) : (dats m 0 c).arrAt 2 cfg0.N = fun i : S1024x7168.Idx =>
    dw (m ((c : Thread nD τ).loc main_arg0)) (m ((c : Thread nD τ).loc main_arg1)) (i 0) (i 1) := by
  refine (dats m 0 c).arrAt_eq_of_covers 2 _ (by decide +kernel) fun t hf y => ?_
  have h1 : t.val % 4 = 3 := (flush0_2 t).mp hf
  idx_vars y
  rw [after0_2, show ((cfg0.win 2).blk t).view.emb (ix2 y0 y1) = (ix2 (row t.val t.isLt y0) (col t.val y1) : S1024x7168.Idx) from by
    unfold row col; blk_ext [idx t]]
  refine Eq.trans ?_ (pt_dw m c t h1 y0 y1)
  generalize (outsAt0 m c t.val t.isLt).1 = f
  rfl

section
variable (x : (⟨Cert.DwinIdeal.S8192x1024, .bf16⟩ : BufTy).Contents (Elt Ideal)) (y : (⟨Cert.DwinIdeal.S8192x7168, .bf16⟩ : BufTy).Contents (Elt Ideal))
open Cert.DwinRefIdeal.Read

/-- The reference at one index. -/
theorem ref_dw (r : Fin 1024) (l : Fin 7168) : val_main_v5 (F := Ideal) x y (ix2 r l) = dw x y r l := by
  unfold val_main_v5 val_main_v4 val_main_v3 val_main_v1
  pointwise
  exact Finset.sum_congr rfl fun k _ => mul_comm _ _

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_DwinIdeal_DwinRefIdeal (hDwinIdeal := Cert.DwinIdeal.Gen.facts) (hDwinRefIdeal := Cert.DwinRefIdeal.Gen.facts) := by
  intro m g m' g' _ hagree
  refine ⟨fun c => fun i : S1024x7168.Idx => dw (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DwinRefIdeal.Value.run m' g')
    obtain ⟨h0, hargs⟩ := h c
    obtain ⟨e0, e1⟩ := hagree c
    refine ⟨h0.trans ?_, hargs⟩
    clear h0 hargs
    refine (Cert.DwinRefIdeal.Read.val_main_v5_eq (F := Ideal) (m' ((c.tc : Thread Cert.DwinRefIdeal.nD Cert.DwinRefIdeal.τ).loc Cert.DwinRefIdeal.main_arg0))
      (m' ((c.tc : Thread Cert.DwinRefIdeal.nD Cert.DwinRefIdeal.τ).loc Cert.DwinRefIdeal.main_arg1))).trans ?_
    rw [e0, e1]
    exact ext2 fun r l => ref_dw _ _ r l

/-- The run of the reference, read at its arguments. The program declares no semaphores, so all counters are zero. -/
theorem frame_ref : Cert.quiescent_DwinRefIdeal (hDwinRefIdeal := Cert.DwinRefIdeal.Gen.facts) := fun m ρ _ =>
  (θ_run Cert.DwinRefIdeal.defs _ _).mono
    (fun r h => ⟨fun c => (h c).2, sem_eq_zero_of_no_sems (by decide) r.2⟩)
    (Cert.DwinRefIdeal.Value.run (F := Ideal) m ρ)

end Cert.DwinV

end
-- ==== Proof.Mix.Dmo.lean ====
module
public import proofs.«01_k».proof.Defs
public import proofs.«01_k».proof.Proof.Gen.DmoRefIdeal
public import Idealize.ShloMosaic.Lib.Quiescent
public import proofs.«01_k».proof.Proof.Gen.DmoIdeal.Value
public import proofs.«01_k».proof.Proof.Gen.DmoRefIdeal.Run
public import proofs.«01_k».proof.Proof.Gen.DmoRefIdeal.Read
public import Idealize.ShloMosaic.Lib.Pipeline.ValueKit
@[expose] public section
set_option maxRecDepth 16384
set_option maxHeartbeats 4000000
noncomputable section
namespace Cert.DmoV
open Cert.DmoIdeal Cert.DmoIdeal.Gen Idealize.ShloMosaic Idealize.ShloMosaic.TcCoe Idealize.SL.Sem
variable (m : (ℓ : Loc nD τ sig) → Buf (Elt Ideal) ℓ)

/-! The cotangent through the output product: `da[r, l] = Σ_k df[r, k] * w[0, l, k]`. A point's block is 2048 rows
by all 1024 columns and the whole contracted axis. -/

/-- The claim's right hand side. -/
def da (df : S8192x1024.Idx → EReal) (w : S4x1024x1024.Idx → EReal) (r : Fin 8192) (l : Fin 1024) : EReal :=
  ∑ k : Fin 1024, df (ix2 r k) * w (ix3 0 l k)

theorem idx : ∀ t : Fin cfg0.N, win0_0.index t = ![t.val, 0] ∧ win0_1.index t = ![0, 0, 0] ∧ win0_2.index t = ![t.val, 0] :=
  (by decide +kernel : ∀ t : Fin grid0.N, _)

/-- Row `a` of the block that point `t` computes, in the array. -/
def row (t : Fin cfg0.N) (a : Fin 2048) : Fin 8192 :=
  ⟨2048 * t.val + a.val, by have := lt_of_lt_of_eq t.isLt (show cfg0.N = 4 from N_0); omega⟩

theorem blk_df (c : Dev nD) (t : Fin cfg0.N) (a : Fin 2048) (k : Fin 1024) :
    iblk m c 0 t (ix2 a k) = m ((c : Thread nD τ).loc main_arg0) (ix2 (row t a) k) := by
  unfold row
  blk_ext [iblk, idx t]

theorem blk_w (c : Dev nD) (t : Fin cfg0.N) (u : Fin 1) (b : Fin 1024) (k : Fin 1024) :
    iblk m c 1 t (ix3 u b k) = m ((c : Thread nD τ).loc main_arg1) (ix3 0 b k) := by
  blk_ext [iblk, idx t]

theorem pt (c : Dev nD) (t : Fin cfg0.N) (a : Fin 2048) (b : Fin 1024) :
    out0_2 (iblk m c 0 t) (iblk m c 1 t) (ix2 a b)
      = da (m ((c : Thread nD τ).loc main_arg0)) (m ((c : Thread nD τ).loc main_arg1)) (row t a) b := by
  frame_out
  unfold_payloads
  pointwise [blk_df, blk_w]
  rfl

/-- The kernel's output array. -/
theorem arr (c : Dev nD) : (dats m 0 c).arrAt 2 cfg0.N = fun i : S8192x1024.Idx =>
    da (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) y1 : S8192x1024.Idx) from by
    unfold row; blk_ext [idx t]]
  refine Eq.trans ?_ (pt m c t y0 y1)
  generalize out0_2 (iblk m c 0 t) (iblk m c 1 t) = f
  rfl

section
variable (df : (⟨S8192x1024, .bf16⟩ : BufTy).Contents (Elt Ideal)) (w : (⟨S4x1024x1024, .bf16⟩ : BufTy).Contents (Elt Ideal))
open Cert.DmoRefIdeal.Read

/-- The reference at one index. -/
theorem ref_da (r : Fin 8192) (l : Fin 1024) : val_main_v7 (F := Ideal) df w (ix2 r l) = da df w r l := by
  unfold val_main_v7 val_main_v6 val_main_v5 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_DmoIdeal_DmoRefIdeal (hDmoIdeal := Cert.DmoIdeal.Gen.facts) (hDmoRefIdeal := Cert.DmoRefIdeal.Gen.facts) := by
  intro m g m' g' _ hagree
  refine ⟨fun c => fun i : S8192x1024.Idx => da (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DmoRefIdeal.Value.run m' g')
    obtain ⟨h0, hargs⟩ := h c
    obtain ⟨e0, e1⟩ := hagree c
    refine ⟨h0.trans ?_, hargs⟩
    clear h0 hargs
    refine (Cert.DmoRefIdeal.Read.val_main_v7_eq (F := Ideal) (m' ((c.tc : Thread Cert.DmoRefIdeal.nD Cert.DmoRefIdeal.τ).loc Cert.DmoRefIdeal.main_arg0))
      (m' ((c.tc : Thread Cert.DmoRefIdeal.nD Cert.DmoRefIdeal.τ).loc Cert.DmoRefIdeal.main_arg1))).trans ?_
    rw [e0, e1]
    exact ext2 fun r l => ref_da _ _ r l

/-- The run of the reference, read at its arguments. The program declares no semaphores, so all counters are zero. -/
theorem frame_ref : Cert.quiescent_DmoRefIdeal (hDmoRefIdeal := Cert.DmoRefIdeal.Gen.facts) := fun m ρ _ =>
  (θ_run Cert.DmoRefIdeal.defs _ _).mono
    (fun r h => ⟨fun c => (h c).2, sem_eq_zero_of_no_sems (by decide) r.2⟩)
    (Cert.DmoRefIdeal.Value.run (F := Ideal) m ρ)

end Cert.DmoV

end
-- ==== Proof.Mix.Dwo.lean ====
module
public import proofs.«01_k».proof.Defs
public import proofs.«01_k».proof.Proof.Gen.DwoRefIdeal
public import Idealize.ShloMosaic.Lib.Quiescent
public import Idealize.ShloMosaic.Lib.Pipeline.ReadBack
public import Idealize.ShloMosaic.Lib.Pipeline.ValueKit.Partial
public import Idealize.ShloMosaic.Lib.Routing.OpsSet
public import proofs.«01_k».proof.Proof.Gen.DwoIdeal.Value
public import proofs.«01_k».proof.Proof.Gen.DwoRefIdeal.Run
public import proofs.«01_k».proof.Proof.Gen.DwoRefIdeal.Read
public import Idealize.ShloMosaic.Lib.Pipeline.ValueKit
@[expose] public section
set_option maxRecDepth 16384
set_option maxHeartbeats 4000000
noncomputable section
namespace Cert.DwoV
open Cert.DwoIdeal Cert.DwoIdeal.Gen Idealize.ShloMosaic Idealize.ShloMosaic.TcCoe Idealize.SL.Sem

/-! The gradient of the output product's weight: `dw[r, l] = Σ_k x[k, r] * d[k, l]`. The rows are walked in four blocks of 2048: the first point of a run of four
keeps its part in the scratch, the next two add theirs, the last adds its own and stores the block at layer 0 of the stack.
The other layers are never written. -/

/-- The gradient of the layer's weight. -/
def dw (x : S8192x1024.Idx → EReal) (y : S8192x1024.Idx → EReal) (r : Fin 1024) (l : Fin 1024) : EReal :=
  ∑ k : Fin 8192, x (ix2 k r) * y (ix2 k l)

/-- The claim's right hand side: the stack with layer 0 replaced. -/
def stack (x : S8192x1024.Idx → EReal) (y : S8192x1024.Idx → EReal) (b : S4x1024x1024.Idx → EReal) (s : Fin 4) (r : Fin 1024) (l : Fin 1024) : EReal :=
  if s.val = 0 then dw x y r l else b (ix3 s r l)

theorem idx : ∀ t : Fin cfg0.N, win0_0.index t = ![t.val % 4, t.val / 4] ∧ win0_1.index t = ![t.val % 4, t.val / 4 % 1]
    ∧ win0_2.index t = ![0, t.val / 4, t.val / 4 % 1] :=
  (by decide +kernel : ∀ t : Fin grid0.N, _)

/-- Row `a` of the block that point `n` works on, in the array. -/
def row (n : ℕ) (h : n < cfg0.N) (a : Fin 1024) : Fin 1024 :=
  ⟨1024 * (n / 4) + a.val, by have := lt_of_lt_of_eq h (show cfg0.N = 4 from N_0); omega⟩

/-- Column `b` of the block that point `n` works on, in the array. -/
def col (n : ℕ) (b : Fin 1024) : Fin 1024 := ⟨1024 * (n / 4 % 1) + b.val, by omega⟩

/-- Entry `k` of block `s` of the contracted axis. -/
def con (s : ℕ) (k : Fin 2048) : Fin 8192 := ⟨2048 * (s % 4) + k.val, by omega⟩

variable (m : (ℓ : Loc nD τ sig) → Buf (Elt Ideal) ℓ)

theorem blk_x (c : Dev nD) (t : Fin cfg0.N) (k : Fin 2048) (a : Fin 1024) :
    iblk m c 0 t (ix2 k a) = m ((c : Thread nD τ).loc main_arg0) (ix2 (con t.val k) (row t.val t.isLt a)) := by
  unfold row con
  blk_ext [iblk, idx t]

theorem blk_y (c : Dev nD) (t : Fin cfg0.N) (k : Fin 2048) (b : Fin 1024) :
    iblk m c 1 t (ix2 k b) = m ((c : Thread nD τ).loc main_arg1) (ix2 (con t.val k) (col t.val b)) := by
  unfold col con
  blk_ext [iblk, idx t]

/-- Block `s` of the contraction at row `r` and column `l`. -/
def part (x : S8192x1024.Idx → EReal) (y : S8192x1024.Idx → EReal) (r : Fin 1024) (l : Fin 1024) (s : ℕ) : EReal :=
  ∑ k : Fin 2048, x (ix2 (con s k) r) * y (ix2 (con s k) l)

/-- The scratch after the first point of a run. -/
theorem scratch_first (c : Dev nD) (t : Fin cfg0.N) (h : t.val % 4 = 0) (a : Fin 1024) (b : Fin 1024) :
    ((outsAt0 m c t.val t.isLt).2 (ix2 a b) : EReal) = part (m ((c : Thread nD τ).loc main_arg0)) (m ((c : Thread nD τ).loc main_arg1)) (row t.val t.isLt a) (col t.val b) t.val := by
  rw [outsAt0_A m c t h (by omega) (by omega)]
  frame_out
  unfold_payloads
  pointwise [blk_x, blk_y]
  rfl

/-- The scratch after the second and third points. -/
theorem scratch_next (c : Dev nD) (t : Fin cfg0.N) (h : 1 ≤ t.val % 4 ∧ t.val % 4 ≤ 2) (a : Fin 1024) (b : Fin 1024) :
    ((outsAt0 m c t.val t.isLt).2 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_B m c t (by omega) h (by omega)]
  frame_out
  unfold_payloads
  simp only [read_unread_whole]
  pointwise [blk_x, blk_y]
  rfl

/-- What the last point of a run stores. -/
theorem pt (c : Dev nD) (t : Fin cfg0.N) (h : t.val % 4 = 3) (u : Fin 1) (a : Fin 1024) (b : Fin 1024) :
    ((outsAt0 m c t.val t.isLt).1 (ix3 u a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_C m c t (by omega) (by omega) h]
  frame_out
  unfold_payloads
  simp only [read_unread_whole]
  pointwise [blk_x, blk_y]
  rfl

/-- The four blocks make up the contracted axis. -/
theorem parts (x : S8192x1024.Idx → EReal) (y : S8192x1024.Idx → EReal) (r : Fin 1024) (l : Fin 1024) :
    part x y r l 0 + part x y r l 1 + part x y r l 2 + part x y r l 3 = dw x y r l := by
  refine (Fin.sum_univ_four (fun s : Fin 4 => part x y r l s.val)).symm.trans ?_
  exact (Fin.sum_mul_add_congr (S := 4) (n := 2048) fun s k hl => congrArg (fun k => x (ix2 k r) * y (ix2 k l)) (Fin.ext (by
    show 2048 * (s.val % 4) + k.val = _; simp only; omega)))

/-- The scratch at the point before `t`, `i` points into the run: a point of the same run has the same block. -/
theorem same (c : Dev nD) (n n' : ℕ) (h : n < cfg0.N) (h' : n' < cfg0.N) (e : n / 4 = n' / 4) (s : ℕ) (hs : n % 4 = s % 4) (a : Fin 1024) (b : Fin 1024) :
    part (m ((c : Thread nD τ).loc main_arg0)) (m ((c : Thread nD τ).loc main_arg1)) (row n h a) (col n b) n = part (m ((c : Thread nD τ).loc main_arg0)) (m ((c : Thread nD τ).loc main_arg1)) (row n' h' a) (col n' b) s := by
  have er : row n h a = row n' h' a := Fin.ext (by
    show 1024 * (n / 4) + a.val = 1024 * (n' / 4) + a.val; omega)
  have ec : col n b = col n' b := Fin.ext (by
    show 1024 * (n / 4 % 1) + b.val = 1024 * (n' / 4 % 1) + b.val; omega)
  unfold part con
  simp only [er, ec, hs]

/-- What the last point of a run stores is the gradient's block. -/
theorem pt_dw (c : Dev nD) (t : Fin cfg0.N) (h : t.val % 4 = 3) (u : Fin 1) (a : Fin 1024) (b : Fin 1024) :
    ((outsAt0 m c t.val t.isLt).1 (ix3 u a b) : EReal) = dw (m ((c : Thread nD τ).loc main_arg0)) (m ((c : Thread nD τ).loc main_arg1)) (row t.val t.isLt a) (col t.val b) := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e3 := pt m c t h u a b
  have e2 := scratch_next m c ⟨t.val - 1, l1⟩ (by constructor <;> (simp only; omega)) a b
  have e1 := scratch_next m c ⟨t.val - 1 - 1, l2⟩ (by constructor <;> (simp only; omega)) a b
  have e0 := scratch_first m c ⟨t.val - 1 - 1 - 1, l3⟩ (by simp only; omega) a b
  dsimp only at e0 e1 e2
  rw [same m c _ t.val l3 t.isLt (by omega) 0 (by omega)] at e0
  rw [e0, same m c _ t.val l2 t.isLt (by omega) 1 (by omega)] at e1
  rw [e1, same m c _ t.val l1 t.isLt (by omega) 2 (by omega)] at e2
  rw [e2, same m c _ t.val t.isLt t.isLt rfl 3 (by omega), parts] at e3
  exact e3

/-- The kernel's output array. -/
theorem arr (c : Dev nD) : (dats m 0 c).arrAt 2 cfg0.N = fun i : S4x1024x1024.Idx => stack (m ((c : Thread nD τ).loc main_arg0)) (m ((c : Thread nD τ).loc main_arg1)) (m ((c : Thread nD τ).loc main_arg2)) (i 0) (i 1) (i 2) := by
  refine (dats m 0 c).arrAt_eq_of_coversWhere_of_agree 2 _ (fun β => β (0 : Fin 3) = 0) (by decide +kernel) (fun t hf y => ?_) (fun j hj => ?_)
  · have h1 : t.val % 4 = 3 := (flush0_2 t).mp hf
    idx_vars y
    rw [after0_2, show ((cfg0.win 2).blk t).view.emb (ix3 y0 y1 y2) = (ix3 0 (row t.val t.isLt y1) (col t.val y2) : S4x1024x1024.Idx) from by
      unfold row col; blk_ext [idx t]]
    refine Eq.trans ?_ (pt_dw m c t h1 y0 y1 y2)
    generalize (outsAt0 m c t.val t.isLt).1 = f
    rfl
  · have hj' : ¬ (j (0 : Fin 3)).val = 0 := fun e => hj (by
      show (j (0 : Fin 3)).val / 1 = 0
      rw [e])
    show V m c (Pipeline.arrRef spec0 2) _ = if (j (0 : Fin 3)).val = 0 then _ else _
    rw [if_neg hj']
    refine Eq.trans (b := m ((c : Thread nD τ).loc main_arg2) ((cfg0.win 2).arr.view.emb j)) ?_ ?_
    · show V m c main_v0 _ = _
      entry_read
      rfl
    · refine congrArg _ (funext fun a => ?_)
      fin_cases a <;> rfl

section
variable (x : (⟨Cert.DwoIdeal.S8192x1024, .bf16⟩ : BufTy).Contents (Elt Ideal)) (y : (⟨Cert.DwoIdeal.S8192x1024, .bf16⟩ : BufTy).Contents (Elt Ideal)) (b : (⟨Cert.DwoIdeal.S4x1024x1024, .f32⟩ : BufTy).Contents (Elt Ideal))
open Cert.DwoRefIdeal Cert.DwoRefIdeal.Read

/-- The reference's update lands at layer 0. -/
theorem lands (k : Cert.DwoRefIdeal.S1024x1024.Idx) : scatter_S4x1024x1024_S1_S1024x1024_01_0_0_0.resultIdx? k (val_main_v6 (F := Ideal)) = some (ix3 0 (k 0) (k 1)) := by
  have hs (a : Fin 3) : scatter_S4x1024x1024_S1_S1024x1024_01_0_0_0.start k (val_main_v6 (F := Ideal)) a = 0 := by
    unfold ScatterDims.start
    split
    · rw [val_main_v6_apply]; rfl
    · rfl
  have w0 : scatter_S4x1024x1024_S1_S1024x1024_01_0_0_0.window k 0 = 0 := rfl
  have w1 : scatter_S4x1024x1024_S1_S1024x1024_01_0_0_0.window k 1 = (k 0).val := rfl
  have w2 : scatter_S4x1024x1024_S1_S1024x1024_01_0_0_0.window k 2 = (k 1).val := rfl
  have hw (a : Fin 3) : scatter_S4x1024x1024_S1_S1024x1024_01_0_0_0.start k (val_main_v6 (F := Ideal)) a + scatter_S4x1024x1024_S1_S1024x1024_01_0_0_0.window k a = ((ix3 0 (k 0) (k 1) : Cert.DwoRefIdeal.S4x1024x1024.Idx) a).val := by
    rw [hs, zero_add]
    fin_cases a
    · exact congrArg _ w0
    · exact congrArg _ w1
    · exact congrArg _ w2
  unfold ScatterDims.resultIdx?
  rw [dif_pos fun a => by rw [hw a]; exact ⟨Int.natCast_nonneg _, by exact_mod_cast ((ix3 0 (k 0) (k 1) : Cert.DwoRefIdeal.S4x1024x1024.Idx) a).isLt⟩]
  refine congrArg some (funext fun a => Fin.ext ?_)
  show (_ : ℤ).toNat = _
  rw [hw a]
  rfl

theorem ref_grad (r : Fin 1024) (l : Fin 1024) : val_main_v5 (F := Ideal) x y (ix2 r l) = dw x y r l := by
  unfold val_main_v5 val_main_v4 val_main_v3 val_main_v1
  pointwise
  exact Finset.sum_congr rfl fun k _ => mul_comm _ _

theorem ref_stack (s : Fin 4) (r : Fin 1024) (l : Fin 1024) : val_main_v7 (F := Ideal) x y b (ix3 s r l) = stack x y b s r l := by
  unfold val_main_v7 stack
  split
  · rename_i h
    obtain rfl : s = 0 := Fin.ext h
    refine Routing.scatter_set_hit _ _ _ _ _ _ (fun k hk => ?_) (ix2 r l) (lands (ix2 r l))
    rw [lands] at hk
    have hk' := Option.some.inj hk
    rw [← ref_grad]
    refine congrArg _ (funext fun a => ?_)
    fin_cases a
    · exact congrFun hk' 1
    · exact congrFun hk' 2
  · rename_i h
    refine Routing.scatter_set_miss _ _ _ _ _ fun k hk => h ?_
    rw [lands] at hk
    exact (congrArg Fin.val (congrFun (Option.some.inj hk) 0)).symm

end

/-- An array agrees with a function of its coordinates when it does so at every one. -/
theorem ext3 {p n k : ℕ} {α : Type} {x : (⟨3, ![p, n, k]⟩ : Shape).Idx → α} {f : Fin p → Fin n → Fin k → α} (h : ∀ s r l, x (ix3 s r l) = f s r l) :
    x = fun i => f (i 0) (i 1) (i 2) := by
  funext i
  have e : i = ix3 (i 0) (i 1) (i 2) := by funext a; fin_cases a <;> rfl
  exact (congrArg x e).trans (h _ _ _)

theorem algebraic : Cert.algebraic_DwoIdeal_DwoRefIdeal (hDwoIdeal := Cert.DwoIdeal.Gen.facts) (hDwoRefIdeal := Cert.DwoRefIdeal.Gen.facts) := by
  intro m g m' g' _ hagree
  refine ⟨fun c => fun i : S4x1024x1024.Idx => stack (m ((c.tc : Thread nD τ).loc main_arg0)) (m ((c.tc : Thread nD τ).loc main_arg1)) (m ((c.tc : Thread nD τ).loc main_arg2)) (i 0) (i 1) (i 2), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DwoRefIdeal.Value.run m' g')
    obtain ⟨h0, hargs⟩ := h c
    obtain ⟨e0, e1, e2⟩ := hagree c
    refine ⟨h0.trans ?_, hargs⟩
    clear h0 hargs
    refine (Cert.DwoRefIdeal.Read.val_main_v7_eq (F := Ideal) (m' ((c.tc : Thread Cert.DwoRefIdeal.nD Cert.DwoRefIdeal.τ).loc Cert.DwoRefIdeal.main_arg0))
      (m' ((c.tc : Thread Cert.DwoRefIdeal.nD Cert.DwoRefIdeal.τ).loc Cert.DwoRefIdeal.main_arg1))
      (m' ((c.tc : Thread Cert.DwoRefIdeal.nD Cert.DwoRefIdeal.τ).loc Cert.DwoRefIdeal.main_arg2))).trans ?_
    rw [e0, e1, e2]
    exact ext3 fun s r l => ref_stack _ _ _ s r l

/-- The run of the reference, read at its arguments. The program declares no semaphores, so all counters are zero. -/
theorem frame_ref : Cert.quiescent_DwoRefIdeal (hDwoRefIdeal := Cert.DwoRefIdeal.Gen.facts) := fun m ρ _ =>
  (θ_run Cert.DwoRefIdeal.defs _ _).mono
    (fun r h => ⟨fun c => (h c).2, sem_eq_zero_of_no_sems (by decide) r.2⟩)
    (Cert.DwoRefIdeal.Value.run (F := Ideal) m ρ)

end Cert.DwoV

end
-- ==== Proof.Mix.DyA.lean ====
module
public import proofs.«01_k».proof.Defs
public import proofs.«01_k».proof.Proof.Gen.DyARefIdeal
public import Idealize.ShloMosaic.Lib.Quiescent
public import proofs.«01_k».proof.Proof.Gen.DyAIdeal.Value
public import proofs.«01_k».proof.Proof.Gen.DyARefIdeal.Run
public import proofs.«01_k».proof.Proof.Gen.DyARefIdeal.Read
public import Idealize.ShloMosaic.Lib.Pipeline.ValueKit
@[expose] public section
set_option maxRecDepth 16384
set_option maxHeartbeats 4000000
noncomputable section
namespace Cert.DyAV
open Cert.DyAIdeal Cert.DyAIdeal.Gen Idealize.ShloMosaic Idealize.ShloMosaic.TcCoe Idealize.SL.Sem
variable (m : (ℓ : Loc nD τ sig) → Buf (Elt Ideal) ℓ)

/-! The cotangent through a branch's product, at the branches' width 256: `da[r, l] = Σ_k df[r, k] * w[0, l, k]`. A point's
block is 2048 rows by all columns and the whole contracted axis. -/

/-- The claim's right hand side. -/
def da (df : S8192x1024.Idx → EReal) (w : S4x256x1024.Idx → EReal) (r : Fin 8192) (l : Fin 256) : EReal :=
  ∑ k : Fin 1024, df (ix2 r k) * w (ix3 0 l k)

theorem idx : ∀ t : Fin cfg0.N, win0_0.index t = ![t.val, 0] ∧ win0_1.index t = ![0, 0, 0] ∧ win0_2.index t = ![t.val, 0] :=
  (by decide +kernel : ∀ t : Fin grid0.N, _)

/-- Row `a` of the block that point `t` computes, in the array. -/
def row (t : Fin cfg0.N) (a : Fin 2048) : Fin 8192 :=
  ⟨2048 * t.val + a.val, by have := lt_of_lt_of_eq t.isLt (show cfg0.N = 4 from N_0); omega⟩

theorem blk_df (c : Dev nD) (t : Fin cfg0.N) (a : Fin 2048) (k : Fin 1024) :
    iblk m c 0 t (ix2 a k) = m ((c : Thread nD τ).loc main_arg0) (ix2 (row t a) k) := by
  unfold row
  blk_ext [iblk, idx t]

theorem blk_w (c : Dev nD) (t : Fin cfg0.N) (u : Fin 1) (b : Fin 256) (k : Fin 1024) :
    iblk m c 1 t (ix3 u b k) = m ((c : Thread nD τ).loc main_arg1) (ix3 0 b k) := by
  blk_ext [iblk, idx t]

theorem pt (c : Dev nD) (t : Fin cfg0.N) (a : Fin 2048) (b : Fin 256) :
    out0_2 (iblk m c 0 t) (iblk m c 1 t) (ix2 a b)
      = da (m ((c : Thread nD τ).loc main_arg0)) (m ((c : Thread nD τ).loc main_arg1)) (row t a) b := by
  frame_out
  unfold_payloads
  pointwise [blk_df, blk_w]
  rfl

/-- The kernel's output array. -/
theorem arr (c : Dev nD) : (dats m 0 c).arrAt 2 cfg0.N = fun i : S8192x256.Idx =>
    da (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) y1 : S8192x256.Idx) from by
    unfold row; blk_ext [idx t]]
  refine Eq.trans ?_ (pt m c t y0 y1)
  generalize out0_2 (iblk m c 0 t) (iblk m c 1 t) = f
  rfl

section
variable (df : (⟨S8192x1024, .bf16⟩ : BufTy).Contents (Elt Ideal)) (w : (⟨S4x256x1024, .bf16⟩ : BufTy).Contents (Elt Ideal))
open Cert.DyARefIdeal.Read

/-- The reference at one index. -/
theorem ref_da (r : Fin 8192) (l : Fin 256) : val_main_v7 (F := Ideal) df w (ix2 r l) = da df w r l := by
  unfold val_main_v7 val_main_v6 val_main_v5 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_DyAIdeal_DyARefIdeal (hDyAIdeal := Cert.DyAIdeal.Gen.facts) (hDyARefIdeal := Cert.DyARefIdeal.Gen.facts) := by
  intro m g m' g' _ hagree
  refine ⟨fun c => fun i : S8192x256.Idx => da (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DyARefIdeal.Value.run m' g')
    obtain ⟨h0, hargs⟩ := h c
    obtain ⟨e0, e1⟩ := hagree c
    refine ⟨h0.trans ?_, hargs⟩
    clear h0 hargs
    refine (Cert.DyARefIdeal.Read.val_main_v7_eq (F := Ideal) (m' ((c.tc : Thread Cert.DyARefIdeal.nD Cert.DyARefIdeal.τ).loc Cert.DyARefIdeal.main_arg0))
      (m' ((c.tc : Thread Cert.DyARefIdeal.nD Cert.DyARefIdeal.τ).loc Cert.DyARefIdeal.main_arg1))).trans ?_
    rw [e0, e1]
    exact ext2 fun r l => ref_da _ _ r l

/-- The run of the reference, read at its arguments. The program declares no semaphores, so all counters are zero. -/
theorem frame_ref : Cert.quiescent_DyARefIdeal (hDyARefIdeal := Cert.DyARefIdeal.Gen.facts) := fun m ρ _ =>
  (θ_run Cert.DyARefIdeal.defs _ _).mono
    (fun r h => ⟨fun c => (h c).2, sem_eq_zero_of_no_sems (by decide) r.2⟩)
    (Cert.DyARefIdeal.Value.run (F := Ideal) m ρ)

end Cert.DyAV

end
-- ==== Proof.Mix.DwBrA.lean ====
module
public import proofs.«01_k».proof.Defs
public import proofs.«01_k».proof.Proof.Gen.DwBrARefIdeal
public import Idealize.ShloMosaic.Lib.Quiescent
public import Idealize.ShloMosaic.Lib.Pipeline.ReadBack
public import Idealize.ShloMosaic.Lib.Pipeline.ValueKit.Partial
public import Idealize.ShloMosaic.Lib.Routing.OpsSet
public import proofs.«01_k».proof.Proof.Gen.DwBrAIdeal.Value
public import proofs.«01_k».proof.Proof.Gen.DwBrARefIdeal.Run
public import proofs.«01_k».proof.Proof.Gen.DwBrARefIdeal.Read
public import Idealize.ShloMosaic.Lib.Pipeline.ValueKit
@[expose] public section
set_option maxRecDepth 16384
set_option maxHeartbeats 4000000
noncomputable section
namespace Cert.DwBrAV
open Cert.DwBrAIdeal Cert.DwBrAIdeal.Gen Idealize.ShloMosaic Idealize.ShloMosaic.TcCoe Idealize.SL.Sem

/-! The gradient of a branch's weight, at the branches' width 256: `dw[r, l] = Σ_k x[k, r] * d[k, l]`. The rows are walked in four blocks of 2048: the first point of a run of four
keeps its part in the scratch, the next two add theirs, the last adds its own and stores the block at layer 0 of the stack.
The other layers are never written. -/

/-- The gradient of the layer's weight. -/
def dw (x : S8192x256.Idx → EReal) (y : S8192x1024.Idx → EReal) (r : Fin 256) (l : Fin 1024) : EReal :=
  ∑ k : Fin 8192, x (ix2 k r) * y (ix2 k l)

/-- The claim's right hand side: the stack with layer 0 replaced. -/
def stack (x : S8192x256.Idx → EReal) (y : S8192x1024.Idx → EReal) (b : S4x256x1024.Idx → EReal) (s : Fin 4) (r : Fin 256) (l : Fin 1024) : EReal :=
  if s.val = 0 then dw x y r l else b (ix3 s r l)

theorem idx : ∀ t : Fin cfg0.N, win0_0.index t = ![t.val % 4, t.val / 4] ∧ win0_1.index t = ![t.val % 4, t.val / 4 % 1]
    ∧ win0_2.index t = ![0, t.val / 4, t.val / 4 % 1] :=
  (by decide +kernel : ∀ t : Fin grid0.N, _)

/-- Row `a` of the block that point `n` works on, in the array. -/
def row (n : ℕ) (h : n < cfg0.N) (a : Fin 256) : Fin 256 :=
  ⟨256 * (n / 4) + a.val, by have := lt_of_lt_of_eq h (show cfg0.N = 4 from N_0); omega⟩

/-- Column `b` of the block that point `n` works on, in the array. -/
def col (n : ℕ) (b : Fin 1024) : Fin 1024 := ⟨1024 * (n / 4 % 1) + b.val, by omega⟩

/-- Entry `k` of block `s` of the contracted axis. -/
def con (s : ℕ) (k : Fin 2048) : Fin 8192 := ⟨2048 * (s % 4) + k.val, by omega⟩

variable (m : (ℓ : Loc nD τ sig) → Buf (Elt Ideal) ℓ)

theorem blk_x (c : Dev nD) (t : Fin cfg0.N) (k : Fin 2048) (a : Fin 256) :
    iblk m c 0 t (ix2 k a) = m ((c : Thread nD τ).loc main_arg0) (ix2 (con t.val k) (row t.val t.isLt a)) := by
  unfold row con
  blk_ext [iblk, idx t]

theorem blk_y (c : Dev nD) (t : Fin cfg0.N) (k : Fin 2048) (b : Fin 1024) :
    iblk m c 1 t (ix2 k b) = m ((c : Thread nD τ).loc main_arg1) (ix2 (con t.val k) (col t.val b)) := by
  unfold col con
  blk_ext [iblk, idx t]

/-- Block `s` of the contraction at row `r` and column `l`. -/
def part (x : S8192x256.Idx → EReal) (y : S8192x1024.Idx → EReal) (r : Fin 256) (l : Fin 1024) (s : ℕ) : EReal :=
  ∑ k : Fin 2048, x (ix2 (con s k) r) * y (ix2 (con s k) l)

/-- The scratch after the first point of a run. -/
theorem scratch_first (c : Dev nD) (t : Fin cfg0.N) (h : t.val % 4 = 0) (a : Fin 256) (b : Fin 1024) :
    ((outsAt0 m c t.val t.isLt).2 (ix2 a b) : EReal) = part (m ((c : Thread nD τ).loc main_arg0)) (m ((c : Thread nD τ).loc main_arg1)) (row t.val t.isLt a) (col t.val b) t.val := by
  rw [outsAt0_A m c t h (by omega) (by omega)]
  frame_out
  unfold_payloads
  pointwise [blk_x, blk_y]
  rfl

/-- The scratch after the second and third points. -/
theorem scratch_next (c : Dev nD) (t : Fin cfg0.N) (h : 1 ≤ t.val % 4 ∧ t.val % 4 ≤ 2) (a : Fin 256) (b : Fin 1024) :
    ((outsAt0 m c t.val t.isLt).2 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_B m c t (by omega) h (by omega)]
  frame_out
  unfold_payloads
  simp only [read_unread_whole]
  pointwise [blk_x, blk_y]
  rfl

/-- What the last point of a run stores. -/
theorem pt (c : Dev nD) (t : Fin cfg0.N) (h : t.val % 4 = 3) (u : Fin 1) (a : Fin 256) (b : Fin 1024) :
    ((outsAt0 m c t.val t.isLt).1 (ix3 u a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_C m c t (by omega) (by omega) h]
  frame_out
  unfold_payloads
  simp only [read_unread_whole]
  pointwise [blk_x, blk_y]
  rfl

/-- The four blocks make up the contracted axis. -/
theorem parts (x : S8192x256.Idx → EReal) (y : S8192x1024.Idx → EReal) (r : Fin 256) (l : Fin 1024) :
    part x y r l 0 + part x y r l 1 + part x y r l 2 + part x y r l 3 = dw x y r l := by
  refine (Fin.sum_univ_four (fun s : Fin 4 => part x y r l s.val)).symm.trans ?_
  exact (Fin.sum_mul_add_congr (S := 4) (n := 2048) fun s k hl => congrArg (fun k => x (ix2 k r) * y (ix2 k l)) (Fin.ext (by
    show 2048 * (s.val % 4) + k.val = _; simp only; omega)))

/-- The scratch at the point before `t`, `i` points into the run: a point of the same run has the same block. -/
theorem same (c : Dev nD) (n n' : ℕ) (h : n < cfg0.N) (h' : n' < cfg0.N) (e : n / 4 = n' / 4) (s : ℕ) (hs : n % 4 = s % 4) (a : Fin 256) (b : Fin 1024) :
    part (m ((c : Thread nD τ).loc main_arg0)) (m ((c : Thread nD τ).loc main_arg1)) (row n h a) (col n b) n = part (m ((c : Thread nD τ).loc main_arg0)) (m ((c : Thread nD τ).loc main_arg1)) (row n' h' a) (col n' b) s := by
  have er : row n h a = row n' h' a := Fin.ext (by
    show 256 * (n / 4) + a.val = 256 * (n' / 4) + a.val; omega)
  have ec : col n b = col n' b := Fin.ext (by
    show 1024 * (n / 4 % 1) + b.val = 1024 * (n' / 4 % 1) + b.val; omega)
  unfold part con
  simp only [er, ec, hs]

/-- What the last point of a run stores is the gradient's block. -/
theorem pt_dw (c : Dev nD) (t : Fin cfg0.N) (h : t.val % 4 = 3) (u : Fin 1) (a : Fin 256) (b : Fin 1024) :
    ((outsAt0 m c t.val t.isLt).1 (ix3 u a b) : EReal) = dw (m ((c : Thread nD τ).loc main_arg0)) (m ((c : Thread nD τ).loc main_arg1)) (row t.val t.isLt a) (col t.val b) := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e3 := pt m c t h u a b
  have e2 := scratch_next m c ⟨t.val - 1, l1⟩ (by constructor <;> (simp only; omega)) a b
  have e1 := scratch_next m c ⟨t.val - 1 - 1, l2⟩ (by constructor <;> (simp only; omega)) a b
  have e0 := scratch_first m c ⟨t.val - 1 - 1 - 1, l3⟩ (by simp only; omega) a b
  dsimp only at e0 e1 e2
  rw [same m c _ t.val l3 t.isLt (by omega) 0 (by omega)] at e0
  rw [e0, same m c _ t.val l2 t.isLt (by omega) 1 (by omega)] at e1
  rw [e1, same m c _ t.val l1 t.isLt (by omega) 2 (by omega)] at e2
  rw [e2, same m c _ t.val t.isLt t.isLt rfl 3 (by omega), parts] at e3
  exact e3

/-- The kernel's output array. -/
theorem arr (c : Dev nD) : (dats m 0 c).arrAt 2 cfg0.N = fun i : S4x256x1024.Idx => stack (m ((c : Thread nD τ).loc main_arg0)) (m ((c : Thread nD τ).loc main_arg1)) (m ((c : Thread nD τ).loc main_arg2)) (i 0) (i 1) (i 2) := by
  refine (dats m 0 c).arrAt_eq_of_coversWhere_of_agree 2 _ (fun β => β (0 : Fin 3) = 0) (by decide +kernel) (fun t hf y => ?_) (fun j hj => ?_)
  · have h1 : t.val % 4 = 3 := (flush0_2 t).mp hf
    idx_vars y
    rw [after0_2, show ((cfg0.win 2).blk t).view.emb (ix3 y0 y1 y2) = (ix3 0 (row t.val t.isLt y1) (col t.val y2) : S4x256x1024.Idx) from by
      unfold row col; blk_ext [idx t]]
    refine Eq.trans ?_ (pt_dw m c t h1 y0 y1 y2)
    generalize (outsAt0 m c t.val t.isLt).1 = f
    rfl
  · have hj' : ¬ (j (0 : Fin 3)).val = 0 := fun e => hj (by
      show (j (0 : Fin 3)).val / 1 = 0
      rw [e])
    show V m c (Pipeline.arrRef spec0 2) _ = if (j (0 : Fin 3)).val = 0 then _ else _
    rw [if_neg hj']
    refine Eq.trans (b := m ((c : Thread nD τ).loc main_arg2) ((cfg0.win 2).arr.view.emb j)) ?_ ?_
    · show V m c main_v0 _ = _
      entry_read
      rfl
    · refine congrArg _ (funext fun a => ?_)
      fin_cases a <;> rfl

section
variable (x : (⟨Cert.DwBrAIdeal.S8192x256, .bf16⟩ : BufTy).Contents (Elt Ideal)) (y : (⟨Cert.DwBrAIdeal.S8192x1024, .bf16⟩ : BufTy).Contents (Elt Ideal)) (b : (⟨Cert.DwBrAIdeal.S4x256x1024, .f32⟩ : BufTy).Contents (Elt Ideal))
open Cert.DwBrARefIdeal Cert.DwBrARefIdeal.Read

/-- The reference's update lands at layer 0. -/
theorem lands (k : Cert.DwBrARefIdeal.S256x1024.Idx) : scatter_S4x256x1024_S1_S256x1024_01_0_0_0.resultIdx? k (val_main_v6 (F := Ideal)) = some (ix3 0 (k 0) (k 1)) := by
  have hs (a : Fin 3) : scatter_S4x256x1024_S1_S256x1024_01_0_0_0.start k (val_main_v6 (F := Ideal)) a = 0 := by
    unfold ScatterDims.start
    split
    · rw [val_main_v6_apply]; rfl
    · rfl
  have w0 : scatter_S4x256x1024_S1_S256x1024_01_0_0_0.window k 0 = 0 := rfl
  have w1 : scatter_S4x256x1024_S1_S256x1024_01_0_0_0.window k 1 = (k 0).val := rfl
  have w2 : scatter_S4x256x1024_S1_S256x1024_01_0_0_0.window k 2 = (k 1).val := rfl
  have hw (a : Fin 3) : scatter_S4x256x1024_S1_S256x1024_01_0_0_0.start k (val_main_v6 (F := Ideal)) a + scatter_S4x256x1024_S1_S256x1024_01_0_0_0.window k a = ((ix3 0 (k 0) (k 1) : Cert.DwBrARefIdeal.S4x256x1024.Idx) a).val := by
    rw [hs, zero_add]
    fin_cases a
    · exact congrArg _ w0
    · exact congrArg _ w1
    · exact congrArg _ w2
  unfold ScatterDims.resultIdx?
  rw [dif_pos fun a => by rw [hw a]; exact ⟨Int.natCast_nonneg _, by exact_mod_cast ((ix3 0 (k 0) (k 1) : Cert.DwBrARefIdeal.S4x256x1024.Idx) a).isLt⟩]
  refine congrArg some (funext fun a => Fin.ext ?_)
  show (_ : ℤ).toNat = _
  rw [hw a]
  rfl

theorem ref_grad (r : Fin 256) (l : Fin 1024) : val_main_v5 (F := Ideal) x y (ix2 r l) = dw x y r l := by
  unfold val_main_v5 val_main_v4 val_main_v3 val_main_v1
  pointwise
  exact Finset.sum_congr rfl fun k _ => mul_comm _ _

theorem ref_stack (s : Fin 4) (r : Fin 256) (l : Fin 1024) : val_main_v7 (F := Ideal) x y b (ix3 s r l) = stack x y b s r l := by
  unfold val_main_v7 stack
  split
  · rename_i h
    obtain rfl : s = 0 := Fin.ext h
    refine Routing.scatter_set_hit _ _ _ _ _ _ (fun k hk => ?_) (ix2 r l) (lands (ix2 r l))
    rw [lands] at hk
    have hk' := Option.some.inj hk
    rw [← ref_grad]
    refine congrArg _ (funext fun a => ?_)
    fin_cases a
    · exact congrFun hk' 1
    · exact congrFun hk' 2
  · rename_i h
    refine Routing.scatter_set_miss _ _ _ _ _ fun k hk => h ?_
    rw [lands] at hk
    exact (congrArg Fin.val (congrFun (Option.some.inj hk) 0)).symm

end

/-- An array agrees with a function of its coordinates when it does so at every one. -/
theorem ext3 {p n k : ℕ} {α : Type} {x : (⟨3, ![p, n, k]⟩ : Shape).Idx → α} {f : Fin p → Fin n → Fin k → α} (h : ∀ s r l, x (ix3 s r l) = f s r l) :
    x = fun i => f (i 0) (i 1) (i 2) := by
  funext i
  have e : i = ix3 (i 0) (i 1) (i 2) := by funext a; fin_cases a <;> rfl
  exact (congrArg x e).trans (h _ _ _)

theorem algebraic : Cert.algebraic_DwBrAIdeal_DwBrARefIdeal (hDwBrAIdeal := Cert.DwBrAIdeal.Gen.facts) (hDwBrARefIdeal := Cert.DwBrARefIdeal.Gen.facts) := by
  intro m g m' g' _ hagree
  refine ⟨fun c => fun i : S4x256x1024.Idx => stack (m ((c.tc : Thread nD τ).loc main_arg0)) (m ((c.tc : Thread nD τ).loc main_arg1)) (m ((c.tc : Thread nD τ).loc main_arg2)) (i 0) (i 1) (i 2), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DwBrARefIdeal.Value.run m' g')
    obtain ⟨h0, hargs⟩ := h c
    obtain ⟨e0, e1, e2⟩ := hagree c
    refine ⟨h0.trans ?_, hargs⟩
    clear h0 hargs
    refine (Cert.DwBrARefIdeal.Read.val_main_v7_eq (F := Ideal) (m' ((c.tc : Thread Cert.DwBrARefIdeal.nD Cert.DwBrARefIdeal.τ).loc Cert.DwBrARefIdeal.main_arg0))
      (m' ((c.tc : Thread Cert.DwBrARefIdeal.nD Cert.DwBrARefIdeal.τ).loc Cert.DwBrARefIdeal.main_arg1))
      (m' ((c.tc : Thread Cert.DwBrARefIdeal.nD Cert.DwBrARefIdeal.τ).loc Cert.DwBrARefIdeal.main_arg2))).trans ?_
    rw [e0, e1, e2]
    exact ext3 fun s r l => ref_stack _ _ _ s r l

/-- The run of the reference, read at its arguments. The program declares no semaphores, so all counters are zero. -/
theorem frame_ref : Cert.quiescent_DwBrARefIdeal (hDwBrARefIdeal := Cert.DwBrARefIdeal.Gen.facts) := fun m ρ _ =>
  (θ_run Cert.DwBrARefIdeal.defs _ _).mono
    (fun r h => ⟨fun c => (h c).2, sem_eq_zero_of_no_sems (by decide) r.2⟩)
    (Cert.DwBrARefIdeal.Value.run (F := Ideal) m ρ)

end Cert.DwBrAV

end
-- ==== Proof.Mix.DyD.lean ====
module
public import proofs.«01_k».proof.Defs
public import proofs.«01_k».proof.Proof.Gen.DyDRefIdeal
public import Idealize.ShloMosaic.Lib.Quiescent
public import proofs.«01_k».proof.Proof.Gen.DyDIdeal.Value
public import proofs.«01_k».proof.Proof.Gen.DyDRefIdeal.Run
public import proofs.«01_k».proof.Proof.Gen.DyDRefIdeal.Read
public import Idealize.ShloMosaic.Lib.Pipeline.ValueKit
@[expose] public section
set_option maxRecDepth 16384
set_option maxHeartbeats 4000000
noncomputable section
namespace Cert.DyDV
open Cert.DyDIdeal Cert.DyDIdeal.Gen Idealize.ShloMosaic Idealize.ShloMosaic.TcCoe Idealize.SL.Sem
variable (m : (ℓ : Loc nD τ sig) → Buf (Elt Ideal) ℓ)

/-! The cotangent through a branch's product, at the branch width 512: `da[r, l] = Σ_k df[r, k] * w[0, l, k]`. A point's
block is 2048 rows by all columns and the whole contracted axis. -/

/-- The claim's right hand side. -/
def da (df : S8192x1024.Idx → EReal) (w : S4x512x1024.Idx → EReal) (r : Fin 8192) (l : Fin 512) : EReal :=
  ∑ k : Fin 1024, df (ix2 r k) * w (ix3 0 l k)

theorem idx : ∀ t : Fin cfg0.N, win0_0.index t = ![t.val, 0] ∧ win0_1.index t = ![0, 0, 0] ∧ win0_2.index t = ![t.val, 0] :=
  (by decide +kernel : ∀ t : Fin grid0.N, _)

/-- Row `a` of the block that point `t` computes, in the array. -/
def row (t : Fin cfg0.N) (a : Fin 2048) : Fin 8192 :=
  ⟨2048 * t.val + a.val, by have := lt_of_lt_of_eq t.isLt (show cfg0.N = 4 from N_0); omega⟩

theorem blk_df (c : Dev nD) (t : Fin cfg0.N) (a : Fin 2048) (k : Fin 1024) :
    iblk m c 0 t (ix2 a k) = m ((c : Thread nD τ).loc main_arg0) (ix2 (row t a) k) := by
  unfold row
  blk_ext [iblk, idx t]

theorem blk_w (c : Dev nD) (t : Fin cfg0.N) (u : Fin 1) (b : Fin 512) (k : Fin 1024) :
    iblk m c 1 t (ix3 u b k) = m ((c : Thread nD τ).loc main_arg1) (ix3 0 b k) := by
  blk_ext [iblk, idx t]

theorem pt (c : Dev nD) (t : Fin cfg0.N) (a : Fin 2048) (b : Fin 512) :
    out0_2 (iblk m c 0 t) (iblk m c 1 t) (ix2 a b)
      = da (m ((c : Thread nD τ).loc main_arg0)) (m ((c : Thread nD τ).loc main_arg1)) (row t a) b := by
  frame_out
  unfold_payloads
  pointwise [blk_df, blk_w]
  rfl

/-- The kernel's output array. -/
theorem arr (c : Dev nD) : (dats m 0 c).arrAt 2 cfg0.N = fun i : S8192x512.Idx =>
    da (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) y1 : S8192x512.Idx) from by
    unfold row; blk_ext [idx t]]
  refine Eq.trans ?_ (pt m c t y0 y1)
  generalize out0_2 (iblk m c 0 t) (iblk m c 1 t) = f
  rfl

section
variable (df : (⟨S8192x1024, .bf16⟩ : BufTy).Contents (Elt Ideal)) (w : (⟨S4x512x1024, .bf16⟩ : BufTy).Contents (Elt Ideal))
open Cert.DyDRefIdeal.Read

/-- The reference at one index. -/
theorem ref_da (r : Fin 8192) (l : Fin 512) : val_main_v7 (F := Ideal) df w (ix2 r l) = da df w r l := by
  unfold val_main_v7 val_main_v6 val_main_v5 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_DyDIdeal_DyDRefIdeal (hDyDIdeal := Cert.DyDIdeal.Gen.facts) (hDyDRefIdeal := Cert.DyDRefIdeal.Gen.facts) := by
  intro m g m' g' _ hagree
  refine ⟨fun c => fun i : S8192x512.Idx => da (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DyDRefIdeal.Value.run m' g')
    obtain ⟨h0, hargs⟩ := h c
    obtain ⟨e0, e1⟩ := hagree c
    refine ⟨h0.trans ?_, hargs⟩
    clear h0 hargs
    refine (Cert.DyDRefIdeal.Read.val_main_v7_eq (F := Ideal) (m' ((c.tc : Thread Cert.DyDRefIdeal.nD Cert.DyDRefIdeal.τ).loc Cert.DyDRefIdeal.main_arg0))
      (m' ((c.tc : Thread Cert.DyDRefIdeal.nD Cert.DyDRefIdeal.τ).loc Cert.DyDRefIdeal.main_arg1))).trans ?_
    rw [e0, e1]
    exact ext2 fun r l => ref_da _ _ r l

/-- The run of the reference, read at its arguments. The program declares no semaphores, so all counters are zero. -/
theorem frame_ref : Cert.quiescent_DyDRefIdeal (hDyDRefIdeal := Cert.DyDRefIdeal.Gen.facts) := fun m ρ _ =>
  (θ_run Cert.DyDRefIdeal.defs _ _).mono
    (fun r h => ⟨fun c => (h c).2, sem_eq_zero_of_no_sems (by decide) r.2⟩)
    (Cert.DyDRefIdeal.Value.run (F := Ideal) m ρ)

end Cert.DyDV

end
-- ==== Proof.Mix.DwBrD.lean ====
module
public import proofs.«01_k».proof.Defs
public import proofs.«01_k».proof.Proof.Gen.DwBrDRefIdeal
public import Idealize.ShloMosaic.Lib.Quiescent
public import Idealize.ShloMosaic.Lib.Pipeline.ReadBack
public import Idealize.ShloMosaic.Lib.Pipeline.ValueKit.Partial
public import Idealize.ShloMosaic.Lib.Routing.OpsSet
public import proofs.«01_k».proof.Proof.Gen.DwBrDIdeal.Value
public import proofs.«01_k».proof.Proof.Gen.DwBrDRefIdeal.Run
public import proofs.«01_k».proof.Proof.Gen.DwBrDRefIdeal.Read
public import Idealize.ShloMosaic.Lib.Pipeline.ValueKit
@[expose] public section
set_option maxRecDepth 16384
set_option maxHeartbeats 4000000
noncomputable section
namespace Cert.DwBrDV
open Cert.DwBrDIdeal Cert.DwBrDIdeal.Gen Idealize.ShloMosaic Idealize.ShloMosaic.TcCoe Idealize.SL.Sem

/-! The gradient of a branch's weight, at the branch width 512: `dw[r, l] = Σ_k x[k, r] * d[k, l]`. The rows are walked in four blocks of 2048: the first point of a run of four
keeps its part in the scratch, the next two add theirs, the last adds its own and stores the block at layer 0 of the stack.
The other layers are never written. -/

/-- The gradient of the layer's weight. -/
def dw (x : S8192x512.Idx → EReal) (y : S8192x1024.Idx → EReal) (r : Fin 512) (l : Fin 1024) : EReal :=
  ∑ k : Fin 8192, x (ix2 k r) * y (ix2 k l)

/-- The claim's right hand side: the stack with layer 0 replaced. -/
def stack (x : S8192x512.Idx → EReal) (y : S8192x1024.Idx → EReal) (b : S4x512x1024.Idx → EReal) (s : Fin 4) (r : Fin 512) (l : Fin 1024) : EReal :=
  if s.val = 0 then dw x y r l else b (ix3 s r l)

theorem idx : ∀ t : Fin cfg0.N, win0_0.index t = ![t.val % 4, t.val / 4] ∧ win0_1.index t = ![t.val % 4, t.val / 4 % 1]
    ∧ win0_2.index t = ![0, t.val / 4, t.val / 4 % 1] :=
  (by decide +kernel : ∀ t : Fin grid0.N, _)

/-- Row `a` of the block that point `n` works on, in the array. -/
def row (n : ℕ) (h : n < cfg0.N) (a : Fin 512) : Fin 512 :=
  ⟨512 * (n / 4) + a.val, by have := lt_of_lt_of_eq h (show cfg0.N = 4 from N_0); omega⟩

/-- Column `b` of the block that point `n` works on, in the array. -/
def col (n : ℕ) (b : Fin 1024) : Fin 1024 := ⟨1024 * (n / 4 % 1) + b.val, by omega⟩

/-- Entry `k` of block `s` of the contracted axis. -/
def con (s : ℕ) (k : Fin 2048) : Fin 8192 := ⟨2048 * (s % 4) + k.val, by omega⟩

variable (m : (ℓ : Loc nD τ sig) → Buf (Elt Ideal) ℓ)

theorem blk_x (c : Dev nD) (t : Fin cfg0.N) (k : Fin 2048) (a : Fin 512) :
    iblk m c 0 t (ix2 k a) = m ((c : Thread nD τ).loc main_arg0) (ix2 (con t.val k) (row t.val t.isLt a)) := by
  unfold row con
  blk_ext [iblk, idx t]

theorem blk_y (c : Dev nD) (t : Fin cfg0.N) (k : Fin 2048) (b : Fin 1024) :
    iblk m c 1 t (ix2 k b) = m ((c : Thread nD τ).loc main_arg1) (ix2 (con t.val k) (col t.val b)) := by
  unfold col con
  blk_ext [iblk, idx t]

/-- Block `s` of the contraction at row `r` and column `l`. -/
def part (x : S8192x512.Idx → EReal) (y : S8192x1024.Idx → EReal) (r : Fin 512) (l : Fin 1024) (s : ℕ) : EReal :=
  ∑ k : Fin 2048, x (ix2 (con s k) r) * y (ix2 (con s k) l)

/-- The scratch after the first point of a run. -/
theorem scratch_first (c : Dev nD) (t : Fin cfg0.N) (h : t.val % 4 = 0) (a : Fin 512) (b : Fin 1024) :
    ((outsAt0 m c t.val t.isLt).2 (ix2 a b) : EReal) = part (m ((c : Thread nD τ).loc main_arg0)) (m ((c : Thread nD τ).loc main_arg1)) (row t.val t.isLt a) (col t.val b) t.val := by
  rw [outsAt0_A m c t h (by omega) (by omega)]
  frame_out
  unfold_payloads
  pointwise [blk_x, blk_y]
  rfl

/-- The scratch after the second and third points. -/
theorem scratch_next (c : Dev nD) (t : Fin cfg0.N) (h : 1 ≤ t.val % 4 ∧ t.val % 4 ≤ 2) (a : Fin 512) (b : Fin 1024) :
    ((outsAt0 m c t.val t.isLt).2 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_B m c t (by omega) h (by omega)]
  frame_out
  unfold_payloads
  simp only [read_unread_whole]
  pointwise [blk_x, blk_y]
  rfl

/-- What the last point of a run stores. -/
theorem pt (c : Dev nD) (t : Fin cfg0.N) (h : t.val % 4 = 3) (u : Fin 1) (a : Fin 512) (b : Fin 1024) :
    ((outsAt0 m c t.val t.isLt).1 (ix3 u a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_C m c t (by omega) (by omega) h]
  frame_out
  unfold_payloads
  simp only [read_unread_whole]
  pointwise [blk_x, blk_y]
  rfl

/-- The four blocks make up the contracted axis. -/
theorem parts (x : S8192x512.Idx → EReal) (y : S8192x1024.Idx → EReal) (r : Fin 512) (l : Fin 1024) :
    part x y r l 0 + part x y r l 1 + part x y r l 2 + part x y r l 3 = dw x y r l := by
  refine (Fin.sum_univ_four (fun s : Fin 4 => part x y r l s.val)).symm.trans ?_
  exact (Fin.sum_mul_add_congr (S := 4) (n := 2048) fun s k hl => congrArg (fun k => x (ix2 k r) * y (ix2 k l)) (Fin.ext (by
    show 2048 * (s.val % 4) + k.val = _; simp only; omega)))

/-- The scratch at the point before `t`, `i` points into the run: a point of the same run has the same block. -/
theorem same (c : Dev nD) (n n' : ℕ) (h : n < cfg0.N) (h' : n' < cfg0.N) (e : n / 4 = n' / 4) (s : ℕ) (hs : n % 4 = s % 4) (a : Fin 512) (b : Fin 1024) :
    part (m ((c : Thread nD τ).loc main_arg0)) (m ((c : Thread nD τ).loc main_arg1)) (row n h a) (col n b) n = part (m ((c : Thread nD τ).loc main_arg0)) (m ((c : Thread nD τ).loc main_arg1)) (row n' h' a) (col n' b) s := by
  have er : row n h a = row n' h' a := Fin.ext (by
    show 512 * (n / 4) + a.val = 512 * (n' / 4) + a.val; omega)
  have ec : col n b = col n' b := Fin.ext (by
    show 1024 * (n / 4 % 1) + b.val = 1024 * (n' / 4 % 1) + b.val; omega)
  unfold part con
  simp only [er, ec, hs]

/-- What the last point of a run stores is the gradient's block. -/
theorem pt_dw (c : Dev nD) (t : Fin cfg0.N) (h : t.val % 4 = 3) (u : Fin 1) (a : Fin 512) (b : Fin 1024) :
    ((outsAt0 m c t.val t.isLt).1 (ix3 u a b) : EReal) = dw (m ((c : Thread nD τ).loc main_arg0)) (m ((c : Thread nD τ).loc main_arg1)) (row t.val t.isLt a) (col t.val b) := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e3 := pt m c t h u a b
  have e2 := scratch_next m c ⟨t.val - 1, l1⟩ (by constructor <;> (simp only; omega)) a b
  have e1 := scratch_next m c ⟨t.val - 1 - 1, l2⟩ (by constructor <;> (simp only; omega)) a b
  have e0 := scratch_first m c ⟨t.val - 1 - 1 - 1, l3⟩ (by simp only; omega) a b
  dsimp only at e0 e1 e2
  rw [same m c _ t.val l3 t.isLt (by omega) 0 (by omega)] at e0
  rw [e0, same m c _ t.val l2 t.isLt (by omega) 1 (by omega)] at e1
  rw [e1, same m c _ t.val l1 t.isLt (by omega) 2 (by omega)] at e2
  rw [e2, same m c _ t.val t.isLt t.isLt rfl 3 (by omega), parts] at e3
  exact e3

/-- The kernel's output array. -/
theorem arr (c : Dev nD) : (dats m 0 c).arrAt 2 cfg0.N = fun i : S4x512x1024.Idx => stack (m ((c : Thread nD τ).loc main_arg0)) (m ((c : Thread nD τ).loc main_arg1)) (m ((c : Thread nD τ).loc main_arg2)) (i 0) (i 1) (i 2) := by
  refine (dats m 0 c).arrAt_eq_of_coversWhere_of_agree 2 _ (fun β => β (0 : Fin 3) = 0) (by decide +kernel) (fun t hf y => ?_) (fun j hj => ?_)
  · have h1 : t.val % 4 = 3 := (flush0_2 t).mp hf
    idx_vars y
    rw [after0_2, show ((cfg0.win 2).blk t).view.emb (ix3 y0 y1 y2) = (ix3 0 (row t.val t.isLt y1) (col t.val y2) : S4x512x1024.Idx) from by
      unfold row col; blk_ext [idx t]]
    refine Eq.trans ?_ (pt_dw m c t h1 y0 y1 y2)
    generalize (outsAt0 m c t.val t.isLt).1 = f
    rfl
  · have hj' : ¬ (j (0 : Fin 3)).val = 0 := fun e => hj (by
      show (j (0 : Fin 3)).val / 1 = 0
      rw [e])
    show V m c (Pipeline.arrRef spec0 2) _ = if (j (0 : Fin 3)).val = 0 then _ else _
    rw [if_neg hj']
    refine Eq.trans (b := m ((c : Thread nD τ).loc main_arg2) ((cfg0.win 2).arr.view.emb j)) ?_ ?_
    · show V m c main_v0 _ = _
      entry_read
      rfl
    · refine congrArg _ (funext fun a => ?_)
      fin_cases a <;> rfl

section
variable (x : (⟨Cert.DwBrDIdeal.S8192x512, .bf16⟩ : BufTy).Contents (Elt Ideal)) (y : (⟨Cert.DwBrDIdeal.S8192x1024, .bf16⟩ : BufTy).Contents (Elt Ideal)) (b : (⟨Cert.DwBrDIdeal.S4x512x1024, .f32⟩ : BufTy).Contents (Elt Ideal))
open Cert.DwBrDRefIdeal Cert.DwBrDRefIdeal.Read

/-- The reference's update lands at layer 0. -/
theorem lands (k : Cert.DwBrDRefIdeal.S512x1024.Idx) : scatter_S4x512x1024_S1_S512x1024_01_0_0_0.resultIdx? k (val_main_v6 (F := Ideal)) = some (ix3 0 (k 0) (k 1)) := by
  have hs (a : Fin 3) : scatter_S4x512x1024_S1_S512x1024_01_0_0_0.start k (val_main_v6 (F := Ideal)) a = 0 := by
    unfold ScatterDims.start
    split
    · rw [val_main_v6_apply]; rfl
    · rfl
  have w0 : scatter_S4x512x1024_S1_S512x1024_01_0_0_0.window k 0 = 0 := rfl
  have w1 : scatter_S4x512x1024_S1_S512x1024_01_0_0_0.window k 1 = (k 0).val := rfl
  have w2 : scatter_S4x512x1024_S1_S512x1024_01_0_0_0.window k 2 = (k 1).val := rfl
  have hw (a : Fin 3) : scatter_S4x512x1024_S1_S512x1024_01_0_0_0.start k (val_main_v6 (F := Ideal)) a + scatter_S4x512x1024_S1_S512x1024_01_0_0_0.window k a = ((ix3 0 (k 0) (k 1) : Cert.DwBrDRefIdeal.S4x512x1024.Idx) a).val := by
    rw [hs, zero_add]
    fin_cases a
    · exact congrArg _ w0
    · exact congrArg _ w1
    · exact congrArg _ w2
  unfold ScatterDims.resultIdx?
  rw [dif_pos fun a => by rw [hw a]; exact ⟨Int.natCast_nonneg _, by exact_mod_cast ((ix3 0 (k 0) (k 1) : Cert.DwBrDRefIdeal.S4x512x1024.Idx) a).isLt⟩]
  refine congrArg some (funext fun a => Fin.ext ?_)
  show (_ : ℤ).toNat = _
  rw [hw a]
  rfl

theorem ref_grad (r : Fin 512) (l : Fin 1024) : val_main_v5 (F := Ideal) x y (ix2 r l) = dw x y r l := by
  unfold val_main_v5 val_main_v4 val_main_v3 val_main_v1
  pointwise
  exact Finset.sum_congr rfl fun k _ => mul_comm _ _

theorem ref_stack (s : Fin 4) (r : Fin 512) (l : Fin 1024) : val_main_v7 (F := Ideal) x y b (ix3 s r l) = stack x y b s r l := by
  unfold val_main_v7 stack
  split
  · rename_i h
    obtain rfl : s = 0 := Fin.ext h
    refine Routing.scatter_set_hit _ _ _ _ _ _ (fun k hk => ?_) (ix2 r l) (lands (ix2 r l))
    rw [lands] at hk
    have hk' := Option.some.inj hk
    rw [← ref_grad]
    refine congrArg _ (funext fun a => ?_)
    fin_cases a
    · exact congrFun hk' 1
    · exact congrFun hk' 2
  · rename_i h
    refine Routing.scatter_set_miss _ _ _ _ _ fun k hk => h ?_
    rw [lands] at hk
    exact (congrArg Fin.val (congrFun (Option.some.inj hk) 0)).symm

end

/-- An array agrees with a function of its coordinates when it does so at every one. -/
theorem ext3 {p n k : ℕ} {α : Type} {x : (⟨3, ![p, n, k]⟩ : Shape).Idx → α} {f : Fin p → Fin n → Fin k → α} (h : ∀ s r l, x (ix3 s r l) = f s r l) :
    x = fun i => f (i 0) (i 1) (i 2) := by
  funext i
  have e : i = ix3 (i 0) (i 1) (i 2) := by funext a; fin_cases a <;> rfl
  exact (congrArg x e).trans (h _ _ _)

theorem algebraic : Cert.algebraic_DwBrDIdeal_DwBrDRefIdeal (hDwBrDIdeal := Cert.DwBrDIdeal.Gen.facts) (hDwBrDRefIdeal := Cert.DwBrDRefIdeal.Gen.facts) := by
  intro m g m' g' _ hagree
  refine ⟨fun c => fun i : S4x512x1024.Idx => stack (m ((c.tc : Thread nD τ).loc main_arg0)) (m ((c.tc : Thread nD τ).loc main_arg1)) (m ((c.tc : Thread nD τ).loc main_arg2)) (i 0) (i 1) (i 2), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DwBrDRefIdeal.Value.run m' g')
    obtain ⟨h0, hargs⟩ := h c
    obtain ⟨e0, e1, e2⟩ := hagree c
    refine ⟨h0.trans ?_, hargs⟩
    clear h0 hargs
    refine (Cert.DwBrDRefIdeal.Read.val_main_v7_eq (F := Ideal) (m' ((c.tc : Thread Cert.DwBrDRefIdeal.nD Cert.DwBrDRefIdeal.τ).loc Cert.DwBrDRefIdeal.main_arg0))
      (m' ((c.tc : Thread Cert.DwBrDRefIdeal.nD Cert.DwBrDRefIdeal.τ).loc Cert.DwBrDRefIdeal.main_arg1))
      (m' ((c.tc : Thread Cert.DwBrDRefIdeal.nD Cert.DwBrDRefIdeal.τ).loc Cert.DwBrDRefIdeal.main_arg2))).trans ?_
    rw [e0, e1, e2]
    exact ext3 fun s r l => ref_stack _ _ _ s r l

/-- The run of the reference, read at its arguments. The program declares no semaphores, so all counters are zero. -/
theorem frame_ref : Cert.quiescent_DwBrDRefIdeal (hDwBrDRefIdeal := Cert.DwBrDRefIdeal.Gen.facts) := fun m ρ _ =>
  (θ_run Cert.DwBrDRefIdeal.defs _ _).mono
    (fun r h => ⟨fun c => (h c).2, sem_eq_zero_of_no_sems (by decide) r.2⟩)
    (Cert.DwBrDRefIdeal.Value.run (F := Ideal) m ρ)

end Cert.DwBrDV

end
-- ==== Proof.Fwd.Gu.lean ====
module
public import proofs.«01_k».proof.Defs
public import proofs.«01_k».proof.Proof.Gen.GuRefIdeal
public import Idealize.ShloMosaic.Lib.Quiescent
public import proofs.«01_k».proof.Proof.Gen.GuIdeal.Value
public import proofs.«01_k».proof.Proof.Gen.GuRefIdeal.Run
public import proofs.«01_k».proof.Proof.Gen.GuRefIdeal.Read
public import Idealize.ShloMosaic.Lib.Pipeline.ValueKit
@[expose] public section
set_option maxRecDepth 16384
set_option maxHeartbeats 4000000
noncomputable section
namespace Cert.GuV
open Cert.GuIdeal Cert.GuIdeal.Gen Idealize.ShloMosaic Idealize.ShloMosaic.TcCoe Idealize.SL.Sem
variable (m : (ℓ : Loc nD τ sig) → Buf (Elt Ideal) ℓ)

/-! The feed-forward layer's gate and up product: `y[r, l] = Σ_k x[r, k] * w[0, k, l]`. A point's block is 2048 rows
by 1408 columns and the whole contracted axis. -/

/-- The claim's right hand side. -/
def prod (x : S8192x1024.Idx → EReal) (w : S4x1024x5632.Idx → EReal) (r : Fin 8192) (l : Fin 5632) : EReal :=
  ∑ k : Fin 1024, x (ix2 r k) * w (ix3 0 k l)

theorem idx : ∀ t : Fin cfg0.N, win0_0.index t = ![t.val / 4, 0] ∧ win0_1.index t = ![0, 0, t.val % 4] ∧ win0_2.index t = ![t.val / 4, t.val % 4] :=
  (by decide +kernel : ∀ t : Fin grid0.N, _)

/-- Row `a` of the block that point `t` computes, in the array. -/
def row (t : Fin cfg0.N) (a : Fin 2048) : Fin 8192 :=
  ⟨2048 * (t.val / 4) + a.val, by have := lt_of_lt_of_eq t.isLt (show cfg0.N = 16 from N_0); omega⟩

/-- Column `b` of the block that point `t` computes, in the array. -/
def col (t : Fin cfg0.N) (b : Fin 1408) : Fin 5632 := ⟨1408 * (t.val % 4) + b.val, by omega⟩

theorem blk_x (c : Dev nD) (t : Fin cfg0.N) (a : Fin 2048) (k : Fin 1024) :
    iblk m c 0 t (ix2 a k) = m ((c : Thread nD τ).loc main_arg0) (ix2 (row t a) k) := by
  unfold row
  blk_ext [iblk, idx t]

theorem blk_w (c : Dev nD) (t : Fin cfg0.N) (u : Fin 1) (k : Fin 1024) (b : Fin 1408) :
    iblk m c 1 t (ix3 u k b) = m ((c : Thread nD τ).loc main_arg1) (ix3 0 k (col t b)) := by
  unfold col
  blk_ext [iblk, idx t]

theorem pt (c : Dev nD) (t : Fin cfg0.N) (a : Fin 2048) (b : Fin 1408) :
    out0_2 (iblk m c 0 t) (iblk m c 1 t) (ix2 a b)
      = prod (m ((c : Thread nD τ).loc main_arg0)) (m ((c : Thread nD τ).loc main_arg1)) (row t a) (col t b) := by
  frame_out
  unfold_payloads
  pointwise [blk_x, blk_w]
  rfl

/-- The kernel's output array. -/
theorem arr (c : Dev nD) : (dats m 0 c).arrAt 2 cfg0.N = fun i : S8192x5632.Idx =>
    prod (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) (col t y1) : S8192x5632.Idx) from by
    unfold row col; blk_ext [idx t]]
  refine Eq.trans ?_ (pt m c t y0 y1)
  generalize out0_2 (iblk m c 0 t) (iblk m c 1 t) = f
  rfl

section
variable (x : (⟨Cert.GuIdeal.S8192x1024, .bf16⟩ : BufTy).Contents (Elt Ideal)) (w : (⟨Cert.GuIdeal.S4x1024x5632, .bf16⟩ : BufTy).Contents (Elt Ideal))
open Cert.GuRefIdeal.Read

/-- The reference at one index. -/
theorem ref_prod (r : Fin 8192) (l : Fin 5632) : val_main_v5 (F := Ideal) x w (ix2 r l) = prod x w r l := by
  unfold val_main_v5 val_main_v4 val_main_v3 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_GuIdeal_GuRefIdeal (hGuIdeal := Cert.GuIdeal.Gen.facts) (hGuRefIdeal := Cert.GuRefIdeal.Gen.facts) := by
  intro m g m' g' _ hagree
  refine ⟨fun c => fun i : S8192x5632.Idx => prod (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.GuRefIdeal.Value.run m' g')
    obtain ⟨h0, hargs⟩ := h c
    obtain ⟨e0, e1⟩ := hagree c
    refine ⟨h0.trans ?_, hargs⟩
    clear h0 hargs
    refine (Cert.GuRefIdeal.Read.val_main_v5_eq (F := Ideal) (m' ((c.tc : Thread Cert.GuRefIdeal.nD Cert.GuRefIdeal.τ).loc Cert.GuRefIdeal.main_arg0))
      (m' ((c.tc : Thread Cert.GuRefIdeal.nD Cert.GuRefIdeal.τ).loc Cert.GuRefIdeal.main_arg1))).trans ?_
    rw [e0, e1]
    exact ext2 fun r l => ref_prod _ _ r l

/-- The run of the reference, read at its arguments. The program declares no semaphores, so all counters are zero. -/
theorem frame_ref : Cert.quiescent_GuRefIdeal (hGuRefIdeal := Cert.GuRefIdeal.Gen.facts) := fun m ρ _ =>
  (θ_run Cert.GuRefIdeal.defs _ _).mono
    (fun r h => ⟨fun c => (h c).2, sem_eq_zero_of_no_sems (by decide) r.2⟩)
    (Cert.GuRefIdeal.Value.run (F := Ideal) m ρ)

end Cert.GuV

end
-- ==== Proof.Fwd.Down.lean ====
module
public import proofs.«01_k».proof.Defs
public import proofs.«01_k».proof.Proof.Gen.DownRefIdeal
public import Idealize.ShloMosaic.Lib.Quiescent
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
@[expose] public section
set_option maxRecDepth 16384
set_option maxHeartbeats 4000000
noncomputable section
namespace Cert.DownV
open Cert.DownIdeal Cert.DownIdeal.Gen Idealize.ShloMosaic Idealize.ShloMosaic.TcCoe Idealize.SL.Sem
variable (m : (ℓ : Loc nD τ sig) → Buf (Elt Ideal) ℓ)

/-! The feed-forward layer's down product: `y[r, l] = Σ_k x[r, k] * w[0, k, l]`. A point's block is 2048 rows
by 512 columns and the whole contracted axis. -/

/-- The claim's right hand side. -/
def prod (x : S8192x2816.Idx → EReal) (w : S4x2816x1024.Idx → EReal) (r : Fin 8192) (l : Fin 1024) : EReal :=
  ∑ k : Fin 2816, x (ix2 r k) * w (ix3 0 k l)

theorem idx : ∀ t : Fin cfg0.N, win0_0.index t = ![t.val / 2, 0] ∧ win0_1.index t = ![0, 0, t.val % 2] ∧ win0_2.index t = ![t.val / 2, t.val % 2] :=
  (by decide +kernel : ∀ t : Fin grid0.N, _)

/-- Row `a` of the block that point `t` computes, in the array. -/
def row (t : Fin cfg0.N) (a : Fin 2048) : Fin 8192 :=
  ⟨2048 * (t.val / 2) + a.val, by have := lt_of_lt_of_eq t.isLt (show cfg0.N = 8 from N_0); omega⟩

/-- Column `b` of the block that point `t` computes, in the array. -/
def col (t : Fin cfg0.N) (b : Fin 512) : Fin 1024 := ⟨512 * (t.val % 2) + b.val, by omega⟩

theorem blk_x (c : Dev nD) (t : Fin cfg0.N) (a : Fin 2048) (k : Fin 2816) :
    iblk m c 0 t (ix2 a k) = m ((c : Thread nD τ).loc main_arg0) (ix2 (row t a) k) := by
  unfold row
  blk_ext [iblk, idx t]

theorem blk_w (c : Dev nD) (t : Fin cfg0.N) (u : Fin 1) (k : Fin 2816) (b : Fin 512) :
    iblk m c 1 t (ix3 u k b) = m ((c : Thread nD τ).loc main_arg1) (ix3 0 k (col t b)) := by
  unfold col
  blk_ext [iblk, idx t]

theorem pt (c : Dev nD) (t : Fin cfg0.N) (a : Fin 2048) (b : Fin 512) :
    out0_2 (iblk m c 0 t) (iblk m c 1 t) (ix2 a b)
      = prod (m ((c : Thread nD τ).loc main_arg0)) (m ((c : Thread nD τ).loc main_arg1)) (row t a) (col t b) := by
  frame_out
  unfold_payloads
  pointwise [blk_x, blk_w]
  rfl

/-- The kernel's output array. -/
theorem arr (c : Dev nD) : (dats m 0 c).arrAt 2 cfg0.N = fun i : S8192x1024.Idx =>
    prod (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) (col t y1) : S8192x1024.Idx) from by
    unfold row col; blk_ext [idx t]]
  refine Eq.trans ?_ (pt m c t y0 y1)
  generalize out0_2 (iblk m c 0 t) (iblk m c 1 t) = f
  rfl

section
variable (x : (⟨Cert.DownIdeal.S8192x2816, .bf16⟩ : BufTy).Contents (Elt Ideal)) (w : (⟨Cert.DownIdeal.S4x2816x1024, .bf16⟩ : BufTy).Contents (Elt Ideal))
open Cert.DownRefIdeal.Read

/-- The reference at one index. -/
theorem ref_prod (r : Fin 8192) (l : Fin 1024) : val_main_v4 (F := Ideal) x w (ix2 r l) = prod x w r l := by
  unfold val_main_v4 val_main_v3 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_DownIdeal_DownRefIdeal (hDownIdeal := Cert.DownIdeal.Gen.facts) (hDownRefIdeal := Cert.DownRefIdeal.Gen.facts) := by
  intro m g m' g' _ hagree
  refine ⟨fun c => fun i : S8192x1024.Idx => prod (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DownRefIdeal.Value.run m' g')
    obtain ⟨h0, hargs⟩ := h c
    obtain ⟨e0, e1⟩ := hagree c
    refine ⟨h0.trans ?_, hargs⟩
    clear h0 hargs
    refine (Cert.DownRefIdeal.Read.val_main_v4_eq (F := Ideal) (m' ((c.tc : Thread Cert.DownRefIdeal.nD Cert.DownRefIdeal.τ).loc Cert.DownRefIdeal.main_arg0))
      (m' ((c.tc : Thread Cert.DownRefIdeal.nD Cert.DownRefIdeal.τ).loc Cert.DownRefIdeal.main_arg1))).trans ?_
    rw [e0, e1]
    exact ext2 fun r l => ref_prod _ _ r l

/-- The run of the reference, read at its arguments. The program declares no semaphores, so all counters are zero. -/
theorem frame_ref : Cert.quiescent_DownRefIdeal (hDownRefIdeal := Cert.DownRefIdeal.Gen.facts) := fun m ρ _ =>
  (θ_run Cert.DownRefIdeal.defs _ _).mono
    (fun r h => ⟨fun c => (h c).2, sem_eq_zero_of_no_sems (by decide) r.2⟩)
    (Cert.DownRefIdeal.Value.run (F := Ideal) m ρ)

end Cert.DownV

end
-- ==== Proof.Fwd.Proj.lean ====
module
public import proofs.«01_k».proof.Defs
public import proofs.«01_k».proof.Proof.Gen.ProjRefIdeal
public import Idealize.ShloMosaic.Lib.Quiescent
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
@[expose] public section
set_option maxRecDepth 16384
set_option maxHeartbeats 4000000
noncomputable section
namespace Cert.ProjV
open Cert.ProjIdeal Cert.ProjIdeal.Gen Idealize.ShloMosaic Idealize.ShloMosaic.TcCoe Idealize.SL.Sem
variable (m : (ℓ : Loc nD τ sig) → Buf (Elt Ideal) ℓ)

/-! The product that makes all mixers' inputs: `y[r, l] = Σ_k x[r, k] * w[k, l]`. A point's block is 2048 rows
by 1024 columns and the whole contracted axis. -/

/-- The claim's right hand side. -/
def prod (x : S8192x1024.Idx → EReal) (w : S1024x7168.Idx → EReal) (r : Fin 8192) (l : Fin 7168) : EReal :=
  ∑ k : Fin 1024, x (ix2 r k) * w (ix2 k l)

theorem idx : ∀ t : Fin cfg0.N, win0_0.index t = ![t.val / 7, 0] ∧ win0_1.index t = ![0, t.val % 7] ∧ win0_2.index t = ![t.val / 7, t.val % 7] :=
  (by decide +kernel : ∀ t : Fin grid0.N, _)

/-- Row `a` of the block that point `t` computes, in the array. -/
def row (t : Fin cfg0.N) (a : Fin 2048) : Fin 8192 :=
  ⟨2048 * (t.val / 7) + a.val, by have := lt_of_lt_of_eq t.isLt (show cfg0.N = 28 from N_0); omega⟩

/-- Column `b` of the block that point `t` computes, in the array. -/
def col (t : Fin cfg0.N) (b : Fin 1024) : Fin 7168 := ⟨1024 * (t.val % 7) + b.val, by omega⟩

theorem blk_x (c : Dev nD) (t : Fin cfg0.N) (a : Fin 2048) (k : Fin 1024) :
    iblk m c 0 t (ix2 a k) = m ((c : Thread nD τ).loc main_arg0) (ix2 (row t a) k) := by
  unfold row
  blk_ext [iblk, idx t]

theorem blk_w (c : Dev nD) (t : Fin cfg0.N) (k : Fin 1024) (b : Fin 1024) :
    iblk m c 1 t (ix2 k b) = m ((c : Thread nD τ).loc main_arg1) (ix2 k (col t b)) := by
  unfold col
  blk_ext [iblk, idx t]

theorem pt (c : Dev nD) (t : Fin cfg0.N) (a : Fin 2048) (b : Fin 1024) :
    out0_2 (iblk m c 0 t) (iblk m c 1 t) (ix2 a b)
      = prod (m ((c : Thread nD τ).loc main_arg0)) (m ((c : Thread nD τ).loc main_arg1)) (row t a) (col t b) := by
  frame_out
  unfold_payloads
  pointwise [blk_x, blk_w]
  rfl

/-- The kernel's output array. -/
theorem arr (c : Dev nD) : (dats m 0 c).arrAt 2 cfg0.N = fun i : S8192x7168.Idx =>
    prod (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) (col t y1) : S8192x7168.Idx) from by
    unfold row col; blk_ext [idx t]]
  refine Eq.trans ?_ (pt m c t y0 y1)
  generalize out0_2 (iblk m c 0 t) (iblk m c 1 t) = f
  rfl

section
variable (x : (⟨Cert.ProjIdeal.S8192x1024, .bf16⟩ : BufTy).Contents (Elt Ideal)) (w : (⟨Cert.ProjIdeal.S1024x7168, .bf16⟩ : BufTy).Contents (Elt Ideal))
open Cert.ProjRefIdeal.Read

/-- The reference at one index. -/
theorem ref_prod (r : Fin 8192) (l : Fin 7168) : val_main_v3 (F := Ideal) x w (ix2 r l) = prod x w r l := by
  unfold val_main_v3 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_ProjIdeal_ProjRefIdeal (hProjIdeal := Cert.ProjIdeal.Gen.facts) (hProjRefIdeal := Cert.ProjRefIdeal.Gen.facts) := by
  intro m g m' g' _ hagree
  refine ⟨fun c => fun i : S8192x7168.Idx => prod (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.ProjRefIdeal.Value.run m' g')
    obtain ⟨h0, hargs⟩ := h c
    obtain ⟨e0, e1⟩ := hagree c
    refine ⟨h0.trans ?_, hargs⟩
    clear h0 hargs
    refine (Cert.ProjRefIdeal.Read.val_main_v3_eq (F := Ideal) (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg1))).trans ?_
    rw [e0, e1]
    exact ext2 fun r l => ref_prod _ _ r l

/-- The run of the reference, read at its arguments. The program declares no semaphores, so all counters are zero. -/
theorem frame_ref : Cert.quiescent_ProjRefIdeal (hProjRefIdeal := Cert.ProjRefIdeal.Gen.facts) := fun m ρ _ =>
  (θ_run Cert.ProjRefIdeal.defs _ _).mono
    (fun r h => ⟨fun c => (h c).2, sem_eq_zero_of_no_sems (by decide) r.2⟩)
    (Cert.ProjRefIdeal.Value.run (F := Ideal) m ρ)

end Cert.ProjV

end
-- ==== Proof.Fwd.BrA.lean ====
module
public import proofs.«01_k».proof.Defs
public import proofs.«01_k».proof.Proof.Gen.BrARefIdeal
public import Idealize.ShloMosaic.Lib.Quiescent
public import proofs.«01_k».proof.Proof.Gen.BrAIdeal.Value
public import proofs.«01_k».proof.Proof.Gen.BrARefIdeal.Run
public import proofs.«01_k».proof.Proof.Gen.BrARefIdeal.Read
public import Idealize.ShloMosaic.Lib.Pipeline.ValueKit
@[expose] public section
set_option maxRecDepth 16384
set_option maxHeartbeats 4000000
noncomputable section
namespace Cert.BrAV
open Cert.BrAIdeal Cert.BrAIdeal.Gen Idealize.ShloMosaic Idealize.ShloMosaic.TcCoe Idealize.SL.Sem
variable (m : (ℓ : Loc nD τ sig) → Buf (Elt Ideal) ℓ)

/-! A branch's product, at the branches' width 256: `y[r, l] = Σ_k x[r, k] * w[0, k, l]`. A point's block is 2048 rows
by all columns and the whole contracted axis. -/

/-- The claim's right hand side. -/
def prod (x : S8192x256.Idx → EReal) (w : S4x256x1024.Idx → EReal) (r : Fin 8192) (l : Fin 1024) : EReal :=
  ∑ k : Fin 256, x (ix2 r k) * w (ix3 0 k l)

theorem idx : ∀ t : Fin cfg0.N, win0_0.index t = ![t.val, 0] ∧ win0_1.index t = ![0, 0, 0] ∧ win0_2.index t = ![t.val, 0] :=
  (by decide +kernel : ∀ t : Fin grid0.N, _)

/-- Row `a` of the block that point `t` computes, in the array. -/
def row (t : Fin cfg0.N) (a : Fin 2048) : Fin 8192 :=
  ⟨2048 * (t.val) + a.val, by have := lt_of_lt_of_eq t.isLt (show cfg0.N = 4 from N_0); omega⟩

theorem blk_x (c : Dev nD) (t : Fin cfg0.N) (a : Fin 2048) (k : Fin 256) :
    iblk m c 0 t (ix2 a k) = m ((c : Thread nD τ).loc main_arg0) (ix2 (row t a) k) := by
  unfold row
  blk_ext [iblk, idx t]

theorem blk_w (c : Dev nD) (t : Fin cfg0.N) (u : Fin 1) (k : Fin 256) (b : Fin 1024) :
    iblk m c 1 t (ix3 u k b) = m ((c : Thread nD τ).loc main_arg1) (ix3 0 k b) := by
  blk_ext [iblk, idx t]

theorem pt (c : Dev nD) (t : Fin cfg0.N) (a : Fin 2048) (b : Fin 1024) :
    out0_2 (iblk m c 0 t) (iblk m c 1 t) (ix2 a b)
      = prod (m ((c : Thread nD τ).loc main_arg0)) (m ((c : Thread nD τ).loc main_arg1)) (row t a) b := by
  frame_out
  unfold_payloads
  pointwise [blk_x, blk_w]
  rfl

/-- The kernel's output array. -/
theorem arr (c : Dev nD) : (dats m 0 c).arrAt 2 cfg0.N = fun i : S8192x1024.Idx =>
    prod (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) y1 : S8192x1024.Idx) from by
    unfold row; blk_ext [idx t]]
  refine Eq.trans ?_ (pt m c t y0 y1)
  generalize out0_2 (iblk m c 0 t) (iblk m c 1 t) = f
  rfl

section
variable (x : (⟨Cert.BrAIdeal.S8192x256, .bf16⟩ : BufTy).Contents (Elt Ideal)) (w : (⟨Cert.BrAIdeal.S4x256x1024, .bf16⟩ : BufTy).Contents (Elt Ideal))
open Cert.BrARefIdeal.Read

/-- The reference at one index. -/
theorem ref_prod (r : Fin 8192) (l : Fin 1024) : val_main_v5 (F := Ideal) x w (ix2 r l) = prod x w r l := by
  unfold val_main_v5 val_main_v4 val_main_v3 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_BrAIdeal_BrARefIdeal (hBrAIdeal := Cert.BrAIdeal.Gen.facts) (hBrARefIdeal := Cert.BrARefIdeal.Gen.facts) := by
  intro m g m' g' _ hagree
  refine ⟨fun c => fun i : S8192x1024.Idx => prod (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.BrARefIdeal.Value.run m' g')
    obtain ⟨h0, hargs⟩ := h c
    obtain ⟨e0, e1⟩ := hagree c
    refine ⟨h0.trans ?_, hargs⟩
    clear h0 hargs
    refine (Cert.BrARefIdeal.Read.val_main_v5_eq (F := Ideal) (m' ((c.tc : Thread Cert.BrARefIdeal.nD Cert.BrARefIdeal.τ).loc Cert.BrARefIdeal.main_arg0))
      (m' ((c.tc : Thread Cert.BrARefIdeal.nD Cert.BrARefIdeal.τ).loc Cert.BrARefIdeal.main_arg1))).trans ?_
    rw [e0, e1]
    exact ext2 fun r l => ref_prod _ _ r l

/-- The run of the reference, read at its arguments. The program declares no semaphores, so all counters are zero. -/
theorem frame_ref : Cert.quiescent_BrARefIdeal (hBrARefIdeal := Cert.BrARefIdeal.Gen.facts) := fun m ρ _ =>
  (θ_run Cert.BrARefIdeal.defs _ _).mono
    (fun r h => ⟨fun c => (h c).2, sem_eq_zero_of_no_sems (by decide) r.2⟩)
    (Cert.BrARefIdeal.Value.run (F := Ideal) m ρ)

end Cert.BrAV

end
-- ==== Proof.Fwd.BrD.lean ====
module
public import proofs.«01_k».proof.Defs
public import proofs.«01_k».proof.Proof.Gen.BrDRefIdeal
public import Idealize.ShloMosaic.Lib.Quiescent
public import proofs.«01_k».proof.Proof.Gen.BrDIdeal.Value
public import proofs.«01_k».proof.Proof.Gen.BrDRefIdeal.Run
public import proofs.«01_k».proof.Proof.Gen.BrDRefIdeal.Read
public import Idealize.ShloMosaic.Lib.Pipeline.ValueKit
@[expose] public section
set_option maxRecDepth 16384
set_option maxHeartbeats 4000000
noncomputable section
namespace Cert.BrDV
open Cert.BrDIdeal Cert.BrDIdeal.Gen Idealize.ShloMosaic Idealize.ShloMosaic.TcCoe Idealize.SL.Sem
variable (m : (ℓ : Loc nD τ sig) → Buf (Elt Ideal) ℓ)

/-! A branch's product, at the branch width 512: `y[r, l] = Σ_k x[r, k] * w[0, k, l]`. A point's block is 2048 rows
by all columns and the whole contracted axis. -/

/-- The claim's right hand side. -/
def prod (x : S8192x512.Idx → EReal) (w : S4x512x1024.Idx → EReal) (r : Fin 8192) (l : Fin 1024) : EReal :=
  ∑ k : Fin 512, x (ix2 r k) * w (ix3 0 k l)

theorem idx : ∀ t : Fin cfg0.N, win0_0.index t = ![t.val, 0] ∧ win0_1.index t = ![0, 0, 0] ∧ win0_2.index t = ![t.val, 0] :=
  (by decide +kernel : ∀ t : Fin grid0.N, _)

/-- Row `a` of the block that point `t` computes, in the array. -/
def row (t : Fin cfg0.N) (a : Fin 2048) : Fin 8192 :=
  ⟨2048 * (t.val) + a.val, by have := lt_of_lt_of_eq t.isLt (show cfg0.N = 4 from N_0); omega⟩

theorem blk_x (c : Dev nD) (t : Fin cfg0.N) (a : Fin 2048) (k : Fin 512) :
    iblk m c 0 t (ix2 a k) = m ((c : Thread nD τ).loc main_arg0) (ix2 (row t a) k) := by
  unfold row
  blk_ext [iblk, idx t]

theorem blk_w (c : Dev nD) (t : Fin cfg0.N) (u : Fin 1) (k : Fin 512) (b : Fin 1024) :
    iblk m c 1 t (ix3 u k b) = m ((c : Thread nD τ).loc main_arg1) (ix3 0 k b) := by
  blk_ext [iblk, idx t]

theorem pt (c : Dev nD) (t : Fin cfg0.N) (a : Fin 2048) (b : Fin 1024) :
    out0_2 (iblk m c 0 t) (iblk m c 1 t) (ix2 a b)
      = prod (m ((c : Thread nD τ).loc main_arg0)) (m ((c : Thread nD τ).loc main_arg1)) (row t a) b := by
  frame_out
  unfold_payloads
  pointwise [blk_x, blk_w]
  rfl

/-- The kernel's output array. -/
theorem arr (c : Dev nD) : (dats m 0 c).arrAt 2 cfg0.N = fun i : S8192x1024.Idx =>
    prod (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) y1 : S8192x1024.Idx) from by
    unfold row; blk_ext [idx t]]
  refine Eq.trans ?_ (pt m c t y0 y1)
  generalize out0_2 (iblk m c 0 t) (iblk m c 1 t) = f
  rfl

section
variable (x : (⟨Cert.BrDIdeal.S8192x512, .bf16⟩ : BufTy).Contents (Elt Ideal)) (w : (⟨Cert.BrDIdeal.S4x512x1024, .bf16⟩ : BufTy).Contents (Elt Ideal))
open Cert.BrDRefIdeal.Read

/-- The reference at one index. -/
theorem ref_prod (r : Fin 8192) (l : Fin 1024) : val_main_v5 (F := Ideal) x w (ix2 r l) = prod x w r l := by
  unfold val_main_v5 val_main_v4 val_main_v3 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_BrDIdeal_BrDRefIdeal (hBrDIdeal := Cert.BrDIdeal.Gen.facts) (hBrDRefIdeal := Cert.BrDRefIdeal.Gen.facts) := by
  intro m g m' g' _ hagree
  refine ⟨fun c => fun i : S8192x1024.Idx => prod (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.BrDRefIdeal.Value.run m' g')
    obtain ⟨h0, hargs⟩ := h c
    obtain ⟨e0, e1⟩ := hagree c
    refine ⟨h0.trans ?_, hargs⟩
    clear h0 hargs
    refine (Cert.BrDRefIdeal.Read.val_main_v5_eq (F := Ideal) (m' ((c.tc : Thread Cert.BrDRefIdeal.nD Cert.BrDRefIdeal.τ).loc Cert.BrDRefIdeal.main_arg0))
      (m' ((c.tc : Thread Cert.BrDRefIdeal.nD Cert.BrDRefIdeal.τ).loc Cert.BrDRefIdeal.main_arg1))).trans ?_
    rw [e0, e1]
    exact ext2 fun r l => ref_prod _ _ r l

/-- The run of the reference, read at its arguments. The program declares no semaphores, so all counters are zero. -/
theorem frame_ref : Cert.quiescent_BrDRefIdeal (hBrDRefIdeal := Cert.BrDRefIdeal.Gen.facts) := fun m ρ _ =>
  (θ_run Cert.BrDRefIdeal.defs _ _).mono
    (fun r h => ⟨fun c => (h c).2, sem_eq_zero_of_no_sems (by decide) r.2⟩)
    (Cert.BrDRefIdeal.Value.run (F := Ideal) m ρ)

end Cert.BrDV

end
-- ==== Proof.Fwd.Mo.lean ====
module
public import proofs.«01_k».proof.Defs
public import proofs.«01_k».proof.Proof.Gen.MoRefIdeal
public import Idealize.ShloMosaic.Lib.Quiescent
public import proofs.«01_k».proof.Proof.Gen.MoIdeal.Value
public import proofs.«01_k».proof.Proof.Gen.MoRefIdeal.Run
public import proofs.«01_k».proof.Proof.Gen.MoRefIdeal.Read
public import Idealize.ShloMosaic.Lib.Pipeline.ValueKit
@[expose] public section
set_option maxRecDepth 16384
set_option maxHeartbeats 4000000
noncomputable section
namespace Cert.MoV
open Cert.MoIdeal Cert.MoIdeal.Gen Idealize.ShloMosaic Idealize.ShloMosaic.TcCoe Idealize.SL.Sem
variable (m : (ℓ : Loc nD τ sig) → Buf (Elt Ideal) ℓ)

/-! The output product: `y[r, l] = Σ_k x[r, k] * w[0, k, l]`. A point's block is 2048 rows
by all columns and the whole contracted axis. -/

/-- The claim's right hand side. -/
def prod (x : S8192x1024.Idx → EReal) (w : S4x1024x1024.Idx → EReal) (r : Fin 8192) (l : Fin 1024) : EReal :=
  ∑ k : Fin 1024, x (ix2 r k) * w (ix3 0 k l)

theorem idx : ∀ t : Fin cfg0.N, win0_0.index t = ![t.val, 0] ∧ win0_1.index t = ![0, 0, 0] ∧ win0_2.index t = ![t.val, 0] :=
  (by decide +kernel : ∀ t : Fin grid0.N, _)

/-- Row `a` of the block that point `t` computes, in the array. -/
def row (t : Fin cfg0.N) (a : Fin 2048) : Fin 8192 :=
  ⟨2048 * (t.val) + a.val, by have := lt_of_lt_of_eq t.isLt (show cfg0.N = 4 from N_0); omega⟩

theorem blk_x (c : Dev nD) (t : Fin cfg0.N) (a : Fin 2048) (k : Fin 1024) :
    iblk m c 0 t (ix2 a k) = m ((c : Thread nD τ).loc main_arg0) (ix2 (row t a) k) := by
  unfold row
  blk_ext [iblk, idx t]

theorem blk_w (c : Dev nD) (t : Fin cfg0.N) (u : Fin 1) (k : Fin 1024) (b : Fin 1024) :
    iblk m c 1 t (ix3 u k b) = m ((c : Thread nD τ).loc main_arg1) (ix3 0 k b) := by
  blk_ext [iblk, idx t]

theorem pt (c : Dev nD) (t : Fin cfg0.N) (a : Fin 2048) (b : Fin 1024) :
    out0_2 (iblk m c 0 t) (iblk m c 1 t) (ix2 a b)
      = prod (m ((c : Thread nD τ).loc main_arg0)) (m ((c : Thread nD τ).loc main_arg1)) (row t a) b := by
  frame_out
  unfold_payloads
  pointwise [blk_x, blk_w]
  rfl

/-- The kernel's output array. -/
theorem arr (c : Dev nD) : (dats m 0 c).arrAt 2 cfg0.N = fun i : S8192x1024.Idx =>
    prod (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) y1 : S8192x1024.Idx) from by
    unfold row; blk_ext [idx t]]
  refine Eq.trans ?_ (pt m c t y0 y1)
  generalize out0_2 (iblk m c 0 t) (iblk m c 1 t) = f
  rfl

section
variable (x : (⟨Cert.MoIdeal.S8192x1024, .bf16⟩ : BufTy).Contents (Elt Ideal)) (w : (⟨Cert.MoIdeal.S4x1024x1024, .bf16⟩ : BufTy).Contents (Elt Ideal))
open Cert.MoRefIdeal.Read

/-- The reference at one index. -/
theorem ref_prod (r : Fin 8192) (l : Fin 1024) : val_main_v4 (F := Ideal) x w (ix2 r l) = prod x w r l := by
  unfold val_main_v4 val_main_v3 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_MoIdeal_MoRefIdeal (hMoIdeal := Cert.MoIdeal.Gen.facts) (hMoRefIdeal := Cert.MoRefIdeal.Gen.facts) := by
  intro m g m' g' _ hagree
  refine ⟨fun c => fun i : S8192x1024.Idx => prod (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.MoRefIdeal.Value.run m' g')
    obtain ⟨h0, hargs⟩ := h c
    obtain ⟨e0, e1⟩ := hagree c
    refine ⟨h0.trans ?_, hargs⟩
    clear h0 hargs
    refine (Cert.MoRefIdeal.Read.val_main_v4_eq (F := Ideal) (m' ((c.tc : Thread Cert.MoRefIdeal.nD Cert.MoRefIdeal.τ).loc Cert.MoRefIdeal.main_arg0))
      (m' ((c.tc : Thread Cert.MoRefIdeal.nD Cert.MoRefIdeal.τ).loc Cert.MoRefIdeal.main_arg1))).trans ?_
    rw [e0, e1]
    exact ext2 fun r l => ref_prod _ _ r l

/-- The run of the reference, read at its arguments. The program declares no semaphores, so all counters are zero. -/
theorem frame_ref : Cert.quiescent_MoRefIdeal (hMoRefIdeal := Cert.MoRefIdeal.Gen.facts) := fun m ρ _ =>
  (θ_run Cert.MoRefIdeal.defs _ _).mono
    (fun r h => ⟨fun c => (h c).2, sem_eq_zero_of_no_sems (by decide) r.2⟩)
    (Cert.MoRefIdeal.Value.run (F := Ideal) m ρ)

end Cert.MoV

end
-- ==== Proof.Fwd.Pgl.lean ====
module
public import proofs.«01_k».proof.Defs
public import proofs.«01_k».proof.Proof.Gen.PglRefIdeal
public import Idealize.ShloMosaic.Lib.Quiescent
public import proofs.«01_k».proof.Proof.Gen.PglIdeal.Value
public import proofs.«01_k».proof.Proof.Gen.PglRefIdeal.Run
public import proofs.«01_k».proof.Proof.Gen.PglRefIdeal.Read
public import Idealize.ShloMosaic.Lib.Pipeline.ValueKit
@[expose] public section
set_option maxRecDepth 16384
set_option maxHeartbeats 4000000
noncomputable section
namespace Cert.PglV
open Cert.PglIdeal Cert.PglIdeal.Gen Idealize.ShloMosaic Idealize.ShloMosaic.TcCoe Idealize.SL.Sem
variable (m : (ℓ : Loc nD τ sig) → Buf (Elt Ideal) ℓ)

/-! The embedding gate's product: `y[r, l] = Σ_k x[r, k] * w[0, k, l]`. A point's block is 2048 rows
by all columns and the whole contracted axis. -/

/-- The claim's right hand side. -/
def prod (x : S8192x1024.Idx → EReal) (w : S4x1024x1024.Idx → EReal) (r : Fin 8192) (l : Fin 1024) : EReal :=
  ∑ k : Fin 1024, x (ix2 r k) * w (ix3 0 k l)

theorem idx : ∀ t : Fin cfg0.N, win0_0.index t = ![t.val, 0] ∧ win0_1.index t = ![0, 0, 0] ∧ win0_2.index t = ![t.val, 0] :=
  (by decide +kernel : ∀ t : Fin grid0.N, _)

/-- Row `a` of the block that point `t` computes, in the array. -/
def row (t : Fin cfg0.N) (a : Fin 2048) : Fin 8192 :=
  ⟨2048 * (t.val) + a.val, by have := lt_of_lt_of_eq t.isLt (show cfg0.N = 4 from N_0); omega⟩

theorem blk_x (c : Dev nD) (t : Fin cfg0.N) (a : Fin 2048) (k : Fin 1024) :
    iblk m c 0 t (ix2 a k) = m ((c : Thread nD τ).loc main_arg0) (ix2 (row t a) k) := by
  unfold row
  blk_ext [iblk, idx t]

theorem blk_w (c : Dev nD) (t : Fin cfg0.N) (u : Fin 1) (k : Fin 1024) (b : Fin 1024) :
    iblk m c 1 t (ix3 u k b) = m ((c : Thread nD τ).loc main_arg1) (ix3 0 k b) := by
  blk_ext [iblk, idx t]

theorem pt (c : Dev nD) (t : Fin cfg0.N) (a : Fin 2048) (b : Fin 1024) :
    out0_2 (iblk m c 0 t) (iblk m c 1 t) (ix2 a b)
      = prod (m ((c : Thread nD τ).loc main_arg0)) (m ((c : Thread nD τ).loc main_arg1)) (row t a) b := by
  frame_out
  unfold_payloads
  pointwise [blk_x, blk_w]
  rfl

/-- The kernel's output array. -/
theorem arr (c : Dev nD) : (dats m 0 c).arrAt 2 cfg0.N = fun i : S8192x1024.Idx =>
    prod (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) y1 : S8192x1024.Idx) from by
    unfold row; blk_ext [idx t]]
  refine Eq.trans ?_ (pt m c t y0 y1)
  generalize out0_2 (iblk m c 0 t) (iblk m c 1 t) = f
  rfl

section
variable (x : (⟨Cert.PglIdeal.S8192x1024, .bf16⟩ : BufTy).Contents (Elt Ideal)) (w : (⟨Cert.PglIdeal.S4x1024x1024, .bf16⟩ : BufTy).Contents (Elt Ideal))
open Cert.PglRefIdeal.Read

/-- The reference at one index. -/
theorem ref_prod (r : Fin 8192) (l : Fin 1024) : val_main_v5 (F := Ideal) x w (ix2 r l) = prod x w r l := by
  unfold val_main_v5 val_main_v4 val_main_v3 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_PglIdeal_PglRefIdeal (hPglIdeal := Cert.PglIdeal.Gen.facts) (hPglRefIdeal := Cert.PglRefIdeal.Gen.facts) := by
  intro m g m' g' _ hagree
  refine ⟨fun c => fun i : S8192x1024.Idx => prod (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.PglRefIdeal.Value.run m' g')
    obtain ⟨h0, hargs⟩ := h c
    obtain ⟨e0, e1⟩ := hagree c
    refine ⟨h0.trans ?_, hargs⟩
    clear h0 hargs
    refine (Cert.PglRefIdeal.Read.val_main_v5_eq (F := Ideal) (m' ((c.tc : Thread Cert.PglRefIdeal.nD Cert.PglRefIdeal.τ).loc Cert.PglRefIdeal.main_arg0))
      (m' ((c.tc : Thread Cert.PglRefIdeal.nD Cert.PglRefIdeal.τ).loc Cert.PglRefIdeal.main_arg1))).trans ?_
    rw [e0, e1]
    exact ext2 fun r l => ref_prod _ _ r l

/-- The run of the reference, read at its arguments. The program declares no semaphores, so all counters are zero. -/
theorem frame_ref : Cert.quiescent_PglRefIdeal (hPglRefIdeal := Cert.PglRefIdeal.Gen.facts) := fun m ρ _ =>
  (θ_run Cert.PglRefIdeal.defs _ _).mono
    (fun r h => ⟨fun c => (h c).2, sem_eq_zero_of_no_sems (by decide) r.2⟩)
    (Cert.PglRefIdeal.Value.run (F := Ideal) m ρ)

end Cert.PglV

end
-- ==== Proof.Fwd.Pr.lean ====
module
public import proofs.«01_k».proof.Defs
public import proofs.«01_k».proof.Proof.Gen.PrRefIdeal
public import Idealize.ShloMosaic.Lib.Quiescent
public import proofs.«01_k».proof.Proof.Gen.PrIdeal.Value
public import proofs.«01_k».proof.Proof.Gen.PrRefIdeal.Run
public import proofs.«01_k».proof.Proof.Gen.PrRefIdeal.Read
public import Idealize.ShloMosaic.Lib.Pipeline.ValueKit
@[expose] public section
set_option maxRecDepth 16384
set_option maxHeartbeats 4000000
noncomputable section
namespace Cert.PrV
open Cert.PrIdeal Cert.PrIdeal.Gen Idealize.ShloMosaic Idealize.ShloMosaic.TcCoe Idealize.SL.Sem
variable (m : (ℓ : Loc nD τ sig) → Buf (Elt Ideal) ℓ)

/-! The embedding's product: `y[r, l] = Σ_k x[r, k] * w[0, k, l]`. A point's block is 2048 rows
by all columns and the whole contracted axis. -/

/-- The claim's right hand side. -/
def prod (x : S8192x256.Idx → EReal) (w : S4x256x1024.Idx → EReal) (r : Fin 8192) (l : Fin 1024) : EReal :=
  ∑ k : Fin 256, x (ix2 r k) * w (ix3 0 k l)

theorem idx : ∀ t : Fin cfg0.N, win0_0.index t = ![t.val, 0] ∧ win0_1.index t = ![0, 0, 0] ∧ win0_2.index t = ![t.val, 0] :=
  (by decide +kernel : ∀ t : Fin grid0.N, _)

/-- Row `a` of the block that point `t` computes, in the array. -/
def row (t : Fin cfg0.N) (a : Fin 2048) : Fin 8192 :=
  ⟨2048 * (t.val) + a.val, by have := lt_of_lt_of_eq t.isLt (show cfg0.N = 4 from N_0); omega⟩

theorem blk_x (c : Dev nD) (t : Fin cfg0.N) (a : Fin 2048) (k : Fin 256) :
    iblk m c 0 t (ix2 a k) = m ((c : Thread nD τ).loc main_arg0) (ix2 (row t a) k) := by
  unfold row
  blk_ext [iblk, idx t]

theorem blk_w (c : Dev nD) (t : Fin cfg0.N) (u : Fin 1) (k : Fin 256) (b : Fin 1024) :
    iblk m c 1 t (ix3 u k b) = m ((c : Thread nD τ).loc main_arg1) (ix3 0 k b) := by
  blk_ext [iblk, idx t]

theorem pt (c : Dev nD) (t : Fin cfg0.N) (a : Fin 2048) (b : Fin 1024) :
    out0_2 (iblk m c 0 t) (iblk m c 1 t) (ix2 a b)
      = prod (m ((c : Thread nD τ).loc main_arg0)) (m ((c : Thread nD τ).loc main_arg1)) (row t a) b := by
  frame_out
  unfold_payloads
  pointwise [blk_x, blk_w]
  rfl

/-- The kernel's output array. -/
theorem arr (c : Dev nD) : (dats m 0 c).arrAt 2 cfg0.N = fun i : S8192x1024.Idx =>
    prod (m ((c : Thread nD τ).loc main_arg0)) (m ((c : Thread nD τ).loc main_arg1)) (i 0) (i 1) := by
  refine (dats m 0 c).arrAt_eq_of_covers 2 _ (by decide +kernel) fun t hf y => ?_
  idx_vars y
  rw [after0_2, show ((cfg0.win 2).blk t).view.emb (ix2 y0 y1) = (ix2 (row t y0) y1 : S8192x1024.Idx) from by
    unfold row; blk_ext [idx t]]
  refine Eq.trans ?_ (pt m c t y0 y1)
  generalize out0_2 (iblk m c 0 t) (iblk m c 1 t) = f
  rfl

section
variable (x : (⟨Cert.PrIdeal.S8192x256, .f32⟩ : BufTy).Contents (Elt Ideal)) (w : (⟨Cert.PrIdeal.S4x256x1024, .bf16⟩ : BufTy).Contents (Elt Ideal))
open Cert.PrRefIdeal.Read

/-- The reference at one index. -/
theorem ref_prod (r : Fin 8192) (l : Fin 1024) : val_main_v3 (F := Ideal) x w (ix2 r l) = prod x w r l := by
  unfold val_main_v3 val_main_v2 val_main_v1 val_main_v0
  pointwise
  rfl

end

/-- An array agrees with a function of its coordinates when it does so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_PrIdeal_PrRefIdeal (hPrIdeal := Cert.PrIdeal.Gen.facts) (hPrRefIdeal := Cert.PrRefIdeal.Gen.facts) := by
  intro m g m' g' _ hagree
  refine ⟨fun c => fun i : S8192x1024.Idx => prod (m ((c.tc : Thread nD τ).loc main_arg0)) (m ((c.tc : Thread nD τ).loc main_arg1)) (i 0) (i 1), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.PrRefIdeal.Value.run m' g')
    obtain ⟨h0, hargs⟩ := h c
    obtain ⟨e0, e1⟩ := hagree c
    refine ⟨h0.trans ?_, hargs⟩
    clear h0 hargs
    refine (Cert.PrRefIdeal.Read.val_main_v3_eq (F := Ideal) (m' ((c.tc : Thread Cert.PrRefIdeal.nD Cert.PrRefIdeal.τ).loc Cert.PrRefIdeal.main_arg0))
      (m' ((c.tc : Thread Cert.PrRefIdeal.nD Cert.PrRefIdeal.τ).loc Cert.PrRefIdeal.main_arg1))).trans ?_
    rw [e0, e1]
    exact ext2 fun r l => ref_prod _ _ r l

/-- The run of the reference, read at its arguments. The program declares no semaphores, so all counters are zero. -/
theorem frame_ref : Cert.quiescent_PrRefIdeal (hPrRefIdeal := Cert.PrRefIdeal.Gen.facts) := fun m ρ _ =>
  (θ_run Cert.PrRefIdeal.defs _ _).mono
    (fun r h => ⟨fun c => (h c).2, sem_eq_zero_of_no_sems (by decide) r.2⟩)
    (Cert.PrRefIdeal.Value.run (F := Ideal) m ρ)

end Cert.PrV

end
-- ==== Proof.Mix.Dwple.lean ====
module
public import proofs.«01_k».proof.Defs
public import proofs.«01_k».proof.Proof.Gen.DwpleRefIdeal
public import Idealize.ShloMosaic.Lib.Quiescent
public import Idealize.ShloMosaic.Lib.Pipeline.ReadBack
public import Idealize.ShloMosaic.Lib.Pipeline.ValueKit.Partial
public import Idealize.ShloMosaic.Lib.Routing.OpsSet
public import proofs.«01_k».proof.Proof.Gen.DwpleIdeal.Value
public import proofs.«01_k».proof.Proof.Gen.DwpleRefIdeal.Run
public import proofs.«01_k».proof.Proof.Gen.DwpleRefIdeal.Read
public import Idealize.ShloMosaic.Lib.Pipeline.ValueKit
@[expose] public section
set_option maxRecDepth 16384
set_option maxHeartbeats 4000000
noncomputable section
namespace Cert.DwpleV
open Cert.DwpleIdeal Cert.DwpleIdeal.Gen Idealize.ShloMosaic Idealize.ShloMosaic.TcCoe Idealize.SL.Sem

/-! The gradient of the embedding product's weight: `dw[r, l] = Σ_k x[k, r] * d[k, l]`. The rows are walked in four blocks of 2048: the first point of a run of four
keeps its part in the scratch, the next two add theirs, the last adds its own and stores the block at layer 0 of the stack.
The other layers are never written. -/

/-- The gradient of the layer's weight. -/
def dw (x : S8192x256.Idx → EReal) (y : S8192x1024.Idx → EReal) (r : Fin 256) (l : Fin 1024) : EReal :=
  ∑ k : Fin 8192, x (ix2 k r) * y (ix2 k l)

/-- The claim's right hand side: the stack with layer 0 replaced. -/
def stack (x : S8192x256.Idx → EReal) (y : S8192x1024.Idx → EReal) (b : S4x256x1024.Idx → EReal) (s : Fin 4) (r : Fin 256) (l : Fin 1024) : EReal :=
  if s.val = 0 then dw x y r l else b (ix3 s r l)

theorem idx : ∀ t : Fin cfg0.N, win0_0.index t = ![t.val % 4, t.val / 4] ∧ win0_1.index t = ![t.val % 4, t.val / 4 % 1]
    ∧ win0_2.index t = ![0, t.val / 4, t.val / 4 % 1] :=
  (by decide +kernel : ∀ t : Fin grid0.N, _)

/-- Row `a` of the block that point `n` works on, in the array. -/
def row (n : ℕ) (h : n < cfg0.N) (a : Fin 256) : Fin 256 :=
  ⟨256 * (n / 4) + a.val, by have := lt_of_lt_of_eq h (show cfg0.N = 4 from N_0); omega⟩

/-- Column `b` of the block that point `n` works on, in the array. -/
def col (n : ℕ) (b : Fin 1024) : Fin 1024 := ⟨1024 * (n / 4 % 1) + b.val, by omega⟩

/-- Entry `k` of block `s` of the contracted axis. -/
def con (s : ℕ) (k : Fin 2048) : Fin 8192 := ⟨2048 * (s % 4) + k.val, by omega⟩

variable (m : (ℓ : Loc nD τ sig) → Buf (Elt Ideal) ℓ)

theorem blk_x (c : Dev nD) (t : Fin cfg0.N) (k : Fin 2048) (a : Fin 256) :
    iblk m c 0 t (ix2 k a) = m ((c : Thread nD τ).loc main_arg0) (ix2 (con t.val k) (row t.val t.isLt a)) := by
  unfold row con
  blk_ext [iblk, idx t]

theorem blk_y (c : Dev nD) (t : Fin cfg0.N) (k : Fin 2048) (b : Fin 1024) :
    iblk m c 1 t (ix2 k b) = m ((c : Thread nD τ).loc main_arg1) (ix2 (con t.val k) (col t.val b)) := by
  unfold col con
  blk_ext [iblk, idx t]

/-- Block `s` of the contraction at row `r` and column `l`. -/
def part (x : S8192x256.Idx → EReal) (y : S8192x1024.Idx → EReal) (r : Fin 256) (l : Fin 1024) (s : ℕ) : EReal :=
  ∑ k : Fin 2048, x (ix2 (con s k) r) * y (ix2 (con s k) l)

/-- The scratch after the first point of a run. -/
theorem scratch_first (c : Dev nD) (t : Fin cfg0.N) (h : t.val % 4 = 0) (a : Fin 256) (b : Fin 1024) :
    ((outsAt0 m c t.val t.isLt).2 (ix2 a b) : EReal) = part (m ((c : Thread nD τ).loc main_arg0)) (m ((c : Thread nD τ).loc main_arg1)) (row t.val t.isLt a) (col t.val b) t.val := by
  rw [outsAt0_A m c t h (by omega) (by omega)]
  frame_out
  unfold_payloads
  pointwise [blk_x, blk_y]
  rfl

/-- The scratch after the second and third points. -/
theorem scratch_next (c : Dev nD) (t : Fin cfg0.N) (h : 1 ≤ t.val % 4 ∧ t.val % 4 ≤ 2) (a : Fin 256) (b : Fin 1024) :
    ((outsAt0 m c t.val t.isLt).2 (ix2 a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_B m c t (by omega) h (by omega)]
  frame_out
  unfold_payloads
  simp only [read_unread_whole]
  pointwise [blk_x, blk_y]
  rfl

/-- What the last point of a run stores. -/
theorem pt (c : Dev nD) (t : Fin cfg0.N) (h : t.val % 4 = 3) (u : Fin 1) (a : Fin 256) (b : Fin 1024) :
    ((outsAt0 m c t.val t.isLt).1 (ix3 u a b) : EReal)
      = (outsAt0 m c (t.val - 1) (Nat.lt_of_le_of_lt (Nat.sub_le _ _) t.isLt)).2 (ix2 a b)
        + part (m ((c : Thread nD τ).loc main_arg0)) (m ((c : Thread nD τ).loc main_arg1)) (row t.val t.isLt a) (col t.val b) t.val := by
  rw [outsAt0_C m c t (by omega) (by omega) h]
  frame_out
  unfold_payloads
  simp only [read_unread_whole]
  pointwise [blk_x, blk_y]
  rfl

/-- The four blocks make up the contracted axis. -/
theorem parts (x : S8192x256.Idx → EReal) (y : S8192x1024.Idx → EReal) (r : Fin 256) (l : Fin 1024) :
    part x y r l 0 + part x y r l 1 + part x y r l 2 + part x y r l 3 = dw x y r l := by
  refine (Fin.sum_univ_four (fun s : Fin 4 => part x y r l s.val)).symm.trans ?_
  exact (Fin.sum_mul_add_congr (S := 4) (n := 2048) fun s k hl => congrArg (fun k => x (ix2 k r) * y (ix2 k l)) (Fin.ext (by
    show 2048 * (s.val % 4) + k.val = _; simp only; omega)))

/-- The scratch at the point before `t`, `i` points into the run: a point of the same run has the same block. -/
theorem same (c : Dev nD) (n n' : ℕ) (h : n < cfg0.N) (h' : n' < cfg0.N) (e : n / 4 = n' / 4) (s : ℕ) (hs : n % 4 = s % 4) (a : Fin 256) (b : Fin 1024) :
    part (m ((c : Thread nD τ).loc main_arg0)) (m ((c : Thread nD τ).loc main_arg1)) (row n h a) (col n b) n = part (m ((c : Thread nD τ).loc main_arg0)) (m ((c : Thread nD τ).loc main_arg1)) (row n' h' a) (col n' b) s := by
  have er : row n h a = row n' h' a := Fin.ext (by
    show 256 * (n / 4) + a.val = 256 * (n' / 4) + a.val; omega)
  have ec : col n b = col n' b := Fin.ext (by
    show 1024 * (n / 4 % 1) + b.val = 1024 * (n' / 4 % 1) + b.val; omega)
  unfold part con
  simp only [er, ec, hs]

/-- What the last point of a run stores is the gradient's block. -/
theorem pt_dw (c : Dev nD) (t : Fin cfg0.N) (h : t.val % 4 = 3) (u : Fin 1) (a : Fin 256) (b : Fin 1024) :
    ((outsAt0 m c t.val t.isLt).1 (ix3 u a b) : EReal) = dw (m ((c : Thread nD τ).loc main_arg0)) (m ((c : Thread nD τ).loc main_arg1)) (row t.val t.isLt a) (col t.val b) := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e3 := pt m c t h u a b
  have e2 := scratch_next m c ⟨t.val - 1, l1⟩ (by constructor <;> (simp only; omega)) a b
  have e1 := scratch_next m c ⟨t.val - 1 - 1, l2⟩ (by constructor <;> (simp only; omega)) a b
  have e0 := scratch_first m c ⟨t.val - 1 - 1 - 1, l3⟩ (by simp only; omega) a b
  dsimp only at e0 e1 e2
  rw [same m c _ t.val l3 t.isLt (by omega) 0 (by omega)] at e0
  rw [e0, same m c _ t.val l2 t.isLt (by omega) 1 (by omega)] at e1
  rw [e1, same m c _ t.val l1 t.isLt (by omega) 2 (by omega)] at e2
  rw [e2, same m c _ t.val t.isLt t.isLt rfl 3 (by omega), parts] at e3
  exact e3

/-- The kernel's output array. -/
theorem arr (c : Dev nD) : (dats m 0 c).arrAt 2 cfg0.N = fun i : S4x256x1024.Idx => stack (m ((c : Thread nD τ).loc main_arg0)) (m ((c : Thread nD τ).loc main_arg1)) (m ((c : Thread nD τ).loc main_arg2)) (i 0) (i 1) (i 2) := by
  refine (dats m 0 c).arrAt_eq_of_coversWhere_of_agree 2 _ (fun β => β (0 : Fin 3) = 0) (by decide +kernel) (fun t hf y => ?_) (fun j hj => ?_)
  · have h1 : t.val % 4 = 3 := (flush0_2 t).mp hf
    idx_vars y
    rw [after0_2, show ((cfg0.win 2).blk t).view.emb (ix3 y0 y1 y2) = (ix3 0 (row t.val t.isLt y1) (col t.val y2) : S4x256x1024.Idx) from by
      unfold row col; blk_ext [idx t]]
    refine Eq.trans ?_ (pt_dw m c t h1 y0 y1 y2)
    generalize (outsAt0 m c t.val t.isLt).1 = f
    rfl
  · have hj' : ¬ (j (0 : Fin 3)).val = 0 := fun e => hj (by
      show (j (0 : Fin 3)).val / 1 = 0
      rw [e])
    show V m c (Pipeline.arrRef spec0 2) _ = if (j (0 : Fin 3)).val = 0 then _ else _
    rw [if_neg hj']
    refine Eq.trans (b := m ((c : Thread nD τ).loc main_arg2) ((cfg0.win 2).arr.view.emb j)) ?_ ?_
    · show V m c main_v0 _ = _
      entry_read
      rfl
    · refine congrArg _ (funext fun a => ?_)
      fin_cases a <;> rfl

section
variable (x : (⟨Cert.DwpleIdeal.S8192x256, .f32⟩ : BufTy).Contents (Elt Ideal)) (y : (⟨Cert.DwpleIdeal.S8192x1024, .bf16⟩ : BufTy).Contents (Elt Ideal)) (b : (⟨Cert.DwpleIdeal.S4x256x1024, .f32⟩ : BufTy).Contents (Elt Ideal))
open Cert.DwpleRefIdeal Cert.DwpleRefIdeal.Read

/-- The reference's update lands at layer 0. -/
theorem lands (k : Cert.DwpleRefIdeal.S256x1024.Idx) : scatter_S4x256x1024_S1_S256x1024_01_0_0_0.resultIdx? k (val_main_v5 (F := Ideal)) = some (ix3 0 (k 0) (k 1)) := by
  have hs (a : Fin 3) : scatter_S4x256x1024_S1_S256x1024_01_0_0_0.start k (val_main_v5 (F := Ideal)) a = 0 := by
    unfold ScatterDims.start
    split
    · rw [val_main_v5_apply]; rfl
    · rfl
  have w0 : scatter_S4x256x1024_S1_S256x1024_01_0_0_0.window k 0 = 0 := rfl
  have w1 : scatter_S4x256x1024_S1_S256x1024_01_0_0_0.window k 1 = (k 0).val := rfl
  have w2 : scatter_S4x256x1024_S1_S256x1024_01_0_0_0.window k 2 = (k 1).val := rfl
  have hw (a : Fin 3) : scatter_S4x256x1024_S1_S256x1024_01_0_0_0.start k (val_main_v5 (F := Ideal)) a + scatter_S4x256x1024_S1_S256x1024_01_0_0_0.window k a = ((ix3 0 (k 0) (k 1) : Cert.DwpleRefIdeal.S4x256x1024.Idx) a).val := by
    rw [hs, zero_add]
    fin_cases a
    · exact congrArg _ w0
    · exact congrArg _ w1
    · exact congrArg _ w2
  unfold ScatterDims.resultIdx?
  rw [dif_pos fun a => by rw [hw a]; exact ⟨Int.natCast_nonneg _, by exact_mod_cast ((ix3 0 (k 0) (k 1) : Cert.DwpleRefIdeal.S4x256x1024.Idx) a).isLt⟩]
  refine congrArg some (funext fun a => Fin.ext ?_)
  show (_ : ℤ).toNat = _
  rw [hw a]
  rfl

theorem ref_grad (r : Fin 256) (l : Fin 1024) : val_main_v4 (F := Ideal) x y (ix2 r l) = dw x y r l := by
  unfold val_main_v4 val_main_v3 val_main_v2
  pointwise
  exact Finset.sum_congr rfl fun k _ => mul_comm _ _

theorem ref_stack (s : Fin 4) (r : Fin 256) (l : Fin 1024) : val_main_v6 (F := Ideal) x y b (ix3 s r l) = stack x y b s r l := by
  unfold val_main_v6 stack
  split
  · rename_i h
    obtain rfl : s = 0 := Fin.ext h
    refine Routing.scatter_set_hit _ _ _ _ _ _ (fun k hk => ?_) (ix2 r l) (lands (ix2 r l))
    rw [lands] at hk
    have hk' := Option.some.inj hk
    rw [← ref_grad]
    refine congrArg _ (funext fun a => ?_)
    fin_cases a
    · exact congrFun hk' 1
    · exact congrFun hk' 2
  · rename_i h
    refine Routing.scatter_set_miss _ _ _ _ _ fun k hk => h ?_
    rw [lands] at hk
    exact (congrArg Fin.val (congrFun (Option.some.inj hk) 0)).symm

end

/-- An array agrees with a function of its coordinates when it does so at every one. -/
theorem ext3 {p n k : ℕ} {α : Type} {x : (⟨3, ![p, n, k]⟩ : Shape).Idx → α} {f : Fin p → Fin n → Fin k → α} (h : ∀ s r l, x (ix3 s r l) = f s r l) :
    x = fun i => f (i 0) (i 1) (i 2) := by
  funext i
  have e : i = ix3 (i 0) (i 1) (i 2) := by funext a; fin_cases a <;> rfl
  exact (congrArg x e).trans (h _ _ _)

theorem algebraic : Cert.algebraic_DwpleIdeal_DwpleRefIdeal (hDwpleIdeal := Cert.DwpleIdeal.Gen.facts) (hDwpleRefIdeal := Cert.DwpleRefIdeal.Gen.facts) := by
  intro m g m' g' _ hagree
  refine ⟨fun c => fun i : S4x256x1024.Idx => stack (m ((c.tc : Thread nD τ).loc main_arg0)) (m ((c.tc : Thread nD τ).loc main_arg1)) (m ((c.tc : Thread nD τ).loc main_arg2)) (i 0) (i 1) (i 2), ?_, ?_⟩
  · refine (θ_run _ _ _).mono (fun r h c => ?_) (Value.run_blocks m g)
    obtain ⟨h0, hargs⟩ := h c
    exact ⟨h0.trans (arr m c), hargs⟩
  · refine (θ_run _ _ _).mono (fun r h c => ?_) (Cert.DwpleRefIdeal.Value.run m' g')
    obtain ⟨h0, hargs⟩ := h c
    obtain ⟨e0, e1, e2⟩ := hagree c
    refine ⟨h0.trans ?_, hargs⟩
    clear h0 hargs
    refine (Cert.DwpleRefIdeal.Read.val_main_v6_eq (F := Ideal) (m' ((c.tc : Thread Cert.DwpleRefIdeal.nD Cert.DwpleRefIdeal.τ).loc Cert.DwpleRefIdeal.main_arg0))
      (m' ((c.tc : Thread Cert.DwpleRefIdeal.nD Cert.DwpleRefIdeal.τ).loc Cert.DwpleRefIdeal.main_arg1))
      (m' ((c.tc : Thread Cert.DwpleRefIdeal.nD Cert.DwpleRefIdeal.τ).loc Cert.DwpleRefIdeal.main_arg2))).trans ?_
    rw [e0, e1, e2]
    exact ext3 fun s r l => ref_stack _ _ _ s r l

/-- The run of the reference, read at its arguments. The program declares no semaphores, so all counters are zero. -/
theorem frame_ref : Cert.quiescent_DwpleRefIdeal (hDwpleRefIdeal := Cert.DwpleRefIdeal.Gen.facts) := fun m ρ _ =>
  (θ_run Cert.DwpleRefIdeal.defs _ _).mono
    (fun r h => ⟨fun c => (h c).2, sem_eq_zero_of_no_sems (by decide) r.2⟩)
    (Cert.DwpleRefIdeal.Value.run (F := Ideal) m ρ)

end Cert.DwpleV

end
-- ==== Proof.Fox.RefFrame.lean ====
/- The reference of the forgetting attention's gradients leaves its arguments as they were and no semaphore counter raised. -/
module

public import proofs.«01_k».proof.Defs
public import proofs.«01_k».proof.Proof.Gen.FoxRefIdeal
public import proofs.«01_k».proof.Proof.Gen.FoxRefIdeal.Run
public import Idealize.ShloMosaic.Lib.Quiescent

@[expose] public section

set_option maxHeartbeats 4000000

noncomputable section

namespace Cert.FoxV

open Idealize.ShloMosaic Idealize.SL.Sem

/-- The run of the reference, read at its arguments. The program declares no semaphores, so all counters are zero. -/
theorem frame_ref : Cert.quiescent_FoxRefIdeal (hFoxRefIdeal := Cert.FoxRefIdeal.Gen.facts) := fun m ρ _ =>
  (θ_run Cert.FoxRefIdeal.defs _ _).mono
    (fun r h => ⟨fun c => (h c).2.2.2.2.2, sem_eq_zero_of_no_sems (by decide) r.2⟩)
    (Cert.FoxRefIdeal.Value.run (F := Ideal) m ρ)

end Cert.FoxV

end
-- ==== Proof.Fox.Base.lean ====
module

public import proofs.«01_k».proof.Proof.Gen.FoxIdeal.Value
public import Idealize.ShloMosaic.Lib.Pipeline.ValueKit
public import Idealize.ShloMosaic.Lib.Pipeline.ReadBack
public import Idealize.ShloMosaic.Lib.WritesUnit

/-!
# The forgetting attention's gradient: one tile of weights, and the reads of one chunk

A tile is 512 rows of queries against 512 rows of keys, of one head.  `wt` is the weight of one
pair, `ds` the gradient of its score.  The other lemmas say what a load of one chunk of 512 rows of
a head reads.
-/

@[expose] public section

set_option maxRecDepth 16384
set_option maxHeartbeats 8000000

noncomputable section

namespace Cert.FoxV

open Cert.FoxIdeal Cert.FoxIdeal.Gen Idealize.ShloMosaic Idealize.ShloMosaic.TcCoe Idealize.SL.Sem

/-- Row `l` of chunk `k`. -/
def row (k : Fin 4) (l : Fin 512) : Fin 2048 := ⟨512 * k.val + l.val, by omega⟩

/-- The weight of a pair: the exponential of its score less the row's log-sum. -/
def wt (q K : Fin 512 → Fin 64 → EReal) (cq ls ck : Fin 512 → EReal) (r l : Fin 512) : EReal :=
  Ideal.exp (∑ x, q r x * K l x + (cq r - ck l) - ls r)

/-- The weight of a pair of a tile on the diagonal: a key after the query has the score `−∞`. -/
def wtd (q K : Fin 512 → Fin 64 → EReal) (cq ls ck : Fin 512 → EReal) (r l : Fin 512) : EReal :=
  Ideal.exp ((if l ≤ r then ∑ x, q r x * K l x + (cq r - ck l) else ⊥) - ls r)

/-- The gradient of a score, from the weight `w` of the pair. -/
def ds (w : Fin 512 → Fin 512 → EReal) (dy V : Fin 512 → Fin 64 → EReal) (dl : Fin 512 → EReal)
    (r l : Fin 512) : EReal :=
  w r l * (∑ x, dy r x * V l x - dl r)

/-- The loop over the chunks before the query's own makes `j` trips at step `j`. -/
theorem trips_eq : ∀ i : grid0.Coords, (k0_t1_loop i).trips = (i 1).val := by decide +kernel

theorem trips_lt (i : grid0.Coords) (k : Fin (k0_t1_loop i).trips) : k.val < 4 :=
  lt_of_lt_of_le (lt_of_lt_of_eq k.isLt (trips_eq i)) (le_of_lt (i 1).isLt)

/-- The first row of trip `k`'s chunk, as the program computes it. -/
theorem iv_mul (k : ℕ) (hk : k < 4) :
    BitVec.toNat (Scalar.indexCast (Scalar.muli (Scf.iv 0#32 1#32 k) 512#32)) = 512 * k := by
  have h : ∀ k : Fin 4, BitVec.toNat (Scalar.indexCast (Scalar.muli (Scf.iv 0#32 1#32 k.val) 512#32))
      = 512 * k.val := by decide +kernel
  exact h ⟨k, hk⟩

theorem iv_self (k : ℕ) (hk : k < 4) : BitVec.toNat (Scalar.indexCast (Scf.iv 0#32 1#32 k)) = k := by
  have h : ∀ k : Fin 4, BitVec.toNat (Scalar.indexCast (Scf.iv 0#32 1#32 k.val)) = k.val := by
    decide +kernel
  exact h ⟨k, hk⟩

/-- Chunk `k` of an array of 2048 rows. -/
def chunk {α : Type} (K : Fin 2048 → α) (k : Fin 4) : Fin 512 → α := fun l => K (row k l)

/-- A load of 512 rows of one head of a `4 × 2048 × 64` buffer. -/
def ld3 {b : EltTy} {κ : Kind} {sp : Space} (v : View sig κ sp S4x2048x64 b)
    (X : v.ty.Contents (Elt Ideal)) (off : Fin 3 → ℕ)
    (inb : ∀ a, off a + (![1, 512, 64] : Fin 3 → ℕ) a ≤ S4x2048x64.size a) (l : Fin 512)
    (d : Fin 64) : Elt Ideal b :=
  View.readAt (Elt Ideal) v (Rect.unit (s := S4x2048x64) off ![1, 512, 64] inb).toLoadRect X
    (ix3 0 l d)

/-- A load of one chunk of one head of a `1 × 4 × 4 × 1 × 512` buffer. -/
def ld5 {b : EltTy} {κ : Kind} {sp : Space} (v : View sig κ sp S1x4x4x1x512 b)
    (X : v.ty.Contents (Elt Ideal)) (off : Fin 5 → ℕ)
    (inb : ∀ a, off a + (![1, 1, 1, 1, 512] : Fin 5 → ℕ) a ≤ S1x4x4x1x512.size a) (l : Fin 512) :
    Elt Ideal b :=
  View.readAt (Elt Ideal) v (Rect.unit (s := S1x4x4x1x512) off ![1, 1, 1, 1, 512] inb).toLoadRect X
    (ix5 0 0 0 0 l)

theorem inb3 {off : Fin 3 → ℕ} (h k : Fin 4) (e : off = ![h.val, 512 * k.val, 0]) :
    ∀ a, off a + (![1, 512, 64] : Fin 3 → ℕ) a ≤ S4x2048x64.size a := by
  subst e
  intro a
  match a with
  | 0 => exact h.isLt
  | 1 => show 512 * k.val + 512 ≤ 2048; omega
  | 2 => show 0 + 64 ≤ 64; omega

theorem inb5 {off : Fin 5 → ℕ} (h k : Fin 4) (e : off = ![0, h.val, k.val, 0, 0]) :
    ∀ a, off a + (![1, 1, 1, 1, 512] : Fin 5 → ℕ) a ≤ S1x4x4x1x512.size a := by
  subst e
  intro a
  match a with
  | 0 => show 0 + 1 ≤ 1; omega
  | 1 => exact h.isLt
  | 2 => exact k.isLt
  | 3 => show 0 + 1 ≤ 1; omega
  | 4 => show 0 + 512 ≤ 512; omega

/-- Such a load at head `h`, chunk `k` reads the chunk. -/
theorem ld3_eq {b : EltTy} {κ : Kind} {sp : Space} (v : View sig κ sp S4x2048x64 b)
    (X : v.ty.Contents (Elt Ideal)) (K : Fin 4 → Fin 2048 → Fin 64 → Elt Ideal b)
    (hK : ∀ h s d, v.read (Elt Ideal) X (ix3 h s d) = K h s d) {off : Fin 3 → ℕ} (h k : Fin 4)
    (e : off = ![h.val, 512 * k.val, 0]) : chunk (K h) k = ld3 v X off (inb3 h k e) := by
  funext l d
  show K h (row k l) d = _
  subst e
  unfold ld3
  rw [← hK, View.readAt_eq_ld, View.ld_apply]
  congr 1
  funext a
  apply Fin.ext
  match a with
  | 0 => rfl
  | 1 => show 512 * k.val + l.val = 512 * k.val + 1 * l.val; omega
  | 2 => show d.val = 0 + 1 * d.val; omega

theorem ld5_read {b : EltTy} {κ : Kind} {sp : Space} (v : View sig κ sp S1x4x4x1x512 b)
    (X : v.ty.Contents (Elt Ideal)) {off : Fin 5 → ℕ}
    (h k : Fin 4) (e : off = ![0, h.val, k.val, 0, 0]) (l : Fin 512) :
    v.read (Elt Ideal) X (ix5 0 h k 0 l) = ld5 v X off (inb5 h k e) l := by
  subst e
  unfold ld5
  rw [View.readAt_eq_ld, View.ld_apply]
  congr 1
  funext a
  apply Fin.ext
  match a with
  | 0 => rfl
  | 1 => rfl
  | 2 => rfl
  | 3 => rfl
  | 4 => show l.val = 0 + 1 * l.val; omega

theorem ld5_eq {b : EltTy} {κ : Kind} {sp : Space} (v : View sig κ sp S1x4x4x1x512 b)
    (X : v.ty.Contents (Elt Ideal)) (C : Fin 4 → Fin 2048 → Elt Ideal b)
    (hC : ∀ h k l, v.read (Elt Ideal) X (ix5 0 h k 0 l) = C h (row k l)) {off : Fin 5 → ℕ}
    (h k : Fin 4) (e : off = ![0, h.val, k.val, 0, 0]) :
    chunk (C h) k = ld5 v X off (inb5 h k e) :=
  funext fun l => (hC h k l).symm.trans (ld5_read v X h k e l)

theorem off1_eq (i : grid0.Coords) (k : Fin (k0_t1_loop i).trips) :
    k0_off1 i k = ![(0 : Fin 4).val, 512 * (⟨k, trips_lt i k⟩ : Fin 4).val, 0] := by
  unfold k0_off1
  exact congrArg (fun n => (![0, n, 0] : Fin 3 → ℕ)) (iv_mul k.val (trips_lt i k))

theorem off2_eq (i : grid0.Coords) (k : Fin (k0_t1_loop i).trips) :
    k0_off2 i k = ![0, (0 : Fin 4).val, (⟨k, trips_lt i k⟩ : Fin 4).val, 0, 0] := by
  unfold k0_off2
  exact congrArg (fun n => (![0, 0, n, 0, 0] : Fin 5 → ℕ)) (iv_self k.val (trips_lt i k))

theorem off3_eq (i : grid0.Coords) (k : Fin (k0_t1_loop i).trips) :
    k0_off3 i k = ![(1 : Fin 4).val, 512 * (⟨k, trips_lt i k⟩ : Fin 4).val, 0] := by
  unfold k0_off3
  exact congrArg (fun n => (![1, n, 0] : Fin 3 → ℕ)) (iv_mul k.val (trips_lt i k))

theorem off4_eq (i : grid0.Coords) (k : Fin (k0_t1_loop i).trips) :
    k0_off4 i k = ![0, (1 : Fin 4).val, (⟨k, trips_lt i k⟩ : Fin 4).val, 0, 0] := by
  unfold k0_off4
  exact congrArg (fun n => (![0, 1, n, 0, 0] : Fin 5 → ℕ)) (iv_self k.val (trips_lt i k))

theorem off5_eq (i : grid0.Coords) (k : Fin (k0_t1_loop i).trips) :
    k0_off5 i k = ![(2 : Fin 4).val, 512 * (⟨k, trips_lt i k⟩ : Fin 4).val, 0] := by
  unfold k0_off5
  exact congrArg (fun n => (![2, n, 0] : Fin 3 → ℕ)) (iv_mul k.val (trips_lt i k))

theorem off6_eq (i : grid0.Coords) (k : Fin (k0_t1_loop i).trips) :
    k0_off6 i k = ![0, (2 : Fin 4).val, (⟨k, trips_lt i k⟩ : Fin 4).val, 0, 0] := by
  unfold k0_off6
  exact congrArg (fun n => (![0, 2, n, 0, 0] : Fin 5 → ℕ)) (iv_self k.val (trips_lt i k))

theorem off7_eq (i : grid0.Coords) (k : Fin (k0_t1_loop i).trips) :
    k0_off7 i k = ![(3 : Fin 4).val, 512 * (⟨k, trips_lt i k⟩ : Fin 4).val, 0] := by
  unfold k0_off7
  exact congrArg (fun n => (![3, n, 0] : Fin 3 → ℕ)) (iv_mul k.val (trips_lt i k))

theorem off8_eq (i : grid0.Coords) (k : Fin (k0_t1_loop i).trips) :
    k0_off8 i k = ![0, (3 : Fin 4).val, (⟨k, trips_lt i k⟩ : Fin 4).val, 0, 0] := by
  unfold k0_off8
  exact congrArg (fun n => (![0, 3, n, 0, 0] : Fin 5 → ℕ)) (iv_self k.val (trips_lt i k))

theorem mem5 (h k : Fin 4) (l : Fin 512) : ∀ a : Fin 5,
    ((ix5 0 h k 0 l : S1x4x4x1x512.Idx) a).val = (![0, h.val, k.val, 0, 0] : Fin 5 → ℕ) a
      + ((ix5 0 0 0 0 l : (⟨5, ![1, 1, 1, 1, 512]⟩ : Shape).Idx) a).val := by
  intro a
  match a with
  | 0 => rfl
  | 1 => rfl
  | 2 => rfl
  | 3 => rfl
  | 4 => exact (Nat.zero_add l.val).symm

/-- The weights of the tile of one head's queries against one chunk of its keys. -/
def tw (q : FVec Ideal S512x64 .bf16) (cq ls : FVec Ideal S512x1 .f32)
    (K : Fin 512 → Fin 64 → EReal) (C : Fin 512 → EReal) (r l : Fin 512) : EReal :=
  wt (fun r x => q (ix2 r x)) K (fun r => cq (ix2 r 0)) (fun r => ls (ix2 r 0)) C r l

/-- The gradients of that tile's scores. -/
def tds (q dy : FVec Ideal S512x64 .bf16) (cq ls dl : FVec Ideal S512x1 .f32)
    (K V : Fin 512 → Fin 64 → EReal) (C : Fin 512 → EReal) (r l : Fin 512) : EReal :=
  ds (tw q cq ls K C) (fun r x => dy (ix2 r x)) V (fun r => dl (ix2 r 0)) r l

/-- What the loop carries: per head a `512 × 64` and a `512 × 1` array. -/
abbrev Carry : Type := FVec Ideal S512x64 .f32 × FVec Ideal S512x1 .f32 × FVec Ideal S512x64 .f32 ×
  FVec Ideal S512x1 .f32 × FVec Ideal S512x64 .f32 × FVec Ideal S512x1 .f32 ×
  FVec Ideal S512x64 .f32 × FVec Ideal S512x1 .f32

/-- The four heads' `512 × 64` arrays of the carried value. -/
def carQ (a : Carry) : Fin 4 → FVec Ideal S512x64 .f32 :=
  ![a.1, a.2.2.1, a.2.2.2.2.1, a.2.2.2.2.2.2.1]

/-- The four heads' `512 × 1` arrays of the carried value. -/
def carC (a : Carry) : Fin 4 → FVec Ideal S512x1 .f32 :=
  ![a.2.1, a.2.2.2.1, a.2.2.2.2.2.1, a.2.2.2.2.2.2.2]

end Cert.FoxV
-- ==== Proof.Fox.Vec.lean ====
module
public import proofs.«01_k».proof.Proof.Fox.Base
/-! # One head of a block

The kernel keeps four heads of 64 columns side by side.  It takes a head out of a block, and puts a
head back into one, by a product with a matrix of zeros and ones. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

/-- Column `d` of head `h`. -/
def col (h : Fin 4) (d : Fin 64) : Fin 256 := ⟨64 * h.val + d.val, by omega⟩

/-- An entry of the matrix of zeros and ones. -/
theorem sel_eq (n : ℕ) (hn : n ≤ 192) (x : Fin 256) (d : Fin 64) :
    (FloatOps.sitofp (F := Ideal) FTy.f32 (BitVec.setWidth 32 (IntOp.cmpi CmpIPredicate.eq (BitVec.ofNat 32 x.val)
      (IntOp.addi (BitVec.ofNat 32 d.val) (BitVec.ofNat 32 n)))) : EReal) = if x.val = n + d.val then 1 else 0 := by
  have hx := x.isLt
  have hd := d.isLt
  have e : (BitVec.ofNat 32 x.val = BitVec.ofNat 32 d.val + BitVec.ofNat 32 n) ↔ x.val = n + d.val := by
    rw [← BitVec.ofNat_add, ← BitVec.toNat_inj, BitVec.toNat_ofNat, BitVec.toNat_ofNat,
      Nat.mod_eq_of_lt (by omega), Nat.mod_eq_of_lt (by omega)]
    omega
  show ((BitVec.setWidth 32 (IntOp.cmpi CmpIPredicate.eq (BitVec.ofNat 32 x.val)
      (BitVec.ofNat 32 d.val + BitVec.ofNat 32 n))).toInt : ℝ) = (_ : EReal)
  by_cases h : x.val = n + d.val
  · rw [if_pos h, e.2 h]
    simp [IntOp.cmpi]
  · have h' : ¬ BitVec.ofNat 32 x.val = BitVec.ofNat 32 d.val + BitVec.ofNat 32 n := fun t => h (e.1 t)
    rw [if_neg h]
    have : (BitVec.ofNat 32 x.val == BitVec.ofNat 32 d.val + BitVec.ofNat 32 n) = false := by simpa using h'
    simp [IntOp.cmpi, this]

/-- Taking a head out. -/
theorem pick_sum (f : Fin 256 → EReal) (h : Fin 4) (d : Fin 64) (n : ℕ) (hn : n = 64 * h.val) :
    ∑ x : Fin 256, f x * (FloatOps.sitofp (F := Ideal) FTy.f32 (BitVec.setWidth 32 (IntOp.cmpi CmpIPredicate.eq
      (BitVec.ofNat 32 x.val) (IntOp.addi (BitVec.ofNat 32 d.val) (BitVec.ofNat 32 n)))) : EReal)
      = f (col h d) := by
  have hh := h.isLt
  rw [Finset.sum_eq_single (col h d)]
  · rw [sel_eq n (by omega), if_pos (by subst hn; rfl), mul_one]
  · intro b _ hb
    rw [sel_eq n (by omega), if_neg (fun t => hb (Fin.ext (by rw [t, hn]; rfl))), mul_zero]
  · intro hb
    exact absurd (Finset.mem_univ _) hb

/-- Putting head `h'` back: column `x` of head `h` gets something only from the same head. -/
theorem place_sum (f : Fin 64 → EReal) (h h' : Fin 4) (x : Fin 64) (n : ℕ) (hn : n = 64 * h'.val) :
    ∑ d : Fin 64, f d * (FloatOps.sitofp (F := Ideal) FTy.f32 (BitVec.setWidth 32 (IntOp.cmpi CmpIPredicate.eq
      (BitVec.ofNat 32 (col h x).val) (IntOp.addi (BitVec.ofNat 32 d.val) (BitVec.ofNat 32 n)))) : EReal)
      = if h = h' then f x else 0 := by
  have hh := h.isLt
  have hh' := h'.isLt
  have hx := x.isLt
  have hc : (col h x).val = 64 * h.val + x.val := rfl
  by_cases e : h = h'
  · subst e
    rw [if_pos rfl, Finset.sum_eq_single x]
    · rw [sel_eq n (by omega), if_pos (by omega), mul_one]
    · intro b _ hb
      rw [sel_eq n (by omega), if_neg (fun t => hb (Fin.ext (by omega))), mul_zero]
    · intro hb
      exact absurd (Finset.mem_univ _) hb
  · have e' : h.val ≠ h'.val := fun t => e (Fin.ext t)
    rw [if_neg e]
    refine Finset.sum_eq_zero fun b _ => ?_
    have := b.isLt
    rw [sel_eq n (by omega), if_neg (by omega), mul_zero]

/-- Of the four heads put back only one reaches a column. -/
theorem place4 (f : Fin 4 → EReal) (h : Fin 4) : (if h = 0 then f 0 else 0) + (if h = 1 then f 1 else 0)
    + (if h = 2 then f 2 else 0) + (if h = 3 then f 3 else 0) = f h := by
  match h with
  | 0 => simp
  | 1 => simp
  | 2 => simp
  | 3 => simp

/-- One eighth. -/
theorem eighth : (Ideal.ofBits FTy.f32 1040187392#32 : EReal) = ((1 / 8 : ℝ) : EReal) := by
  simp [Ideal.ofBits, Ideal.ieee, -EReal.coe_mul]
  norm_num

/-- The scaled queries of head `h` from the block of queries. -/
def qv (X : Vec Ideal S512x256 .bf16) : Fin 4 → FVec Ideal S512x64 .bf16 :=
  ![k0_pay105 X, k0_pay106 X, k0_pay109 (k0_pay107 X) k0_pay108, k0_pay110 k0_pay102 X]

/-- The gradients of the outputs of head `h`. -/
def dv' (X : Vec Ideal S512x256 .bf16) : Fin 4 → FVec Ideal S512x64 .bf16 :=
  ![k0_pay111 k0_pay99 X, k0_pay112 k0_pay100 X, k0_pay113 k0_pay101 X, k0_pay114 k0_pay102 X]

theorem qv_at (X : Vec Ideal S512x256 .bf16) (h : Fin 4) (r : Fin 512) (d : Fin 64) :
    (qv X h (ix2 r d) : EReal) = X (ix2 r (col h d)) * Ideal.ofBits FTy.f32 1040187392#32 := by
  unfold qv
  match h with
  | 0 =>
    show (k0_pay105 X (ix2 r d) : EReal) = _
    unfold_payloads
    pointwise
    exact congrArg (· * Ideal.ofBits FTy.f32 1040187392#32) (pick_sum (fun x => X (ix2 r x)) 0 d 0 rfl)
  | 1 =>
    show (k0_pay106 X (ix2 r d) : EReal) = _
    unfold_payloads
    pointwise
    exact congrArg (· * Ideal.ofBits FTy.f32 1040187392#32) (pick_sum (fun x => X (ix2 r x)) 1 d 64 rfl)
  | 2 =>
    show (k0_pay109 (k0_pay107 X) k0_pay108 (ix2 r d) : EReal) = _
    unfold_payloads
    pointwise
    exact congrArg (· * Ideal.ofBits FTy.f32 1040187392#32) (pick_sum (fun x => X (ix2 r x)) 2 d 128 rfl)
  | 3 =>
    show (k0_pay110 k0_pay102 X (ix2 r d) : EReal) = _
    unfold_payloads
    pointwise
    exact congrArg (· * Ideal.ofBits FTy.f32 1040187392#32) (pick_sum (fun x => X (ix2 r x)) 3 d 192 rfl)

theorem dv'_at (X : Vec Ideal S512x256 .bf16) (h : Fin 4) (r : Fin 512) (d : Fin 64) :
    (dv' X h (ix2 r d) : EReal) = X (ix2 r (col h d)) := by
  unfold dv'
  match h with
  | 0 =>
    show (k0_pay111 k0_pay99 X (ix2 r d) : EReal) = _
    unfold_payloads
    pointwise
    exact pick_sum (fun x => X (ix2 r x)) 0 d 0 rfl
  | 1 =>
    show (k0_pay112 k0_pay100 X (ix2 r d) : EReal) = _
    unfold_payloads
    pointwise
    exact pick_sum (fun x => X (ix2 r x)) 1 d 64 rfl
  | 2 =>
    show (k0_pay113 k0_pay101 X (ix2 r d) : EReal) = _
    unfold_payloads
    pointwise
    exact pick_sum (fun x => X (ix2 r x)) 2 d 128 rfl
  | 3 =>
    show (k0_pay114 k0_pay102 X (ix2 r d) : EReal) = _
    unfold_payloads
    pointwise
    exact pick_sum (fun x => X (ix2 r x)) 3 d 192 rfl

/-- The block of `dq` from the four heads'. -/
theorem dq_at (p : Fin 4 → FVec Ideal S512x64 .f32) (h : Fin 4) (r : Fin 512) (d : Fin 64) :
    (k0_pay1 (k0_pay182 k0_pay99 k0_pay100 k0_pay101 k0_pay102 (p 0) (p 1) (p 2) (p 3) k0_pay178)
      (ix2 r (col h d)) : EReal) = p h (ix2 r d) * Ideal.ofBits FTy.f32 1040187392#32 := by
  unfold_payloads
  pointwise
  exact (congrArg₂ (· + ·) (congrArg₂ (· + ·) (congrArg₂ (· + ·)
      (place_sum (fun x => p 0 (ix2 r x) * Ideal.ofBits FTy.f32 1040187392#32) h 0 d 0 rfl)
      (place_sum (fun x => p 1 (ix2 r x) * Ideal.ofBits FTy.f32 1040187392#32) h 1 d 64 rfl))
      (place_sum (fun x => p 2 (ix2 r x) * Ideal.ofBits FTy.f32 1040187392#32) h 2 d 128 rfl))
      (place_sum (fun x => p 3 (ix2 r x) * Ideal.ofBits FTy.f32 1040187392#32) h 3 d 192 rfl)).trans
    (place4 (fun H => p H (ix2 r d) * Ideal.ofBits FTy.f32 1040187392#32) h)

/-- The block of `dk` from the four heads'. -/
theorem dk_at (p : Fin 4 → Vec Ideal S1x2048x64 .f32) (h : Fin 4) (s : Fin 2048) (d : Fin 64) :
    (k0_pay2 k0_pay102 (k0_pay97 k0_pay99 k0_pay100 k0_pay101 (p 0) (p 1) (p 2)) (p 3)
      (ix2 s (col h d)) : EReal) = p h (ix3 0 s d) := by
  unfold_payloads
  pointwise
  exact (congrArg₂ (· + ·) (congrArg₂ (· + ·) (congrArg₂ (· + ·)
      (place_sum (fun x => p 0 (ix3 0 s x)) h 0 d 0 rfl) (place_sum (fun x => p 1 (ix3 0 s x)) h 1 d 64 rfl))
      (place_sum (fun x => p 2 (ix3 0 s x)) h 2 d 128 rfl)) (place_sum (fun x => p 3 (ix3 0 s x)) h 3 d 192 rfl)).trans
    (place4 (fun H => p H (ix3 0 s d)) h)

/-- The block of `dv` from the four heads'. -/
theorem dv_at (p : Fin 4 → Vec Ideal S1x2048x64 .f32) (h : Fin 4) (s : Fin 2048) (d : Fin 64) :
    (k0_pay3 k0_pay102 (k0_pay98 k0_pay99 k0_pay100 k0_pay101 (p 0) (p 1) (p 2)) (p 3)
      (ix2 s (col h d)) : EReal) = p h (ix3 0 s d) := by
  unfold_payloads
  pointwise
  exact (congrArg₂ (· + ·) (congrArg₂ (· + ·) (congrArg₂ (· + ·)
      (place_sum (fun x => p 0 (ix3 0 s x)) h 0 d 0 rfl) (place_sum (fun x => p 1 (ix3 0 s x)) h 1 d 64 rfl))
      (place_sum (fun x => p 2 (ix3 0 s x)) h 2 d 128 rfl)) (place_sum (fun x => p 3 (ix3 0 s x)) h 3 d 192 rfl)).trans
    (place4 (fun H => p H (ix3 0 s d)) h)

end Cert.FoxV
-- ==== Proof.Fox.Diag.lean ====
module
public import proofs.«01_k».proof.Proof.Fox.Base
/-! # The masked tile on the diagonal, head by head

At the end of a grid point the kernel treats the tile of queries against the keys of the same
chunk, where a key counts only when it does not lie after the query.  Each lemma reads one of the
five payloads of one head. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

/-- The weight of key `l` for query `r` in a masked tile: an excluded key takes the named constant
for its score. -/
def twd (q : FVec Ideal S512x64 .bf16) (cq ls : FVec Ideal S512x1 .f32) (K : Fin 512 → Fin 64 → EReal) (C : Fin 512 → EReal) (r l : Fin 512) : EReal :=
  Ideal.exp (Scalar.select (IntOp.cmpi CmpIPredicate.sge (BitVec.ofNat 32 r.val) (BitVec.ofNat 32 l.val))
    (∑ x : Fin 64, q (ix2 r x) * K l x + (cq (ix2 r 0) - C l)) (Named.named (F := Ideal) κ "mask" (φ := .f32) 4048155338#32) - ls (ix2 r 0))

/-- The gradient of that masked score. -/
def tdd (q dy : FVec Ideal S512x64 .bf16) (cq ls dl : FVec Ideal S512x1 .f32) (K V : Fin 512 → Fin 64 → EReal) (C : Fin 512 → EReal) (r l : Fin 512) : EReal :=
  twd q cq ls K C r l * (∑ x : Fin 64, dy (ix2 r x) * V l x - dl (ix2 r 0))

/-- The masked weight with the mask spelt out. -/
theorem twd_eq (q : FVec Ideal S512x64 .bf16) (cq ls : FVec Ideal S512x1 .f32) (K : Fin 512 → Fin 64 → EReal) (C : Fin 512 → EReal) (r l : Fin 512) :
    twd q cq ls K C r l = Ideal.exp ((if l ≤ r then ∑ x : Fin 64, q (ix2 r x) * K l x + (cq (ix2 r 0) - C l) else ⊥) - ls (ix2 r 0)) := by
  have hm : (Named.named (F := Ideal) κ "mask" (φ := .f32) 4048155338#32) = (⊥ : EReal) := rfl
  have hr := r.isLt
  have hl := l.isLt
  have e : ∀ n : Nat, n < 512 → (BitVec.ofNat 32 n).toInt = (n : Int) := fun n hn => by
    rw [BitVec.toInt_ofNat']; simp [Int.bmod]; omega
  unfold twd
  rw [hm]
  congr 2
  by_cases h : l ≤ r
  · rw [if_pos h]
    have : (BitVec.ofNat 32 l.val).sle (BitVec.ofNat 32 r.val) = true := by
      rw [BitVec.sle_iff_toInt_le, e _ hr, e _ hl]; exact_mod_cast h
    simp [Scalar.select, IntOp.cmpi, this]
  · rw [if_neg h]
    have : (BitVec.ofNat 32 l.val).sle (BitVec.ofNat 32 r.val) = false := by
      rw [← Bool.not_eq_true, BitVec.sle_iff_toInt_le, e _ hr, e _ hl]; intro h'; exact h (by exact_mod_cast h')
    simp [Scalar.select, IntOp.cmpi, this]

/-- Head 0, payload for `dk`. -/
theorem d0_dk (q dy : FVec Ideal S512x64 .bf16) (cq ls dl : FVec Ideal S512x1 .f32) (K : Vec Ideal S1x512x64 .bf16) (C : Vec Ideal S1x1x1x1x512 .f32) (V : Vec Ideal S1x512x64 .bf16) (prev : Vec Ideal S1x512x64 .f32) (l : Fin 512) (d : Fin 64) :
    (k0_pay144 q (k0_pay142 q dy cq ls dl K C V) prev (ix3 0 l d) : EReal) = prev (ix3 0 l d) + ∑ r : Fin 512, tdd q dy cq ls dl (fun l x => K (ix3 0 l x)) (fun l x => V (ix3 0 l x)) (fun l => C (ix5 0 0 0 0 l)) r l * q (ix2 r d) := by
  unfold_payloads
  pointwise
  rfl

/-- Head 0, payload for `dv`. -/
theorem d0_dv (q dy : FVec Ideal S512x64 .bf16) (cq ls : FVec Ideal S512x1 .f32) (K : Vec Ideal S1x512x64 .bf16) (C : Vec Ideal S1x1x1x1x512 .f32) (prev : Vec Ideal S1x512x64 .f32) (l : Fin 512) (d : Fin 64) :
    (k0_pay145 dy (k0_pay140 q cq ls K C) prev (ix3 0 l d) : EReal) = prev (ix3 0 l d) + ∑ r : Fin 512, twd q cq ls (fun l x => K (ix3 0 l x)) (fun l => C (ix5 0 0 0 0 l)) r l * dy (ix2 r d) := by
  unfold_payloads
  pointwise
  rfl

/-- Head 0, payload for `dck`. -/
theorem d0_dck (q dy : FVec Ideal S512x64 .bf16) (cq ls dl : FVec Ideal S512x1 .f32) (K : Vec Ideal S1x512x64 .bf16) (C : Vec Ideal S1x1x1x1x512 .f32) (V : Vec Ideal S1x512x64 .bf16) (prev : Vec Ideal S1x1x1x1x512 .f32) (l : Fin 512) :
    (k0_pay146 (k0_pay141 q dy cq ls dl K C V) prev (ix5 0 0 0 0 l) : EReal) = prev (ix5 0 0 0 0 l) + (0 - ∑ r : Fin 512, tdd q dy cq ls dl (fun l x => K (ix3 0 l x)) (fun l x => V (ix3 0 l x)) (fun l => C (ix5 0 0 0 0 l)) r l) := by
  unfold_payloads
  pointwise
  rfl

/-- Head 0, payload for `dq`. -/
theorem d0_dq (q dy : FVec Ideal S512x64 .bf16) (cq ls dl : FVec Ideal S512x1 .f32) (K : Vec Ideal S1x512x64 .bf16) (C : Vec Ideal S1x1x1x1x512 .f32) (V : Vec Ideal S1x512x64 .bf16) (a : FVec Ideal S512x64 .f32) (r : Fin 512) (d : Fin 64) :
    (k0_pay143 a (k0_pay139 K) (k0_pay142 q dy cq ls dl K C V) (ix2 r d) : EReal) = a (ix2 r d) + ∑ l : Fin 512, tdd q dy cq ls dl (fun l x => K (ix3 0 l x)) (fun l x => V (ix3 0 l x)) (fun l => C (ix5 0 0 0 0 l)) r l * K (ix3 0 l d) := by
  unfold_payloads
  pointwise
  rfl

/-- Head 0, payload for `dcq`. -/
theorem d0_dcq (q dy : FVec Ideal S512x64 .bf16) (cq ls dl : FVec Ideal S512x1 .f32) (K : Vec Ideal S1x512x64 .bf16) (C : Vec Ideal S1x1x1x1x512 .f32) (V : Vec Ideal S1x512x64 .bf16) (a : FVec Ideal S512x1 .f32) (r : Fin 512) :
    (k0_pay148 a (k0_pay147 (k0_pay141 q dy cq ls dl K C V)) (ix2 r 0) : EReal) = a (ix2 r 0) + ∑ l : Fin 512, tdd q dy cq ls dl (fun l x => K (ix3 0 l x)) (fun l x => V (ix3 0 l x)) (fun l => C (ix5 0 0 0 0 l)) r l := by
  unfold_payloads
  pointwise
  rfl

/-- Head 1, payload for `dk`. -/
theorem d1_dk (q dy : FVec Ideal S512x64 .bf16) (cq ls dl : FVec Ideal S512x1 .f32) (K : Vec Ideal S1x512x64 .bf16) (C : Vec Ideal S1x1x1x1x512 .f32) (V : Vec Ideal S1x512x64 .bf16) (prev : Vec Ideal S1x512x64 .f32) (l : Fin 512) (d : Fin 64) :
    (k0_pay154 q dy cq ls dl K C V prev (ix3 0 l d) : EReal) = prev (ix3 0 l d) + ∑ r : Fin 512, tdd q dy cq ls dl (fun l x => K (ix3 0 l x)) (fun l x => V (ix3 0 l x)) (fun l => C (ix5 0 0 0 0 l)) r l * q (ix2 r d) := by
  unfold_payloads
  pointwise
  rfl

/-- Head 1, payload for `dv`. -/
theorem d1_dv (q dy : FVec Ideal S512x64 .bf16) (cq ls : FVec Ideal S512x1 .f32) (K : Vec Ideal S1x512x64 .bf16) (C : Vec Ideal S1x1x1x1x512 .f32) (prev : Vec Ideal S1x512x64 .f32) (l : Fin 512) (d : Fin 64) :
    (k0_pay155 dy (k0_pay150 q cq ls K C) prev (ix3 0 l d) : EReal) = prev (ix3 0 l d) + ∑ r : Fin 512, twd q cq ls (fun l x => K (ix3 0 l x)) (fun l => C (ix5 0 0 0 0 l)) r l * dy (ix2 r d) := by
  unfold_payloads
  pointwise
  rfl

/-- Head 1, payload for `dck`. -/
theorem d1_dck (q dy : FVec Ideal S512x64 .bf16) (cq ls dl : FVec Ideal S512x1 .f32) (K : Vec Ideal S1x512x64 .bf16) (C : Vec Ideal S1x1x1x1x512 .f32) (V : Vec Ideal S1x512x64 .bf16) (prev : Vec Ideal S1x1x1x1x512 .f32) (l : Fin 512) :
    (k0_pay156 (k0_pay151 q dy cq ls dl K C V) prev (ix5 0 0 0 0 l) : EReal) = prev (ix5 0 0 0 0 l) + (0 - ∑ r : Fin 512, tdd q dy cq ls dl (fun l x => K (ix3 0 l x)) (fun l x => V (ix3 0 l x)) (fun l => C (ix5 0 0 0 0 l)) r l) := by
  unfold_payloads
  pointwise
  rfl

/-- Head 1, payload for `dq`. -/
theorem d1_dq (q dy : FVec Ideal S512x64 .bf16) (cq ls dl : FVec Ideal S512x1 .f32) (K : Vec Ideal S1x512x64 .bf16) (C : Vec Ideal S1x1x1x1x512 .f32) (V : Vec Ideal S1x512x64 .bf16) (a : FVec Ideal S512x64 .f32) (r : Fin 512) (d : Fin 64) :
    (k0_pay153 q dy cq ls dl a K C V (ix2 r d) : EReal) = a (ix2 r d) + ∑ l : Fin 512, tdd q dy cq ls dl (fun l x => K (ix3 0 l x)) (fun l x => V (ix3 0 l x)) (fun l => C (ix5 0 0 0 0 l)) r l * K (ix3 0 l d) := by
  unfold_payloads
  pointwise
  rfl

/-- Head 1, payload for `dcq`. -/
theorem d1_dcq (q dy : FVec Ideal S512x64 .bf16) (cq ls dl : FVec Ideal S512x1 .f32) (K : Vec Ideal S1x512x64 .bf16) (C : Vec Ideal S1x1x1x1x512 .f32) (V : Vec Ideal S1x512x64 .bf16) (a : FVec Ideal S512x1 .f32) (r : Fin 512) :
    (k0_pay157 a (k0_pay151 q dy cq ls dl K C V) (ix2 r 0) : EReal) = a (ix2 r 0) + ∑ l : Fin 512, tdd q dy cq ls dl (fun l x => K (ix3 0 l x)) (fun l x => V (ix3 0 l x)) (fun l => C (ix5 0 0 0 0 l)) r l := by
  unfold_payloads
  pointwise
  rfl

/-- Head 2, payload for `dk`. -/
theorem d2_dk (q dy : FVec Ideal S512x64 .bf16) (cq ls dl : FVec Ideal S512x1 .f32) (K : Vec Ideal S1x512x64 .bf16) (C : Vec Ideal S1x1x1x1x512 .f32) (V : Vec Ideal S1x512x64 .bf16) (prev : Vec Ideal S1x512x64 .f32) (l : Fin 512) (d : Fin 64) :
    (k0_pay164 q dy ls dl (k0_pay159 q cq K C) (iota Kind.tc S512x512 32 [0] iota_S512x512_d0_w32) (iota Kind.tc S512x512 32 [1] iota_S512x512_d1_w32) V prev (ix3 0 l d) : EReal) = prev (ix3 0 l d) + ∑ r : Fin 512, tdd q dy cq ls dl (fun l x => K (ix3 0 l x)) (fun l x => V (ix3 0 l x)) (fun l => C (ix5 0 0 0 0 l)) r l * q (ix2 r d) := by
  unfold_payloads
  pointwise
  rfl

/-- Head 2, payload for `dv`. -/
theorem d2_dv (q dy : FVec Ideal S512x64 .bf16) (cq ls : FVec Ideal S512x1 .f32) (K : Vec Ideal S1x512x64 .bf16) (C : Vec Ideal S1x1x1x1x512 .f32) (prev : Vec Ideal S1x512x64 .f32) (l : Fin 512) (d : Fin 64) :
    (k0_pay165 dy ls (k0_pay159 q cq K C) (iota Kind.tc S512x512 32 [0] iota_S512x512_d0_w32) (iota Kind.tc S512x512 32 [1] iota_S512x512_d1_w32) prev (ix3 0 l d) : EReal) = prev (ix3 0 l d) + ∑ r : Fin 512, twd q cq ls (fun l x => K (ix3 0 l x)) (fun l => C (ix5 0 0 0 0 l)) r l * dy (ix2 r d) := by
  unfold_payloads
  pointwise
  rfl

/-- Head 2, payload for `dck`. -/
theorem d2_dck (q dy : FVec Ideal S512x64 .bf16) (cq ls dl : FVec Ideal S512x1 .f32) (K : Vec Ideal S1x512x64 .bf16) (C : Vec Ideal S1x1x1x1x512 .f32) (V : Vec Ideal S1x512x64 .bf16) (prev : Vec Ideal S1x1x1x1x512 .f32) (l : Fin 512) :
    (k0_pay167 (k0_pay161 dy ls dl (k0_pay159 q cq K C) (iota Kind.tc S512x512 32 [0] iota_S512x512_d0_w32) (iota Kind.tc S512x512 32 [1] iota_S512x512_d1_w32) V) (k0_pay166 prev) (ix5 0 0 0 0 l) : EReal) = prev (ix5 0 0 0 0 l) + (0 - ∑ r : Fin 512, tdd q dy cq ls dl (fun l x => K (ix3 0 l x)) (fun l x => V (ix3 0 l x)) (fun l => C (ix5 0 0 0 0 l)) r l) := by
  unfold_payloads
  pointwise
  rfl

/-- Head 2, payload for `dq`. -/
theorem d2_dq (q dy : FVec Ideal S512x64 .bf16) (cq ls dl : FVec Ideal S512x1 .f32) (K : Vec Ideal S1x512x64 .bf16) (C : Vec Ideal S1x1x1x1x512 .f32) (V : Vec Ideal S1x512x64 .bf16) (a : FVec Ideal S512x64 .f32) (r : Fin 512) (d : Fin 64) :
    (k0_pay163 dy ls dl a (k0_pay158 K) (k0_pay159 q cq K C) (iota Kind.tc S512x512 32 [0] iota_S512x512_d0_w32) (iota Kind.tc S512x512 32 [1] iota_S512x512_d1_w32) V (ix2 r d) : EReal) = a (ix2 r d) + ∑ l : Fin 512, tdd q dy cq ls dl (fun l x => K (ix3 0 l x)) (fun l x => V (ix3 0 l x)) (fun l => C (ix5 0 0 0 0 l)) r l * K (ix3 0 l d) := by
  unfold_payloads
  pointwise
  rfl

/-- Head 2, payload for `dcq`. -/
theorem d2_dcq (q dy : FVec Ideal S512x64 .bf16) (cq ls dl : FVec Ideal S512x1 .f32) (K : Vec Ideal S1x512x64 .bf16) (C : Vec Ideal S1x1x1x1x512 .f32) (V : Vec Ideal S1x512x64 .bf16) (a : FVec Ideal S512x1 .f32) (r : Fin 512) :
    (k0_pay168 a (k0_pay161 dy ls dl (k0_pay159 q cq K C) (iota Kind.tc S512x512 32 [0] iota_S512x512_d0_w32) (iota Kind.tc S512x512 32 [1] iota_S512x512_d1_w32) V) (ix2 r 0) : EReal) = a (ix2 r 0) + ∑ l : Fin 512, tdd q dy cq ls dl (fun l x => K (ix3 0 l x)) (fun l x => V (ix3 0 l x)) (fun l => C (ix5 0 0 0 0 l)) r l := by
  unfold_payloads
  pointwise
  rfl

/-- Head 3, payload for `dk`. -/
theorem d3_dk (q dy : FVec Ideal S512x64 .bf16) (cq ls dl : FVec Ideal S512x1 .f32) (K : Vec Ideal S1x512x64 .bf16) (C : Vec Ideal S1x1x1x1x512 .f32) (V : Vec Ideal S1x512x64 .bf16) (prev : Vec Ideal S1x512x64 .f32) (l : Fin 512) (d : Fin 64) :
    (k0_pay174 q (k0_pay172 q dy cq ls dl K C V) prev (ix3 0 l d) : EReal) = prev (ix3 0 l d) + ∑ r : Fin 512, tdd q dy cq ls dl (fun l x => K (ix3 0 l x)) (fun l x => V (ix3 0 l x)) (fun l => C (ix5 0 0 0 0 l)) r l * q (ix2 r d) := by
  unfold_payloads
  pointwise
  rfl

/-- Head 3, payload for `dv`. -/
theorem d3_dv (q dy : FVec Ideal S512x64 .bf16) (cq ls : FVec Ideal S512x1 .f32) (K : Vec Ideal S1x512x64 .bf16) (C : Vec Ideal S1x1x1x1x512 .f32) (prev : Vec Ideal S1x512x64 .f32) (l : Fin 512) (d : Fin 64) :
    (k0_pay175 dy (k0_pay170 q cq ls K C) prev (ix3 0 l d) : EReal) = prev (ix3 0 l d) + ∑ r : Fin 512, twd q cq ls (fun l x => K (ix3 0 l x)) (fun l => C (ix5 0 0 0 0 l)) r l * dy (ix2 r d) := by
  unfold_payloads
  pointwise
  rfl

/-- Head 3, payload for `dck`. -/
theorem d3_dck (q dy : FVec Ideal S512x64 .bf16) (cq ls dl : FVec Ideal S512x1 .f32) (K : Vec Ideal S1x512x64 .bf16) (C : Vec Ideal S1x1x1x1x512 .f32) (V : Vec Ideal S1x512x64 .bf16) (prev : Vec Ideal S1x1x1x1x512 .f32) (l : Fin 512) :
    (k0_pay176 (k0_pay171 q dy cq ls dl K C V) prev (ix5 0 0 0 0 l) : EReal) = prev (ix5 0 0 0 0 l) + (0 - ∑ r : Fin 512, tdd q dy cq ls dl (fun l x => K (ix3 0 l x)) (fun l x => V (ix3 0 l x)) (fun l => C (ix5 0 0 0 0 l)) r l) := by
  unfold_payloads
  pointwise
  rfl

/-- Head 3, payload for `dq`. -/
theorem d3_dq (q dy : FVec Ideal S512x64 .bf16) (cq ls dl : FVec Ideal S512x1 .f32) (K : Vec Ideal S1x512x64 .bf16) (C : Vec Ideal S1x1x1x1x512 .f32) (V : Vec Ideal S1x512x64 .bf16) (a : FVec Ideal S512x64 .f32) (r : Fin 512) (d : Fin 64) :
    (k0_pay173 q dy cq ls dl a K C V (ix2 r d) : EReal) = a (ix2 r d) + ∑ l : Fin 512, tdd q dy cq ls dl (fun l x => K (ix3 0 l x)) (fun l x => V (ix3 0 l x)) (fun l => C (ix5 0 0 0 0 l)) r l * K (ix3 0 l d) := by
  unfold_payloads
  pointwise
  rfl

/-- Head 3, payload for `dcq`. -/
theorem d3_dcq (q dy : FVec Ideal S512x64 .bf16) (cq ls dl : FVec Ideal S512x1 .f32) (K : Vec Ideal S1x512x64 .bf16) (C : Vec Ideal S1x1x1x1x512 .f32) (V : Vec Ideal S1x512x64 .bf16) (a : FVec Ideal S512x1 .f32) (r : Fin 512) :
    (k0_pay177 a (k0_pay171 q dy cq ls dl K C V) (ix2 r 0) : EReal) = a (ix2 r 0) + ∑ l : Fin 512, tdd q dy cq ls dl (fun l x => K (ix3 0 l x)) (fun l x => V (ix3 0 l x)) (fun l => C (ix5 0 0 0 0 l)) r l := by
  unfold_payloads
  pointwise
  rfl

end Cert.FoxV
-- ==== Proof.Fox.Comb.lean ====
module
public import proofs.«01_k».proof.Proof.Fox.Diag
/-! # The tiles of one grid point, put together

A grid point treats one chunk of 512 queries of one head.  Its tiles against the earlier chunks of
keys and the masked tile against its own make up one triangular matrix of weights. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

/-- The weight of key `s` for query `r` of chunk `j`; zero for a key after the query. -/
def gw (j : Fin 4) (Q : Fin 512 → Fin 64 → EReal) (CQ LS : Fin 512 → EReal) (K : Fin 2048 → Fin 64 → EReal)
    (C : Fin 2048 → EReal) (r : Fin 512) (s : Fin 2048) : EReal :=
  if s ≤ row j r then Ideal.exp (∑ x, Q r x * K s x + (CQ r - C s) - LS r) else 0

/-- The gradient of that score. -/
def gs (j : Fin 4) (Q DO : Fin 512 → Fin 64 → EReal) (CQ LS DL : Fin 512 → EReal)
    (K V : Fin 2048 → Fin 64 → EReal) (C : Fin 2048 → EReal) (r : Fin 512) (s : Fin 2048) : EReal :=
  gw j Q CQ LS K C r s * (∑ x, DO r x * V s x - DL r)

/-- The 2048 rows are four chunks of 512. -/
theorem sum_chunks (f : Fin 2048 → EReal) : ∑ k : Fin 4, ∑ l : Fin 512, f (row k l) = ∑ s, f s := by
  refine Fin.sum_mul_add_congr (S := 4) (n := 512) fun s k hl => congrArg f (Fin.ext ?_)
  change 512 * s.val + k.val = s.val * 512 + k.val
  omega

/-- A term of an earlier chunk, or of the own one; the later ones give zero. -/
theorem tri3 (k j : Fin 4) (a b g : EReal) (h1 : k.val < j.val → a = g) (h2 : k = j → b = g)
    (h3 : j.val < k.val → g = 0) : (if k.val < j.val then a else 0) + (if k = j then b else 0) = g := by
  rcases lt_trichotomy k.val j.val with h | h | h
  · have hn : k ≠ j := fun t => by subst t; exact lt_irrefl _ h
    rw [if_pos h, if_neg hn, add_zero, h1 h]
  · have hk : k = j := Fin.ext h
    rw [if_neg (by omega), if_pos hk, zero_add, h2 hk]
  · have hn : k ≠ j := fun t => by subst t; exact lt_irrefl _ h
    rw [if_neg (by omega), if_neg hn, zero_add, h3 h]

variable (j : Fin 4) (q dy : FVec Ideal S512x64 .bf16) (cq ls dl : FVec Ideal S512x1 .f32)
  (K V : Fin 2048 → Fin 64 → EReal) (C : Fin 2048 → EReal) (Q DO : Fin 512 → Fin 64 → EReal)
  (CQ LS DL : Fin 512 → EReal) (hq : ∀ r x, (q (ix2 r x) : EReal) = Q r x)
  (hdy : ∀ r x, (dy (ix2 r x) : EReal) = DO r x) (hcq : ∀ r, (cq (ix2 r 0) : EReal) = CQ r)
  (hls : ∀ r, (ls (ix2 r 0) : EReal) = LS r) (hdl : ∀ r, (dl (ix2 r 0) : EReal) = DL r)

theorem gw_above (k : Fin 4) (h : j.val < k.val) (r l : Fin 512) : gw j Q CQ LS K C r (row k l) = 0 := by
  have hr := r.isLt
  unfold gw
  rw [if_neg]
  intro h'
  have : 512 * k.val + l.val ≤ 512 * j.val + r.val := h'
  omega

theorem gs_above (k : Fin 4) (h : j.val < k.val) (r l : Fin 512) :
    gs j Q DO CQ LS DL K V C r (row k l) = 0 := by
  unfold gs
  rw [gw_above j K C Q CQ LS k h, zero_mul]

include hq hcq hls

theorem tw_before (k : Fin 4) (h : k.val < j.val) (r l : Fin 512) :
    tw q cq ls (chunk K k) (chunk C k) r l = gw j Q CQ LS K C r (row k l) := by
  have hl := l.isLt
  unfold gw
  rw [if_pos (show row k l ≤ row j r from (by omega : 512 * k.val + l.val ≤ 512 * j.val + r.val))]
  unfold tw wt
  simp only [hq, hcq, hls]
  rfl

theorem twd_own (r l : Fin 512) : twd q cq ls (chunk K j) (chunk C j) r l = gw j Q CQ LS K C r (row j l) := by
  rw [twd_eq]
  unfold gw
  simp only [hq, hcq, hls]
  by_cases h : l ≤ r
  · have h' : l.val ≤ r.val := h
    rw [if_pos h, if_pos (show row j l ≤ row j r from (by omega : 512 * j.val + l.val ≤ 512 * j.val + r.val))]
    rfl
  · have h' : ¬ l.val ≤ r.val := h
    rw [if_neg h, if_neg (show ¬ row j l ≤ row j r from (by omega : ¬ 512 * j.val + l.val ≤ 512 * j.val + r.val))]
    rw [sub_eq_add_neg, EReal.bot_add]
    exact Ideal.exp_bot

include hdy hdl

theorem tds_before (k : Fin 4) (h : k.val < j.val) (r l : Fin 512) :
    tds q dy cq ls dl (chunk K k) (chunk V k) (chunk C k) r l = gs j Q DO CQ LS DL K V C r (row k l) := by
  unfold tds ds gs
  rw [tw_before j q cq ls K C Q CQ LS hq hcq hls k h]
  simp only [hdy, hdl]
  rfl

theorem tdd_own (r l : Fin 512) :
    tdd q dy cq ls dl (chunk K j) (chunk V j) (chunk C j) r l = gs j Q DO CQ LS DL K V C r (row j l) := by
  unfold tdd gs
  rw [twd_own j q cq ls K C Q CQ LS hq hcq hls]
  simp only [hdy, hdl]
  rfl

/-- A chunk of `dk` after the point. -/
theorem comb_dk (p : EReal) (k : Fin 4) (l : Fin 512) (d : Fin 64) :
    (p + if k.val < j.val then ∑ r, tds q dy cq ls dl (chunk K k) (chunk V k) (chunk C k) r l * q (ix2 r d) else 0)
      + (if k = j then ∑ r, tdd q dy cq ls dl (chunk K j) (chunk V j) (chunk C j) r l * q (ix2 r d) else 0)
      = p + ∑ r, gs j Q DO CQ LS DL K V C r (row k l) * Q r d := by
  rw [add_assoc]
  congr 1
  refine tri3 k j _ _ _ (fun h => ?_) (fun h => ?_) (fun h => ?_)
  · refine Finset.sum_congr rfl fun r _ => ?_
    rw [tds_before j q dy cq ls dl K V C Q DO CQ LS DL hq hdy hcq hls hdl k h, hq]
  · subst h
    refine Finset.sum_congr rfl fun r _ => ?_
    rw [tdd_own k q dy cq ls dl K V C Q DO CQ LS DL hq hdy hcq hls hdl, hq]
  · refine Finset.sum_eq_zero fun r _ => ?_
    rw [gs_above j K V C Q DO CQ LS DL k h, zero_mul]

/-- A chunk of `dck` after the point. -/
theorem comb_dck (p : EReal) (k : Fin 4) (l : Fin 512) :
    (p + if k.val < j.val then 0 - ∑ r, tds q dy cq ls dl (chunk K k) (chunk V k) (chunk C k) r l else 0)
      + (if k = j then 0 - ∑ r, tdd q dy cq ls dl (chunk K j) (chunk V j) (chunk C j) r l else 0)
      = p + (0 - ∑ r, gs j Q DO CQ LS DL K V C r (row k l)) := by
  rw [add_assoc]
  congr 1
  refine tri3 k j _ _ _ (fun h => ?_) (fun h => ?_) (fun h => ?_)
  · congr 1
    refine Finset.sum_congr rfl fun r _ => ?_
    rw [tds_before j q dy cq ls dl K V C Q DO CQ LS DL hq hdy hcq hls hdl k h]
  · subst h
    congr 1
    refine Finset.sum_congr rfl fun r _ => ?_
    rw [tdd_own k q dy cq ls dl K V C Q DO CQ LS DL hq hdy hcq hls hdl]
  · rw [Finset.sum_eq_zero fun r _ => gs_above j K V C Q DO CQ LS DL k h r l, sub_zero]

/-- The sums over the chunks and the own one are a sum over all keys. -/
theorem comb_keys (f : Fin 2048 → EReal) (r : Fin 512) :
    (∑ k : Fin 4, if k.val < j.val then ∑ l, tds q dy cq ls dl (chunk K k) (chunk V k) (chunk C k) r l * f (row k l) else 0)
      + ∑ l, tdd q dy cq ls dl (chunk K j) (chunk V j) (chunk C j) r l * f (row j l)
      = ∑ s, gs j Q DO CQ LS DL K V C r s * f s := by
  rw [← sum_chunks fun s => gs j Q DO CQ LS DL K V C r s * f s]
  have e : ∑ l, tdd q dy cq ls dl (chunk K j) (chunk V j) (chunk C j) r l * f (row j l)
      = ∑ k : Fin 4, if k = j then ∑ l, tdd q dy cq ls dl (chunk K k) (chunk V k) (chunk C k) r l * f (row k l) else 0 := by
    rw [Finset.sum_ite_eq' Finset.univ j (fun k => ∑ l, tdd q dy cq ls dl (chunk K k) (chunk V k) (chunk C k) r l * f (row k l)), if_pos (Finset.mem_univ _)]
  rw [e, ← Finset.sum_add_distrib]
  refine Finset.sum_congr rfl fun k _ => ?_
  refine tri3 k j _ _ _ (fun h => ?_) (fun h => ?_) (fun h => ?_)
  · refine Finset.sum_congr rfl fun l _ => ?_
    rw [tds_before j q dy cq ls dl K V C Q DO CQ LS DL hq hdy hcq hls hdl k h]
  · subst h
    refine Finset.sum_congr rfl fun l _ => ?_
    rw [tdd_own k q dy cq ls dl K V C Q DO CQ LS DL hq hdy hcq hls hdl]
  · refine Finset.sum_eq_zero fun l _ => ?_
    rw [gs_above j K V C Q DO CQ LS DL k h, zero_mul]

omit hdy hdl

/-- A chunk of `dv` after the point. -/
theorem comb_dv (hdy : ∀ r x, (dy (ix2 r x) : EReal) = DO r x) (p : EReal) (k : Fin 4) (l : Fin 512) (d : Fin 64) :
    (p + if k.val < j.val then ∑ r, tw q cq ls (chunk K k) (chunk C k) r l * dy (ix2 r d) else 0)
      + (if k = j then ∑ r, twd q cq ls (chunk K j) (chunk C j) r l * dy (ix2 r d) else 0)
      = p + ∑ r, gw j Q CQ LS K C r (row k l) * DO r d := by
  rw [add_assoc]
  congr 1
  refine tri3 k j _ _ _ (fun h => ?_) (fun h => ?_) (fun h => ?_)
  · refine Finset.sum_congr rfl fun r _ => ?_
    rw [tw_before j q cq ls K C Q CQ LS hq hcq hls k h, hdy]
  · subst h
    refine Finset.sum_congr rfl fun r _ => ?_
    rw [twd_own k q cq ls K C Q CQ LS hq hcq hls, hdy]
  · refine Finset.sum_eq_zero fun r _ => ?_
    rw [gw_above j K C Q CQ LS k h, zero_mul]

end Cert.FoxV
-- ==== Proof.Fox.Words.lean ====
module
public import proofs.«01_k».proof.Proof.Fox.Vec
public import proofs.«01_k».proof.Proof.Fox.Comb
/-! # What a grid point reads of its blocks, head by head -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

/-- The scaled queries. -/
def Qf (x0 : Vec Ideal S512x256 .bf16) (h : Fin 4) (r : Fin 512) (d : Fin 64) : EReal :=
  x0 (ix2 r (col h d)) * Ideal.ofBits FTy.f32 1040187392#32
/-- The gradients of the outputs. -/
def Df (x7 : Vec Ideal S512x256 .bf16) (h : Fin 4) (r : Fin 512) (d : Fin 64) : EReal := x7 (ix2 r (col h d))
/-- A column of a block of one number per head and row. -/
def Cf (x : Vec Ideal S1x4x512x1 .f32) (h : Fin 4) (r : Fin 512) : EReal := x (ix4 0 h r 0)
/-- The rows' sums of the output's gradient times the output. -/
def Ef (x5 : Vec Ideal S1x4x512x64 .f32) (x7 : Vec Ideal S512x256 .bf16) (h : Fin 4) (r : Fin 512) : EReal :=
  ∑ x : Fin 64, Df x7 h r x * x5 (ix4 0 h r x)
/-- The keys' gate terms. -/
def Gf (x4 : Vec Ideal S1x4x4x1x512 .f32) (h : Fin 4) (s : Fin 2048) : EReal :=
  x4 (ix5 0 h ⟨s.val / 512, by omega⟩ 0 ⟨s.val % 512, by omega⟩)
/-- A carried block of keys, or of values. -/
def Kf (xs : Vec Ideal S4x2048x64 .bf16) (h : Fin 4) (s : Fin 2048) (d : Fin 64) : EReal := xs (ix3 h s d)

theorem Gf_row (x4 : Vec Ideal S1x4x4x1x512 .f32) (h k : Fin 4) (l : Fin 512) :
    (x4 (ix5 0 h k 0 l) : EReal) = Gf x4 h (row k l) := by
  have hl := l.isLt
  have e1 : k = ⟨(row k l).val / 512, by omega⟩ := Fin.ext (show k.val = (512 * k.val + l.val) / 512 by omega)
  have e2 : l = ⟨(row k l).val % 512, by omega⟩ := Fin.ext (show l.val = (512 * k.val + l.val) % 512 by omega)
  exact congrArg₂ (fun a b => (x4 (ix5 0 h a 0 b) : EReal)) e1 e2

theorem ld4 {b : EltTy} {n : ℕ} (v : View sig .tc .vmem ⟨4, ![1, 4, 512, n]⟩ b) (X : v.ty.Contents (Elt Ideal)) (h : Fin 4)
    (off : Fin 4 → ℕ) (e : off = ![0, h.val, 0, 0])
    (inb : ∀ a, off a + (![1, 1, 512, n] : Fin 4 → ℕ) a ≤ (⟨4, ![1, 4, 512, n]⟩ : Shape).size a) (r : Fin 512) (d : Fin n) :
    View.readAt (Elt Ideal) v (Rect.unit (s := ⟨4, ![1, 4, 512, n]⟩) off ![1, 1, 512, n] inb).toLoadRect X (ix4 0 0 r d)
      = v.read (Elt Ideal) X (ix4 0 h r d) := by
  subst e
  rw [View.readAt_eq_ld, View.ld_apply]
  congr 1
  funext a
  apply Fin.ext
  match a with
  | 0 => rfl
  | 1 => rfl
  | 2 => show 0 + 1 * r.val = r.val; omega
  | 3 => show 0 + 1 * d.val = d.val; omega

theorem ldq (v : View sig .tc .vmem S512x256 .bf16) (X : v.ty.Contents (Elt Ideal))
    (inb : ∀ a, (![0, 0] : Fin 2 → ℕ) a + S512x256.size a ≤ S512x256.size a) (r : Fin 512) (x : Fin 256) :
    View.readAt (Elt Ideal) v (Rect.unit (s := S512x256) ![0, 0] S512x256.size inb).toLoadRect X (ix2 r x)
      = v.read (Elt Ideal) X (ix2 r x) := by
  rw [View.readAt_eq_ld, View.ld_apply]
  congr 1
  funext a
  apply Fin.ext
  match a with
  | 0 => show 0 + 1 * r.val = r.val; omega
  | 1 => show 0 + 1 * x.val = x.val; omega

variable (c : Dev nD)  (arg2 : Memref sig .tc .vmem S512x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x4x512x1 .f32) (harg5 : arg5.IsWhole) (arg6 : Memref sig .tc .vmem S1x4x4x1x512 .f32) (harg6 : arg6.IsWhole) (arg7 : Memref sig .tc .vmem S1x4x512x64 .f32) (harg7 : arg7.IsWhole) (arg8 : Memref sig .tc .vmem S1x4x512x1 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S1x4x4x1x512 .f32) (harg13 : arg13.IsWhole) (arg14 : Memref sig .tc .vmem S1x4x512x1 .f32) (harg14 : arg14.IsWhole) (arg15 : Memref sig .tc .vmem S4x2048x64 .bf16) (harg15 : arg15.IsWhole) (arg16 : Memref sig .tc .vmem S4x2048x64 .bf16) (harg16 : arg16.IsWhole) (arg17 : Memref sig .tc .vmem S4x2048x64 .f32) (harg17 : arg17.IsWhole) (arg18 : Memref sig .tc .vmem S4x2048x64 .f32) (harg18 : arg18.IsWhole)

theorem wq_A (x0 : Vec Ideal S512x256 .bf16) (h : Fin 4) (r : Fin 512) (d : Fin 64) :
    ((![kernelRun0_A.sl.r_2 (F := Ideal) c arg2 harg2 x0, kernelRun0_A.sl.r_3 (F := Ideal) c arg2 harg2 x0, kernelRun0_A.sl.r_5 (F := Ideal) c arg2 harg2 x0, kernelRun0_A.sl.r_6 (F := Ideal) c arg2 harg2 x0] h) (ix2 r d) : EReal) = Qf x0 h r d := by
  have e : ![kernelRun0_A.sl.r_2 (F := Ideal) c arg2 harg2 x0, kernelRun0_A.sl.r_3 (F := Ideal) c arg2 harg2 x0, kernelRun0_A.sl.r_5 (F := Ideal) c arg2 harg2 x0, kernelRun0_A.sl.r_6 (F := Ideal) c arg2 harg2 x0] = qv (View.readAt (Elt Ideal) arg2.view (Rect.unit (s := S512x256) ![0, 0] S512x256.size inb_S512x256_S512x256_0_0).toLoadRect (harg2.unread x0)) := rfl
  rw [e, qv_at, ldq, harg2.read_unread]
  rfl

theorem wdy_A (x7 : Vec Ideal S512x256 .bf16) (h : Fin 4) (r : Fin 512) (d : Fin 64) :
    ((![kernelRun0_A.sl.r_7 (F := Ideal) c arg9 harg9 x7, kernelRun0_A.sl.r_8 (F := Ideal) c arg9 harg9 x7, kernelRun0_A.sl.r_9 (F := Ideal) c arg9 harg9 x7, kernelRun0_A.sl.r_10 (F := Ideal) c arg9 harg9 x7] h) (ix2 r d) : EReal) = Df x7 h r d := by
  have e : ![kernelRun0_A.sl.r_7 (F := Ideal) c arg9 harg9 x7, kernelRun0_A.sl.r_8 (F := Ideal) c arg9 harg9 x7, kernelRun0_A.sl.r_9 (F := Ideal) c arg9 harg9 x7, kernelRun0_A.sl.r_10 (F := Ideal) c arg9 harg9 x7] = dv' (View.readAt (Elt Ideal) arg9.view (Rect.unit (s := S512x256) ![0, 0] S512x256.size inb_S512x256_S512x256_0_0).toLoadRect (harg9.unread x7)) := rfl
  rw [e, dv'_at, ldq, harg9.read_unread]
  rfl

theorem wcq_A (x3 : Vec Ideal S1x4x512x1 .f32) (h : Fin 4) (r : Fin 512) :
    ((![kernelRun0_A.sl.r_11 (F := Ideal) c arg5 harg5 x3, kernelRun0_A.sl.r_12 (F := Ideal) c arg5 harg5 x3, kernelRun0_A.sl.r_13 (F := Ideal) c arg5 harg5 x3, kernelRun0_A.sl.r_14 (F := Ideal) c arg5 harg5 x3] h) (ix2 r 0) : EReal) = Cf x3 h r := by
  match h with
  | 0 =>
    show (k0_pay115 (View.readAt (Elt Ideal) arg5.view (Rect.unit (s := S1x4x512x1) ![0, 0, 0, 0] S1x1x512x1.size inb_S1x4x512x1_S1x1x512x1_0_0_0_0).toLoadRect (harg5.unread x3)) (ix2 r 0) : EReal) = _
    unfold_payloads
    pointwise
    exact (ld4 arg5.view (harg5.unread x3) 0 _ rfl _ r 0).trans (congrFun (harg5.read_unread x3) _)
  | 1 =>
    show (k0_pay116 (View.readAt (Elt Ideal) arg5.view (Rect.unit (s := S1x4x512x1) ![0, 1, 0, 0] S1x1x512x1.size inb_S1x4x512x1_S1x1x512x1_0_1_0_0).toLoadRect (harg5.unread x3)) (ix2 r 0) : EReal) = _
    unfold_payloads
    pointwise
    exact (ld4 arg5.view (harg5.unread x3) 1 _ rfl _ r 0).trans (congrFun (harg5.read_unread x3) _)
  | 2 =>
    show (k0_pay117 (View.readAt (Elt Ideal) arg5.view (Rect.unit (s := S1x4x512x1) ![0, 2, 0, 0] S1x1x512x1.size inb_S1x4x512x1_S1x1x512x1_0_2_0_0).toLoadRect (harg5.unread x3)) (ix2 r 0) : EReal) = _
    unfold_payloads
    pointwise
    exact (ld4 arg5.view (harg5.unread x3) 2 _ rfl _ r 0).trans (congrFun (harg5.read_unread x3) _)
  | 3 =>
    show (k0_pay118 (View.readAt (Elt Ideal) arg5.view (Rect.unit (s := S1x4x512x1) ![0, 3, 0, 0] S1x1x512x1.size inb_S1x4x512x1_S1x1x512x1_0_3_0_0).toLoadRect (harg5.unread x3)) (ix2 r 0) : EReal) = _
    unfold_payloads
    pointwise
    exact (ld4 arg5.view (harg5.unread x3) 3 _ rfl _ r 0).trans (congrFun (harg5.read_unread x3) _)

theorem wls_A (x6 : Vec Ideal S1x4x512x1 .f32) (h : Fin 4) (r : Fin 512) :
    ((![kernelRun0_A.sl.r_15 (F := Ideal) c arg8 harg8 x6, kernelRun0_A.sl.r_16 (F := Ideal) c arg8 harg8 x6, kernelRun0_A.sl.r_17 (F := Ideal) c arg8 harg8 x6, kernelRun0_A.sl.r_18 (F := Ideal) c arg8 harg8 x6] h) (ix2 r 0) : EReal) = Cf x6 h r := by
  match h with
  | 0 =>
    show (k0_pay119 (View.readAt (Elt Ideal) arg8.view (Rect.unit (s := S1x4x512x1) ![0, 0, 0, 0] S1x1x512x1.size inb_S1x4x512x1_S1x1x512x1_0_0_0_0).toLoadRect (harg8.unread x6)) (ix2 r 0) : EReal) = _
    unfold_payloads
    pointwise
    exact (ld4 arg8.view (harg8.unread x6) 0 _ rfl _ r 0).trans (congrFun (harg8.read_unread x6) _)
  | 1 =>
    show (k0_pay120 (View.readAt (Elt Ideal) arg8.view (Rect.unit (s := S1x4x512x1) ![0, 1, 0, 0] S1x1x512x1.size inb_S1x4x512x1_S1x1x512x1_0_1_0_0).toLoadRect (harg8.unread x6)) (ix2 r 0) : EReal) = _
    unfold_payloads
    pointwise
    exact (ld4 arg8.view (harg8.unread x6) 1 _ rfl _ r 0).trans (congrFun (harg8.read_unread x6) _)
  | 2 =>
    show (k0_pay121 (View.readAt (Elt Ideal) arg8.view (Rect.unit (s := S1x4x512x1) ![0, 2, 0, 0] S1x1x512x1.size inb_S1x4x512x1_S1x1x512x1_0_2_0_0).toLoadRect (harg8.unread x6)) (ix2 r 0) : EReal) = _
    unfold_payloads
    pointwise
    exact (ld4 arg8.view (harg8.unread x6) 2 _ rfl _ r 0).trans (congrFun (harg8.read_unread x6) _)
  | 3 =>
    show (k0_pay122 (View.readAt (Elt Ideal) arg8.view (Rect.unit (s := S1x4x512x1) ![0, 3, 0, 0] S1x1x512x1.size inb_S1x4x512x1_S1x1x512x1_0_3_0_0).toLoadRect (harg8.unread x6)) (ix2 r 0) : EReal) = _
    unfold_payloads
    pointwise
    exact (ld4 arg8.view (harg8.unread x6) 3 _ rfl _ r 0).trans (congrFun (harg8.read_unread x6) _)

theorem wdl_A (x5 : Vec Ideal S1x4x512x64 .f32) (x7 : Vec Ideal S512x256 .bf16) (h : Fin 4) (r : Fin 512) :
    ((![kernelRun0_A.sl.r_19 (F := Ideal) c arg7 harg7 arg9 harg9 x5 x7, kernelRun0_A.sl.r_20 (F := Ideal) c arg7 harg7 arg9 harg9 x5 x7, kernelRun0_A.sl.r_21 (F := Ideal) c arg7 harg7 arg9 harg9 x5 x7, kernelRun0_A.sl.r_22 (F := Ideal) c arg7 harg7 arg9 harg9 x5 x7] h) (ix2 r 0) : EReal) = Ef x5 x7 h r := by
  match h with
  | 0 =>
    show (k0_pay123 (kernelRun0_A.sl.r_7 (F := Ideal) c arg9 harg9 x7) (View.readAt (Elt Ideal) arg7.view (Rect.unit (s := S1x4x512x64) ![0, 0, 0, 0] S1x1x512x64.size inb_S1x4x512x64_S1x1x512x64_0_0_0_0).toLoadRect (harg7.unread x5)) (ix2 r 0) : EReal) = _
    unfold_payloads
    pointwise
    refine Finset.sum_congr rfl fun x _ => congrArg₂ (· * ·) (wdy_A c arg9 harg9 x7 0 r x) ?_
    exact (ld4 arg7.view (harg7.unread x5) 0 _ rfl _ r x).trans (congrFun (harg7.read_unread x5) _)
  | 1 =>
    show (k0_pay124 (kernelRun0_A.sl.r_8 (F := Ideal) c arg9 harg9 x7) (View.readAt (Elt Ideal) arg7.view (Rect.unit (s := S1x4x512x64) ![0, 1, 0, 0] S1x1x512x64.size inb_S1x4x512x64_S1x1x512x64_0_1_0_0).toLoadRect (harg7.unread x5)) (ix2 r 0) : EReal) = _
    unfold_payloads
    pointwise
    refine Finset.sum_congr rfl fun x _ => congrArg₂ (· * ·) (wdy_A c arg9 harg9 x7 1 r x) ?_
    exact (ld4 arg7.view (harg7.unread x5) 1 _ rfl _ r x).trans (congrFun (harg7.read_unread x5) _)
  | 2 =>
    show (k0_pay125 (kernelRun0_A.sl.r_9 (F := Ideal) c arg9 harg9 x7) (View.readAt (Elt Ideal) arg7.view (Rect.unit (s := S1x4x512x64) ![0, 2, 0, 0] S1x1x512x64.size inb_S1x4x512x64_S1x1x512x64_0_2_0_0).toLoadRect (harg7.unread x5)) (ix2 r 0) : EReal) = _
    unfold_payloads
    pointwise
    refine Finset.sum_congr rfl fun x _ => congrArg₂ (· * ·) (wdy_A c arg9 harg9 x7 2 r x) ?_
    exact (ld4 arg7.view (harg7.unread x5) 2 _ rfl _ r x).trans (congrFun (harg7.read_unread x5) _)
  | 3 =>
    show (k0_pay126 (kernelRun0_A.sl.r_10 (F := Ideal) c arg9 harg9 x7) (View.readAt (Elt Ideal) arg7.view (Rect.unit (s := S1x4x512x64) ![0, 3, 0, 0] S1x1x512x64.size inb_S1x4x512x64_S1x1x512x64_0_3_0_0).toLoadRect (harg7.unread x5)) (ix2 r 0) : EReal) = _
    unfold_payloads
    pointwise
    refine Finset.sum_congr rfl fun x _ => congrArg₂ (· * ·) (wdy_A c arg9 harg9 x7 3 r x) ?_
    exact (ld4 arg7.view (harg7.unread x5) 3 _ rfl _ r x).trans (congrFun (harg7.read_unread x5) _)

theorem wq_B (x0 : Vec Ideal S512x256 .bf16) (h : Fin 4) (r : Fin 512) (d : Fin 64) :
    ((![kernelRun0_B.sl.r_2 (F := Ideal) c arg2 harg2 x0, kernelRun0_B.sl.r_3 (F := Ideal) c arg2 harg2 x0, kernelRun0_B.sl.r_5 (F := Ideal) c arg2 harg2 x0, kernelRun0_B.sl.r_6 (F := Ideal) c arg2 harg2 x0] h) (ix2 r d) : EReal) = Qf x0 h r d := by
  have e : ![kernelRun0_B.sl.r_2 (F := Ideal) c arg2 harg2 x0, kernelRun0_B.sl.r_3 (F := Ideal) c arg2 harg2 x0, kernelRun0_B.sl.r_5 (F := Ideal) c arg2 harg2 x0, kernelRun0_B.sl.r_6 (F := Ideal) c arg2 harg2 x0] = qv (View.readAt (Elt Ideal) arg2.view (Rect.unit (s := S512x256) ![0, 0] S512x256.size inb_S512x256_S512x256_0_0).toLoadRect (harg2.unread x0)) := rfl
  rw [e, qv_at, ldq, harg2.read_unread]
  rfl

theorem wdy_B (x7 : Vec Ideal S512x256 .bf16) (h : Fin 4) (r : Fin 512) (d : Fin 64) :
    ((![kernelRun0_B.sl.r_7 (F := Ideal) c arg9 harg9 x7, kernelRun0_B.sl.r_8 (F := Ideal) c arg9 harg9 x7, kernelRun0_B.sl.r_9 (F := Ideal) c arg9 harg9 x7, kernelRun0_B.sl.r_10 (F := Ideal) c arg9 harg9 x7] h) (ix2 r d) : EReal) = Df x7 h r d := by
  have e : ![kernelRun0_B.sl.r_7 (F := Ideal) c arg9 harg9 x7, kernelRun0_B.sl.r_8 (F := Ideal) c arg9 harg9 x7, kernelRun0_B.sl.r_9 (F := Ideal) c arg9 harg9 x7, kernelRun0_B.sl.r_10 (F := Ideal) c arg9 harg9 x7] = dv' (View.readAt (Elt Ideal) arg9.view (Rect.unit (s := S512x256) ![0, 0] S512x256.size inb_S512x256_S512x256_0_0).toLoadRect (harg9.unread x7)) := rfl
  rw [e, dv'_at, ldq, harg9.read_unread]
  rfl

theorem wcq_B (x3 : Vec Ideal S1x4x512x1 .f32) (h : Fin 4) (r : Fin 512) :
    ((![kernelRun0_B.sl.r_11 (F := Ideal) c arg5 harg5 x3, kernelRun0_B.sl.r_12 (F := Ideal) c arg5 harg5 x3, kernelRun0_B.sl.r_13 (F := Ideal) c arg5 harg5 x3, kernelRun0_B.sl.r_14 (F := Ideal) c arg5 harg5 x3] h) (ix2 r 0) : EReal) = Cf x3 h r := by
  match h with
  | 0 =>
    show (k0_pay115 (View.readAt (Elt Ideal) arg5.view (Rect.unit (s := S1x4x512x1) ![0, 0, 0, 0] S1x1x512x1.size inb_S1x4x512x1_S1x1x512x1_0_0_0_0).toLoadRect (harg5.unread x3)) (ix2 r 0) : EReal) = _
    unfold_payloads
    pointwise
    exact (ld4 arg5.view (harg5.unread x3) 0 _ rfl _ r 0).trans (congrFun (harg5.read_unread x3) _)
  | 1 =>
    show (k0_pay116 (View.readAt (Elt Ideal) arg5.view (Rect.unit (s := S1x4x512x1) ![0, 1, 0, 0] S1x1x512x1.size inb_S1x4x512x1_S1x1x512x1_0_1_0_0).toLoadRect (harg5.unread x3)) (ix2 r 0) : EReal) = _
    unfold_payloads
    pointwise
    exact (ld4 arg5.view (harg5.unread x3) 1 _ rfl _ r 0).trans (congrFun (harg5.read_unread x3) _)
  | 2 =>
    show (k0_pay117 (View.readAt (Elt Ideal) arg5.view (Rect.unit (s := S1x4x512x1) ![0, 2, 0, 0] S1x1x512x1.size inb_S1x4x512x1_S1x1x512x1_0_2_0_0).toLoadRect (harg5.unread x3)) (ix2 r 0) : EReal) = _
    unfold_payloads
    pointwise
    exact (ld4 arg5.view (harg5.unread x3) 2 _ rfl _ r 0).trans (congrFun (harg5.read_unread x3) _)
  | 3 =>
    show (k0_pay118 (View.readAt (Elt Ideal) arg5.view (Rect.unit (s := S1x4x512x1) ![0, 3, 0, 0] S1x1x512x1.size inb_S1x4x512x1_S1x1x512x1_0_3_0_0).toLoadRect (harg5.unread x3)) (ix2 r 0) : EReal) = _
    unfold_payloads
    pointwise
    exact (ld4 arg5.view (harg5.unread x3) 3 _ rfl _ r 0).trans (congrFun (harg5.read_unread x3) _)

theorem wls_B (x6 : Vec Ideal S1x4x512x1 .f32) (h : Fin 4) (r : Fin 512) :
    ((![kernelRun0_B.sl.r_15 (F := Ideal) c arg8 harg8 x6, kernelRun0_B.sl.r_16 (F := Ideal) c arg8 harg8 x6, kernelRun0_B.sl.r_17 (F := Ideal) c arg8 harg8 x6, kernelRun0_B.sl.r_18 (F := Ideal) c arg8 harg8 x6] h) (ix2 r 0) : EReal) = Cf x6 h r := by
  match h with
  | 0 =>
    show (k0_pay119 (View.readAt (Elt Ideal) arg8.view (Rect.unit (s := S1x4x512x1) ![0, 0, 0, 0] S1x1x512x1.size inb_S1x4x512x1_S1x1x512x1_0_0_0_0).toLoadRect (harg8.unread x6)) (ix2 r 0) : EReal) = _
    unfold_payloads
    pointwise
    exact (ld4 arg8.view (harg8.unread x6) 0 _ rfl _ r 0).trans (congrFun (harg8.read_unread x6) _)
  | 1 =>
    show (k0_pay120 (View.readAt (Elt Ideal) arg8.view (Rect.unit (s := S1x4x512x1) ![0, 1, 0, 0] S1x1x512x1.size inb_S1x4x512x1_S1x1x512x1_0_1_0_0).toLoadRect (harg8.unread x6)) (ix2 r 0) : EReal) = _
    unfold_payloads
    pointwise
    exact (ld4 arg8.view (harg8.unread x6) 1 _ rfl _ r 0).trans (congrFun (harg8.read_unread x6) _)
  | 2 =>
    show (k0_pay121 (View.readAt (Elt Ideal) arg8.view (Rect.unit (s := S1x4x512x1) ![0, 2, 0, 0] S1x1x512x1.size inb_S1x4x512x1_S1x1x512x1_0_2_0_0).toLoadRect (harg8.unread x6)) (ix2 r 0) : EReal) = _
    unfold_payloads
    pointwise
    exact (ld4 arg8.view (harg8.unread x6) 2 _ rfl _ r 0).trans (congrFun (harg8.read_unread x6) _)
  | 3 =>
    show (k0_pay122 (View.readAt (Elt Ideal) arg8.view (Rect.unit (s := S1x4x512x1) ![0, 3, 0, 0] S1x1x512x1.size inb_S1x4x512x1_S1x1x512x1_0_3_0_0).toLoadRect (harg8.unread x6)) (ix2 r 0) : EReal) = _
    unfold_payloads
    pointwise
    exact (ld4 arg8.view (harg8.unread x6) 3 _ rfl _ r 0).trans (congrFun (harg8.read_unread x6) _)

theorem wdl_B (x5 : Vec Ideal S1x4x512x64 .f32) (x7 : Vec Ideal S512x256 .bf16) (h : Fin 4) (r : Fin 512) :
    ((![kernelRun0_B.sl.r_19 (F := Ideal) c arg7 harg7 arg9 harg9 x5 x7, kernelRun0_B.sl.r_20 (F := Ideal) c arg7 harg7 arg9 harg9 x5 x7, kernelRun0_B.sl.r_21 (F := Ideal) c arg7 harg7 arg9 harg9 x5 x7, kernelRun0_B.sl.r_22 (F := Ideal) c arg7 harg7 arg9 harg9 x5 x7] h) (ix2 r 0) : EReal) = Ef x5 x7 h r := by
  match h with
  | 0 =>
    show (k0_pay123 (kernelRun0_B.sl.r_7 (F := Ideal) c arg9 harg9 x7) (View.readAt (Elt Ideal) arg7.view (Rect.unit (s := S1x4x512x64) ![0, 0, 0, 0] S1x1x512x64.size inb_S1x4x512x64_S1x1x512x64_0_0_0_0).toLoadRect (harg7.unread x5)) (ix2 r 0) : EReal) = _
    unfold_payloads
    pointwise
    refine Finset.sum_congr rfl fun x _ => congrArg₂ (· * ·) (wdy_B c arg9 harg9 x7 0 r x) ?_
    exact (ld4 arg7.view (harg7.unread x5) 0 _ rfl _ r x).trans (congrFun (harg7.read_unread x5) _)
  | 1 =>
    show (k0_pay124 (kernelRun0_B.sl.r_8 (F := Ideal) c arg9 harg9 x7) (View.readAt (Elt Ideal) arg7.view (Rect.unit (s := S1x4x512x64) ![0, 1, 0, 0] S1x1x512x64.size inb_S1x4x512x64_S1x1x512x64_0_1_0_0).toLoadRect (harg7.unread x5)) (ix2 r 0) : EReal) = _
    unfold_payloads
    pointwise
    refine Finset.sum_congr rfl fun x _ => congrArg₂ (· * ·) (wdy_B c arg9 harg9 x7 1 r x) ?_
    exact (ld4 arg7.view (harg7.unread x5) 1 _ rfl _ r x).trans (congrFun (harg7.read_unread x5) _)
  | 2 =>
    show (k0_pay125 (kernelRun0_B.sl.r_9 (F := Ideal) c arg9 harg9 x7) (View.readAt (Elt Ideal) arg7.view (Rect.unit (s := S1x4x512x64) ![0, 2, 0, 0] S1x1x512x64.size inb_S1x4x512x64_S1x1x512x64_0_2_0_0).toLoadRect (harg7.unread x5)) (ix2 r 0) : EReal) = _
    unfold_payloads
    pointwise
    refine Finset.sum_congr rfl fun x _ => congrArg₂ (· * ·) (wdy_B c arg9 harg9 x7 2 r x) ?_
    exact (ld4 arg7.view (harg7.unread x5) 2 _ rfl _ r x).trans (congrFun (harg7.read_unread x5) _)
  | 3 =>
    show (k0_pay126 (kernelRun0_B.sl.r_10 (F := Ideal) c arg9 harg9 x7) (View.readAt (Elt Ideal) arg7.view (Rect.unit (s := S1x4x512x64) ![0, 3, 0, 0] S1x1x512x64.size inb_S1x4x512x64_S1x1x512x64_0_3_0_0).toLoadRect (harg7.unread x5)) (ix2 r 0) : EReal) = _
    unfold_payloads
    pointwise
    refine Finset.sum_congr rfl fun x _ => congrArg₂ (· * ·) (wdy_B c arg9 harg9 x7 3 r x) ?_
    exact (ld4 arg7.view (harg7.unread x5) 3 _ rfl _ r x).trans (congrFun (harg7.read_unread x5) _)

theorem wq_C (x0 : Vec Ideal S512x256 .bf16) (h : Fin 4) (r : Fin 512) (d : Fin 64) :
    ((![kernelRun0_C.sl.r_2 (F := Ideal) c arg2 harg2 x0, kernelRun0_C.sl.r_3 (F := Ideal) c arg2 harg2 x0, kernelRun0_C.sl.r_5 (F := Ideal) c arg2 harg2 x0, kernelRun0_C.sl.r_6 (F := Ideal) c arg2 harg2 x0] h) (ix2 r d) : EReal) = Qf x0 h r d := by
  have e : ![kernelRun0_C.sl.r_2 (F := Ideal) c arg2 harg2 x0, kernelRun0_C.sl.r_3 (F := Ideal) c arg2 harg2 x0, kernelRun0_C.sl.r_5 (F := Ideal) c arg2 harg2 x0, kernelRun0_C.sl.r_6 (F := Ideal) c arg2 harg2 x0] = qv (View.readAt (Elt Ideal) arg2.view (Rect.unit (s := S512x256) ![0, 0] S512x256.size inb_S512x256_S512x256_0_0).toLoadRect (harg2.unread x0)) := rfl
  rw [e, qv_at, ldq, harg2.read_unread]
  rfl

theorem wdy_C (x7 : Vec Ideal S512x256 .bf16) (h : Fin 4) (r : Fin 512) (d : Fin 64) :
    ((![kernelRun0_C.sl.r_7 (F := Ideal) c arg9 harg9 x7, kernelRun0_C.sl.r_8 (F := Ideal) c arg9 harg9 x7, kernelRun0_C.sl.r_9 (F := Ideal) c arg9 harg9 x7, kernelRun0_C.sl.r_10 (F := Ideal) c arg9 harg9 x7] h) (ix2 r d) : EReal) = Df x7 h r d := by
  have e : ![kernelRun0_C.sl.r_7 (F := Ideal) c arg9 harg9 x7, kernelRun0_C.sl.r_8 (F := Ideal) c arg9 harg9 x7, kernelRun0_C.sl.r_9 (F := Ideal) c arg9 harg9 x7, kernelRun0_C.sl.r_10 (F := Ideal) c arg9 harg9 x7] = dv' (View.readAt (Elt Ideal) arg9.view (Rect.unit (s := S512x256) ![0, 0] S512x256.size inb_S512x256_S512x256_0_0).toLoadRect (harg9.unread x7)) := rfl
  rw [e, dv'_at, ldq, harg9.read_unread]
  rfl

theorem wcq_C (x3 : Vec Ideal S1x4x512x1 .f32) (h : Fin 4) (r : Fin 512) :
    ((![kernelRun0_C.sl.r_11 (F := Ideal) c arg5 harg5 x3, kernelRun0_C.sl.r_12 (F := Ideal) c arg5 harg5 x3, kernelRun0_C.sl.r_13 (F := Ideal) c arg5 harg5 x3, kernelRun0_C.sl.r_14 (F := Ideal) c arg5 harg5 x3] h) (ix2 r 0) : EReal) = Cf x3 h r := by
  match h with
  | 0 =>
    show (k0_pay115 (View.readAt (Elt Ideal) arg5.view (Rect.unit (s := S1x4x512x1) ![0, 0, 0, 0] S1x1x512x1.size inb_S1x4x512x1_S1x1x512x1_0_0_0_0).toLoadRect (harg5.unread x3)) (ix2 r 0) : EReal) = _
    unfold_payloads
    pointwise
    exact (ld4 arg5.view (harg5.unread x3) 0 _ rfl _ r 0).trans (congrFun (harg5.read_unread x3) _)
  | 1 =>
    show (k0_pay116 (View.readAt (Elt Ideal) arg5.view (Rect.unit (s := S1x4x512x1) ![0, 1, 0, 0] S1x1x512x1.size inb_S1x4x512x1_S1x1x512x1_0_1_0_0).toLoadRect (harg5.unread x3)) (ix2 r 0) : EReal) = _
    unfold_payloads
    pointwise
    exact (ld4 arg5.view (harg5.unread x3) 1 _ rfl _ r 0).trans (congrFun (harg5.read_unread x3) _)
  | 2 =>
    show (k0_pay117 (View.readAt (Elt Ideal) arg5.view (Rect.unit (s := S1x4x512x1) ![0, 2, 0, 0] S1x1x512x1.size inb_S1x4x512x1_S1x1x512x1_0_2_0_0).toLoadRect (harg5.unread x3)) (ix2 r 0) : EReal) = _
    unfold_payloads
    pointwise
    exact (ld4 arg5.view (harg5.unread x3) 2 _ rfl _ r 0).trans (congrFun (harg5.read_unread x3) _)
  | 3 =>
    show (k0_pay118 (View.readAt (Elt Ideal) arg5.view (Rect.unit (s := S1x4x512x1) ![0, 3, 0, 0] S1x1x512x1.size inb_S1x4x512x1_S1x1x512x1_0_3_0_0).toLoadRect (harg5.unread x3)) (ix2 r 0) : EReal) = _
    unfold_payloads
    pointwise
    exact (ld4 arg5.view (harg5.unread x3) 3 _ rfl _ r 0).trans (congrFun (harg5.read_unread x3) _)

theorem wls_C (x6 : Vec Ideal S1x4x512x1 .f32) (h : Fin 4) (r : Fin 512) :
    ((![kernelRun0_C.sl.r_15 (F := Ideal) c arg8 harg8 x6, kernelRun0_C.sl.r_16 (F := Ideal) c arg8 harg8 x6, kernelRun0_C.sl.r_17 (F := Ideal) c arg8 harg8 x6, kernelRun0_C.sl.r_18 (F := Ideal) c arg8 harg8 x6] h) (ix2 r 0) : EReal) = Cf x6 h r := by
  match h with
  | 0 =>
    show (k0_pay119 (View.readAt (Elt Ideal) arg8.view (Rect.unit (s := S1x4x512x1) ![0, 0, 0, 0] S1x1x512x1.size inb_S1x4x512x1_S1x1x512x1_0_0_0_0).toLoadRect (harg8.unread x6)) (ix2 r 0) : EReal) = _
    unfold_payloads
    pointwise
    exact (ld4 arg8.view (harg8.unread x6) 0 _ rfl _ r 0).trans (congrFun (harg8.read_unread x6) _)
  | 1 =>
    show (k0_pay120 (View.readAt (Elt Ideal) arg8.view (Rect.unit (s := S1x4x512x1) ![0, 1, 0, 0] S1x1x512x1.size inb_S1x4x512x1_S1x1x512x1_0_1_0_0).toLoadRect (harg8.unread x6)) (ix2 r 0) : EReal) = _
    unfold_payloads
    pointwise
    exact (ld4 arg8.view (harg8.unread x6) 1 _ rfl _ r 0).trans (congrFun (harg8.read_unread x6) _)
  | 2 =>
    show (k0_pay121 (View.readAt (Elt Ideal) arg8.view (Rect.unit (s := S1x4x512x1) ![0, 2, 0, 0] S1x1x512x1.size inb_S1x4x512x1_S1x1x512x1_0_2_0_0).toLoadRect (harg8.unread x6)) (ix2 r 0) : EReal) = _
    unfold_payloads
    pointwise
    exact (ld4 arg8.view (harg8.unread x6) 2 _ rfl _ r 0).trans (congrFun (harg8.read_unread x6) _)
  | 3 =>
    show (k0_pay122 (View.readAt (Elt Ideal) arg8.view (Rect.unit (s := S1x4x512x1) ![0, 3, 0, 0] S1x1x512x1.size inb_S1x4x512x1_S1x1x512x1_0_3_0_0).toLoadRect (harg8.unread x6)) (ix2 r 0) : EReal) = _
    unfold_payloads
    pointwise
    exact (ld4 arg8.view (harg8.unread x6) 3 _ rfl _ r 0).trans (congrFun (harg8.read_unread x6) _)

theorem wdl_C (x5 : Vec Ideal S1x4x512x64 .f32) (x7 : Vec Ideal S512x256 .bf16) (h : Fin 4) (r : Fin 512) :
    ((![kernelRun0_C.sl.r_19 (F := Ideal) c arg7 harg7 arg9 harg9 x5 x7, kernelRun0_C.sl.r_20 (F := Ideal) c arg7 harg7 arg9 harg9 x5 x7, kernelRun0_C.sl.r_21 (F := Ideal) c arg7 harg7 arg9 harg9 x5 x7, kernelRun0_C.sl.r_22 (F := Ideal) c arg7 harg7 arg9 harg9 x5 x7] h) (ix2 r 0) : EReal) = Ef x5 x7 h r := by
  match h with
  | 0 =>
    show (k0_pay123 (kernelRun0_C.sl.r_7 (F := Ideal) c arg9 harg9 x7) (View.readAt (Elt Ideal) arg7.view (Rect.unit (s := S1x4x512x64) ![0, 0, 0, 0] S1x1x512x64.size inb_S1x4x512x64_S1x1x512x64_0_0_0_0).toLoadRect (harg7.unread x5)) (ix2 r 0) : EReal) = _
    unfold_payloads
    pointwise
    refine Finset.sum_congr rfl fun x _ => congrArg₂ (· * ·) (wdy_C c arg9 harg9 x7 0 r x) ?_
    exact (ld4 arg7.view (harg7.unread x5) 0 _ rfl _ r x).trans (congrFun (harg7.read_unread x5) _)
  | 1 =>
    show (k0_pay124 (kernelRun0_C.sl.r_8 (F := Ideal) c arg9 harg9 x7) (View.readAt (Elt Ideal) arg7.view (Rect.unit (s := S1x4x512x64) ![0, 1, 0, 0] S1x1x512x64.size inb_S1x4x512x64_S1x1x512x64_0_1_0_0).toLoadRect (harg7.unread x5)) (ix2 r 0) : EReal) = _
    unfold_payloads
    pointwise
    refine Finset.sum_congr rfl fun x _ => congrArg₂ (· * ·) (wdy_C c arg9 harg9 x7 1 r x) ?_
    exact (ld4 arg7.view (harg7.unread x5) 1 _ rfl _ r x).trans (congrFun (harg7.read_unread x5) _)
  | 2 =>
    show (k0_pay125 (kernelRun0_C.sl.r_9 (F := Ideal) c arg9 harg9 x7) (View.readAt (Elt Ideal) arg7.view (Rect.unit (s := S1x4x512x64) ![0, 2, 0, 0] S1x1x512x64.size inb_S1x4x512x64_S1x1x512x64_0_2_0_0).toLoadRect (harg7.unread x5)) (ix2 r 0) : EReal) = _
    unfold_payloads
    pointwise
    refine Finset.sum_congr rfl fun x _ => congrArg₂ (· * ·) (wdy_C c arg9 harg9 x7 2 r x) ?_
    exact (ld4 arg7.view (harg7.unread x5) 2 _ rfl _ r x).trans (congrFun (harg7.read_unread x5) _)
  | 3 =>
    show (k0_pay126 (kernelRun0_C.sl.r_10 (F := Ideal) c arg9 harg9 x7) (View.readAt (Elt Ideal) arg7.view (Rect.unit (s := S1x4x512x64) ![0, 3, 0, 0] S1x1x512x64.size inb_S1x4x512x64_S1x1x512x64_0_3_0_0).toLoadRect (harg7.unread x5)) (ix2 r 0) : EReal) = _
    unfold_payloads
    pointwise
    refine Finset.sum_congr rfl fun x _ => congrArg₂ (· * ·) (wdy_C c arg9 harg9 x7 3 r x) ?_
    exact (ld4 arg7.view (harg7.unread x5) 3 _ rfl _ r x).trans (congrFun (harg7.read_unread x5) _)

end Cert.FoxV
-- ==== Proof.Fox.TripQ.lean ====
module

public import proofs.«01_k».proof.Proof.Fox.Base

/-!
# The forgetting attention's gradient: what one trip of the loop over chunks carries on
-/

@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (𝒱 : Variants) (c : Dev nD) (bd : Option 𝒱.V) (i : grid0.Coords) (arg2 : Memref sig .tc .vmem
  S512x256 .bf16) (harg2 : arg2.IsWhole) (arg3 : Memref sig .tc .vmem S2048x256 .bf16) (harg3 :
  arg3.IsWhole) (arg4 : Memref sig .tc .vmem S2048x256 .bf16) (harg4 : arg4.IsWhole) (arg5 : Memref
  sig .tc .vmem S1x4x512x1 .f32) (harg5 : arg5.IsWhole) (arg6 : Memref sig .tc .vmem S1x4x4x1x512
  .f32) (harg6 : arg6.IsWhole) (arg7 : Memref sig .tc .vmem S1x4x512x64 .f32) (harg7 : arg7.IsWhole)
  (arg8 : Memref sig .tc .vmem S1x4x512x1 .f32) (harg8 : arg8.IsWhole) (arg9 : Memref sig .tc .vmem
  S512x256 .bf16) (harg9 : arg9.IsWhole) (arg10 : Memref sig .tc .vmem S512x256 .bf16) (harg10 :
  arg10.IsWhole) (arg11 : Memref sig .tc .vmem S2048x256 .bf16) (harg11 : arg11.IsWhole) (arg12 :
  Memref sig .tc .vmem S2048x256 .bf16) (harg12 : arg12.IsWhole) (arg13 : Memref sig .tc .vmem
  S1x4x4x1x512 .f32) (harg13 : arg13.IsWhole) (arg14 : Memref sig .tc .vmem S1x4x512x1 .f32) (harg14
  : arg14.IsWhole) (arg15 : Memref sig .tc .vmem S4x2048x64 .bf16) (harg15 : arg15.IsWhole) (arg16 :
  Memref sig .tc .vmem S4x2048x64 .bf16) (harg16 : arg16.IsWhole) (arg17 : Memref sig .tc .vmem
  S4x2048x64 .f32) (harg17 : arg17.IsWhole) (arg18 : Memref sig .tc .vmem S4x2048x64 .f32) (harg18 :
  arg18.IsWhole) (arg1 : BitVec 32) (v34 : FVec Ideal S512x64 .bf16) (v38 : FVec Ideal S512x64
  .bf16) (v42 : FVec Ideal S512x64 .bf16) (v46 : FVec Ideal S512x64 .bf16) (v48 : FVec Ideal S512x64
  .bf16) (v50 : FVec Ideal S512x64 .bf16) (v52 : FVec Ideal S512x64 .bf16) (v54 : FVec Ideal S512x64
  .bf16) (v56 : FVec Ideal S512x1 .f32) (v58 : FVec Ideal S512x1 .f32) (v60 : FVec Ideal S512x1
  .f32) (v62 : FVec Ideal S512x1 .f32) (v64 : FVec Ideal S512x1 .f32) (v66 : FVec Ideal S512x1 .f32)
  (v68 : FVec Ideal S512x1 .f32) (v70 : FVec Ideal S512x1 .f32) (v76 : FVec Ideal S512x1 .f32) (v82
  : FVec Ideal S512x1 .f32) (v88 : FVec Ideal S512x1 .f32) (v94 : FVec Ideal S512x1 .f32) (v95 :
  FVec Ideal S512x64 .f32) (v96 : FVec Ideal S512x1 .f32) (v97 : FVec Ideal S512x64 .f32) (v98 :
  FVec Ideal S512x1 .f32) (X_arg6 : BufTy.Contents (Elt Ideal) arg6.view.ty) (X_arg15 :
  BufTy.Contents (Elt Ideal) arg15.view.ty) (X_arg16 : BufTy.Contents (Elt Ideal) arg16.view.ty)

variable (K V : Fin 4 → Fin 2048 → Fin 64 → EReal) (C : Fin 4 → Fin 2048 → EReal)
  (hK : ∀ h s d, arg15.view.read (Elt Ideal) X_arg15 (ix3 h s d) = K h s d)
  (hV : ∀ h s d, arg16.view.read (Elt Ideal) X_arg16 (ix3 h s d) = V h s d)
  (hC : ∀ h k l, arg6.view.read (Elt Ideal) X_arg6 (ix5 0 h k 0 l) = C h (row k l))
  (acc : Carry) (f13 : BufTy.Contents (Elt Ideal) arg13.view.ty)
  (f17 : BufTy.Contents (Elt Ideal) arg17.view.ty) (f18 : BufTy.Contents (Elt Ideal) arg18.view.ty)

include hK hV hC

/-- One trip adds to each head's `dq` the gradients of the scores times the keys. -/
theorem trip_dq (k : Fin (k0_t1_loop i).trips) (h : Fin 4) (r : Fin 512) (d : Fin 64) :
    carQ (tripR_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 k acc f13 f17 f18) h (ix2 r d)
      = (carQ acc h (ix2 r d) + ∑ l,
        tds (![v34, v38, v42, v46] h) (![v48, v50, v52, v54] h) (![v56, v58, v60, v62] h) (![v64, v66, v68, v70] h)
        (![v76, v82, v88, v94] h) (chunk (K h) ⟨k, trips_lt i k⟩) (chunk (V h) ⟨k, trips_lt i k⟩)
        (chunk (C h) ⟨k, trips_lt i k⟩) r l
          * (chunk (K h) ⟨k, trips_lt i k⟩) l d : EReal) := by
  unfold tripR_k0_t1 trip_k0_t1
  dsimp only
  match h with
  | 0 =>
    show (_ : FVec Ideal S512x64 .f32) (ix2 r d) = _
    unfold carQ
    dsimp only [Matrix.cons_val]
    unfold_payloads
    sl_unfold_words
    pointwise
    rw [ld3_eq arg15.view X_arg15 K hK 0 _ (off1_eq i k),
      ld3_eq arg16.view X_arg16 V hV 0 _ (off1_eq i k),
      ld5_eq arg6.view X_arg6 C hC 0 _ (off2_eq i k)]
    rfl
  | 1 =>
    show (_ : FVec Ideal S512x64 .f32) (ix2 r d) = _
    unfold carQ
    dsimp only [Matrix.cons_val]
    unfold_payloads
    sl_unfold_words
    pointwise
    rw [ld3_eq arg15.view X_arg15 K hK 1 _ (off3_eq i k),
      ld3_eq arg16.view X_arg16 V hV 1 _ (off3_eq i k),
      ld5_eq arg6.view X_arg6 C hC 1 _ (off4_eq i k)]
    rfl
  | 2 =>
    show (_ : FVec Ideal S512x64 .f32) (ix2 r d) = _
    unfold carQ
    dsimp only [Matrix.cons_val]
    unfold_payloads
    sl_unfold_words
    pointwise
    rw [ld3_eq arg15.view X_arg15 K hK 2 _ (off5_eq i k),
      ld3_eq arg16.view X_arg16 V hV 2 _ (off5_eq i k),
      ld5_eq arg6.view X_arg6 C hC 2 _ (off6_eq i k)]
    rfl
  | 3 =>
    show (_ : FVec Ideal S512x64 .f32) (ix2 r d) = _
    unfold carQ
    dsimp only [Matrix.cons_val]
    unfold_payloads
    sl_unfold_words
    pointwise
    rw [ld3_eq arg15.view X_arg15 K hK 3 _ (off7_eq i k),
      ld3_eq arg16.view X_arg16 V hV 3 _ (off7_eq i k),
      ld5_eq arg6.view X_arg6 C hC 3 _ (off8_eq i k)]
    rfl

end Cert.FoxV
-- ==== Proof.Fox.TripC.lean ====
module

public import proofs.«01_k».proof.Proof.Fox.Base

/-!
# The forgetting attention's gradient: the row sums one trip carries on
-/

@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (𝒱 : Variants) (c : Dev nD) (bd : Option 𝒱.V) (i : grid0.Coords) (arg2 : Memref sig .tc .vmem
  S512x256 .bf16) (harg2 : arg2.IsWhole) (arg3 : Memref sig .tc .vmem S2048x256 .bf16) (harg3 :
  arg3.IsWhole) (arg4 : Memref sig .tc .vmem S2048x256 .bf16) (harg4 : arg4.IsWhole) (arg5 : Memref
  sig .tc .vmem S1x4x512x1 .f32) (harg5 : arg5.IsWhole) (arg6 : Memref sig .tc .vmem S1x4x4x1x512
  .f32) (harg6 : arg6.IsWhole) (arg7 : Memref sig .tc .vmem S1x4x512x64 .f32) (harg7 : arg7.IsWhole)
  (arg8 : Memref sig .tc .vmem S1x4x512x1 .f32) (harg8 : arg8.IsWhole) (arg9 : Memref sig .tc .vmem
  S512x256 .bf16) (harg9 : arg9.IsWhole) (arg10 : Memref sig .tc .vmem S512x256 .bf16) (harg10 :
  arg10.IsWhole) (arg11 : Memref sig .tc .vmem S2048x256 .bf16) (harg11 : arg11.IsWhole) (arg12 :
  Memref sig .tc .vmem S2048x256 .bf16) (harg12 : arg12.IsWhole) (arg13 : Memref sig .tc .vmem
  S1x4x4x1x512 .f32) (harg13 : arg13.IsWhole) (arg14 : Memref sig .tc .vmem S1x4x512x1 .f32) (harg14
  : arg14.IsWhole) (arg15 : Memref sig .tc .vmem S4x2048x64 .bf16) (harg15 : arg15.IsWhole) (arg16 :
  Memref sig .tc .vmem S4x2048x64 .bf16) (harg16 : arg16.IsWhole) (arg17 : Memref sig .tc .vmem
  S4x2048x64 .f32) (harg17 : arg17.IsWhole) (arg18 : Memref sig .tc .vmem S4x2048x64 .f32) (harg18 :
  arg18.IsWhole) (arg1 : BitVec 32) (v34 : FVec Ideal S512x64 .bf16) (v38 : FVec Ideal S512x64
  .bf16) (v42 : FVec Ideal S512x64 .bf16) (v46 : FVec Ideal S512x64 .bf16) (v48 : FVec Ideal S512x64
  .bf16) (v50 : FVec Ideal S512x64 .bf16) (v52 : FVec Ideal S512x64 .bf16) (v54 : FVec Ideal S512x64
  .bf16) (v56 : FVec Ideal S512x1 .f32) (v58 : FVec Ideal S512x1 .f32) (v60 : FVec Ideal S512x1
  .f32) (v62 : FVec Ideal S512x1 .f32) (v64 : FVec Ideal S512x1 .f32) (v66 : FVec Ideal S512x1 .f32)
  (v68 : FVec Ideal S512x1 .f32) (v70 : FVec Ideal S512x1 .f32) (v76 : FVec Ideal S512x1 .f32) (v82
  : FVec Ideal S512x1 .f32) (v88 : FVec Ideal S512x1 .f32) (v94 : FVec Ideal S512x1 .f32) (v95 :
  FVec Ideal S512x64 .f32) (v96 : FVec Ideal S512x1 .f32) (v97 : FVec Ideal S512x64 .f32) (v98 :
  FVec Ideal S512x1 .f32) (X_arg6 : BufTy.Contents (Elt Ideal) arg6.view.ty) (X_arg15 :
  BufTy.Contents (Elt Ideal) arg15.view.ty) (X_arg16 : BufTy.Contents (Elt Ideal) arg16.view.ty)

variable (K V : Fin 4 → Fin 2048 → Fin 64 → EReal) (C : Fin 4 → Fin 2048 → EReal)
  (hK : ∀ h s d, arg15.view.read (Elt Ideal) X_arg15 (ix3 h s d) = K h s d)
  (hV : ∀ h s d, arg16.view.read (Elt Ideal) X_arg16 (ix3 h s d) = V h s d)
  (hC : ∀ h k l, arg6.view.read (Elt Ideal) X_arg6 (ix5 0 h k 0 l) = C h (row k l))
  (acc : Carry) (f13 : BufTy.Contents (Elt Ideal) arg13.view.ty)
  (f17 : BufTy.Contents (Elt Ideal) arg17.view.ty) (f18 : BufTy.Contents (Elt Ideal) arg18.view.ty)

include hK hV hC

/-- One trip adds to each head's row sums the gradients of the scores of the chunk. -/
theorem trip_dcq (k : Fin (k0_t1_loop i).trips) (h : Fin 4) (r : Fin 512) :
    carC (tripR_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 k acc f13 f17 f18) h (ix2 r 0)
      = (carC acc h (ix2 r 0) + ∑ l,
        tds (![v34, v38, v42, v46] h) (![v48, v50, v52, v54] h) (![v56, v58, v60, v62] h) (![v64, v66, v68, v70] h)
        (![v76, v82, v88, v94] h) (chunk (K h) ⟨k, trips_lt i k⟩) (chunk (V h) ⟨k, trips_lt i k⟩)
        (chunk (C h) ⟨k, trips_lt i k⟩) r l : EReal) := by
  unfold tripR_k0_t1 trip_k0_t1
  dsimp only
  match h with
  | 0 =>
    show (_ : FVec Ideal S512x1 .f32) (ix2 r 0) = _
    unfold carC
    dsimp only [Matrix.cons_val]
    unfold_payloads
    sl_unfold_words
    pointwise
    rw [ld3_eq arg15.view X_arg15 K hK 0 _ (off1_eq i k),
      ld3_eq arg16.view X_arg16 V hV 0 _ (off1_eq i k),
      ld5_eq arg6.view X_arg6 C hC 0 _ (off2_eq i k)]
    rfl
  | 1 =>
    show (_ : FVec Ideal S512x1 .f32) (ix2 r 0) = _
    unfold carC
    dsimp only [Matrix.cons_val]
    unfold_payloads
    sl_unfold_words
    pointwise
    rw [ld3_eq arg15.view X_arg15 K hK 1 _ (off3_eq i k),
      ld3_eq arg16.view X_arg16 V hV 1 _ (off3_eq i k),
      ld5_eq arg6.view X_arg6 C hC 1 _ (off4_eq i k)]
    rfl
  | 2 =>
    show (_ : FVec Ideal S512x1 .f32) (ix2 r 0) = _
    unfold carC
    dsimp only [Matrix.cons_val]
    unfold_payloads
    sl_unfold_words
    pointwise
    rw [ld3_eq arg15.view X_arg15 K hK 2 _ (off5_eq i k),
      ld3_eq arg16.view X_arg16 V hV 2 _ (off5_eq i k),
      ld5_eq arg6.view X_arg6 C hC 2 _ (off6_eq i k)]
    rfl
  | 3 =>
    show (_ : FVec Ideal S512x1 .f32) (ix2 r 0) = _
    unfold carC
    dsimp only [Matrix.cons_val]
    unfold_payloads
    sl_unfold_words
    pointwise
    rw [ld3_eq arg15.view X_arg15 K hK 3 _ (off7_eq i k),
      ld3_eq arg16.view X_arg16 V hV 3 _ (off7_eq i k),
      ld5_eq arg6.view X_arg6 C hC 3 _ (off8_eq i k)]
    rfl

end Cert.FoxV
-- ==== Proof.Fox.TripK.lean ====
module

public import proofs.«01_k».proof.Proof.Fox.Base

/-!
# The forgetting attention's gradient: what one trip adds to the keys' gradient
-/

@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (𝒱 : Variants) (c : Dev nD) (bd : Option 𝒱.V) (i : grid0.Coords) (arg2 : Memref sig .tc .vmem
  S512x256 .bf16) (harg2 : arg2.IsWhole) (arg3 : Memref sig .tc .vmem S2048x256 .bf16) (harg3 :
  arg3.IsWhole) (arg4 : Memref sig .tc .vmem S2048x256 .bf16) (harg4 : arg4.IsWhole) (arg5 : Memref
  sig .tc .vmem S1x4x512x1 .f32) (harg5 : arg5.IsWhole) (arg6 : Memref sig .tc .vmem S1x4x4x1x512
  .f32) (harg6 : arg6.IsWhole) (arg7 : Memref sig .tc .vmem S1x4x512x64 .f32) (harg7 : arg7.IsWhole)
  (arg8 : Memref sig .tc .vmem S1x4x512x1 .f32) (harg8 : arg8.IsWhole) (arg9 : Memref sig .tc .vmem
  S512x256 .bf16) (harg9 : arg9.IsWhole) (arg10 : Memref sig .tc .vmem S512x256 .bf16) (harg10 :
  arg10.IsWhole) (arg11 : Memref sig .tc .vmem S2048x256 .bf16) (harg11 : arg11.IsWhole) (arg12 :
  Memref sig .tc .vmem S2048x256 .bf16) (harg12 : arg12.IsWhole) (arg13 : Memref sig .tc .vmem
  S1x4x4x1x512 .f32) (harg13 : arg13.IsWhole) (arg14 : Memref sig .tc .vmem S1x4x512x1 .f32) (harg14
  : arg14.IsWhole) (arg15 : Memref sig .tc .vmem S4x2048x64 .bf16) (harg15 : arg15.IsWhole) (arg16 :
  Memref sig .tc .vmem S4x2048x64 .bf16) (harg16 : arg16.IsWhole) (arg17 : Memref sig .tc .vmem
  S4x2048x64 .f32) (harg17 : arg17.IsWhole) (arg18 : Memref sig .tc .vmem S4x2048x64 .f32) (harg18 :
  arg18.IsWhole) (arg1 : BitVec 32) (v34 : FVec Ideal S512x64 .bf16) (v38 : FVec Ideal S512x64
  .bf16) (v42 : FVec Ideal S512x64 .bf16) (v46 : FVec Ideal S512x64 .bf16) (v48 : FVec Ideal S512x64
  .bf16) (v50 : FVec Ideal S512x64 .bf16) (v52 : FVec Ideal S512x64 .bf16) (v54 : FVec Ideal S512x64
  .bf16) (v56 : FVec Ideal S512x1 .f32) (v58 : FVec Ideal S512x1 .f32) (v60 : FVec Ideal S512x1
  .f32) (v62 : FVec Ideal S512x1 .f32) (v64 : FVec Ideal S512x1 .f32) (v66 : FVec Ideal S512x1 .f32)
  (v68 : FVec Ideal S512x1 .f32) (v70 : FVec Ideal S512x1 .f32) (v76 : FVec Ideal S512x1 .f32) (v82
  : FVec Ideal S512x1 .f32) (v88 : FVec Ideal S512x1 .f32) (v94 : FVec Ideal S512x1 .f32) (v95 :
  FVec Ideal S512x64 .f32) (v96 : FVec Ideal S512x1 .f32) (v97 : FVec Ideal S512x64 .f32) (v98 :
  FVec Ideal S512x1 .f32) (X_arg6 : BufTy.Contents (Elt Ideal) arg6.view.ty) (X_arg15 :
  BufTy.Contents (Elt Ideal) arg15.view.ty) (X_arg16 : BufTy.Contents (Elt Ideal) arg16.view.ty)

variable (K V : Fin 4 → Fin 2048 → Fin 64 → EReal) (C : Fin 4 → Fin 2048 → EReal)
  (hK : ∀ h s d, arg15.view.read (Elt Ideal) X_arg15 (ix3 h s d) = K h s d)
  (hV : ∀ h s d, arg16.view.read (Elt Ideal) X_arg16 (ix3 h s d) = V h s d)
  (hC : ∀ h k l, arg6.view.read (Elt Ideal) X_arg6 (ix5 0 h k 0 l) = C h (row k l))
  (acc : Carry) (f13 : BufTy.Contents (Elt Ideal) arg13.view.ty)
  (f17 : BufTy.Contents (Elt Ideal) arg17.view.ty) (f18 : BufTy.Contents (Elt Ideal) arg18.view.ty)

include hK hV hC

/-- One trip adds to its chunk of `dk` the gradients of the scores times the queries. -/
theorem trip_dk (k : Fin (k0_t1_loop i).trips) (h : Fin 4) (l : Fin 512) (d : Fin 64) :
    arg17.view.read (Elt Ideal) (arg17.view.writes (Elt Ideal) f17
      (tripL_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 k acc f13 f17 f18).2.1) (ix3 h (row ⟨k, trips_lt i k⟩ l) d)
      = (arg17.view.read (Elt Ideal) f17 (ix3 h (row ⟨k, trips_lt i k⟩ l) d) + ∑ r,
        tds (![v34, v38, v42, v46] h) (![v48, v50, v52, v54] h) (![v56, v58, v60, v62] h) (![v64, v66, v68, v70] h)
        (![v76, v82, v88, v94] h) (chunk (K h) ⟨k, trips_lt i k⟩) (chunk (V h) ⟨k, trips_lt i k⟩)
        (chunk (C h) ⟨k, trips_lt i k⟩) r l
          * (![v34, v38, v42, v46] h) (ix2 r d) : EReal) := by
  have eF : ∀ h s d, arg17.view.read (Elt Ideal) f17 (ix3 h s d)
      = (fun h s d => arg17.view.read (Elt Ideal) f17 (ix3 h s d) :
        Fin 4 → Fin 2048 → Fin 64 → EReal) h s d := fun _ _ _ => rfl
  unfold tripL_k0_t1 trip_k0_t1
  dsimp only
  match h with
  | 0 =>
    refine (View.read_writes_cons_unit_of_not_mem arg17.view f17 _ _ _ _ (off7_eq i k) 0
      (Or.inl (by show 0 < 3; omega))).trans ?_
    refine (View.read_writes_cons_unit_of_not_mem arg17.view f17 _ _ _ _ (off5_eq i k) 0
      (Or.inl (by show 0 < 2; omega))).trans ?_
    refine (View.read_writes_cons_unit_of_not_mem arg17.view f17 _ _ _ _ (off3_eq i k) 0
      (Or.inl (by show 0 < 1; omega))).trans ?_
    refine (View.read_writes_cons_unit_of_mem arg17.view f17 _ _ _ _ (ix3 0 l d) (off1_eq i k)
      (fun a => match a with
        | 0 => rfl
        | 1 => rfl
        | 2 => (Nat.zero_add d.val).symm)).trans ?_
    unfold_payloads
    sl_unfold_words
    pointwise
    have eR : chunk ((fun h s d => arg17.view.read (Elt Ideal) f17 (ix3 h s d) :
        Fin 4 → Fin 2048 → Fin 64 → EReal) 0) ⟨k, trips_lt i k⟩ l d
        = arg17.view.read (Elt Ideal) f17 (ix3 0 (row ⟨k, trips_lt i k⟩ l) d) := rfl
    rw [← eR]
    dsimp only [Matrix.cons_val]
    rw [ld3_eq arg15.view X_arg15 K hK 0 _ (off1_eq i k),
      ld3_eq arg16.view X_arg16 V hV 0 _ (off1_eq i k),
      ld5_eq arg6.view X_arg6 C hC 0 _ (off2_eq i k),
      ld3_eq arg17.view f17 _ eF 0 _ (off1_eq i k)]
    rfl
  | 1 =>
    refine (View.read_writes_cons_unit_of_not_mem arg17.view f17 _ _ _ _ (off7_eq i k) 0
      (Or.inl (by show 1 < 3; omega))).trans ?_
    refine (View.read_writes_cons_unit_of_not_mem arg17.view f17 _ _ _ _ (off5_eq i k) 0
      (Or.inl (by show 1 < 2; omega))).trans ?_
    refine (View.read_writes_cons_unit_of_mem arg17.view f17 _ _ _ _ (ix3 0 l d) (off3_eq i k)
      (fun a => match a with
        | 0 => rfl
        | 1 => rfl
        | 2 => (Nat.zero_add d.val).symm)).trans ?_
    unfold_payloads
    sl_unfold_words
    pointwise
    have eR : chunk ((fun h s d => arg17.view.read (Elt Ideal) f17 (ix3 h s d) :
        Fin 4 → Fin 2048 → Fin 64 → EReal) 1) ⟨k, trips_lt i k⟩ l d
        = arg17.view.read (Elt Ideal) f17 (ix3 1 (row ⟨k, trips_lt i k⟩ l) d) := rfl
    rw [← eR]
    dsimp only [Matrix.cons_val]
    rw [ld3_eq arg15.view X_arg15 K hK 1 _ (off3_eq i k),
      ld3_eq arg16.view X_arg16 V hV 1 _ (off3_eq i k),
      ld5_eq arg6.view X_arg6 C hC 1 _ (off4_eq i k),
      ld3_eq arg17.view f17 _ eF 1 _ (off3_eq i k)]
    rfl
  | 2 =>
    refine (View.read_writes_cons_unit_of_not_mem arg17.view f17 _ _ _ _ (off7_eq i k) 0
      (Or.inl (by show 2 < 3; omega))).trans ?_
    refine (View.read_writes_cons_unit_of_mem arg17.view f17 _ _ _ _ (ix3 0 l d) (off5_eq i k)
      (fun a => match a with
        | 0 => rfl
        | 1 => rfl
        | 2 => (Nat.zero_add d.val).symm)).trans ?_
    unfold_payloads
    sl_unfold_words
    pointwise
    have eR : chunk ((fun h s d => arg17.view.read (Elt Ideal) f17 (ix3 h s d) :
        Fin 4 → Fin 2048 → Fin 64 → EReal) 2) ⟨k, trips_lt i k⟩ l d
        = arg17.view.read (Elt Ideal) f17 (ix3 2 (row ⟨k, trips_lt i k⟩ l) d) := rfl
    rw [← eR]
    dsimp only [Matrix.cons_val]
    rw [ld3_eq arg15.view X_arg15 K hK 2 _ (off5_eq i k),
      ld3_eq arg16.view X_arg16 V hV 2 _ (off5_eq i k),
      ld5_eq arg6.view X_arg6 C hC 2 _ (off6_eq i k),
      ld3_eq arg17.view f17 _ eF 2 _ (off5_eq i k)]
    rfl
  | 3 =>
    refine (View.read_writes_cons_unit_of_mem arg17.view f17 _ _ _ _ (ix3 0 l d) (off7_eq i k)
      (fun a => match a with
        | 0 => rfl
        | 1 => rfl
        | 2 => (Nat.zero_add d.val).symm)).trans ?_
    unfold_payloads
    sl_unfold_words
    pointwise
    have eR : chunk ((fun h s d => arg17.view.read (Elt Ideal) f17 (ix3 h s d) :
        Fin 4 → Fin 2048 → Fin 64 → EReal) 3) ⟨k, trips_lt i k⟩ l d
        = arg17.view.read (Elt Ideal) f17 (ix3 3 (row ⟨k, trips_lt i k⟩ l) d) := rfl
    rw [← eR]
    dsimp only [Matrix.cons_val]
    rw [ld3_eq arg15.view X_arg15 K hK 3 _ (off7_eq i k),
      ld3_eq arg16.view X_arg16 V hV 3 _ (off7_eq i k),
      ld5_eq arg6.view X_arg6 C hC 3 _ (off8_eq i k),
      ld3_eq arg17.view f17 _ eF 3 _ (off7_eq i k)]
    rfl

end Cert.FoxV
-- ==== Proof.Fox.TripV.lean ====
module

public import proofs.«01_k».proof.Proof.Fox.Base

/-!
# The forgetting attention's gradient: what one trip adds to the values' gradient
-/

@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (𝒱 : Variants) (c : Dev nD) (bd : Option 𝒱.V) (i : grid0.Coords) (arg2 : Memref sig .tc .vmem
  S512x256 .bf16) (harg2 : arg2.IsWhole) (arg3 : Memref sig .tc .vmem S2048x256 .bf16) (harg3 :
  arg3.IsWhole) (arg4 : Memref sig .tc .vmem S2048x256 .bf16) (harg4 : arg4.IsWhole) (arg5 : Memref
  sig .tc .vmem S1x4x512x1 .f32) (harg5 : arg5.IsWhole) (arg6 : Memref sig .tc .vmem S1x4x4x1x512
  .f32) (harg6 : arg6.IsWhole) (arg7 : Memref sig .tc .vmem S1x4x512x64 .f32) (harg7 : arg7.IsWhole)
  (arg8 : Memref sig .tc .vmem S1x4x512x1 .f32) (harg8 : arg8.IsWhole) (arg9 : Memref sig .tc .vmem
  S512x256 .bf16) (harg9 : arg9.IsWhole) (arg10 : Memref sig .tc .vmem S512x256 .bf16) (harg10 :
  arg10.IsWhole) (arg11 : Memref sig .tc .vmem S2048x256 .bf16) (harg11 : arg11.IsWhole) (arg12 :
  Memref sig .tc .vmem S2048x256 .bf16) (harg12 : arg12.IsWhole) (arg13 : Memref sig .tc .vmem
  S1x4x4x1x512 .f32) (harg13 : arg13.IsWhole) (arg14 : Memref sig .tc .vmem S1x4x512x1 .f32) (harg14
  : arg14.IsWhole) (arg15 : Memref sig .tc .vmem S4x2048x64 .bf16) (harg15 : arg15.IsWhole) (arg16 :
  Memref sig .tc .vmem S4x2048x64 .bf16) (harg16 : arg16.IsWhole) (arg17 : Memref sig .tc .vmem
  S4x2048x64 .f32) (harg17 : arg17.IsWhole) (arg18 : Memref sig .tc .vmem S4x2048x64 .f32) (harg18 :
  arg18.IsWhole) (arg1 : BitVec 32) (v34 : FVec Ideal S512x64 .bf16) (v38 : FVec Ideal S512x64
  .bf16) (v42 : FVec Ideal S512x64 .bf16) (v46 : FVec Ideal S512x64 .bf16) (v48 : FVec Ideal S512x64
  .bf16) (v50 : FVec Ideal S512x64 .bf16) (v52 : FVec Ideal S512x64 .bf16) (v54 : FVec Ideal S512x64
  .bf16) (v56 : FVec Ideal S512x1 .f32) (v58 : FVec Ideal S512x1 .f32) (v60 : FVec Ideal S512x1
  .f32) (v62 : FVec Ideal S512x1 .f32) (v64 : FVec Ideal S512x1 .f32) (v66 : FVec Ideal S512x1 .f32)
  (v68 : FVec Ideal S512x1 .f32) (v70 : FVec Ideal S512x1 .f32) (v76 : FVec Ideal S512x1 .f32) (v82
  : FVec Ideal S512x1 .f32) (v88 : FVec Ideal S512x1 .f32) (v94 : FVec Ideal S512x1 .f32) (v95 :
  FVec Ideal S512x64 .f32) (v96 : FVec Ideal S512x1 .f32) (v97 : FVec Ideal S512x64 .f32) (v98 :
  FVec Ideal S512x1 .f32) (X_arg6 : BufTy.Contents (Elt Ideal) arg6.view.ty) (X_arg15 :
  BufTy.Contents (Elt Ideal) arg15.view.ty) (X_arg16 : BufTy.Contents (Elt Ideal) arg16.view.ty)

variable (K V : Fin 4 → Fin 2048 → Fin 64 → EReal) (C : Fin 4 → Fin 2048 → EReal)
  (hK : ∀ h s d, arg15.view.read (Elt Ideal) X_arg15 (ix3 h s d) = K h s d)
  (hV : ∀ h s d, arg16.view.read (Elt Ideal) X_arg16 (ix3 h s d) = V h s d)
  (hC : ∀ h k l, arg6.view.read (Elt Ideal) X_arg6 (ix5 0 h k 0 l) = C h (row k l))
  (acc : Carry) (f13 : BufTy.Contents (Elt Ideal) arg13.view.ty)
  (f17 : BufTy.Contents (Elt Ideal) arg17.view.ty) (f18 : BufTy.Contents (Elt Ideal) arg18.view.ty)

include hK hV hC

/-- One trip adds to its chunk of `dv` the weights times the gradients of the result. -/
theorem trip_dv (k : Fin (k0_t1_loop i).trips) (h : Fin 4) (l : Fin 512) (d : Fin 64) :
    arg18.view.read (Elt Ideal) (arg18.view.writes (Elt Ideal) f18
      (tripL_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 k acc f13 f17 f18).2.2) (ix3 h (row ⟨k, trips_lt i k⟩ l) d)
      = (arg18.view.read (Elt Ideal) f18 (ix3 h (row ⟨k, trips_lt i k⟩ l) d) + ∑ r,
        tw (![v34, v38, v42, v46] h) (![v56, v58, v60, v62] h) (![v64, v66, v68, v70] h) (chunk (K h) ⟨k, trips_lt i k⟩)
        (chunk (C h) ⟨k, trips_lt i k⟩) r l
          * (![v48, v50, v52, v54] h) (ix2 r d) : EReal) := by
  have eF : ∀ h s d, arg18.view.read (Elt Ideal) f18 (ix3 h s d)
      = (fun h s d => arg18.view.read (Elt Ideal) f18 (ix3 h s d) :
        Fin 4 → Fin 2048 → Fin 64 → EReal) h s d := fun _ _ _ => rfl
  unfold tripL_k0_t1 trip_k0_t1
  dsimp only
  match h with
  | 0 =>
    refine (View.read_writes_cons_unit_of_not_mem arg18.view f18 _ _ _ _ (off7_eq i k) 0
      (Or.inl (by show 0 < 3; omega))).trans ?_
    refine (View.read_writes_cons_unit_of_not_mem arg18.view f18 _ _ _ _ (off5_eq i k) 0
      (Or.inl (by show 0 < 2; omega))).trans ?_
    refine (View.read_writes_cons_unit_of_not_mem arg18.view f18 _ _ _ _ (off3_eq i k) 0
      (Or.inl (by show 0 < 1; omega))).trans ?_
    refine (View.read_writes_cons_unit_of_mem arg18.view f18 _ _ _ _ (ix3 0 l d) (off1_eq i k)
      (fun a => match a with
        | 0 => rfl
        | 1 => rfl
        | 2 => (Nat.zero_add d.val).symm)).trans ?_
    unfold_payloads
    sl_unfold_words
    pointwise
    have eR : chunk ((fun h s d => arg18.view.read (Elt Ideal) f18 (ix3 h s d) :
        Fin 4 → Fin 2048 → Fin 64 → EReal) 0) ⟨k, trips_lt i k⟩ l d
        = arg18.view.read (Elt Ideal) f18 (ix3 0 (row ⟨k, trips_lt i k⟩ l) d) := rfl
    rw [← eR]
    dsimp only [Matrix.cons_val]
    rw [ld3_eq arg15.view X_arg15 K hK 0 _ (off1_eq i k),
      ld5_eq arg6.view X_arg6 C hC 0 _ (off2_eq i k),
      ld3_eq arg18.view f18 _ eF 0 _ (off1_eq i k)]
    rfl
  | 1 =>
    refine (View.read_writes_cons_unit_of_not_mem arg18.view f18 _ _ _ _ (off7_eq i k) 0
      (Or.inl (by show 1 < 3; omega))).trans ?_
    refine (View.read_writes_cons_unit_of_not_mem arg18.view f18 _ _ _ _ (off5_eq i k) 0
      (Or.inl (by show 1 < 2; omega))).trans ?_
    refine (View.read_writes_cons_unit_of_mem arg18.view f18 _ _ _ _ (ix3 0 l d) (off3_eq i k)
      (fun a => match a with
        | 0 => rfl
        | 1 => rfl
        | 2 => (Nat.zero_add d.val).symm)).trans ?_
    unfold_payloads
    sl_unfold_words
    pointwise
    have eR : chunk ((fun h s d => arg18.view.read (Elt Ideal) f18 (ix3 h s d) :
        Fin 4 → Fin 2048 → Fin 64 → EReal) 1) ⟨k, trips_lt i k⟩ l d
        = arg18.view.read (Elt Ideal) f18 (ix3 1 (row ⟨k, trips_lt i k⟩ l) d) := rfl
    rw [← eR]
    dsimp only [Matrix.cons_val]
    rw [ld3_eq arg15.view X_arg15 K hK 1 _ (off3_eq i k),
      ld5_eq arg6.view X_arg6 C hC 1 _ (off4_eq i k),
      ld3_eq arg18.view f18 _ eF 1 _ (off3_eq i k)]
    rfl
  | 2 =>
    refine (View.read_writes_cons_unit_of_not_mem arg18.view f18 _ _ _ _ (off7_eq i k) 0
      (Or.inl (by show 2 < 3; omega))).trans ?_
    refine (View.read_writes_cons_unit_of_mem arg18.view f18 _ _ _ _ (ix3 0 l d) (off5_eq i k)
      (fun a => match a with
        | 0 => rfl
        | 1 => rfl
        | 2 => (Nat.zero_add d.val).symm)).trans ?_
    unfold_payloads
    sl_unfold_words
    pointwise
    have eR : chunk ((fun h s d => arg18.view.read (Elt Ideal) f18 (ix3 h s d) :
        Fin 4 → Fin 2048 → Fin 64 → EReal) 2) ⟨k, trips_lt i k⟩ l d
        = arg18.view.read (Elt Ideal) f18 (ix3 2 (row ⟨k, trips_lt i k⟩ l) d) := rfl
    rw [← eR]
    dsimp only [Matrix.cons_val]
    rw [ld3_eq arg15.view X_arg15 K hK 2 _ (off5_eq i k),
      ld5_eq arg6.view X_arg6 C hC 2 _ (off6_eq i k),
      ld3_eq arg18.view f18 _ eF 2 _ (off5_eq i k)]
    rfl
  | 3 =>
    refine (View.read_writes_cons_unit_of_mem arg18.view f18 _ _ _ _ (ix3 0 l d) (off7_eq i k)
      (fun a => match a with
        | 0 => rfl
        | 1 => rfl
        | 2 => (Nat.zero_add d.val).symm)).trans ?_
    unfold_payloads
    sl_unfold_words
    pointwise
    have eR : chunk ((fun h s d => arg18.view.read (Elt Ideal) f18 (ix3 h s d) :
        Fin 4 → Fin 2048 → Fin 64 → EReal) 3) ⟨k, trips_lt i k⟩ l d
        = arg18.view.read (Elt Ideal) f18 (ix3 3 (row ⟨k, trips_lt i k⟩ l) d) := rfl
    rw [← eR]
    dsimp only [Matrix.cons_val]
    rw [ld3_eq arg15.view X_arg15 K hK 3 _ (off7_eq i k),
      ld5_eq arg6.view X_arg6 C hC 3 _ (off8_eq i k),
      ld3_eq arg18.view f18 _ eF 3 _ (off7_eq i k)]
    rfl

end Cert.FoxV
-- ==== Proof.Fox.TripN.lean ====
module

public import proofs.«01_k».proof.Proof.Fox.Base

/-!
# The forgetting attention's gradient: what one trip takes off the keys' sums
-/

@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (𝒱 : Variants) (c : Dev nD) (bd : Option 𝒱.V) (i : grid0.Coords) (arg2 : Memref sig .tc .vmem
  S512x256 .bf16) (harg2 : arg2.IsWhole) (arg3 : Memref sig .tc .vmem S2048x256 .bf16) (harg3 :
  arg3.IsWhole) (arg4 : Memref sig .tc .vmem S2048x256 .bf16) (harg4 : arg4.IsWhole) (arg5 : Memref
  sig .tc .vmem S1x4x512x1 .f32) (harg5 : arg5.IsWhole) (arg6 : Memref sig .tc .vmem S1x4x4x1x512
  .f32) (harg6 : arg6.IsWhole) (arg7 : Memref sig .tc .vmem S1x4x512x64 .f32) (harg7 : arg7.IsWhole)
  (arg8 : Memref sig .tc .vmem S1x4x512x1 .f32) (harg8 : arg8.IsWhole) (arg9 : Memref sig .tc .vmem
  S512x256 .bf16) (harg9 : arg9.IsWhole) (arg10 : Memref sig .tc .vmem S512x256 .bf16) (harg10 :
  arg10.IsWhole) (arg11 : Memref sig .tc .vmem S2048x256 .bf16) (harg11 : arg11.IsWhole) (arg12 :
  Memref sig .tc .vmem S2048x256 .bf16) (harg12 : arg12.IsWhole) (arg13 : Memref sig .tc .vmem
  S1x4x4x1x512 .f32) (harg13 : arg13.IsWhole) (arg14 : Memref sig .tc .vmem S1x4x512x1 .f32) (harg14
  : arg14.IsWhole) (arg15 : Memref sig .tc .vmem S4x2048x64 .bf16) (harg15 : arg15.IsWhole) (arg16 :
  Memref sig .tc .vmem S4x2048x64 .bf16) (harg16 : arg16.IsWhole) (arg17 : Memref sig .tc .vmem
  S4x2048x64 .f32) (harg17 : arg17.IsWhole) (arg18 : Memref sig .tc .vmem S4x2048x64 .f32) (harg18 :
  arg18.IsWhole) (arg1 : BitVec 32) (v34 : FVec Ideal S512x64 .bf16) (v38 : FVec Ideal S512x64
  .bf16) (v42 : FVec Ideal S512x64 .bf16) (v46 : FVec Ideal S512x64 .bf16) (v48 : FVec Ideal S512x64
  .bf16) (v50 : FVec Ideal S512x64 .bf16) (v52 : FVec Ideal S512x64 .bf16) (v54 : FVec Ideal S512x64
  .bf16) (v56 : FVec Ideal S512x1 .f32) (v58 : FVec Ideal S512x1 .f32) (v60 : FVec Ideal S512x1
  .f32) (v62 : FVec Ideal S512x1 .f32) (v64 : FVec Ideal S512x1 .f32) (v66 : FVec Ideal S512x1 .f32)
  (v68 : FVec Ideal S512x1 .f32) (v70 : FVec Ideal S512x1 .f32) (v76 : FVec Ideal S512x1 .f32) (v82
  : FVec Ideal S512x1 .f32) (v88 : FVec Ideal S512x1 .f32) (v94 : FVec Ideal S512x1 .f32) (v95 :
  FVec Ideal S512x64 .f32) (v96 : FVec Ideal S512x1 .f32) (v97 : FVec Ideal S512x64 .f32) (v98 :
  FVec Ideal S512x1 .f32) (X_arg6 : BufTy.Contents (Elt Ideal) arg6.view.ty) (X_arg15 :
  BufTy.Contents (Elt Ideal) arg15.view.ty) (X_arg16 : BufTy.Contents (Elt Ideal) arg16.view.ty)

variable (K V : Fin 4 → Fin 2048 → Fin 64 → EReal) (C : Fin 4 → Fin 2048 → EReal)
  (hK : ∀ h s d, arg15.view.read (Elt Ideal) X_arg15 (ix3 h s d) = K h s d)
  (hV : ∀ h s d, arg16.view.read (Elt Ideal) X_arg16 (ix3 h s d) = V h s d)
  (hC : ∀ h k l, arg6.view.read (Elt Ideal) X_arg6 (ix5 0 h k 0 l) = C h (row k l))
  (acc : Carry) (f13 : BufTy.Contents (Elt Ideal) arg13.view.ty)
  (f17 : BufTy.Contents (Elt Ideal) arg17.view.ty) (f18 : BufTy.Contents (Elt Ideal) arg18.view.ty)

include hK hV hC

/-- One trip takes off its chunk of `dck` the gradients of the scores, summed over the queries. -/
theorem trip_dck (k : Fin (k0_t1_loop i).trips) (h : Fin 4) (l : Fin 512) :
    arg13.view.read (Elt Ideal) (arg13.view.writes (Elt Ideal) f13
      (tripL_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 k acc f13 f17 f18).1) (ix5 0 h ⟨k, trips_lt i k⟩ 0 l)
      = (arg13.view.read (Elt Ideal) f13 (ix5 0 h ⟨k, trips_lt i k⟩ 0 l) + (0 - ∑ r,
        tds (![v34, v38, v42, v46] h) (![v48, v50, v52, v54] h) (![v56, v58, v60, v62] h) (![v64, v66, v68, v70] h)
        (![v76, v82, v88, v94] h) (chunk (K h) ⟨k, trips_lt i k⟩) (chunk (V h) ⟨k, trips_lt i k⟩)
        (chunk (C h) ⟨k, trips_lt i k⟩) r l) : EReal) := by
  unfold tripL_k0_t1 trip_k0_t1
  dsimp only
  match h with
  | 0 =>
    refine (View.read_writes_cons_unit_of_not_mem arg13.view f13 _ _ _ _ (off8_eq i k) 1
      (Or.inl (by show 0 < 3; omega))).trans ?_
    refine (View.read_writes_cons_unit_of_not_mem arg13.view f13 _ _ _ _ (off6_eq i k) 1
      (Or.inl (by show 0 < 2; omega))).trans ?_
    refine (View.read_writes_cons_unit_of_not_mem arg13.view f13 _ _ _ _ (off4_eq i k) 1
      (Or.inl (by show 0 < 1; omega))).trans ?_
    refine (View.read_writes_cons_unit_of_mem arg13.view f13 _ _ _ _ (ix5 0 0 0 0 l) (off2_eq i k)
      (mem5 0 ⟨k, trips_lt i k⟩ l)).trans ?_
    unfold_payloads
    sl_unfold_words
    pointwise
    rw [ld3_eq arg15.view X_arg15 K hK 0 _ (off1_eq i k),
      ld3_eq arg16.view X_arg16 V hV 0 _ (off1_eq i k),
      ld5_eq arg6.view X_arg6 C hC 0 _ (off2_eq i k),
      ld5_read arg13.view f13 0 _ (off2_eq i k) l]
    rfl
  | 1 =>
    refine (View.read_writes_cons_unit_of_not_mem arg13.view f13 _ _ _ _ (off8_eq i k) 1
      (Or.inl (by show 1 < 3; omega))).trans ?_
    refine (View.read_writes_cons_unit_of_not_mem arg13.view f13 _ _ _ _ (off6_eq i k) 1
      (Or.inl (by show 1 < 2; omega))).trans ?_
    refine (View.read_writes_cons_unit_of_mem arg13.view f13 _ _ _ _ (ix5 0 0 0 0 l) (off4_eq i k)
      (mem5 1 ⟨k, trips_lt i k⟩ l)).trans ?_
    unfold_payloads
    sl_unfold_words
    pointwise
    rw [ld3_eq arg15.view X_arg15 K hK 1 _ (off3_eq i k),
      ld3_eq arg16.view X_arg16 V hV 1 _ (off3_eq i k),
      ld5_eq arg6.view X_arg6 C hC 1 _ (off4_eq i k),
      ld5_read arg13.view f13 1 _ (off4_eq i k) l]
    rfl
  | 2 =>
    refine (View.read_writes_cons_unit_of_not_mem arg13.view f13 _ _ _ _ (off8_eq i k) 1
      (Or.inl (by show 2 < 3; omega))).trans ?_
    refine (View.read_writes_cons_unit_of_mem arg13.view f13 _ _ _ _ (ix5 0 0 0 0 l) (off6_eq i k)
      (mem5 2 ⟨k, trips_lt i k⟩ l)).trans ?_
    unfold_payloads
    sl_unfold_words
    pointwise
    rw [ld3_eq arg15.view X_arg15 K hK 2 _ (off5_eq i k),
      ld3_eq arg16.view X_arg16 V hV 2 _ (off5_eq i k),
      ld5_eq arg6.view X_arg6 C hC 2 _ (off6_eq i k),
      ld5_read arg13.view f13 2 _ (off6_eq i k) l]
    rfl
  | 3 =>
    refine (View.read_writes_cons_unit_of_mem arg13.view f13 _ _ _ _ (ix5 0 0 0 0 l) (off8_eq i k)
      (mem5 3 ⟨k, trips_lt i k⟩ l)).trans ?_
    unfold_payloads
    sl_unfold_words
    pointwise
    rw [ld3_eq arg15.view X_arg15 K hK 3 _ (off7_eq i k),
      ld3_eq arg16.view X_arg16 V hV 3 _ (off7_eq i k),
      ld5_eq arg6.view X_arg6 C hC 3 _ (off8_eq i k),
      ld5_read arg13.view f13 3 _ (off8_eq i k) l]
    rfl

end Cert.FoxV
-- ==== Proof.Fox.Miss.lean ====
module

public import proofs.«01_k».proof.Proof.Fox.Base

/-!
# The forgetting attention's gradient: a trip touches one chunk only
-/

@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (𝒱 : Variants) (c : Dev nD) (bd : Option 𝒱.V) (i : grid0.Coords) (arg2 : Memref sig .tc .vmem
  S512x256 .bf16) (harg2 : arg2.IsWhole) (arg3 : Memref sig .tc .vmem S2048x256 .bf16) (harg3 :
  arg3.IsWhole) (arg4 : Memref sig .tc .vmem S2048x256 .bf16) (harg4 : arg4.IsWhole) (arg5 : Memref
  sig .tc .vmem S1x4x512x1 .f32) (harg5 : arg5.IsWhole) (arg6 : Memref sig .tc .vmem S1x4x4x1x512
  .f32) (harg6 : arg6.IsWhole) (arg7 : Memref sig .tc .vmem S1x4x512x64 .f32) (harg7 : arg7.IsWhole)
  (arg8 : Memref sig .tc .vmem S1x4x512x1 .f32) (harg8 : arg8.IsWhole) (arg9 : Memref sig .tc .vmem
  S512x256 .bf16) (harg9 : arg9.IsWhole) (arg10 : Memref sig .tc .vmem S512x256 .bf16) (harg10 :
  arg10.IsWhole) (arg11 : Memref sig .tc .vmem S2048x256 .bf16) (harg11 : arg11.IsWhole) (arg12 :
  Memref sig .tc .vmem S2048x256 .bf16) (harg12 : arg12.IsWhole) (arg13 : Memref sig .tc .vmem
  S1x4x4x1x512 .f32) (harg13 : arg13.IsWhole) (arg14 : Memref sig .tc .vmem S1x4x512x1 .f32) (harg14
  : arg14.IsWhole) (arg15 : Memref sig .tc .vmem S4x2048x64 .bf16) (harg15 : arg15.IsWhole) (arg16 :
  Memref sig .tc .vmem S4x2048x64 .bf16) (harg16 : arg16.IsWhole) (arg17 : Memref sig .tc .vmem
  S4x2048x64 .f32) (harg17 : arg17.IsWhole) (arg18 : Memref sig .tc .vmem S4x2048x64 .f32) (harg18 :
  arg18.IsWhole) (arg1 : BitVec 32) (v34 : FVec Ideal S512x64 .bf16) (v38 : FVec Ideal S512x64
  .bf16) (v42 : FVec Ideal S512x64 .bf16) (v46 : FVec Ideal S512x64 .bf16) (v48 : FVec Ideal S512x64
  .bf16) (v50 : FVec Ideal S512x64 .bf16) (v52 : FVec Ideal S512x64 .bf16) (v54 : FVec Ideal S512x64
  .bf16) (v56 : FVec Ideal S512x1 .f32) (v58 : FVec Ideal S512x1 .f32) (v60 : FVec Ideal S512x1
  .f32) (v62 : FVec Ideal S512x1 .f32) (v64 : FVec Ideal S512x1 .f32) (v66 : FVec Ideal S512x1 .f32)
  (v68 : FVec Ideal S512x1 .f32) (v70 : FVec Ideal S512x1 .f32) (v76 : FVec Ideal S512x1 .f32) (v82
  : FVec Ideal S512x1 .f32) (v88 : FVec Ideal S512x1 .f32) (v94 : FVec Ideal S512x1 .f32) (v95 :
  FVec Ideal S512x64 .f32) (v96 : FVec Ideal S512x1 .f32) (v97 : FVec Ideal S512x64 .f32) (v98 :
  FVec Ideal S512x1 .f32) (X_arg6 : BufTy.Contents (Elt Ideal) arg6.view.ty) (X_arg15 :
  BufTy.Contents (Elt Ideal) arg15.view.ty) (X_arg16 : BufTy.Contents (Elt Ideal) arg16.view.ty)

variable (acc : Carry) (f13 : BufTy.Contents (Elt Ideal) arg13.view.ty)
  (f17 : BufTy.Contents (Elt Ideal) arg17.view.ty) (f18 : BufTy.Contents (Elt Ideal) arg18.view.ty)

/-- A trip leaves the other chunks of the buffer as they are. -/
theorem miss_dk (k : Fin (k0_t1_loop i).trips) (h k' : Fin 4) (hk : k'.val ≠ k.val) (l : Fin 512) (d : Fin 64) :
    arg17.view.read (Elt Ideal) (arg17.view.writes (Elt Ideal) f17
      (tripL_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 k acc f13 f17 f18).2.1) (ix3 h (row k' l) d)
      = arg17.view.read (Elt Ideal) f17 (ix3 h (row k' l) d) := by
  unfold tripL_k0_t1 trip_k0_t1
  dsimp only
  refine (View.read_writes_cons_unit_of_not_mem arg17.view f17 _ _ _ _ (off7_eq i k) 1
    (by show 512 * k'.val + l.val < 512 * k.val ∨ 512 * k.val + 512 ≤ 512 * k'.val + l.val; omega)).trans ?_
  refine (View.read_writes_cons_unit_of_not_mem arg17.view f17 _ _ _ _ (off5_eq i k) 1
    (by show 512 * k'.val + l.val < 512 * k.val ∨ 512 * k.val + 512 ≤ 512 * k'.val + l.val; omega)).trans ?_
  refine (View.read_writes_cons_unit_of_not_mem arg17.view f17 _ _ _ _ (off3_eq i k) 1
    (by show 512 * k'.val + l.val < 512 * k.val ∨ 512 * k.val + 512 ≤ 512 * k'.val + l.val; omega)).trans ?_
  refine (View.read_writes_cons_unit_of_not_mem arg17.view f17 _ _ _ _ (off1_eq i k) 1
    (by show 512 * k'.val + l.val < 512 * k.val ∨ 512 * k.val + 512 ≤ 512 * k'.val + l.val; omega)).trans ?_
  rfl

/-- A trip leaves the other chunks of the buffer as they are. -/
theorem miss_dv (k : Fin (k0_t1_loop i).trips) (h k' : Fin 4) (hk : k'.val ≠ k.val) (l : Fin 512) (d : Fin 64) :
    arg18.view.read (Elt Ideal) (arg18.view.writes (Elt Ideal) f18
      (tripL_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 k acc f13 f17 f18).2.2) (ix3 h (row k' l) d)
      = arg18.view.read (Elt Ideal) f18 (ix3 h (row k' l) d) := by
  unfold tripL_k0_t1 trip_k0_t1
  dsimp only
  refine (View.read_writes_cons_unit_of_not_mem arg18.view f18 _ _ _ _ (off7_eq i k) 1
    (by show 512 * k'.val + l.val < 512 * k.val ∨ 512 * k.val + 512 ≤ 512 * k'.val + l.val; omega)).trans ?_
  refine (View.read_writes_cons_unit_of_not_mem arg18.view f18 _ _ _ _ (off5_eq i k) 1
    (by show 512 * k'.val + l.val < 512 * k.val ∨ 512 * k.val + 512 ≤ 512 * k'.val + l.val; omega)).trans ?_
  refine (View.read_writes_cons_unit_of_not_mem arg18.view f18 _ _ _ _ (off3_eq i k) 1
    (by show 512 * k'.val + l.val < 512 * k.val ∨ 512 * k.val + 512 ≤ 512 * k'.val + l.val; omega)).trans ?_
  refine (View.read_writes_cons_unit_of_not_mem arg18.view f18 _ _ _ _ (off1_eq i k) 1
    (by show 512 * k'.val + l.val < 512 * k.val ∨ 512 * k.val + 512 ≤ 512 * k'.val + l.val; omega)).trans ?_
  rfl

/-- A trip leaves the other chunks of the buffer as they are. -/
theorem miss_dck (k : Fin (k0_t1_loop i).trips) (h k' : Fin 4) (hk : k'.val ≠ k.val) (l : Fin 512) :
    arg13.view.read (Elt Ideal) (arg13.view.writes (Elt Ideal) f13
      (tripL_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 k acc f13 f17 f18).1) (ix5 0 h k' 0 l)
      = arg13.view.read (Elt Ideal) f13 (ix5 0 h k' 0 l) := by
  unfold tripL_k0_t1 trip_k0_t1
  dsimp only
  refine (View.read_writes_cons_unit_of_not_mem arg13.view f13 _ _ _ _ (off8_eq i k) 2
    (by show k'.val < k.val ∨ k.val + 1 ≤ k'.val; omega)).trans ?_
  refine (View.read_writes_cons_unit_of_not_mem arg13.view f13 _ _ _ _ (off6_eq i k) 2
    (by show k'.val < k.val ∨ k.val + 1 ≤ k'.val; omega)).trans ?_
  refine (View.read_writes_cons_unit_of_not_mem arg13.view f13 _ _ _ _ (off4_eq i k) 2
    (by show k'.val < k.val ∨ k.val + 1 ≤ k'.val; omega)).trans ?_
  refine (View.read_writes_cons_unit_of_not_mem arg13.view f13 _ _ _ _ (off2_eq i k) 2
    (by show k'.val < k.val ∨ k.val + 1 ≤ k'.val; omega)).trans ?_
  rfl

end Cert.FoxV
-- ==== Proof.Fox.Loop.lean ====
module

public import proofs.«01_k».proof.Proof.Fox.TripQ
public import proofs.«01_k».proof.Proof.Fox.TripC
public import proofs.«01_k».proof.Proof.Fox.TripK
public import proofs.«01_k».proof.Proof.Fox.TripV
public import proofs.«01_k».proof.Proof.Fox.TripN
public import proofs.«01_k».proof.Proof.Fox.Miss

/-!
# The forgetting attention's gradient: the loop over the chunks before the query's own

Before trip `n` the carried arrays hold the sums over the first `n` chunks, and the first `n` chunks
of the three buffers hold what they held plus this step's part.
-/

@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (𝒱 : Variants) (c : Dev nD) (bd : Option 𝒱.V) (i : grid0.Coords) (arg2 : Memref sig .tc .vmem
  S512x256 .bf16) (harg2 : arg2.IsWhole) (arg3 : Memref sig .tc .vmem S2048x256 .bf16) (harg3 :
  arg3.IsWhole) (arg4 : Memref sig .tc .vmem S2048x256 .bf16) (harg4 : arg4.IsWhole) (arg5 : Memref
  sig .tc .vmem S1x4x512x1 .f32) (harg5 : arg5.IsWhole) (arg6 : Memref sig .tc .vmem S1x4x4x1x512
  .f32) (harg6 : arg6.IsWhole) (arg7 : Memref sig .tc .vmem S1x4x512x64 .f32) (harg7 : arg7.IsWhole)
  (arg8 : Memref sig .tc .vmem S1x4x512x1 .f32) (harg8 : arg8.IsWhole) (arg9 : Memref sig .tc .vmem
  S512x256 .bf16) (harg9 : arg9.IsWhole) (arg10 : Memref sig .tc .vmem S512x256 .bf16) (harg10 :
  arg10.IsWhole) (arg11 : Memref sig .tc .vmem S2048x256 .bf16) (harg11 : arg11.IsWhole) (arg12 :
  Memref sig .tc .vmem S2048x256 .bf16) (harg12 : arg12.IsWhole) (arg13 : Memref sig .tc .vmem
  S1x4x4x1x512 .f32) (harg13 : arg13.IsWhole) (arg14 : Memref sig .tc .vmem S1x4x512x1 .f32) (harg14
  : arg14.IsWhole) (arg15 : Memref sig .tc .vmem S4x2048x64 .bf16) (harg15 : arg15.IsWhole) (arg16 :
  Memref sig .tc .vmem S4x2048x64 .bf16) (harg16 : arg16.IsWhole) (arg17 : Memref sig .tc .vmem
  S4x2048x64 .f32) (harg17 : arg17.IsWhole) (arg18 : Memref sig .tc .vmem S4x2048x64 .f32) (harg18 :
  arg18.IsWhole) (arg1 : BitVec 32) (v34 : FVec Ideal S512x64 .bf16) (v38 : FVec Ideal S512x64
  .bf16) (v42 : FVec Ideal S512x64 .bf16) (v46 : FVec Ideal S512x64 .bf16) (v48 : FVec Ideal S512x64
  .bf16) (v50 : FVec Ideal S512x64 .bf16) (v52 : FVec Ideal S512x64 .bf16) (v54 : FVec Ideal S512x64
  .bf16) (v56 : FVec Ideal S512x1 .f32) (v58 : FVec Ideal S512x1 .f32) (v60 : FVec Ideal S512x1
  .f32) (v62 : FVec Ideal S512x1 .f32) (v64 : FVec Ideal S512x1 .f32) (v66 : FVec Ideal S512x1 .f32)
  (v68 : FVec Ideal S512x1 .f32) (v70 : FVec Ideal S512x1 .f32) (v76 : FVec Ideal S512x1 .f32) (v82
  : FVec Ideal S512x1 .f32) (v88 : FVec Ideal S512x1 .f32) (v94 : FVec Ideal S512x1 .f32) (v95 :
  FVec Ideal S512x64 .f32) (v96 : FVec Ideal S512x1 .f32) (v97 : FVec Ideal S512x64 .f32) (v98 :
  FVec Ideal S512x1 .f32) (X_arg6 : BufTy.Contents (Elt Ideal) arg6.view.ty) (X_arg15 :
  BufTy.Contents (Elt Ideal) arg15.view.ty) (X_arg16 : BufTy.Contents (Elt Ideal) arg16.view.ty)

/-- A sum over the chunks below `n + 1` is the sum over those below `n` and chunk `n`'s term. -/
theorem sum_lt_succ (f : Fin 4 → EReal) (n : ℕ) (hn : n < 4) :
    (∑ k : Fin 4, if k.val < n + 1 then f k else 0)
      = (∑ k : Fin 4, if k.val < n then f k else 0) + f ⟨n, hn⟩ := by
  have e : ∀ k : Fin 4, (if k.val < n + 1 then f k else 0)
      = (if k.val < n then f k else 0) + if k = ⟨n, hn⟩ then f k else 0 := by
    intro k
    by_cases h : k = ⟨n, hn⟩
    · subst h
      simp
    · have : k.val ≠ n := fun h' => h (Fin.ext h')
      by_cases h2 : k.val < n
      · rw [if_pos h2, if_pos (by omega), if_neg h, add_zero]
      · rw [if_neg h2, if_neg (by omega), if_neg h, add_zero]
  rw [Finset.sum_congr rfl fun k _ => e k, Finset.sum_add_distrib]
  congr 1
  simp

variable (K V : Fin 4 → Fin 2048 → Fin 64 → EReal) (C : Fin 4 → Fin 2048 → EReal)
  (hK : ∀ h s d, arg15.view.read (Elt Ideal) X_arg15 (ix3 h s d) = K h s d)
  (hV : ∀ h s d, arg16.view.read (Elt Ideal) X_arg16 (ix3 h s d) = V h s d)
  (hC : ∀ h k l, arg6.view.read (Elt Ideal) X_arg6 (ix5 0 h k 0 l) = C h (row k l))
  (init : Carry) (G13 : BufTy.Contents (Elt Ideal) arg13.view.ty)
  (G17 : BufTy.Contents (Elt Ideal) arg17.view.ty) (G18 : BufTy.Contents (Elt Ideal) arg18.view.ty)

/-- What the loop's state says before trip `n`. -/
structure LoopAt (n : ℕ) : Prop where
  dq : ∀ (h : Fin 4) (r : Fin 512) (d : Fin 64),
    carQ (st_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 G13 G17 G18 init n).1 h (ix2 r d)
      = (carQ init h (ix2 r d) + ∑ k : Fin 4, if k.val < n then ∑ l,
        tds (![v34, v38, v42, v46] h) (![v48, v50, v52, v54] h) (![v56, v58, v60, v62] h) (![v64, v66, v68, v70] h)
        (![v76, v82, v88, v94] h) (chunk (K h) k) (chunk (V h) k)
        (chunk (C h) k) r l
          * chunk (K h) k l d else 0 : EReal)
  dcq : ∀ (h : Fin 4) (r : Fin 512),
    carC (st_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 G13 G17 G18 init n).1 h (ix2 r 0)
      = (carC init h (ix2 r 0) + ∑ k : Fin 4, if k.val < n then ∑ l,
        tds (![v34, v38, v42, v46] h) (![v48, v50, v52, v54] h) (![v56, v58, v60, v62] h) (![v64, v66, v68, v70] h)
        (![v76, v82, v88, v94] h) (chunk (K h) k) (chunk (V h) k)
        (chunk (C h) k) r l
        else 0 : EReal)
  dk : ∀ (h k : Fin 4) (l : Fin 512) (d : Fin 64),
    arg17.view.read (Elt Ideal) (arg17.view.writes (Elt Ideal) G17 (st_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 G13 G17 G18 init n).2.2.1)
      (ix3 h (row k l) d)
      = (arg17.view.read (Elt Ideal) G17 (ix3 h (row k l) d) + if k.val < n then ∑ r,
        tds (![v34, v38, v42, v46] h) (![v48, v50, v52, v54] h) (![v56, v58, v60, v62] h) (![v64, v66, v68, v70] h)
        (![v76, v82, v88, v94] h) (chunk (K h) k) (chunk (V h) k)
        (chunk (C h) k) r l
          * (![v34, v38, v42, v46] h) (ix2 r d) else 0 : EReal)
  dv : ∀ (h k : Fin 4) (l : Fin 512) (d : Fin 64),
    arg18.view.read (Elt Ideal) (arg18.view.writes (Elt Ideal) G18 (st_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 G13 G17 G18 init n).2.2.2)
      (ix3 h (row k l) d)
      = (arg18.view.read (Elt Ideal) G18 (ix3 h (row k l) d) + if k.val < n then ∑ r,
        tw (![v34, v38, v42, v46] h) (![v56, v58, v60, v62] h) (![v64, v66, v68, v70] h) (chunk (K h) k)
        (chunk (C h) k) r l
          * (![v48, v50, v52, v54] h) (ix2 r d) else 0 : EReal)
  dck : ∀ (h k : Fin 4) (l : Fin 512),
    arg13.view.read (Elt Ideal) (arg13.view.writes (Elt Ideal) G13 (st_k0_t1 (F := Ideal) 𝒱 c bd i arg2 harg2 arg3 harg3 arg4 harg4 arg5 harg5 arg6 harg6 arg7 harg7 arg8
    harg8 arg9 harg9 arg10 harg10 arg11 harg11 arg12 harg12 arg13 harg13 arg14 harg14 arg15 harg15
    arg16 harg16 arg17 harg17 arg18 harg18 arg1 v34 v38 v42 v46 v48 v50 v52 v54 v56 v58 v60 v62 v64
    v66 v68 v70 v76 v82 v88 v94 v95 v96 v97 v98 X_arg6 X_arg15 X_arg16 G13 G17 G18 init n).2.1)
      (ix5 0 h k 0 l)
      = (arg13.view.read (Elt Ideal) G13 (ix5 0 h k 0 l) + if k.val < n then 0 - ∑ r,
        tds (![v34, v38, v42, v46] h) (![v48, v50, v52, v54] h) (![v56, v58, v60, v62] h) (![v64, v66, v68, v70] h)
        (![v76, v82, v88, v94] h) (chunk (K h) k) (chunk (V h) k)
        (chunk (C h) k) r l
        else 0 : EReal)

include hK hV hC

/-- It says so before every trip. -/
theorem loopAt (n : ℕ) (hn : n ≤ (k0_t1_loop i).trips) :
    LoopAt 𝒱 c bd i arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg1 v34 v38 v42 v46 v48 v50 v52 v54 v56 v58
      v60 v62 v64 v66 v68 v70 v76 v82 v88 v94 v95 v96 v97 v98 X_arg6 X_arg15 X_arg16 K V C init
      G13 G17 G18 n := by
  induction n with
  | zero =>
    refine ⟨?_, ?_, ?_, ?_, ?_⟩
    · intro h r d
      rw [st_k0_t1.eq_1]
      simp
    · intro h r
      rw [st_k0_t1.eq_1]
      simp
    · intro h k l d
      rw [st_k0_t1.eq_1]
      simp
    · intro h k l d
      rw [st_k0_t1.eq_1]
      simp
    · intro h k l
      rw [st_k0_t1.eq_1]
      simp
  | succ n ih =>
    obtain ⟨iq, ic, ik, iv, id⟩ := ih (by omega)
    have e := st_k0_t1_succ (F := Ideal) 𝒱 c bd i arg2 harg2 arg3 harg3 arg4 harg4 arg5 harg5 arg6 harg6 arg7 harg7 arg8
      harg8 arg9 harg9 arg10 harg10 arg11 harg11 arg12 harg12 arg13 harg13 arg14 harg14 arg15 harg15
      arg16 harg16 arg17 harg17 arg18 harg18 arg1 v34 v38 v42 v46 v48 v50 v52 v54 v56 v58 v60 v62 v64
      v66 v68 v70 v76 v82 v88 v94 v95 v96 v97 v98 X_arg6 X_arg15 X_arg16 G13 G17 G18 init ⟨n, hn⟩
    dsimp only at e
    have h4 : n < 4 := trips_lt i ⟨n, hn⟩
    refine ⟨?_, ?_, ?_, ?_, ?_⟩
    · intro h r d
      rw [e]
      dsimp only
      rw [sum_lt_succ _ n h4, ← add_assoc, ← iq h r d]
      exact trip_dq (hK := hK) (hV := hV) (hC := hC) (k := ⟨n, hn⟩) (h := h) (r := r) (d := d) ..
    · intro h r
      rw [e]
      dsimp only
      rw [sum_lt_succ _ n h4, ← add_assoc, ← ic h r]
      exact trip_dcq (hK := hK) (hV := hV) (hC := hC) (k := ⟨n, hn⟩) (h := h) (r := r) ..
    · intro h k l d
      rw [e]
      dsimp only
      rw [View.writes_append]
      by_cases hk : k.val = n
      · obtain rfl : k = ⟨n, h4⟩ := Fin.ext hk
        refine (trip_dk (hK := hK) (hV := hV) (hC := hC) (k := ⟨n, hn⟩) (h := h) (l := l) (d := d) ..).trans ?_
        rw [if_pos (Nat.lt_succ_self n), ik h ⟨n, h4⟩ l d, if_neg (lt_irrefl n), add_zero]
      · refine (miss_dk (k := ⟨n, hn⟩) (h := h) (k' := k) (hk := hk) (l := l) (d := d) ..).trans ?_
        rw [ik h k l d]
        congr 1
        exact if_congr (by omega) rfl rfl
    · intro h k l d
      rw [e]
      dsimp only
      rw [View.writes_append]
      by_cases hk : k.val = n
      · obtain rfl : k = ⟨n, h4⟩ := Fin.ext hk
        refine (trip_dv (hK := hK) (hV := hV) (hC := hC) (k := ⟨n, hn⟩) (h := h) (l := l) (d := d) ..).trans ?_
        rw [if_pos (Nat.lt_succ_self n), iv h ⟨n, h4⟩ l d, if_neg (lt_irrefl n), add_zero]
      · refine (miss_dv (k := ⟨n, hn⟩) (h := h) (k' := k) (hk := hk) (l := l) (d := d) ..).trans ?_
        rw [iv h k l d]
        congr 1
        exact if_congr (by omega) rfl rfl
    · intro h k l
      rw [e]
      dsimp only
      rw [View.writes_append]
      by_cases hk : k.val = n
      · obtain rfl : k = ⟨n, h4⟩ := Fin.ext hk
        refine (trip_dck (hK := hK) (hV := hV) (hC := hC) (k := ⟨n, hn⟩) (h := h) (l := l) ..).trans ?_
        rw [if_pos (Nat.lt_succ_self n), id h ⟨n, h4⟩ l, if_neg (lt_irrefl n), add_zero]
      · refine (miss_dck (k := ⟨n, hn⟩) (h := h) (k' := k) (hk := hk) (l := l) ..).trans ?_
        rw [id h k l]
        congr 1
        exact if_congr (by omega) rfl rfl

end Cert.FoxV
-- ==== Proof.Fox.Step.lean ====
module
public import proofs.«01_k».proof.Proof.Fox.Diag
/-! # Adding the masked tile to one chunk of the three buffers

At the end of a grid point each head's chunk of `dk`, `dv` and `dck` is loaded, increased and stored
back, head after head. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

theorem off17_eq (i : grid0.Coords) : k0_off17 i = ![(0 : Fin 4).val, 512 * (i 1).val, 0] := by
  revert i
  decide +kernel

theorem off18_eq (i : grid0.Coords) : k0_off18 i = ![0, (0 : Fin 4).val, (i 1).val, 0, 0] := by
  revert i
  decide +kernel

theorem off19_eq (i : grid0.Coords) : k0_off19 i = ![(1 : Fin 4).val, 512 * (i 1).val, 0] := by
  revert i
  decide +kernel

theorem off20_eq (i : grid0.Coords) : k0_off20 i = ![0, (1 : Fin 4).val, (i 1).val, 0, 0] := by
  revert i
  decide +kernel

theorem off21_eq (i : grid0.Coords) : k0_off21 i = ![(2 : Fin 4).val, 512 * (i 1).val, 0] := by
  revert i
  decide +kernel

theorem off22_eq (i : grid0.Coords) : k0_off22 i = ![0, (2 : Fin 4).val, (i 1).val, 0, 0] := by
  revert i
  decide +kernel

theorem off23_eq (i : grid0.Coords) : k0_off23 i = ![(3 : Fin 4).val, 512 * (i 1).val, 0] := by
  revert i
  decide +kernel

theorem off24_eq (i : grid0.Coords) : k0_off24 i = ![0, (3 : Fin 4).val, (i 1).val, 0, 0] := by
  revert i
  decide +kernel

/-- One store that increases a chunk of one head increases that chunk and leaves the others. -/
theorem step3 (v : View sig .tc .vmem S4x2048x64 .f32) (X : v.ty.Contents (Elt Ideal))
    (L : List (View.Piece (Elt Ideal) S4x2048x64 .f32)) (hd j : Fin 4) {off : Fin 3 → ℕ}
    (e : off = ![hd.val, 512 * j.val, 0])
    (b : ∀ a, off a + (![1, 512, 64] : Fin 3 → ℕ) a ≤ S4x2048x64.size a)
    (w : (Rect.unit (s := S4x2048x64) off ![1, 512, 64] b).shape.Idx → Elt Ideal .f32)
    (inc : Fin 512 → Fin 64 → EReal)
    (hw : ∀ l d, (w (ix3 0 l d) : EReal) = ld3 v (v.writes (Elt Ideal) X L) off b l d + inc l d)
    (h k : Fin 4) (l : Fin 512) (d : Fin 64) :
    (v.read (Elt Ideal) (v.writes (Elt Ideal) X
      ((⟨Rect.unit (s := S4x2048x64) off ![1, 512, 64] b, w⟩ : View.Piece (Elt Ideal) S4x2048x64 .f32) :: L))
      (ix3 h (row k l) d) : EReal)
      = v.read (Elt Ideal) (v.writes (Elt Ideal) X L) (ix3 h (row k l) d)
        + if h = hd ∧ k = j then inc l d else 0 := by
  by_cases hh : h = hd
  · by_cases hk : k = j
    · subst hh hk
      rw [if_pos ⟨rfl, rfl⟩]
      refine (View.read_writes_cons_unit_of_mem v X _ _ _ _ (ix3 0 l d) e
        (fun a => match a with
          | 0 => rfl
          | 1 => rfl
          | 2 => (Nat.zero_add d.val).symm)).trans ?_
      refine (hw l d).trans ?_
      congr 1
      exact (congrFun (congrFun (ld3_eq v (v.writes (Elt Ideal) X L)
        (fun h s d => v.read (Elt Ideal) (v.writes (Elt Ideal) X L) (ix3 h s d)) (fun _ _ _ => rfl)
        h k e) l) d).symm
    · rw [if_neg fun x => hk x.2, add_zero]
      have : k.val ≠ j.val := fun x => hk (Fin.ext x)
      exact View.read_writes_cons_unit_of_not_mem v X _ _ _ _ e 1
        (by show 512 * k.val + l.val < 512 * j.val ∨ 512 * j.val + 512 ≤ 512 * k.val + l.val; omega)
  · rw [if_neg fun x => hh x.1, add_zero]
    have : h.val ≠ hd.val := fun x => hh (Fin.ext x)
    exact View.read_writes_cons_unit_of_not_mem v X _ _ _ _ e 0
      (by show h.val < hd.val ∨ hd.val + 1 ≤ h.val; omega)

/-- The same for the buffer of the keys' gate terms. -/
theorem step5 (v : View sig .tc .vmem S1x4x4x1x512 .f32) (X : v.ty.Contents (Elt Ideal))
    (L : List (View.Piece (Elt Ideal) S1x4x4x1x512 .f32)) (hd j : Fin 4) {off : Fin 5 → ℕ}
    (e : off = ![0, hd.val, j.val, 0, 0])
    (b : ∀ a, off a + (![1, 1, 1, 1, 512] : Fin 5 → ℕ) a ≤ S1x4x4x1x512.size a)
    (w : (Rect.unit (s := S1x4x4x1x512) off ![1, 1, 1, 1, 512] b).shape.Idx → Elt Ideal .f32)
    (inc : Fin 512 → EReal)
    (hw : ∀ l, (w (ix5 0 0 0 0 l) : EReal) = ld5 v (v.writes (Elt Ideal) X L) off b l + inc l)
    (h k : Fin 4) (l : Fin 512) :
    (v.read (Elt Ideal) (v.writes (Elt Ideal) X
      ((⟨Rect.unit (s := S1x4x4x1x512) off ![1, 1, 1, 1, 512] b, w⟩ :
        View.Piece (Elt Ideal) S1x4x4x1x512 .f32) :: L)) (ix5 0 h k 0 l) : EReal)
      = v.read (Elt Ideal) (v.writes (Elt Ideal) X L) (ix5 0 h k 0 l)
        + if h = hd ∧ k = j then inc l else 0 := by
  by_cases hh : h = hd
  · by_cases hk : k = j
    · subst hh hk
      rw [if_pos ⟨rfl, rfl⟩]
      refine (View.read_writes_cons_unit_of_mem v X _ _ _ _ (ix5 0 0 0 0 l) e (mem5 h k l)).trans ?_
      refine (hw l).trans ?_
      congr 1
      exact (ld5_read v (v.writes (Elt Ideal) X L) h k e l).symm
    · rw [if_neg fun x => hk x.2, add_zero]
      have : k.val ≠ j.val := fun x => hk (Fin.ext x)
      exact View.read_writes_cons_unit_of_not_mem v X _ _ _ _ e 2
        (by show k.val < j.val ∨ j.val + 1 ≤ k.val; omega)
  · rw [if_neg fun x => hh x.1, add_zero]
    have : h.val ≠ hd.val := fun x => hh (Fin.ext x)
    exact View.read_writes_cons_unit_of_not_mem v X _ _ _ _ e 1
      (by show h.val < hd.val ∨ hd.val + 1 ≤ h.val; omega)

/-- Of four terms, one per head, only head `h`'s counts. -/
theorem sel4 (a : EReal) (f : Fin 4 → EReal) (p : Prop) [Decidable p] (h : Fin 4) :
    a + (if h = 0 ∧ p then f 0 else 0) + (if h = 1 ∧ p then f 1 else 0) + (if h = 2 ∧ p then f 2 else 0)
      + (if h = 3 ∧ p then f 3 else 0) = a + if p then f h else 0 := by
  match h with
  | 0 => simp
  | 1 => simp
  | 2 => simp
  | 3 => simp

variable (i : grid0.Coords) (q0 q1 q2 q3 dy0 dy1 dy2 dy3 : FVec Ideal S512x64 .bf16)
  (cq0 cq1 cq2 cq3 ls0 ls1 ls2 ls3 dl0 dl1 dl2 dl3 : FVec Ideal S512x1 .f32)
  (m6 : View sig .tc .vmem S1x4x4x1x512 .f32) (m15 m16 : View sig .tc .vmem S4x2048x64 .bf16)
  (X6 : m6.ty.Contents (Elt Ideal)) (X15 : m15.ty.Contents (Elt Ideal)) (X16 : m16.ty.Contents (Elt Ideal))
  (K V : Fin 4 → Fin 2048 → Fin 64 → EReal) (C : Fin 4 → Fin 2048 → EReal)
  (hK : ∀ h s d, m15.read (Elt Ideal) X15 (ix3 h s d) = K h s d)
  (hV : ∀ h s d, m16.read (Elt Ideal) X16 (ix3 h s d) = V h s d)
  (hC : ∀ h k l, m6.read (Elt Ideal) X6 (ix5 0 h k 0 l) = C h (row k l))

/-- The chunk of the query rows of a grid point. -/
abbrev jj (i : grid0.Coords) : Fin 4 := i 1

/-- The masked gradients of one head at this step. -/
abbrev tdH (h : Fin 4) (r l : Fin 512) : EReal :=
  tdd (![q0, q1, q2, q3] h) (![dy0, dy1, dy2, dy3] h) (![cq0, cq1, cq2, cq3] h) (![ls0, ls1, ls2, ls3] h)
    (![dl0, dl1, dl2, dl3] h) (chunk (K h) (jj i)) (chunk (V h) (jj i)) (chunk (C h) (jj i)) r l

/-- The masked weights of one head at this step. -/
abbrev twH (h : Fin 4) (r l : Fin 512) : EReal :=
  twd (![q0, q1, q2, q3] h) (![cq0, cq1, cq2, cq3] h) (![ls0, ls1, ls2, ls3] h)
    (chunk (K h) (jj i)) (chunk (C h) (jj i)) r l

include hK hC hV in
/-- The four heads' stores into `dk` one after another. -/
theorem diag_dk (vw : View sig .tc .vmem S4x2048x64 .f32) (X : vw.ty.Contents (Elt Ideal))
    (L : List (View.Piece (Elt Ideal) S4x2048x64 .f32))
    {w0 : Vec Ideal S1x512x64 .f32}
    (hw0 : w0 = k0_pay144 q0 (k0_pay142 q0 dy0 cq0 ls0 dl0 (View.readAt (Elt Ideal) m15 (Rect.unit (s := S4x2048x64) (k0_off17 i) S1x512x64.size (k0_off17_inb i)).toLoadRect X15) (View.readAt (Elt Ideal) m6 (Rect.unit (s := S1x4x4x1x512) (k0_off18 i) S1x1x1x1x512.size (k0_off18_inb i)).toLoadRect X6) (View.readAt (Elt Ideal) m16 (Rect.unit (s := S4x2048x64) (k0_off17 i) S1x512x64.size (k0_off17_inb i)).toLoadRect X16)) (View.readAt (Elt Ideal) vw (Rect.unit (s := S4x2048x64) (k0_off17 i) S1x512x64.size (k0_off17_inb i)).toLoadRect (vw.writes (Elt Ideal) X L)))
    {w1 : Vec Ideal S1x512x64 .f32}
    (hw1 : w1 = k0_pay154 q1 dy1 cq1 ls1 dl1 (View.readAt (Elt Ideal) m15 (Rect.unit (s := S4x2048x64) (k0_off19 i) S1x512x64.size (k0_off19_inb i)).toLoadRect X15) (View.readAt (Elt Ideal) m6 (Rect.unit (s := S1x4x4x1x512) (k0_off20 i) S1x1x1x1x512.size (k0_off20_inb i)).toLoadRect X6) (View.readAt (Elt Ideal) m16 (Rect.unit (s := S4x2048x64) (k0_off19 i) S1x512x64.size (k0_off19_inb i)).toLoadRect X16) (View.readAt (Elt Ideal) vw (Rect.unit (s := S4x2048x64) (k0_off19 i) S1x512x64.size (k0_off19_inb i)).toLoadRect (vw.writes (Elt Ideal) X (⟨Rect.unit (s := S4x2048x64) (k0_off17 i) S1x512x64.size (k0_off17_inb i), w0⟩ :: L))))
    {w2 : Vec Ideal S1x512x64 .f32}
    (hw2 : w2 = k0_pay164 q2 dy2 ls2 dl2 (k0_pay159 q2 cq2 (View.readAt (Elt Ideal) m15 (Rect.unit (s := S4x2048x64) (k0_off21 i) S1x512x64.size (k0_off21_inb i)).toLoadRect X15) (View.readAt (Elt Ideal) m6 (Rect.unit (s := S1x4x4x1x512) (k0_off22 i) S1x1x1x1x512.size (k0_off22_inb i)).toLoadRect X6)) (iota Kind.tc S512x512 32 [0] iota_S512x512_d0_w32) (iota Kind.tc S512x512 32 [1] iota_S512x512_d1_w32) (View.readAt (Elt Ideal) m16 (Rect.unit (s := S4x2048x64) (k0_off21 i) S1x512x64.size (k0_off21_inb i)).toLoadRect X16) (View.readAt (Elt Ideal) vw (Rect.unit (s := S4x2048x64) (k0_off21 i) S1x512x64.size (k0_off21_inb i)).toLoadRect (vw.writes (Elt Ideal) X (⟨Rect.unit (s := S4x2048x64) (k0_off19 i) S1x512x64.size (k0_off19_inb i), w1⟩ :: (⟨Rect.unit (s := S4x2048x64) (k0_off17 i) S1x512x64.size (k0_off17_inb i), w0⟩ :: L)))))
    {w3 : Vec Ideal S1x512x64 .f32}
    (hw3 : w3 = k0_pay174 q3 (k0_pay172 q3 dy3 cq3 ls3 dl3 (View.readAt (Elt Ideal) m15 (Rect.unit (s := S4x2048x64) (k0_off23 i) S1x512x64.size (k0_off23_inb i)).toLoadRect X15) (View.readAt (Elt Ideal) m6 (Rect.unit (s := S1x4x4x1x512) (k0_off24 i) S1x1x1x1x512.size (k0_off24_inb i)).toLoadRect X6) (View.readAt (Elt Ideal) m16 (Rect.unit (s := S4x2048x64) (k0_off23 i) S1x512x64.size (k0_off23_inb i)).toLoadRect X16)) (View.readAt (Elt Ideal) vw (Rect.unit (s := S4x2048x64) (k0_off23 i) S1x512x64.size (k0_off23_inb i)).toLoadRect (vw.writes (Elt Ideal) X (⟨Rect.unit (s := S4x2048x64) (k0_off21 i) S1x512x64.size (k0_off21_inb i), w2⟩ :: (⟨Rect.unit (s := S4x2048x64) (k0_off19 i) S1x512x64.size (k0_off19_inb i), w1⟩ :: (⟨Rect.unit (s := S4x2048x64) (k0_off17 i) S1x512x64.size (k0_off17_inb i), w0⟩ :: L))))))
    (h k : Fin 4) (l : Fin 512) (d : Fin 64) :
    (vw.read (Elt Ideal) (vw.writes (Elt Ideal) X
      (⟨Rect.unit (s := S4x2048x64) (k0_off23 i) S1x512x64.size (k0_off23_inb i), w3⟩ :: (⟨Rect.unit (s := S4x2048x64) (k0_off21 i) S1x512x64.size (k0_off21_inb i), w2⟩ :: (⟨Rect.unit (s := S4x2048x64) (k0_off19 i) S1x512x64.size (k0_off19_inb i), w1⟩ :: (⟨Rect.unit (s := S4x2048x64) (k0_off17 i) S1x512x64.size (k0_off17_inb i), w0⟩ :: L))))) (ix3 h (row k l) d) : EReal)
      = vw.read (Elt Ideal) (vw.writes (Elt Ideal) X L) (ix3 h (row k l) d)
        + if k = jj i then ∑ r : Fin 512, tdH i q0 q1 q2 q3 dy0 dy1 dy2 dy3 cq0 cq1 cq2 cq3 ls0 ls1 ls2 ls3 dl0 dl1 dl2 dl3 K V C h r l * (![q0, q1, q2, q3] h) (ix2 r d) else 0 := by
  have s3 := step3 vw X _ 3 (jj i) (off23_eq i) (k0_off23_inb i) w3 (fun l d => ∑ r : Fin 512, tdH i q0 q1 q2 q3 dy0 dy1 dy2 dy3 cq0 cq1 cq2 cq3 ls0 ls1 ls2 ls3 dl0 dl1 dl2 dl3 K V C 3 r l * (![q0, q1, q2, q3] 3) (ix2 r d))
    (fun l d => by
      subst hw3
      refine (d3_dk q3 dy3 cq3 ls3 dl3 _ _ _ _ l d).trans ?_
      dsimp only [Matrix.cons_val, tdH, twH]
      rw [ld3_eq m15 X15 K hK 3 (jj i) (off23_eq i), ld3_eq m16 X16 V hV 3 (jj i) (off23_eq i), ld5_eq m6 X6 C hC 3 (jj i) (off24_eq i)]
      rfl) h k l d
  have s2 := step3 vw X _ 2 (jj i) (off21_eq i) (k0_off21_inb i) w2 (fun l d => ∑ r : Fin 512, tdH i q0 q1 q2 q3 dy0 dy1 dy2 dy3 cq0 cq1 cq2 cq3 ls0 ls1 ls2 ls3 dl0 dl1 dl2 dl3 K V C 2 r l * (![q0, q1, q2, q3] 2) (ix2 r d))
    (fun l d => by
      subst hw2
      refine (d2_dk q2 dy2 cq2 ls2 dl2 _ _ _ _ l d).trans ?_
      dsimp only [Matrix.cons_val, tdH, twH]
      rw [ld3_eq m15 X15 K hK 2 (jj i) (off21_eq i), ld3_eq m16 X16 V hV 2 (jj i) (off21_eq i), ld5_eq m6 X6 C hC 2 (jj i) (off22_eq i)]
      rfl) h k l d
  have s1 := step3 vw X _ 1 (jj i) (off19_eq i) (k0_off19_inb i) w1 (fun l d => ∑ r : Fin 512, tdH i q0 q1 q2 q3 dy0 dy1 dy2 dy3 cq0 cq1 cq2 cq3 ls0 ls1 ls2 ls3 dl0 dl1 dl2 dl3 K V C 1 r l * (![q0, q1, q2, q3] 1) (ix2 r d))
    (fun l d => by
      subst hw1
      refine (d1_dk q1 dy1 cq1 ls1 dl1 _ _ _ _ l d).trans ?_
      dsimp only [Matrix.cons_val, tdH, twH]
      rw [ld3_eq m15 X15 K hK 1 (jj i) (off19_eq i), ld3_eq m16 X16 V hV 1 (jj i) (off19_eq i), ld5_eq m6 X6 C hC 1 (jj i) (off20_eq i)]
      rfl) h k l d
  have s0 := step3 vw X _ 0 (jj i) (off17_eq i) (k0_off17_inb i) w0 (fun l d => ∑ r : Fin 512, tdH i q0 q1 q2 q3 dy0 dy1 dy2 dy3 cq0 cq1 cq2 cq3 ls0 ls1 ls2 ls3 dl0 dl1 dl2 dl3 K V C 0 r l * (![q0, q1, q2, q3] 0) (ix2 r d))
    (fun l d => by
      subst hw0
      refine (d0_dk q0 dy0 cq0 ls0 dl0 _ _ _ _ l d).trans ?_
      dsimp only [Matrix.cons_val, tdH, twH]
      rw [ld3_eq m15 X15 K hK 0 (jj i) (off17_eq i), ld3_eq m16 X16 V hV 0 (jj i) (off17_eq i), ld5_eq m6 X6 C hC 0 (jj i) (off18_eq i)]
      rfl) h k l d
  exact s3.trans ((congrArg₂ (· + ·) (s2.trans (congrArg₂ (· + ·) (s1.trans (congrArg₂ (· + ·) s0 rfl)) rfl)) rfl).trans
    (sel4 _ (fun H => ∑ r : Fin 512, tdH i q0 q1 q2 q3 dy0 dy1 dy2 dy3 cq0 cq1 cq2 cq3 ls0 ls1 ls2 ls3 dl0 dl1 dl2 dl3 K V C H r l * (![q0, q1, q2, q3] H) (ix2 r d)) (k = jj i) h))

include hK hC  in
/-- The four heads' stores into `dv` one after another. -/
theorem diag_dv (vw : View sig .tc .vmem S4x2048x64 .f32) (X : vw.ty.Contents (Elt Ideal))
    (L : List (View.Piece (Elt Ideal) S4x2048x64 .f32))
    {w0 : Vec Ideal S1x512x64 .f32}
    (hw0 : w0 = k0_pay145 dy0 (k0_pay140 q0 cq0 ls0 (View.readAt (Elt Ideal) m15 (Rect.unit (s := S4x2048x64) (k0_off17 i) S1x512x64.size (k0_off17_inb i)).toLoadRect X15) (View.readAt (Elt Ideal) m6 (Rect.unit (s := S1x4x4x1x512) (k0_off18 i) S1x1x1x1x512.size (k0_off18_inb i)).toLoadRect X6)) (View.readAt (Elt Ideal) vw (Rect.unit (s := S4x2048x64) (k0_off17 i) S1x512x64.size (k0_off17_inb i)).toLoadRect (vw.writes (Elt Ideal) X L)))
    {w1 : Vec Ideal S1x512x64 .f32}
    (hw1 : w1 = k0_pay155 dy1 (k0_pay150 q1 cq1 ls1 (View.readAt (Elt Ideal) m15 (Rect.unit (s := S4x2048x64) (k0_off19 i) S1x512x64.size (k0_off19_inb i)).toLoadRect X15) (View.readAt (Elt Ideal) m6 (Rect.unit (s := S1x4x4x1x512) (k0_off20 i) S1x1x1x1x512.size (k0_off20_inb i)).toLoadRect X6)) (View.readAt (Elt Ideal) vw (Rect.unit (s := S4x2048x64) (k0_off19 i) S1x512x64.size (k0_off19_inb i)).toLoadRect (vw.writes (Elt Ideal) X (⟨Rect.unit (s := S4x2048x64) (k0_off17 i) S1x512x64.size (k0_off17_inb i), w0⟩ :: L))))
    {w2 : Vec Ideal S1x512x64 .f32}
    (hw2 : w2 = k0_pay165 dy2 ls2 (k0_pay159 q2 cq2 (View.readAt (Elt Ideal) m15 (Rect.unit (s := S4x2048x64) (k0_off21 i) S1x512x64.size (k0_off21_inb i)).toLoadRect X15) (View.readAt (Elt Ideal) m6 (Rect.unit (s := S1x4x4x1x512) (k0_off22 i) S1x1x1x1x512.size (k0_off22_inb i)).toLoadRect X6)) (iota Kind.tc S512x512 32 [0] iota_S512x512_d0_w32) (iota Kind.tc S512x512 32 [1] iota_S512x512_d1_w32) (View.readAt (Elt Ideal) vw (Rect.unit (s := S4x2048x64) (k0_off21 i) S1x512x64.size (k0_off21_inb i)).toLoadRect (vw.writes (Elt Ideal) X (⟨Rect.unit (s := S4x2048x64) (k0_off19 i) S1x512x64.size (k0_off19_inb i), w1⟩ :: (⟨Rect.unit (s := S4x2048x64) (k0_off17 i) S1x512x64.size (k0_off17_inb i), w0⟩ :: L)))))
    {w3 : Vec Ideal S1x512x64 .f32}
    (hw3 : w3 = k0_pay175 dy3 (k0_pay170 q3 cq3 ls3 (View.readAt (Elt Ideal) m15 (Rect.unit (s := S4x2048x64) (k0_off23 i) S1x512x64.size (k0_off23_inb i)).toLoadRect X15) (View.readAt (Elt Ideal) m6 (Rect.unit (s := S1x4x4x1x512) (k0_off24 i) S1x1x1x1x512.size (k0_off24_inb i)).toLoadRect X6)) (View.readAt (Elt Ideal) vw (Rect.unit (s := S4x2048x64) (k0_off23 i) S1x512x64.size (k0_off23_inb i)).toLoadRect (vw.writes (Elt Ideal) X (⟨Rect.unit (s := S4x2048x64) (k0_off21 i) S1x512x64.size (k0_off21_inb i), w2⟩ :: (⟨Rect.unit (s := S4x2048x64) (k0_off19 i) S1x512x64.size (k0_off19_inb i), w1⟩ :: (⟨Rect.unit (s := S4x2048x64) (k0_off17 i) S1x512x64.size (k0_off17_inb i), w0⟩ :: L))))))
    (h k : Fin 4) (l : Fin 512) (d : Fin 64) :
    (vw.read (Elt Ideal) (vw.writes (Elt Ideal) X
      (⟨Rect.unit (s := S4x2048x64) (k0_off23 i) S1x512x64.size (k0_off23_inb i), w3⟩ :: (⟨Rect.unit (s := S4x2048x64) (k0_off21 i) S1x512x64.size (k0_off21_inb i), w2⟩ :: (⟨Rect.unit (s := S4x2048x64) (k0_off19 i) S1x512x64.size (k0_off19_inb i), w1⟩ :: (⟨Rect.unit (s := S4x2048x64) (k0_off17 i) S1x512x64.size (k0_off17_inb i), w0⟩ :: L))))) (ix3 h (row k l) d) : EReal)
      = vw.read (Elt Ideal) (vw.writes (Elt Ideal) X L) (ix3 h (row k l) d)
        + if k = jj i then ∑ r : Fin 512, twH i q0 q1 q2 q3 cq0 cq1 cq2 cq3 ls0 ls1 ls2 ls3 K C h r l * (![dy0, dy1, dy2, dy3] h) (ix2 r d) else 0 := by
  have s3 := step3 vw X _ 3 (jj i) (off23_eq i) (k0_off23_inb i) w3 (fun l d => ∑ r : Fin 512, twH i q0 q1 q2 q3 cq0 cq1 cq2 cq3 ls0 ls1 ls2 ls3 K C 3 r l * (![dy0, dy1, dy2, dy3] 3) (ix2 r d))
    (fun l d => by
      subst hw3
      refine (d3_dv q3 dy3 cq3 ls3 _ _ _ l d).trans ?_
      dsimp only [Matrix.cons_val, tdH, twH]
      rw [ld3_eq m15 X15 K hK 3 (jj i) (off23_eq i), ld5_eq m6 X6 C hC 3 (jj i) (off24_eq i)]
      rfl) h k l d
  have s2 := step3 vw X _ 2 (jj i) (off21_eq i) (k0_off21_inb i) w2 (fun l d => ∑ r : Fin 512, twH i q0 q1 q2 q3 cq0 cq1 cq2 cq3 ls0 ls1 ls2 ls3 K C 2 r l * (![dy0, dy1, dy2, dy3] 2) (ix2 r d))
    (fun l d => by
      subst hw2
      refine (d2_dv q2 dy2 cq2 ls2 _ _ _ l d).trans ?_
      dsimp only [Matrix.cons_val, tdH, twH]
      rw [ld3_eq m15 X15 K hK 2 (jj i) (off21_eq i), ld5_eq m6 X6 C hC 2 (jj i) (off22_eq i)]
      rfl) h k l d
  have s1 := step3 vw X _ 1 (jj i) (off19_eq i) (k0_off19_inb i) w1 (fun l d => ∑ r : Fin 512, twH i q0 q1 q2 q3 cq0 cq1 cq2 cq3 ls0 ls1 ls2 ls3 K C 1 r l * (![dy0, dy1, dy2, dy3] 1) (ix2 r d))
    (fun l d => by
      subst hw1
      refine (d1_dv q1 dy1 cq1 ls1 _ _ _ l d).trans ?_
      dsimp only [Matrix.cons_val, tdH, twH]
      rw [ld3_eq m15 X15 K hK 1 (jj i) (off19_eq i), ld5_eq m6 X6 C hC 1 (jj i) (off20_eq i)]
      rfl) h k l d
  have s0 := step3 vw X _ 0 (jj i) (off17_eq i) (k0_off17_inb i) w0 (fun l d => ∑ r : Fin 512, twH i q0 q1 q2 q3 cq0 cq1 cq2 cq3 ls0 ls1 ls2 ls3 K C 0 r l * (![dy0, dy1, dy2, dy3] 0) (ix2 r d))
    (fun l d => by
      subst hw0
      refine (d0_dv q0 dy0 cq0 ls0 _ _ _ l d).trans ?_
      dsimp only [Matrix.cons_val, tdH, twH]
      rw [ld3_eq m15 X15 K hK 0 (jj i) (off17_eq i), ld5_eq m6 X6 C hC 0 (jj i) (off18_eq i)]
      rfl) h k l d
  exact s3.trans ((congrArg₂ (· + ·) (s2.trans (congrArg₂ (· + ·) (s1.trans (congrArg₂ (· + ·) s0 rfl)) rfl)) rfl).trans
    (sel4 _ (fun H => ∑ r : Fin 512, twH i q0 q1 q2 q3 cq0 cq1 cq2 cq3 ls0 ls1 ls2 ls3 K C H r l * (![dy0, dy1, dy2, dy3] H) (ix2 r d)) (k = jj i) h))

include hK hC hV in
/-- The four heads' stores into `dck` one after another. -/
theorem diag_dck (vw : View sig .tc .vmem S1x4x4x1x512 .f32) (X : vw.ty.Contents (Elt Ideal))
    (L : List (View.Piece (Elt Ideal) S1x4x4x1x512 .f32))
    {w0 : Vec Ideal S1x1x1x1x512 .f32}
    (hw0 : w0 = k0_pay146 (k0_pay141 q0 dy0 cq0 ls0 dl0 (View.readAt (Elt Ideal) m15 (Rect.unit (s := S4x2048x64) (k0_off17 i) S1x512x64.size (k0_off17_inb i)).toLoadRect X15) (View.readAt (Elt Ideal) m6 (Rect.unit (s := S1x4x4x1x512) (k0_off18 i) S1x1x1x1x512.size (k0_off18_inb i)).toLoadRect X6) (View.readAt (Elt Ideal) m16 (Rect.unit (s := S4x2048x64) (k0_off17 i) S1x512x64.size (k0_off17_inb i)).toLoadRect X16)) (View.readAt (Elt Ideal) vw (Rect.unit (s := S1x4x4x1x512) (k0_off18 i) S1x1x1x1x512.size (k0_off18_inb i)).toLoadRect (vw.writes (Elt Ideal) X L)))
    {w1 : Vec Ideal S1x1x1x1x512 .f32}
    (hw1 : w1 = k0_pay156 (k0_pay151 q1 dy1 cq1 ls1 dl1 (View.readAt (Elt Ideal) m15 (Rect.unit (s := S4x2048x64) (k0_off19 i) S1x512x64.size (k0_off19_inb i)).toLoadRect X15) (View.readAt (Elt Ideal) m6 (Rect.unit (s := S1x4x4x1x512) (k0_off20 i) S1x1x1x1x512.size (k0_off20_inb i)).toLoadRect X6) (View.readAt (Elt Ideal) m16 (Rect.unit (s := S4x2048x64) (k0_off19 i) S1x512x64.size (k0_off19_inb i)).toLoadRect X16)) (View.readAt (Elt Ideal) vw (Rect.unit (s := S1x4x4x1x512) (k0_off20 i) S1x1x1x1x512.size (k0_off20_inb i)).toLoadRect (vw.writes (Elt Ideal) X (⟨Rect.unit (s := S1x4x4x1x512) (k0_off18 i) S1x1x1x1x512.size (k0_off18_inb i), w0⟩ :: L))))
    {w2 : Vec Ideal S1x1x1x1x512 .f32}
    (hw2 : w2 = k0_pay167 (k0_pay161 dy2 ls2 dl2 (k0_pay159 q2 cq2 (View.readAt (Elt Ideal) m15 (Rect.unit (s := S4x2048x64) (k0_off21 i) S1x512x64.size (k0_off21_inb i)).toLoadRect X15) (View.readAt (Elt Ideal) m6 (Rect.unit (s := S1x4x4x1x512) (k0_off22 i) S1x1x1x1x512.size (k0_off22_inb i)).toLoadRect X6)) (iota Kind.tc S512x512 32 [0] iota_S512x512_d0_w32) (iota Kind.tc S512x512 32 [1] iota_S512x512_d1_w32) (View.readAt (Elt Ideal) m16 (Rect.unit (s := S4x2048x64) (k0_off21 i) S1x512x64.size (k0_off21_inb i)).toLoadRect X16)) (k0_pay166 (View.readAt (Elt Ideal) vw (Rect.unit (s := S1x4x4x1x512) (k0_off22 i) S1x1x1x1x512.size (k0_off22_inb i)).toLoadRect (vw.writes (Elt Ideal) X (⟨Rect.unit (s := S1x4x4x1x512) (k0_off20 i) S1x1x1x1x512.size (k0_off20_inb i), w1⟩ :: (⟨Rect.unit (s := S1x4x4x1x512) (k0_off18 i) S1x1x1x1x512.size (k0_off18_inb i), w0⟩ :: L))))))
    {w3 : Vec Ideal S1x1x1x1x512 .f32}
    (hw3 : w3 = k0_pay176 (k0_pay171 q3 dy3 cq3 ls3 dl3 (View.readAt (Elt Ideal) m15 (Rect.unit (s := S4x2048x64) (k0_off23 i) S1x512x64.size (k0_off23_inb i)).toLoadRect X15) (View.readAt (Elt Ideal) m6 (Rect.unit (s := S1x4x4x1x512) (k0_off24 i) S1x1x1x1x512.size (k0_off24_inb i)).toLoadRect X6) (View.readAt (Elt Ideal) m16 (Rect.unit (s := S4x2048x64) (k0_off23 i) S1x512x64.size (k0_off23_inb i)).toLoadRect X16)) (View.readAt (Elt Ideal) vw (Rect.unit (s := S1x4x4x1x512) (k0_off24 i) S1x1x1x1x512.size (k0_off24_inb i)).toLoadRect (vw.writes (Elt Ideal) X (⟨Rect.unit (s := S1x4x4x1x512) (k0_off22 i) S1x1x1x1x512.size (k0_off22_inb i), w2⟩ :: (⟨Rect.unit (s := S1x4x4x1x512) (k0_off20 i) S1x1x1x1x512.size (k0_off20_inb i), w1⟩ :: (⟨Rect.unit (s := S1x4x4x1x512) (k0_off18 i) S1x1x1x1x512.size (k0_off18_inb i), w0⟩ :: L))))))
    (h k : Fin 4) (l : Fin 512) :
    (vw.read (Elt Ideal) (vw.writes (Elt Ideal) X
      (⟨Rect.unit (s := S1x4x4x1x512) (k0_off24 i) S1x1x1x1x512.size (k0_off24_inb i), w3⟩ :: (⟨Rect.unit (s := S1x4x4x1x512) (k0_off22 i) S1x1x1x1x512.size (k0_off22_inb i), w2⟩ :: (⟨Rect.unit (s := S1x4x4x1x512) (k0_off20 i) S1x1x1x1x512.size (k0_off20_inb i), w1⟩ :: (⟨Rect.unit (s := S1x4x4x1x512) (k0_off18 i) S1x1x1x1x512.size (k0_off18_inb i), w0⟩ :: L))))) (ix5 0 h k 0 l) : EReal)
      = vw.read (Elt Ideal) (vw.writes (Elt Ideal) X L) (ix5 0 h k 0 l)
        + if k = jj i then (0 - ∑ r : Fin 512, tdH i q0 q1 q2 q3 dy0 dy1 dy2 dy3 cq0 cq1 cq2 cq3 ls0 ls1 ls2 ls3 dl0 dl1 dl2 dl3 K V C h r l) else 0 := by
  have s3 := step5 vw X _ 3 (jj i) (off24_eq i) (k0_off24_inb i) w3 (fun l => (0 - ∑ r : Fin 512, tdH i q0 q1 q2 q3 dy0 dy1 dy2 dy3 cq0 cq1 cq2 cq3 ls0 ls1 ls2 ls3 dl0 dl1 dl2 dl3 K V C 3 r l))
    (fun l => by
      subst hw3
      refine (d3_dck q3 dy3 cq3 ls3 dl3 _ _ _ _ l).trans ?_
      dsimp only [Matrix.cons_val, tdH, twH]
      rw [ld3_eq m15 X15 K hK 3 (jj i) (off23_eq i), ld3_eq m16 X16 V hV 3 (jj i) (off23_eq i), ld5_eq m6 X6 C hC 3 (jj i) (off24_eq i)]
      rfl) h k l
  have s2 := step5 vw X _ 2 (jj i) (off22_eq i) (k0_off22_inb i) w2 (fun l => (0 - ∑ r : Fin 512, tdH i q0 q1 q2 q3 dy0 dy1 dy2 dy3 cq0 cq1 cq2 cq3 ls0 ls1 ls2 ls3 dl0 dl1 dl2 dl3 K V C 2 r l))
    (fun l => by
      subst hw2
      refine (d2_dck q2 dy2 cq2 ls2 dl2 _ _ _ _ l).trans ?_
      dsimp only [Matrix.cons_val, tdH, twH]
      rw [ld3_eq m15 X15 K hK 2 (jj i) (off21_eq i), ld3_eq m16 X16 V hV 2 (jj i) (off21_eq i), ld5_eq m6 X6 C hC 2 (jj i) (off22_eq i)]
      rfl) h k l
  have s1 := step5 vw X _ 1 (jj i) (off20_eq i) (k0_off20_inb i) w1 (fun l => (0 - ∑ r : Fin 512, tdH i q0 q1 q2 q3 dy0 dy1 dy2 dy3 cq0 cq1 cq2 cq3 ls0 ls1 ls2 ls3 dl0 dl1 dl2 dl3 K V C 1 r l))
    (fun l => by
      subst hw1
      refine (d1_dck q1 dy1 cq1 ls1 dl1 _ _ _ _ l).trans ?_
      dsimp only [Matrix.cons_val, tdH, twH]
      rw [ld3_eq m15 X15 K hK 1 (jj i) (off19_eq i), ld3_eq m16 X16 V hV 1 (jj i) (off19_eq i), ld5_eq m6 X6 C hC 1 (jj i) (off20_eq i)]
      rfl) h k l
  have s0 := step5 vw X _ 0 (jj i) (off18_eq i) (k0_off18_inb i) w0 (fun l => (0 - ∑ r : Fin 512, tdH i q0 q1 q2 q3 dy0 dy1 dy2 dy3 cq0 cq1 cq2 cq3 ls0 ls1 ls2 ls3 dl0 dl1 dl2 dl3 K V C 0 r l))
    (fun l => by
      subst hw0
      refine (d0_dck q0 dy0 cq0 ls0 dl0 _ _ _ _ l).trans ?_
      dsimp only [Matrix.cons_val, tdH, twH]
      rw [ld3_eq m15 X15 K hK 0 (jj i) (off17_eq i), ld3_eq m16 X16 V hV 0 (jj i) (off17_eq i), ld5_eq m6 X6 C hC 0 (jj i) (off18_eq i)]
      rfl) h k l
  exact s3.trans ((congrArg₂ (· + ·) (s2.trans (congrArg₂ (· + ·) (s1.trans (congrArg₂ (· + ·) s0 rfl)) rfl)) rfl).trans
    (sel4 _ (fun H => (0 - ∑ r : Fin 512, tdH i q0 q1 q2 q3 dy0 dy1 dy2 dy3 cq0 cq1 cq2 cq3 ls0 ls1 ls2 ls3 dl0 dl1 dl2 dl3 K V C H r l)) (k = jj i) h))

include hK hC hV in
/-- Head 0's carried `dq` after the masked tile. -/
theorem diag_dq0 (a : FVec Ideal S512x64 .f32) (r : Fin 512) (d : Fin 64) :
    (k0_pay143 a (k0_pay139 (View.readAt (Elt Ideal) m15 (Rect.unit (s := S4x2048x64) (k0_off17 i) S1x512x64.size (k0_off17_inb i)).toLoadRect X15)) (k0_pay142 q0 dy0 cq0 ls0 dl0 (View.readAt (Elt Ideal) m15 (Rect.unit (s := S4x2048x64) (k0_off17 i) S1x512x64.size (k0_off17_inb i)).toLoadRect X15) (View.readAt (Elt Ideal) m6 (Rect.unit (s := S1x4x4x1x512) (k0_off18 i) S1x1x1x1x512.size (k0_off18_inb i)).toLoadRect X6) (View.readAt (Elt Ideal) m16 (Rect.unit (s := S4x2048x64) (k0_off17 i) S1x512x64.size (k0_off17_inb i)).toLoadRect X16)) (ix2 r d) : EReal)
      = a (ix2 r d) + ∑ l : Fin 512, tdH i q0 q1 q2 q3 dy0 dy1 dy2 dy3 cq0 cq1 cq2 cq3 ls0 ls1 ls2 ls3 dl0 dl1 dl2 dl3 K V C 0 r l * chunk (K 0) (jj i) l d := by
  refine (d0_dq q0 dy0 cq0 ls0 dl0 _ _ _ a r d).trans ?_
  dsimp only [Matrix.cons_val, tdH, twH]
  rw [ld3_eq m15 X15 K hK 0 (jj i) (off17_eq i), ld3_eq m16 X16 V hV 0 (jj i) (off17_eq i), ld5_eq m6 X6 C hC 0 (jj i) (off18_eq i)]
  rfl

include hK hC hV in
/-- Head 1's carried `dq` after the masked tile. -/
theorem diag_dq1 (a : FVec Ideal S512x64 .f32) (r : Fin 512) (d : Fin 64) :
    (k0_pay153 q1 dy1 cq1 ls1 dl1 a (View.readAt (Elt Ideal) m15 (Rect.unit (s := S4x2048x64) (k0_off19 i) S1x512x64.size (k0_off19_inb i)).toLoadRect X15) (View.readAt (Elt Ideal) m6 (Rect.unit (s := S1x4x4x1x512) (k0_off20 i) S1x1x1x1x512.size (k0_off20_inb i)).toLoadRect X6) (View.readAt (Elt Ideal) m16 (Rect.unit (s := S4x2048x64) (k0_off19 i) S1x512x64.size (k0_off19_inb i)).toLoadRect X16) (ix2 r d) : EReal)
      = a (ix2 r d) + ∑ l : Fin 512, tdH i q0 q1 q2 q3 dy0 dy1 dy2 dy3 cq0 cq1 cq2 cq3 ls0 ls1 ls2 ls3 dl0 dl1 dl2 dl3 K V C 1 r l * chunk (K 1) (jj i) l d := by
  refine (d1_dq q1 dy1 cq1 ls1 dl1 _ _ _ a r d).trans ?_
  dsimp only [Matrix.cons_val, tdH, twH]
  rw [ld3_eq m15 X15 K hK 1 (jj i) (off19_eq i), ld3_eq m16 X16 V hV 1 (jj i) (off19_eq i), ld5_eq m6 X6 C hC 1 (jj i) (off20_eq i)]
  rfl

include hK hC hV in
/-- Head 2's carried `dq` after the masked tile. -/
theorem diag_dq2 (a : FVec Ideal S512x64 .f32) (r : Fin 512) (d : Fin 64) :
    (k0_pay163 dy2 ls2 dl2 a (k0_pay158 (View.readAt (Elt Ideal) m15 (Rect.unit (s := S4x2048x64) (k0_off21 i) S1x512x64.size (k0_off21_inb i)).toLoadRect X15)) (k0_pay159 q2 cq2 (View.readAt (Elt Ideal) m15 (Rect.unit (s := S4x2048x64) (k0_off21 i) S1x512x64.size (k0_off21_inb i)).toLoadRect X15) (View.readAt (Elt Ideal) m6 (Rect.unit (s := S1x4x4x1x512) (k0_off22 i) S1x1x1x1x512.size (k0_off22_inb i)).toLoadRect X6)) (iota Kind.tc S512x512 32 [0] iota_S512x512_d0_w32) (iota Kind.tc S512x512 32 [1] iota_S512x512_d1_w32) (View.readAt (Elt Ideal) m16 (Rect.unit (s := S4x2048x64) (k0_off21 i) S1x512x64.size (k0_off21_inb i)).toLoadRect X16) (ix2 r d) : EReal)
      = a (ix2 r d) + ∑ l : Fin 512, tdH i q0 q1 q2 q3 dy0 dy1 dy2 dy3 cq0 cq1 cq2 cq3 ls0 ls1 ls2 ls3 dl0 dl1 dl2 dl3 K V C 2 r l * chunk (K 2) (jj i) l d := by
  refine (d2_dq q2 dy2 cq2 ls2 dl2 _ _ _ a r d).trans ?_
  dsimp only [Matrix.cons_val, tdH, twH]
  rw [ld3_eq m15 X15 K hK 2 (jj i) (off21_eq i), ld3_eq m16 X16 V hV 2 (jj i) (off21_eq i), ld5_eq m6 X6 C hC 2 (jj i) (off22_eq i)]
  rfl

include hK hC hV in
/-- Head 3's carried `dq` after the masked tile. -/
theorem diag_dq3 (a : FVec Ideal S512x64 .f32) (r : Fin 512) (d : Fin 64) :
    (k0_pay173 q3 dy3 cq3 ls3 dl3 a (View.readAt (Elt Ideal) m15 (Rect.unit (s := S4x2048x64) (k0_off23 i) S1x512x64.size (k0_off23_inb i)).toLoadRect X15) (View.readAt (Elt Ideal) m6 (Rect.unit (s := S1x4x4x1x512) (k0_off24 i) S1x1x1x1x512.size (k0_off24_inb i)).toLoadRect X6) (View.readAt (Elt Ideal) m16 (Rect.unit (s := S4x2048x64) (k0_off23 i) S1x512x64.size (k0_off23_inb i)).toLoadRect X16) (ix2 r d) : EReal)
      = a (ix2 r d) + ∑ l : Fin 512, tdH i q0 q1 q2 q3 dy0 dy1 dy2 dy3 cq0 cq1 cq2 cq3 ls0 ls1 ls2 ls3 dl0 dl1 dl2 dl3 K V C 3 r l * chunk (K 3) (jj i) l d := by
  refine (d3_dq q3 dy3 cq3 ls3 dl3 _ _ _ a r d).trans ?_
  dsimp only [Matrix.cons_val, tdH, twH]
  rw [ld3_eq m15 X15 K hK 3 (jj i) (off23_eq i), ld3_eq m16 X16 V hV 3 (jj i) (off23_eq i), ld5_eq m6 X6 C hC 3 (jj i) (off24_eq i)]
  rfl

include hK hC hV in
/-- Head 0's carried `dcq` after the masked tile. -/
theorem diag_dcq0 (a : FVec Ideal S512x1 .f32) (r : Fin 512) :
    (k0_pay148 a (k0_pay147 (k0_pay141 q0 dy0 cq0 ls0 dl0 (View.readAt (Elt Ideal) m15 (Rect.unit (s := S4x2048x64) (k0_off17 i) S1x512x64.size (k0_off17_inb i)).toLoadRect X15) (View.readAt (Elt Ideal) m6 (Rect.unit (s := S1x4x4x1x512) (k0_off18 i) S1x1x1x1x512.size (k0_off18_inb i)).toLoadRect X6) (View.readAt (Elt Ideal) m16 (Rect.unit (s := S4x2048x64) (k0_off17 i) S1x512x64.size (k0_off17_inb i)).toLoadRect X16))) (ix2 r 0) : EReal)
      = a (ix2 r 0) + ∑ l : Fin 512, tdH i q0 q1 q2 q3 dy0 dy1 dy2 dy3 cq0 cq1 cq2 cq3 ls0 ls1 ls2 ls3 dl0 dl1 dl2 dl3 K V C 0 r l := by
  refine (d0_dcq q0 dy0 cq0 ls0 dl0 _ _ _ a r).trans ?_
  dsimp only [Matrix.cons_val, tdH, twH]
  rw [ld3_eq m15 X15 K hK 0 (jj i) (off17_eq i), ld3_eq m16 X16 V hV 0 (jj i) (off17_eq i), ld5_eq m6 X6 C hC 0 (jj i) (off18_eq i)]
  rfl

include hK hC hV in
/-- Head 1's carried `dcq` after the masked tile. -/
theorem diag_dcq1 (a : FVec Ideal S512x1 .f32) (r : Fin 512) :
    (k0_pay157 a (k0_pay151 q1 dy1 cq1 ls1 dl1 (View.readAt (Elt Ideal) m15 (Rect.unit (s := S4x2048x64) (k0_off19 i) S1x512x64.size (k0_off19_inb i)).toLoadRect X15) (View.readAt (Elt Ideal) m6 (Rect.unit (s := S1x4x4x1x512) (k0_off20 i) S1x1x1x1x512.size (k0_off20_inb i)).toLoadRect X6) (View.readAt (Elt Ideal) m16 (Rect.unit (s := S4x2048x64) (k0_off19 i) S1x512x64.size (k0_off19_inb i)).toLoadRect X16)) (ix2 r 0) : EReal)
      = a (ix2 r 0) + ∑ l : Fin 512, tdH i q0 q1 q2 q3 dy0 dy1 dy2 dy3 cq0 cq1 cq2 cq3 ls0 ls1 ls2 ls3 dl0 dl1 dl2 dl3 K V C 1 r l := by
  refine (d1_dcq q1 dy1 cq1 ls1 dl1 _ _ _ a r).trans ?_
  dsimp only [Matrix.cons_val, tdH, twH]
  rw [ld3_eq m15 X15 K hK 1 (jj i) (off19_eq i), ld3_eq m16 X16 V hV 1 (jj i) (off19_eq i), ld5_eq m6 X6 C hC 1 (jj i) (off20_eq i)]
  rfl

include hK hC hV in
/-- Head 2's carried `dcq` after the masked tile. -/
theorem diag_dcq2 (a : FVec Ideal S512x1 .f32) (r : Fin 512) :
    (k0_pay168 a (k0_pay161 dy2 ls2 dl2 (k0_pay159 q2 cq2 (View.readAt (Elt Ideal) m15 (Rect.unit (s := S4x2048x64) (k0_off21 i) S1x512x64.size (k0_off21_inb i)).toLoadRect X15) (View.readAt (Elt Ideal) m6 (Rect.unit (s := S1x4x4x1x512) (k0_off22 i) S1x1x1x1x512.size (k0_off22_inb i)).toLoadRect X6)) (iota Kind.tc S512x512 32 [0] iota_S512x512_d0_w32) (iota Kind.tc S512x512 32 [1] iota_S512x512_d1_w32) (View.readAt (Elt Ideal) m16 (Rect.unit (s := S4x2048x64) (k0_off21 i) S1x512x64.size (k0_off21_inb i)).toLoadRect X16)) (ix2 r 0) : EReal)
      = a (ix2 r 0) + ∑ l : Fin 512, tdH i q0 q1 q2 q3 dy0 dy1 dy2 dy3 cq0 cq1 cq2 cq3 ls0 ls1 ls2 ls3 dl0 dl1 dl2 dl3 K V C 2 r l := by
  refine (d2_dcq q2 dy2 cq2 ls2 dl2 _ _ _ a r).trans ?_
  dsimp only [Matrix.cons_val, tdH, twH]
  rw [ld3_eq m15 X15 K hK 2 (jj i) (off21_eq i), ld3_eq m16 X16 V hV 2 (jj i) (off21_eq i), ld5_eq m6 X6 C hC 2 (jj i) (off22_eq i)]
  rfl

include hK hC hV in
/-- Head 3's carried `dcq` after the masked tile. -/
theorem diag_dcq3 (a : FVec Ideal S512x1 .f32) (r : Fin 512) :
    (k0_pay177 a (k0_pay171 q3 dy3 cq3 ls3 dl3 (View.readAt (Elt Ideal) m15 (Rect.unit (s := S4x2048x64) (k0_off23 i) S1x512x64.size (k0_off23_inb i)).toLoadRect X15) (View.readAt (Elt Ideal) m6 (Rect.unit (s := S1x4x4x1x512) (k0_off24 i) S1x1x1x1x512.size (k0_off24_inb i)).toLoadRect X6) (View.readAt (Elt Ideal) m16 (Rect.unit (s := S4x2048x64) (k0_off23 i) S1x512x64.size (k0_off23_inb i)).toLoadRect X16)) (ix2 r 0) : EReal)
      = a (ix2 r 0) + ∑ l : Fin 512, tdH i q0 q1 q2 q3 dy0 dy1 dy2 dy3 cq0 cq1 cq2 cq3 ls0 ls1 ls2 ls3 dl0 dl1 dl2 dl3 K V C 3 r l := by
  refine (d3_dcq q3 dy3 cq3 ls3 dl3 _ _ _ a r).trans ?_
  dsimp only [Matrix.cons_val, tdH, twH]
  rw [ld3_eq m15 X15 K hK 3 (jj i) (off23_eq i), ld3_eq m16 X16 V hV 3 (jj i) (off23_eq i), ld5_eq m6 X6 C hC 3 (jj i) (off24_eq i)]
  rfl

end Cert.FoxV
-- ==== Proof.Fox.Trips.lean ====
module
public import proofs.«01_k».proof.Proof.Fox.Words
public import proofs.«01_k».proof.Proof.Fox.Loop
public import proofs.«01_k».proof.Proof.Fox.Step
/-! # The second loop makes no trips

 -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

theorem trips2 : ∀ i : grid0.Coords, Scf.trips (k0_t2_loop i).lb (k0_t2_loop i).ub (k0_t2_loop i).st = 0 := by
  decide +kernel

theorem trips1 (i : grid0.Coords) : Scf.trips (k0_t1_loop i).lb (k0_t1_loop i).ub (k0_t1_loop i).st = (jj i).val :=
  trips_eq i

end Cert.FoxV
-- ==== Proof.Fox.Heads.lean ====
module
public import proofs.«01_k».proof.Proof.Fox.Trips
/-! # The four heads' gradients of the queries and of their gates, after the loop and the masked tile

Stated once for the three kinds of grid point. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (q0 q1 q2 q3 : FVec Ideal S512x64 .bf16) (dy0 dy1 dy2 dy3 : FVec Ideal S512x64 .bf16)
  (cq0 cq1 cq2 cq3 : FVec Ideal S512x1 .f32) (ls0 ls1 ls2 ls3 : FVec Ideal S512x1 .f32) (dl0 dl1 dl2 dl3 : FVec Ideal S512x1 .f32)
  (X6 : BufTy.Contents (Elt Ideal) arg6.view.ty) (X15 : BufTy.Contents (Elt Ideal) arg15.view.ty)
  (X16 : BufTy.Contents (Elt Ideal) arg16.view.ty) (G13 : BufTy.Contents (Elt Ideal) arg13.view.ty)
  (G17 : BufTy.Contents (Elt Ideal) arg17.view.ty) (G18 : BufTy.Contents (Elt Ideal) arg18.view.ty)

/-- What the loop over the earlier chunks carries at its end. -/
abbrev loopEnd : Carry :=
  (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val)
    q0 q1 q2 q3 dy0 dy1 dy2 dy3 cq0 cq1 cq2 cq3 ls0 ls1 ls2 ls3 dl0 dl1 dl2 dl3 k0_pay127 k0_pay128 k0_pay129 k0_pay130 X6 X15 X16 G13 G17 G18
    (k0_pay127, k0_pay128, k0_pay129, k0_pay130, k0_pay131, k0_pay132, k0_pay133, k0_pay134) (jj i).val).1

variable (K V : Fin 4 → Fin 2048 → Fin 64 → EReal) (C : Fin 4 → Fin 2048 → EReal)
  (hK : ∀ h s d, arg15.view.read (Elt Ideal) X15 (ix3 h s d) = K h s d)
  (hV : ∀ h s d, arg16.view.read (Elt Ideal) X16 (ix3 h s d) = V h s d)
  (hC : ∀ h k l, arg6.view.read (Elt Ideal) X6 (ix5 0 h k 0 l) = C h (row k l))
  (Q DO : Fin 4 → Fin 512 → Fin 64 → EReal) (CQ LS DL : Fin 4 → Fin 512 → EReal)
  (hq : ∀ h r x, ((![q0, q1, q2, q3] h) (ix2 r x) : EReal) = Q h r x)
  (hdy : ∀ h r x, ((![dy0, dy1, dy2, dy3] h) (ix2 r x) : EReal) = DO h r x)
  (hcq : ∀ h r, ((![cq0, cq1, cq2, cq3] h) (ix2 r 0) : EReal) = CQ h r)
  (hls : ∀ h r, ((![ls0, ls1, ls2, ls3] h) (ix2 r 0) : EReal) = LS h r)
  (hdl : ∀ h r, ((![dl0, dl1, dl2, dl3] h) (ix2 r 0) : EReal) = DL h r)

include hK hV hC hq hdy hcq hls hdl

/-- The four heads' `dq` after the loop and the masked tile: sums over all keys. -/
theorem keys_dq (a0 a1 a2 a3 : FVec Ideal S512x64 .f32)
    (ha : ∀ h, ![a0, a1, a2, a3] h = carQ (loopEnd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      q0 q1 q2 q3 dy0 dy1 dy2 dy3 cq0 cq1 cq2 cq3 ls0 ls1 ls2 ls3 dl0 dl1 dl2 dl3 X6 X15 X16 G13 G17 G18) h) (r : Fin 512) (d : Fin 64) :
    ((k0_pay143 a0 (k0_pay139 (View.readAt (Elt Ideal) arg15.view (Rect.unit (s := S4x2048x64) (k0_off17 i) S1x512x64.size (k0_off17_inb i)).toLoadRect X15)) (k0_pay142 q0 dy0 cq0 ls0 dl0 (View.readAt (Elt Ideal) arg15.view (Rect.unit (s := S4x2048x64) (k0_off17 i) S1x512x64.size (k0_off17_inb i)).toLoadRect X15) (View.readAt (Elt Ideal) arg6.view (Rect.unit (s := S1x4x4x1x512) (k0_off18 i) S1x1x1x1x512.size (k0_off18_inb i)).toLoadRect X6) (View.readAt (Elt Ideal) arg16.view (Rect.unit (s := S4x2048x64) (k0_off17 i) S1x512x64.size (k0_off17_inb i)).toLoadRect X16)) (ix2 r d) : EReal)
      = ∑ s, gs (jj i) (Q 0) (DO 0) (CQ 0) (LS 0) (DL 0) (K 0) (V 0) (C 0) r s * K 0 s d) ∧
    ((k0_pay153 q1 dy1 cq1 ls1 dl1 a1 (View.readAt (Elt Ideal) arg15.view (Rect.unit (s := S4x2048x64) (k0_off19 i) S1x512x64.size (k0_off19_inb i)).toLoadRect X15) (View.readAt (Elt Ideal) arg6.view (Rect.unit (s := S1x4x4x1x512) (k0_off20 i) S1x1x1x1x512.size (k0_off20_inb i)).toLoadRect X6) (View.readAt (Elt Ideal) arg16.view (Rect.unit (s := S4x2048x64) (k0_off19 i) S1x512x64.size (k0_off19_inb i)).toLoadRect X16) (ix2 r d) : EReal)
      = ∑ s, gs (jj i) (Q 1) (DO 1) (CQ 1) (LS 1) (DL 1) (K 1) (V 1) (C 1) r s * K 1 s d) ∧
    ((k0_pay163 dy2 ls2 dl2 a2 (k0_pay158 (View.readAt (Elt Ideal) arg15.view (Rect.unit (s := S4x2048x64) (k0_off21 i) S1x512x64.size (k0_off21_inb i)).toLoadRect X15)) (k0_pay159 q2 cq2 (View.readAt (Elt Ideal) arg15.view (Rect.unit (s := S4x2048x64) (k0_off21 i) S1x512x64.size (k0_off21_inb i)).toLoadRect X15) (View.readAt (Elt Ideal) arg6.view (Rect.unit (s := S1x4x4x1x512) (k0_off22 i) S1x1x1x1x512.size (k0_off22_inb i)).toLoadRect X6)) (iota Kind.tc S512x512 32 [0] iota_S512x512_d0_w32) (iota Kind.tc S512x512 32 [1] iota_S512x512_d1_w32) (View.readAt (Elt Ideal) arg16.view (Rect.unit (s := S4x2048x64) (k0_off21 i) S1x512x64.size (k0_off21_inb i)).toLoadRect X16) (ix2 r d) : EReal)
      = ∑ s, gs (jj i) (Q 2) (DO 2) (CQ 2) (LS 2) (DL 2) (K 2) (V 2) (C 2) r s * K 2 s d) ∧
    ((k0_pay173 q3 dy3 cq3 ls3 dl3 a3 (View.readAt (Elt Ideal) arg15.view (Rect.unit (s := S4x2048x64) (k0_off23 i) S1x512x64.size (k0_off23_inb i)).toLoadRect X15) (View.readAt (Elt Ideal) arg6.view (Rect.unit (s := S1x4x4x1x512) (k0_off24 i) S1x1x1x1x512.size (k0_off24_inb i)).toLoadRect X6) (View.readAt (Elt Ideal) arg16.view (Rect.unit (s := S4x2048x64) (k0_off23 i) S1x512x64.size (k0_off23_inb i)).toLoadRect X16) (ix2 r d) : EReal)
      = ∑ s, gs (jj i) (Q 3) (DO 3) (CQ 3) (LS 3) (DL 3) (K 3) (V 3) (C 3) r s * K 3 s d) := by
  have key : ∀ (h : Fin 4), (((![a0, a1, a2, a3] h) (ix2 r d) : EReal)
      + ∑ l : Fin 512, tdH i q0 q1 q2 q3 dy0 dy1 dy2 dy3 cq0 cq1 cq2 cq3 ls0 ls1 ls2 ls3 dl0 dl1 dl2 dl3 K V C h r l * chunk (K h) (jj i) l d)
      = ∑ s, gs (jj i) (Q h) (DO h) (CQ h) (LS h) (DL h) (K h) (V h) (C h) r s * K h s d := by
    intro h
    rw [ha h]
    refine (congrArg (fun t : EReal => t + _) ((loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val)
      q0 q1 q2 q3 dy0 dy1 dy2 dy3 cq0 cq1 cq2 cq3 ls0 ls1 ls2 ls3 dl0 dl1 dl2 dl3 k0_pay127 k0_pay128 k0_pay129 k0_pay130 X6 X15 X16 K V C hK hV hC (k0_pay127, k0_pay128, k0_pay129, k0_pay130, k0_pay131, k0_pay132, k0_pay133, k0_pay134)
      G13 G17 G18 (jj i).val (le_of_eq (trips_eq i).symm)).dq h r d)).trans ?_
    rw [show (carQ (k0_pay127, k0_pay128, k0_pay129, k0_pay130, k0_pay131, k0_pay132, k0_pay133, k0_pay134) h (ix2 r d) : EReal) = 0 from match h with
      | 0 => Ideal.ofBits_zero_f32 | 1 => Ideal.ofBits_zero_f32 | 2 => Ideal.ofBits_zero_f32 | 3 => Ideal.ofBits_zero_f32,
      zero_add]
    have e := comb_keys (jj i) (![q0, q1, q2, q3] h) (![dy0, dy1, dy2, dy3] h) (![cq0, cq1, cq2, cq3] h) (![ls0, ls1, ls2, ls3] h) (![dl0, dl1, dl2, dl3] h)
      (K h) (V h) (C h) (Q h) (DO h) (CQ h) (LS h) (DL h) (hq h) (hdy h) (hcq h) (hls h) (hdl h) (fun s => K h s d) r
    exact e
  exact ⟨
    (diag_dq0 i q0 q1 q2 q3 dy0 dy1 dy2 dy3 cq0 cq1 cq2 cq3 ls0 ls1 ls2 ls3 dl0 dl1 dl2 dl3 arg6.view arg15.view arg16.view X6 X15 X16 K V C hK hV hC a0 r d).trans (key 0),
    (diag_dq1 i q0 q1 q2 q3 dy0 dy1 dy2 dy3 cq0 cq1 cq2 cq3 ls0 ls1 ls2 ls3 dl0 dl1 dl2 dl3 arg6.view arg15.view arg16.view X6 X15 X16 K V C hK hV hC a1 r d).trans (key 1),
    (diag_dq2 i q0 q1 q2 q3 dy0 dy1 dy2 dy3 cq0 cq1 cq2 cq3 ls0 ls1 ls2 ls3 dl0 dl1 dl2 dl3 arg6.view arg15.view arg16.view X6 X15 X16 K V C hK hV hC a2 r d).trans (key 2),
    (diag_dq3 i q0 q1 q2 q3 dy0 dy1 dy2 dy3 cq0 cq1 cq2 cq3 ls0 ls1 ls2 ls3 dl0 dl1 dl2 dl3 arg6.view arg15.view arg16.view X6 X15 X16 K V C hK hV hC a3 r d).trans (key 3)⟩

/-- The four heads' `dcq` after the loop and the masked tile: sums over all keys. -/
theorem keys_dcq (a0 a1 a2 a3 : FVec Ideal S512x1 .f32)
    (ha : ∀ h, ![a0, a1, a2, a3] h = carC (loopEnd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      q0 q1 q2 q3 dy0 dy1 dy2 dy3 cq0 cq1 cq2 cq3 ls0 ls1 ls2 ls3 dl0 dl1 dl2 dl3 X6 X15 X16 G13 G17 G18) h) (r : Fin 512) :
    ((k0_pay148 a0 (k0_pay147 (k0_pay141 q0 dy0 cq0 ls0 dl0 (View.readAt (Elt Ideal) arg15.view (Rect.unit (s := S4x2048x64) (k0_off17 i) S1x512x64.size (k0_off17_inb i)).toLoadRect X15) (View.readAt (Elt Ideal) arg6.view (Rect.unit (s := S1x4x4x1x512) (k0_off18 i) S1x1x1x1x512.size (k0_off18_inb i)).toLoadRect X6) (View.readAt (Elt Ideal) arg16.view (Rect.unit (s := S4x2048x64) (k0_off17 i) S1x512x64.size (k0_off17_inb i)).toLoadRect X16))) (ix2 r 0) : EReal)
      = ∑ s, gs (jj i) (Q 0) (DO 0) (CQ 0) (LS 0) (DL 0) (K 0) (V 0) (C 0) r s) ∧
    ((k0_pay157 a1 (k0_pay151 q1 dy1 cq1 ls1 dl1 (View.readAt (Elt Ideal) arg15.view (Rect.unit (s := S4x2048x64) (k0_off19 i) S1x512x64.size (k0_off19_inb i)).toLoadRect X15) (View.readAt (Elt Ideal) arg6.view (Rect.unit (s := S1x4x4x1x512) (k0_off20 i) S1x1x1x1x512.size (k0_off20_inb i)).toLoadRect X6) (View.readAt (Elt Ideal) arg16.view (Rect.unit (s := S4x2048x64) (k0_off19 i) S1x512x64.size (k0_off19_inb i)).toLoadRect X16)) (ix2 r 0) : EReal)
      = ∑ s, gs (jj i) (Q 1) (DO 1) (CQ 1) (LS 1) (DL 1) (K 1) (V 1) (C 1) r s) ∧
    ((k0_pay168 a2 (k0_pay161 dy2 ls2 dl2 (k0_pay159 q2 cq2 (View.readAt (Elt Ideal) arg15.view (Rect.unit (s := S4x2048x64) (k0_off21 i) S1x512x64.size (k0_off21_inb i)).toLoadRect X15) (View.readAt (Elt Ideal) arg6.view (Rect.unit (s := S1x4x4x1x512) (k0_off22 i) S1x1x1x1x512.size (k0_off22_inb i)).toLoadRect X6)) (iota Kind.tc S512x512 32 [0] iota_S512x512_d0_w32) (iota Kind.tc S512x512 32 [1] iota_S512x512_d1_w32) (View.readAt (Elt Ideal) arg16.view (Rect.unit (s := S4x2048x64) (k0_off21 i) S1x512x64.size (k0_off21_inb i)).toLoadRect X16)) (ix2 r 0) : EReal)
      = ∑ s, gs (jj i) (Q 2) (DO 2) (CQ 2) (LS 2) (DL 2) (K 2) (V 2) (C 2) r s) ∧
    ((k0_pay177 a3 (k0_pay171 q3 dy3 cq3 ls3 dl3 (View.readAt (Elt Ideal) arg15.view (Rect.unit (s := S4x2048x64) (k0_off23 i) S1x512x64.size (k0_off23_inb i)).toLoadRect X15) (View.readAt (Elt Ideal) arg6.view (Rect.unit (s := S1x4x4x1x512) (k0_off24 i) S1x1x1x1x512.size (k0_off24_inb i)).toLoadRect X6) (View.readAt (Elt Ideal) arg16.view (Rect.unit (s := S4x2048x64) (k0_off23 i) S1x512x64.size (k0_off23_inb i)).toLoadRect X16)) (ix2 r 0) : EReal)
      = ∑ s, gs (jj i) (Q 3) (DO 3) (CQ 3) (LS 3) (DL 3) (K 3) (V 3) (C 3) r s) := by
  have key : ∀ (h : Fin 4), (((![a0, a1, a2, a3] h) (ix2 r 0) : EReal)
      + ∑ l : Fin 512, tdH i q0 q1 q2 q3 dy0 dy1 dy2 dy3 cq0 cq1 cq2 cq3 ls0 ls1 ls2 ls3 dl0 dl1 dl2 dl3 K V C h r l)
      = ∑ s, gs (jj i) (Q h) (DO h) (CQ h) (LS h) (DL h) (K h) (V h) (C h) r s := by
    intro h
    rw [ha h]
    refine (congrArg (fun t : EReal => t + _) ((loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val)
      q0 q1 q2 q3 dy0 dy1 dy2 dy3 cq0 cq1 cq2 cq3 ls0 ls1 ls2 ls3 dl0 dl1 dl2 dl3 k0_pay127 k0_pay128 k0_pay129 k0_pay130 X6 X15 X16 K V C hK hV hC (k0_pay127, k0_pay128, k0_pay129, k0_pay130, k0_pay131, k0_pay132, k0_pay133, k0_pay134)
      G13 G17 G18 (jj i).val (le_of_eq (trips_eq i).symm)).dcq h r)).trans ?_
    rw [show (carC (k0_pay127, k0_pay128, k0_pay129, k0_pay130, k0_pay131, k0_pay132, k0_pay133, k0_pay134) h (ix2 r 0) : EReal) = 0 from match h with
      | 0 => Ideal.ofBits_zero_f32 | 1 => Ideal.ofBits_zero_f32 | 2 => Ideal.ofBits_zero_f32 | 3 => Ideal.ofBits_zero_f32,
      zero_add]
    have e := comb_keys (jj i) (![q0, q1, q2, q3] h) (![dy0, dy1, dy2, dy3] h) (![cq0, cq1, cq2, cq3] h) (![ls0, ls1, ls2, ls3] h) (![dl0, dl1, dl2, dl3] h)
      (K h) (V h) (C h) (Q h) (DO h) (CQ h) (LS h) (DL h) (hq h) (hdy h) (hcq h) (hls h) (hdl h) (fun _ => 1) r
    simp only [mul_one] at e
    exact e
  exact ⟨
    (diag_dcq0 i q0 q1 q2 q3 dy0 dy1 dy2 dy3 cq0 cq1 cq2 cq3 ls0 ls1 ls2 ls3 dl0 dl1 dl2 dl3 arg6.view arg15.view arg16.view X6 X15 X16 K V C hK hV hC a0 r).trans (key 0),
    (diag_dcq1 i q0 q1 q2 q3 dy0 dy1 dy2 dy3 cq0 cq1 cq2 cq3 ls0 ls1 ls2 ls3 dl0 dl1 dl2 dl3 arg6.view arg15.view arg16.view X6 X15 X16 K V C hK hV hC a1 r).trans (key 1),
    (diag_dcq2 i q0 q1 q2 q3 dy0 dy1 dy2 dy3 cq0 cq1 cq2 cq3 ls0 ls1 ls2 ls3 dl0 dl1 dl2 dl3 arg6.view arg15.view arg16.view X6 X15 X16 K V C hK hV hC a2 r).trans (key 2),
    (diag_dcq3 i q0 q1 q2 q3 dy0 dy1 dy2 dy3 cq0 cq1 cq2 cq3 ls0 ls1 ls2 ls3 dl0 dl1 dl2 dl3 arg6.view arg15.view arg16.view X6 X15 X16 K V C hK hV hC a3 r).trans (key 3)⟩

end Cert.FoxV
-- ==== Proof.Fox.HeadsB.lean ====
module
public import proofs.«01_k».proof.Proof.Fox.Heads
/-! # What a middle grid point of a batch row writes of `dq` and `dcq`

A sum over all keys, of which those after the query give zero. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

theorem mem4 (h : Fin 4) (r : Fin 512) : ∀ a : Fin 4,
    ((ix4 0 h r 0 : S1x4x512x1.Idx) a).val = (![0, h.val, 0, 0] : Fin 4 → ℕ) a
      + ((ix4 0 0 r 0 : (⟨4, ![1, 1, 512, 1]⟩ : Shape).Idx) a).val := by
  intro a
  match a with
  | 0 => rfl
  | 1 => rfl
  | 2 => exact (Nat.zero_add _).symm
  | 3 => rfl

/-- Four columns written one after another are read back each at its place. -/
theorem cols4 (X : VO0_12.ty.Contents (Elt Ideal)) (b0 b1 b2 b3)
    (P0 P1 P2 P3 : (⟨4, ![1, 1, 512, 1]⟩ : Shape).Idx → Elt Ideal .f32) (h : Fin 4) (r : Fin 512) :
    (VO0_12.read (Elt Ideal) (VO0_12.writes (Elt Ideal) X
      [⟨Rect.unit (s := S1x4x512x1) ![0, 3, 0, 0] ![1, 1, 512, 1] b3, P3⟩,
       ⟨Rect.unit (s := S1x4x512x1) ![0, 2, 0, 0] ![1, 1, 512, 1] b2, P2⟩,
       ⟨Rect.unit (s := S1x4x512x1) ![0, 1, 0, 0] ![1, 1, 512, 1] b1, P1⟩,
       ⟨Rect.unit (s := S1x4x512x1) ![0, 0, 0, 0] ![1, 1, 512, 1] b0, P0⟩]) (ix4 0 h r 0) : EReal)
      = (![P0, P1, P2, P3] h) (ix4 0 0 r 0) := by
  match h with
  | 0 =>
    refine (View.read_writes_cons_unit_of_not_mem VO0_12 _ _ _ _ _ rfl 1 (Or.inl (by show 0 < 3; omega))).trans ?_
    refine (View.read_writes_cons_unit_of_not_mem VO0_12 _ _ _ _ _ rfl 1 (Or.inl (by show 0 < 2; omega))).trans ?_
    refine (View.read_writes_cons_unit_of_not_mem VO0_12 _ _ _ _ _ rfl 1 (Or.inl (by show 0 < 1; omega))).trans ?_
    exact View.read_writes_cons_unit_of_mem VO0_12 _ _ P0 _ _ (ix4 0 0 r 0) rfl (mem4 0 r)
  | 1 =>
    refine (View.read_writes_cons_unit_of_not_mem VO0_12 _ _ _ _ _ rfl 1 (Or.inl (by show 1 < 3; omega))).trans ?_
    refine (View.read_writes_cons_unit_of_not_mem VO0_12 _ _ _ _ _ rfl 1 (Or.inl (by show 1 < 2; omega))).trans ?_
    exact View.read_writes_cons_unit_of_mem VO0_12 _ _ P1 _ _ (ix4 0 0 r 0) rfl (mem4 1 r)
  | 2 =>
    refine (View.read_writes_cons_unit_of_not_mem VO0_12 _ _ _ _ _ rfl 1 (Or.inl (by show 2 < 3; omega))).trans ?_
    exact View.read_writes_cons_unit_of_mem VO0_12 _ _ P2 _ _ (ix4 0 0 r 0) rfl (mem4 2 r)
  | 3 =>
    exact View.read_writes_cons_unit_of_mem VO0_12 _ _ P3 _ _ (ix4 0 0 r 0) rfl (mem4 3 r)

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : ¬cond0_0 i) (hc1 : ¬cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16) (xo11 : Vec Ideal S1x4x4x1x512 .f32)
  (xs0 : Vec Ideal S4x2048x64 .bf16) (xs1 : Vec Ideal S4x2048x64 .bf16) (xs2 : Vec Ideal S4x2048x64 .f32)
  (xs3 : Vec Ideal S4x2048x64 .f32)

include x0 x1 x2 x3 x4 x5 x6 x7 xo11 xs0 xs1 xs2 xs3

/-- Each head's gradient of the queries, before the scale. -/
theorem hdq_B (h : Fin 4) (r : Fin 512) (d : Fin 64) :
    ((![kernelRun0_B.sl.r_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_B.sl.r_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_B.sl.r_45 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_B.sl.r_51 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3] h) (ix2 r d) : EReal) = ∑ s, gs (jj i) (Qf x0 h) (Df x7 h) (Cf x3 h) (Cf x6 h) (Ef x5 x7 h) ((Kf xs0) h) ((Kf xs1) h) (Gf x4 h) r s * (Kf xs0) h s d := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  have k := keys_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (kernelRun0_B.sl.r_2 (F := Ideal) c arg2 harg2 x0) (kernelRun0_B.sl.r_3 (F := Ideal) c arg2 harg2 x0) (kernelRun0_B.sl.r_5 (F := Ideal) c arg2 harg2 x0) (kernelRun0_B.sl.r_6 (F := Ideal) c arg2 harg2 x0)
    (kernelRun0_B.sl.r_7 (F := Ideal) c arg9 harg9 x7) (kernelRun0_B.sl.r_8 (F := Ideal) c arg9 harg9 x7) (kernelRun0_B.sl.r_9 (F := Ideal) c arg9 harg9 x7) (kernelRun0_B.sl.r_10 (F := Ideal) c arg9 harg9 x7)
    (kernelRun0_B.sl.r_11 (F := Ideal) c arg5 harg5 x3) (kernelRun0_B.sl.r_12 (F := Ideal) c arg5 harg5 x3) (kernelRun0_B.sl.r_13 (F := Ideal) c arg5 harg5 x3) (kernelRun0_B.sl.r_14 (F := Ideal) c arg5 harg5 x3)
    (kernelRun0_B.sl.r_15 (F := Ideal) c arg8 harg8 x6) (kernelRun0_B.sl.r_16 (F := Ideal) c arg8 harg8 x6) (kernelRun0_B.sl.r_17 (F := Ideal) c arg8 harg8 x6) (kernelRun0_B.sl.r_18 (F := Ideal) c arg8 harg8 x6)
    (kernelRun0_B.sl.r_19 (F := Ideal) c arg7 harg7 arg9 harg9 x5 x7) (kernelRun0_B.sl.r_20 (F := Ideal) c arg7 harg7 arg9 harg9 x5 x7) (kernelRun0_B.sl.r_21 (F := Ideal) c arg7 harg7 arg9 harg9 x5 x7) (kernelRun0_B.sl.r_22 (F := Ideal) c arg7 harg7 arg9 harg9 x5 x7)
    (harg6.unread x4) (harg15.unread xs0)
    (harg16.unread xs1) (harg13.unread xo11)
    (harg17.unread xs2) (harg18.unread xs3)
    (Kf xs0) (Kf xs1) (Gf x4) hK hV hC (Qf x0) (Df x7) (Cf x3) (Cf x6) (Ef x5 x7)
    (wq_B c arg2 harg2 x0) (wdy_B c arg9 harg9 x7) (wcq_B c arg5 harg5 x3) (wls_B c arg8 harg8 x6) (wdl_B c arg7 harg7 arg9 harg9 x5 x7)
    _ _ _ _ (fun h => match h with
      | 0 => by
        show kernelRun0_B.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_B.sl.r_23
        rw [trips2 i, trips1 i]
        rfl
      | 1 => by
        show kernelRun0_B.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_B.sl.r_25
        rw [trips2 i, trips1 i]
        rfl
      | 2 => by
        show kernelRun0_B.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_B.sl.r_27
        rw [trips2 i, trips1 i]
        rfl
      | 3 => by
        show kernelRun0_B.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_B.sl.r_29
        rw [trips2 i, trips1 i]
        rfl) r d
  match h with
  | 0 => exact k.1
  | 1 => exact k.2.1
  | 2 => exact k.2.2.1
  | 3 => exact k.2.2.2

/-- Each head's gradient of `c` as the query's. -/
theorem hdcq_B (h : Fin 4) (r : Fin 512) :
    ((![kernelRun0_B.sl.r_37 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_B.sl.r_41 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_B.sl.r_47 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_B.sl.r_52 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3] h) (ix2 r 0) : EReal) = ∑ s, gs (jj i) (Qf x0 h) (Df x7 h) (Cf x3 h) (Cf x6 h) (Ef x5 x7 h) ((Kf xs0) h) ((Kf xs1) h) (Gf x4 h) r s := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  have k := keys_dcq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (kernelRun0_B.sl.r_2 (F := Ideal) c arg2 harg2 x0) (kernelRun0_B.sl.r_3 (F := Ideal) c arg2 harg2 x0) (kernelRun0_B.sl.r_5 (F := Ideal) c arg2 harg2 x0) (kernelRun0_B.sl.r_6 (F := Ideal) c arg2 harg2 x0)
    (kernelRun0_B.sl.r_7 (F := Ideal) c arg9 harg9 x7) (kernelRun0_B.sl.r_8 (F := Ideal) c arg9 harg9 x7) (kernelRun0_B.sl.r_9 (F := Ideal) c arg9 harg9 x7) (kernelRun0_B.sl.r_10 (F := Ideal) c arg9 harg9 x7)
    (kernelRun0_B.sl.r_11 (F := Ideal) c arg5 harg5 x3) (kernelRun0_B.sl.r_12 (F := Ideal) c arg5 harg5 x3) (kernelRun0_B.sl.r_13 (F := Ideal) c arg5 harg5 x3) (kernelRun0_B.sl.r_14 (F := Ideal) c arg5 harg5 x3)
    (kernelRun0_B.sl.r_15 (F := Ideal) c arg8 harg8 x6) (kernelRun0_B.sl.r_16 (F := Ideal) c arg8 harg8 x6) (kernelRun0_B.sl.r_17 (F := Ideal) c arg8 harg8 x6) (kernelRun0_B.sl.r_18 (F := Ideal) c arg8 harg8 x6)
    (kernelRun0_B.sl.r_19 (F := Ideal) c arg7 harg7 arg9 harg9 x5 x7) (kernelRun0_B.sl.r_20 (F := Ideal) c arg7 harg7 arg9 harg9 x5 x7) (kernelRun0_B.sl.r_21 (F := Ideal) c arg7 harg7 arg9 harg9 x5 x7) (kernelRun0_B.sl.r_22 (F := Ideal) c arg7 harg7 arg9 harg9 x5 x7)
    (harg6.unread x4) (harg15.unread xs0)
    (harg16.unread xs1) (harg13.unread xo11)
    (harg17.unread xs2) (harg18.unread xs3)
    (Kf xs0) (Kf xs1) (Gf x4) hK hV hC (Qf x0) (Df x7) (Cf x3) (Cf x6) (Ef x5 x7)
    (wq_B c arg2 harg2 x0) (wdy_B c arg9 harg9 x7) (wcq_B c arg5 harg5 x3) (wls_B c arg8 harg8 x6) (wdl_B c arg7 harg7 arg9 harg9 x5 x7)
    _ _ _ _ (fun h => match h with
      | 0 => by
        show kernelRun0_B.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_B.sl.r_24
        rw [trips2 i, trips1 i]
        rfl
      | 1 => by
        show kernelRun0_B.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_B.sl.r_26
        rw [trips2 i, trips1 i]
        rfl
      | 2 => by
        show kernelRun0_B.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_B.sl.r_28
        rw [trips2 i, trips1 i]
        rfl
      | 3 => by
        show kernelRun0_B.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_B.sl.r_30
        rw [trips2 i, trips1 i]
        rfl) r
  match h with
  | 0 => exact k.1
  | 1 => exact k.2.1
  | 2 => exact k.2.2.1
  | 3 => exact k.2.2.2

include hc0 hc1 in
/-- The block of `dq`. -/
theorem dq_B (h : Fin 4) (r : Fin 512) (d : Fin 64) :
    (out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix2 r (col h d)) : EReal)
      = (∑ s, gs (jj i) (Qf x0 h) (Df x7 h) (Cf x3 h) (Cf x6 h) (Ef x5 x7 h) ((Kf xs0) h) ((Kf xs1) h) (Gf x4 h) r s * (Kf xs0) h s d) * Ideal.ofBits FTy.f32 1040187392#32 := by
  unfold out0_B_8 kernelRun0_B
  dsimp only
  refine (View.read_writes_cons_unit_of_mem VO0_8 VO0_8.junk _ _ _ _ (ix2 r (col h d)) rfl
    (fun a => match a with
      | 0 => (Nat.zero_add _).symm
      | 1 => (Nat.zero_add _).symm)).trans ?_
  refine (dq_at ![kernelRun0_B.sl.r_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_B.sl.r_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_B.sl.r_45 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_B.sl.r_51 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3] h r d).trans ?_
  rw [hdq_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xo11 xs0 xs1 xs2 xs3 h r d]

include hc0 hc1 in
/-- The block of `dcq`. -/
theorem dcq_B (h : Fin 4) (r : Fin 512) :
    (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix4 0 h r 0) : EReal) = ∑ s, gs (jj i) (Qf x0 h) (Df x7 h) (Cf x3 h) (Cf x6 h) (Ef x5 x7 h) ((Kf xs0) h) ((Kf xs1) h) (Gf x4 h) r s := by
  rw [← hdcq_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xo11 xs0 xs1 xs2 xs3 h r]
  unfold out0_B_12 kernelRun0_B
  dsimp only
  match h with
  | 0 =>
    refine (cols4 _ _ _ _ _ _ _ _ _ 0 r).trans ?_
    unfold_payloads
    pointwise
  | 1 =>
    refine (cols4 _ _ _ _ _ _ _ _ _ 1 r).trans ?_
    unfold_payloads
    pointwise
  | 2 =>
    refine (cols4 _ _ _ _ _ _ _ _ _ 2 r).trans ?_
    unfold_payloads
    pointwise
  | 3 =>
    refine (cols4 _ _ _ _ _ _ _ _ _ 3 r).trans ?_
    unfold_payloads
    pointwise

end Cert.FoxV
-- ==== Proof.Fox.KeysA.lean ====
module
public import proofs.«01_k».proof.Proof.Fox.HeadsB
/-! # What the first grid point of a batch row keeps

The heads of the keys and of the values, and the zeros the sums begin from. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

theorem ldk (a : Memref sig .tc .vmem S2048x256 .bf16) (ha : a.IsWhole) (x : Vec Ideal S2048x256 .bf16)
    (inb : ∀ k, (![0, 0] : Fin 2 → ℕ) k + (![2048, 256] : Fin 2 → ℕ) k ≤ S2048x256.size k) (s : Fin 2048) (y : Fin 256) :
    (View.readAt (Elt Ideal) a.view (Rect.unit (s := S2048x256) ![0, 0] ![2048, 256] inb).toLoadRect (ha.unread x) (ix2 s y) : EReal)
      = x (ix2 s y) := by
  rw [View.readAt_eq_ld, View.ld_apply, ha.read_unread]
  congr 1
  funext k
  apply Fin.ext
  match k with
  | 0 => show 0 + 1 * s.val = s.val; omega
  | 1 => show 0 + 1 * y.val = y.val; omega

/-- The column block of head `h` in a block of keys or values. -/
def Df' (x : Vec Ideal S2048x256 .bf16) (h : Fin 4) (s : Fin 2048) (d : Fin 64) : EReal := x (ix2 s (col h d))

/-- Four heads written one after another are read back each at its place. -/
theorem heads4 (v : View sig .tc .vmem S4x2048x64 .bf16) (X : v.ty.Contents (Elt Ideal)) (b0 b1 b2 b3)
    (P0 P1 P2 P3 : (⟨3, ![1, 2048, 64]⟩ : Shape).Idx → Elt Ideal .bf16) (f : Fin 4 → EReal) (s : Fin 2048) (d : Fin 64)
    (e0 : (P0 (ix3 0 s d) : EReal) = f 0) (e1 : (P1 (ix3 0 s d) : EReal) = f 1)
    (e2 : (P2 (ix3 0 s d) : EReal) = f 2) (e3 : (P3 (ix3 0 s d) : EReal) = f 3) (h : Fin 4) :
    (v.read (Elt Ideal) (v.writes (Elt Ideal) X
      [⟨Rect.unit (s := S4x2048x64) ![3, 0, 0] ![1, 2048, 64] b3, P3⟩,
       ⟨Rect.unit (s := S4x2048x64) ![2, 0, 0] ![1, 2048, 64] b2, P2⟩,
       ⟨Rect.unit (s := S4x2048x64) ![1, 0, 0] ![1, 2048, 64] b1, P1⟩,
       ⟨Rect.unit (s := S4x2048x64) ![0, 0, 0] ![1, 2048, 64] b0, P0⟩]) (ix3 h s d) : EReal) = f h := by
  have m : ∀ (h : Fin 4) (a : Fin 3), ((ix3 h s d : S4x2048x64.Idx) a).val = (![h.val, 0, 0] : Fin 3 → ℕ) a
      + ((ix3 0 s d : (⟨3, ![1, 2048, 64]⟩ : Shape).Idx) a).val := by
    intro h a
    match a with
    | 0 => rfl
    | 1 => exact (Nat.zero_add _).symm
    | 2 => exact (Nat.zero_add _).symm
  match h with
  | 0 =>
    refine (View.read_writes_cons_unit_of_not_mem v _ _ _ _ _ rfl 0 (Or.inl (by show 0 < 3; omega))).trans ?_
    refine (View.read_writes_cons_unit_of_not_mem v _ _ _ _ _ rfl 0 (Or.inl (by show 0 < 2; omega))).trans ?_
    refine (View.read_writes_cons_unit_of_not_mem v _ _ _ _ _ rfl 0 (Or.inl (by show 0 < 1; omega))).trans ?_
    exact (View.read_writes_cons_unit_of_mem v _ _ P0 _ _ (ix3 0 s d) rfl (m 0)).trans e0
  | 1 =>
    refine (View.read_writes_cons_unit_of_not_mem v _ _ _ _ _ rfl 0 (Or.inl (by show 1 < 3; omega))).trans ?_
    refine (View.read_writes_cons_unit_of_not_mem v _ _ _ _ _ rfl 0 (Or.inl (by show 1 < 2; omega))).trans ?_
    exact (View.read_writes_cons_unit_of_mem v _ _ P1 _ _ (ix3 0 s d) rfl (m 1)).trans e1
  | 2 =>
    refine (View.read_writes_cons_unit_of_not_mem v _ _ _ _ _ rfl 0 (Or.inl (by show 2 < 3; omega))).trans ?_
    exact (View.read_writes_cons_unit_of_mem v _ _ P2 _ _ (ix3 0 s d) rfl (m 2)).trans e2
  | 3 =>
    exact (View.read_writes_cons_unit_of_mem v _ _ P3 _ _ (ix3 0 s d) rfl (m 3)).trans e3

theorem kh_A (v : View sig .tc .vmem S4x2048x64 .bf16) (X : v.ty.Contents (Elt Ideal)) (c : Dev nD)
    (arg3 : Memref sig .tc .vmem S2048x256 .bf16) (harg3 : arg3.IsWhole) (x1 : Vec Ideal S2048x256 .bf16)
    (h : Fin 4) (s : Fin 2048) (d : Fin 64) :
    (v.read (Elt Ideal) (v.writes (Elt Ideal) X (kernelRun0_A.sl.HS0_4 (F := Ideal) c arg3 harg3 x1)) (ix3 h s d) : EReal)
      = Df' x1 h s d := by
  unfold kernelRun0_A.sl.HS0_4
  refine heads4 v X _ _ _ _ _ _ _ _ (fun h => Df' x1 h s d) s d ?_ ?_ ?_ ?_ h
  · sl_unfold_words
    unfold_payloads
    pointwise
    exact (pick_sum (fun y => View.readAt (Elt Ideal) arg3.view (Rect.unit (s := S2048x256) ![0, 0] ![2048, 256] _).toLoadRect
      (harg3.unread x1) (ix2 s y)) 0 d 0 rfl).trans (ldk arg3 harg3 x1 _ s (col 0 d))
  · sl_unfold_words
    unfold_payloads
    pointwise
    exact (pick_sum (fun y => View.readAt (Elt Ideal) arg3.view (Rect.unit (s := S2048x256) ![0, 0] ![2048, 256] _).toLoadRect
      (harg3.unread x1) (ix2 s y)) 1 d 64 rfl).trans (ldk arg3 harg3 x1 _ s (col 1 d))
  · sl_unfold_words
    unfold_payloads
    pointwise
    exact (pick_sum (fun y => View.readAt (Elt Ideal) arg3.view (Rect.unit (s := S2048x256) ![0, 0] ![2048, 256] _).toLoadRect
      (harg3.unread x1) (ix2 s y)) 2 d 128 rfl).trans (ldk arg3 harg3 x1 _ s (col 2 d))
  · sl_unfold_words
    unfold_payloads
    pointwise
    exact (pick_sum (fun y => View.readAt (Elt Ideal) arg3.view (Rect.unit (s := S2048x256) ![0, 0] ![2048, 256] _).toLoadRect
      (harg3.unread x1) (ix2 s y)) 3 d 192 rfl).trans (ldk arg3 harg3 x1 _ s (col 3 d))

theorem vh_A (v : View sig .tc .vmem S4x2048x64 .bf16) (X : v.ty.Contents (Elt Ideal)) (c : Dev nD)
    (arg4 : Memref sig .tc .vmem S2048x256 .bf16) (harg4 : arg4.IsWhole) (x2 : Vec Ideal S2048x256 .bf16)
    (h : Fin 4) (s : Fin 2048) (d : Fin 64) :
    (v.read (Elt Ideal) (v.writes (Elt Ideal) X (kernelRun0_A.sl.HS1_4 (F := Ideal) c arg4 harg4 x2)) (ix3 h s d) : EReal)
      = Df' x2 h s d := by
  unfold kernelRun0_A.sl.HS1_4
  refine heads4 v X _ _ _ _ _ _ _ _ (fun h => Df' x2 h s d) s d ?_ ?_ ?_ ?_ h
  · sl_unfold_words
    unfold_payloads
    pointwise
    exact (pick_sum (fun y => View.readAt (Elt Ideal) arg4.view (Rect.unit (s := S2048x256) ![0, 0] ![2048, 256] _).toLoadRect
      (harg4.unread x2) (ix2 s y)) 0 d 0 rfl).trans (ldk arg4 harg4 x2 _ s (col 0 d))
  · sl_unfold_words
    unfold_payloads
    pointwise
    exact (pick_sum (fun y => View.readAt (Elt Ideal) arg4.view (Rect.unit (s := S2048x256) ![0, 0] ![2048, 256] _).toLoadRect
      (harg4.unread x2) (ix2 s y)) 1 d 64 rfl).trans (ldk arg4 harg4 x2 _ s (col 1 d))
  · sl_unfold_words
    unfold_payloads
    pointwise
    exact (pick_sum (fun y => View.readAt (Elt Ideal) arg4.view (Rect.unit (s := S2048x256) ![0, 0] ![2048, 256] _).toLoadRect
      (harg4.unread x2) (ix2 s y)) 2 d 128 rfl).trans (ldk arg4 harg4 x2 _ s (col 2 d))
  · sl_unfold_words
    unfold_payloads
    pointwise
    exact (pick_sum (fun y => View.readAt (Elt Ideal) arg4.view (Rect.unit (s := S2048x256) ![0, 0] ![2048, 256] _).toLoadRect
      (harg4.unread x2) (ix2 s y)) 3 d 192 rfl).trans (ldk arg4 harg4 x2 _ s (col 3 d))

/-- A store of the whole buffer is read back. -/
theorem full {s : Shape} {e : EltTy} (v : View sig .tc .vmem s e) (X : v.ty.Contents (Elt Ideal)) {off : Fin s.rank → ℕ}
    (inb : ∀ a, off a + s.size a ≤ s.size a) (w : (Rect.unit off s.size inb).shape.Idx → Elt Ideal e) (y : s.Idx) :
    v.read (Elt Ideal) (v.writes (Elt Ideal) X [⟨Rect.unit off s.size inb, w⟩]) y = w y :=
  View.read_writes_cons_unit_of_mem v X inb w [] y y rfl fun a => by have := inb a; omega

theorem zero17 (v : View sig .tc .vmem S4x2048x64 .f32) (X : v.ty.Contents (Elt Ideal)) (y : S4x2048x64.Idx) :
    (v.read (Elt Ideal) (v.writes (Elt Ideal) X (kernelRun0_A.sl.HS2_1 (F := Ideal))) y : EReal) = 0 := by
  unfold kernelRun0_A.sl.HS2_1
  refine (full v X _ _ y).trans ?_
  exact Ideal.ofBits_zero_f32

theorem zero18 (v : View sig .tc .vmem S4x2048x64 .f32) (X : v.ty.Contents (Elt Ideal)) (y : S4x2048x64.Idx) :
    (v.read (Elt Ideal) (v.writes (Elt Ideal) X (kernelRun0_A.sl.HS3_1 (F := Ideal))) y : EReal) = 0 := by
  unfold kernelRun0_A.sl.HS3_1
  refine (full v X _ _ y).trans ?_
  exact Ideal.ofBits_zero_f32

theorem zero13 (v : View sig .tc .vmem S1x4x4x1x512 .f32) (X : v.ty.Contents (Elt Ideal)) (y : S1x4x4x1x512.Idx) :
    (v.read (Elt Ideal) (v.writes (Elt Ideal) X (kernelRun0_A.sl.H11_1 (F := Ideal))) y : EReal) = 0 := by
  unfold kernelRun0_A.sl.H11_1
  refine (full v X _ _ y).trans ?_
  exact Ideal.ofBits_zero_f32

end Cert.FoxV
-- ==== Proof.Fox.StateA.lean ====
module
public import proofs.«01_k».proof.Proof.Fox.KeysA
/-! # What the first grid point of a batch row leaves of `dk`, `dv` and `dck`

The sums begin from zero. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : cond0_0 i) (hc1 : ¬cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16)

/-- What the keys' scratch holds after the point. -/
theorem dk_A (h k : Fin 4) (l : Fin 512) (d : Fin 64) :
    (sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 (ix3 h (row k l) d) : EReal) = 0 + ∑ r, gs (jj i) (Qf x0 h) (Df x7 h) (Cf x3 h) (Cf x6 h) (Ef x5 x7 h) ((Df' x1) h) ((Df' x2) h) (Gf x4 h) r (row k l) * Qf x0 h r d := by
  have hK : ∀ h s d, arg15.view.read (Elt Ideal) (arg15.view.writes (Elt Ideal) arg15.view.junk (kernelRun0_A.sl.HS0_4 (F := Ideal) c arg3 harg3 x1)) (ix3 h s d) = (Df' x1) h s d := fun h s d =>
    kh_A arg15.view _ c arg3 harg3 x1 h s d
  have hV : ∀ h s d, arg16.view.read (Elt Ideal) (arg16.view.writes (Elt Ideal) arg16.view.junk (kernelRun0_A.sl.HS1_4 (F := Ideal) c arg4 harg4 x2)) (ix3 h s d) = (Df' x2) h s d := fun h s d =>
    vh_A arg16.view _ c arg4 harg4 x2 h s d
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  unfold sout0_A_2 kernelRun0_A
  dsimp only
  refine (View.read_writes_apply_eq VS0_2 VS0_2.junk arg17.view arg17.view.junk (ix3 h (row k l) d) _ ⟨_,
    List.mem_cons_of_mem _ (List.mem_cons_of_mem _ (List.mem_cons_of_mem _ (List.mem_cons_of_mem _
      (List.mem_append_right _ (List.mem_append_right _ (List.mem_singleton_self _)))))), ?_⟩).trans ?_
  · exact View.mem_set_unit_zero (by decide) (by decide) _
  refine (diag_dk i _ _ _ _ _ _ _ _ _ _ _ _ _ _ _ _ _ _ _ _ arg6.view arg15.view arg16.view (harg6.unread x4) (arg15.view.writes (Elt Ideal) arg15.view.junk (kernelRun0_A.sl.HS0_4 (F := Ideal) c arg3 harg3 x1)) (arg16.view.writes (Elt Ideal) arg16.view.junk (kernelRun0_A.sl.HS1_4 (F := Ideal) c arg4 harg4 x2)) (Df' x1) (Df' x2) (Gf x4) hK hV hC arg17.view arg17.view.junk _ rfl rfl rfl rfl h k l d).trans ?_
  rw [trips2 i, trips1 i]
  have e := (loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (kernelRun0_A.sl.r_2 (F := Ideal) c arg2 harg2 x0) (kernelRun0_A.sl.r_3 (F := Ideal) c arg2 harg2 x0) (kernelRun0_A.sl.r_5 (F := Ideal) c arg2 harg2 x0) (kernelRun0_A.sl.r_6 (F := Ideal) c arg2 harg2 x0) (kernelRun0_A.sl.r_7 (F := Ideal) c arg9 harg9 x7) (kernelRun0_A.sl.r_8 (F := Ideal) c arg9 harg9 x7) (kernelRun0_A.sl.r_9 (F := Ideal) c arg9 harg9 x7) (kernelRun0_A.sl.r_10 (F := Ideal) c arg9 harg9 x7) (kernelRun0_A.sl.r_11 (F := Ideal) c arg5 harg5 x3) (kernelRun0_A.sl.r_12 (F := Ideal) c arg5 harg5 x3) (kernelRun0_A.sl.r_13 (F := Ideal) c arg5 harg5 x3) (kernelRun0_A.sl.r_14 (F := Ideal) c arg5 harg5 x3) (kernelRun0_A.sl.r_15 (F := Ideal) c arg8 harg8 x6) (kernelRun0_A.sl.r_16 (F := Ideal) c arg8 harg8 x6) (kernelRun0_A.sl.r_17 (F := Ideal) c arg8 harg8 x6) (kernelRun0_A.sl.r_18 (F := Ideal) c arg8 harg8 x6) (kernelRun0_A.sl.r_19 (F := Ideal) c arg7 harg7 arg9 harg9 x5 x7) (kernelRun0_A.sl.r_20 (F := Ideal) c arg7 harg7 arg9 harg9 x5 x7) (kernelRun0_A.sl.r_21 (F := Ideal) c arg7 harg7 arg9 harg9 x5 x7) (kernelRun0_A.sl.r_22 (F := Ideal) c arg7 harg7 arg9 harg9 x5 x7) k0_pay127 k0_pay128 k0_pay129 k0_pay130 (harg6.unread x4) (arg15.view.writes (Elt Ideal) arg15.view.junk (kernelRun0_A.sl.HS0_4 (F := Ideal) c arg3 harg3 x1)) (arg16.view.writes (Elt Ideal) arg16.view.junk (kernelRun0_A.sl.HS1_4 (F := Ideal) c arg4 harg4 x2)) (Df' x1) (Df' x2) (Gf x4) hK hV hC (k0_pay127, k0_pay128, k0_pay129, k0_pay130, k0_pay131, k0_pay132, k0_pay133, k0_pay134) (arg13.view.writes (Elt Ideal) arg13.view.junk (kernelRun0_A.sl.H11_1 (F := Ideal))) (arg17.view.writes (Elt Ideal) arg17.view.junk (kernelRun0_A.sl.HS2_1 (F := Ideal))) (arg18.view.writes (Elt Ideal) arg18.view.junk (kernelRun0_A.sl.HS3_1 (F := Ideal))) (jj i).val (le_of_eq (trips_eq i).symm)).dk h k l d
  rw [← View.writes_append, zero17] at e
  refine (congrArg (fun t : EReal => t + _) e).trans ?_
  exact comb_dk (jj i) _ _ _ _ _ ((Df' x1) h) ((Df' x2) h) (Gf x4 h) (Qf x0 h) (Df x7 h) (Cf x3 h) (Cf x6 h) (Ef x5 x7 h) (wq_A c arg2 harg2 x0 h) (wdy_A c arg9 harg9 x7 h) (wcq_A c arg5 harg5 x3 h) (wls_A c arg8 harg8 x6 h) (wdl_A c arg7 harg7 arg9 harg9 x5 x7 h) _ k l d

/-- What the values' scratch holds after the point. -/
theorem dv_A (h k : Fin 4) (l : Fin 512) (d : Fin 64) :
    (sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 (ix3 h (row k l) d) : EReal) = 0 + ∑ r, gw (jj i) (Qf x0 h) (Cf x3 h) (Cf x6 h) ((Df' x1) h) (Gf x4 h) r (row k l) * Df x7 h r d := by
  have hK : ∀ h s d, arg15.view.read (Elt Ideal) (arg15.view.writes (Elt Ideal) arg15.view.junk (kernelRun0_A.sl.HS0_4 (F := Ideal) c arg3 harg3 x1)) (ix3 h s d) = (Df' x1) h s d := fun h s d =>
    kh_A arg15.view _ c arg3 harg3 x1 h s d
  have hV : ∀ h s d, arg16.view.read (Elt Ideal) (arg16.view.writes (Elt Ideal) arg16.view.junk (kernelRun0_A.sl.HS1_4 (F := Ideal) c arg4 harg4 x2)) (ix3 h s d) = (Df' x2) h s d := fun h s d =>
    vh_A arg16.view _ c arg4 harg4 x2 h s d
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  unfold sout0_A_3 kernelRun0_A
  dsimp only
  refine (View.read_writes_apply_eq VS0_3 VS0_3.junk arg18.view arg18.view.junk (ix3 h (row k l) d) _ ⟨_,
    List.mem_cons_of_mem _ (List.mem_cons_of_mem _ (List.mem_cons_of_mem _ (List.mem_cons_of_mem _
      (List.mem_append_right _ (List.mem_append_right _ (List.mem_singleton_self _)))))), ?_⟩).trans ?_
  · exact View.mem_set_unit_zero (by decide) (by decide) _
  refine (diag_dv i _ _ _ _ _ _ _ _ _ _ _ _ _ _ _ _ arg6.view arg15.view (harg6.unread x4) (arg15.view.writes (Elt Ideal) arg15.view.junk (kernelRun0_A.sl.HS0_4 (F := Ideal) c arg3 harg3 x1)) (Df' x1) (Gf x4) hK hC arg18.view arg18.view.junk _ rfl rfl rfl rfl h k l d).trans ?_
  rw [trips2 i, trips1 i]
  have e := (loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (kernelRun0_A.sl.r_2 (F := Ideal) c arg2 harg2 x0) (kernelRun0_A.sl.r_3 (F := Ideal) c arg2 harg2 x0) (kernelRun0_A.sl.r_5 (F := Ideal) c arg2 harg2 x0) (kernelRun0_A.sl.r_6 (F := Ideal) c arg2 harg2 x0) (kernelRun0_A.sl.r_7 (F := Ideal) c arg9 harg9 x7) (kernelRun0_A.sl.r_8 (F := Ideal) c arg9 harg9 x7) (kernelRun0_A.sl.r_9 (F := Ideal) c arg9 harg9 x7) (kernelRun0_A.sl.r_10 (F := Ideal) c arg9 harg9 x7) (kernelRun0_A.sl.r_11 (F := Ideal) c arg5 harg5 x3) (kernelRun0_A.sl.r_12 (F := Ideal) c arg5 harg5 x3) (kernelRun0_A.sl.r_13 (F := Ideal) c arg5 harg5 x3) (kernelRun0_A.sl.r_14 (F := Ideal) c arg5 harg5 x3) (kernelRun0_A.sl.r_15 (F := Ideal) c arg8 harg8 x6) (kernelRun0_A.sl.r_16 (F := Ideal) c arg8 harg8 x6) (kernelRun0_A.sl.r_17 (F := Ideal) c arg8 harg8 x6) (kernelRun0_A.sl.r_18 (F := Ideal) c arg8 harg8 x6) (kernelRun0_A.sl.r_19 (F := Ideal) c arg7 harg7 arg9 harg9 x5 x7) (kernelRun0_A.sl.r_20 (F := Ideal) c arg7 harg7 arg9 harg9 x5 x7) (kernelRun0_A.sl.r_21 (F := Ideal) c arg7 harg7 arg9 harg9 x5 x7) (kernelRun0_A.sl.r_22 (F := Ideal) c arg7 harg7 arg9 harg9 x5 x7) k0_pay127 k0_pay128 k0_pay129 k0_pay130 (harg6.unread x4) (arg15.view.writes (Elt Ideal) arg15.view.junk (kernelRun0_A.sl.HS0_4 (F := Ideal) c arg3 harg3 x1)) (arg16.view.writes (Elt Ideal) arg16.view.junk (kernelRun0_A.sl.HS1_4 (F := Ideal) c arg4 harg4 x2)) (Df' x1) (Df' x2) (Gf x4) hK hV hC (k0_pay127, k0_pay128, k0_pay129, k0_pay130, k0_pay131, k0_pay132, k0_pay133, k0_pay134) (arg13.view.writes (Elt Ideal) arg13.view.junk (kernelRun0_A.sl.H11_1 (F := Ideal))) (arg17.view.writes (Elt Ideal) arg17.view.junk (kernelRun0_A.sl.HS2_1 (F := Ideal))) (arg18.view.writes (Elt Ideal) arg18.view.junk (kernelRun0_A.sl.HS3_1 (F := Ideal))) (jj i).val (le_of_eq (trips_eq i).symm)).dv h k l d
  rw [← View.writes_append, zero18] at e
  refine (congrArg (fun t : EReal => t + _) e).trans ?_
  exact comb_dv (jj i) _ _ _ _ ((Df' x1) h) (Gf x4 h) (Qf x0 h) (Df x7 h) (Cf x3 h) (Cf x6 h) (wq_A c arg2 harg2 x0 h) (wcq_A c arg5 harg5 x3 h) (wls_A c arg8 harg8 x6 h) (wdy_A c arg9 harg9 x7 h) _ k l d

/-- What the block of `dck` holds after the point. -/
theorem dck_A (h k : Fin 4) (l : Fin 512) :
    (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 (ix5 0 h k 0 l) : EReal) = 0 + (0 - ∑ r, gs (jj i) (Qf x0 h) (Df x7 h) (Cf x3 h) (Cf x6 h) (Ef x5 x7 h) ((Df' x1) h) ((Df' x2) h) (Gf x4 h) r (row k l)) := by
  have hK : ∀ h s d, arg15.view.read (Elt Ideal) (arg15.view.writes (Elt Ideal) arg15.view.junk (kernelRun0_A.sl.HS0_4 (F := Ideal) c arg3 harg3 x1)) (ix3 h s d) = (Df' x1) h s d := fun h s d =>
    kh_A arg15.view _ c arg3 harg3 x1 h s d
  have hV : ∀ h s d, arg16.view.read (Elt Ideal) (arg16.view.writes (Elt Ideal) arg16.view.junk (kernelRun0_A.sl.HS1_4 (F := Ideal) c arg4 harg4 x2)) (ix3 h s d) = (Df' x2) h s d := fun h s d =>
    vh_A arg16.view _ c arg4 harg4 x2 h s d
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  unfold out0_A_11 kernelRun0_A
  dsimp only
  refine (View.read_writes_apply_eq VO0_11 VO0_11.junk arg13.view arg13.view.junk (ix5 0 h k 0 l) _ ⟨_,
    List.mem_cons_of_mem _ (List.mem_cons_of_mem _ (List.mem_cons_of_mem _ (List.mem_cons_of_mem _
      (List.mem_append_right _ (List.mem_append_right _ (List.mem_singleton_self _)))))), ?_⟩).trans ?_
  · exact View.mem_set_unit_zero (by decide) (by decide) _
  refine (diag_dck i _ _ _ _ _ _ _ _ _ _ _ _ _ _ _ _ _ _ _ _ arg6.view arg15.view arg16.view (harg6.unread x4) (arg15.view.writes (Elt Ideal) arg15.view.junk (kernelRun0_A.sl.HS0_4 (F := Ideal) c arg3 harg3 x1)) (arg16.view.writes (Elt Ideal) arg16.view.junk (kernelRun0_A.sl.HS1_4 (F := Ideal) c arg4 harg4 x2)) (Df' x1) (Df' x2) (Gf x4) hK hV hC arg13.view arg13.view.junk _ rfl rfl rfl rfl h k l).trans ?_
  rw [trips2 i, trips1 i]
  have e := (loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (kernelRun0_A.sl.r_2 (F := Ideal) c arg2 harg2 x0) (kernelRun0_A.sl.r_3 (F := Ideal) c arg2 harg2 x0) (kernelRun0_A.sl.r_5 (F := Ideal) c arg2 harg2 x0) (kernelRun0_A.sl.r_6 (F := Ideal) c arg2 harg2 x0) (kernelRun0_A.sl.r_7 (F := Ideal) c arg9 harg9 x7) (kernelRun0_A.sl.r_8 (F := Ideal) c arg9 harg9 x7) (kernelRun0_A.sl.r_9 (F := Ideal) c arg9 harg9 x7) (kernelRun0_A.sl.r_10 (F := Ideal) c arg9 harg9 x7) (kernelRun0_A.sl.r_11 (F := Ideal) c arg5 harg5 x3) (kernelRun0_A.sl.r_12 (F := Ideal) c arg5 harg5 x3) (kernelRun0_A.sl.r_13 (F := Ideal) c arg5 harg5 x3) (kernelRun0_A.sl.r_14 (F := Ideal) c arg5 harg5 x3) (kernelRun0_A.sl.r_15 (F := Ideal) c arg8 harg8 x6) (kernelRun0_A.sl.r_16 (F := Ideal) c arg8 harg8 x6) (kernelRun0_A.sl.r_17 (F := Ideal) c arg8 harg8 x6) (kernelRun0_A.sl.r_18 (F := Ideal) c arg8 harg8 x6) (kernelRun0_A.sl.r_19 (F := Ideal) c arg7 harg7 arg9 harg9 x5 x7) (kernelRun0_A.sl.r_20 (F := Ideal) c arg7 harg7 arg9 harg9 x5 x7) (kernelRun0_A.sl.r_21 (F := Ideal) c arg7 harg7 arg9 harg9 x5 x7) (kernelRun0_A.sl.r_22 (F := Ideal) c arg7 harg7 arg9 harg9 x5 x7) k0_pay127 k0_pay128 k0_pay129 k0_pay130 (harg6.unread x4) (arg15.view.writes (Elt Ideal) arg15.view.junk (kernelRun0_A.sl.HS0_4 (F := Ideal) c arg3 harg3 x1)) (arg16.view.writes (Elt Ideal) arg16.view.junk (kernelRun0_A.sl.HS1_4 (F := Ideal) c arg4 harg4 x2)) (Df' x1) (Df' x2) (Gf x4) hK hV hC (k0_pay127, k0_pay128, k0_pay129, k0_pay130, k0_pay131, k0_pay132, k0_pay133, k0_pay134) (arg13.view.writes (Elt Ideal) arg13.view.junk (kernelRun0_A.sl.H11_1 (F := Ideal))) (arg17.view.writes (Elt Ideal) arg17.view.junk (kernelRun0_A.sl.HS2_1 (F := Ideal))) (arg18.view.writes (Elt Ideal) arg18.view.junk (kernelRun0_A.sl.HS3_1 (F := Ideal))) (jj i).val (le_of_eq (trips_eq i).symm)).dck h k l
  rw [← View.writes_append, zero13] at e
  refine (congrArg (fun t : EReal => t + _) e).trans ?_
  exact comb_dck (jj i) _ _ _ _ _ ((Df' x1) h) ((Df' x2) h) (Gf x4 h) (Qf x0 h) (Df x7 h) (Cf x3 h) (Cf x6 h) (Ef x5 x7 h) (wq_A c arg2 harg2 x0 h) (wdy_A c arg9 harg9 x7 h) (wcq_A c arg5 harg5 x3 h) (wls_A c arg8 harg8 x6 h) (wdl_A c arg7 harg7 arg9 harg9 x5 x7 h) _ k l

end Cert.FoxV
-- ==== Proof.Fox.HeadsA.lean ====
module
public import proofs.«01_k».proof.Proof.Fox.KeysA
public import proofs.«01_k».proof.Proof.Fox.Heads
/-! # What the first grid point of a batch row writes of `dq` and `dcq`

A sum over all keys, of which those after the query give zero. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : cond0_0 i) (hc1 : ¬cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16)

include x0 x1 x2 x3 x4 x5 x6 x7

/-- Each head's gradient of the queries, before the scale. -/
theorem hdq_A (h : Fin 4) (r : Fin 512) (d : Fin 64) :
    ((![kernelRun0_A.sl.r_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7, kernelRun0_A.sl.r_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7, kernelRun0_A.sl.r_45 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7, kernelRun0_A.sl.r_51 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7] h) (ix2 r d) : EReal) = ∑ s, gs (jj i) (Qf x0 h) (Df x7 h) (Cf x3 h) (Cf x6 h) (Ef x5 x7 h) ((Df' x1) h) ((Df' x2) h) (Gf x4 h) r s * (Df' x1) h s d := by
  have hK : ∀ h s d, arg15.view.read (Elt Ideal) (arg15.view.writes (Elt Ideal) arg15.view.junk (kernelRun0_A.sl.HS0_4 (F := Ideal) c arg3 harg3 x1)) (ix3 h s d) = (Df' x1) h s d := fun h s d =>
    kh_A arg15.view _ c arg3 harg3 x1 h s d
  have hV : ∀ h s d, arg16.view.read (Elt Ideal) (arg16.view.writes (Elt Ideal) arg16.view.junk (kernelRun0_A.sl.HS1_4 (F := Ideal) c arg4 harg4 x2)) (ix3 h s d) = (Df' x2) h s d := fun h s d =>
    vh_A arg16.view _ c arg4 harg4 x2 h s d
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  have k := keys_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (kernelRun0_A.sl.r_2 (F := Ideal) c arg2 harg2 x0) (kernelRun0_A.sl.r_3 (F := Ideal) c arg2 harg2 x0) (kernelRun0_A.sl.r_5 (F := Ideal) c arg2 harg2 x0) (kernelRun0_A.sl.r_6 (F := Ideal) c arg2 harg2 x0)
    (kernelRun0_A.sl.r_7 (F := Ideal) c arg9 harg9 x7) (kernelRun0_A.sl.r_8 (F := Ideal) c arg9 harg9 x7) (kernelRun0_A.sl.r_9 (F := Ideal) c arg9 harg9 x7) (kernelRun0_A.sl.r_10 (F := Ideal) c arg9 harg9 x7)
    (kernelRun0_A.sl.r_11 (F := Ideal) c arg5 harg5 x3) (kernelRun0_A.sl.r_12 (F := Ideal) c arg5 harg5 x3) (kernelRun0_A.sl.r_13 (F := Ideal) c arg5 harg5 x3) (kernelRun0_A.sl.r_14 (F := Ideal) c arg5 harg5 x3)
    (kernelRun0_A.sl.r_15 (F := Ideal) c arg8 harg8 x6) (kernelRun0_A.sl.r_16 (F := Ideal) c arg8 harg8 x6) (kernelRun0_A.sl.r_17 (F := Ideal) c arg8 harg8 x6) (kernelRun0_A.sl.r_18 (F := Ideal) c arg8 harg8 x6)
    (kernelRun0_A.sl.r_19 (F := Ideal) c arg7 harg7 arg9 harg9 x5 x7) (kernelRun0_A.sl.r_20 (F := Ideal) c arg7 harg7 arg9 harg9 x5 x7) (kernelRun0_A.sl.r_21 (F := Ideal) c arg7 harg7 arg9 harg9 x5 x7) (kernelRun0_A.sl.r_22 (F := Ideal) c arg7 harg7 arg9 harg9 x5 x7)
    (harg6.unread x4) (arg15.view.writes (Elt Ideal) arg15.view.junk (kernelRun0_A.sl.HS0_4 (F := Ideal) c arg3 harg3 x1))
    (arg16.view.writes (Elt Ideal) arg16.view.junk (kernelRun0_A.sl.HS1_4 (F := Ideal) c arg4 harg4 x2)) (arg13.view.writes (Elt Ideal) arg13.view.junk (kernelRun0_A.sl.H11_1 (F := Ideal)))
    (arg17.view.writes (Elt Ideal) arg17.view.junk (kernelRun0_A.sl.HS2_1 (F := Ideal))) (arg18.view.writes (Elt Ideal) arg18.view.junk (kernelRun0_A.sl.HS3_1 (F := Ideal)))
    (Df' x1) (Df' x2) (Gf x4) hK hV hC (Qf x0) (Df x7) (Cf x3) (Cf x6) (Ef x5 x7)
    (wq_A c arg2 harg2 x0) (wdy_A c arg9 harg9 x7) (wcq_A c arg5 harg5 x3) (wls_A c arg8 harg8 x6) (wdl_A c arg7 harg7 arg9 harg9 x5 x7)
    _ _ _ _ (fun h => match h with
      | 0 => by
        show kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = _
        unfold kernelRun0_A.sl.r_23
        rw [trips2 i, trips1 i]
        rfl
      | 1 => by
        show kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = _
        unfold kernelRun0_A.sl.r_25
        rw [trips2 i, trips1 i]
        rfl
      | 2 => by
        show kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = _
        unfold kernelRun0_A.sl.r_27
        rw [trips2 i, trips1 i]
        rfl
      | 3 => by
        show kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = _
        unfold kernelRun0_A.sl.r_29
        rw [trips2 i, trips1 i]
        rfl) r d
  match h with
  | 0 => exact k.1
  | 1 => exact k.2.1
  | 2 => exact k.2.2.1
  | 3 => exact k.2.2.2

/-- Each head's gradient of `c` as the query's. -/
theorem hdcq_A (h : Fin 4) (r : Fin 512) :
    ((![kernelRun0_A.sl.r_37 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7, kernelRun0_A.sl.r_41 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7, kernelRun0_A.sl.r_47 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7, kernelRun0_A.sl.r_52 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7] h) (ix2 r 0) : EReal) = ∑ s, gs (jj i) (Qf x0 h) (Df x7 h) (Cf x3 h) (Cf x6 h) (Ef x5 x7 h) ((Df' x1) h) ((Df' x2) h) (Gf x4 h) r s := by
  have hK : ∀ h s d, arg15.view.read (Elt Ideal) (arg15.view.writes (Elt Ideal) arg15.view.junk (kernelRun0_A.sl.HS0_4 (F := Ideal) c arg3 harg3 x1)) (ix3 h s d) = (Df' x1) h s d := fun h s d =>
    kh_A arg15.view _ c arg3 harg3 x1 h s d
  have hV : ∀ h s d, arg16.view.read (Elt Ideal) (arg16.view.writes (Elt Ideal) arg16.view.junk (kernelRun0_A.sl.HS1_4 (F := Ideal) c arg4 harg4 x2)) (ix3 h s d) = (Df' x2) h s d := fun h s d =>
    vh_A arg16.view _ c arg4 harg4 x2 h s d
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  have k := keys_dcq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (kernelRun0_A.sl.r_2 (F := Ideal) c arg2 harg2 x0) (kernelRun0_A.sl.r_3 (F := Ideal) c arg2 harg2 x0) (kernelRun0_A.sl.r_5 (F := Ideal) c arg2 harg2 x0) (kernelRun0_A.sl.r_6 (F := Ideal) c arg2 harg2 x0)
    (kernelRun0_A.sl.r_7 (F := Ideal) c arg9 harg9 x7) (kernelRun0_A.sl.r_8 (F := Ideal) c arg9 harg9 x7) (kernelRun0_A.sl.r_9 (F := Ideal) c arg9 harg9 x7) (kernelRun0_A.sl.r_10 (F := Ideal) c arg9 harg9 x7)
    (kernelRun0_A.sl.r_11 (F := Ideal) c arg5 harg5 x3) (kernelRun0_A.sl.r_12 (F := Ideal) c arg5 harg5 x3) (kernelRun0_A.sl.r_13 (F := Ideal) c arg5 harg5 x3) (kernelRun0_A.sl.r_14 (F := Ideal) c arg5 harg5 x3)
    (kernelRun0_A.sl.r_15 (F := Ideal) c arg8 harg8 x6) (kernelRun0_A.sl.r_16 (F := Ideal) c arg8 harg8 x6) (kernelRun0_A.sl.r_17 (F := Ideal) c arg8 harg8 x6) (kernelRun0_A.sl.r_18 (F := Ideal) c arg8 harg8 x6)
    (kernelRun0_A.sl.r_19 (F := Ideal) c arg7 harg7 arg9 harg9 x5 x7) (kernelRun0_A.sl.r_20 (F := Ideal) c arg7 harg7 arg9 harg9 x5 x7) (kernelRun0_A.sl.r_21 (F := Ideal) c arg7 harg7 arg9 harg9 x5 x7) (kernelRun0_A.sl.r_22 (F := Ideal) c arg7 harg7 arg9 harg9 x5 x7)
    (harg6.unread x4) (arg15.view.writes (Elt Ideal) arg15.view.junk (kernelRun0_A.sl.HS0_4 (F := Ideal) c arg3 harg3 x1))
    (arg16.view.writes (Elt Ideal) arg16.view.junk (kernelRun0_A.sl.HS1_4 (F := Ideal) c arg4 harg4 x2)) (arg13.view.writes (Elt Ideal) arg13.view.junk (kernelRun0_A.sl.H11_1 (F := Ideal)))
    (arg17.view.writes (Elt Ideal) arg17.view.junk (kernelRun0_A.sl.HS2_1 (F := Ideal))) (arg18.view.writes (Elt Ideal) arg18.view.junk (kernelRun0_A.sl.HS3_1 (F := Ideal)))
    (Df' x1) (Df' x2) (Gf x4) hK hV hC (Qf x0) (Df x7) (Cf x3) (Cf x6) (Ef x5 x7)
    (wq_A c arg2 harg2 x0) (wdy_A c arg9 harg9 x7) (wcq_A c arg5 harg5 x3) (wls_A c arg8 harg8 x6) (wdl_A c arg7 harg7 arg9 harg9 x5 x7)
    _ _ _ _ (fun h => match h with
      | 0 => by
        show kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = _
        unfold kernelRun0_A.sl.r_24
        rw [trips2 i, trips1 i]
        rfl
      | 1 => by
        show kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = _
        unfold kernelRun0_A.sl.r_26
        rw [trips2 i, trips1 i]
        rfl
      | 2 => by
        show kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = _
        unfold kernelRun0_A.sl.r_28
        rw [trips2 i, trips1 i]
        rfl
      | 3 => by
        show kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = _
        unfold kernelRun0_A.sl.r_30
        rw [trips2 i, trips1 i]
        rfl) r
  match h with
  | 0 => exact k.1
  | 1 => exact k.2.1
  | 2 => exact k.2.2.1
  | 3 => exact k.2.2.2

include hc0 hc1 in
/-- The block of `dq`. -/
theorem dq_A (h : Fin 4) (r : Fin 512) (d : Fin 64) :
    (out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 (ix2 r (col h d)) : EReal)
      = (∑ s, gs (jj i) (Qf x0 h) (Df x7 h) (Cf x3 h) (Cf x6 h) (Ef x5 x7 h) ((Df' x1) h) ((Df' x2) h) (Gf x4 h) r s * (Df' x1) h s d) * Ideal.ofBits FTy.f32 1040187392#32 := by
  unfold out0_A_8 kernelRun0_A
  dsimp only
  refine (View.read_writes_cons_unit_of_mem VO0_8 VO0_8.junk _ _ _ _ (ix2 r (col h d)) rfl
    (fun a => match a with
      | 0 => (Nat.zero_add _).symm
      | 1 => (Nat.zero_add _).symm)).trans ?_
  refine (dq_at ![kernelRun0_A.sl.r_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7, kernelRun0_A.sl.r_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7, kernelRun0_A.sl.r_45 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7, kernelRun0_A.sl.r_51 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7] h r d).trans ?_
  rw [hdq_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 h r d]

include hc0 hc1 in
/-- The block of `dcq`. -/
theorem dcq_A (h : Fin 4) (r : Fin 512) :
    (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 (ix4 0 h r 0) : EReal) = ∑ s, gs (jj i) (Qf x0 h) (Df x7 h) (Cf x3 h) (Cf x6 h) (Ef x5 x7 h) ((Df' x1) h) ((Df' x2) h) (Gf x4 h) r s := by
  rw [← hdcq_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 h r]
  unfold out0_A_12 kernelRun0_A
  dsimp only
  match h with
  | 0 =>
    refine (cols4 _ _ _ _ _ _ _ _ _ 0 r).trans ?_
    unfold_payloads
    pointwise
  | 1 =>
    refine (cols4 _ _ _ _ _ _ _ _ _ 1 r).trans ?_
    unfold_payloads
    pointwise
  | 2 =>
    refine (cols4 _ _ _ _ _ _ _ _ _ 2 r).trans ?_
    unfold_payloads
    pointwise
  | 3 =>
    refine (cols4 _ _ _ _ _ _ _ _ _ 3 r).trans ?_
    unfold_payloads
    pointwise

end Cert.FoxV
-- ==== Proof.Fox.Blocks.lean ====
module
public import proofs.«01_k».proof.Proof.Fox.KeysA
/-! # The blocks of the grid points

Each is a part of the projection, of the gates' sums, of the gradient that arrives, or of what the forward pass saved. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (m : (ℓ : Loc nD τ sig) → Buf (Elt Ideal) ℓ) (c : Dev nD)

/-- The grid point of chunk `j` of batch row `b`. -/
def tb (b j : Fin 4) : Fin cfg0.N := ⟨4 * b.val + j.val, lt_of_lt_of_eq (by omega) N_0.symm⟩

theorem idx : ∀ b j : Fin 4, win0_0.index (tb b j) = ![4 * b.val + j.val, 16] ∧ win0_1.index (tb b j) = ![b.val, 17]
    ∧ win0_2.index (tb b j) = ![b.val, 18] ∧ win0_3.index (tb b j) = ![b.val, 0, j.val, 0]
    ∧ win0_4.index (tb b j) = ![b.val, 0, 0, 0, 0] ∧ win0_5.index (tb b j) = ![b.val, 0, j.val, 0]
    ∧ win0_6.index (tb b j) = ![b.val, 0, j.val, 0] ∧ win0_7.index (tb b j) = ![4 * b.val + j.val, 0]
    ∧ win0_8.index (tb b j) = ![4 * b.val + j.val, 0] ∧ win0_9.index (tb b j) = ![b.val, 0]
    ∧ win0_10.index (tb b j) = ![b.val, 0] ∧ win0_11.index (tb b j) = ![b.val, 0, 0, 0, 0]
    ∧ win0_12.index (tb b j) = ![b.val, 0, j.val, 0] ∧ jj (grid0.coords (tb b j)) = j := by decide +kernel

/-- Row `t` of batch row `b`, among all rows. -/
def gr (b : Fin 4) (t : Fin 2048) : Fin 8192 := ⟨2048 * b.val + t.val, by omega⟩
/-- Column `x` of part `n` (queries, keys or values) of the projection. -/
def gc (n : Fin 3) (x : Fin 256) : Fin 7168 := ⟨4096 + 256 * n.val + x.val, by omega⟩

def Qm (b h : Fin 4) (t : Fin 2048) (d : Fin 64) : EReal := m ((c : Thread nD τ).loc main_arg0) (ix2 (gr b t) (gc 0 (col h d)))
def Km (b h : Fin 4) (t : Fin 2048) (d : Fin 64) : EReal := m ((c : Thread nD τ).loc main_arg0) (ix2 (gr b t) (gc 1 (col h d)))
def Vm (b h : Fin 4) (t : Fin 2048) (d : Fin 64) : EReal := m ((c : Thread nD τ).loc main_arg0) (ix2 (gr b t) (gc 2 (col h d)))
def Dm (b h : Fin 4) (t : Fin 2048) (d : Fin 64) : EReal := m ((c : Thread nD τ).loc main_arg2) (ix2 (gr b t) (col h d))
def Cm (b h : Fin 4) (t : Fin 2048) : EReal := m ((c : Thread nD τ).loc main_arg1) (ix3 b h t)

theorem q_pt (b j h : Fin 4) : Qf (iblk m c 0 (tb b j)) h
    = fun r d => Qm m c b h (row j r) d * Ideal.ofBits FTy.f32 1040187392#32 := by
  funext r d
  refine congrArg (· * Ideal.ofBits FTy.f32 1040187392#32) ?_
  unfold Qm gr gc row col
  blk_ext [iblk, idx b j]

theorem k_pt (b j h : Fin 4) : Df' (iblk m c 1 (tb b j)) h = Km m c b h := by
  funext s d
  unfold Df' Km gr gc col
  blk_ext [iblk, idx b j]

theorem v_pt (b j h : Fin 4) : Df' (iblk m c 2 (tb b j)) h = Vm m c b h := by
  funext s d
  unfold Df' Vm gr gc col
  blk_ext [iblk, idx b j]

theorem d_pt (b j h : Fin 4) : Df (iblk m c 7 (tb b j)) h = fun r d => Dm m c b h (row j r) d := by
  funext r d
  unfold Df Dm gr row col
  blk_ext [iblk, idx b j]

theorem c_pt (b j h : Fin 4) : Cf (iblk m c 3 (tb b j)) h = fun r => Cm m c b h (row j r) := by
  funext r
  unfold Cf Cm iblk
  entry_read
  rw [View.read_apply, cast_eq, show ((cfg0.win 3).blk (tb b j)).view.emb (ix4 0 h r 0) = (ix4 b h (row j r) 0 : S4x4x2048x1.Idx) from by unfold row; blk_ext [idx b j]]
  change broadcastInDim S4x4x2048x1 (![0, 1, 2] : Fin S4x4x2048.rank → Fin S4x4x2048x1.rank) bcast_S4x4x2048_S4x4x2048x1_0_1_2 (m ((c : Thread nD τ).loc main_arg1) : FVec Ideal S4x4x2048 .f32) (ix4 b h (row j r) 0 : S4x4x2048x1.Idx) = _
  pointwise

theorem g_pt (b j h : Fin 4) : Gf (iblk m c 4 (tb b j)) h = Cm m c b h := by
  funext s
  unfold Gf Cm iblk
  entry_read
  rw [View.read_apply, cast_eq, show ((cfg0.win 4).blk (tb b j)).view.emb (ix5 0 h ⟨s.val / 512, by omega⟩ 0 ⟨s.val % 512, by omega⟩) = (ix5 b h ⟨s.val / 512, by omega⟩ 0 ⟨s.val % 512, by omega⟩ : S4x4x4x1x512.Idx) from by blk_ext [idx b j]]
  change shapeCast S4x4x4x1x512 _ _ (ix5 b h ⟨s.val / 512, by omega⟩ 0 ⟨s.val % 512, by omega⟩ : S4x4x4x1x512.Idx) = _
  pointwise
  blk_ext

/-- The forward pass's output, as the host hands it over. -/
def Om (b h : Fin 4) (t : Fin 2048) (d : Fin 64) : EReal := V m c (Pipeline.arrRef spec0 5) (ix4 b h t d)
/-- The rows' log-sums, as the host hands them over. -/
def Lm (b h : Fin 4) (t : Fin 2048) : EReal := V m c (Pipeline.arrRef spec0 6) (ix4 b h t 0)

theorem e_pt (b j h : Fin 4) : Ef (iblk m c 5 (tb b j)) (iblk m c 7 (tb b j)) h
    = fun r => ∑ x, Dm m c b h (row j r) x * Om m c b h (row j r) x := by
  funext r
  unfold Ef
  rw [d_pt]
  refine Finset.sum_congr rfl fun x _ => congrArg (Dm m c b h (row j r) x * ·) ?_
  unfold Om iblk
  rw [View.read_apply, cast_eq, show ((cfg0.win 5).blk (tb b j)).view.emb (ix4 0 h r x) = (ix4 b h (row j r) x : S4x4x2048x64.Idx) from by unfold row; blk_ext [idx b j]]

theorem l_pt (b j h : Fin 4) : Cf (iblk m c 6 (tb b j)) h = fun r => Lm m c b h (row j r) := by
  funext r
  unfold Cf Lm iblk
  rw [View.read_apply, cast_eq, show ((cfg0.win 6).blk (tb b j)).view.emb (ix4 0 h r 0) = (ix4 b h (row j r) 0 : S4x4x2048x1.Idx) from by unfold row; blk_ext [idx b j]]

/-- The weight of query `t` on key `s`. -/
def W (b h : Fin 4) (t s : Fin 2048) : EReal :=
  if s ≤ t then Ideal.exp (∑ x, Qm m c b h t x * Ideal.ofBits FTy.f32 1040187392#32 * Km m c b h s x
    + (Cm m c b h t - Cm m c b h s) - Lm m c b h t) else 0
/-- The gradient of the score of query `t` and key `s`. -/
def G (b h : Fin 4) (t s : Fin 2048) : EReal :=
  W m c b h t s * (∑ x, Dm m c b h t x * Vm m c b h s x - ∑ x, Dm m c b h t x * Om m c b h t x)

theorem w_pt (b j h : Fin 4) (K : Fin 2048 → Fin 64 → EReal) (hK : K = Km m c b h) (r : Fin 512) (s : Fin 2048) :
    gw (jj (grid0.coords (tb b j))) (Qf (iblk m c 0 (tb b j)) h) (Cf (iblk m c 3 (tb b j)) h) (Cf (iblk m c 6 (tb b j)) h)
      K (Gf (iblk m c 4 (tb b j)) h) r s = W m c b h (row j r) s := by
  rw [(idx b j).2.2.2.2.2.2.2.2.2.2.2.2.2, q_pt, c_pt, l_pt, g_pt, hK]
  rfl

theorem s_pt (b j h : Fin 4) (K V' : Fin 2048 → Fin 64 → EReal) (hK : K = Km m c b h) (hV : V' = Vm m c b h)
    (r : Fin 512) (s : Fin 2048) :
    gs (jj (grid0.coords (tb b j))) (Qf (iblk m c 0 (tb b j)) h) (Df (iblk m c 7 (tb b j)) h) (Cf (iblk m c 3 (tb b j)) h)
      (Cf (iblk m c 6 (tb b j)) h) (Ef (iblk m c 5 (tb b j)) (iblk m c 7 (tb b j)) h)
      K V' (Gf (iblk m c 4 (tb b j)) h) r s = G m c b h (row j r) s := by
  unfold gs
  rw [w_pt m c b j h K hK, d_pt, e_pt, hV]
  rfl

end Cert.FoxV
-- ==== Proof.Fox.Keep.lean ====
module
public import proofs.«01_k».proof.Proof.Fox.KeysA
/-! # The carried heads of the keys and of the values

Set at the first point of a batch row, kept at the others. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

section

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : cond0_0 i) (hc1 : ¬cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16)

theorem keep_kh_A (h : Fin 4) (s : Fin 2048) (d : Fin 64) :
    (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 (ix3 h s d) : EReal) = Df' x1 h s d := by
  unfold sout0_A_0 kernelRun0_A
  dsimp only
  exact kh_A _ _ _ _ _ x1 h s d

theorem keep_vh_A (h : Fin 4) (s : Fin 2048) (d : Fin 64) :
    (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 (ix3 h s d) : EReal) = Df' x2 h s d := by
  unfold sout0_A_1 kernelRun0_A
  dsimp only
  exact vh_A _ _ _ _ _ x2 h s d

end

section

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : ¬cond0_0 i) (hc1 : ¬cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16) (xo11 : Vec Ideal S1x4x4x1x512 .f32)
  (xs0 : Vec Ideal S4x2048x64 .bf16) (xs1 : Vec Ideal S4x2048x64 .bf16) (xs2 : Vec Ideal S4x2048x64 .f32)
  (xs3 : Vec Ideal S4x2048x64 .f32)

theorem keep_kh_B (h : Fin 4) (s : Fin 2048) (d : Fin 64) :
    (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h s d) : EReal) = xs0 (ix3 h s d) := by
  rfl

theorem keep_vh_B (h : Fin 4) (s : Fin 2048) (d : Fin 64) :
    (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h s d) : EReal) = xs1 (ix3 h s d) := by
  rfl

end

section

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : ¬cond0_0 i) (hc1 : cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16) (xo11 : Vec Ideal S1x4x4x1x512 .f32)
  (xs0 : Vec Ideal S4x2048x64 .bf16) (xs1 : Vec Ideal S4x2048x64 .bf16) (xs2 : Vec Ideal S4x2048x64 .f32)
  (xs3 : Vec Ideal S4x2048x64 .f32)

theorem keep_kh_C (h : Fin 4) (s : Fin 2048) (d : Fin 64) :
    (sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h s d) : EReal) = xs0 (ix3 h s d) := by
  rfl

theorem keep_vh_C (h : Fin 4) (s : Fin 2048) (d : Fin 64) :
    (sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h s d) : EReal) = xs1 (ix3 h s d) := by
  rfl

end

end Cert.FoxV
-- ==== Proof.Fox.PointA.lean ====
module
public import proofs.«01_k».proof.Proof.Fox.StateA
public import proofs.«01_k».proof.Proof.Fox.HeadsA
public import proofs.«01_k».proof.Proof.Fox.Blocks
public import proofs.«01_k».proof.Proof.Fox.Keep
/-! # What a point leaves: the first of a batch row

 -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (m : (ℓ : Loc nD τ sig) → Buf (Elt Ideal) ℓ) (c : Dev nD)

/-- What a point leaves: the five outputs' blocks and the four carried buffers. -/
abbrev Outs := Vec Ideal S512x256 .bf16 × Vec Ideal S2048x256 .bf16 × Vec Ideal S2048x256 .bf16 × Vec Ideal S1x4x4x1x512 .f32
  × Vec Ideal S1x4x512x1 .f32 × Vec Ideal S4x2048x64 .bf16 × Vec Ideal S4x2048x64 .bf16 × Vec Ideal S4x2048x64 .f32
  × Vec Ideal S4x2048x64 .f32

/-- The first `n + 1` of four terms, added up one after another from zero. -/
def acc (f : Fin 4 → EReal) : ℕ → EReal
  | 0 => 0 + f 0
  | n + 1 => acc f n + f ⟨(n + 1) % 4, Nat.mod_lt _ (by omega)⟩

theorem acc_0 (f : Fin 4 → EReal) : acc f (0 : Fin 4).val = 0 + f 0 := rfl
theorem acc_1 (f : Fin 4 → EReal) : acc f (1 : Fin 4).val = acc f (0 : Fin 4).val + f 1 := rfl
theorem acc_2 (f : Fin 4 → EReal) : acc f (2 : Fin 4).val = acc f (1 : Fin 4).val + f 2 := rfl
theorem acc_3 (f : Fin 4 → EReal) : acc f (3 : Fin 4).val = acc f (2 : Fin 4).val + f 3 := rfl
theorem acc_all (f : Fin 4 → EReal) : acc f (3 : Fin 4).val = ∑ k, f k := by
  rw [acc_3, acc_2, acc_1, acc_0, zero_add, Fin.sum_univ_four]

/-- What is known of the contents a point of batch row `b` and chunk `j` leaves. -/
structure At (b j : Fin 4) (o : Outs) : Prop where
  kh : ∀ h s d, (o.2.2.2.2.2.1 (ix3 h s d) : EReal) = Km m c b h s d
  vh : ∀ h s d, (o.2.2.2.2.2.2.1 (ix3 h s d) : EReal) = Vm m c b h s d
  dk : ∀ h k l d, (o.2.2.2.2.2.2.2.1 (ix3 h (row k l) d) : EReal)
    = acc (fun j => ∑ r, G m c b h (row j r) (row k l) * (Qm m c b h (row j r) d * Ideal.ofBits FTy.f32 1040187392#32)) j.val
  dv : ∀ h k l d, (o.2.2.2.2.2.2.2.2 (ix3 h (row k l) d) : EReal)
    = acc (fun j => ∑ r, W m c b h (row j r) (row k l) * Dm m c b h (row j r) d) j.val
  dck : ∀ h k l, (o.2.2.2.1 (ix5 0 h k 0 l) : EReal)
    = acc (fun j => 0 - ∑ r, G m c b h (row j r) (row k l)) j.val
  dq : ∀ h r d, (o.1 (ix2 r (col h d)) : EReal) = (∑ s, G m c b h (row j r) s * Km m c b h s d) * Ideal.ofBits FTy.f32 1040187392#32
  dcq : ∀ h r, (o.2.2.2.2.1 (ix4 0 h r 0) : EReal) = ∑ s, G m c b h (row j r) s

theorem at_0 (b : Fin 4)  :
    At m c b 0 (outsAt0 m c (tb b 0).val (tb b 0).isLt) := by
  have e := outsAt0_A m c (tb b 0) (by show (4 * b.val + 0) % 4 = 0; omega) (by show ¬ (4 * b.val + 0) % 4 = 3; omega)
  have hK : ∀ h, Df' (iblk m c 1 (tb b 0)) h = Km m c b h := k_pt m c b 0
  have hV : ∀ h, Df' (iblk m c 2 (tb b 0)) h = Vm m c b h := v_pt m c b 0
  exact
  { kh := fun h s d => by
      refine (congrArg (fun o : Outs => (o.2.2.2.2.2.1 (ix3 h s d) : EReal)) e).trans ?_
      dsimp only
      refine ((keep_kh_A _ _ _ _ _ _ _ _ _ _ _ _ _ _ _ _ _ _ _ _ _ _ _ _ _ _ _ _ _ _ _ _ _ _ _ _ _ _ _ _ _ _ _ _ _ _ h s d).trans ?_)
      exact congrFun (congrFun (hK h) s) d
    vh := fun h s d => by
      refine (congrArg (fun o : Outs => (o.2.2.2.2.2.2.1 (ix3 h s d) : EReal)) e).trans ?_
      dsimp only
      refine ((keep_vh_A _ _ _ _ _ _ _ _ _ _ _ _ _ _ _ _ _ _ _ _ _ _ _ _ _ _ _ _ _ _ _ _ _ _ _ _ _ _ _ _ _ _ _ _ _ _ h s d).trans ?_)
      exact congrFun (congrFun (hV h) s) d
    dk := fun h k l d => by
      refine (congrArg (fun o : Outs => (o.2.2.2.2.2.2.2.1 (ix3 h (row k l) d) : EReal)) e).trans ?_
      dsimp only
      refine ((dk_A _ _ _ _ _ _ _ _ _ _ _ _ _ _ _ _ _ _ _ _ _ _ _ _ _ _ _ _ _ _ _ _ _ _ _ _ _ _ _ _ _ _ _ _ _ _ h k l d).trans ?_)
      refine Eq.trans ?_ (acc_0 (fun j => ∑ r, G m c b h (row j r) (row k l) * (Qm m c b h (row j r) d * Ideal.ofBits FTy.f32 1040187392#32))).symm
      exact ((congrArg (0 + ·) (Finset.sum_congr rfl fun r _ => congrArg₂ (· * ·) (s_pt m c b 0 h _ _ (hK h) (hV h) r (row k l)) (congrFun (congrFun (q_pt m c b 0 h) r) d))))
    dv := fun h k l d => by
      refine (congrArg (fun o : Outs => (o.2.2.2.2.2.2.2.2 (ix3 h (row k l) d) : EReal)) e).trans ?_
      dsimp only
      refine ((dv_A _ _ _ _ _ _ _ _ _ _ _ _ _ _ _ _ _ _ _ _ _ _ _ _ _ _ _ _ _ _ _ _ _ _ _ _ _ _ _ _ _ _ _ _ _ _ h k l d).trans ?_)
      refine Eq.trans ?_ (acc_0 (fun j => ∑ r, W m c b h (row j r) (row k l) * Dm m c b h (row j r) d)).symm
      exact ((congrArg (0 + ·) (Finset.sum_congr rfl fun r _ => congrArg₂ (· * ·) (w_pt m c b 0 h _ (hK h) r (row k l)) (congrFun (congrFun (d_pt m c b 0 h) r) d))))
    dck := fun h k l => by
      refine (congrArg (fun o : Outs => (o.2.2.2.1 (ix5 0 h k 0 l) : EReal)) e).trans ?_
      dsimp only
      refine ((dck_A _ _ _ _ _ _ _ _ _ _ _ _ _ _ _ _ _ _ _ _ _ _ _ _ _ _ _ _ _ _ _ _ _ _ _ _ _ _ _ _ _ _ _ _ _ _ h k l).trans ?_)
      refine Eq.trans ?_ (acc_0 (fun j => 0 - ∑ r, G m c b h (row j r) (row k l))).symm
      exact ((congrArg (0 + ·) (congrArg (0 - ·) (Finset.sum_congr rfl fun r _ => (s_pt m c b 0 h _ _ (hK h) (hV h) r (row k l))))))
    dq := fun h r d => by
      refine (congrArg (fun o : Outs => (o.1 (ix2 r (col h d)) : EReal)) e).trans ?_
      dsimp only
      refine ((dq_A _ _ _ _ _ _ _ _ _ _ _ _ _ _ _ _ _ _ _ _ _ _ _ _ _ _ _ _ _ _ _ _ _ _ _ _ _ _ _ _ _ _ _ _ _ _ h r d).trans ?_)
      exact (congrArg (· * Ideal.ofBits FTy.f32 1040187392#32) (Finset.sum_congr rfl fun s _ => congrArg₂ (· * ·) (s_pt m c b 0 h _ _ (hK h) (hV h) r s) (congrFun (congrFun (hK h) s) d)))
    dcq := fun h r => by
      refine (congrArg (fun o : Outs => (o.2.2.2.2.1 (ix4 0 h r 0) : EReal)) e).trans ?_
      dsimp only
      refine ((dcq_A _ _ _ _ _ _ _ _ _ _ _ _ _ _ _ _ _ _ _ _ _ _ _ _ _ _ _ _ _ _ _ _ _ _ _ _ _ _ _ _ _ _ _ _ _ _ h r).trans ?_)
      exact (Finset.sum_congr rfl fun s _ => (s_pt m c b 0 h _ _ (hK h) (hV h) r s)) }

end Cert.FoxV
-- ==== Proof.Fox.StateB.lean ====
module
public import proofs.«01_k».proof.Proof.Fox.Trips
/-! # What a middle grid point of a batch row leaves in the carried buffers

Each buffer holds what it held plus this step's part. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : ¬cond0_0 i) (hc1 : ¬cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16) (xo11 : Vec Ideal S1x4x4x1x512 .f32)
  (xs0 : Vec Ideal S4x2048x64 .bf16) (xs1 : Vec Ideal S4x2048x64 .bf16) (xs2 : Vec Ideal S4x2048x64 .f32)
  (xs3 : Vec Ideal S4x2048x64 .f32)

/-- What the keys' scratch holds after the point. -/
theorem dk_B (h k : Fin 4) (l : Fin 512) (d : Fin 64) :
    (sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h (row k l) d) : EReal) = xs2 (ix3 h (row k l) d) + ∑ r, gs (jj i) (Qf x0 h) (Df x7 h) (Cf x3 h) (Cf x6 h) (Ef x5 x7 h) ((Kf xs0) h) ((Kf xs1) h) (Gf x4 h) r (row k l) * Qf x0 h r d := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  unfold sout0_B_2 kernelRun0_B
  dsimp only
  refine (diag_dk i _ _ _ _ _ _ _ _ _ _ _ _ _ _ _ _ _ _ _ _ arg6.view arg15.view arg16.view (harg6.unread x4) (harg15.unread xs0) (harg16.unread xs1) (Kf xs0) (Kf xs1) (Gf x4) hK hV hC arg17.view (harg17.unread xs2) _ rfl rfl rfl rfl h k l d).trans ?_
  rw [trips2 i, trips1 i]
  refine (congrArg (fun t : EReal => t + _) ((loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) _ _ _ _ _ _ _ _ _ _ _ _ _ _ _ _ _ _ _ _ k0_pay127 k0_pay128 k0_pay129 k0_pay130 (harg6.unread x4) (harg15.unread xs0) (harg16.unread xs1) (Kf xs0) (Kf xs1) (Gf x4) hK hV hC (k0_pay127, k0_pay128, k0_pay129, k0_pay130, k0_pay131, k0_pay132, k0_pay133, k0_pay134) (harg13.unread xo11) (harg17.unread xs2) (harg18.unread xs3) (jj i).val (le_of_eq (trips_eq i).symm)).dk h k l d)).trans ?_
  rw [show arg17.view.read (Elt Ideal) (harg17.unread xs2) = xs2 from harg17.read_unread xs2]
  exact comb_dk (jj i) _ _ _ _ _ ((Kf xs0) h) ((Kf xs1) h) (Gf x4 h) (Qf x0 h) (Df x7 h) (Cf x3 h) (Cf x6 h) (Ef x5 x7 h) (wq_B c arg2 harg2 x0 h) (wdy_B c arg9 harg9 x7 h) (wcq_B c arg5 harg5 x3 h) (wls_B c arg8 harg8 x6 h) (wdl_B c arg7 harg7 arg9 harg9 x5 x7 h) _ k l d

/-- What the values' scratch holds after the point. -/
theorem dv_B (h k : Fin 4) (l : Fin 512) (d : Fin 64) :
    (sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h (row k l) d) : EReal) = xs3 (ix3 h (row k l) d) + ∑ r, gw (jj i) (Qf x0 h) (Cf x3 h) (Cf x6 h) ((Kf xs0) h) (Gf x4 h) r (row k l) * Df x7 h r d := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  unfold sout0_B_3 kernelRun0_B
  dsimp only
  refine (diag_dv i _ _ _ _ _ _ _ _ _ _ _ _ _ _ _ _ arg6.view arg15.view (harg6.unread x4) (harg15.unread xs0) (Kf xs0) (Gf x4) hK hC arg18.view (harg18.unread xs3) _ rfl rfl rfl rfl h k l d).trans ?_
  rw [trips2 i, trips1 i]
  refine (congrArg (fun t : EReal => t + _) ((loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) _ _ _ _ _ _ _ _ _ _ _ _ _ _ _ _ _ _ _ _ k0_pay127 k0_pay128 k0_pay129 k0_pay130 (harg6.unread x4) (harg15.unread xs0) (harg16.unread xs1) (Kf xs0) (Kf xs1) (Gf x4) hK hV hC (k0_pay127, k0_pay128, k0_pay129, k0_pay130, k0_pay131, k0_pay132, k0_pay133, k0_pay134) (harg13.unread xo11) (harg17.unread xs2) (harg18.unread xs3) (jj i).val (le_of_eq (trips_eq i).symm)).dv h k l d)).trans ?_
  rw [show arg18.view.read (Elt Ideal) (harg18.unread xs3) = xs3 from harg18.read_unread xs3]
  exact comb_dv (jj i) _ _ _ _ ((Kf xs0) h) (Gf x4 h) (Qf x0 h) (Df x7 h) (Cf x3 h) (Cf x6 h) (wq_B c arg2 harg2 x0 h) (wcq_B c arg5 harg5 x3 h) (wls_B c arg8 harg8 x6 h) (wdy_B c arg9 harg9 x7 h) _ k l d

/-- What the block of `dck` holds after the point. -/
theorem dck_B (h k : Fin 4) (l : Fin 512) :
    (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix5 0 h k 0 l) : EReal) = xo11 (ix5 0 h k 0 l) + (0 - ∑ r, gs (jj i) (Qf x0 h) (Df x7 h) (Cf x3 h) (Cf x6 h) (Ef x5 x7 h) ((Kf xs0) h) ((Kf xs1) h) (Gf x4 h) r (row k l)) := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  unfold out0_B_11 kernelRun0_B
  dsimp only
  refine (diag_dck i _ _ _ _ _ _ _ _ _ _ _ _ _ _ _ _ _ _ _ _ arg6.view arg15.view arg16.view (harg6.unread x4) (harg15.unread xs0) (harg16.unread xs1) (Kf xs0) (Kf xs1) (Gf x4) hK hV hC arg13.view (harg13.unread xo11) _ rfl rfl rfl rfl h k l).trans ?_
  rw [trips2 i, trips1 i]
  refine (congrArg (fun t : EReal => t + _) ((loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) _ _ _ _ _ _ _ _ _ _ _ _ _ _ _ _ _ _ _ _ k0_pay127 k0_pay128 k0_pay129 k0_pay130 (harg6.unread x4) (harg15.unread xs0) (harg16.unread xs1) (Kf xs0) (Kf xs1) (Gf x4) hK hV hC (k0_pay127, k0_pay128, k0_pay129, k0_pay130, k0_pay131, k0_pay132, k0_pay133, k0_pay134) (harg13.unread xo11) (harg17.unread xs2) (harg18.unread xs3) (jj i).val (le_of_eq (trips_eq i).symm)).dck h k l)).trans ?_
  rw [show arg13.view.read (Elt Ideal) (harg13.unread xo11) = xo11 from harg13.read_unread xo11]
  exact comb_dck (jj i) _ _ _ _ _ ((Kf xs0) h) ((Kf xs1) h) (Gf x4 h) (Qf x0 h) (Df x7 h) (Cf x3 h) (Cf x6 h) (Ef x5 x7 h) (wq_B c arg2 harg2 x0 h) (wdy_B c arg9 harg9 x7 h) (wcq_B c arg5 harg5 x3 h) (wls_B c arg8 harg8 x6 h) (wdl_B c arg7 harg7 arg9 harg9 x5 x7 h) _ k l

end Cert.FoxV
-- ==== Proof.Fox.PointB.lean ====
module
public import proofs.«01_k».proof.Proof.Fox.PointA
public import proofs.«01_k».proof.Proof.Fox.StateB
public import proofs.«01_k».proof.Proof.Fox.HeadsB
/-! # What a point leaves: the middle ones of a batch row

 -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (m : (ℓ : Loc nD τ sig) → Buf (Elt Ideal) ℓ) (c : Dev nD)

theorem at_1 (b : Fin 4) (hp : At m c b 0 (outsAt0 m c ((tb b 1).val - 1) (Nat.lt_of_le_of_lt (Nat.sub_le _ _) (tb b 1).isLt))) :
    At m c b 1 (outsAt0 m c (tb b 1).val (tb b 1).isLt) := by
  have e := outsAt0_B m c (tb b 1) (by show ¬ (4 * b.val + 1) % 4 = 0; omega) (by show ¬ (4 * b.val + 1) % 4 = 3; omega)
  have hK : ∀ h, Kf (outsAt0 m c ((tb b 1).val - 1) (Nat.lt_of_le_of_lt (Nat.sub_le _ _) (tb b 1).isLt)).2.2.2.2.2.1 h = Km m c b h := fun h => funext fun s => funext fun d => hp.kh h s d
  have hV : ∀ h, Kf (outsAt0 m c ((tb b 1).val - 1) (Nat.lt_of_le_of_lt (Nat.sub_le _ _) (tb b 1).isLt)).2.2.2.2.2.2.1 h = Vm m c b h := fun h => funext fun s => funext fun d => hp.vh h s d
  exact
  { kh := fun h s d => by
      refine (congrArg (fun o : Outs => (o.2.2.2.2.2.1 (ix3 h s d) : EReal)) e).trans ?_
      dsimp only
      refine ((keep_kh_B _ _ _ _ _ _ _ _ _ _ _ _ _ _ _ _ _ _ _ _ _ _ _ _ _ _ _ _ _ _ _ _ _ _ _ _ _ _ _ _ _ _ _ _ _ _ _ _ _ _ _ h s d).trans ?_)
      exact hp.kh h s d
    vh := fun h s d => by
      refine (congrArg (fun o : Outs => (o.2.2.2.2.2.2.1 (ix3 h s d) : EReal)) e).trans ?_
      dsimp only
      refine ((keep_vh_B _ _ _ _ _ _ _ _ _ _ _ _ _ _ _ _ _ _ _ _ _ _ _ _ _ _ _ _ _ _ _ _ _ _ _ _ _ _ _ _ _ _ _ _ _ _ _ _ _ _ _ h s d).trans ?_)
      exact hp.vh h s d
    dk := fun h k l d => by
      refine (congrArg (fun o : Outs => (o.2.2.2.2.2.2.2.1 (ix3 h (row k l) d) : EReal)) e).trans ?_
      dsimp only
      refine ((dk_B _ _ _ _ _ _ _ _ _ _ _ _ _ _ _ _ _ _ _ _ _ _ _ _ _ _ _ _ _ _ _ _ _ _ _ _ _ _ _ _ _ _ _ _ _ _ _ _ _ _ _ h k l d).trans ?_)
      refine Eq.trans ?_ (acc_1 (fun j => ∑ r, G m c b h (row j r) (row k l) * (Qm m c b h (row j r) d * Ideal.ofBits FTy.f32 1040187392#32))).symm
      exact ((congrArg₂ (· + ·) (hp.dk h k l d) (Finset.sum_congr rfl fun r _ => congrArg₂ (· * ·) (s_pt m c b 1 h _ _ (hK h) (hV h) r (row k l)) (congrFun (congrFun (q_pt m c b 1 h) r) d))))
    dv := fun h k l d => by
      refine (congrArg (fun o : Outs => (o.2.2.2.2.2.2.2.2 (ix3 h (row k l) d) : EReal)) e).trans ?_
      dsimp only
      refine ((dv_B _ _ _ _ _ _ _ _ _ _ _ _ _ _ _ _ _ _ _ _ _ _ _ _ _ _ _ _ _ _ _ _ _ _ _ _ _ _ _ _ _ _ _ _ _ _ _ _ _ _ _ h k l d).trans ?_)
      refine Eq.trans ?_ (acc_1 (fun j => ∑ r, W m c b h (row j r) (row k l) * Dm m c b h (row j r) d)).symm
      exact ((congrArg₂ (· + ·) (hp.dv h k l d) (Finset.sum_congr rfl fun r _ => congrArg₂ (· * ·) (w_pt m c b 1 h _ (hK h) r (row k l)) (congrFun (congrFun (d_pt m c b 1 h) r) d))))
    dck := fun h k l => by
      refine (congrArg (fun o : Outs => (o.2.2.2.1 (ix5 0 h k 0 l) : EReal)) e).trans ?_
      dsimp only
      refine ((dck_B _ _ _ _ _ _ _ _ _ _ _ _ _ _ _ _ _ _ _ _ _ _ _ _ _ _ _ _ _ _ _ _ _ _ _ _ _ _ _ _ _ _ _ _ _ _ _ _ _ _ _ h k l).trans ?_)
      refine Eq.trans ?_ (acc_1 (fun j => 0 - ∑ r, G m c b h (row j r) (row k l))).symm
      exact ((congrArg₂ (· + ·) (hp.dck h k l) (congrArg (0 - ·) (Finset.sum_congr rfl fun r _ => (s_pt m c b 1 h _ _ (hK h) (hV h) r (row k l))))))
    dq := fun h r d => by
      refine (congrArg (fun o : Outs => (o.1 (ix2 r (col h d)) : EReal)) e).trans ?_
      dsimp only
      refine ((dq_B _ _ _ _ _ _ _ _ _ _ _ _ _ _ _ _ _ _ _ _ _ _ _ _ _ _ _ _ _ _ _ _ _ _ _ _ _ _ _ _ _ _ _ _ _ _ _ _ _ _ _ h r d).trans ?_)
      exact (congrArg (· * Ideal.ofBits FTy.f32 1040187392#32) (Finset.sum_congr rfl fun s _ => congrArg₂ (· * ·) (s_pt m c b 1 h _ _ (hK h) (hV h) r s) (congrFun (congrFun (hK h) s) d)))
    dcq := fun h r => by
      refine (congrArg (fun o : Outs => (o.2.2.2.2.1 (ix4 0 h r 0) : EReal)) e).trans ?_
      dsimp only
      refine ((dcq_B _ _ _ _ _ _ _ _ _ _ _ _ _ _ _ _ _ _ _ _ _ _ _ _ _ _ _ _ _ _ _ _ _ _ _ _ _ _ _ _ _ _ _ _ _ _ _ _ _ _ _ h r).trans ?_)
      exact (Finset.sum_congr rfl fun s _ => (s_pt m c b 1 h _ _ (hK h) (hV h) r s)) }

theorem at_2 (b : Fin 4) (hp : At m c b 1 (outsAt0 m c ((tb b 2).val - 1) (Nat.lt_of_le_of_lt (Nat.sub_le _ _) (tb b 2).isLt))) :
    At m c b 2 (outsAt0 m c (tb b 2).val (tb b 2).isLt) := by
  have e := outsAt0_B m c (tb b 2) (by show ¬ (4 * b.val + 2) % 4 = 0; omega) (by show ¬ (4 * b.val + 2) % 4 = 3; omega)
  have hK : ∀ h, Kf (outsAt0 m c ((tb b 2).val - 1) (Nat.lt_of_le_of_lt (Nat.sub_le _ _) (tb b 2).isLt)).2.2.2.2.2.1 h = Km m c b h := fun h => funext fun s => funext fun d => hp.kh h s d
  have hV : ∀ h, Kf (outsAt0 m c ((tb b 2).val - 1) (Nat.lt_of_le_of_lt (Nat.sub_le _ _) (tb b 2).isLt)).2.2.2.2.2.2.1 h = Vm m c b h := fun h => funext fun s => funext fun d => hp.vh h s d
  exact
  { kh := fun h s d => by
      refine (congrArg (fun o : Outs => (o.2.2.2.2.2.1 (ix3 h s d) : EReal)) e).trans ?_
      dsimp only
      refine ((keep_kh_B _ _ _ _ _ _ _ _ _ _ _ _ _ _ _ _ _ _ _ _ _ _ _ _ _ _ _ _ _ _ _ _ _ _ _ _ _ _ _ _ _ _ _ _ _ _ _ _ _ _ _ h s d).trans ?_)
      exact hp.kh h s d
    vh := fun h s d => by
      refine (congrArg (fun o : Outs => (o.2.2.2.2.2.2.1 (ix3 h s d) : EReal)) e).trans ?_
      dsimp only
      refine ((keep_vh_B _ _ _ _ _ _ _ _ _ _ _ _ _ _ _ _ _ _ _ _ _ _ _ _ _ _ _ _ _ _ _ _ _ _ _ _ _ _ _ _ _ _ _ _ _ _ _ _ _ _ _ h s d).trans ?_)
      exact hp.vh h s d
    dk := fun h k l d => by
      refine (congrArg (fun o : Outs => (o.2.2.2.2.2.2.2.1 (ix3 h (row k l) d) : EReal)) e).trans ?_
      dsimp only
      refine ((dk_B _ _ _ _ _ _ _ _ _ _ _ _ _ _ _ _ _ _ _ _ _ _ _ _ _ _ _ _ _ _ _ _ _ _ _ _ _ _ _ _ _ _ _ _ _ _ _ _ _ _ _ h k l d).trans ?_)
      refine Eq.trans ?_ (acc_2 (fun j => ∑ r, G m c b h (row j r) (row k l) * (Qm m c b h (row j r) d * Ideal.ofBits FTy.f32 1040187392#32))).symm
      exact ((congrArg₂ (· + ·) (hp.dk h k l d) (Finset.sum_congr rfl fun r _ => congrArg₂ (· * ·) (s_pt m c b 2 h _ _ (hK h) (hV h) r (row k l)) (congrFun (congrFun (q_pt m c b 2 h) r) d))))
    dv := fun h k l d => by
      refine (congrArg (fun o : Outs => (o.2.2.2.2.2.2.2.2 (ix3 h (row k l) d) : EReal)) e).trans ?_
      dsimp only
      refine ((dv_B _ _ _ _ _ _ _ _ _ _ _ _ _ _ _ _ _ _ _ _ _ _ _ _ _ _ _ _ _ _ _ _ _ _ _ _ _ _ _ _ _ _ _ _ _ _ _ _ _ _ _ h k l d).trans ?_)
      refine Eq.trans ?_ (acc_2 (fun j => ∑ r, W m c b h (row j r) (row k l) * Dm m c b h (row j r) d)).symm
      exact ((congrArg₂ (· + ·) (hp.dv h k l d) (Finset.sum_congr rfl fun r _ => congrArg₂ (· * ·) (w_pt m c b 2 h _ (hK h) r (row k l)) (congrFun (congrFun (d_pt m c b 2 h) r) d))))
    dck := fun h k l => by
      refine (congrArg (fun o : Outs => (o.2.2.2.1 (ix5 0 h k 0 l) : EReal)) e).trans ?_
      dsimp only
      refine ((dck_B _ _ _ _ _ _ _ _ _ _ _ _ _ _ _ _ _ _ _ _ _ _ _ _ _ _ _ _ _ _ _ _ _ _ _ _ _ _ _ _ _ _ _ _ _ _ _ _ _ _ _ h k l).trans ?_)
      refine Eq.trans ?_ (acc_2 (fun j => 0 - ∑ r, G m c b h (row j r) (row k l))).symm
      exact ((congrArg₂ (· + ·) (hp.dck h k l) (congrArg (0 - ·) (Finset.sum_congr rfl fun r _ => (s_pt m c b 2 h _ _ (hK h) (hV h) r (row k l))))))
    dq := fun h r d => by
      refine (congrArg (fun o : Outs => (o.1 (ix2 r (col h d)) : EReal)) e).trans ?_
      dsimp only
      refine ((dq_B _ _ _ _ _ _ _ _ _ _ _ _ _ _ _ _ _ _ _ _ _ _ _ _ _ _ _ _ _ _ _ _ _ _ _ _ _ _ _ _ _ _ _ _ _ _ _ _ _ _ _ h r d).trans ?_)
      exact (congrArg (· * Ideal.ofBits FTy.f32 1040187392#32) (Finset.sum_congr rfl fun s _ => congrArg₂ (· * ·) (s_pt m c b 2 h _ _ (hK h) (hV h) r s) (congrFun (congrFun (hK h) s) d)))
    dcq := fun h r => by
      refine (congrArg (fun o : Outs => (o.2.2.2.2.1 (ix4 0 h r 0) : EReal)) e).trans ?_
      dsimp only
      refine ((dcq_B _ _ _ _ _ _ _ _ _ _ _ _ _ _ _ _ _ _ _ _ _ _ _ _ _ _ _ _ _ _ _ _ _ _ _ _ _ _ _ _ _ _ _ _ _ _ _ _ _ _ _ h r).trans ?_)
      exact (Finset.sum_congr rfl fun s _ => (s_pt m c b 2 h _ _ (hK h) (hV h) r s)) }

end Cert.FoxV
-- ==== Proof.Fox.StateC.lean ====
module
public import proofs.«01_k».proof.Proof.Fox.Trips
/-! # What the last grid point of a batch row leaves in the carried buffers

Each buffer holds what it held plus this step's part. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : ¬cond0_0 i) (hc1 : cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16) (xo11 : Vec Ideal S1x4x4x1x512 .f32)
  (xs0 : Vec Ideal S4x2048x64 .bf16) (xs1 : Vec Ideal S4x2048x64 .bf16) (xs2 : Vec Ideal S4x2048x64 .f32)
  (xs3 : Vec Ideal S4x2048x64 .f32)

/-- What the keys' scratch holds after the point. -/
theorem dk_C (h k : Fin 4) (l : Fin 512) (d : Fin 64) :
    (sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h (row k l) d) : EReal) = xs2 (ix3 h (row k l) d) + ∑ r, gs (jj i) (Qf x0 h) (Df x7 h) (Cf x3 h) (Cf x6 h) (Ef x5 x7 h) ((Kf xs0) h) ((Kf xs1) h) (Gf x4 h) r (row k l) * Qf x0 h r d := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  unfold sout0_C_2 kernelRun0_C
  dsimp only
  refine (diag_dk i _ _ _ _ _ _ _ _ _ _ _ _ _ _ _ _ _ _ _ _ arg6.view arg15.view arg16.view (harg6.unread x4) (harg15.unread xs0) (harg16.unread xs1) (Kf xs0) (Kf xs1) (Gf x4) hK hV hC arg17.view (harg17.unread xs2) _ rfl rfl rfl rfl h k l d).trans ?_
  rw [trips2 i, trips1 i]
  refine (congrArg (fun t : EReal => t + _) ((loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) _ _ _ _ _ _ _ _ _ _ _ _ _ _ _ _ _ _ _ _ k0_pay127 k0_pay128 k0_pay129 k0_pay130 (harg6.unread x4) (harg15.unread xs0) (harg16.unread xs1) (Kf xs0) (Kf xs1) (Gf x4) hK hV hC (k0_pay127, k0_pay128, k0_pay129, k0_pay130, k0_pay131, k0_pay132, k0_pay133, k0_pay134) (harg13.unread xo11) (harg17.unread xs2) (harg18.unread xs3) (jj i).val (le_of_eq (trips_eq i).symm)).dk h k l d)).trans ?_
  rw [show arg17.view.read (Elt Ideal) (harg17.unread xs2) = xs2 from harg17.read_unread xs2]
  exact comb_dk (jj i) _ _ _ _ _ ((Kf xs0) h) ((Kf xs1) h) (Gf x4 h) (Qf x0 h) (Df x7 h) (Cf x3 h) (Cf x6 h) (Ef x5 x7 h) (wq_C c arg2 harg2 x0 h) (wdy_C c arg9 harg9 x7 h) (wcq_C c arg5 harg5 x3 h) (wls_C c arg8 harg8 x6 h) (wdl_C c arg7 harg7 arg9 harg9 x5 x7 h) _ k l d

/-- What the values' scratch holds after the point. -/
theorem dv_C (h k : Fin 4) (l : Fin 512) (d : Fin 64) :
    (sout0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h (row k l) d) : EReal) = xs3 (ix3 h (row k l) d) + ∑ r, gw (jj i) (Qf x0 h) (Cf x3 h) (Cf x6 h) ((Kf xs0) h) (Gf x4 h) r (row k l) * Df x7 h r d := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  unfold sout0_C_3 kernelRun0_C
  dsimp only
  refine (diag_dv i _ _ _ _ _ _ _ _ _ _ _ _ _ _ _ _ arg6.view arg15.view (harg6.unread x4) (harg15.unread xs0) (Kf xs0) (Gf x4) hK hC arg18.view (harg18.unread xs3) _ rfl rfl rfl rfl h k l d).trans ?_
  rw [trips2 i, trips1 i]
  refine (congrArg (fun t : EReal => t + _) ((loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) _ _ _ _ _ _ _ _ _ _ _ _ _ _ _ _ _ _ _ _ k0_pay127 k0_pay128 k0_pay129 k0_pay130 (harg6.unread x4) (harg15.unread xs0) (harg16.unread xs1) (Kf xs0) (Kf xs1) (Gf x4) hK hV hC (k0_pay127, k0_pay128, k0_pay129, k0_pay130, k0_pay131, k0_pay132, k0_pay133, k0_pay134) (harg13.unread xo11) (harg17.unread xs2) (harg18.unread xs3) (jj i).val (le_of_eq (trips_eq i).symm)).dv h k l d)).trans ?_
  rw [show arg18.view.read (Elt Ideal) (harg18.unread xs3) = xs3 from harg18.read_unread xs3]
  exact comb_dv (jj i) _ _ _ _ ((Kf xs0) h) (Gf x4 h) (Qf x0 h) (Df x7 h) (Cf x3 h) (Cf x6 h) (wq_C c arg2 harg2 x0 h) (wcq_C c arg5 harg5 x3 h) (wls_C c arg8 harg8 x6 h) (wdy_C c arg9 harg9 x7 h) _ k l d

/-- What the block of `dck` holds after the point. -/
theorem dck_C (h k : Fin 4) (l : Fin 512) :
    (out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix5 0 h k 0 l) : EReal) = xo11 (ix5 0 h k 0 l) + (0 - ∑ r, gs (jj i) (Qf x0 h) (Df x7 h) (Cf x3 h) (Cf x6 h) (Ef x5 x7 h) ((Kf xs0) h) ((Kf xs1) h) (Gf x4 h) r (row k l)) := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  unfold out0_C_11 kernelRun0_C
  dsimp only
  refine (diag_dck i _ _ _ _ _ _ _ _ _ _ _ _ _ _ _ _ _ _ _ _ arg6.view arg15.view arg16.view (harg6.unread x4) (harg15.unread xs0) (harg16.unread xs1) (Kf xs0) (Kf xs1) (Gf x4) hK hV hC arg13.view (harg13.unread xo11) _ rfl rfl rfl rfl h k l).trans ?_
  rw [trips2 i, trips1 i]
  refine (congrArg (fun t : EReal => t + _) ((loopAt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) _ _ _ _ _ _ _ _ _ _ _ _ _ _ _ _ _ _ _ _ k0_pay127 k0_pay128 k0_pay129 k0_pay130 (harg6.unread x4) (harg15.unread xs0) (harg16.unread xs1) (Kf xs0) (Kf xs1) (Gf x4) hK hV hC (k0_pay127, k0_pay128, k0_pay129, k0_pay130, k0_pay131, k0_pay132, k0_pay133, k0_pay134) (harg13.unread xo11) (harg17.unread xs2) (harg18.unread xs3) (jj i).val (le_of_eq (trips_eq i).symm)).dck h k l)).trans ?_
  rw [show arg13.view.read (Elt Ideal) (harg13.unread xo11) = xo11 from harg13.read_unread xo11]
  exact comb_dck (jj i) _ _ _ _ _ ((Kf xs0) h) ((Kf xs1) h) (Gf x4 h) (Qf x0 h) (Df x7 h) (Cf x3 h) (Cf x6 h) (Ef x5 x7 h) (wq_C c arg2 harg2 x0 h) (wdy_C c arg9 harg9 x7 h) (wcq_C c arg5 harg5 x3 h) (wls_C c arg8 harg8 x6 h) (wdl_C c arg7 harg7 arg9 harg9 x5 x7 h) _ k l

end Cert.FoxV
-- ==== Proof.Fox.HeadsC.lean ====
module
public import proofs.«01_k».proof.Proof.Fox.HeadsB
/-! # What the last grid point of a batch row writes of `dq` and `dcq`

A sum over all keys, of which those after the query give zero. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : ¬cond0_0 i) (hc1 : cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16) (xo11 : Vec Ideal S1x4x4x1x512 .f32)
  (xs0 : Vec Ideal S4x2048x64 .bf16) (xs1 : Vec Ideal S4x2048x64 .bf16) (xs2 : Vec Ideal S4x2048x64 .f32)
  (xs3 : Vec Ideal S4x2048x64 .f32)

include x0 x1 x2 x3 x4 x5 x6 x7 xo11 xs0 xs1 xs2 xs3

/-- Each head's gradient of the queries, before the scale. -/
theorem hdq_C (h : Fin 4) (r : Fin 512) (d : Fin 64) :
    ((![kernelRun0_C.sl.r_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.r_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.r_45 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.r_51 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3] h) (ix2 r d) : EReal) = ∑ s, gs (jj i) (Qf x0 h) (Df x7 h) (Cf x3 h) (Cf x6 h) (Ef x5 x7 h) ((Kf xs0) h) ((Kf xs1) h) (Gf x4 h) r s * (Kf xs0) h s d := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  have k := keys_dq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (kernelRun0_C.sl.r_2 (F := Ideal) c arg2 harg2 x0) (kernelRun0_C.sl.r_3 (F := Ideal) c arg2 harg2 x0) (kernelRun0_C.sl.r_5 (F := Ideal) c arg2 harg2 x0) (kernelRun0_C.sl.r_6 (F := Ideal) c arg2 harg2 x0)
    (kernelRun0_C.sl.r_7 (F := Ideal) c arg9 harg9 x7) (kernelRun0_C.sl.r_8 (F := Ideal) c arg9 harg9 x7) (kernelRun0_C.sl.r_9 (F := Ideal) c arg9 harg9 x7) (kernelRun0_C.sl.r_10 (F := Ideal) c arg9 harg9 x7)
    (kernelRun0_C.sl.r_11 (F := Ideal) c arg5 harg5 x3) (kernelRun0_C.sl.r_12 (F := Ideal) c arg5 harg5 x3) (kernelRun0_C.sl.r_13 (F := Ideal) c arg5 harg5 x3) (kernelRun0_C.sl.r_14 (F := Ideal) c arg5 harg5 x3)
    (kernelRun0_C.sl.r_15 (F := Ideal) c arg8 harg8 x6) (kernelRun0_C.sl.r_16 (F := Ideal) c arg8 harg8 x6) (kernelRun0_C.sl.r_17 (F := Ideal) c arg8 harg8 x6) (kernelRun0_C.sl.r_18 (F := Ideal) c arg8 harg8 x6)
    (kernelRun0_C.sl.r_19 (F := Ideal) c arg7 harg7 arg9 harg9 x5 x7) (kernelRun0_C.sl.r_20 (F := Ideal) c arg7 harg7 arg9 harg9 x5 x7) (kernelRun0_C.sl.r_21 (F := Ideal) c arg7 harg7 arg9 harg9 x5 x7) (kernelRun0_C.sl.r_22 (F := Ideal) c arg7 harg7 arg9 harg9 x5 x7)
    (harg6.unread x4) (harg15.unread xs0)
    (harg16.unread xs1) (harg13.unread xo11)
    (harg17.unread xs2) (harg18.unread xs3)
    (Kf xs0) (Kf xs1) (Gf x4) hK hV hC (Qf x0) (Df x7) (Cf x3) (Cf x6) (Ef x5 x7)
    (wq_C c arg2 harg2 x0) (wdy_C c arg9 harg9 x7) (wcq_C c arg5 harg5 x3) (wls_C c arg8 harg8 x6) (wdl_C c arg7 harg7 arg9 harg9 x5 x7)
    _ _ _ _ (fun h => match h with
      | 0 => by
        show kernelRun0_C.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_C.sl.r_23
        rw [trips2 i, trips1 i]
        rfl
      | 1 => by
        show kernelRun0_C.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_C.sl.r_25
        rw [trips2 i, trips1 i]
        rfl
      | 2 => by
        show kernelRun0_C.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_C.sl.r_27
        rw [trips2 i, trips1 i]
        rfl
      | 3 => by
        show kernelRun0_C.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_C.sl.r_29
        rw [trips2 i, trips1 i]
        rfl) r d
  match h with
  | 0 => exact k.1
  | 1 => exact k.2.1
  | 2 => exact k.2.2.1
  | 3 => exact k.2.2.2

/-- Each head's gradient of `c` as the query's. -/
theorem hdcq_C (h : Fin 4) (r : Fin 512) :
    ((![kernelRun0_C.sl.r_37 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.r_41 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.r_47 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.r_52 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3] h) (ix2 r 0) : EReal) = ∑ s, gs (jj i) (Qf x0 h) (Df x7 h) (Cf x3 h) (Cf x6 h) (Ef x5 x7 h) ((Kf xs0) h) ((Kf xs1) h) (Gf x4 h) r s := by
  have hK : ∀ h s d, arg15.view.read (Elt Ideal) (harg15.unread xs0) (ix3 h s d) = (Kf xs0) h s d := fun h s d =>
    congrFun (harg15.read_unread xs0) (ix3 h s d)
  have hV : ∀ h s d, arg16.view.read (Elt Ideal) (harg16.unread xs1) (ix3 h s d) = (Kf xs1) h s d := fun h s d =>
    congrFun (harg16.read_unread xs1) (ix3 h s d)
  have hC : ∀ h k l, arg6.view.read (Elt Ideal) (harg6.unread x4) (ix5 0 h k 0 l) = Gf x4 h (row k l) := fun h k l =>
    (congrFun (harg6.read_unread x4) (ix5 0 h k 0 l)).trans (Gf_row x4 h k l)
  have k := keys_dcq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (kernelRun0_C.sl.r_2 (F := Ideal) c arg2 harg2 x0) (kernelRun0_C.sl.r_3 (F := Ideal) c arg2 harg2 x0) (kernelRun0_C.sl.r_5 (F := Ideal) c arg2 harg2 x0) (kernelRun0_C.sl.r_6 (F := Ideal) c arg2 harg2 x0)
    (kernelRun0_C.sl.r_7 (F := Ideal) c arg9 harg9 x7) (kernelRun0_C.sl.r_8 (F := Ideal) c arg9 harg9 x7) (kernelRun0_C.sl.r_9 (F := Ideal) c arg9 harg9 x7) (kernelRun0_C.sl.r_10 (F := Ideal) c arg9 harg9 x7)
    (kernelRun0_C.sl.r_11 (F := Ideal) c arg5 harg5 x3) (kernelRun0_C.sl.r_12 (F := Ideal) c arg5 harg5 x3) (kernelRun0_C.sl.r_13 (F := Ideal) c arg5 harg5 x3) (kernelRun0_C.sl.r_14 (F := Ideal) c arg5 harg5 x3)
    (kernelRun0_C.sl.r_15 (F := Ideal) c arg8 harg8 x6) (kernelRun0_C.sl.r_16 (F := Ideal) c arg8 harg8 x6) (kernelRun0_C.sl.r_17 (F := Ideal) c arg8 harg8 x6) (kernelRun0_C.sl.r_18 (F := Ideal) c arg8 harg8 x6)
    (kernelRun0_C.sl.r_19 (F := Ideal) c arg7 harg7 arg9 harg9 x5 x7) (kernelRun0_C.sl.r_20 (F := Ideal) c arg7 harg7 arg9 harg9 x5 x7) (kernelRun0_C.sl.r_21 (F := Ideal) c arg7 harg7 arg9 harg9 x5 x7) (kernelRun0_C.sl.r_22 (F := Ideal) c arg7 harg7 arg9 harg9 x5 x7)
    (harg6.unread x4) (harg15.unread xs0)
    (harg16.unread xs1) (harg13.unread xo11)
    (harg17.unread xs2) (harg18.unread xs3)
    (Kf xs0) (Kf xs1) (Gf x4) hK hV hC (Qf x0) (Df x7) (Cf x3) (Cf x6) (Ef x5 x7)
    (wq_C c arg2 harg2 x0) (wdy_C c arg9 harg9 x7) (wcq_C c arg5 harg5 x3) (wls_C c arg8 harg8 x6) (wdl_C c arg7 harg7 arg9 harg9 x5 x7)
    _ _ _ _ (fun h => match h with
      | 0 => by
        show kernelRun0_C.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_C.sl.r_24
        rw [trips2 i, trips1 i]
        rfl
      | 1 => by
        show kernelRun0_C.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_C.sl.r_26
        rw [trips2 i, trips1 i]
        rfl
      | 2 => by
        show kernelRun0_C.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_C.sl.r_28
        rw [trips2 i, trips1 i]
        rfl
      | 3 => by
        show kernelRun0_C.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3 = _
        unfold kernelRun0_C.sl.r_30
        rw [trips2 i, trips1 i]
        rfl) r
  match h with
  | 0 => exact k.1
  | 1 => exact k.2.1
  | 2 => exact k.2.2.1
  | 3 => exact k.2.2.2

include hc0 hc1 in
/-- The block of `dq`. -/
theorem dq_C (h : Fin 4) (r : Fin 512) (d : Fin 64) :
    (out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix2 r (col h d)) : EReal)
      = (∑ s, gs (jj i) (Qf x0 h) (Df x7 h) (Cf x3 h) (Cf x6 h) (Ef x5 x7 h) ((Kf xs0) h) ((Kf xs1) h) (Gf x4 h) r s * (Kf xs0) h s d) * Ideal.ofBits FTy.f32 1040187392#32 := by
  unfold out0_C_8 kernelRun0_C
  dsimp only
  refine (View.read_writes_cons_unit_of_mem VO0_8 VO0_8.junk _ _ _ _ (ix2 r (col h d)) rfl
    (fun a => match a with
      | 0 => (Nat.zero_add _).symm
      | 1 => (Nat.zero_add _).symm)).trans ?_
  refine (dq_at ![kernelRun0_C.sl.r_35 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.r_40 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.r_45 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.r_51 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3] h r d).trans ?_
  rw [hdq_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xo11 xs0 xs1 xs2 xs3 h r d]

include hc0 hc1 in
/-- The block of `dcq`. -/
theorem dcq_C (h : Fin 4) (r : Fin 512) :
    (out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix4 0 h r 0) : EReal) = ∑ s, gs (jj i) (Qf x0 h) (Df x7 h) (Cf x3 h) (Cf x6 h) (Ef x5 x7 h) ((Kf xs0) h) ((Kf xs1) h) (Gf x4 h) r s := by
  rw [← hdcq_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xo11 xs0 xs1 xs2 xs3 h r]
  unfold out0_C_12 kernelRun0_C
  dsimp only
  match h with
  | 0 =>
    refine (cols4 _ _ _ _ _ _ _ _ _ 0 r).trans ?_
    unfold_payloads
    pointwise
  | 1 =>
    refine (cols4 _ _ _ _ _ _ _ _ _ 1 r).trans ?_
    unfold_payloads
    pointwise
  | 2 =>
    refine (cols4 _ _ _ _ _ _ _ _ _ 2 r).trans ?_
    unfold_payloads
    pointwise
  | 3 =>
    refine (cols4 _ _ _ _ _ _ _ _ _ 3 r).trans ?_
    unfold_payloads
    pointwise

end Cert.FoxV
-- ==== Proof.Fox.PointC.lean ====
module
public import proofs.«01_k».proof.Proof.Fox.PointA
public import proofs.«01_k».proof.Proof.Fox.StateC
public import proofs.«01_k».proof.Proof.Fox.HeadsC
/-! # What a point leaves: the last of a batch row

 -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (m : (ℓ : Loc nD τ sig) → Buf (Elt Ideal) ℓ) (c : Dev nD)

theorem at_3 (b : Fin 4) (hp : At m c b 2 (outsAt0 m c ((tb b 3).val - 1) (Nat.lt_of_le_of_lt (Nat.sub_le _ _) (tb b 3).isLt))) :
    At m c b 3 (outsAt0 m c (tb b 3).val (tb b 3).isLt) := by
  have e := outsAt0_C m c (tb b 3) (by show ¬ (4 * b.val + 3) % 4 = 0; omega) (by show (4 * b.val + 3) % 4 = 3; omega)
  have hK : ∀ h, Kf (outsAt0 m c ((tb b 3).val - 1) (Nat.lt_of_le_of_lt (Nat.sub_le _ _) (tb b 3).isLt)).2.2.2.2.2.1 h = Km m c b h := fun h => funext fun s => funext fun d => hp.kh h s d
  have hV : ∀ h, Kf (outsAt0 m c ((tb b 3).val - 1) (Nat.lt_of_le_of_lt (Nat.sub_le _ _) (tb b 3).isLt)).2.2.2.2.2.2.1 h = Vm m c b h := fun h => funext fun s => funext fun d => hp.vh h s d
  exact
  { kh := fun h s d => by
      refine (congrArg (fun o : Outs => (o.2.2.2.2.2.1 (ix3 h s d) : EReal)) e).trans ?_
      dsimp only
      refine ((keep_kh_C _ _ _ _ _ _ _ _ _ _ _ _ _ _ _ _ _ _ _ _ _ _ _ _ _ _ _ _ _ _ _ _ _ _ _ _ _ _ _ _ _ _ _ _ _ _ _ _ _ _ _ h s d).trans ?_)
      exact hp.kh h s d
    vh := fun h s d => by
      refine (congrArg (fun o : Outs => (o.2.2.2.2.2.2.1 (ix3 h s d) : EReal)) e).trans ?_
      dsimp only
      refine ((keep_vh_C _ _ _ _ _ _ _ _ _ _ _ _ _ _ _ _ _ _ _ _ _ _ _ _ _ _ _ _ _ _ _ _ _ _ _ _ _ _ _ _ _ _ _ _ _ _ _ _ _ _ _ h s d).trans ?_)
      exact hp.vh h s d
    dk := fun h k l d => by
      refine (congrArg (fun o : Outs => (o.2.2.2.2.2.2.2.1 (ix3 h (row k l) d) : EReal)) e).trans ?_
      dsimp only
      refine ((dk_C _ _ _ _ _ _ _ _ _ _ _ _ _ _ _ _ _ _ _ _ _ _ _ _ _ _ _ _ _ _ _ _ _ _ _ _ _ _ _ _ _ _ _ _ _ _ _ _ _ _ _ h k l d).trans ?_)
      refine Eq.trans ?_ (acc_3 (fun j => ∑ r, G m c b h (row j r) (row k l) * (Qm m c b h (row j r) d * Ideal.ofBits FTy.f32 1040187392#32))).symm
      exact ((congrArg₂ (· + ·) (hp.dk h k l d) (Finset.sum_congr rfl fun r _ => congrArg₂ (· * ·) (s_pt m c b 3 h _ _ (hK h) (hV h) r (row k l)) (congrFun (congrFun (q_pt m c b 3 h) r) d))))
    dv := fun h k l d => by
      refine (congrArg (fun o : Outs => (o.2.2.2.2.2.2.2.2 (ix3 h (row k l) d) : EReal)) e).trans ?_
      dsimp only
      refine ((dv_C _ _ _ _ _ _ _ _ _ _ _ _ _ _ _ _ _ _ _ _ _ _ _ _ _ _ _ _ _ _ _ _ _ _ _ _ _ _ _ _ _ _ _ _ _ _ _ _ _ _ _ h k l d).trans ?_)
      refine Eq.trans ?_ (acc_3 (fun j => ∑ r, W m c b h (row j r) (row k l) * Dm m c b h (row j r) d)).symm
      exact ((congrArg₂ (· + ·) (hp.dv h k l d) (Finset.sum_congr rfl fun r _ => congrArg₂ (· * ·) (w_pt m c b 3 h _ (hK h) r (row k l)) (congrFun (congrFun (d_pt m c b 3 h) r) d))))
    dck := fun h k l => by
      refine (congrArg (fun o : Outs => (o.2.2.2.1 (ix5 0 h k 0 l) : EReal)) e).trans ?_
      dsimp only
      refine ((dck_C _ _ _ _ _ _ _ _ _ _ _ _ _ _ _ _ _ _ _ _ _ _ _ _ _ _ _ _ _ _ _ _ _ _ _ _ _ _ _ _ _ _ _ _ _ _ _ _ _ _ _ h k l).trans ?_)
      refine Eq.trans ?_ (acc_3 (fun j => 0 - ∑ r, G m c b h (row j r) (row k l))).symm
      exact ((congrArg₂ (· + ·) (hp.dck h k l) (congrArg (0 - ·) (Finset.sum_congr rfl fun r _ => (s_pt m c b 3 h _ _ (hK h) (hV h) r (row k l))))))
    dq := fun h r d => by
      refine (congrArg (fun o : Outs => (o.1 (ix2 r (col h d)) : EReal)) e).trans ?_
      dsimp only
      refine ((dq_C _ _ _ _ _ _ _ _ _ _ _ _ _ _ _ _ _ _ _ _ _ _ _ _ _ _ _ _ _ _ _ _ _ _ _ _ _ _ _ _ _ _ _ _ _ _ _ _ _ _ _ h r d).trans ?_)
      exact (congrArg (· * Ideal.ofBits FTy.f32 1040187392#32) (Finset.sum_congr rfl fun s _ => congrArg₂ (· * ·) (s_pt m c b 3 h _ _ (hK h) (hV h) r s) (congrFun (congrFun (hK h) s) d)))
    dcq := fun h r => by
      refine (congrArg (fun o : Outs => (o.2.2.2.2.1 (ix4 0 h r 0) : EReal)) e).trans ?_
      dsimp only
      refine ((dcq_C _ _ _ _ _ _ _ _ _ _ _ _ _ _ _ _ _ _ _ _ _ _ _ _ _ _ _ _ _ _ _ _ _ _ _ _ _ _ _ _ _ _ _ _ _ _ _ _ _ _ _ h r).trans ?_)
      exact (Finset.sum_congr rfl fun s _ => (s_pt m c b 3 h _ _ (hK h) (hV h) r s)) }

end Cert.FoxV
-- ==== Proof.Fox.LastC.lean ====
module
public import proofs.«01_k».proof.Proof.Fox.Trips
/-! # What the last grid point of a batch row writes of `dk` and `dv`

The carried sums. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

theorem ldh (v : View sig .tc .vmem S4x2048x64 .f32) (X : v.ty.Contents (Elt Ideal)) (h : Fin 4) (off : Fin 3 → ℕ)
    (e : off = ![h.val, 0, 0])
    (inb : ∀ a, off a + (![1, 2048, 64] : Fin 3 → ℕ) a ≤ S4x2048x64.size a) (s : Fin 2048) (d : Fin 64) :
    View.readAt (Elt Ideal) v (Rect.unit (s := S4x2048x64) off ![1, 2048, 64] inb).toLoadRect X (ix3 0 s d)
      = v.read (Elt Ideal) X (ix3 h s d) := by
  subst e
  rw [View.readAt_eq_ld, View.ld_apply]
  congr 1
  funext a
  apply Fin.ext
  match a with
  | 0 => rfl
  | 1 => show 0 + 1 * s.val = s.val; omega
  | 2 => show 0 + 1 * d.val = d.val; omega

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S1x4x512x1 .f32) (harg5 : arg5.IsWhole)
  (arg6 : Memref sig .tc .vmem S1x4x4x1x512 .f32) (harg6 : arg6.IsWhole)
  (arg7 : Memref sig .tc .vmem S1x4x512x64 .f32) (harg7 : arg7.IsWhole)
  (arg8 : Memref sig .tc .vmem S1x4x512x1 .f32) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x256 .bf16) (harg12 : arg12.IsWhole)
  (arg13 : Memref sig .tc .vmem S1x4x4x1x512 .f32) (harg13 : arg13.IsWhole)
  (arg14 : Memref sig .tc .vmem S1x4x512x1 .f32) (harg14 : arg14.IsWhole)
  (arg15 : Memref sig .tc .vmem S4x2048x64 .bf16) (harg15 : arg15.IsWhole)
  (arg16 : Memref sig .tc .vmem S4x2048x64 .bf16) (harg16 : arg16.IsWhole)
  (arg17 : Memref sig .tc .vmem S4x2048x64 .f32) (harg17 : arg17.IsWhole)
  (arg18 : Memref sig .tc .vmem S4x2048x64 .f32) (harg18 : arg18.IsWhole)
  (hc0 : ¬cond0_0 i) (hc1 : cond0_1 i)
  (x0 : Vec Ideal S512x256 .bf16) (x1 : Vec Ideal S2048x256 .bf16) (x2 : Vec Ideal S2048x256 .bf16)
  (x3 : Vec Ideal S1x4x512x1 .f32) (x4 : Vec Ideal S1x4x4x1x512 .f32) (x5 : Vec Ideal S1x4x512x64 .f32)
  (x6 : Vec Ideal S1x4x512x1 .f32) (x7 : Vec Ideal S512x256 .bf16) (xo11 : Vec Ideal S1x4x4x1x512 .f32)
  (xs0 : Vec Ideal S4x2048x64 .bf16) (xs1 : Vec Ideal S4x2048x64 .bf16) (xs2 : Vec Ideal S4x2048x64 .f32)
  (xs3 : Vec Ideal S4x2048x64 .f32)

/-- The block of `dk` is the carried sum, head by head. -/
theorem out_dk_C (h : Fin 4) (s : Fin 2048) (d : Fin 64) :
    (out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix2 s (col h d)) : EReal) = sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h s d) := by
  unfold out0_C_9 sout0_C_2 kernelRun0_C
  dsimp only
  refine (View.read_writes_cons_unit_of_mem VO0_9 VO0_9.junk _ _ _ _ (ix2 s (col h d)) rfl
    (fun a => match a with
      | 0 => (Nat.zero_add _).symm
      | 1 => (Nat.zero_add _).symm)).trans ?_
  refine (dk_at ![kernelRun0_C.sl.v404 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.v414 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.v424 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.v434 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3] h s d).trans ?_
  match h with
  | 0 => exact ldh arg17.view _ 0 _ rfl _ s d
  | 1 => exact ldh arg17.view _ 1 _ rfl _ s d
  | 2 => exact ldh arg17.view _ 2 _ rfl _ s d
  | 3 => exact ldh arg17.view _ 3 _ rfl _ s d

/-- The block of `dv` is the carried sum, head by head. -/
theorem out_dv_C (h : Fin 4) (s : Fin 2048) (d : Fin 64) :
    (out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix2 s (col h d)) : EReal) = sout0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xo11 xs0 xs1 xs2 xs3 (ix3 h s d) := by
  unfold out0_C_10 sout0_C_3 kernelRun0_C
  dsimp only
  refine (View.read_writes_cons_unit_of_mem VO0_10 VO0_10.junk _ _ _ _ (ix2 s (col h d)) rfl
    (fun a => match a with
      | 0 => (Nat.zero_add _).symm
      | 1 => (Nat.zero_add _).symm)).trans ?_
  refine (dv_at ![kernelRun0_C.sl.v409 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.v419 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.v429 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3, kernelRun0_C.sl.v439 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 xo11 xs0 xs1 xs2 xs3] h s d).trans ?_
  match h with
  | 0 => exact ldh arg18.view _ 0 _ rfl _ s d
  | 1 => exact ldh arg18.view _ 1 _ rfl _ s d
  | 2 => exact ldh arg18.view _ 2 _ rfl _ s d
  | 3 => exact ldh arg18.view _ 3 _ rfl _ s d

end Cert.FoxV
-- ==== Proof.Fox.Points.lean ====
module
public import proofs.«01_k».proof.Proof.Fox.PointB
public import proofs.«01_k».proof.Proof.Fox.PointC
public import proofs.«01_k».proof.Proof.Fox.LastC
/-! # What every point leaves

 -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (m : (ℓ : Loc nD τ sig) → Buf (Elt Ideal) ℓ) (c : Dev nD)

theorem prev (b j j' : Fin 4) (hj : j.val = j'.val + 1) (o : ∀ n, n < cfg0.N → Outs) (n : ℕ) (hn : n < cfg0.N)
    (e : n = (tb b j).val - 1) (P : Outs → Prop) (h : P (o (tb b j').val (tb b j').isLt)) : P (o n hn) := by
  have : n = (tb b j').val := by
    rw [e]
    show 4 * b.val + j.val - 1 = 4 * b.val + j'.val
    omega
  subst this
  exact h

/-- Every point of a batch row. -/
theorem at_all (b j : Fin 4) : At m c b j (outsAt0 m c (tb b j).val (tb b j).isLt) := by
  have h0 := at_0 m c b
  have h1 := at_1 m c b (prev b 1 0 rfl (outsAt0 m c) _ _ rfl _ h0)
  have h2 := at_2 m c b (prev b 2 1 rfl (outsAt0 m c) _ _ rfl _ h1)
  have h3 := at_3 m c b (prev b 3 2 rfl (outsAt0 m c) _ _ rfl _ h2)
  match j with
  | 0 => exact h0
  | 1 => exact h1
  | 2 => exact h2
  | 3 => exact h3

theorem last_dk (b h : Fin 4) (s : Fin 2048) (d : Fin 64) :
    ((outsAt0 m c (tb b 3).val (tb b 3).isLt).2.1 (ix2 s (col h d)) : EReal) = ∑ t, G m c b h t s * (Qm m c b h t d * Ideal.ofBits FTy.f32 1040187392#32) := by
  have h0 : ¬ (tb b 3).val % 4 = 0 := by show ¬ (4 * b.val + 3) % 4 = 0; omega
  have h1 : (tb b 3).val % 4 = 3 := by show (4 * b.val + 3) % 4 = 3; omega
  have e := outsAt0_C m c (tb b 3) h0 h1
  refine (congrArg (fun o : Outs => (o.2.1 (ix2 s (col h d)) : EReal)) e).trans ?_
  dsimp only
  refine (out_dk_C _ _ _ _ _ _ _ _ _ _ _ _ _ _ _ _ _ _ _ _ _ _ _ _ _ _ _ _ _ _ _ _ _ _ _ _ (fun h => h0 ((hcond0_0 (tb b 3)).mp h)) ((hcond0_1 (tb b 3)).mpr h1) _ (iblk m c 1 (tb b 3)) (iblk m c 2 (tb b 3)) _ _ _ _ _ _ _ _ _ _ h s d).trans ?_
  refine (congrArg (fun o : Outs => (o.2.2.2.2.2.2.2.1 (ix3 h s d) : EReal)) e).symm.trans ?_
  obtain ⟨k, l, rfl⟩ : ∃ k l, s = row k l := ⟨⟨s.val / 512, by omega⟩, ⟨s.val % 512, by omega⟩, Fin.ext (by show s.val = 512 * (s.val / 512) + s.val % 512; omega)⟩
  refine ((at_all m c b 3).dk h k l d).trans ?_
  rw [acc_all]
  exact sum_chunks fun t => G m c b h t (row k l) * (Qm m c b h t d * Ideal.ofBits FTy.f32 1040187392#32)

theorem last_dv (b h : Fin 4) (s : Fin 2048) (d : Fin 64) :
    ((outsAt0 m c (tb b 3).val (tb b 3).isLt).2.2.1 (ix2 s (col h d)) : EReal) = ∑ t, W m c b h t s * Dm m c b h t d := by
  have h0 : ¬ (tb b 3).val % 4 = 0 := by show ¬ (4 * b.val + 3) % 4 = 0; omega
  have h1 : (tb b 3).val % 4 = 3 := by show (4 * b.val + 3) % 4 = 3; omega
  have e := outsAt0_C m c (tb b 3) h0 h1
  refine (congrArg (fun o : Outs => (o.2.2.1 (ix2 s (col h d)) : EReal)) e).trans ?_
  dsimp only
  refine (out_dv_C _ _ _ _ _ _ _ _ _ _ _ _ _ _ _ _ _ _ _ _ _ _ _ _ _ _ _ _ _ _ _ _ _ _ _ _ (fun h => h0 ((hcond0_0 (tb b 3)).mp h)) ((hcond0_1 (tb b 3)).mpr h1) _ (iblk m c 1 (tb b 3)) (iblk m c 2 (tb b 3)) _ _ _ _ _ _ _ _ _ _ h s d).trans ?_
  refine (congrArg (fun o : Outs => (o.2.2.2.2.2.2.2.2 (ix3 h s d) : EReal)) e).symm.trans ?_
  obtain ⟨k, l, rfl⟩ : ∃ k l, s = row k l := ⟨⟨s.val / 512, by omega⟩, ⟨s.val % 512, by omega⟩, Fin.ext (by show s.val = 512 * (s.val / 512) + s.val % 512; omega)⟩
  refine ((at_all m c b 3).dv h k l d).trans ?_
  rw [acc_all]
  exact sum_chunks fun t => W m c b h t (row k l) * Dm m c b h t d

end Cert.FoxV
-- ==== Proof.Fox.Arrays.lean ====
module
public import proofs.«01_k».proof.Proof.Fox.Points
/-! # The five results of the call

Every block is written at one point, the ones of the keys at the last point of their batch row. -/
@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

variable (m : (ℓ : Loc nD τ sig) → Buf (Elt Ideal) ℓ) (c : Dev nD)

theorem tb_surj (t : Fin cfg0.N) : ∃ b j : Fin 4, t = tb b j := by
  have ht : t.val < 16 := lt_of_lt_of_eq t.isLt N_0
  exact ⟨⟨t.val / 4, by omega⟩, ⟨t.val % 4, by omega⟩, Fin.ext (by show t.val = 4 * (t.val / 4) + t.val % 4; omega)⟩

theorem col_surj (y : Fin 256) : ∃ (h : Fin 4) (d : Fin 64), y = col h d :=
  ⟨⟨y.val / 64, by omega⟩, ⟨y.val % 64, by omega⟩, Fin.ext (by show y.val = 64 * (y.val / 64) + y.val % 64; omega)⟩

/-- The batch row and the position of a row, the head and the position of a column. -/
def bq (x : Fin 8192) : Fin 4 := ⟨x.val / 2048, by omega⟩
def tq (x : Fin 8192) : Fin 2048 := ⟨x.val % 2048, by omega⟩
def hq (y : Fin 256) : Fin 4 := ⟨y.val / 64, by omega⟩
def eq (y : Fin 256) : Fin 64 := ⟨y.val % 64, by omega⟩

theorem bq_gr (b : Fin 4) (t : Fin 2048) : bq (gr b t) = b := Fin.ext (by show (2048 * b.val + t.val) / 2048 = b.val; omega)
theorem tq_gr (b : Fin 4) (t : Fin 2048) : tq (gr b t) = t := Fin.ext (by show (2048 * b.val + t.val) % 2048 = t.val; omega)
theorem hq_col (h : Fin 4) (d : Fin 64) : hq (col h d) = h := Fin.ext (by show (64 * h.val + d.val) / 64 = h.val; omega)
theorem eq_col (h : Fin 4) (d : Fin 64) : eq (col h d) = d := Fin.ext (by show (64 * h.val + d.val) % 64 = d.val; omega)
theorem gr_surj (x : Fin 8192) : ∃ b t, x = gr b t :=
  ⟨bq x, tq x, Fin.ext (by show x.val = 2048 * (x.val / 2048) + x.val % 2048; omega)⟩

/-- The call's five results, entry by entry. -/
def kdq (b h : Fin 4) (t : Fin 2048) (d : Fin 64) : EReal := (∑ s, G m c b h t s * Km m c b h s d) * Ideal.ofBits FTy.f32 1040187392#32
def kdk (b h : Fin 4) (s : Fin 2048) (d : Fin 64) : EReal := ∑ t, G m c b h t s * (Qm m c b h t d * Ideal.ofBits FTy.f32 1040187392#32)
def kdv (b h : Fin 4) (s : Fin 2048) (d : Fin 64) : EReal := ∑ t, W m c b h t s * Dm m c b h t d
def kdck (b h : Fin 4) (s : Fin 2048) : EReal := ∑ k, (0 - ∑ r, G m c b h (row k r) s)
def kdcq (b h : Fin 4) (t : Fin 2048) : EReal := ∑ s, G m c b h t s

/-- The sums over a batch row's queries are complete at its last point. -/
theorem flush_last : ∀ t : Fin cfg0.N, ((cfg0.win 9).flush t = true → t.val % 4 = 3) ∧ ((cfg0.win 10).flush t = true → t.val % 4 = 3)
    ∧ ((cfg0.win 11).flush t = true → t.val % 4 = 3) :=
  (by decide +kernel : ∀ t : Fin grid0.N, _)

theorem tb_last (b j : Fin 4) (h : (tb b j).val % 4 = 3) : j = 3 := Fin.ext (by
  have h' : (4 * b.val + j.val) % 4 = 3 := h
  show j.val = 3
  omega)

theorem arr_dq : (dats m 0 c).arrAt 8 cfg0.N
    = fun i : S8192x256.Idx => kdq m c (bq (i 0)) (hq (i 1)) (tq (i 0)) (eq (i 1)) := by
  refine (dats m 0 c).arrAt_eq_of_covers 8 _ (by decide +kernel) fun t hf y => ?_
  obtain ⟨b, j, rfl⟩ := tb_surj t
  idx_vars y
  obtain ⟨h, d, rfl⟩ := col_surj y1
  rw [after0_8, show ((cfg0.win 8).blk (tb b j)).view.emb (ix2 y0 (col h d)) = (ix2 (gr b (row j y0)) (col h d) : S8192x256.Idx) from by unfold gr row; blk_ext [idx b j]]
  refine ((at_all m c b j).dq h y0 d).trans ?_
  show kdq m c b h (row j y0) d = kdq m c (bq (gr b (row j y0))) (hq (col h d)) (tq (gr b (row j y0))) (eq (col h d))
  rw [bq_gr, tq_gr, hq_col, eq_col]

theorem arr_dcq : (dats m 0 c).arrAt 12 cfg0.N = fun i : S4x4x2048x1.Idx => kdcq m c (i 0) (i 1) (i 2) := by
  refine (dats m 0 c).arrAt_eq_of_covers 12 _ (by decide +kernel) fun t hf y => ?_
  obtain ⟨b, j, rfl⟩ := tb_surj t
  idx_vars y
  obtain rfl : y0 = 0 := Subsingleton.elim _ _
  obtain rfl : y3 = 0 := Subsingleton.elim _ _
  rw [after0_12, show ((cfg0.win 12).blk (tb b j)).view.emb (ix4 0 y1 y2 0) = (ix4 b y1 (row j y2) 0 : S4x4x2048x1.Idx) from by unfold row; blk_ext [idx b j]]
  exact (at_all m c b j).dcq y1 y2

theorem arr_dck : (dats m 0 c).arrAt 11 cfg0.N = fun i : S4x4x4x1x512.Idx => kdck m c (i 0) (i 1) (row (i 2) (i 4)) := by
  refine (dats m 0 c).arrAt_eq_of_covers 11 _ (by decide +kernel) fun t hf y => ?_
  obtain ⟨b, j, rfl⟩ := tb_surj t
  obtain rfl := tb_last b j ((flush_last _).2.2 hf)
  idx_vars y
  obtain rfl : y0 = 0 := Subsingleton.elim _ _
  obtain rfl : y3 = 0 := Subsingleton.elim _ _
  rw [after0_11, show ((cfg0.win 11).blk (tb b 3)).view.emb (ix5 0 y1 y2 0 y4) = (ix5 b y1 y2 0 y4 : S4x4x4x1x512.Idx) from by blk_ext [idx b 3]]
  exact ((at_all m c b 3).dck y1 y2 y4).trans (acc_all _)

theorem arr_dk : (dats m 0 c).arrAt 9 cfg0.N
    = fun i : S8192x256.Idx => kdk m c (bq (i 0)) (hq (i 1)) (tq (i 0)) (eq (i 1)) := by
  refine (dats m 0 c).arrAt_eq_of_covers 9 _ (by decide +kernel) fun t hf y => ?_
  obtain ⟨b, j, rfl⟩ := tb_surj t
  obtain rfl := tb_last b j ((flush_last _).1 hf)
  idx_vars y
  obtain ⟨h, d, rfl⟩ := col_surj y1
  rw [after0_9, show ((cfg0.win 9).blk (tb b 3)).view.emb (ix2 y0 (col h d)) = (ix2 (gr b y0) (col h d) : S8192x256.Idx) from by unfold gr; blk_ext [idx b 3]]
  refine (last_dk m c b h y0 d).trans ?_
  show kdk m c b h y0 d = kdk m c (bq (gr b y0)) (hq (col h d)) (tq (gr b y0)) (eq (col h d))
  rw [bq_gr, tq_gr, hq_col, eq_col]

theorem arr_dv : (dats m 0 c).arrAt 10 cfg0.N
    = fun i : S8192x256.Idx => kdv m c (bq (i 0)) (hq (i 1)) (tq (i 0)) (eq (i 1)) := by
  refine (dats m 0 c).arrAt_eq_of_covers 10 _ (by decide +kernel) fun t hf y => ?_
  obtain ⟨b, j, rfl⟩ := tb_surj t
  obtain rfl := tb_last b j ((flush_last _).2.1 hf)
  idx_vars y
  obtain ⟨h, d, rfl⟩ := col_surj y1
  rw [after0_10, show ((cfg0.win 10).blk (tb b 3)).view.emb (ix2 y0 (col h d)) = (ix2 (gr b y0) (col h d) : S8192x256.Idx) from by unfold gr; blk_ext [idx b 3]]
  refine (last_dv m c b h y0 d).trans ?_
  show kdv m c b h y0 d = kdv m c (bq (gr b y0)) (hq (col h d)) (tq (gr b y0)) (eq (col h d))
  rw [bq_gr, tq_gr, hq_col, eq_col]

end Cert.FoxV
-- ==== Proof.Fox.Soft.lean ====
module

public import Idealize.ShloMosaic.PureOps.Ideal.Laws
public import Idealize.ShloMosaic.Lib.Pipeline.ValueKit

/-!
# The forgetting attention's gradient: one head, in real numbers

Scores, softmax and its gradient for one batch row and one head, and the facts about real numbers on which the kernel
and the reference meet: the softmax does not depend on the number that is subtracted from a row's scores.
-/

@[expose] public section

set_option maxRecDepth 16384
set_option maxHeartbeats 1000000

noncomputable section

namespace Cert.FoxS

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many numbers, some of them −∞, is a number when one of them is. -/
theorem fold_max_real {ι : Type*} (s : Finset ι) (f : ι → EReal) (hf : ∀ i ∈ s, f i ≠ ⊤) (hi : ∃ i ∈ s, f i ≠ ⊥) :
    ∃ M : ℝ, s.fold max (⊥ : EReal) f = (M : EReal) := by
  obtain ⟨i, his, hib⟩ := hi
  have hsup : s.fold max (⊥ : EReal) f = s.sup f := rfl
  have h1 : s.fold max (⊥ : EReal) f ≠ ⊥ := fun h =>
    hib (le_bot_iff.mp (h ▸ hsup ▸ Finset.le_sup (f := f) his))
  have h2 : s.fold max (⊥ : EReal) f ≠ ⊤ := by
    rw [hsup]
    exact ne_of_lt ((Finset.sup_lt_iff bot_lt_top).mpr fun j hj => lt_top_iff_ne_top.mpr (hf j hj))
  exact ⟨_, (EReal.coe_toReal h2 h1).symm⟩

variable (q k v dd : Fin 2048 → Fin 64 → ℝ) (cc : Fin 2048 → ℝ)

/-- The score of query `t` and key `s`. -/
def sc (t s : Fin 2048) : ℝ := (∑ d, q t d * k s d) * (1 / 8) + (cc t - cc s)
/-- Its exponential, zero for a later key. -/
def S0 (t s : Fin 2048) : ℝ := if s ≤ t then Real.exp (sc q k cc t s) else 0
/-- The row's sum. -/
def Z0 (t : Fin 2048) : ℝ := ∑ s, S0 q k cc t s
/-- The softmax. -/
def pr (t s : Fin 2048) : ℝ := S0 q k cc t s / Z0 q k cc t
/-- The gradient of the softmax's weight. -/
def dp (t s : Fin 2048) : ℝ := ∑ d, dd t d * v s d
/-- The gradient of the score. -/
def ds (t s : Fin 2048) : ℝ := pr q k cc t s * (dp v dd t s - ∑ x, pr q k cc t x * dp v dd t x)

theorem Z0_pos (t : Fin 2048) : 0 < Z0 q k cc t := by
  unfold Z0
  refine Finset.sum_pos' (fun s _ => ?_) ⟨t, Finset.mem_univ _, ?_⟩
  · unfold S0
    split_ifs
    · exact (Real.exp_pos _).le
    · exact le_rfl
  · unfold S0
    rw [if_pos le_rfl]
    exact Real.exp_pos _

/-- The exponentials with `M` subtracted from the scores. -/
def SM (M : ℝ) (t s : Fin 2048) : ℝ := if s ≤ t then Real.exp (sc q k cc t s - M) else 0
def ZM (M : ℝ) (t : Fin 2048) : ℝ := ∑ s, SM q k cc M t s

theorem SM_eq (M : ℝ) (t s : Fin 2048) : SM q k cc M t s = S0 q k cc t s * Real.exp (-M) := by
  unfold SM S0
  split_ifs
  · rw [sub_eq_add_neg, Real.exp_add]
  · rw [zero_mul]

theorem ZM_eq (M : ℝ) (t : Fin 2048) : ZM q k cc M t = Z0 q k cc t * Real.exp (-M) := by
  unfold ZM Z0
  rw [Finset.sum_mul]
  exact Finset.sum_congr rfl fun s _ => SM_eq q k cc M t s

theorem ZM_pos (M : ℝ) (t : Fin 2048) : 0 < ZM q k cc M t := by
  rw [ZM_eq]
  exact mul_pos (Z0_pos q k cc t) (Real.exp_pos _)

theorem SM_div (M : ℝ) (t s : Fin 2048) : SM q k cc M t s / ZM q k cc M t = pr q k cc t s := by
  rw [SM_eq, ZM_eq, pr]
  exact mul_div_mul_right _ _ (Real.exp_ne_zero _)

/-- The softmax as the exponential of the score less the row's log-sum. -/
theorem exp_lse (M : ℝ) (t s : Fin 2048) (h : s ≤ t) :
    Real.exp (sc q k cc t s - (M + Real.log (ZM q k cc M t))) = pr q k cc t s := by
  rw [← SM_div q k cc M, SM, if_pos h, ← sub_sub, Real.exp_sub, Real.exp_log (ZM_pos q k cc M t)]

/-- The gradient of the score as the reference computes it. -/
theorem ds_ref (M : ℝ) (t s : Fin 2048) :
    (dp v dd t s / ZM q k cc M t + -∑ x, dp v dd t x * (1 / (ZM q k cc M t * ZM q k cc M t)) * SM q k cc M t x) * SM q k cc M t s
      = ds q k v dd cc t s := by
  have hz := (ZM_pos q k cc M t).ne'
  unfold ds
  rw [← SM_div q k cc M t s]
  have e : ∑ x, pr q k cc t x * dp v dd t x
      = (∑ x, dp v dd t x * (1 / (ZM q k cc M t * ZM q k cc M t)) * SM q k cc M t x) * ZM q k cc M t := by
    rw [Finset.sum_mul]
    refine Finset.sum_congr rfl fun x _ => ?_
    rw [← SM_div q k cc M t x]
    field_simp
  rw [e]
  field_simp
  ring

theorem ds_later (t s : Fin 2048) (h : ¬s ≤ t) : ds q k v dd cc t s = 0 := by
  unfold ds pr S0
  rw [if_neg h, zero_div, zero_mul]

theorem pr_later (t s : Fin 2048) (h : ¬s ≤ t) : pr q k cc t s = 0 := by
  unfold pr S0
  rw [if_neg h, zero_div]

/-- The row's correction, from the forward pass's output. -/
theorem delta (t : Fin 2048) : ∑ d, dd t d * ∑ s, v s d * pr q k cc t s = ∑ s, pr q k cc t s * dp v dd t s := by
  unfold dp
  simp only [Finset.mul_sum]
  rw [Finset.sum_comm]
  exact Finset.sum_congr rfl fun s _ => Finset.sum_congr rfl fun d _ => by ring

/-- The scores with the scale on the query. -/
theorem sc_scaled (t s : Fin 2048) : ∑ d, q t d * (1 / 8) * k s d + (cc t - cc s) = sc q k cc t s := by
  unfold sc
  rw [Finset.sum_mul]
  exact congrArg (· + _) (Finset.sum_congr rfl fun d _ => by ring)

end Cert.FoxS

end
-- ==== Proof.Fox.RefA.lean ====
module

public import proofs.«01_k».proof.Proof.Gen.FoxRefIdeal.Read
public import proofs.«01_k».proof.Proof.Fox.Blocks
public import proofs.«01_k».proof.Proof.Fox.Soft
public import Idealize.ShloMosaic.Lib.WordCmp

/-!
# The forgetting attention's gradient: the reference's scores

The reference's host arrays, read at an index, when the arguments are numbers.
-/

@[expose] public section

set_option maxRecDepth 16384
set_option maxHeartbeats 1000000

noncomputable section

namespace Cert.FoxS

open Idealize.ShloMosaic Idealize.ShloMosaic.TcCoe Idealize.SL.Sem

open Cert.FoxV (gr gc col row)
open Cert.FoxRefIdeal Cert.FoxRefIdeal.Read

/-- The arguments' numbers: queries, keys, values, the output's gradient and the forgetting sums. -/
structure Reals (P : (⟨S8192x7168, .bf16⟩ : BufTy).Contents (Elt Ideal)) (C : (⟨S4x4x2048, .f32⟩ : BufTy).Contents (Elt Ideal))
    (D : (⟨S8192x256, .bf16⟩ : BufTy).Contents (Elt Ideal)) (q k v dd : Fin 4 → Fin 4 → Fin 2048 → Fin 64 → ℝ)
    (cc : Fin 4 → Fin 4 → Fin 2048 → ℝ) : Prop where
  hq : ∀ b h t d, (P (ix2 (gr b t) (gc 0 (col h d))) : EReal) = (q b h t d : EReal)
  hk : ∀ b h t d, (P (ix2 (gr b t) (gc 1 (col h d))) : EReal) = (k b h t d : EReal)
  hv : ∀ b h t d, (P (ix2 (gr b t) (gc 2 (col h d))) : EReal) = (v b h t d : EReal)
  hd : ∀ b h t d, (D (ix2 (gr b t) (col h d)) : EReal) = (dd b h t d : EReal)
  hc : ∀ b h t, (C (ix3 b h t) : EReal) = (cc b h t : EReal)

variable {P : (⟨S8192x7168, .bf16⟩ : BufTy).Contents (Elt Ideal)} {C : (⟨S4x4x2048, .f32⟩ : BufTy).Contents (Elt Ideal)}
  {D : (⟨S8192x256, .bf16⟩ : BufTy).Contents (Elt Ideal)} {q k v dd : Fin 4 → Fin 4 → Fin 2048 → Fin 64 → ℝ}
  {cc : Fin 4 → Fin 4 → Fin 2048 → ℝ} (H : Reals P C D q k v dd cc)
include H

theorem r_q (b h : Fin 4) (t : Fin 2048) (d : Fin 64) : (val_main_v2 (F := Ideal) P (ix4 b t h d) : EReal) = (q b h t d : EReal) := by
  refine Eq.trans ?_ (H.hq b h t d)
  unfold val_main_v2 val_main_v1 val_main_v0 gr gc col
  pointwise
  blk_ext

theorem r_k (b h : Fin 4) (t : Fin 2048) (d : Fin 64) : (val_main_v5 (F := Ideal) P (ix4 b t h d) : EReal) = (k b h t d : EReal) := by
  refine Eq.trans ?_ (H.hk b h t d)
  unfold val_main_v5 val_main_v4 val_main_v3 gr gc col
  pointwise
  blk_ext

theorem r_v (b h : Fin 4) (t : Fin 2048) (d : Fin 64) : (val_main_v8 (F := Ideal) P (ix4 b t h d) : EReal) = (v b h t d : EReal) := by
  refine Eq.trans ?_ (H.hv b h t d)
  unfold val_main_v8 val_main_v7 val_main_v6 gr gc col
  pointwise
  blk_ext

theorem r_d (b h : Fin 4) (t : Fin 2048) (d : Fin 64) : (val_main_v10 (F := Ideal) D (ix4 b t h d) : EReal) = (dd b h t d : EReal) := by
  refine Eq.trans ?_ (H.hd b h t d)
  unfold val_main_v10 val_main_v9 gr col
  pointwise
  blk_ext

omit H in
theorem eighth : Ideal.ofBits .f32 1040187392#32 = ((1 / 8 : ℝ) : EReal) := Cert.FoxV.eighth

theorem r_score (b h : Fin 4) (t s : Fin 2048) :
    (val_main_v26 (F := Ideal) P C (ix4 b h t s) : EReal) = (sc (q b h) (k b h) (cc b h) t s : EReal) := by
  unfold val_main_v26 val_main_v13 val_main_v12 val_main_cst val_main_v11 val_main_v25 val_main_v24 val_main_v23 val_main_v22 val_main_v21
  pointwise
  simp only [r_q H, r_k H, H.hc]
  rw [eighth, sc, EReal.coe_add, EReal.coe_mul, coe_sum, EReal.coe_sub]
  simp only [EReal.coe_mul]

omit H in
theorem r_mask (b h : Fin 4) (t s : Fin 2048) : val_main_v27_1 (F := Ideal) (ix4 b h t s) = BitVec.ofBool (decide (s ≤ t)) := by
  unfold val_main_v27_1 val_main_v20 val_main_v18 val_main_v19 val_main_v15 val_main_v17 val_main_v14 val_main_v16
  pointwise
  rw [WordCmp.cmpi_sge_ofNat (by omega) (by omega)]
  rfl

omit H in
theorem neg_inf : Ideal.ofBits FTy.f32 4286578688#32 = ⊥ := by
  simp [Ideal.ofBits, Ideal.ieee]

/-- The masked score. -/
theorem r_where (b h : Fin 4) (t s : Fin 2048) :
    (val_main_v27_0 (F := Ideal) P C (ix4 b h t s) : EReal) = if s ≤ t then (sc (q b h) (k b h) (cc b h) t s : EReal) else ⊥ := by
  refine (val_main_v27_0_apply P C _).trans ?_
  rw [r_mask, r_score H]
  unfold val_main_call0_v2 val_main_call0_v0 val_main_cst_0
  pointwise
  by_cases h : s ≤ t
  · simp [h]
  · simp [h]
    exact neg_inf

/-- A row's largest score is a number: the row's own key is not masked. -/
theorem r_max : ∃ M : Fin 4 → Fin 4 → Fin 2048 → ℝ, ∀ b h t, (val_main_v28 (F := Ideal) P C (ix3 b h t) : EReal) = (M b h t : EReal) := by
  have key : ∀ b h t, ∃ M : ℝ, (val_main_v28 (F := Ideal) P C (ix3 b h t) : EReal) = (M : EReal) := by
    intro b h t
    unfold val_main_v28
    generalize hx : val_main_v27_0 (F := Ideal) P C = x
    have hw : ∀ s, (x (ix4 b h t s) : EReal) = if s ≤ t then (sc (q b h) (k b h) (cc b h) t s : EReal) else ⊥ := fun s => hx ▸ r_where H b h t s
    unfold val_main_cst_1
    pointwise
    rw [neg_inf]
    refine fold_max_real _ _ (fun s _ => ?_) ⟨t, Finset.mem_univ _, ?_⟩
    · rw [hw]
      split_ifs
      · exact EReal.coe_ne_top _
      · exact bot_ne_top
    · rw [hw, if_pos le_rfl]
      exact EReal.coe_ne_bot _
  choose M hM using key
  exact ⟨M, hM⟩

end Cert.FoxS

end
-- ==== Proof.Fox.RefB.lean ====
module

public import proofs.«01_k».proof.Proof.Fox.RefA

/-!
# The forgetting attention's gradient: the reference's softmax and its gradient

The softmax, and the gradient of the scores, when the arguments are numbers.
-/

@[expose] public section

set_option maxRecDepth 16384
set_option maxHeartbeats 1000000

noncomputable section

namespace Cert.FoxS

open Idealize.ShloMosaic Idealize.ShloMosaic.TcCoe Idealize.SL.Sem

open Cert.FoxV (gr gc col row)
open Cert.FoxRefIdeal Cert.FoxRefIdeal.Read

variable {P : (⟨S8192x7168, .bf16⟩ : BufTy).Contents (Elt Ideal)} {C : (⟨S4x4x2048, .f32⟩ : BufTy).Contents (Elt Ideal)}
  {D : (⟨S8192x256, .bf16⟩ : BufTy).Contents (Elt Ideal)} {q k v dd : Fin 4 → Fin 4 → Fin 2048 → Fin 64 → ℝ}
  {cc : Fin 4 → Fin 4 → Fin 2048 → ℝ} (H : Reals P C D q k v dd cc)
include H

variable {M : Fin 4 → Fin 4 → Fin 2048 → ℝ} (hM : ∀ b h t, (val_main_v28 (F := Ideal) P C (ix3 b h t) : EReal) = (M b h t : EReal))
include hM

omit H hM in
theorem div_real (x y : ℝ) (h : y ≠ 0) : Ideal.div (x : EReal) (y : EReal) = ((x / y : ℝ) : EReal) := by
  rw [Ideal.div_coe h, ← EReal.coe_mul, mul_one_div]

/-- The row's exponentials. -/
theorem r_exp (b h : Fin 4) (t s : Fin 2048) :
    (val_main_v48 (F := Ideal) P C (ix4 b h t s) : EReal) = (SM (q b h) (k b h) (cc b h) (M b h t) t s : EReal) := by
  have e : (val_main_v48 (F := Ideal) P C (ix4 b h t s) : EReal)
      = Ideal.exp (val_main_v27_0 (F := Ideal) P C (ix4 b h t s) - max (Ideal.ofBits .f32 4286578688#32) (val_main_v28 (F := Ideal) P C (ix3 b h t))) := by
    rw [val_main_v48_apply, val_main_v47_apply, val_main_v46_apply, val_main_v45_apply, val_main_v35_apply, val_main_v34_apply, val_main_cst_3_apply,
      show idx_main_v45 (idx_main_v46 (ix4 b h t s)) = ix3 b h t from by blk_ext]
    generalize val_main_v28 (F := Ideal) P C = x
    generalize val_main_v27_0 (F := Ideal) P C = y
    rfl
  rw [e, r_where H, hM, neg_inf, max_eq_right bot_le]
  unfold SM
  split_ifs
  · rw [← EReal.coe_sub, Ideal.exp_coe]
  · simp

theorem r_sum (b h : Fin 4) (t : Fin 2048) :
    (val_main_v50 (F := Ideal) P C (ix4 b h t 0) : EReal) = (ZM (q b h) (k b h) (cc b h) (M b h t) t : EReal) := by
  unfold val_main_v50 val_main_v49 val_main_cst_9
  pointwise
  simp only [r_exp H hM]
  rw [ZM, coe_sum]

/-- The softmax. -/
theorem r_pr (b h : Fin 4) (t s : Fin 2048) :
    (val_main_v52 (F := Ideal) P C (ix4 b h t s) : EReal) = (pr (q b h) (k b h) (cc b h) t s : EReal) := by
  unfold val_main_v52 val_main_v51
  pointwise
  rw [r_exp H hM, r_sum H hM, div_real _ _ (ZM_pos _ _ _ _ _).ne', SM_div]

theorem r_inv (b h : Fin 4) (t : Fin 2048) :
    (val_main_v55 (F := Ideal) P C (ix4 b h t 0) : EReal) = ((1 / (ZM (q b h) (k b h) (cc b h) (M b h t) t * ZM (q b h) (k b h) (cc b h) (M b h t) t) : ℝ) : EReal) := by
  unfold val_main_v55 val_main_v54 val_main_v53 val_main_cst_10
  pointwise
  rw [r_sum H hM, ← EReal.coe_mul, ← EReal.coe_one, div_real _ _ (mul_pos (ZM_pos _ _ _ _ _) (ZM_pos _ _ _ _ _)).ne']

omit hM in
/-- The gradient of a weight. -/
theorem r_dp (b h : Fin 4) (t s : Fin 2048) :
    (val_main_v59 (F := Ideal) P D (ix4 b h t s) : EReal) = (dp (v b h) (dd b h) t s : EReal) := by
  unfold val_main_v59 val_main_v58
  pointwise
  simp only [r_d H, r_v H]
  rw [dp, coe_sum]
  simp only [EReal.coe_mul]

/-- The row's correction. -/
theorem r_cor (b h : Fin 4) (t : Fin 2048) :
    (val_main_v70 (F := Ideal) P C D (ix3 b h t) : EReal)
      = ((-∑ x, dp (v b h) (dd b h) t x * (1 / (ZM (q b h) (k b h) (cc b h) (M b h t) t * ZM (q b h) (k b h) (cc b h) (M b h t) t)) * SM (q b h) (k b h) (cc b h) (M b h t) t x : ℝ) : EReal) := by
  unfold val_main_v70 val_main_cst_12 val_main_v67 val_main_v66 val_main_v65 val_main_cst_11 val_main_v64 val_main_v63 val_main_v62
  pointwise
  simp only [r_dp H, r_inv H hM, r_exp H hM]
  rw [EReal.coe_neg, coe_sum]
  simp only [EReal.coe_mul]
  simp

/-- The gradient of the score. -/
theorem r_ds (b h : Fin 4) (t s : Fin 2048) :
    (val_main_v74 (F := Ideal) P C D (ix4 b h t s) : EReal) = (ds (q b h) (k b h) (v b h) (dd b h) (cc b h) t s : EReal) := by
  refine (val_main_v74_apply P C D _).trans ?_
  rw [r_mask]
  unfold val_main_v73 val_main_v72 val_main_v71 val_main_v69 val_main_v68 val_main_call1_v0 val_main_call1_cst
  pointwise
  rw [r_dp H, r_sum H hM, r_cor H hM, r_exp H hM, div_real _ _ (ZM_pos _ _ _ _ _).ne', ← EReal.coe_add, ← EReal.coe_mul, ds_ref]
  by_cases hs : s ≤ t
  · simp [hs]
  · rw [ds_later _ _ _ _ _ _ _ hs]
    simp [hs]

end Cert.FoxS

end
-- ==== Proof.Fox.RefC.lean ====
module

public import proofs.«01_k».proof.Proof.Fox.RefB

/-!
# The forgetting attention's gradient: the reference's five results

The results, as sums of numbers.
-/

@[expose] public section

set_option maxRecDepth 16384
set_option maxHeartbeats 1000000

noncomputable section

namespace Cert.FoxS

open Idealize.ShloMosaic Idealize.ShloMosaic.TcCoe Idealize.SL.Sem

open Cert.FoxV (gr gc col row)
open Cert.FoxRefIdeal Cert.FoxRefIdeal.Read

variable {P : (⟨S8192x7168, .bf16⟩ : BufTy).Contents (Elt Ideal)} {C : (⟨S4x4x2048, .f32⟩ : BufTy).Contents (Elt Ideal)}
  {D : (⟨S8192x256, .bf16⟩ : BufTy).Contents (Elt Ideal)} {q k v dd : Fin 4 → Fin 4 → Fin 2048 → Fin 64 → ℝ}
  {cc : Fin 4 → Fin 4 → Fin 2048 → ℝ} (H : Reals P C D q k v dd cc)
include H

variable {M : Fin 4 → Fin 4 → Fin 2048 → ℝ} (hM : ∀ b h t, (val_main_v28 (F := Ideal) P C (ix3 b h t) : EReal) = (M b h t : EReal))
include hM

theorem ref_dq (b h : Fin 4) (t : Fin 2048) (d : Fin 64) :
    (val_main_v89 (F := Ideal) P C D (ix2 (gr b t) (col h d)) : EReal) = ((∑ s, ds (q b h) (k b h) (v b h) (dd b h) (cc b h) t s * (1 / 8) * k b h s d : ℝ) : EReal) := by
  unfold val_main_v89 val_main_v88 val_main_v87 val_main_v86 val_main_v83 val_main_v82 val_main_cst_17
  refine Eq.trans (?_ : _ = (∑ s, val_main_v74 (F := Ideal) P C D (ix4 b h t s) * Ideal.ofBits .f32 1040187392#32 * val_main_v5 (F := Ideal) P (ix4 b s h d) : EReal)) ?_
  · unfold gr col
    pointwise
    blk_ext
  · simp only [r_ds H hM, r_k H]
    rw [eighth, coe_sum]
    simp only [EReal.coe_mul]

theorem ref_dk (b h : Fin 4) (s : Fin 2048) (d : Fin 64) :
    (val_main_v91 (F := Ideal) P C D (ix2 (gr b s) (col h d)) : EReal) = ((∑ t, ds (q b h) (k b h) (v b h) (dd b h) (cc b h) t s * (1 / 8) * q b h t d : ℝ) : EReal) := by
  unfold val_main_v91 val_main_v90 val_main_v85 val_main_v84 val_main_v83 val_main_v82 val_main_cst_17
  refine Eq.trans (?_ : _ = (∑ t, val_main_v74 (F := Ideal) P C D (ix4 b h t s) * Ideal.ofBits .f32 1040187392#32 * val_main_v2 (F := Ideal) P (ix4 b t h d) : EReal)) ?_
  · unfold gr col
    pointwise
    blk_ext
  · simp only [r_ds H hM, r_q H]
    rw [eighth, coe_sum]
    simp only [EReal.coe_mul]

theorem ref_dv (b h : Fin 4) (s : Fin 2048) (d : Fin 64) :
    (val_main_v93 (F := Ideal) P C D (ix2 (gr b s) (col h d)) : EReal) = ((∑ t, dd b h t d * pr (q b h) (k b h) (cc b h) t s : ℝ) : EReal) := by
  unfold val_main_v93 val_main_v92 val_main_v61 val_main_v60 val_main_v58
  refine Eq.trans (?_ : _ = (∑ t, val_main_v10 (F := Ideal) D (ix4 b t h d) * val_main_v52 (F := Ideal) P C (ix4 b h t s) : EReal)) ?_
  · unfold gr col
    pointwise
    blk_ext
  · simp only [r_pr H hM, r_d H]
    rw [coe_sum]
    simp only [EReal.coe_mul]

theorem ref_dck (b h j : Fin 4) (l : Fin 512) :
    (val_main_v94 (F := Ideal) P C D (ix5 b h j 0 l) : EReal) = ((-∑ t, ds (q b h) (k b h) (v b h) (dd b h) (cc b h) t (row j l) : ℝ) : EReal) := by
  unfold val_main_v94 val_main_v80 val_main_v79 val_main_v78 val_main_v77 val_main_cst_14 val_main_cst_15
  refine Eq.trans (?_ : _ = (∑ t, -val_main_v74 (F := Ideal) P C D (ix4 b h t (row j l)) : EReal)) ?_
  · unfold row
    pointwise
    simp only [Finset.univ_unique, Finset.sum_singleton]
    exact Finset.sum_congr rfl fun x _ => congrArg (fun z : Fin 2048 => -val_main_v74 (F := Ideal) P C D (ix4 b h x z))
      (Fin.ext (by show j.val * 512 + l.val = 512 * j.val + l.val; omega))
  · simp only [r_ds H hM]
    rw [← Finset.sum_neg_distrib, coe_sum]
    simp only [EReal.coe_neg]

theorem ref_dcq (b h : Fin 4) (t : Fin 2048) :
    (val_main_v95 (F := Ideal) P C D (ix4 b h t 0) : EReal) = ((∑ s, ds (q b h) (k b h) (v b h) (dd b h) (cc b h) t s : ℝ) : EReal) := by
  unfold val_main_v95 val_main_v81 val_main_v76 val_main_v75 val_main_cst_13 val_main_cst_16
  pointwise
  simp only [r_ds H hM]
  rw [coe_sum]
  simp

end Cert.FoxS

end
-- ==== Proof.Fox.Host.lean ====
module

public import proofs.«01_k».proof.Proof.Fox.RefA
public import Idealize.ShloMosaic.Lib.StableHlo.RunRead

/-!
# The forgetting attention's gradient: what the forward pass saved

The call takes the output and the rows' log-sums; the host computes both with the reference's own lines.
-/

@[expose] public section

set_option maxRecDepth 16384
set_option maxHeartbeats 1000000

noncomputable section

namespace Cert.FoxS

open Idealize.ShloMosaic Idealize.ShloMosaic.TcCoe Idealize.SL.Sem

open Cert.FoxIdeal Cert.FoxIdeal.Gen
open Cert.FoxRefIdeal.Read (val_main_v57 val_main_v28 val_main_v27_0)

variable (m : (ℓ : Loc nD τ sig) → Buf (Elt Ideal) ℓ) (c : Dev nD)

/-- The forward pass's output, as the host computes it, is the reference's with heads before rows. -/
theorem host_o : (V m c main_v39 : FVec Ideal S4x4x2048x64 .f32)
    = transpose S4x4x2048x64 [0, 2, 1, 3] (val_main_v57 (F := Ideal) (m ((c : Thread nD τ).loc main_arg0)) (m ((c : Thread nD τ).loc main_arg1)) : FVec Ideal S4x2048x4x64 .f32) transposes_S4x2048x4x64_S4x4x2048x64_0_2_1_3 := by
  unfold V
  simp only [hostOps0, hostOps0_1, hostOps0_2, hostOps0_3, hostOps0_4, List.flatten_cons, List.flatten_nil, List.append_nil, List.cons_append]
  after_reads_simp
  rfl

/-- The row's log-sum from the masked scores and their row maxima. -/
def lseOf (x : FVec Ideal S4x4x2048x2048 .f32) (y : FVec Ideal S4x4x2048 .f32) : FVec Ideal S4x4x2048x1 .f32 :=
  addf (broadcastInDim S4x4x2048x1 ![0, 1, 2] bcast_S4x4x2048_S4x4x2048x1_0_1_2 y)
    (Host.log (broadcastInDim S4x4x2048x1 ![0, 1, 2] bcast_S4x4x2048_S4x4x2048x1_0_1_2
      (Host.reduceAdd (Host.exp (subf x (broadcastInDim S4x4x2048x2048 ![0, 1, 2, 3] bcast_S4x4x2048x1_S4x4x2048x2048_0_1_2_3
        (broadcastInDim S4x4x2048x1 ![0, 1, 2] bcast_S4x4x2048_S4x4x2048x1_0_1_2 y)))) (constant S_ .f32 0x00000000#32)
        reducesTo_S4x4x2048x2048_S4x4x2048_d3 h_S_)))

theorem host_lse : (V m c main_v65 : FVec Ideal S4x4x2048x1 .f32)
    = lseOf (val_main_v27_0 (F := Ideal) (m ((c : Thread nD τ).loc main_arg0)) (m ((c : Thread nD τ).loc main_arg1)))
      (val_main_v28 (F := Ideal) (m ((c : Thread nD τ).loc main_arg0)) (m ((c : Thread nD τ).loc main_arg1))) := by
  unfold V
  simp only [hostOps0, hostOps0_1, hostOps0_2, hostOps0_3, hostOps0_4, List.flatten_cons, List.flatten_nil, List.append_nil, List.cons_append]
  after_reads_simp
  rfl

theorem lseOf_apply (x : FVec Ideal S4x4x2048x2048 .f32) (y : FVec Ideal S4x4x2048 .f32) (b h : Fin 4) (t : Fin 2048) :
    (lseOf x y (ix4 b h t 0) : EReal) = y (ix3 b h t) + Ideal.log (∑ s, Ideal.exp (x (ix4 b h t s) - y (ix3 b h t))) := by
  unfold lseOf
  pointwise

end Cert.FoxS

end
-- ==== Proof.Fox.Agree.lean ====
module

public import proofs.«01_k».proof.Proof.Fox.Arrays
public import proofs.«01_k».proof.Proof.Fox.RefC
public import proofs.«01_k».proof.Proof.Fox.Host

/-!
# The forgetting attention's gradient: the two programs agree

Each of the kernel's five results, entry by entry, is the reference's when the arguments are numbers.
-/

@[expose] public section

set_option maxRecDepth 16384
set_option maxHeartbeats 1000000

noncomputable section

namespace Cert.FoxS

open Idealize.ShloMosaic Idealize.ShloMosaic.TcCoe Idealize.SL.Sem

open Cert.FoxIdeal Cert.FoxIdeal.Gen
open Cert.FoxV (gr gc col row Qm Km Vm Dm Cm Om Lm W G kdq kdk kdv kdck kdcq)
open Cert.FoxRefIdeal.Read (val_main_v57 val_main_v56 val_main_v28 val_main_v27_0 val_main_v8 val_main_v52 val_main_v89 val_main_v91 val_main_v93 val_main_v94 val_main_v95)

variable (m : (ℓ : Loc nD τ sig) → Buf (Elt Ideal) ℓ) (c : Dev nD) {q k v dd : Fin 4 → Fin 4 → Fin 2048 → Fin 64 → ℝ}
  {cc : Fin 4 → Fin 4 → Fin 2048 → ℝ}
  (H : Reals (m ((c : Thread nD τ).loc main_arg0)) (m ((c : Thread nD τ).loc main_arg1)) (m ((c : Thread nD τ).loc main_arg2)) q k v dd cc)
  {M : Fin 4 → Fin 4 → Fin 2048 → ℝ} (hM : ∀ b h t, (val_main_v28 (F := Ideal) (m ((c : Thread nD τ).loc main_arg0)) (m ((c : Thread nD τ).loc main_arg1)) (ix3 b h t) : EReal) = (M b h t : EReal))
include H hM

/-- The forward pass's output. -/
theorem m_o (b h : Fin 4) (t : Fin 2048) (d : Fin 64) : Om m c b h t d = ((∑ s, v b h s d * pr (q b h) (k b h) (cc b h) t s : ℝ) : EReal) := by
  unfold Om
  refine (congrFun (host_o m c) _).trans ?_
  refine Eq.trans (?_ : _ = (∑ s, val_main_v8 (F := Ideal) (m ((c : Thread nD τ).loc main_arg0)) (ix4 b s h d) * val_main_v52 (F := Ideal) (m ((c : Thread nD τ).loc main_arg0)) (m ((c : Thread nD τ).loc main_arg1)) (ix4 b h t s) : EReal)) ?_
  · unfold val_main_v57 val_main_v56
    generalize val_main_v52 (F := Ideal) _ _ = x
    generalize val_main_v8 (F := Ideal) _ = y
    pointwise
  · simp only [r_pr H hM, r_v H]
    rw [coe_sum]
    simp only [EReal.coe_mul]

/-- The row's log-sum. -/
theorem m_l (b h : Fin 4) (t : Fin 2048) : Lm m c b h t = ((M b h t + Real.log (ZM (q b h) (k b h) (cc b h) (M b h t) t) : ℝ) : EReal) := by
  unfold Lm
  refine (congrFun (host_lse m c) _).trans ((lseOf_apply _ _ b h t).trans ?_)
  have e : ∀ s, Ideal.exp ((val_main_v27_0 (F := Ideal) (m ((c : Thread nD τ).loc main_arg0)) (m ((c : Thread nD τ).loc main_arg1)) (ix4 b h t s) : EReal) - (M b h t : EReal))
      = (SM (q b h) (k b h) (cc b h) (M b h t) t s : EReal) := fun s => by
    rw [r_where H]
    unfold SM
    split_ifs
    · rw [← EReal.coe_sub, Ideal.exp_coe]
    · simp
  rw [hM]
  simp only [e]
  rw [← coe_sum, show (∑ s, SM (q b h) (k b h) (cc b h) (M b h t) t s) = ZM (q b h) (k b h) (cc b h) (M b h t) t from rfl, Ideal.log_coe,
    if_neg (not_le.mpr (ZM_pos _ _ _ _ _)), ← EReal.coe_add]

theorem m_w (b h : Fin 4) (t s : Fin 2048) : W m c b h t s = (pr (q b h) (k b h) (cc b h) t s : EReal) := by
  unfold W
  split_ifs with hs
  · have e : (∑ x, Qm m c b h t x * Ideal.ofBits .f32 1040187392#32 * Km m c b h s x + (Cm m c b h t - Cm m c b h s) : EReal)
        = (sc (q b h) (k b h) (cc b h) t s : EReal) := by
      rw [← sc_scaled]
      unfold Qm Km Cm
      simp only [H.hq, H.hk, H.hc]
      rw [eighth, EReal.coe_add, coe_sum, EReal.coe_sub]
      simp only [EReal.coe_mul]
    rw [e, m_l m c H hM, ← EReal.coe_sub, Ideal.exp_coe, exp_lse _ _ _ _ _ _ hs]
  · rw [pr_later _ _ _ _ _ hs, EReal.coe_zero]

theorem m_g (b h : Fin 4) (t s : Fin 2048) : G m c b h t s = (ds (q b h) (k b h) (v b h) (dd b h) (cc b h) t s : EReal) := by
  unfold G
  rw [m_w m c H hM]
  simp only [m_o m c H hM]
  unfold Dm Vm ds
  simp only [H.hd, H.hv]
  rw [← delta, dp, EReal.coe_mul, EReal.coe_sub, coe_sum, coe_sum]
  simp only [EReal.coe_mul]

/-- The gradients of the queries agree. -/
theorem dq_eq (b h : Fin 4) (t : Fin 2048) (d : Fin 64) :
    kdq m c b h t d = val_main_v89 (F := Ideal) (m ((c : Thread nD τ).loc main_arg0)) (m ((c : Thread nD τ).loc main_arg1)) (m ((c : Thread nD τ).loc main_arg2)) (ix2 (gr b t) (col h d)) := by
  rw [ref_dq H hM]
  unfold kdq Km
  simp only [m_g m c H hM, H.hk]
  simp only [← EReal.coe_mul]
  rw [eighth, ← coe_sum, ← EReal.coe_mul, Finset.sum_mul]
  exact congrArg _ (Finset.sum_congr rfl fun s _ => by ring)

/-- The gradients of the keys agree. -/
theorem dk_eq (b h : Fin 4) (s : Fin 2048) (d : Fin 64) :
    kdk m c b h s d = val_main_v91 (F := Ideal) (m ((c : Thread nD τ).loc main_arg0)) (m ((c : Thread nD τ).loc main_arg1)) (m ((c : Thread nD τ).loc main_arg2)) (ix2 (gr b s) (col h d)) := by
  rw [ref_dk H hM]
  unfold kdk Qm
  simp only [m_g m c H hM, H.hq]
  rw [eighth, coe_sum]
  refine Finset.sum_congr rfl fun t _ => ?_
  rw [← EReal.coe_mul, ← EReal.coe_mul]
  exact congrArg _ (by ring)

/-- The gradients of the values agree. -/
theorem dv_eq (b h : Fin 4) (s : Fin 2048) (d : Fin 64) :
    kdv m c b h s d = val_main_v93 (F := Ideal) (m ((c : Thread nD τ).loc main_arg0)) (m ((c : Thread nD τ).loc main_arg1)) (m ((c : Thread nD τ).loc main_arg2)) (ix2 (gr b s) (col h d)) := by
  rw [ref_dv H hM]
  unfold kdv Dm
  simp only [m_w m c H hM, H.hd]
  rw [coe_sum]
  refine Finset.sum_congr rfl fun t _ => ?_
  rw [← EReal.coe_mul]
  exact congrArg _ (by ring)

/-- The gradients of the forgetting sums, at the keys, agree. -/
theorem dck_eq (b h j : Fin 4) (l : Fin 512) :
    kdck m c b h (row j l) = val_main_v94 (F := Ideal) (m ((c : Thread nD τ).loc main_arg0)) (m ((c : Thread nD τ).loc main_arg1)) (m ((c : Thread nD τ).loc main_arg2)) (ix5 b h j 0 l) := by
  rw [ref_dck H hM]
  unfold kdck
  simp only [m_g m c H hM]
  have e : ∀ x : Fin 4, (0 - ∑ r : Fin 512, (ds (q b h) (k b h) (v b h) (dd b h) (cc b h) (row x r) (row j l) : EReal) : EReal)
      = ((-∑ r : Fin 512, ds (q b h) (k b h) (v b h) (dd b h) (cc b h) (row x r) (row j l) : ℝ) : EReal) := fun x => by
    rw [← coe_sum, zero_sub, EReal.coe_neg]
  simp only [e]
  rw [← coe_sum, Finset.sum_neg_distrib]
  refine congrArg (fun x : ℝ => ((-x : ℝ) : EReal)) ?_
  have hs := Cert.FoxV.sum_chunks (fun t => (ds (q b h) (k b h) (v b h) (dd b h) (cc b h) t (row j l) : EReal))
  simp only [← coe_sum] at hs
  exact EReal.coe_injective hs

/-- The gradients of the forgetting sums, at the queries, agree. -/
theorem dcq_eq (b h : Fin 4) (t : Fin 2048) :
    kdcq m c b h t = val_main_v95 (F := Ideal) (m ((c : Thread nD τ).loc main_arg0)) (m ((c : Thread nD τ).loc main_arg1)) (m ((c : Thread nD τ).loc main_arg2)) (ix4 b h t 0) := by
  rw [ref_dcq H hM]
  unfold kdcq
  simp only [m_g m c H hM]
  rw [coe_sum]

end Cert.FoxS

end
-- ==== Proof.Fox.Finite.lean ====
module

public import proofs.«01_k».proof.Pre_finite
public import proofs.«01_k».proof.Proof.Fox.RefA

/-!
# The forgetting attention's gradient: the precondition

The precondition says that queries, keys, values, forgetting sums and the output's gradient are numbers, none an infinity.
-/

@[expose] public section

set_option maxRecDepth 16384
set_option maxHeartbeats 1000000

noncomputable section

namespace Cert.FoxS

open Idealize.ShloMosaic Idealize.ShloMosaic.TcCoe Idealize.SL.Sem

open Cert.FoxV (gr gc col row)
open Cert.Pre_finite (S8192x7168 S4x4x2048 S8192x256)

/-- The shapes the precondition's operations need. -/
theorem facts : Cert.Pre_finite.Facts where
  slices_S8192x7168_S8192x768_0_4096 := by decide
  bitsLt_bf16_f32 := by decide
  bcast_S_S8192x768 := by decide
  bcast_S_S4x4x2048 := by decide
  bcast_S_S8192x256 := by decide

attribute [local instance] facts

theorem pos_inf : Ideal.ofBits FTy.f32 2139095040#32 = ⊤ := by
  simp [Ideal.ofBits, Ideal.ieee]

/-- Both comparisons hold of a number only. -/
theorem real_of_cmp (x : EReal) (h : IntOp.andi (BitVec.ofBool (decide (Ideal.ofBits FTy.f32 4286578688#32 < x)))
    (BitVec.ofBool (decide (x < Ideal.ofBits FTy.f32 2139095040#32))) = 1#1) : ∃ r : ℝ, x = (r : EReal) := by
  rw [neg_inf, pos_inf] at h
  by_cases h1 : ⊥ < x
  · by_cases h2 : x < ⊤
    · exact ⟨_, (EReal.coe_toReal h2.ne h1.ne').symm⟩
    · rw [decide_eq_false h2, decide_eq_true h1] at h
      exact absurd h (by decide)
  · rw [decide_eq_false h1] at h
    generalize decide (x < ⊤) = z at h
    cases z <;> exact absurd h (by decide)

variable (P : FVec Ideal S8192x7168 .bf16) (C : FVec Ideal S4x4x2048 .f32) (D : FVec Ideal S8192x256 .bf16)

theorem fin0 (h : (Cert.Pre_finite.fn (F := Ideal) P C D).1 = fun _ => 1#1) (r : Fin 8192) (y : Fin 768) :
    ∃ x : ℝ, (P (ix2 r ⟨4096 + y.val, by omega⟩) : EReal) = (x : EReal) := by
  refine real_of_cmp _ ?_
  refine Eq.trans ?_ (congrFun h (ix2 r y))
  unfold Cert.Pre_finite.fn
  pointwise

theorem fin1 (h : (Cert.Pre_finite.fn (F := Ideal) P C D).2.1 = fun _ => 1#1) (b k : Fin 4) (t : Fin 2048) :
    ∃ x : ℝ, (C (ix3 b k t) : EReal) = (x : EReal) := by
  refine real_of_cmp _ ?_
  refine Eq.trans ?_ (congrFun h (ix3 b k t))
  unfold Cert.Pre_finite.fn
  pointwise

theorem fin2 (h : (Cert.Pre_finite.fn (F := Ideal) P C D).2.2 = fun _ => 1#1) (r : Fin 8192) (y : Fin 256) :
    ∃ x : ℝ, (D (ix2 r y) : EReal) = (x : EReal) := by
  refine real_of_cmp _ ?_
  refine Eq.trans ?_ (congrFun h (ix2 r y))
  unfold Cert.Pre_finite.fn
  pointwise

/-- Under the precondition the arguments that the call reads are numbers. -/
theorem reals (h0 : (Cert.Pre_finite.fn (F := Ideal) P C D).1 = fun _ => 1#1)
    (h1 : (Cert.Pre_finite.fn (F := Ideal) P C D).2.1 = fun _ => 1#1)
    (h2 : (Cert.Pre_finite.fn (F := Ideal) P C D).2.2 = fun _ => 1#1) :
    ∃ q k v dd cc, Reals P C D q k v dd cc := by
  have hp : ∀ n : Fin 3, ∀ b h t d, ∃ x : ℝ, (P (ix2 (gr b t) (gc n (col h d))) : EReal) = (x : EReal) := fun n b h t d => by
    obtain ⟨x, hx⟩ := fin0 P C D h0 (gr b t) ⟨256 * n.val + (col h d).val, by have := (col h d).isLt; omega⟩
    refine ⟨x, Eq.trans (congrArg (fun y : Fin 7168 => (P (ix2 (gr b t) y) : EReal)) (Fin.ext ?_)) hx⟩
    show 4096 + 256 * n.val + (col h d).val = 4096 + (256 * n.val + (col h d).val)
    omega
  have hd : ∀ b h t d, ∃ x : ℝ, (D (ix2 (gr b t) (col h d)) : EReal) = (x : EReal) := fun b h t d => fin2 P C D h2 _ _
  have hc := fin1 P C D h1
  choose p hp using hp
  choose dd hd using hd
  choose cc hc using hc
  exact ⟨p 0, p 1, p 2, dd, cc, hp 0, hp 1, hp 2, hd, hc⟩

end Cert.FoxS

end
-- ==== Proof.Fox.Algebraic.lean ====
module

public import proofs.«01_k».proof.Defs
public import proofs.«01_k».proof.Proof.Gen.FoxIdeal.Value
public import proofs.«01_k».proof.Proof.Fox.Agree
public import proofs.«01_k».proof.Proof.Fox.Finite

@[expose] public section

set_option maxRecDepth 16384
set_option maxHeartbeats 1000000

noncomputable section

namespace Cert.FoxV

open Cert.FoxIdeal Cert.FoxIdeal.Gen Idealize.ShloMosaic Idealize.ShloMosaic.TcCoe Idealize.SL.Sem

/-! The forgetting attention's backward call returns the derivative of the attention: both programs end at the same five arrays. -/

open Cert.FoxS (Reals)

theorem algebraic : Cert.algebraic_FoxIdeal_FoxRefIdeal_pre_finite (hFoxIdeal := Cert.FoxIdeal.Gen.facts)
    (hFoxRefIdeal := Cert.FoxRefIdeal.Gen.facts) (hPre_finite := Cert.FoxS.facts) := by
  intro m g m' g' hpre hagree
  refine ⟨fun c => fun i : S8192x256.Idx => kdq m c (bq (i 0)) (hq (i 1)) (tq (i 0)) (eq (i 1)),
    fun c => fun i : S8192x256.Idx => kdk m c (bq (i 0)) (hq (i 1)) (tq (i 0)) (eq (i 1)),
    fun c => fun i : S8192x256.Idx => kdv m c (bq (i 0)) (hq (i 1)) (tq (i 0)) (eq (i 1)),
    fun c => fun i : S4x4x4x1x512.Idx => kdck m c (i 0) (i 1) (row (i 2) (i 4)),
    fun c => fun i : S4x4x2048x1.Idx => kdcq m c (i 0) (i 1) (i 2), ?_, ?_⟩
  · refine (θ_run _ _ _).mono (fun r h c => ?_) (Value.run_blocks m g)
    obtain ⟨h0, h1, h2, h3, h4, hargs⟩ := h c
    exact ⟨h0.trans (arr_dq m c), h1.trans (arr_dk m c), h2.trans (arr_dv m c), h3.trans (arr_dck m c), h4.trans (arr_dcq m c), hargs⟩
  · refine (θ_run _ _ _).mono (fun r h c => ?_) (Cert.FoxRefIdeal.Value.run m' g')
    obtain ⟨h0, h1, h2, h3, h4, hargs⟩ := h c
    obtain ⟨e0, e1, e2⟩ := hagree c
    obtain ⟨p0, p1, p2⟩ := hpre c
    obtain ⟨q, k, v, dd, cc, H⟩ := Cert.FoxS.reals _ _ _ p0 p1 p2
    obtain ⟨M, hM⟩ := Cert.FoxS.r_max H
    refine ⟨h0.trans ?_, h1.trans ?_, h2.trans ?_, h3.trans ?_, h4.trans ?_, hargs⟩ <;> clear h0 h1 h2 h3 h4 hargs p0 p1 p2
    · refine (Cert.FoxRefIdeal.Read.val_main_v89_eq (F := Ideal) m' c).trans ?_
      rw [e0, e1, e2]
      funext i
      idx_vars i
      obtain ⟨b, t, rfl⟩ := gr_surj i0
      obtain ⟨h, d, rfl⟩ := col_surj i1
      refine (Cert.FoxS.dq_eq m c H hM b h t d).symm.trans ?_
      show kdq m c b h t d = kdq m c (bq (gr b t)) (hq (col h d)) (tq (gr b t)) (eq (col h d))
      rw [bq_gr, tq_gr, hq_col, eq_col]
    · refine (Cert.FoxRefIdeal.Read.val_main_v91_eq (F := Ideal) m' c).trans ?_
      rw [e0, e1, e2]
      funext i
      idx_vars i
      obtain ⟨b, t, rfl⟩ := gr_surj i0
      obtain ⟨h, d, rfl⟩ := col_surj i1
      refine (Cert.FoxS.dk_eq m c H hM b h t d).symm.trans ?_
      show kdk m c b h t d = kdk m c (bq (gr b t)) (hq (col h d)) (tq (gr b t)) (eq (col h d))
      rw [bq_gr, tq_gr, hq_col, eq_col]
    · refine (Cert.FoxRefIdeal.Read.val_main_v93_eq (F := Ideal) m' c).trans ?_
      rw [e0, e1, e2]
      funext i
      idx_vars i
      obtain ⟨b, t, rfl⟩ := gr_surj i0
      obtain ⟨h, d, rfl⟩ := col_surj i1
      refine (Cert.FoxS.dv_eq m c H hM b h t d).symm.trans ?_
      show kdv m c b h t d = kdv m c (bq (gr b t)) (hq (col h d)) (tq (gr b t)) (eq (col h d))
      rw [bq_gr, tq_gr, hq_col, eq_col]
    · refine (Cert.FoxRefIdeal.Read.val_main_v94_eq (F := Ideal) m' c).trans ?_
      rw [e0, e1, e2]
      funext i
      idx_vars i
      obtain rfl : i3 = 0 := Subsingleton.elim _ _
      exact (Cert.FoxS.dck_eq m c H hM i0 i1 i2 i4).symm
    · refine (Cert.FoxRefIdeal.Read.val_main_v95_eq (F := Ideal) m' c).trans ?_
      rw [e0, e1, e2]
      funext i
      idx_vars i
      obtain rfl : i3 = 0 := Subsingleton.elim _ _
      exact (Cert.FoxS.dcq_eq m c H hM i0 i1 i2).symm

end Cert.FoxV

end
-- ==== Proof.Rest.Rms.lean ====
module
public import proofs.«01_k».proof.Defs
public import Idealize.ShloMosaic.Lib.Quiescent
public import proofs.«01_k».proof.Proof.Gen.RmsIdeal.Value
public import proofs.«01_k».proof.Proof.Gen.RmsRefIdeal.Read
public import Idealize.ShloMosaic.Lib.Pipeline.ValueKit
@[expose] public section
set_option maxRecDepth 16384
set_option maxHeartbeats 4000000
noncomputable section
namespace Cert.RmsV
open Cert.RmsIdeal Cert.RmsIdeal.Gen Idealize.ShloMosaic Idealize.ShloMosaic.TcCoe Idealize.SL.Sem
variable (m : (ℓ : Loc nD τ sig) → Buf (Elt Ideal) ℓ)

/-! The backward pass of the RMS norm `n = x · r · g` with `r = (mean x² + ε)^(-1/2)` taken row by row, and the residual's
gradient added. A point's block is 512 rows; the gain's gradient is one row that every point adds to. -/

section spec
variable (h : S8192x1024.Idx → EReal) (w : S4x1024.Idx → EReal) (d e : S8192x1024.Idx → EReal)

/-- The row's mean square plus `ε`. -/
def ms (r : Fin 8192) : EReal := Ideal.div (∑ k : Fin 1024, h (ix2 r k) * h (ix2 r k)) (Ideal.ofBits .f32 0x44800000#32) + Ideal.ofBits .f32 0x358637BD#32

/-- The gradient of the scaled row. -/
def dn (r : Fin 8192) (l : Fin 1024) : EReal := d (ix2 r l) * w (ix2 0 l)

/-- Half of the gradient's part along the row: what the mean square's derivative contributes to each factor of `x · x`. -/
def along (r : Fin 8192) : EReal :=
  Ideal.div ((∑ k : Fin 1024, h (ix2 r k) * dn w d r k) * (Ideal.ofBits .f32 0xBF000000#32 * Ideal.div (Ideal.rsqrt (ms h r)) (ms h r)))
    (Ideal.ofBits .f32 0x44800000#32)

/-- The gradient of the input, with the residual's added. -/
def dx (r : Fin 8192) (l : Fin 1024) : EReal :=
  dn w d r l * Ideal.rsqrt (ms h r) + h (ix2 r l) * along h w d r + along h w d r * h (ix2 r l) + e (ix2 r l)

/-- One row's contribution to the gradient of the gain. -/
def dgr (r : Fin 8192) (l : Fin 1024) : EReal := h (ix2 r l) * Ideal.rsqrt (ms h r) * d (ix2 r l)

/-- The gradient of the gain. -/
def dg (l : Fin 1024) : EReal := ∑ r : Fin 8192, dgr h d r l

end spec

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- Row `a` of point `t`'s block. -/
def row (t : Fin cfg0.N) (a : Fin 512) : Fin 8192 :=
  ⟨512 * t.val + a.val, by have := lt_of_lt_of_eq t.isLt (show cfg0.N = 16 from N_0); omega⟩

theorem blk_h (c : Dev nD) (t : Fin cfg0.N) (a : Fin 512) (l : Fin 1024) :
    iblk m c 0 t (ix2 a l) = m ((c : Thread nD τ).loc main_arg0) (ix2 (row t a) l) := by
  unfold row
  blk_ext [iblk, idx t]

theorem blk_d (c : Dev nD) (t : Fin cfg0.N) (a : Fin 512) (l : Fin 1024) :
    iblk m c 1 t (ix2 a l) = m ((c : Thread nD τ).loc main_arg2) (ix2 (row t a) l) := by
  unfold row
  blk_ext [iblk, idx t]

theorem blk_e (c : Dev nD) (t : Fin cfg0.N) (a : Fin 512) (l : Fin 1024) :
    iblk m c 2 t (ix2 a l) = m ((c : Thread nD τ).loc main_arg3) (ix2 (row t a) l) := by
  unfold row
  blk_ext [iblk, idx t]

theorem blk_w (c : Dev nD) (t : Fin cfg0.N) (u : Fin 1) (l : Fin 1024) :
    iblk m c 3 t (ix2 u l) = m ((c : Thread nD τ).loc main_arg1) (ix2 0 l) := by
  unfold iblk
  entry_read
  rw [View.read_apply, cast_eq, show ((cfg0.win 3).blk t).view.emb (ix2 u l) = (ix2 0 l : S1x1024.Idx) from by blk_ext [idx t]]
  change shapeCast S1x1024 (shapeCast S1024 (extractStridedSlice S1x1024 ![0, 0] (m ((c : Thread nD τ).loc main_arg1) : (⟨S4x1024, .f32⟩ : BufTy).Contents (Elt Ideal)) _) _) _ (ix2 0 l : S1x1024.Idx) = _
  pointwise
  blk_ext

/-- The first point is the only one at which the accumulator is reset. -/
theorem reset (t : Fin cfg0.N) (h : t.val % 16 = 0) : ¬ 1 ≤ t.val := by
  have := t.isLt; change t.val < 16 at this; omega

theorem later (t : Fin cfg0.N) (h : ¬ t.val % 16 = 0) : 1 ≤ t.val := by omega

theorem pt (c : Dev nD) (t : Fin cfg0.N) (a : Fin 512) (l : Fin 1024) : (outsAt0 m c t.val t.isLt).1 (ix2 a l)
    = dx (m ((c : Thread nD τ).loc main_arg0)) (m ((c : Thread nD τ).loc main_arg1)) (m ((c : Thread nD τ).loc main_arg2)) (m ((c : Thread nD τ).loc main_arg3)) (row t a) l := by
  by_cases h0 : t.val % 16 = 0
  · rw [outsAt0_A m c t h0 (reset t h0)]
    frame_out
    unfold_payloads
    pointwise [blk_h, blk_d, blk_e, blk_w]
    simp only [Fin.sum_univ_one]
    rfl
  · rw [outsAt0_B m c t h0 (later t h0)]
    frame_out
    unfold_payloads
    pointwise [blk_h, blk_d, blk_e, blk_w]
    simp only [Fin.sum_univ_one]
    rfl

theorem arr_dx (c : Dev nD) : (dats m 0 c).arrAt 4 cfg0.N = fun i : S8192x1024.Idx =>
    dx (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  idx_vars y
  rw [after0_4, show ((cfg0.win 4).blk t).view.emb (ix2 y0 y1) = (ix2 (row t y0) y1 : S8192x1024.Idx) from by unfold row; blk_ext [idx t]]
  exact pt m c t y0 y1

/-- The 8192 rows are 16 blocks of 512. -/
theorem sum_rows (f : Fin 8192 → EReal) : ∑ t : Fin cfg0.N, ∑ a : Fin 512, f (row t a) = ∑ r : Fin 8192, f r := by
  refine Fin.sum_mul_add_congr (S := 16) (n := 512) fun s k hl => congrArg f (Fin.ext ?_)
  change 512 * s.val + k.val = s.val * 512 + k.val
  omega

theorem acc_reset (c : Dev nD) (t : Fin cfg0.N) (h0 : t.val % 16 = 0) (u : Fin 1) (l : Fin 1024) : (outsAt0 m c t.val t.isLt).2 (ix2 u l)
    = 0 + ∑ a : Fin 512, dgr (m ((c : Thread nD τ).loc main_arg0)) (m ((c : Thread nD τ).loc main_arg2)) (row t a) l := by
  rw [outsAt0_A m c t h0 (reset t h0)]
  frame_out
  unfold_payloads
  pointwise [blk_h, blk_d]
  rfl

theorem acc_step (c : Dev nD) (t : Fin cfg0.N) (h0 : ¬ t.val % 16 = 0) (u : Fin 1) (l : Fin 1024) : (outsAt0 m c t.val t.isLt).2 (ix2 u l)
    = (outsAt0 m c (t.val - 1) (Nat.lt_of_le_of_lt (Nat.sub_le _ _) t.isLt)).2 (ix2 u l)
      + ∑ a : Fin 512, dgr (m ((c : Thread nD τ).loc main_arg0)) (m ((c : Thread nD τ).loc main_arg2)) (row t a) l := by
  rw [outsAt0_B m c t h0 (later t h0)]
  frame_out
  unfold_payloads
  pointwise [blk_h, blk_d]
  rfl

theorem arr_dg (c : Dev nD) : (dats m 0 c).arrAt 5 cfg0.N = fun i : S1x1024.Idx =>
    dg (m ((c : Thread nD τ).loc main_arg0)) (m ((c : Thread nD τ).loc main_arg2)) (i 1) := by
  refine (dats m 0 c).arrAt_eq_of_covers 5 _ (by decide +kernel) fun t hf y => ?_
  have ht : t.val + 1 = cfg0.N := by
    have := (flush0_5 t).mp hf; have h := t.isLt; change t.val < 16 at h; change t.val + 1 = 16; omega
  idx_vars y
  rw [after0_5, show ((cfg0.win 5).blk t).view.emb (ix2 y0 y1) = (ix2 y0 y1 : S1x1024.Idx) from by blk_ext [idx t]]
  have key := Pipeline.eq_sum_fin_of_reset_step_apply_last (fun n h (i : Fin 1 × Fin 1024) => ((outsAt0 m c n h).2 (ix2 i.1 i.2) : EReal)) 16 (fun _ => 0)
    (fun t i => ∑ a : Fin 512, dgr (m ((c : Thread nD τ).loc main_arg0)) (m ((c : Thread nD τ).loc main_arg2)) (row t a) i.2)
    (fun t h i => acc_reset m c t h i.1 i.2) (fun t h i => acc_step m c t h i.1 i.2) (by decide) t ht (y0, y1)
  refine Eq.trans ?_ (key.trans ?_)
  · rfl
  · rw [zero_add]
    exact sum_rows fun r => dgr (m ((c : Thread nD τ).loc main_arg0)) (m ((c : Thread nD τ).loc main_arg2)) r y1

section
variable (x : (⟨S8192x1024, .f32⟩ : BufTy).Contents (Elt Ideal)) (w : (⟨S4x1024, .f32⟩ : BufTy).Contents (Elt Ideal))
  (d : (⟨S8192x1024, .bf16⟩ : BufTy).Contents (Elt Ideal)) (e : (⟨S8192x1024, .f32⟩ : BufTy).Contents (Elt Ideal))
open Cert.RmsRefIdeal.Read

theorem ref_ms (r : Fin 8192) (u : Fin 1) : val_main_v8 (F := Ideal) x (ix2 r u) = ms x r := by
  unfold val_main_v8 val_main_v7 val_main_v6 val_main_v5 val_main_v4 val_main_v3 val_main_v2 val_main_cst val_main_cst_0 val_main_cst_1
  pointwise
  rfl

theorem ref_dn (r : Fin 8192) (l : Fin 1024) : val_main_v23 (F := Ideal) w d (ix2 r l) = dn w d r l := by
  unfold val_main_v23 val_main_v22 val_main_v18 val_main_v15 val_main_v1 val_main_v0
  pointwise
  rfl

theorem ref_along (r : Fin 8192) (l : Fin 1024) : val_main_v35 (F := Ideal) x w d (ix2 r l) = along x w d r := by
  unfold val_main_v35 val_main_v34 val_main_v33 val_main_v32 val_main_v31 val_main_v27 val_main_v26 val_main_v25 val_main_v12 val_main_v11
    val_main_v10 val_main_v9 val_main_cst_2 val_main_cst_5 val_main_cst_6 val_main_cst_7
  pointwise [ref_ms, ref_dn]
  exact Fin.sum_univ_one _

theorem ref_dx (r : Fin 8192) (l : Fin 1024) : val_main_v39 (F := Ideal) x w d e (ix2 r l) = dx x w d e r l := by
  unfold val_main_v39 val_main_v38 val_main_v37 val_main_v36 val_main_v30 val_main_v29 val_main_v28 val_main_v9
  pointwise [ref_ms, ref_dn, ref_along]
  unfold dx
  ac_rfl

theorem ref_dg (u : Fin 1) (l : Fin 1024) : val_main_v40 (F := Ideal) x d (ix2 u l) = dg x d l := by
  unfold val_main_v40 val_main_v24 val_main_v21 val_main_v20 val_main_v19 val_main_v18 val_main_v14 val_main_v13 val_main_v9 val_main_cst_3 val_main_cst_4
  pointwise [ref_ms]
  exact Fin.sum_univ_one _

end

/-- Two arrays agree when they do so at every row and column. -/
theorem ext2 {n k : ℕ} {α : Type} {x : (⟨2, ![n, k]⟩ : Shape).Idx → α} {f : Fin n → Fin k → α} (h : ∀ r l, x (ix2 r l) = f r l) :
    x = fun i => f (i 0) (i 1) := by
  funext i
  have e : i = ix2 (i 0) (i 1) := by funext a; fin_cases a <;> rfl
  exact (congrArg x e).trans (h _ _)

theorem algebraic : Cert.algebraic_RmsIdeal_RmsRefIdeal (hRmsIdeal := Cert.RmsIdeal.Gen.facts) (hRmsRefIdeal := Cert.RmsRefIdeal.Gen.facts) := by
  intro m g m' g' _ hagree
  refine ⟨fun c => fun i : S8192x1024.Idx => dx (m ((c.tc : Thread nD τ).loc main_arg0)) (m ((c.tc : Thread nD τ).loc main_arg1)) (m ((c.tc : Thread nD τ).loc main_arg2)) (m ((c.tc : Thread nD τ).loc main_arg3)) (i 0) (i 1),
    fun c => fun i : S1x1024.Idx => dg (m ((c.tc : Thread nD τ).loc main_arg0)) (m ((c.tc : Thread nD τ).loc main_arg2)) (i 1), ?_, ?_⟩
  · refine (θ_run _ _ _).mono (fun r h c => ?_) (Value.run_blocks m g)
    obtain ⟨h0, h1, hargs⟩ := h c
    exact ⟨h0.trans (arr_dx m c), h1.trans (arr_dg m c), hargs⟩
  · refine (θ_run _ _ _).mono (fun r h c => ?_) (Cert.RmsRefIdeal.Value.run m' g')
    obtain ⟨h0, h1, hargs⟩ := h c
    obtain ⟨e0, e1, e2, e3⟩ := hagree c
    refine ⟨h0.trans ?_, h1.trans ?_, hargs⟩
    · refine (Cert.RmsRefIdeal.Read.val_main_v39_eq (F := Ideal) m' c).trans ?_
      rw [e0, e1, e2, e3]
      exact ext2 fun r l => ref_dx _ _ _ _ r l
    · refine (Cert.RmsRefIdeal.Read.val_main_v40_eq (F := Ideal) (m' ((c.tc : Thread Cert.RmsRefIdeal.nD Cert.RmsRefIdeal.τ).loc Cert.RmsRefIdeal.main_arg0))
        (m' ((c.tc : Thread Cert.RmsRefIdeal.nD Cert.RmsRefIdeal.τ).loc Cert.RmsRefIdeal.main_arg2))).trans ?_
      rw [e0, e2]
      exact ext2 fun u l => ref_dg _ _ u l

/-- The run of the reference, read at its arguments. The program declares no semaphores, so all counters are zero. -/
theorem frame_ref : Cert.quiescent_RmsRefIdeal (hRmsRefIdeal := Cert.RmsRefIdeal.Gen.facts) := fun m ρ _ =>
  (θ_run Cert.RmsRefIdeal.defs _ _).mono
    (fun r h => ⟨fun c => (h c).2.2, sem_eq_zero_of_no_sems (by decide) r.2⟩)
    (Cert.RmsRefIdeal.Value.run (F := Ideal) m ρ)

end Cert.RmsV
end
-- ==== Proof.Rest.AdamSpec.lean ====
module
public import proofs.«01_k».proof.Defs
public import Idealize.ShloMosaic.Lib.Quiescent
public import Idealize.ShloMosaic.Lib.Pipeline.ValueKit
@[expose] public section
noncomputable section
namespace Cert.AdamS
open Idealize.ShloMosaic Idealize.ShloMosaic.TcCoe Idealize.SL.Sem

/-! AdamW's step at one entry, from the parameter `p`, its gradient `g` and the two moments `m` and `v`. The constants are
those of the programs, as 32-bit floats: `β₁`, `1 − β₁`, `β₂`, `1 − β₂`, the two bias corrections, `ε`, the weight decay and the
negated learning rate. -/

/-- The first moment after the step: `β₁ m + (1 − β₁) g`. -/
def mom (g m : EReal) : EReal := Ideal.ofBits .f32 0x3F666666#32 * m + Ideal.ofBits .f32 0x3DCCCCCD#32 * g

/-- The second moment after the step: `β₂ v + (1 − β₂) g²`. -/
def var (g v : EReal) : EReal := Ideal.ofBits .f32 0x3F7FBE77#32 * v + Ideal.ofBits .f32 0x3A83126F#32 * (g * g)

/-- The change of the parameter: `−lr (m̂ / (√v̂ + ε) + wd p)`, the moments divided by their bias corrections. -/
def delta (p g m v : EReal) : EReal :=
  Ideal.ofBits .f32 0xBA83126F#32 *
    (Ideal.div (Ideal.div (mom g m) (Ideal.ofBits .f32 0x3F26BD02#32))
        (Ideal.sqrt (Ideal.div (var g v) (Ideal.ofBits .f32 0x3C231ACC#32)) + Ideal.ofBits .f32 0x322BCC77#32)
      + Ideal.ofBits .f32 0x3C23D70A#32 * p)

/-- The same on arrays of any shape. -/
def moms {S : Shape} (g m : S.Idx → EReal) : S.Idx → EReal := fun i => mom (g i) (m i)
def vars {S : Shape} (g v : S.Idx → EReal) : S.Idx → EReal := fun i => var (g i) (v i)
def deltas {S : Shape} (p g m v : S.Idx → EReal) : S.Idx → EReal := fun i => delta (p i) (g i) (m i) (v i)

end Cert.AdamS
end
-- ==== Proof.Rest.AdamGu.lean ====
module
public import proofs.«01_k».proof.Proof.Gen.AdamGuIdeal.Value
public import proofs.«01_k».proof.Proof.Gen.AdamGuRefIdeal.Read
public import proofs.«01_k».proof.Proof.Rest.AdamSpec
@[expose] public section
set_option maxRecDepth 16384
noncomputable section
namespace Cert.AdamGuV
open Cert.AdamGuIdeal Cert.AdamGuIdeal.Gen Idealize.ShloMosaic Idealize.ShloMosaic.TcCoe Idealize.SL.Sem Cert.AdamS
variable (m : (ℓ : Loc nD τ sig) → Buf (Elt Ideal) ℓ)

/-! The optimiser's step on stacked arrays laid out as matrices of 4096 rows and 1408 columns. A point's block is 256 rows by all columns. -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `a` of point `t`'s block, in the matrix. -/
def row (t : Fin cfg0.N) (a : Fin 256) : Fin 4096 :=
  ⟨256 * t.val + a.val, by have := lt_of_lt_of_eq t.isLt (show cfg0.N = 16 from N_0); omega⟩

/-- A stacked array as a matrix. -/
def flat (x : S4x1024x1408.Idx → EReal) : S4096x1408.Idx → EReal := shapeCast S4096x1408 x shapeCasts_S4x1024x1408_S4096x1408

/-- The four arguments as matrices: parameter, gradient, first and second moment. -/
def P (c : Dev nD) := flat (m ((c : Thread nD τ).loc main_arg0))
def G (c : Dev nD) := flat (m ((c : Thread nD τ).loc main_arg1))
def M (c : Dev nD) := flat (m ((c : Thread nD τ).loc main_arg2))
def U (c : Dev nD) := flat (m ((c : Thread nD τ).loc main_arg3))

/-- The blocks that a point reads. -/
theorem blk (c : Dev nD) (t : Fin cfg0.N) (a : Fin 256) (b : Fin 1408) : iblk m c 0 t (ix2 a b) = P m c (ix2 (row t a) b)
    ∧ iblk m c 1 t (ix2 a b) = G m c (ix2 (row t a) b) ∧ iblk m c 2 t (ix2 a b) = M m c (ix2 (row t a) b)
    ∧ iblk m c 3 t (ix2 a b) = U m c (ix2 (row t a) b) := by
  unfold iblk
  refine ⟨?_, ?_, ?_, ?_⟩
  all_goals
    entry_read
    rw [View.read_apply, cast_eq]
    refine congrArg _ (?_ : _ = (ix2 (row t a) b : S4096x1408.Idx))
    unfold row
    blk_ext [idx t]

/-- The blocks that a point computes. -/
theorem pt (c : Dev nD) (t : Fin cfg0.N) (a : Fin 256) (b : Fin 1408) :
    out0_4 (iblk m c 0 t) (iblk m c 1 t) (iblk m c 2 t) (iblk m c 3 t) (ix2 a b) = deltas (P m c) (G m c) (M m c) (U m c) (ix2 (row t a) b)
    ∧ out0_5 (iblk m c 0 t) (iblk m c 1 t) (iblk m c 2 t) (iblk m c 3 t) (ix2 a b) = moms (G m c) (M m c) (ix2 (row t a) b)
    ∧ out0_6 (iblk m c 0 t) (iblk m c 1 t) (iblk m c 2 t) (iblk m c 3 t) (ix2 a b) = vars (G m c) (U m c) (ix2 (row t a) b) := by
  refine ⟨?_, ?_, ?_⟩
  all_goals
    frame_out
    unfold_payloads
    pointwise [(blk m c t _ _).1, (blk m c t _ _).2.1, (blk m c t _ _).2.2.1, (blk m c t _ _).2.2.2]
    rfl

/-- The kernel's three output arrays. -/
theorem arr (c : Dev nD) : (dats m 0 c).arrAt 4 cfg0.N = deltas (P m c) (G m c) (M m c) (U m c)
    ∧ (dats m 0 c).arrAt 5 cfg0.N = moms (G m c) (M m c) ∧ (dats m 0 c).arrAt 6 cfg0.N = vars (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals idx_vars y
  · rw [after0_4, show ((cfg0.win 4).blk t).view.emb (ix2 y0 y1) = (ix2 (row t y0) y1 : S4096x1408.Idx) from by unfold row; blk_ext [idx t]]
    exact Eq.trans (by generalize out0_4 (iblk m c 0 t) (iblk m c 1 t) (iblk m c 2 t) (iblk m c 3 t) = f; rfl) (pt m c t y0 y1).1
  · rw [after0_5, show ((cfg0.win 5).blk t).view.emb (ix2 y0 y1) = (ix2 (row t y0) y1 : S4096x1408.Idx) from by unfold row; blk_ext [idx t]]
    exact Eq.trans (by generalize out0_5 (iblk m c 0 t) (iblk m c 1 t) (iblk m c 2 t) (iblk m c 3 t) = f; rfl) (pt m c t y0 y1).2.1
  · rw [after0_6, show ((cfg0.win 6).blk t).view.emb (ix2 y0 y1) = (ix2 (row t y0) y1 : S4096x1408.Idx) from by unfold row; blk_ext [idx t]]
    exact Eq.trans (by generalize out0_6 (iblk m c 0 t) (iblk m c 1 t) (iblk m c 2 t) (iblk m c 3 t) = f; rfl) (pt m c t y0 y1).2.2

open Cert.AdamGuRefIdeal.Read in
/-- The reference's three results. -/
theorem ref (p g u v : (⟨S4x1024x1408, .f32⟩ : BufTy).Contents (Elt Ideal)) : val_main_v24 (F := Ideal) p g u v = deltas (flat p) (flat g) (flat u) (flat v)
    ∧ val_main_v25 (F := Ideal) g u = moms (flat g) (flat u) ∧ val_main_v26 (F := Ideal) g v = vars (flat g) (flat v) := ⟨rfl, rfl, rfl⟩

theorem algebraic : Cert.algebraic_AdamGuIdeal_AdamGuRefIdeal (hAdamGuIdeal := Cert.AdamGuIdeal.Gen.facts) (hAdamGuRefIdeal := Cert.AdamGuRefIdeal.Gen.facts) := by
  intro m g m' g' _ hagree
  refine ⟨fun c => deltas (P m c) (G m c) (M m c) (U m c), fun c => moms (G m c) (M m c), fun c => vars (G m c) (U m c), ?_, ?_⟩
  · refine (θ_run _ _ _).mono (fun r h c => ?_) (Value.run_blocks m g)
    obtain ⟨h0, h1, h2, hargs⟩ := h c
    exact ⟨h0.trans (arr m c).1, h1.trans (arr m c).2.1, h2.trans (arr m c).2.2, hargs⟩
  · refine (θ_run _ _ _).mono (fun r h c => ?_) (Cert.AdamGuRefIdeal.Value.run m' g')
    obtain ⟨h0, h1, h2, hargs⟩ := h c
    obtain ⟨e0, e1, e2, e3⟩ := hagree c
    rw [e0, e1, e2, e3] at h0
    rw [e1, e2] at h1
    rw [e1, e3] at h2
    have e := ref (m ((c.tc : Thread nD τ).loc main_arg0)) (m ((c.tc : Thread nD τ).loc main_arg1)) (m ((c.tc : Thread nD τ).loc main_arg2)) (m ((c.tc : Thread nD τ).loc main_arg3))
    exact ⟨h0.trans e.1, h1.trans e.2.1, h2.trans e.2.2, hargs⟩

/-- The run of the reference, read at its arguments. The program declares no semaphores, so all counters are zero. -/
theorem frame_ref : Cert.quiescent_AdamGuRefIdeal (hAdamGuRefIdeal := Cert.AdamGuRefIdeal.Gen.facts) := fun m ρ _ =>
  (θ_run Cert.AdamGuRefIdeal.defs _ _).mono (fun r h => ⟨fun c => (h c).2.2.2, sem_eq_zero_of_no_sems (by decide) r.2⟩)
    (Cert.AdamGuRefIdeal.Value.run (F := Ideal) m ρ)

end Cert.AdamGuV
end
-- ==== Proof.Rest.AdamDown.lean ====
module
public import proofs.«01_k».proof.Proof.Gen.AdamDownIdeal.Value
public import proofs.«01_k».proof.Proof.Gen.AdamDownRefIdeal.Read
public import proofs.«01_k».proof.Proof.Rest.AdamSpec
@[expose] public section
set_option maxRecDepth 16384
noncomputable section
namespace Cert.AdamDownV
open Cert.AdamDownIdeal Cert.AdamDownIdeal.Gen Idealize.ShloMosaic Idealize.ShloMosaic.TcCoe Idealize.SL.Sem Cert.AdamS
variable (m : (ℓ : Loc nD τ sig) → Buf (Elt Ideal) ℓ)

/-! The optimiser's step on stacked arrays laid out as matrices of 2816 rows and 1024 columns. A point's block is 256 rows by all columns. -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `a` of point `t`'s block, in the matrix. -/
def row (t : Fin cfg0.N) (a : Fin 256) : Fin 2816 :=
  ⟨256 * t.val + a.val, by have := lt_of_lt_of_eq t.isLt (show cfg0.N = 11 from N_0); omega⟩

/-- A stacked array as a matrix. -/
def flat (x : S4x704x1024.Idx → EReal) : S2816x1024.Idx → EReal := shapeCast S2816x1024 x shapeCasts_S4x704x1024_S2816x1024

/-- The four arguments as matrices: parameter, gradient, first and second moment. -/
def P (c : Dev nD) := flat (m ((c : Thread nD τ).loc main_arg0))
def G (c : Dev nD) := flat (m ((c : Thread nD τ).loc main_arg1))
def M (c : Dev nD) := flat (m ((c : Thread nD τ).loc main_arg2))
def U (c : Dev nD) := flat (m ((c : Thread nD τ).loc main_arg3))

/-- The blocks that a point reads. -/
theorem blk (c : Dev nD) (t : Fin cfg0.N) (a : Fin 256) (b : Fin 1024) : iblk m c 0 t (ix2 a b) = P m c (ix2 (row t a) b)
    ∧ iblk m c 1 t (ix2 a b) = G m c (ix2 (row t a) b) ∧ iblk m c 2 t (ix2 a b) = M m c (ix2 (row t a) b)
    ∧ iblk m c 3 t (ix2 a b) = U m c (ix2 (row t a) b) := by
  unfold iblk
  refine ⟨?_, ?_, ?_, ?_⟩
  all_goals
    entry_read
    rw [View.read_apply, cast_eq]
    refine congrArg _ (?_ : _ = (ix2 (row t a) b : S2816x1024.Idx))
    unfold row
    blk_ext [idx t]

/-- The blocks that a point computes. -/
theorem pt (c : Dev nD) (t : Fin cfg0.N) (a : Fin 256) (b : Fin 1024) :
    out0_4 (iblk m c 0 t) (iblk m c 1 t) (iblk m c 2 t) (iblk m c 3 t) (ix2 a b) = deltas (P m c) (G m c) (M m c) (U m c) (ix2 (row t a) b)
    ∧ out0_5 (iblk m c 0 t) (iblk m c 1 t) (iblk m c 2 t) (iblk m c 3 t) (ix2 a b) = moms (G m c) (M m c) (ix2 (row t a) b)
    ∧ out0_6 (iblk m c 0 t) (iblk m c 1 t) (iblk m c 2 t) (iblk m c 3 t) (ix2 a b) = vars (G m c) (U m c) (ix2 (row t a) b) := by
  refine ⟨?_, ?_, ?_⟩
  all_goals
    frame_out
    unfold_payloads
    pointwise [(blk m c t _ _).1, (blk m c t _ _).2.1, (blk m c t _ _).2.2.1, (blk m c t _ _).2.2.2]
    rfl

/-- The kernel's three output arrays. -/
theorem arr (c : Dev nD) : (dats m 0 c).arrAt 4 cfg0.N = deltas (P m c) (G m c) (M m c) (U m c)
    ∧ (dats m 0 c).arrAt 5 cfg0.N = moms (G m c) (M m c) ∧ (dats m 0 c).arrAt 6 cfg0.N = vars (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals idx_vars y
  · rw [after0_4, show ((cfg0.win 4).blk t).view.emb (ix2 y0 y1) = (ix2 (row t y0) y1 : S2816x1024.Idx) from by unfold row; blk_ext [idx t]]
    exact Eq.trans (by generalize out0_4 (iblk m c 0 t) (iblk m c 1 t) (iblk m c 2 t) (iblk m c 3 t) = f; rfl) (pt m c t y0 y1).1
  · rw [after0_5, show ((cfg0.win 5).blk t).view.emb (ix2 y0 y1) = (ix2 (row t y0) y1 : S2816x1024.Idx) from by unfold row; blk_ext [idx t]]
    exact Eq.trans (by generalize out0_5 (iblk m c 0 t) (iblk m c 1 t) (iblk m c 2 t) (iblk m c 3 t) = f; rfl) (pt m c t y0 y1).2.1
  · rw [after0_6, show ((cfg0.win 6).blk t).view.emb (ix2 y0 y1) = (ix2 (row t y0) y1 : S2816x1024.Idx) from by unfold row; blk_ext [idx t]]
    exact Eq.trans (by generalize out0_6 (iblk m c 0 t) (iblk m c 1 t) (iblk m c 2 t) (iblk m c 3 t) = f; rfl) (pt m c t y0 y1).2.2

open Cert.AdamDownRefIdeal.Read in
/-- The reference's three results. -/
theorem ref (p g u v : (⟨S4x704x1024, .f32⟩ : BufTy).Contents (Elt Ideal)) : val_main_v24 (F := Ideal) p g u v = deltas (flat p) (flat g) (flat u) (flat v)
    ∧ val_main_v25 (F := Ideal) g u = moms (flat g) (flat u) ∧ val_main_v26 (F := Ideal) g v = vars (flat g) (flat v) := ⟨rfl, rfl, rfl⟩

theorem algebraic : Cert.algebraic_AdamDownIdeal_AdamDownRefIdeal (hAdamDownIdeal := Cert.AdamDownIdeal.Gen.facts) (hAdamDownRefIdeal := Cert.AdamDownRefIdeal.Gen.facts) := by
  intro m g m' g' _ hagree
  refine ⟨fun c => deltas (P m c) (G m c) (M m c) (U m c), fun c => moms (G m c) (M m c), fun c => vars (G m c) (U m c), ?_, ?_⟩
  · refine (θ_run _ _ _).mono (fun r h c => ?_) (Value.run_blocks m g)
    obtain ⟨h0, h1, h2, hargs⟩ := h c
    exact ⟨h0.trans (arr m c).1, h1.trans (arr m c).2.1, h2.trans (arr m c).2.2, hargs⟩
  · refine (θ_run _ _ _).mono (fun r h c => ?_) (Cert.AdamDownRefIdeal.Value.run m' g')
    obtain ⟨h0, h1, h2, hargs⟩ := h c
    obtain ⟨e0, e1, e2, e3⟩ := hagree c
    rw [e0, e1, e2, e3] at h0
    rw [e1, e2] at h1
    rw [e1, e3] at h2
    have e := ref (m ((c.tc : Thread nD τ).loc main_arg0)) (m ((c.tc : Thread nD τ).loc main_arg1)) (m ((c.tc : Thread nD τ).loc main_arg2)) (m ((c.tc : Thread nD τ).loc main_arg3))
    exact ⟨h0.trans e.1, h1.trans e.2.1, h2.trans e.2.2, hargs⟩

/-- The run of the reference, read at its arguments. The program declares no semaphores, so all counters are zero. -/
theorem frame_ref : Cert.quiescent_AdamDownRefIdeal (hAdamDownRefIdeal := Cert.AdamDownRefIdeal.Gen.facts) := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

end Cert.AdamDownV
end
-- ==== Proof.Rest.AdamIn.lean ====
module
public import proofs.«01_k».proof.Proof.Gen.AdamInIdeal.Value
public import proofs.«01_k».proof.Proof.Gen.AdamInRefIdeal.Read
public import proofs.«01_k».proof.Proof.Rest.AdamSpec
@[expose] public section
set_option maxRecDepth 16384
noncomputable section
namespace Cert.AdamInV
open Cert.AdamInIdeal Cert.AdamInIdeal.Gen Idealize.ShloMosaic Idealize.ShloMosaic.TcCoe Idealize.SL.Sem Cert.AdamS
variable (m : (ℓ : Loc nD τ sig) → Buf (Elt Ideal) ℓ)

/-! The optimiser's step on stacked arrays laid out as matrices of 4096 rows and 1729 columns. A point's block is 256 rows by all columns. -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `a` of point `t`'s block, in the matrix. -/
def row (t : Fin cfg0.N) (a : Fin 256) : Fin 4096 :=
  ⟨256 * t.val + a.val, by have := lt_of_lt_of_eq t.isLt (show cfg0.N = 16 from N_0); omega⟩

/-- A stacked array as a matrix. -/
def flat (x : S4x1024x1729.Idx → EReal) : S4096x1729.Idx → EReal := shapeCast S4096x1729 x shapeCasts_S4x1024x1729_S4096x1729

/-- The four arguments as matrices: parameter, gradient, first and second moment. -/
def P (c : Dev nD) := flat (m ((c : Thread nD τ).loc main_arg0))
def G (c : Dev nD) := flat (m ((c : Thread nD τ).loc main_arg1))
def M (c : Dev nD) := flat (m ((c : Thread nD τ).loc main_arg2))
def U (c : Dev nD) := flat (m ((c : Thread nD τ).loc main_arg3))

/-- The blocks that a point reads. -/
theorem blk (c : Dev nD) (t : Fin cfg0.N) (a : Fin 256) (b : Fin 1729) : iblk m c 0 t (ix2 a b) = P m c (ix2 (row t a) b)
    ∧ iblk m c 1 t (ix2 a b) = G m c (ix2 (row t a) b) ∧ iblk m c 2 t (ix2 a b) = M m c (ix2 (row t a) b)
    ∧ iblk m c 3 t (ix2 a b) = U m c (ix2 (row t a) b) := by
  unfold iblk
  refine ⟨?_, ?_, ?_, ?_⟩
  all_goals
    entry_read
    rw [View.read_apply, cast_eq]
    refine congrArg _ (?_ : _ = (ix2 (row t a) b : S4096x1729.Idx))
    unfold row
    blk_ext [idx t]

/-- The blocks that a point computes. -/
theorem pt (c : Dev nD) (t : Fin cfg0.N) (a : Fin 256) (b : Fin 1729) :
    out0_4 (iblk m c 0 t) (iblk m c 1 t) (iblk m c 2 t) (iblk m c 3 t) (ix2 a b) = deltas (P m c) (G m c) (M m c) (U m c) (ix2 (row t a) b)
    ∧ out0_5 (iblk m c 0 t) (iblk m c 1 t) (iblk m c 2 t) (iblk m c 3 t) (ix2 a b) = moms (G m c) (M m c) (ix2 (row t a) b)
    ∧ out0_6 (iblk m c 0 t) (iblk m c 1 t) (iblk m c 2 t) (iblk m c 3 t) (ix2 a b) = vars (G m c) (U m c) (ix2 (row t a) b) := by
  refine ⟨?_, ?_, ?_⟩
  all_goals
    frame_out
    unfold_payloads
    pointwise [(blk m c t _ _).1, (blk m c t _ _).2.1, (blk m c t _ _).2.2.1, (blk m c t _ _).2.2.2]
    rfl

/-- The kernel's three output arrays. -/
theorem arr (c : Dev nD) : (dats m 0 c).arrAt 4 cfg0.N = deltas (P m c) (G m c) (M m c) (U m c)
    ∧ (dats m 0 c).arrAt 5 cfg0.N = moms (G m c) (M m c) ∧ (dats m 0 c).arrAt 6 cfg0.N = vars (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals idx_vars y
  · rw [after0_4, show ((cfg0.win 4).blk t).view.emb (ix2 y0 y1) = (ix2 (row t y0) y1 : S4096x1729.Idx) from by unfold row; blk_ext [idx t]]
    exact Eq.trans (by generalize out0_4 (iblk m c 0 t) (iblk m c 1 t) (iblk m c 2 t) (iblk m c 3 t) = f; rfl) (pt m c t y0 y1).1
  · rw [after0_5, show ((cfg0.win 5).blk t).view.emb (ix2 y0 y1) = (ix2 (row t y0) y1 : S4096x1729.Idx) from by unfold row; blk_ext [idx t]]
    exact Eq.trans (by generalize out0_5 (iblk m c 0 t) (iblk m c 1 t) (iblk m c 2 t) (iblk m c 3 t) = f; rfl) (pt m c t y0 y1).2.1
  · rw [after0_6, show ((cfg0.win 6).blk t).view.emb (ix2 y0 y1) = (ix2 (row t y0) y1 : S4096x1729.Idx) from by unfold row; blk_ext [idx t]]
    exact Eq.trans (by generalize out0_6 (iblk m c 0 t) (iblk m c 1 t) (iblk m c 2 t) (iblk m c 3 t) = f; rfl) (pt m c t y0 y1).2.2

open Cert.AdamInRefIdeal.Read in
/-- The reference's three results. -/
theorem ref (p g u v : (⟨S4x1024x1729, .f32⟩ : BufTy).Contents (Elt Ideal)) : val_main_v24 (F := Ideal) p g u v = deltas (flat p) (flat g) (flat u) (flat v)
    ∧ val_main_v25 (F := Ideal) g u = moms (flat g) (flat u) ∧ val_main_v26 (F := Ideal) g v = vars (flat g) (flat v) := ⟨rfl, rfl, rfl⟩

theorem algebraic : Cert.algebraic_AdamInIdeal_AdamInRefIdeal (hAdamInIdeal := Cert.AdamInIdeal.Gen.facts) (hAdamInRefIdeal := Cert.AdamInRefIdeal.Gen.facts) := by
  intro m g m' g' _ hagree
  refine ⟨fun c => deltas (P m c) (G m c) (M m c) (U m c), fun c => moms (G m c) (M m c), fun c => vars (G m c) (U m c), ?_, ?_⟩
  · refine (θ_run _ _ _).mono (fun r h c => ?_) (Value.run_blocks m g)
    obtain ⟨h0, h1, h2, hargs⟩ := h c
    exact ⟨h0.trans (arr m c).1, h1.trans (arr m c).2.1, h2.trans (arr m c).2.2, hargs⟩
  · refine (θ_run _ _ _).mono (fun r h c => ?_) (Cert.AdamInRefIdeal.Value.run m' g')
    obtain ⟨h0, h1, h2, hargs⟩ := h c
    obtain ⟨e0, e1, e2, e3⟩ := hagree c
    rw [e0, e1, e2, e3] at h0
    rw [e1, e2] at h1
    rw [e1, e3] at h2
    have e := ref (m ((c.tc : Thread nD τ).loc main_arg0)) (m ((c.tc : Thread nD τ).loc main_arg1)) (m ((c.tc : Thread nD τ).loc main_arg2)) (m ((c.tc : Thread nD τ).loc main_arg3))
    exact ⟨h0.trans e.1, h1.trans e.2.1, h2.trans e.2.2, hargs⟩

/-- The run of the reference, read at its arguments. The program declares no semaphores, so all counters are zero. -/
theorem frame_ref : Cert.quiescent_AdamInRefIdeal (hAdamInRefIdeal := Cert.AdamInRefIdeal.Gen.facts) := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

end Cert.AdamInV
end
-- ==== Proof.Rest.AdamBr.lean ====
module
public import proofs.«01_k».proof.Proof.Gen.AdamBrIdeal.Value
public import proofs.«01_k».proof.Proof.Gen.AdamBrRefIdeal.Read
public import proofs.«01_k».proof.Proof.Rest.AdamSpec
@[expose] public section
set_option maxRecDepth 16384
noncomputable section
namespace Cert.AdamBrV
open Cert.AdamBrIdeal Cert.AdamBrIdeal.Gen Idealize.ShloMosaic Idealize.ShloMosaic.TcCoe Idealize.SL.Sem Cert.AdamS
variable (m : (ℓ : Loc nD τ sig) → Buf (Elt Ideal) ℓ)

/-! The optimiser's step on stacked arrays laid out as matrices of 1024 rows and 256 columns. A point's block is 256 rows by all columns. -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `a` of point `t`'s block, in the matrix. -/
def row (t : Fin cfg0.N) (a : Fin 256) : Fin 1024 :=
  ⟨256 * t.val + a.val, by have := lt_of_lt_of_eq t.isLt (show cfg0.N = 4 from N_0); omega⟩

/-- A stacked array as a matrix. -/
def flat (x : S4x256x256.Idx → EReal) : S1024x256.Idx → EReal := shapeCast S1024x256 x shapeCasts_S4x256x256_S1024x256

/-- The four arguments as matrices: parameter, gradient, first and second moment. -/
def P (c : Dev nD) := flat (m ((c : Thread nD τ).loc main_arg0))
def G (c : Dev nD) := flat (m ((c : Thread nD τ).loc main_arg1))
def M (c : Dev nD) := flat (m ((c : Thread nD τ).loc main_arg2))
def U (c : Dev nD) := flat (m ((c : Thread nD τ).loc main_arg3))

/-- The blocks that a point reads. -/
theorem blk (c : Dev nD) (t : Fin cfg0.N) (a : Fin 256) (b : Fin 256) : iblk m c 0 t (ix2 a b) = P m c (ix2 (row t a) b)
    ∧ iblk m c 1 t (ix2 a b) = G m c (ix2 (row t a) b) ∧ iblk m c 2 t (ix2 a b) = M m c (ix2 (row t a) b)
    ∧ iblk m c 3 t (ix2 a b) = U m c (ix2 (row t a) b) := by
  unfold iblk
  refine ⟨?_, ?_, ?_, ?_⟩
  all_goals
    entry_read
    rw [View.read_apply, cast_eq]
    refine congrArg _ (?_ : _ = (ix2 (row t a) b : S1024x256.Idx))
    unfold row
    blk_ext [idx t]

/-- The blocks that a point computes. -/
theorem pt (c : Dev nD) (t : Fin cfg0.N) (a : Fin 256) (b : Fin 256) :
    out0_4 (iblk m c 0 t) (iblk m c 1 t) (iblk m c 2 t) (iblk m c 3 t) (ix2 a b) = deltas (P m c) (G m c) (M m c) (U m c) (ix2 (row t a) b)
    ∧ out0_5 (iblk m c 0 t) (iblk m c 1 t) (iblk m c 2 t) (iblk m c 3 t) (ix2 a b) = moms (G m c) (M m c) (ix2 (row t a) b)
    ∧ out0_6 (iblk m c 0 t) (iblk m c 1 t) (iblk m c 2 t) (iblk m c 3 t) (ix2 a b) = vars (G m c) (U m c) (ix2 (row t a) b) := by
  refine ⟨?_, ?_, ?_⟩
  all_goals
    frame_out
    unfold_payloads
    pointwise [(blk m c t _ _).1, (blk m c t _ _).2.1, (blk m c t _ _).2.2.1, (blk m c t _ _).2.2.2]
    rfl

/-- The kernel's three output arrays. -/
theorem arr (c : Dev nD) : (dats m 0 c).arrAt 4 cfg0.N = deltas (P m c) (G m c) (M m c) (U m c)
    ∧ (dats m 0 c).arrAt 5 cfg0.N = moms (G m c) (M m c) ∧ (dats m 0 c).arrAt 6 cfg0.N = vars (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals idx_vars y
  · rw [after0_4, show ((cfg0.win 4).blk t).view.emb (ix2 y0 y1) = (ix2 (row t y0) y1 : S1024x256.Idx) from by unfold row; blk_ext [idx t]]
    exact Eq.trans (by generalize out0_4 (iblk m c 0 t) (iblk m c 1 t) (iblk m c 2 t) (iblk m c 3 t) = f; rfl) (pt m c t y0 y1).1
  · rw [after0_5, show ((cfg0.win 5).blk t).view.emb (ix2 y0 y1) = (ix2 (row t y0) y1 : S1024x256.Idx) from by unfold row; blk_ext [idx t]]
    exact Eq.trans (by generalize out0_5 (iblk m c 0 t) (iblk m c 1 t) (iblk m c 2 t) (iblk m c 3 t) = f; rfl) (pt m c t y0 y1).2.1
  · rw [after0_6, show ((cfg0.win 6).blk t).view.emb (ix2 y0 y1) = (ix2 (row t y0) y1 : S1024x256.Idx) from by unfold row; blk_ext [idx t]]
    exact Eq.trans (by generalize out0_6 (iblk m c 0 t) (iblk m c 1 t) (iblk m c 2 t) (iblk m c 3 t) = f; rfl) (pt m c t y0 y1).2.2

open Cert.AdamBrRefIdeal.Read in
/-- The reference's three results. -/
theorem ref (p g u v : (⟨S4x256x256, .f32⟩ : BufTy).Contents (Elt Ideal)) : val_main_v24 (F := Ideal) p g u v = deltas (flat p) (flat g) (flat u) (flat v)
    ∧ val_main_v25 (F := Ideal) g u = moms (flat g) (flat u) ∧ val_main_v26 (F := Ideal) g v = vars (flat g) (flat v) := ⟨rfl, rfl, rfl⟩

theorem algebraic : Cert.algebraic_AdamBrIdeal_AdamBrRefIdeal (hAdamBrIdeal := Cert.AdamBrIdeal.Gen.facts) (hAdamBrRefIdeal := Cert.AdamBrRefIdeal.Gen.facts) := by
  intro m g m' g' _ hagree
  refine ⟨fun c => deltas (P m c) (G m c) (M m c) (U m c), fun c => moms (G m c) (M m c), fun c => vars (G m c) (U m c), ?_, ?_⟩
  · refine (θ_run _ _ _).mono (fun r h c => ?_) (Value.run_blocks m g)
    obtain ⟨h0, h1, h2, hargs⟩ := h c
    exact ⟨h0.trans (arr m c).1, h1.trans (arr m c).2.1, h2.trans (arr m c).2.2, hargs⟩
  · refine (θ_run _ _ _).mono (fun r h c => ?_) (Cert.AdamBrRefIdeal.Value.run m' g')
    obtain ⟨h0, h1, h2, hargs⟩ := h c
    obtain ⟨e0, e1, e2, e3⟩ := hagree c
    rw [e0, e1, e2, e3] at h0
    rw [e1, e2] at h1
    rw [e1, e3] at h2
    have e := ref (m ((c.tc : Thread nD τ).loc main_arg0)) (m ((c.tc : Thread nD τ).loc main_arg1)) (m ((c.tc : Thread nD τ).loc main_arg2)) (m ((c.tc : Thread nD τ).loc main_arg3))
    exact ⟨h0.trans e.1, h1.trans e.2.1, h2.trans e.2.2, hargs⟩

/-- The run of the reference, read at its arguments. The program declares no semaphores, so all counters are zero. -/
theorem frame_ref : Cert.quiescent_AdamBrRefIdeal (hAdamBrRefIdeal := Cert.AdamBrRefIdeal.Gen.facts) := fun m ρ _ =>
  (θ_run Cert.AdamBrRefIdeal.defs _ _).mono (fun r h => ⟨fun c => (h c).2.2.2, sem_eq_zero_of_no_sems (by decide) r.2⟩)
    (Cert.AdamBrRefIdeal.Value.run (F := Ideal) m ρ)

end Cert.AdamBrV
end
-- ==== Proof.Rest.AdamBrD.lean ====
module
public import proofs.«01_k».proof.Proof.Gen.AdamBrDIdeal.Value
public import proofs.«01_k».proof.Proof.Gen.AdamBrDRefIdeal.Read
public import proofs.«01_k».proof.Proof.Rest.AdamSpec
@[expose] public section
set_option maxRecDepth 16384
noncomputable section
namespace Cert.AdamBrDV
open Cert.AdamBrDIdeal Cert.AdamBrDIdeal.Gen Idealize.ShloMosaic Idealize.ShloMosaic.TcCoe Idealize.SL.Sem Cert.AdamS
variable (m : (ℓ : Loc nD τ sig) → Buf (Elt Ideal) ℓ)

/-! The optimiser's step on stacked arrays laid out as matrices of 2048 rows and 256 columns. A point's block is 256 rows by all columns. -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `a` of point `t`'s block, in the matrix. -/
def row (t : Fin cfg0.N) (a : Fin 256) : Fin 2048 :=
  ⟨256 * t.val + a.val, by have := lt_of_lt_of_eq t.isLt (show cfg0.N = 8 from N_0); omega⟩

/-- A stacked array as a matrix. -/
def flat (x : S4x512x256.Idx → EReal) : S2048x256.Idx → EReal := shapeCast S2048x256 x shapeCasts_S4x512x256_S2048x256

/-- The four arguments as matrices: parameter, gradient, first and second moment. -/
def P (c : Dev nD) := flat (m ((c : Thread nD τ).loc main_arg0))
def G (c : Dev nD) := flat (m ((c : Thread nD τ).loc main_arg1))
def M (c : Dev nD) := flat (m ((c : Thread nD τ).loc main_arg2))
def U (c : Dev nD) := flat (m ((c : Thread nD τ).loc main_arg3))

/-- The blocks that a point reads. -/
theorem blk (c : Dev nD) (t : Fin cfg0.N) (a : Fin 256) (b : Fin 256) : iblk m c 0 t (ix2 a b) = P m c (ix2 (row t a) b)
    ∧ iblk m c 1 t (ix2 a b) = G m c (ix2 (row t a) b) ∧ iblk m c 2 t (ix2 a b) = M m c (ix2 (row t a) b)
    ∧ iblk m c 3 t (ix2 a b) = U m c (ix2 (row t a) b) := by
  unfold iblk
  refine ⟨?_, ?_, ?_, ?_⟩
  all_goals
    entry_read
    rw [View.read_apply, cast_eq]
    refine congrArg _ (?_ : _ = (ix2 (row t a) b : S2048x256.Idx))
    unfold row
    blk_ext [idx t]

/-- The blocks that a point computes. -/
theorem pt (c : Dev nD) (t : Fin cfg0.N) (a : Fin 256) (b : Fin 256) :
    out0_4 (iblk m c 0 t) (iblk m c 1 t) (iblk m c 2 t) (iblk m c 3 t) (ix2 a b) = deltas (P m c) (G m c) (M m c) (U m c) (ix2 (row t a) b)
    ∧ out0_5 (iblk m c 0 t) (iblk m c 1 t) (iblk m c 2 t) (iblk m c 3 t) (ix2 a b) = moms (G m c) (M m c) (ix2 (row t a) b)
    ∧ out0_6 (iblk m c 0 t) (iblk m c 1 t) (iblk m c 2 t) (iblk m c 3 t) (ix2 a b) = vars (G m c) (U m c) (ix2 (row t a) b) := by
  refine ⟨?_, ?_, ?_⟩
  all_goals
    frame_out
    unfold_payloads
    pointwise [(blk m c t _ _).1, (blk m c t _ _).2.1, (blk m c t _ _).2.2.1, (blk m c t _ _).2.2.2]
    rfl

/-- The kernel's three output arrays. -/
theorem arr (c : Dev nD) : (dats m 0 c).arrAt 4 cfg0.N = deltas (P m c) (G m c) (M m c) (U m c)
    ∧ (dats m 0 c).arrAt 5 cfg0.N = moms (G m c) (M m c) ∧ (dats m 0 c).arrAt 6 cfg0.N = vars (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals idx_vars y
  · rw [after0_4, show ((cfg0.win 4).blk t).view.emb (ix2 y0 y1) = (ix2 (row t y0) y1 : S2048x256.Idx) from by unfold row; blk_ext [idx t]]
    exact Eq.trans (by generalize out0_4 (iblk m c 0 t) (iblk m c 1 t) (iblk m c 2 t) (iblk m c 3 t) = f; rfl) (pt m c t y0 y1).1
  · rw [after0_5, show ((cfg0.win 5).blk t).view.emb (ix2 y0 y1) = (ix2 (row t y0) y1 : S2048x256.Idx) from by unfold row; blk_ext [idx t]]
    exact Eq.trans (by generalize out0_5 (iblk m c 0 t) (iblk m c 1 t) (iblk m c 2 t) (iblk m c 3 t) = f; rfl) (pt m c t y0 y1).2.1
  · rw [after0_6, show ((cfg0.win 6).blk t).view.emb (ix2 y0 y1) = (ix2 (row t y0) y1 : S2048x256.Idx) from by unfold row; blk_ext [idx t]]
    exact Eq.trans (by generalize out0_6 (iblk m c 0 t) (iblk m c 1 t) (iblk m c 2 t) (iblk m c 3 t) = f; rfl) (pt m c t y0 y1).2.2

open Cert.AdamBrDRefIdeal.Read in
/-- The reference's three results. -/
theorem ref (p g u v : (⟨S4x512x256, .f32⟩ : BufTy).Contents (Elt Ideal)) : val_main_v24 (F := Ideal) p g u v = deltas (flat p) (flat g) (flat u) (flat v)
    ∧ val_main_v25 (F := Ideal) g u = moms (flat g) (flat u) ∧ val_main_v26 (F := Ideal) g v = vars (flat g) (flat v) := ⟨rfl, rfl, rfl⟩

theorem algebraic : Cert.algebraic_AdamBrDIdeal_AdamBrDRefIdeal (hAdamBrDIdeal := Cert.AdamBrDIdeal.Gen.facts) (hAdamBrDRefIdeal := Cert.AdamBrDRefIdeal.Gen.facts) := by
  intro m g m' g' _ hagree
  refine ⟨fun c => deltas (P m c) (G m c) (M m c) (U m c), fun c => moms (G m c) (M m c), fun c => vars (G m c) (U m c), ?_, ?_⟩
  · refine (θ_run _ _ _).mono (fun r h c => ?_) (Value.run_blocks m g)
    obtain ⟨h0, h1, h2, hargs⟩ := h c
    exact ⟨h0.trans (arr m c).1, h1.trans (arr m c).2.1, h2.trans (arr m c).2.2, hargs⟩
  · refine (θ_run _ _ _).mono (fun r h c => ?_) (Cert.AdamBrDRefIdeal.Value.run m' g')
    obtain ⟨h0, h1, h2, hargs⟩ := h c
    obtain ⟨e0, e1, e2, e3⟩ := hagree c
    rw [e0, e1, e2, e3] at h0
    rw [e1, e2] at h1
    rw [e1, e3] at h2
    have e := ref (m ((c.tc : Thread nD τ).loc main_arg0)) (m ((c.tc : Thread nD τ).loc main_arg1)) (m ((c.tc : Thread nD τ).loc main_arg2)) (m ((c.tc : Thread nD τ).loc main_arg3))
    exact ⟨h0.trans e.1, h1.trans e.2.1, h2.trans e.2.2, hargs⟩

/-- The run of the reference, read at its arguments. The program declares no semaphores, so all counters are zero. -/
theorem frame_ref : Cert.quiescent_AdamBrDRefIdeal (hAdamBrDRefIdeal := Cert.AdamBrDRefIdeal.Gen.facts) := fun m ρ _ =>
  (θ_run Cert.AdamBrDRefIdeal.defs _ _).mono (fun r h => ⟨fun c => (h c).2.2.2, sem_eq_zero_of_no_sems (by decide) r.2⟩)
    (Cert.AdamBrDRefIdeal.Value.run (F := Ideal) m ρ)

end Cert.AdamBrDV
end
-- ==== Proof.Rest.AdamO.lean ====
module
public import proofs.«01_k».proof.Proof.Gen.AdamOIdeal.Value
public import proofs.«01_k».proof.Proof.Gen.AdamORefIdeal.Read
public import proofs.«01_k».proof.Proof.Rest.AdamSpec
@[expose] public section
set_option maxRecDepth 16384
noncomputable section
namespace Cert.AdamOV
open Cert.AdamOIdeal Cert.AdamOIdeal.Gen Idealize.ShloMosaic Idealize.ShloMosaic.TcCoe Idealize.SL.Sem Cert.AdamS
variable (m : (ℓ : Loc nD τ sig) → Buf (Elt Ideal) ℓ)

/-! The optimiser's step on stacked arrays laid out as matrices of 1024 rows and 1024 columns. A point's block is 256 rows by all columns. -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `a` of point `t`'s block, in the matrix. -/
def row (t : Fin cfg0.N) (a : Fin 256) : Fin 1024 :=
  ⟨256 * t.val + a.val, by have := lt_of_lt_of_eq t.isLt (show cfg0.N = 4 from N_0); omega⟩

/-- A stacked array as a matrix. -/
def flat (x : S4x256x1024.Idx → EReal) : S1024x1024.Idx → EReal := shapeCast S1024x1024 x shapeCasts_S4x256x1024_S1024x1024

/-- The four arguments as matrices: parameter, gradient, first and second moment. -/
def P (c : Dev nD) := flat (m ((c : Thread nD τ).loc main_arg0))
def G (c : Dev nD) := flat (m ((c : Thread nD τ).loc main_arg1))
def M (c : Dev nD) := flat (m ((c : Thread nD τ).loc main_arg2))
def U (c : Dev nD) := flat (m ((c : Thread nD τ).loc main_arg3))

/-- The blocks that a point reads. -/
theorem blk (c : Dev nD) (t : Fin cfg0.N) (a : Fin 256) (b : Fin 1024) : iblk m c 0 t (ix2 a b) = P m c (ix2 (row t a) b)
    ∧ iblk m c 1 t (ix2 a b) = G m c (ix2 (row t a) b) ∧ iblk m c 2 t (ix2 a b) = M m c (ix2 (row t a) b)
    ∧ iblk m c 3 t (ix2 a b) = U m c (ix2 (row t a) b) := by
  unfold iblk
  refine ⟨?_, ?_, ?_, ?_⟩
  all_goals
    entry_read
    rw [View.read_apply, cast_eq]
    refine congrArg _ (?_ : _ = (ix2 (row t a) b : S1024x1024.Idx))
    unfold row
    blk_ext [idx t]

/-- The blocks that a point computes. -/
theorem pt (c : Dev nD) (t : Fin cfg0.N) (a : Fin 256) (b : Fin 1024) :
    out0_4 (iblk m c 0 t) (iblk m c 1 t) (iblk m c 2 t) (iblk m c 3 t) (ix2 a b) = deltas (P m c) (G m c) (M m c) (U m c) (ix2 (row t a) b)
    ∧ out0_5 (iblk m c 0 t) (iblk m c 1 t) (iblk m c 2 t) (iblk m c 3 t) (ix2 a b) = moms (G m c) (M m c) (ix2 (row t a) b)
    ∧ out0_6 (iblk m c 0 t) (iblk m c 1 t) (iblk m c 2 t) (iblk m c 3 t) (ix2 a b) = vars (G m c) (U m c) (ix2 (row t a) b) := by
  refine ⟨?_, ?_, ?_⟩
  all_goals
    frame_out
    unfold_payloads
    pointwise [(blk m c t _ _).1, (blk m c t _ _).2.1, (blk m c t _ _).2.2.1, (blk m c t _ _).2.2.2]
    rfl

/-- The kernel's three output arrays. -/
theorem arr (c : Dev nD) : (dats m 0 c).arrAt 4 cfg0.N = deltas (P m c) (G m c) (M m c) (U m c)
    ∧ (dats m 0 c).arrAt 5 cfg0.N = moms (G m c) (M m c) ∧ (dats m 0 c).arrAt 6 cfg0.N = vars (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals idx_vars y
  · rw [after0_4, show ((cfg0.win 4).blk t).view.emb (ix2 y0 y1) = (ix2 (row t y0) y1 : S1024x1024.Idx) from by unfold row; blk_ext [idx t]]
    exact Eq.trans (by generalize out0_4 (iblk m c 0 t) (iblk m c 1 t) (iblk m c 2 t) (iblk m c 3 t) = f; rfl) (pt m c t y0 y1).1
  · rw [after0_5, show ((cfg0.win 5).blk t).view.emb (ix2 y0 y1) = (ix2 (row t y0) y1 : S1024x1024.Idx) from by unfold row; blk_ext [idx t]]
    exact Eq.trans (by generalize out0_5 (iblk m c 0 t) (iblk m c 1 t) (iblk m c 2 t) (iblk m c 3 t) = f; rfl) (pt m c t y0 y1).2.1
  · rw [after0_6, show ((cfg0.win 6).blk t).view.emb (ix2 y0 y1) = (ix2 (row t y0) y1 : S1024x1024.Idx) from by unfold row; blk_ext [idx t]]
    exact Eq.trans (by generalize out0_6 (iblk m c 0 t) (iblk m c 1 t) (iblk m c 2 t) (iblk m c 3 t) = f; rfl) (pt m c t y0 y1).2.2

open Cert.AdamORefIdeal.Read in
/-- The reference's three results. -/
theorem ref (p g u v : (⟨S4x256x1024, .f32⟩ : BufTy).Contents (Elt Ideal)) : val_main_v24 (F := Ideal) p g u v = deltas (flat p) (flat g) (flat u) (flat v)
    ∧ val_main_v25 (F := Ideal) g u = moms (flat g) (flat u) ∧ val_main_v26 (F := Ideal) g v = vars (flat g) (flat v) := ⟨rfl, rfl, rfl⟩

theorem algebraic : Cert.algebraic_AdamOIdeal_AdamORefIdeal (hAdamOIdeal := Cert.AdamOIdeal.Gen.facts) (hAdamORefIdeal := Cert.AdamORefIdeal.Gen.facts) := by
  intro m g m' g' _ hagree
  refine ⟨fun c => deltas (P m c) (G m c) (M m c) (U m c), fun c => moms (G m c) (M m c), fun c => vars (G m c) (U m c), ?_, ?_⟩
  · refine (θ_run _ _ _).mono (fun r h c => ?_) (Value.run_blocks m g)
    obtain ⟨h0, h1, h2, hargs⟩ := h c
    exact ⟨h0.trans (arr m c).1, h1.trans (arr m c).2.1, h2.trans (arr m c).2.2, hargs⟩
  · refine (θ_run _ _ _).mono (fun r h c => ?_) (Cert.AdamORefIdeal.Value.run m' g')
    obtain ⟨h0, h1, h2, hargs⟩ := h c
    obtain ⟨e0, e1, e2, e3⟩ := hagree c
    rw [e0, e1, e2, e3] at h0
    rw [e1, e2] at h1
    rw [e1, e3] at h2
    have e := ref (m ((c.tc : Thread nD τ).loc main_arg0)) (m ((c.tc : Thread nD τ).loc main_arg1)) (m ((c.tc : Thread nD τ).loc main_arg2)) (m ((c.tc : Thread nD τ).loc main_arg3))
    exact ⟨h0.trans e.1, h1.trans e.2.1, h2.trans e.2.2, hargs⟩

/-- The run of the reference, read at its arguments. The program declares no semaphores, so all counters are zero. -/
theorem frame_ref : Cert.quiescent_AdamORefIdeal (hAdamORefIdeal := Cert.AdamORefIdeal.Gen.facts) := fun m ρ _ =>
  (θ_run Cert.AdamORefIdeal.defs _ _).mono (fun r h => ⟨fun c => (h c).2.2.2, sem_eq_zero_of_no_sems (by decide) r.2⟩)
    (Cert.AdamORefIdeal.Value.run (F := Ideal) m ρ)

end Cert.AdamOV
end
-- ==== Proof.Rest.AdamSmall.lean ====
module
public import proofs.«01_k».proof.Proof.Gen.AdamSmallIdeal.Value
public import proofs.«01_k».proof.Proof.Gen.AdamSmallRefIdeal.Read
public import proofs.«01_k».proof.Proof.Rest.AdamSpec
@[expose] public section
set_option maxRecDepth 16384
noncomputable section
namespace Cert.AdamSmallV
open Cert.AdamSmallIdeal Cert.AdamSmallIdeal.Gen Idealize.ShloMosaic Idealize.ShloMosaic.TcCoe Idealize.SL.Sem Cert.AdamS
variable (m : (ℓ : Loc nD τ sig) → Buf (Elt Ideal) ℓ)

/-! The optimiser's step for the small weights, which come packed as one matrix of 64 rows and 1024 columns. There is one point
and its block is the whole matrix. -/

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The four arguments: parameters, gradients, first and second moments. -/
def P (c : Dev nD) : S64x1024.Idx → EReal := m ((c : Thread nD τ).loc main_arg0)
def G (c : Dev nD) : S64x1024.Idx → EReal := m ((c : Thread nD τ).loc main_arg1)
def M (c : Dev nD) : S64x1024.Idx → EReal := m ((c : Thread nD τ).loc main_arg2)
def U (c : Dev nD) : S64x1024.Idx → EReal := m ((c : Thread nD τ).loc main_arg3)

/-- The blocks that a point reads. -/
theorem blk (c : Dev nD) (t : Fin cfg0.N) (a : Fin 64) (b : Fin 1024) : iblk m c 0 t (ix2 a b) = P m c (ix2 a b)
    ∧ iblk m c 1 t (ix2 a b) = G m c (ix2 a b) ∧ iblk m c 2 t (ix2 a b) = M m c (ix2 a b)
    ∧ iblk m c 3 t (ix2 a b) = U m c (ix2 a b) := by
  unfold iblk
  refine ⟨?_, ?_, ?_, ?_⟩
  all_goals rw [View.read_apply, cast_eq]
  · exact congrArg (P m c) (by blk_ext [idx t] : _ = (ix2 a b : S64x1024.Idx))
  · exact congrArg (G m c) (by blk_ext [idx t] : _ = (ix2 a b : S64x1024.Idx))
  · exact congrArg (M m c) (by blk_ext [idx t] : _ = (ix2 a b : S64x1024.Idx))
  · exact congrArg (U m c) (by blk_ext [idx t] : _ = (ix2 a b : S64x1024.Idx))

/-- The blocks that a point computes. -/
theorem pt (c : Dev nD) (t : Fin cfg0.N) (a : Fin 64) (b : Fin 1024) :
    out0_4 (iblk m c 0 t) (iblk m c 1 t) (iblk m c 2 t) (iblk m c 3 t) (ix2 a b) = deltas (P m c) (G m c) (M m c) (U m c) (ix2 a b)
    ∧ out0_5 (iblk m c 0 t) (iblk m c 1 t) (iblk m c 2 t) (iblk m c 3 t) (ix2 a b) = moms (G m c) (M m c) (ix2 a b)
    ∧ out0_6 (iblk m c 0 t) (iblk m c 1 t) (iblk m c 2 t) (iblk m c 3 t) (ix2 a b) = vars (G m c) (U m c) (ix2 a b) := by
  refine ⟨?_, ?_, ?_⟩
  all_goals
    frame_out
    unfold_payloads
    pointwise [(blk m c t _ _).1, (blk m c t _ _).2.1, (blk m c t _ _).2.2.1, (blk m c t _ _).2.2.2]
    rfl

/-- The kernel's three output arrays. -/
theorem arr (c : Dev nD) : (dats m 0 c).arrAt 4 cfg0.N = deltas (P m c) (G m c) (M m c) (U m c)
    ∧ (dats m 0 c).arrAt 5 cfg0.N = moms (G m c) (M m c) ∧ (dats m 0 c).arrAt 6 cfg0.N = vars (G m c) (U m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals idx_vars y
  · rw [after0_4, show ((cfg0.win 4).blk t).view.emb (ix2 y0 y1) = (ix2 y0 y1 : S64x1024.Idx) from by blk_ext [idx t]]
    exact Eq.trans (by generalize out0_4 (iblk m c 0 t) (iblk m c 1 t) (iblk m c 2 t) (iblk m c 3 t) = f; rfl) (pt m c t y0 y1).1
  · rw [after0_5, show ((cfg0.win 5).blk t).view.emb (ix2 y0 y1) = (ix2 y0 y1 : S64x1024.Idx) from by blk_ext [idx t]]
    exact Eq.trans (by generalize out0_5 (iblk m c 0 t) (iblk m c 1 t) (iblk m c 2 t) (iblk m c 3 t) = f; rfl) (pt m c t y0 y1).2.1
  · rw [after0_6, show ((cfg0.win 6).blk t).view.emb (ix2 y0 y1) = (ix2 y0 y1 : S64x1024.Idx) from by blk_ext [idx t]]
    exact Eq.trans (by generalize out0_6 (iblk m c 0 t) (iblk m c 1 t) (iblk m c 2 t) (iblk m c 3 t) = f; rfl) (pt m c t y0 y1).2.2

open Cert.AdamSmallRefIdeal.Read in
/-- The reference's three results. -/
theorem ref (p g u v : (⟨S64x1024, .f32⟩ : BufTy).Contents (Elt Ideal)) : val_main_v23 (F := Ideal) p g u v = deltas p g u v
    ∧ val_main_v4 (F := Ideal) g u = moms g u ∧ val_main_v10 (F := Ideal) g v = vars g v := ⟨rfl, rfl, rfl⟩

theorem algebraic : Cert.algebraic_AdamSmallIdeal_AdamSmallRefIdeal (hAdamSmallIdeal := Cert.AdamSmallIdeal.Gen.facts) (hAdamSmallRefIdeal := Cert.AdamSmallRefIdeal.Gen.facts) := by
  intro m g m' g' _ hagree
  refine ⟨fun c => deltas (P m c) (G m c) (M m c) (U m c), fun c => moms (G m c) (M m c), fun c => vars (G m c) (U m c), ?_, ?_⟩
  · refine (θ_run _ _ _).mono (fun r h c => ?_) (Value.run_blocks m g)
    obtain ⟨h0, h1, h2, hargs⟩ := h c
    exact ⟨h0.trans (arr m c).1, h1.trans (arr m c).2.1, h2.trans (arr m c).2.2, hargs⟩
  · refine (θ_run _ _ _).mono (fun r h c => ?_) (Cert.AdamSmallRefIdeal.Value.run m' g')
    obtain ⟨h0, h1, h2, hargs⟩ := h c
    obtain ⟨e0, e1, e2, e3⟩ := hagree c
    rw [e0, e1, e2, e3] at h0
    rw [e1, e2] at h1
    rw [e1, e3] at h2
    have e := ref (m ((c.tc : Thread nD τ).loc main_arg0)) (m ((c.tc : Thread nD τ).loc main_arg1)) (m ((c.tc : Thread nD τ).loc main_arg2)) (m ((c.tc : Thread nD τ).loc main_arg3))
    exact ⟨h0.trans e.1, h1.trans e.2.1, h2.trans e.2.2, hargs⟩

/-- The run of the reference, read at its arguments. The program declares no semaphores, so all counters are zero. -/
theorem frame_ref : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

end Cert.AdamSmallV
end
-- ==== Proof.lean ====
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Merge.Algebraic
public import proofs.«01_k».proof.Proof.Merge.RefFrame
public import proofs.«01_k».proof.Proof.Gen.FfnDa
public import proofs.«01_k».proof.Proof.Gen.FfnDa.Frame
public import proofs.«01_k».proof.Proof.Gen.FfnDaIdeal
public import proofs.«01_k».proof.Proof.Gen.FfnDaIdeal.Frame
public import proofs.«01_k».proof.Proof.Gen.FfnDaIdeal.Value
public import proofs.«01_k».proof.Proof.Gen.FfnDaRefIdeal
public import proofs.«01_k».proof.Proof.Gen.FfnDaRefIdeal.Run
public import proofs.«01_k».proof.Proof.Gen.FfnDaRefIdeal.Read
public import proofs.«01_k».proof.Proof.Ffn.Da
public import proofs.«01_k».proof.Proof.Gen.FfnDn
public import proofs.«01_k».proof.Proof.Gen.FfnDn.Frame
public import proofs.«01_k».proof.Proof.Gen.FfnDnIdeal
public import proofs.«01_k».proof.Proof.Gen.FfnDnIdeal.Frame
public import proofs.«01_k».proof.Proof.Gen.FfnDnIdeal.Value
public import proofs.«01_k».proof.Proof.Gen.FfnDnRefIdeal
public import proofs.«01_k».proof.Proof.Gen.FfnDnRefIdeal.Run
public import proofs.«01_k».proof.Proof.Gen.FfnDnRefIdeal.Read
public import proofs.«01_k».proof.Proof.Ffn.Dn
public import proofs.«01_k».proof.Proof.Gen.FfnDwDown
public import proofs.«01_k».proof.Proof.Gen.FfnDwDown.Frame
public import proofs.«01_k».proof.Proof.Gen.FfnDwDownIdeal
public import proofs.«01_k».proof.Proof.Gen.FfnDwDownIdeal.Frame
public import proofs.«01_k».proof.Proof.Gen.FfnDwDownIdeal.Value
public import proofs.«01_k».proof.Proof.Gen.FfnDwDownRefIdeal
public import proofs.«01_k».proof.Proof.Gen.FfnDwDownRefIdeal.Run
public import proofs.«01_k».proof.Proof.Gen.FfnDwDownRefIdeal.Read
public import proofs.«01_k».proof.Proof.Ffn.DwDown
public import proofs.«01_k».proof.Proof.Gen.FfnDwGu
public import proofs.«01_k».proof.Proof.Gen.FfnDwGu.Frame
public import proofs.«01_k».proof.Proof.Gen.FfnDwGuIdeal
public import proofs.«01_k».proof.Proof.Gen.FfnDwGuIdeal.Frame
public import proofs.«01_k».proof.Proof.Gen.FfnDwGuIdeal.Value
public import proofs.«01_k».proof.Proof.Gen.FfnDwGuRefIdeal
public import proofs.«01_k».proof.Proof.Gen.FfnDwGuRefIdeal.Run
public import proofs.«01_k».proof.Proof.Gen.FfnDwGuRefIdeal.Read
public import proofs.«01_k».proof.Proof.Ffn.DwGu
public import proofs.«01_k».proof.Proof.Gen.Du
public import proofs.«01_k».proof.Proof.Gen.Du.Frame
public import proofs.«01_k».proof.Proof.Gen.DuIdeal
public import proofs.«01_k».proof.Proof.Gen.DuIdeal.Frame
public import proofs.«01_k».proof.Proof.Gen.DuIdeal.Value
public import proofs.«01_k».proof.Proof.Gen.DuRefIdeal
public import proofs.«01_k».proof.Proof.Gen.DuRefIdeal.Run
public import proofs.«01_k».proof.Proof.Gen.DuRefIdeal.Read
public import proofs.«01_k».proof.Proof.Mix.Du
public import proofs.«01_k».proof.Proof.Gen.Dwin
public import proofs.«01_k».proof.Proof.Gen.Dwin.Frame
public import proofs.«01_k».proof.Proof.Gen.DwinIdeal
public import proofs.«01_k».proof.Proof.Gen.DwinIdeal.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.DwinRefIdeal.Read
public import proofs.«01_k».proof.Proof.Mix.Dwin
public import proofs.«01_k».proof.Proof.Gen.Dmo
public import proofs.«01_k».proof.Proof.Gen.Dmo.Frame
public import proofs.«01_k».proof.Proof.Gen.DmoIdeal
public import proofs.«01_k».proof.Proof.Gen.DmoIdeal.Frame
public import proofs.«01_k».proof.Proof.Gen.DmoIdeal.Value
public import proofs.«01_k».proof.Proof.Gen.DmoRefIdeal
public import proofs.«01_k».proof.Proof.Gen.DmoRefIdeal.Run
public import proofs.«01_k».proof.Proof.Gen.DmoRefIdeal.Read
public import proofs.«01_k».proof.Proof.Mix.Dmo
public import proofs.«01_k».proof.Proof.Gen.Dwo
public import proofs.«01_k».proof.Proof.Gen.Dwo.Frame
public import proofs.«01_k».proof.Proof.Gen.DwoIdeal
public import proofs.«01_k».proof.Proof.Gen.DwoIdeal.Frame
public import proofs.«01_k».proof.Proof.Gen.DwoIdeal.Value
public import proofs.«01_k».proof.Proof.Gen.DwoRefIdeal
public import proofs.«01_k».proof.Proof.Gen.DwoRefIdeal.Run
public import proofs.«01_k».proof.Proof.Gen.DwoRefIdeal.Read
public import proofs.«01_k».proof.Proof.Mix.Dwo
public import proofs.«01_k».proof.Proof.Gen.DyA
public import proofs.«01_k».proof.Proof.Gen.DyA.Frame
public import proofs.«01_k».proof.Proof.Gen.DyAIdeal
public import proofs.«01_k».proof.Proof.Gen.DyAIdeal.Frame
public import proofs.«01_k».proof.Proof.Gen.DyAIdeal.Value
public import proofs.«01_k».proof.Proof.Gen.DyARefIdeal
public import proofs.«01_k».proof.Proof.Gen.DyARefIdeal.Run
public import proofs.«01_k».proof.Proof.Gen.DyARefIdeal.Read
public import proofs.«01_k».proof.Proof.Mix.DyA
public import proofs.«01_k».proof.Proof.Gen.DwBrA
public import proofs.«01_k».proof.Proof.Gen.DwBrA.Frame
public import proofs.«01_k».proof.Proof.Gen.DwBrAIdeal
public import proofs.«01_k».proof.Proof.Gen.DwBrAIdeal.Frame
public import proofs.«01_k».proof.Proof.Gen.DwBrAIdeal.Value
public import proofs.«01_k».proof.Proof.Gen.DwBrARefIdeal
public import proofs.«01_k».proof.Proof.Gen.DwBrARefIdeal.Run
public import proofs.«01_k».proof.Proof.Gen.DwBrARefIdeal.Read
public import proofs.«01_k».proof.Proof.Mix.DwBrA
public import proofs.«01_k».proof.Proof.Gen.DyD
public import proofs.«01_k».proof.Proof.Gen.DyD.Frame
public import proofs.«01_k».proof.Proof.Gen.DyDIdeal
public import proofs.«01_k».proof.Proof.Gen.DyDIdeal.Frame
public import proofs.«01_k».proof.Proof.Gen.DyDIdeal.Value
public import proofs.«01_k».proof.Proof.Gen.DyDRefIdeal
public import proofs.«01_k».proof.Proof.Gen.DyDRefIdeal.Run
public import proofs.«01_k».proof.Proof.Gen.DyDRefIdeal.Read
public import proofs.«01_k».proof.Proof.Mix.DyD
public import proofs.«01_k».proof.Proof.Gen.DwBrD
public import proofs.«01_k».proof.Proof.Gen.DwBrD.Frame
public import proofs.«01_k».proof.Proof.Gen.DwBrDIdeal
public import proofs.«01_k».proof.Proof.Gen.DwBrDIdeal.Frame
public import proofs.«01_k».proof.Proof.Gen.DwBrDIdeal.Value
public import proofs.«01_k».proof.Proof.Gen.DwBrDRefIdeal
public import proofs.«01_k».proof.Proof.Gen.DwBrDRefIdeal.Run
public import proofs.«01_k».proof.Proof.Gen.DwBrDRefIdeal.Read
public import proofs.«01_k».proof.Proof.Mix.DwBrD
public import proofs.«01_k».proof.Proof.Gen.Gu
public import proofs.«01_k».proof.Proof.Gen.Gu.Frame
public import proofs.«01_k».proof.Proof.Gen.GuIdeal
public import proofs.«01_k».proof.Proof.Gen.GuIdeal.Frame
public import proofs.«01_k».proof.Proof.Gen.GuIdeal.Value
public import proofs.«01_k».proof.Proof.Gen.GuRefIdeal
public import proofs.«01_k».proof.Proof.Gen.GuRefIdeal.Run
public import proofs.«01_k».proof.Proof.Gen.GuRefIdeal.Read
public import proofs.«01_k».proof.Proof.Fwd.Gu
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Fwd.Down
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Fwd.Proj
public import proofs.«01_k».proof.Proof.Gen.BrA
public import proofs.«01_k».proof.Proof.Gen.BrA.Frame
public import proofs.«01_k».proof.Proof.Gen.BrAIdeal
public import proofs.«01_k».proof.Proof.Gen.BrAIdeal.Frame
public import proofs.«01_k».proof.Proof.Gen.BrAIdeal.Value
public import proofs.«01_k».proof.Proof.Gen.BrARefIdeal
public import proofs.«01_k».proof.Proof.Gen.BrARefIdeal.Run
public import proofs.«01_k».proof.Proof.Gen.BrARefIdeal.Read
public import proofs.«01_k».proof.Proof.Fwd.BrA
public import proofs.«01_k».proof.Proof.Gen.BrD
public import proofs.«01_k».proof.Proof.Gen.BrD.Frame
public import proofs.«01_k».proof.Proof.Gen.BrDIdeal
public import proofs.«01_k».proof.Proof.Gen.BrDIdeal.Frame
public import proofs.«01_k».proof.Proof.Gen.BrDIdeal.Value
public import proofs.«01_k».proof.Proof.Gen.BrDRefIdeal
public import proofs.«01_k».proof.Proof.Gen.BrDRefIdeal.Run
public import proofs.«01_k».proof.Proof.Gen.BrDRefIdeal.Read
public import proofs.«01_k».proof.Proof.Fwd.BrD
public import proofs.«01_k».proof.Proof.Gen.Mo
public import proofs.«01_k».proof.Proof.Gen.Mo.Frame
public import proofs.«01_k».proof.Proof.Gen.MoIdeal
public import proofs.«01_k».proof.Proof.Gen.MoIdeal.Frame
public import proofs.«01_k».proof.Proof.Gen.MoIdeal.Value
public import proofs.«01_k».proof.Proof.Gen.MoRefIdeal
public import proofs.«01_k».proof.Proof.Gen.MoRefIdeal.Run
public import proofs.«01_k».proof.Proof.Gen.MoRefIdeal.Read
public import proofs.«01_k».proof.Proof.Fwd.Mo
public import proofs.«01_k».proof.Proof.Gen.Pgl
public import proofs.«01_k».proof.Proof.Gen.Pgl.Frame
public import proofs.«01_k».proof.Proof.Gen.PglIdeal
public import proofs.«01_k».proof.Proof.Gen.PglIdeal.Frame
public import proofs.«01_k».proof.Proof.Gen.PglIdeal.Value
public import proofs.«01_k».proof.Proof.Gen.PglRefIdeal
public import proofs.«01_k».proof.Proof.Gen.PglRefIdeal.Run
public import proofs.«01_k».proof.Proof.Gen.PglRefIdeal.Read
public import proofs.«01_k».proof.Proof.Fwd.Pgl
public import proofs.«01_k».proof.Proof.Gen.Pr
public import proofs.«01_k».proof.Proof.Gen.Pr.Frame
public import proofs.«01_k».proof.Proof.Gen.PrIdeal
public import proofs.«01_k».proof.Proof.Gen.PrIdeal.Frame
public import proofs.«01_k».proof.Proof.Gen.PrIdeal.Value
public import proofs.«01_k».proof.Proof.Gen.PrRefIdeal
public import proofs.«01_k».proof.Proof.Gen.PrRefIdeal.Run
public import proofs.«01_k».proof.Proof.Gen.PrRefIdeal.Read
public import proofs.«01_k».proof.Proof.Fwd.Pr
public import proofs.«01_k».proof.Proof.Gen.Dwple
public import proofs.«01_k».proof.Proof.Gen.Dwple.Frame
public import proofs.«01_k».proof.Proof.Gen.DwpleIdeal
public import proofs.«01_k».proof.Proof.Gen.DwpleIdeal.Frame
public import proofs.«01_k».proof.Proof.Gen.DwpleIdeal.Value
public import proofs.«01_k».proof.Proof.Gen.DwpleRefIdeal
public import proofs.«01_k».proof.Proof.Gen.DwpleRefIdeal.Run
public import proofs.«01_k».proof.Proof.Gen.DwpleRefIdeal.Read
public import proofs.«01_k».proof.Proof.Mix.Dwple
public import proofs.«01_k».proof.Proof.Gen.Fox
public import proofs.«01_k».proof.Proof.Gen.FoxIdeal
public import proofs.«01_k».proof.Proof.Gen.FoxIdeal.Frame
public import proofs.«01_k».proof.Proof.Gen.FoxIdeal.Value
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.Fox.Frame
public import proofs.«01_k».proof.Proof.Fox.RefFrame
public import proofs.«01_k».proof.Proof.Fox.Algebraic
public import proofs.«01_k».proof.Proof.Gen.Rms.Frame
public import proofs.«01_k».proof.Proof.Rest.Rms
public import proofs.«01_k».proof.Proof.Gen.AdamGu.Frame
public import proofs.«01_k».proof.Proof.Rest.AdamGu
public import proofs.«01_k».proof.Proof.Gen.AdamDown.Frame
public import proofs.«01_k».proof.Proof.Rest.AdamDown
public import proofs.«01_k».proof.Proof.Gen.AdamIn.Frame
public import proofs.«01_k».proof.Proof.Rest.AdamIn
public import proofs.«01_k».proof.Proof.Gen.AdamBr.Frame
public import proofs.«01_k».proof.Proof.Rest.AdamBr
public import proofs.«01_k».proof.Proof.Gen.AdamBrD.Frame
public import proofs.«01_k».proof.Proof.Rest.AdamBrD
public import proofs.«01_k».proof.Proof.Gen.AdamO.Frame
public import proofs.«01_k».proof.Proof.Rest.AdamO
public import proofs.«01_k».proof.Proof.Gen.AdamSmall.Frame
public import proofs.«01_k».proof.Proof.Rest.AdamSmall
public import Idealize.ShloMosaic.Adequacy
public import Idealize.ShloMosaic.Init

@[expose] public section

noncomputable section

namespace Cert.Proof

open Idealize.ShloMosaic Idealize.SL.Sem

theorem claim : Cert.Claim := ⟨Cert.Merge.Gen.facts,
  Cert.MergeIdeal.Gen.facts,
  Cert.MergeRefIdeal.Gen.facts,
  Cert.FfnDa.Gen.facts,
  Cert.FfnDaIdeal.Gen.facts,
  Cert.FfnDaRefIdeal.Gen.facts,
  Cert.FfnDn.Gen.facts,
  Cert.FfnDnIdeal.Gen.facts,
  Cert.FfnDnRefIdeal.Gen.facts,
  Cert.FfnDwDown.Gen.facts,
  Cert.FfnDwDownIdeal.Gen.facts,
  Cert.FfnDwDownRefIdeal.Gen.facts,
  Cert.FfnDwGu.Gen.facts,
  Cert.FfnDwGuIdeal.Gen.facts,
  Cert.FfnDwGuRefIdeal.Gen.facts,
  Cert.Du.Gen.facts,
  Cert.DuIdeal.Gen.facts,
  Cert.DuRefIdeal.Gen.facts,
  Cert.Dwin.Gen.facts,
  Cert.DwinIdeal.Gen.facts,
  Cert.DwinRefIdeal.Gen.facts,
  Cert.Dmo.Gen.facts,
  Cert.DmoIdeal.Gen.facts,
  Cert.DmoRefIdeal.Gen.facts,
  Cert.Dwo.Gen.facts,
  Cert.DwoIdeal.Gen.facts,
  Cert.DwoRefIdeal.Gen.facts,
  Cert.DyA.Gen.facts,
  Cert.DyAIdeal.Gen.facts,
  Cert.DyARefIdeal.Gen.facts,
  Cert.DwBrA.Gen.facts,
  Cert.DwBrAIdeal.Gen.facts,
  Cert.DwBrARefIdeal.Gen.facts,
  Cert.DyD.Gen.facts,
  Cert.DyDIdeal.Gen.facts,
  Cert.DyDRefIdeal.Gen.facts,
  Cert.DwBrD.Gen.facts,
  Cert.DwBrDIdeal.Gen.facts,
  Cert.DwBrDRefIdeal.Gen.facts,
  Cert.Gu.Gen.facts,
  Cert.GuIdeal.Gen.facts,
  Cert.GuRefIdeal.Gen.facts,
  Cert.Down.Gen.facts,
  Cert.DownIdeal.Gen.facts,
  Cert.DownRefIdeal.Gen.facts,
  Cert.Proj.Gen.facts,
  Cert.ProjIdeal.Gen.facts,
  Cert.ProjRefIdeal.Gen.facts,
  Cert.BrA.Gen.facts,
  Cert.BrAIdeal.Gen.facts,
  Cert.BrARefIdeal.Gen.facts,
  Cert.BrD.Gen.facts,
  Cert.BrDIdeal.Gen.facts,
  Cert.BrDRefIdeal.Gen.facts,
  Cert.Mo.Gen.facts,
  Cert.MoIdeal.Gen.facts,
  Cert.MoRefIdeal.Gen.facts,
  Cert.Pgl.Gen.facts,
  Cert.PglIdeal.Gen.facts,
  Cert.PglRefIdeal.Gen.facts,
  Cert.Pr.Gen.facts,
  Cert.PrIdeal.Gen.facts,
  Cert.PrRefIdeal.Gen.facts,
  Cert.Dwple.Gen.facts,
  Cert.DwpleIdeal.Gen.facts,
  Cert.DwpleRefIdeal.Gen.facts,
  Cert.Rms.Gen.facts,
  Cert.RmsIdeal.Gen.facts,
  Cert.RmsRefIdeal.Gen.facts,
  Cert.AdamGu.Gen.facts,
  Cert.AdamGuIdeal.Gen.facts,
  Cert.AdamGuRefIdeal.Gen.facts,
  Cert.AdamDown.Gen.facts,
  Cert.AdamDownIdeal.Gen.facts,
  Cert.AdamDownRefIdeal.Gen.facts,
  Cert.AdamIn.Gen.facts,
  Cert.AdamInIdeal.Gen.facts,
  Cert.AdamInRefIdeal.Gen.facts,
  Cert.AdamBr.Gen.facts,
  Cert.AdamBrIdeal.Gen.facts,
  Cert.AdamBrRefIdeal.Gen.facts,
  Cert.AdamBrD.Gen.facts,
  Cert.AdamBrDIdeal.Gen.facts,
  Cert.AdamBrDRefIdeal.Gen.facts,
  Cert.AdamO.Gen.facts,
  Cert.AdamOIdeal.Gen.facts,
  Cert.AdamORefIdeal.Gen.facts,
  Cert.AdamSmall.Gen.facts,
  Cert.AdamSmallIdeal.Gen.facts,
  Cert.AdamSmallRefIdeal.Gen.facts,
  Cert.Fox.Gen.facts,
  Cert.FoxIdeal.Gen.facts,
  Cert.FoxRefIdeal.Gen.facts,
  Cert.FoxS.facts,
  fun m ρ _ => Cert.Merge.Gen.frame m ρ,
  fun m ρ _ => Cert.MergeIdeal.Gen.frame m ρ,
  Cert.MergeV.frame_ref,
  fun m ρ _ => Cert.FfnDa.Gen.frame m ρ,
  fun m ρ _ => Cert.FfnDaIdeal.Gen.frame m ρ,
  Cert.FfnDaV.frame_ref,
  fun m ρ _ => Cert.FfnDn.Gen.frame m ρ,
  fun m ρ _ => Cert.FfnDnIdeal.Gen.frame m ρ,
  Cert.FfnDnV.frame_ref,
  fun m ρ _ => Cert.FfnDwDown.Gen.frame m ρ,
  fun m ρ _ => Cert.FfnDwDownIdeal.Gen.frame m ρ,
  Cert.FfnDwDownV.frame_ref,
  fun m ρ _ => Cert.FfnDwGu.Gen.frame m ρ,
  fun m ρ _ => Cert.FfnDwGuIdeal.Gen.frame m ρ,
  Cert.FfnDwGuV.frame_ref,
  fun m ρ _ => Cert.Du.Gen.frame m ρ,
  fun m ρ _ => Cert.DuIdeal.Gen.frame m ρ,
  Cert.DuV.frame_ref,
  fun m ρ _ => Cert.Dwin.Gen.frame m ρ,
  fun m ρ _ => Cert.DwinIdeal.Gen.frame m ρ,
  Cert.DwinV.frame_ref,
  fun m ρ _ => Cert.Dmo.Gen.frame m ρ,
  fun m ρ _ => Cert.DmoIdeal.Gen.frame m ρ,
  Cert.DmoV.frame_ref,
  fun m ρ _ => Cert.Dwo.Gen.frame m ρ,
  fun m ρ _ => Cert.DwoIdeal.Gen.frame m ρ,
  Cert.DwoV.frame_ref,
  fun m ρ _ => Cert.DyA.Gen.frame m ρ,
  fun m ρ _ => Cert.DyAIdeal.Gen.frame m ρ,
  Cert.DyAV.frame_ref,
  fun m ρ _ => Cert.DwBrA.Gen.frame m ρ,
  fun m ρ _ => Cert.DwBrAIdeal.Gen.frame m ρ,
  Cert.DwBrAV.frame_ref,
  fun m ρ _ => Cert.DyD.Gen.frame m ρ,
  fun m ρ _ => Cert.DyDIdeal.Gen.frame m ρ,
  Cert.DyDV.frame_ref,
  fun m ρ _ => Cert.DwBrD.Gen.frame m ρ,
  fun m ρ _ => Cert.DwBrDIdeal.Gen.frame m ρ,
  Cert.DwBrDV.frame_ref,
  fun m ρ _ => Cert.Gu.Gen.frame m ρ,
  fun m ρ _ => Cert.GuIdeal.Gen.frame m ρ,
  Cert.GuV.frame_ref,
  fun m ρ _ => Cert.Down.Gen.frame m ρ,
  fun m ρ _ => Cert.DownIdeal.Gen.frame m ρ,
  Cert.DownV.frame_ref,
  fun m ρ _ => Cert.Proj.Gen.frame m ρ,
  fun m ρ _ => Cert.ProjIdeal.Gen.frame m ρ,
  Cert.ProjV.frame_ref,
  fun m ρ _ => Cert.BrA.Gen.frame m ρ,
  fun m ρ _ => Cert.BrAIdeal.Gen.frame m ρ,
  Cert.BrAV.frame_ref,
  fun m ρ _ => Cert.BrD.Gen.frame m ρ,
  fun m ρ _ => Cert.BrDIdeal.Gen.frame m ρ,
  Cert.BrDV.frame_ref,
  fun m ρ _ => Cert.Mo.Gen.frame m ρ,
  fun m ρ _ => Cert.MoIdeal.Gen.frame m ρ,
  Cert.MoV.frame_ref,
  fun m ρ _ => Cert.Pgl.Gen.frame m ρ,
  fun m ρ _ => Cert.PglIdeal.Gen.frame m ρ,
  Cert.PglV.frame_ref,
  fun m ρ _ => Cert.Pr.Gen.frame m ρ,
  fun m ρ _ => Cert.PrIdeal.Gen.frame m ρ,
  Cert.PrV.frame_ref,
  fun m ρ _ => Cert.Dwple.Gen.frame m ρ,
  fun m ρ _ => Cert.DwpleIdeal.Gen.frame m ρ,
  Cert.DwpleV.frame_ref,
  fun m ρ _ => Cert.Rms.Gen.frame m ρ,
  fun m ρ _ => Cert.RmsIdeal.Gen.frame m ρ,
  Cert.RmsV.frame_ref,
  fun m ρ _ => Cert.AdamGu.Gen.frame m ρ,
  fun m ρ _ => Cert.AdamGuIdeal.Gen.frame m ρ,
  Cert.AdamGuV.frame_ref,
  fun m ρ _ => Cert.AdamDown.Gen.frame m ρ,
  fun m ρ _ => Cert.AdamDownIdeal.Gen.frame m ρ,
  Cert.AdamDownV.frame_ref,
  fun m ρ _ => Cert.AdamIn.Gen.frame m ρ,
  fun m ρ _ => Cert.AdamInIdeal.Gen.frame m ρ,
  Cert.AdamInV.frame_ref,
  fun m ρ _ => Cert.AdamBr.Gen.frame m ρ,
  fun m ρ _ => Cert.AdamBrIdeal.Gen.frame m ρ,
  Cert.AdamBrV.frame_ref,
  fun m ρ _ => Cert.AdamBrD.Gen.frame m ρ,
  fun m ρ _ => Cert.AdamBrDIdeal.Gen.frame m ρ,
  Cert.AdamBrDV.frame_ref,
  fun m ρ _ => Cert.AdamO.Gen.frame m ρ,
  fun m ρ _ => Cert.AdamOIdeal.Gen.frame m ρ,
  Cert.AdamOV.frame_ref,
  fun m ρ _ => Cert.AdamSmall.Gen.frame m ρ,
  fun m ρ _ => Cert.AdamSmallIdeal.Gen.frame m ρ,
  Cert.AdamSmallV.frame_ref,
  fun m ρ _ => Cert.Fox.Gen.frame m ρ,
  fun m ρ _ => Cert.FoxIdeal.Gen.frame m ρ,
  fun m ρ _ => Cert.FoxIdeal.Gen.frame m ρ,
  Cert.FoxV.frame_ref,
  fun m ρ _ => Cert.FoxV.frame_ref m ρ trivial,
  trivial,
  Cert.MergeV.algebraic,
  trivial,
  Cert.FfnDaV.algebraic,
  trivial,
  Cert.FfnDnV.algebraic,
  trivial,
  Cert.FfnDwDownV.algebraic,
  trivial,
  Cert.FfnDwGuV.algebraic,
  trivial,
  Cert.DuV.algebraic,
  trivial,
  Cert.DwinV.algebraic,
  trivial,
  Cert.DmoV.algebraic,
  trivial,
  Cert.DwoV.algebraic,
  trivial,
  Cert.DyAV.algebraic,
  trivial,
  Cert.DwBrAV.algebraic,
  trivial,
  Cert.DyDV.algebraic,
  trivial,
  Cert.DwBrDV.algebraic,
  trivial,
  Cert.GuV.algebraic,
  trivial,
  Cert.DownV.algebraic,
  trivial,
  Cert.ProjV.algebraic,
  trivial,
  Cert.BrAV.algebraic,
  trivial,
  Cert.BrDV.algebraic,
  trivial,
  Cert.MoV.algebraic,
  trivial,
  Cert.PglV.algebraic,
  trivial,
  Cert.PrV.algebraic,
  trivial,
  Cert.DwpleV.algebraic,
  trivial,
  Cert.RmsV.algebraic,
  trivial,
  Cert.AdamGuV.algebraic,
  trivial,
  Cert.AdamDownV.algebraic,
  trivial,
  Cert.AdamInV.algebraic,
  trivial,
  Cert.AdamBrV.algebraic,
  trivial,
  Cert.AdamBrDV.algebraic,
  trivial,
  Cert.AdamOV.algebraic,
  trivial,
  Cert.AdamSmallV.algebraic,
  IdealRules.named_const.statement Cert.FoxIdeal.κ "mask" .f32 0xF149F2CA#32 ⊥ rfl,
  Cert.FoxV.algebraic⟩

end Cert.Proof

end
